-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def preserves_Kernel_KernelIdeal : Prop :=
  True

def algebraic_KernelIdeal_ReferenceIdeal_on_up_written [hKernelIdeal : Cert.KernelIdeal.Facts] [hReferenceIdeal : Cert.ReferenceIdeal.Facts] [hOn_up_written : Cert.On_up_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 2048]⟩ : Shape).Idx, (Cert.On_up_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v1_0) i = v0 c i)
          ∧ (∀ i : (⟨2, ![2048, 10240]⟩ : Shape).Idx, (Cert.On_up_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v1_1) i = v1 c i)
          ∧ (∀ i : (⟨3, ![4, 512, 1024]⟩ : Shape).Idx, (Cert.On_up_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 i = 1#1 → r.2.mem ((c.tc : Thread Cert.KernelIdeal.nD Cert.KernelIdeal.τ).loc Cert.KernelIdeal.main_v1_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2048, 2048]⟩ : Shape).Idx, (Cert.On_up_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v35) i = v0 c i)
          ∧ (∀ i : (⟨2, ![2048, 10240]⟩ : Shape).Idx, (Cert.On_up_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v34) i = v1 c i)
          ∧ (∀ i : (⟨3, ![4, 512, 1024]⟩ : Shape).Idx, (Cert.On_up_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 i = 1#1 → r.2.mem ((c.tc : Thread Cert.ReferenceIdeal.nD Cert.ReferenceIdeal.τ).loc Cert.ReferenceIdeal.main_v32) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)) (v3 : (c : Dev Cert.Kernel5Ideal.nD) → Buf (Elt Ideal) ((c.tc : Thread Cert.Kernel5Ideal.nD Cert.Kernel5Ideal.τ).loc Cert.Kernel5Ideal.main_v1_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_v1_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_arg4) = v0 c
          ∧ r.2.mem ((c.tc : Thread Cert.Reference5Ideal.nD Cert.Reference5Ideal.τ).loc Cert.Reference5Ideal.main_v43) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_v44) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v37) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_1)) (v1 : (c : Dev Cert.Kernel12Ideal.nD) → Buf (Elt Ideal) ((c.tc : Thread Cert.Kernel12Ideal.nD Cert.Kernel12Ideal.τ).loc Cert.Kernel12Ideal.main_v0_0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_1) = v0 c
          ∧ r.2.mem ((c.tc : Thread Cert.Kernel12Ideal.nD Cert.Kernel12Ideal.τ).loc Cert.Kernel12Ideal.main_v0_0) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v74) = v0 c
          ∧ r.2.mem ((c.tc : Thread Cert.Reference12Ideal.nD Cert.Reference12Ideal.τ).loc Cert.Reference12Ideal.main_v79) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v28) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v2_1)) (v1 : (c : Dev Cert.Kernel14Ideal.nD) → Buf (Elt Ideal) ((c.tc : Thread Cert.Kernel14Ideal.nD Cert.Kernel14Ideal.τ).loc Cert.Kernel14Ideal.main_v2_2)) (v2 : (c : Dev Cert.Kernel14Ideal.nD) → Buf (Elt Ideal) ((c.tc : Thread Cert.Kernel14Ideal.nD Cert.Kernel14Ideal.τ).loc Cert.Kernel14Ideal.main_v2_3)) (v3 : (c : Dev Cert.Kernel14Ideal.nD) → Buf (Elt Ideal) ((c.tc : Thread Cert.Kernel14Ideal.nD Cert.Kernel14Ideal.τ).loc Cert.Kernel14Ideal.main_v2_0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_1) = v0 c
          ∧ r.2.mem ((c.tc : Thread Cert.Kernel14Ideal.nD Cert.Kernel14Ideal.τ).loc Cert.Kernel14Ideal.main_v2_2) = v1 c
          ∧ r.2.mem ((c.tc : Thread Cert.Kernel14Ideal.nD Cert.Kernel14Ideal.τ).loc Cert.Kernel14Ideal.main_v2_3) = v2 c
          ∧ r.2.mem ((c.tc : Thread Cert.Kernel14Ideal.nD Cert.Kernel14Ideal.τ).loc Cert.Kernel14Ideal.main_v2_0) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v107) = v0 c
          ∧ r.2.mem ((c.tc : Thread Cert.Reference14Ideal.nD Cert.Reference14Ideal.τ).loc Cert.Reference14Ideal.main_v72) = v1 c
          ∧ r.2.mem ((c.tc : Thread Cert.Reference14Ideal.nD Cert.Reference14Ideal.τ).loc Cert.Reference14Ideal.main_v108) = v2 c
          ∧ r.2.mem ((c.tc : Thread Cert.Reference14Ideal.nD Cert.Reference14Ideal.τ).loc Cert.Reference14Ideal.main_v113) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v46) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v5)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v76) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v15) = v0 c
          ∧ r.2.mem ((c.tc : Thread Cert.Reference19Ideal.nD Cert.Reference19Ideal.τ).loc Cert.Reference19Ideal.main_v17) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v34) = v0 c
          ∧ r.2.mem ((c.tc : Thread Cert.Reference20Ideal.nD Cert.Reference20Ideal.τ).loc Cert.Reference20Ideal.main_v39) = v1 c
          ∧ r.2.mem ((c.tc : Thread Cert.Reference20Ideal.nD Cert.Reference20Ideal.τ).loc Cert.Reference20Ideal.main_v44) = v2 c
          ∧ r.2.mem ((c.tc : Thread Cert.Reference20Ideal.nD Cert.Reference20Ideal.τ).loc Cert.Reference20Ideal.main_v49) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v39) = v1 c
          ∧ r.2.mem ((c.tc : Thread Cert.Reference21Ideal.nD Cert.Reference21Ideal.τ).loc Cert.Reference21Ideal.main_v44) = v2 c
          ∧ r.2.mem ((c.tc : Thread Cert.Reference21Ideal.nD Cert.Reference21Ideal.τ).loc Cert.Reference21Ideal.main_v49) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v34) = v0 c
          ∧ r.2.mem ((c.tc : Thread Cert.Reference22Ideal.nD Cert.Reference22Ideal.τ).loc Cert.Reference22Ideal.main_v39) = v1 c
          ∧ r.2.mem ((c.tc : Thread Cert.Reference22Ideal.nD Cert.Reference22Ideal.τ).loc Cert.Reference22Ideal.main_v44) = v2 c
          ∧ r.2.mem ((c.tc : Thread Cert.Reference22Ideal.nD Cert.Reference22Ideal.τ).loc Cert.Reference22Ideal.main_v49) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hOn_up_written : Cert.On_up_written.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_on_up_written (hKernelIdeal := hKernelIdeal) (hReferenceIdeal := hReferenceIdeal) (hOn_up_written := hOn_up_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== On_up_written.lean ====
abbrev S2048x512 : Shape := ⟨2, ![2048, 512]⟩
abbrev S2048x10240 : Shape := ⟨2, ![2048, 10240]⟩
abbrev S2048x1024 : Shape := ⟨2, ![2048, 1024]⟩
abbrev S4x512x1024 : Shape := ⟨3, ![4, 512, 1024]⟩
abbrev S_ : Shape := ⟨0, ![]⟩
abbrev S2048x2048 : Shape := ⟨2, ![2048, 2048]⟩

class Facts : Prop where
  bcast_S_S2048x10240 : S_.BroadcastsInDim S2048x10240 (![] : Fin 0 → Fin S2048x10240.rank)
  bcast_S_S2048x2048 : S_.BroadcastsInDim S2048x2048 (![] : Fin 0 → Fin S2048x2048.rank)
  bcast_S_S4x512x1024 : S_.BroadcastsInDim S4x512x1024 (![] : Fin 0 → Fin S4x512x1024.rank)

variable [Facts]

def fn {F : FTy → Type} [FloatOps F] (main_arg0 : FVec F S2048x512 .bf16) (main_arg1 : FVec F S2048x512 .bf16) (main_arg2 : FVec F S2048x512 .bf16) (main_arg3 : FVec F S2048x512 .bf16) (main_arg4 : FVec F S2048x10240 .bf16) (main_arg5 : FVec F S2048x1024 .f32) (main_arg6 : FVec F S4x512x1024 .bf16) : IVec S2048x2048 1 × IVec S2048x10240 1 × IVec S4x512x1024 1 :=
  let main_v0 : IVec S2048x10240 32 := iotaInDim S2048x10240 32 1
  let main_c : IVec S_ 32 := constantI S_ 32 4096#32
  let main_v1 : IVec S2048x10240 32 := broadcastInDim S2048x10240 ![] bcast_S_S2048x10240 main_c
  let main_v2 : IVec S2048x10240 1 := cmpi .slt main_v0 main_v1
  let main_c_0 : IVec S_ 1 := constantI S_ 1 1#1
  let main_v3 : IVec S2048x2048 1 := broadcastInDim S2048x2048 ![] bcast_S_S2048x2048 main_c_0
  let main_c_1 : IVec S_ 1 := constantI S_ 1 1#1
  let main_v4 : IVec S4x512x1024 1 := broadcastInDim S4x512x1024 ![] bcast_S_S4x512x1024 main_c_1
  (main_v3, main_v2, main_v4)
-- ==== Kernel.lean ====
abbrev S2048x512 : Shape := ⟨2, ![2048, 512]⟩
abbrev S2048x10240 : Shape := ⟨2, ![2048, 10240]⟩
abbrev S2048x1024 : Shape := ⟨2, ![2048, 1024]⟩
abbrev S4x512x1024 : Shape := ⟨3, ![4, 512, 1024]⟩
abbrev S2048x2048 : Shape := ⟨2, ![2048, 2048]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x10240, .bf16⟩
  | .hbm, ⟨5, _⟩ => ⟨S2048x1024, .f32⟩
  | .hbm, ⟨6, _⟩ => ⟨S4x512x1024, .bf16⟩
  | .hbm, ⟨7, _⟩ => ⟨S2048x2048, .bf16⟩
  | .hbm, ⟨8, _⟩ => ⟨S2048x2048, .f32⟩
  | .hbm, ⟨9, _⟩ => ⟨S2048x10240, .bf16⟩
  | .hbm, ⟨10, _⟩ => ⟨S4x512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1024x512, .f32⟩
  | .local _ .vmem, ⟨9, _⟩ => ⟨S1024x512, .f32⟩
  | .local _ .vmem, ⟨10, _⟩ => ⟨S1024x1024, .bf16⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x512 : Shape := ⟨2, ![2048, 512]⟩
abbrev S2048x10240 : Shape := ⟨2, ![2048, 10240]⟩
abbrev S2048x1024 : Shape := ⟨2, ![2048, 1024]⟩
abbrev S4x512x1024 : Shape := ⟨3, ![4, 512, 1024]⟩
abbrev S2048x1x512 : Shape := ⟨3, ![2048, 1, 512]⟩
abbrev S2048x4x512 : Shape := ⟨3, ![2048, 4, 512]⟩
abbrev S2048x4096 : Shape := ⟨2, ![2048, 4096]⟩
abbrev S4x1024x2048 : Shape := ⟨3, ![4, 1024, 2048]⟩
abbrev S2048x4x1024 : Shape := ⟨3, ![2048, 4, 1024]⟩
abbrev S_ : Shape := ⟨0, ![]⟩
abbrev S4x2048x512 : Shape := ⟨3, ![4, 2048, 512]⟩
abbrev S4x1024x512 : Shape := ⟨3, ![4, 1024, 512]⟩
abbrev S2048x2048 : Shape := ⟨2, ![2048, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x10240, .bf16⟩
  | .hbm, ⟨5, _⟩ => ⟨S2048x1024, .f32⟩
  | .hbm, ⟨6, _⟩ => ⟨S4x512x1024, .bf16⟩
  | .hbm, ⟨7, _⟩ => ⟨S2048x1x512, .bf16⟩
  | .hbm, ⟨8, _⟩ => ⟨S2048x1x512, .bf16⟩
  | .hbm, ⟨9, _⟩ => ⟨S2048x1x512, .bf16⟩
  | .hbm, ⟨10, _⟩ => ⟨S2048x1x512, .bf16⟩
  | .hbm, ⟨11, _⟩ => ⟨S2048x4x512, .bf16⟩
  | .hbm, ⟨12, _⟩ => ⟨S2048x4x512, .f32⟩
  | .hbm, ⟨13, _⟩ => ⟨S2048x4096, .bf16⟩
  | .hbm, ⟨14, _⟩ => ⟨S2048x4096, .f32⟩
  | .hbm, ⟨15, _⟩ => ⟨S4x512x1024, .f32⟩
  | .hbm, ⟨16, _⟩ => ⟨S4x1024x2048, .f32⟩
  | .hbm, ⟨17, _⟩ => ⟨S2048x4x1024, .f32⟩
  | .hbm, ⟨18, _⟩ => ⟨S2048x4x1024, .f32⟩
  | .hbm, ⟨19, _⟩ => ⟨S2048x4x1024, .f32⟩
  | .hbm, ⟨20, _⟩ => ⟨S2048x4x1024, .f32⟩
  | .hbm, ⟨21, _⟩ => ⟨S_, .f32⟩
  | .hbm, ⟨22, _⟩ => ⟨S2048x4x1024, .f32⟩
  | .hbm, ⟨23, _⟩ => ⟨S2048x4x1024, .f32⟩
  | .hbm, ⟨24, _⟩ => ⟨S_, .f32⟩
  | .hbm, ⟨25, _⟩ => ⟨S2048x4x1024, .f32⟩
  | .hbm, ⟨26, _⟩ => ⟨S2048x4x1024, .f32⟩
  | .hbm, ⟨27, _⟩ => ⟨S_, .f32⟩
  | .hbm, ⟨28, _⟩ => ⟨S2048x4x1024, .f32⟩
  | .hbm, ⟨29, _⟩ => ⟨S2048x4x1024, .f32⟩
  | .hbm, ⟨30, _⟩ => ⟨S2048x4x1024, .f32⟩
  | .hbm, ⟨31, _⟩ => ⟨S2048x4x1024, .f32⟩
  | .hbm, ⟨32, _⟩ => ⟨S_, .f32⟩
  | .hbm, ⟨33, _⟩ => ⟨S2048x1024, .f32⟩
  | .hbm, ⟨34, _⟩ => ⟨S2048x4x1024, .f32⟩
  | .hbm, ⟨35, _⟩ => ⟨S2048x4x1024, .f32⟩
  | .hbm, ⟨36, _⟩ => ⟨S2048x4x1024, .f32⟩
  | .hbm, ⟨37, _⟩ => ⟨S2048x4x1024, .f32⟩
  | .hbm, ⟨38, _⟩ => ⟨S2048x4096, .f32⟩
  | .hbm, ⟨39, _⟩ => ⟨S4x1024x2048, .f32⟩
  | .hbm, ⟨40, _⟩ => ⟨S4x2048x512, .f32⟩
  | .hbm, ⟨41, _⟩ => ⟨S2048x4x512, .f32⟩
  | .hbm, ⟨42, _⟩ => ⟨S4x1024x512, .f32⟩
  | .hbm, ⟨43, _⟩ => ⟨S4x512x1024, .f32⟩
  | .hbm, ⟨44, _⟩ => ⟨S2048x4096, .bf16⟩
  | .hbm, ⟨45, _⟩ => ⟨S_, .i32⟩
  | .hbm, ⟨46, _⟩ => ⟨S_, .bf16⟩
  | .hbm, ⟨47, _⟩ => ⟨S2048x10240, .bf16⟩
  | .hbm, ⟨48, _⟩ => ⟨S2048x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call0_v0 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel2.lean ====
abbrev S2048x10240 : Shape := ⟨2, ![2048, 10240]⟩
abbrev S10240x1024 : Shape := ⟨2, ![10240, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x10240, .bf16⟩
  | .hbm, ⟨1, _⟩ => ⟨S10240x1024, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x10240 : Shape := ⟨2, ![2048, 10240]⟩
abbrev S10240x1024 : Shape := ⟨2, ![10240, 1024]⟩
abbrev S_ : Shape := ⟨0, ![]⟩
abbrev S2048x1024 : Shape := ⟨2, ![2048, 1024]⟩
abbrev S1024x10240 : Shape := ⟨2, ![1024, 10240]⟩

abbrev nBuf : Space → Nat
  | .hbm => 9
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S10240x1024, .bf16⟩
  | .hbm, ⟨2, _⟩ => ⟨S_, .f32⟩
  | .hbm, ⟨3, _⟩ => ⟨S2048x1024, .f32⟩
  | .hbm, ⟨4, _⟩ => ⟨S10240x1024, .f32⟩
  | .hbm, ⟨5, _⟩ => ⟨S1024x10240, .f32⟩
  | .hbm, ⟨6, _⟩ => ⟨S2048x10240, .f32⟩
  | .hbm, ⟨7, _⟩ => ⟨S2048x10240, .f32⟩
  | .hbm, ⟨8, _⟩ => ⟨S2048x1024, .f32⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S2048x10240 : Shape := ⟨2, ![2048, 10240]⟩
abbrev S2048x1024 : Shape := ⟨2, ![2048, 1024]⟩
abbrev S10240x1024 : Shape := ⟨2, ![10240, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x10240, .bf16⟩
  | .hbm, ⟨1, _⟩ => ⟨S2048x1024, .bf16⟩
  | .hbm, ⟨2, _⟩ => ⟨S10240x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![10, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x10240 : Shape := ⟨2, ![2048, 10240]⟩
abbrev S2048x1024 : Shape := ⟨2, ![2048, 1024]⟩
abbrev S_ : Shape := ⟨0, ![]⟩
abbrev S10240x1024 : Shape := ⟨2, ![10240, 1024]⟩
abbrev S1024x10240 : Shape := ⟨2, ![1024, 10240]⟩

abbrev nBuf : Space → Nat
  | .hbm => 12
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S2048x1024, .bf16⟩
  | .hbm, ⟨2, _⟩ => ⟨S_, .f32⟩
  | .hbm, ⟨3, _⟩ => ⟨S10240x1024, .f32⟩
  | .hbm, ⟨4, _⟩ => ⟨S2048x1024, .f32⟩
  | .hbm, ⟨5, _⟩ => ⟨S1024x10240, .f32⟩
  | .hbm, ⟨6, _⟩ => ⟨S2048x10240, .f32⟩
  | .hbm, ⟨7, _⟩ => ⟨S2048x10240, .f32⟩
  | .hbm, ⟨8, _⟩ => ⟨S10240x1024, .f32⟩
  | .hbm, ⟨9, _⟩ => ⟨S1024x10240, .f32⟩
  | .hbm, ⟨10, _⟩ => ⟨S10240x1024, .f32⟩
  | .hbm, ⟨11, _⟩ => ⟨S10240x1024, .bf16⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2048x1024 : Shape := ⟨2, ![2048, 1024]⟩
abbrev S10240x1024 : Shape := ⟨2, ![10240, 1024]⟩
abbrev S2048x10240 : Shape := ⟨2, ![2048, 10240]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S10240x1024, .bf16⟩
  | .hbm, ⟨2, _⟩ => ⟨S2048x10240, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x2048, .bf16⟩
  | .local _ .vmem, ⟨4, _⟩ => ⟨S2048x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S10240x1024 : Shape := ⟨2, ![10240, 1024]⟩
abbrev S1024x10240 : Shape := ⟨2, ![1024, 10240]⟩
abbrev S2048x10240 : Shape := ⟨2, ![2048, 10240]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S10240x1024, .bf16⟩
  | .hbm, ⟨2, _⟩ => ⟨S2048x1024, .f32⟩
  | .hbm, ⟨3, _⟩ => ⟨S10240x1024, .f32⟩
  | .hbm, ⟨4, _⟩ => ⟨S1024x10240, .f32⟩
  | .hbm, ⟨5, _⟩ => ⟨S2048x10240, .f32⟩
  | .hbm, ⟨6, _⟩ => ⟨S2048x10240, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .hbm, ⟨3, _⟩ => ⟨S1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1024x1024, .f32⟩
  | .hbm, ⟨56, _⟩ => ⟨S1024x1024, .f32⟩
  | .hbm, ⟨57, _⟩ => ⟨S2048x1024, .f32⟩
  | .hbm, ⟨58, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel6.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel7.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .bf16⟩
  | .hbm, ⟨3, _⟩ => ⟨S256x1024, .f32⟩
  | .hbm, ⟨4, _⟩ => ⟨S1x1024, .f32⟩
  | .hbm, ⟨5, _⟩ => ⟨S1x1024, .f32⟩
  | .hbm, ⟨6, _⟩ => ⟨S1024x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .f32⟩
  | .local _ .vmem, ⟨4, _⟩ => ⟨S1x1024, .f32⟩
  | .local _ .vmem, ⟨5, _⟩ => ⟨S1024x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.subi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.subi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .bf16⟩
  | .hbm, ⟨3, _⟩ => ⟨S256x1024, .f32⟩
  | .hbm, ⟨4, _⟩ => ⟨S1024x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S1024x1024, .f32⟩
  | .hbm, ⟨23, _⟩ => ⟨S1024x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S_, .f32⟩
  | .hbm, ⟨30, _⟩ => ⟨S1024, .f32⟩
  | .hbm, ⟨31, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel8.lean ====
abbrev S2048x512 : Shape := ⟨2, ![2048, 512]⟩
abbrev S2048x10240 : Shape := ⟨2, ![2048, 10240]⟩
abbrev S4x512x1024 : Shape := ⟨3, ![4, 512, 1024]⟩
abbrev S2048x1024 : Shape := ⟨2, ![2048, 1024]⟩
abbrev S256x512 : Shape := ⟨2, ![256, 512]⟩
abbrev S256x4096 : Shape := ⟨2, ![256, 4096]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 7
  | .vmem => 13
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x10240, .bf16⟩
  | .hbm, ⟨5, _⟩ => ⟨S4x512x1024, .bf16⟩
  | .hbm, ⟨6, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x4096, .bf16⟩
  | .local _ .vmem, ⟨9, _⟩ => ⟨S256x4096, .bf16⟩
  | .local _ .vmem, ⟨10, _⟩ => ⟨S4x512x1024, .bf16⟩
  | .local _ .vmem, ⟨11, _⟩ => ⟨S256x1024, .bf16⟩
  | .local _ .vmem, ⟨12, _⟩ => ⟨S256x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S2048x512 : Shape := ⟨2, ![2048, 512]⟩
abbrev S2048x10240 : Shape := ⟨2, ![2048, 10240]⟩
abbrev S4x512x1024 : Shape := ⟨3, ![4, 512, 1024]⟩
abbrev S2048x1x512 : Shape := ⟨3, ![2048, 1, 512]⟩
abbrev S2048x4x512 : Shape := ⟨3, ![2048, 4, 512]⟩
abbrev S2048x4096 : Shape := ⟨2, ![2048, 4096]⟩
abbrev S4x1024x2048 : Shape := ⟨3, ![4, 1024, 2048]⟩
abbrev S2048x4x1024 : Shape := ⟨3, ![2048, 4, 1024]⟩
abbrev S_ : Shape := ⟨0, ![]⟩
abbrev S2048x1024 : Shape := ⟨2, ![2048, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x10240, .bf16⟩
  | .hbm, ⟨5, _⟩ => ⟨S4x512x1024, .bf16⟩
  | .hbm, ⟨6, _⟩ => ⟨S2048x1x512, .bf16⟩
  | .hbm, ⟨7, _⟩ => ⟨S2048x1x512, .bf16⟩
  | .hbm, ⟨8, _⟩ => ⟨S2048x1x512, .bf16⟩
  | .hbm, ⟨9, _⟩ => ⟨S2048x1x512, .bf16⟩
  | .hbm, ⟨10, _⟩ => ⟨S2048x4x512, .bf16⟩
  | .hbm, ⟨11, _⟩ => ⟨S2048x4x512, .f32⟩
  | .hbm, ⟨12, _⟩ => ⟨S2048x4096, .bf16⟩
  | .hbm, ⟨13, _⟩ => ⟨S2048x4096, .f32⟩
  | .hbm, ⟨14, _⟩ => ⟨S4x512x1024, .f32⟩
  | .hbm, ⟨15, _⟩ => ⟨S4x1024x2048, .f32⟩
  | .hbm, ⟨16, _⟩ => ⟨S2048x4x1024, .f32⟩
  | .hbm, ⟨17, _⟩ => ⟨S2048x4x1024, .f32⟩
  | .hbm, ⟨18, _⟩ => ⟨S2048x4x1024, .f32⟩
  | .hbm, ⟨19, _⟩ => ⟨S2048x4x1024, .f32⟩
  | .hbm, ⟨20, _⟩ => ⟨S_, .f32⟩
  | .hbm, ⟨21, _⟩ => ⟨S2048x4x1024, .f32⟩
  | .hbm, ⟨22, _⟩ => ⟨S2048x4x1024, .f32⟩
  | .hbm, ⟨23, _⟩ => ⟨S_, .f32⟩
  | .hbm, ⟨24, _⟩ => ⟨S2048x4x1024, .f32⟩
  | .hbm, ⟨25, _⟩ => ⟨S2048x4x1024, .f32⟩
  | .hbm, ⟨26, _⟩ => ⟨S2048x4x1024, .f32⟩
  | .hbm, ⟨27, _⟩ => ⟨S_, .f32⟩
  | .hbm, ⟨28, _⟩ => ⟨S2048x1024, .f32⟩
  | .hbm, ⟨29, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .hbm, ⟨3, _⟩ => ⟨S1024, .f32⟩
  | .hbm, ⟨4, _⟩ => ⟨S1x1024, .f32⟩
  | .hbm, ⟨5, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .hbm, ⟨3, _⟩ => ⟨S1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel10.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel11.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .bf16⟩
  | .hbm, ⟨3, _⟩ => ⟨S1x1024, .f32⟩
  | .hbm, ⟨4, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference11Ideal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .bf16⟩
  | .hbm, ⟨3, _⟩ => ⟨S1024x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel12.lean ====
abbrev S2048x10240 : Shape := ⟨2, ![2048, 10240]⟩
abbrev S256x1024 : Shape := ⟨2, ![256, 1024]⟩
abbrev S2048x2048 : Shape := ⟨2, ![2048, 2048]⟩
abbrev S512x512 : Shape := ⟨2, ![512, 512]⟩
abbrev S512x1024 : Shape := ⟨2, ![512, 1024]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S256x896 : Shape := ⟨2, ![256, 896]⟩
abbrev S256x768 : Shape := ⟨2, ![256, 768]⟩
abbrev S256x640 : Shape := ⟨2, ![256, 640]⟩
abbrev S256x256 : Shape := ⟨2, ![256, 256]⟩
abbrev S256x512 : Shape := ⟨2, ![256, 512]⟩
abbrev S256x384 : Shape := ⟨2, ![256, 384]⟩
abbrev S512x384 : Shape := ⟨2, ![512, 384]⟩

abbrev nBuf : Space → Nat
  | .hbm => 6
  | .vmem => 10
  | .smem => 0
  | _ => 0

abbrev bufTy : (tb : Table) → Fin (tcTables nBuf tb) → BufTy
  | .hbm, ⟨0, _⟩ => ⟨S2048x10240, .bf16⟩
  | .hbm, ⟨1, _⟩ => ⟨S256x1024, .f32⟩
  | .hbm, ⟨2, _⟩ => ⟨S2048x2048, .f32⟩
  | .hbm, ⟨3, _⟩ => ⟨S2048x10240, .bf16⟩
  | .hbm, ⟨4, _⟩ => ⟨S2048x10240, .bf16⟩
  | .hbm, ⟨5, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S256x1024, .f32⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | .local _ .vmem, ⟨8, _⟩ => ⟨S512x1024, .bf16⟩
  | .local _ .vmem, ⟨9, _⟩ => ⟨S256x1024, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c18_i32 : BitVec 32 := 18#32
  let c0_i32 : BitVec 32 := 0#32
  ![v0.toNat, c18_i32.toNat]

def cc0_transform_1 (i : grid0.Coords) : Fin 2 → Nat :=
  let arg0 : BitVec 32 := BitVec.ofNat 32 (i 0).val
  let c3_i32 : BitVec 32 := 3#32
  let v0 : BitVec 32 := Scalar.subi c3_i32 arg0
  let c19_i32 : BitVec 32 := 19#32
  let c0_i32 : BitVec 32 := 0#32
  ![v0.toNat, c19_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let v0 : BitVec 32 := Scalar.subi c3_i32 arg0
  let c3_i32_0 : BitVec 32 := 3#32
  let c0_i32 : BitVec 32 := 0#32
  ![v0.toNat, c3_i32_0.toNat]

def cc0_transform_5 (i : grid0.Coords) : Fin 2 → Nat :=
  let arg0 : BitVec 32 := BitVec.ofNat 32 (i 0).val
  let c3_i32 : BitVec 32 := 3#32
  let v0 : BitVec 32 := Scalar.subi c3_i32 arg0
  let c9_i32 : BitVec 32 := 9#32
  let c0_i32 : BitVec 32 := 0#32
  ![v0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S2048x10240 : Shape := ⟨2, ![2048, 10240]⟩
abbrev S256x1024 : Shape := ⟨2, ![256, 1024]⟩
abbrev S2048x2048 : Shape := ⟨2, ![2048, 2048]⟩
abbrev S2048x512 : Shape := ⟨2, ![2048, 512]⟩
abbrev S2048x4x128 : Shape := ⟨3, ![2048, 4, 128]⟩
abbrev S256x512 : Shape := ⟨2, ![256, 512]⟩
abbrev S256x4x128 : Shape := ⟨3, ![256, 4, 128]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x128x2048 : Shape := ⟨3, ![4, 128, 2048]⟩
abbrev S4x128x256 : Shape := ⟨3, ![4, 128, 256]⟩
abbrev S4x256x128 : Shape := ⟨3, ![4, 256, 128]⟩
abbrev S4x2048x128 : Shape := ⟨3, ![4, 2048, 128]⟩
abbrev S2048x9216 : Shape := ⟨2, ![2048, 9216]⟩

abbrev nBuf : Space → Nat
  | .hbm => 113
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S256x1024, .f32⟩
  | .hbm, ⟨2, _⟩ => ⟨S2048x2048, .f32⟩
  | .hbm, ⟨3, _⟩ => ⟨S2048x10240, .bf16⟩
  | .hbm, ⟨4, _⟩ => ⟨S2048x512, .bf16⟩
  | .hbm, ⟨5, _⟩ => ⟨S2048x512, .f32⟩
  | .hbm, ⟨6, _⟩ => ⟨S2048x512, .bf16⟩
  | .hbm, ⟨7, _⟩ => ⟨S2048x512, .f32⟩
  | .hbm, ⟨8, _⟩ => ⟨S2048x4x128, .f32⟩
  | .hbm, ⟨9, _⟩ => ⟨S256x512, .f32⟩
  | .hbm, ⟨10, _⟩ => ⟨S256x512, .f32⟩
  | .hbm, ⟨11, _⟩ => ⟨S256x4x128, .f32⟩
  | .hbm, ⟨12, _⟩ => ⟨S256x4x128, .f32⟩
  | .hbm, ⟨13, _⟩ => ⟨S4x2048x256, .f32⟩
  | .hbm, ⟨14, _⟩ => ⟨S_, .f32⟩
  | .hbm, ⟨15, _⟩ => ⟨S4x2048x256, .f32⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S4x2048x256, .f32⟩
  | .hbm, ⟨21, _⟩ => ⟨S4x2048x256, .i1⟩
  | .hbm, ⟨22, _⟩ => ⟨S4x2048x256, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S4x2048, .i1⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x256, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S4x2048x256, .f32⟩
  | .hbm, ⟨50, _⟩ => ⟨S4x2048x256, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S4x128x2048, .f32⟩
  | .hbm, ⟨56, _⟩ => ⟨S2048x4x128, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S_, .f32⟩
  | .hbm, ⟨61, _⟩ => ⟨S2048x512, .f32⟩
  | .hbm, ⟨62, _⟩ => ⟨S2048x512, .f32⟩
  | .hbm, ⟨63, _⟩ => ⟨S_, .f32⟩
  | .hbm, ⟨64, _⟩ => ⟨S2048x512, .f32⟩
  | .hbm, ⟨65, _⟩ => ⟨S2048x512, .f32⟩
  | .hbm, ⟨66, _⟩ => ⟨S_, .f32⟩
  | .hbm, ⟨67, _⟩ => ⟨S2048x512, .f32⟩
  | .hbm, ⟨68, _⟩ => ⟨S2048x512, .f32⟩
  | .hbm, ⟨69, _⟩ => ⟨S2048x512, .f32⟩
  | .hbm, ⟨70, _⟩ => ⟨S2048x512, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S2048x512, .f32⟩
  | .hbm, ⟨79, _⟩ => ⟨S2048x4x128, .f32⟩
  | .hbm, ⟨80, _⟩ => ⟨S4x128x2048, .f32⟩
  | .hbm, ⟨81, _⟩ => ⟨S4x2048x256, .f32⟩
  | .hbm, ⟨82, _⟩ => ⟨S4x128x256, .f32⟩
  | .hbm, ⟨83, _⟩ => ⟨S256x4x128, .f32⟩
  | .hbm, ⟨84, _⟩ => ⟨S4x2048x256, .f32⟩
  | .hbm, ⟨85, _⟩ => ⟨S4x2048x256, .f32⟩
  | .hbm, ⟨86, _⟩ => ⟨S4x2048x256, .f32⟩
  | .hbm, ⟨87, _⟩ => ⟨S_, .f32⟩
  | .hbm, ⟨88, _⟩ => ⟨S4x2048, .f32⟩
  | .hbm, ⟨89, _⟩ => ⟨S4x2048x1, .f32⟩
  | .hbm, ⟨90, _⟩ => ⟨S4x2048x1, .f32⟩
  | .hbm, ⟨91, _⟩ => ⟨S4x2048x256, .f32⟩
  | .hbm, ⟨92, _⟩ => ⟨S4x2048x256, .f32⟩
  | .hbm, ⟨93, _⟩ => ⟨S_, .f32⟩
  | .hbm, ⟨94, _⟩ => ⟨S4x2048, .f32⟩
  | .hbm, ⟨95, _⟩ => ⟨S4x2048x256, .f32⟩
  | .hbm, ⟨96, _⟩ => ⟨S4x2048x256, .f32⟩
  | .hbm, ⟨97, _⟩ => ⟨S4x2048x256, .f32⟩
  | .hbm, ⟨98, _⟩ => ⟨S_, .f32⟩
  | .hbm, ⟨99, _⟩ => ⟨S4x2048x256, .f32⟩
  | .hbm, ⟨100, _⟩ => ⟨S4x2048x256, .f32⟩
  | .hbm, ⟨101, _⟩ => ⟨S4x256x128, .f32⟩
  | .hbm, ⟨102, _⟩ => ⟨S256x4x128, .f32⟩
  | .hbm, ⟨103, _⟩ => ⟨S4x2048x128, .f32⟩
  | .hbm, ⟨104, _⟩ => ⟨S2048x4x128, .f32⟩
  | .hbm, ⟨105, _⟩ => ⟨S256x512, .f32⟩
  | .hbm, ⟨106, _⟩ => ⟨S256x512, .f32⟩
  | .hbm, ⟨107, _⟩ => ⟨S256x1024, .f32⟩
  | .hbm, ⟨108, _⟩ => ⟨S2048x512, .f32⟩
  | .hbm, ⟨109, _⟩ => ⟨S2048x9216, .bf16⟩
  | .hbm, ⟨110, _⟩ => ⟨S2048x512, .bf16⟩
  | .hbm, ⟨111, _⟩ => ⟨S2048x512, .bf16⟩
  | .hbm, ⟨112, _⟩ => ⟨S2048x10240, .bf16⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v43_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v43_1 : Ref sig .tc := ⟨.hbm, 69, rfl⟩
abbrev main_v43_0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]
-- ==== Kernel13.lean ====
abbrev S2048x10240 : Shape := ⟨2, ![2048, 10240]⟩
abbrev S256x1024 : Shape := ⟨2, ![256, 1024]⟩
abbrev S2048x512 : Shape := ⟨2, ![2048, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 7
  | .smem => 0
  | _ => 0

abbrev bufTy : (tb : Table) → Fin (tcTables nBuf tb) → BufTy
  | .hbm, ⟨0, _⟩ => ⟨S2048x10240, .bf16⟩
  | .hbm, ⟨1, _⟩ => ⟨S256x1024, .f32⟩
  | .hbm, ⟨2, _⟩ => ⟨S2048x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S256x1024, .f32⟩
  | .local _ .vmem, ⟨5, _⟩ => ⟨S512x512, .bf16⟩
  | .local _ .vmem, ⟨6, _⟩ => ⟨S512x512, .bf16⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S2048x10240 : Shape := ⟨2, ![2048, 10240]⟩
abbrev S256x1024 : Shape := ⟨2, ![256, 1024]⟩
abbrev S2048x512 : Shape := ⟨2, ![2048, 512]⟩
abbrev S2048x4x128 : Shape := ⟨3, ![2048, 4, 128]⟩
abbrev S256x512 : Shape := ⟨2, ![256, 512]⟩
abbrev S256x4x128 : Shape := ⟨3, ![256, 4, 128]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x128x2048 : Shape := ⟨3, ![4, 128, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S256x1024, .f32⟩
  | .hbm, ⟨2, _⟩ => ⟨S2048x512, .bf16⟩
  | .hbm, ⟨3, _⟩ => ⟨S2048x512, .f32⟩
  | .hbm, ⟨4, _⟩ => ⟨S2048x512, .bf16⟩
  | .hbm, ⟨5, _⟩ => ⟨S2048x512, .f32⟩
  | .hbm, ⟨6, _⟩ => ⟨S2048x4x128, .f32⟩
  | .hbm, ⟨7, _⟩ => ⟨S256x512, .f32⟩
  | .hbm, ⟨8, _⟩ => ⟨S256x512, .f32⟩
  | .hbm, ⟨9, _⟩ => ⟨S256x4x128, .f32⟩
  | .hbm, ⟨10, _⟩ => ⟨S256x4x128, .f32⟩
  | .hbm, ⟨11, _⟩ => ⟨S4x2048x256, .f32⟩
  | .hbm, ⟨12, _⟩ => ⟨S_, .f32⟩
  | .hbm, ⟨13, _⟩ => ⟨S4x2048x256, .f32⟩
  | .hbm, ⟨14, _⟩ => ⟨S4x2048x256, .f32⟩
  | .hbm, ⟨15, _⟩ => ⟨S_, .f32⟩
  | .hbm, ⟨16, _⟩ => ⟨S4x2048, .f32⟩
  | .hbm, ⟨17, _⟩ => ⟨S_, .f32⟩
  | .hbm, ⟨18, _⟩ => ⟨S4x2048, .f32⟩
  | .hbm, ⟨19, _⟩ => ⟨S4x2048, .f32⟩
  | .hbm, ⟨20, _⟩ => ⟨S4x2048x1, .f32⟩
  | .hbm, ⟨21, _⟩ => ⟨S4x2048x256, .f32⟩
  | .hbm, ⟨22, _⟩ => ⟨S4x2048x256, .f32⟩
  | .hbm, ⟨23, _⟩ => ⟨S4x2048x256, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S4x2048x256, .f32⟩
  | .hbm, ⟨28, _⟩ => ⟨S4x2048x256, .f32⟩
  | .hbm, ⟨29, _⟩ => ⟨S4x128x2048, .f32⟩
  | .hbm, ⟨30, _⟩ => ⟨S2048x4x128, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x512, .bf16⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel14.lean ====
abbrev S2048x10240 : Shape := ⟨2, ![2048, 10240]⟩
abbrev S512 : Shape := ⟨1, ![512]⟩
abbrev S4x128x128 : Shape := ⟨3, ![4, 128, 128]⟩
abbrev S4x128 : Shape := ⟨2, ![4, 128]⟩
abbrev S2048x2048 : Shape := ⟨2, ![2048, 2048]⟩
abbrev S1x512 : Shape := ⟨2, ![1, 512]⟩
abbrev S4x1x128 : Shape := ⟨3, ![4, 1, 128]⟩
abbrev S512x1024 : Shape := ⟨2, ![512, 1024]⟩
abbrev S512x512 : Shape := ⟨2, ![512, 512]⟩
abbrev S512x1536 : Shape := ⟨2, ![512, 1536]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S512x1 : Shape := ⟨2, ![512, 1]⟩
abbrev S128 : Shape := ⟨1, ![128]⟩
abbrev S128x1 : Shape := ⟨2, ![128, 1]⟩
abbrev S128x512 : Shape := ⟨2, ![128, 512]⟩
abbrev S128x384 : Shape := ⟨2, ![128, 384]⟩
abbrev S128x256 : Shape := ⟨2, ![128, 256]⟩
abbrev S384x512 : Shape := ⟨2, ![384, 512]⟩
abbrev S256x512 : Shape := ⟨2, ![256, 512]⟩

abbrev nBuf : Space → Nat
  | .hbm => 12
  | .vmem => 14
  | .smem => 0
  | _ => 0

abbrev bufTy : (tb : Table) → Fin (tcTables nBuf tb) → BufTy
  | .hbm, ⟨0, _⟩ => ⟨S2048x10240, .bf16⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S2048x2048, .f32⟩
  | .hbm, ⟨5, _⟩ => ⟨S2048x10240, .bf16⟩
  | .hbm, ⟨6, _⟩ => ⟨S1x512, .f32⟩
  | .hbm, ⟨7, _⟩ => ⟨S4x1x128, .f32⟩
  | .hbm, ⟨8, _⟩ => ⟨S2048x10240, .bf16⟩
  | .hbm, ⟨9, _⟩ => ⟨S1x512, .f32⟩
  | .hbm, ⟨10, _⟩ => ⟨S4x128x128, .f32⟩
  | .hbm, ⟨11, _⟩ => ⟨S4x1x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S4x128x128, .f32⟩
  | .local _ .vmem, ⟨6, _⟩ => ⟨S4x1x128, .f32⟩
  | .local _ .vmem, ⟨7, _⟩ => ⟨S512x512, .f32⟩
  | .local _ .vmem, ⟨8, _⟩ => ⟨S512x512, .f32⟩
  | .local _ .vmem, ⟨9, _⟩ => ⟨S512x1536, .bf16⟩
  | .local _ .vmem, ⟨10, _⟩ => ⟨S512x1536, .bf16⟩
  | .local _ .vmem, ⟨11, _⟩ => ⟨S1x512, .f32⟩
  | .local _ .vmem, ⟨12, _⟩ => ⟨S4x128x128, .f32⟩
  | .local _ .vmem, ⟨13, _⟩ => ⟨S4x1x128, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c6_i32 : BitVec 32 := 6#32
  let c0_i32 : BitVec 32 := 0#32
  ![v0.toNat, c6_i32.toNat]

def cc0_transform_1 (i : grid0.Coords) : Fin 2 → Nat :=
  let arg0 : BitVec 32 := BitVec.ofNat 32 (i 0).val
  let c3_i32 : BitVec 32 := 3#32
  let v0 : BitVec 32 := Scalar.subi c3_i32 arg0
  let c14_i32 : BitVec 32 := 14#32
  let c0_i32 : BitVec 32 := 0#32
  ![v0.toNat, c14_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c3_i32 : BitVec 32 := 3#32
  let v0 : BitVec 32 := Scalar.subi c3_i32 arg0
  let c1_i32 : BitVec 32 := 1#32
  let c0_i32 : BitVec 32 := 0#32
  ![v0.toNat, c1_i32.toNat]

def cc0_transform_7 (i : grid0.Coords) : Fin 2 → Nat :=
  let arg0 : BitVec 32 := BitVec.ofNat 32 (i 0).val
  let c3_i32 : BitVec 32 := 3#32
  let v0 : BitVec 32 := Scalar.subi c3_i32 arg0
  let c4_i32 : BitVec 32 := 4#32
  let c0_i32 : BitVec 32 := 0#32
  ![v0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference14Ideal.lean ====
abbrev S2048x10240 : Shape := ⟨2, ![2048, 10240]⟩
abbrev S512 : Shape := ⟨1, ![512]⟩
abbrev S4x128x128 : Shape := ⟨3, ![4, 128, 128]⟩
abbrev S4x128 : Shape := ⟨2, ![4, 128]⟩
abbrev S2048x2048 : Shape := ⟨2, ![2048, 2048]⟩
abbrev S2048x1024 : Shape := ⟨2, ![2048, 1024]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S16x128x4x128 : Shape := ⟨4, ![16, 128, 4, 128]⟩
abbrev S128x128 : Shape := ⟨2, ![128, 128]⟩
abbrev S4x16x128x128 : Shape := ⟨4, ![4, 16, 128, 128]⟩
abbrev S128x4 : Shape := ⟨2, ![128, 4]⟩
abbrev S1x128x4x1 : Shape := ⟨4, ![1, 128, 4, 1]⟩
abbrev S4x1x128 : Shape := ⟨3, ![4, 1, 128]⟩
abbrev S2048x6144 : Shape := ⟨2, ![2048, 6144]⟩
abbrev S2048x2560 : Shape := ⟨2, ![2048, 2560]⟩

abbrev nBuf : Space → Nat
  | .hbm => 173
  | .vmem => 0
  | .smem => 0
  | _ => 0

abbrev hbmTy0_0 (i : Nat) : BufTy := match i % 128 with
  | 0 => ⟨S2048x10240, .bf16⟩
  | 1 => ⟨S512, .f32⟩
  | 2 => ⟨S4x128x128, .f32⟩
  | 3 => ⟨S4x128, .f32⟩
  | 4 => ⟨S2048x2048, .f32⟩
  | 5 => ⟨S2048x10240, .bf16⟩
  | 6 => ⟨S2048x1024, .bf16⟩
  | 7 => ⟨S2048x1024, .f32⟩
  | 8 => ⟨S2048x512, .bf16⟩
  | 9 => ⟨S2048x512, .f32⟩
  | 10 => ⟨S2048x1024, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S_, .f32⟩
  | 17 => ⟨S2048x1024, .f32⟩
  | 18 => ⟨S2048x1024, .f32⟩
  | 19 => ⟨S2048x1024, .f32⟩
  | 20 => ⟨S_, .f32⟩
  | 21 => ⟨S2048x1024, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S_, .f32⟩
  | 28 => ⟨S2048x1024, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S_, .f32⟩
  | 35 => ⟨S2048x1024, .f32⟩
  | 36 => ⟨S2048x1024, .f32⟩
  | 37 => ⟨S2048x1024, .f32⟩
  | 38 => ⟨S2048x512, .f32⟩
  | 39 => ⟨S2048x512, .f32⟩
  | 40 => ⟨S2048x512, .f32⟩
  | 41 => ⟨S_, .f32⟩
  | 42 => ⟨S2048, .f32⟩
  | 43 => ⟨S2048x1, .f32⟩
  | 44 => ⟨S_, .f32⟩
  | 45 => ⟨S2048x1, .f32⟩
  | 46 => ⟨S2048x1, .f32⟩
  | 47 => ⟨S_, .f32⟩
  | 48 => ⟨S2048x1, .f32⟩
  | 49 => ⟨S2048x1, .f32⟩
  | 50 => ⟨S2048x1, .f32⟩
  | 51 => ⟨S2048x1, .f32⟩
  | 52 => ⟨S_, .f32⟩
  | 53 => ⟨S2048x1, .f32⟩
  | 54 => ⟨S2048x1, .f32⟩
  | 55 => ⟨S2048x512, .f32⟩
  | 56 => ⟨S2048x512, .f32⟩
  | 57 => ⟨S1x512, .f32⟩
  | 58 => ⟨S2048x512, .f32⟩
  | 59 => ⟨S2048x512, .f32⟩
  | 60 => ⟨S16x128x4x128, .f32⟩
  | 61 => ⟨S_, .i1⟩
  | 62 => ⟨S128x128, .i1⟩
  | 63 => ⟨S128x128, .i32⟩
  | 64 => ⟨S_, .i32⟩
  | 65 => ⟨S128x128, .i32⟩
  | 66 => ⟨S128x128, .i32⟩
  | 67 => ⟨S128x128, .i32⟩
  | 68 => ⟨S128x128, .i1⟩
  | 69 => ⟨S_, .i1⟩
  | 70 => ⟨S128x128, .i1⟩
  | 71 => ⟨S128x128, .i1⟩
  | 72 => ⟨S_, .f32⟩
  | 73 => ⟨S_, .f32⟩
  | 74 => ⟨S4x128x128, .i1⟩
  | 75 => ⟨S4x128x128, .f32⟩
  | 76 => ⟨S4x128x128, .f32⟩
  | 77 => ⟨S_, .f32⟩
  | 78 => ⟨S4x128x128, .f32⟩
  | 79 => ⟨S4x16x128x128, .f32⟩
  | 80 => ⟨S16x128x4x128, .f32⟩
  | 81 => ⟨S128x4, .f32⟩
  | 82 => ⟨S1x128x4x1, .f32⟩
  | 83 => ⟨S16x128x4x128, .f32⟩
  | 84 => ⟨S16x128x4x128, .f32⟩
  | 85 => ⟨S2048x512, .f32⟩
  | 86 => ⟨S2048x512, .f32⟩
  | 87 => ⟨S2048x512, .f32⟩
  | 88 => ⟨S2048x512, .f32⟩
  | 89 => ⟨S_, .f32⟩
  | 90 => ⟨S2048x512, .f32⟩
  | 91 => ⟨S2048x512, .f32⟩
  | 92 => ⟨S_, .f32⟩
  | 93 => ⟨S2048x512, .f32⟩
  | 94 => ⟨S2048x512, .f32⟩
  | 95 => ⟨S_, .f32⟩
  | 96 => ⟨S2048x512, .f32⟩
  | 97 => ⟨S2048x512, .f32⟩
  | 98 => ⟨S2048x512, .f32⟩
  | 99 => ⟨S2048x512, .f32⟩
  | 100 => ⟨S2048x512, .f32⟩
  | 101 => ⟨S2048x512, .f32⟩
  | 102 => ⟨S2048x512, .f32⟩
  | 103 => ⟨S2048x512, .f32⟩
  | 104 => ⟨S2048x512, .f32⟩
  | 105 => ⟨S2048x512, .f32⟩
  | 106 => ⟨S2048x512, .f32⟩
  | 107 => ⟨S2048x512, .f32⟩
  | 108 => ⟨S2048x512, .f32⟩
  | 109 => ⟨S2048x512, .f32⟩
  | 110 => ⟨S16x128x4x128, .f32⟩
  | 111 => ⟨S_, .f32⟩
  | 112 => ⟨S128x4, .f32⟩
  | 113 => ⟨S1x128x4x1, .f32⟩
  | 114 => ⟨S_, .f32⟩
  | 115 => ⟨S128x4, .f32⟩
  | 116 => ⟨S4x128, .f32⟩
  | 117 => ⟨S4x16x128x128, .f32⟩
  | 118 => ⟨S4x128x128, .f32⟩
  | 119 => ⟨S4x16x128x128, .f32⟩
  | 120 => ⟨S16x128x4x128, .f32⟩
  | 121 => ⟨S_, .f32⟩
  | 122 => ⟨S4x128x128, .f32⟩
  | 123 => ⟨S4x128x128, .f32⟩
  | 124 => ⟨S2048x512, .f32⟩
  | 125 => ⟨S2048x512, .f32⟩
  | 126 => ⟨S_, .f32⟩
  | 127 => ⟨S512, .f32⟩
  | _ => ⟨S2048x10240, .bf16⟩

abbrev hbmTy0_1 (i : Nat) : BufTy := match i % 128 with
  | 0 => ⟨S1x512, .f32⟩
  | 1 => ⟨S2048x512, .f32⟩
  | 2 => ⟨S2048x512, .f32⟩
  | 3 => ⟨S_, .f32⟩
  | 4 => ⟨S512, .f32⟩
  | 5 => ⟨S2048x512, .f32⟩
  | 6 => ⟨S_, .f32⟩
  | 7 => ⟨S2048, .f32⟩
  | 8 => ⟨S2048x1, .f32⟩
  | 9 => ⟨S2048x512, .f32⟩
  | 10 => ⟨S2048x512, .f32⟩
  | 11 => ⟨S2048x1, .f32⟩
  | 12 => ⟨S_, .f32⟩
  | 13 => ⟨S2048x1, .f32⟩
  | 14 => ⟨S2048x1, .f32⟩
  | 15 => ⟨S_, .f32⟩
  | 16 => ⟨S2048, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S2048x1024, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S2048x1024, .f32⟩
  | 38 => ⟨S1x512, .f32⟩
  | 39 => ⟨S4x1x128, .f32⟩
  | 40 => ⟨S2048x6144, .bf16⟩
  | 41 => ⟨S2048x1024, .bf16⟩
  | 42 => ⟨S2048x512, .bf16⟩
  | 43 => ⟨S2048x2560, .bf16⟩
  | 44 => ⟨S2048x10240, .bf16⟩
  | _ => ⟨S2048x10240, .bf16⟩

abbrev hbmTy (i : Nat) : BufTy := match i / 128 with
  | 0 => hbmTy0_0 i
  | 1 => hbmTy0_1 i
  | _ => ⟨S2048x10240, .bf16⟩

abbrev bufTy : (tb : Table) → Fin (tcTables nBuf tb) → BufTy
  | .hbm, ⟨i, _⟩ => hbmTy i
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c : Ref sig .tc := ⟨.hbm, 61, rfl⟩
abbrev main_v44 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_c_0 : Ref sig .tc := ⟨.hbm, 69, rfl⟩
abbrev main_call0_v5 : Ref sig .tc := ⟨.hbm, 70, rfl⟩
abbrev main_v45 : Ref sig .tc := ⟨.hbm, 71, rfl⟩
abbrev main_cst_10 : Ref sig .tc := ⟨.hbm, 72, rfl⟩
abbrev main_call1_v0 : Ref sig .tc := ⟨.hbm, 73, rfl⟩
abbrev main_v46_1 : Ref sig .tc := ⟨.hbm, 74, rfl⟩
abbrev main_call1_v2 : Ref sig .tc := ⟨.hbm, 75, rfl⟩
abbrev main_v46_0 : Ref sig .tc := ⟨.hbm, 76, rfl⟩
abbrev main_call1_cst : Ref sig .tc := ⟨.hbm, 77, rfl⟩
abbrev main_v46_2 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call2_v0 : Ref sig .tc := ⟨.hbm, 87, rfl⟩
abbrev main_call2_v1 : Ref sig .tc := ⟨.hbm, 88, rfl⟩
abbrev main_call2_cst : Ref sig .tc := ⟨.hbm, 89, rfl⟩
abbrev main_call2_v2 : Ref sig .tc := ⟨.hbm, 90, rfl⟩
abbrev main_call2_v3 : Ref sig .tc := ⟨.hbm, 91, rfl⟩
abbrev main_call2_cst_0 : Ref sig .tc := ⟨.hbm, 92, rfl⟩
abbrev main_call2_v4 : Ref sig .tc := ⟨.hbm, 93, rfl⟩
abbrev main_v55_2 : Ref sig .tc := ⟨.hbm, 94, rfl⟩
abbrev main_call2_cst_1 : Ref sig .tc := ⟨.hbm, 95, rfl⟩
abbrev main_call2_v6 : Ref sig .tc := ⟨.hbm, 96, rfl⟩
abbrev main_call2_v7 : Ref sig .tc := ⟨.hbm, 97, rfl⟩
abbrev main_v55_1 : Ref sig .tc := ⟨.hbm, 98, rfl⟩
abbrev main_v55_0 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_11 : Ref sig .tc := ⟨.hbm, 111, rfl⟩
abbrev main_v64 : Ref sig .tc := ⟨.hbm, 112, rfl⟩
abbrev main_v65 : Ref sig .tc := ⟨.hbm, 113, rfl⟩
abbrev main_cst_12 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_call4_cst : Ref sig .tc := ⟨.hbm, 121, rfl⟩
abbrev main_call4_v0 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_13 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_14 : Ref sig .tc := ⟨.hbm, 131, rfl⟩
abbrev main_v79 : Ref sig .tc := ⟨.hbm, 132, rfl⟩
abbrev main_v80 : Ref sig .tc := ⟨.hbm, 133, rfl⟩
abbrev main_cst_15 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_16 : Ref sig .tc := ⟨.hbm, 140, rfl⟩
abbrev main_v86 : Ref sig .tc := ⟨.hbm, 141, rfl⟩
abbrev main_v87 : Ref sig .tc := ⟨.hbm, 142, rfl⟩
abbrev main_cst_17 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_18 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_19 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_20 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩

abbrev nD : Nat := 1
abbrev τ : Topo := Topo.v7x

variable {F : FTy → Type} [FloatOps F]
-- ==== Kernel15.lean ====
abbrev S2048x10240 : Shape := ⟨2, ![2048, 10240]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S4x1x128 : Shape := ⟨3, ![4, 1, 128]⟩
abbrev S2048x512 : Shape := ⟨2, ![2048, 512]⟩
abbrev S512x1024 : Shape := ⟨2, ![512, 1024]⟩
abbrev S512x512 : Shape := ⟨2, ![512, 512]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S512x1 : Shape := ⟨2, ![512, 1]⟩
abbrev S128 : Shape := ⟨1, ![128]⟩
abbrev S128x1 : Shape := ⟨2, ![128, 1]⟩
abbrev S128x512 : Shape := ⟨2, ![128, 512]⟩

abbrev nBuf : Space → Nat
  | .hbm => 7
  | .vmem => 9
  | .smem => 0
  | _ => 0

abbrev bufTy : (tb : Table) → Fin (tcTables nBuf tb) → BufTy
  | .hbm, ⟨0, _⟩ => ⟨S2048x10240, .bf16⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S1x512, .f32⟩
  | .hbm, ⟨5, _⟩ => ⟨S4x1x128, .f32⟩
  | .hbm, ⟨6, _⟩ => ⟨S2048x512, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S4x128x128, .f32⟩
  | .local _ .vmem, ⟨6, _⟩ => ⟨S4x1x128, .f32⟩
  | .local _ .vmem, ⟨7, _⟩ => ⟨S512x512, .bf16⟩
  | .local _ .vmem, ⟨8, _⟩ => ⟨S512x512, .bf16⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S2048x10240 : Shape := ⟨2, ![2048, 10240]⟩
abbrev S512 : Shape := ⟨1, ![512]⟩
abbrev S4x128x128 : Shape := ⟨3, ![4, 128, 128]⟩
abbrev S4x128 : Shape := ⟨2, ![4, 128]⟩
abbrev S2048x1024 : Shape := ⟨2, ![2048, 1024]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S16x128x4x128 : Shape := ⟨4, ![16, 128, 4, 128]⟩
abbrev S128x128 : Shape := ⟨2, ![128, 128]⟩
abbrev S4x16x128x128 : Shape := ⟨4, ![4, 16, 128, 128]⟩
abbrev S128x4 : Shape := ⟨2, ![128, 4]⟩
abbrev S1x128x4x1 : Shape := ⟨4, ![1, 128, 4, 1]⟩

abbrev nBuf : Space → Nat
  | .hbm => 79
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S2048x1024, .bf16⟩
  | .hbm, ⟨5, _⟩ => ⟨S2048x1024, .f32⟩
  | .hbm, ⟨6, _⟩ => ⟨S2048x512, .bf16⟩
  | .hbm, ⟨7, _⟩ => ⟨S2048x512, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x512, .f32⟩
  | .hbm, ⟨39, _⟩ => ⟨S2048x512, .f32⟩
  | .hbm, ⟨40, _⟩ => ⟨S1x512, .f32⟩
  | .hbm, ⟨41, _⟩ => ⟨S2048x512, .f32⟩
  | .hbm, ⟨42, _⟩ => ⟨S2048x512, .f32⟩
  | .hbm, ⟨43, _⟩ => ⟨S16x128x4x128, .f32⟩
  | .hbm, ⟨44, _⟩ => ⟨S_, .i1⟩
  | .hbm, ⟨45, _⟩ => ⟨S128x128, .i1⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S_, .i1⟩
  | .hbm, ⟨53, _⟩ => ⟨S128x128, .i1⟩
  | .hbm, ⟨54, _⟩ => ⟨S128x128, .i1⟩
  | .hbm, ⟨55, _⟩ => ⟨S_, .f32⟩
  | .hbm, ⟨56, _⟩ => ⟨S_, .f32⟩
  | .hbm, ⟨57, _⟩ => ⟨S4x128x128, .i1⟩
  | .hbm, ⟨58, _⟩ => ⟨S4x128x128, .f32⟩
  | .hbm, ⟨59, _⟩ => ⟨S4x128x128, .f32⟩
  | .hbm, ⟨60, _⟩ => ⟨S4x16x128x128, .f32⟩
  | .hbm, ⟨61, _⟩ => ⟨S16x128x4x128, .f32⟩
  | .hbm, ⟨62, _⟩ => ⟨S128x4, .f32⟩
  | .hbm, ⟨63, _⟩ => ⟨S1x128x4x1, .f32⟩
  | .hbm, ⟨64, _⟩ => ⟨S16x128x4x128, .f32⟩
  | .hbm, ⟨65, _⟩ => ⟨S16x128x4x128, .f32⟩
  | .hbm, ⟨66, _⟩ => ⟨S2048x512, .f32⟩
  | .hbm, ⟨67, _⟩ => ⟨S2048x512, .f32⟩
  | .hbm, ⟨68, _⟩ => ⟨S2048x512, .f32⟩
  | .hbm, ⟨69, _⟩ => ⟨S2048x512, .f32⟩
  | .hbm, ⟨70, _⟩ => ⟨S_, .f32⟩
  | .hbm, ⟨71, _⟩ => ⟨S2048x512, .f32⟩
  | .hbm, ⟨72, _⟩ => ⟨S2048x512, .f32⟩
  | .hbm, ⟨73, _⟩ => ⟨S_, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S2048x512, .bf16⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c : Ref sig .tc := ⟨.hbm, 44, rfl⟩
abbrev main_v33 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_c_0 : Ref sig .tc := ⟨.hbm, 52, rfl⟩
abbrev main_call0_v5 : Ref sig .tc := ⟨.hbm, 53, rfl⟩
abbrev main_v34 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩

abbrev nD : Nat := 1
abbrev τ : Topo := Topo.v7x

variable {F : FTy → Type} [FloatOps F]
-- ==== Kernel17.lean ====
abbrev S2048x10240 : Shape := ⟨2, ![2048, 10240]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S2048x512 : Shape := ⟨2, ![2048, 512]⟩
abbrev S512x512 : Shape := ⟨2, ![512, 512]⟩
abbrev S512x256 : Shape := ⟨2, ![512, 256]⟩
abbrev S128x256 : Shape := ⟨2, ![128, 256]⟩
abbrev S128x128 : Shape := ⟨2, ![128, 128]⟩
abbrev S256x256 : Shape := ⟨2, ![256, 256]⟩
abbrev S256x128 : Shape := ⟨2, ![256, 128]⟩
abbrev S512x128 : Shape := ⟨2, ![512, 128]⟩
abbrev S128x512 : Shape := ⟨2, ![128, 512]⟩
abbrev S1x1 : Shape := ⟨2, ![1, 1]⟩
abbrev S128 : Shape := ⟨1, ![128]⟩
abbrev S128x1 : Shape := ⟨2, ![128, 1]⟩

abbrev nBuf : Space → Nat
  | .hbm => 11
  | .vmem => 11
  | .smem => 0
  | _ => 0

abbrev bufTy : (tb : Table) → Fin (tcTables nBuf tb) → BufTy
  | .hbm, ⟨0, _⟩ => ⟨S2048x10240, .bf16⟩
  | .hbm, ⟨1, _⟩ => ⟨S8, .f32⟩
  | .hbm, ⟨2, _⟩ => ⟨S_, .f32⟩
  | .hbm, ⟨3, _⟩ => ⟨S1x128, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S1x128, .f32⟩
  | .hbm, ⟨10, _⟩ => ⟨S2048x512, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S128x256, .bf16⟩
  | .local _ .vmem, ⟨7, _⟩ => ⟨S128x256, .bf16⟩
  | .local _ .vmem, ⟨8, _⟩ => ⟨S1x128, .f32⟩
  | .local _ .vmem, ⟨9, _⟩ => ⟨S512x512, .bf16⟩
  | .local _ .vmem, ⟨10, _⟩ => ⟨S512x512, .bf16⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_1 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_2 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c30_i32 : BitVec 32 := 30#32
  let c0_i32_0 : BitVec 32 := 0#32
  ![v2.toNat, c30_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference17Ideal.lean ====
abbrev S2048x10240 : Shape := ⟨2, ![2048, 10240]⟩
abbrev S8 : Shape := ⟨1, ![8]⟩
abbrev S2048x128 : Shape := ⟨2, ![2048, 128]⟩
abbrev S2048x512 : Shape := ⟨2, ![2048, 512]⟩
abbrev S16x128x2x4x64 : Shape := ⟨5, ![16, 128, 2, 4, 64]⟩
abbrev S16x128x2x64 : Shape := ⟨4, ![16, 128, 2, 64]⟩
abbrev S1x128x2x64 : Shape := ⟨4, ![1, 128, 2, 64]⟩
abbrev S15x128x2x64 : Shape := ⟨4, ![15, 128, 2, 64]⟩
abbrev S16x256x2x64 : Shape := ⟨4, ![16, 256, 2, 64]⟩
abbrev S16x2x256x128x4 : Shape := ⟨5, ![16, 2, 256, 128, 4]⟩
abbrev S16x2x4x128x256 : Shape := ⟨5, ![16, 2, 4, 128, 256]⟩
abbrev S_ : Shape := ⟨0, ![]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S2x4 : Shape := ⟨2, ![2, 4]⟩
abbrev S1x2x4x1x1 : Shape := ⟨5, ![1, 2, 4, 1, 1]⟩
abbrev S16x2x4x128x1 : Shape := ⟨5, ![16, 2, 4, 128, 1]⟩
abbrev S16x2x4x128x257 : Shape := ⟨5, ![16, 2, 4, 128, 257]⟩
abbrev S16x2x4x128 : Shape := ⟨4, ![16, 2, 4, 128]⟩
abbrev S16x2x64x4x128 : Shape := ⟨5, ![16, 2, 64, 4, 128]⟩

abbrev nBuf : Space → Nat
  | .hbm => 101
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S8, .f32⟩
  | .hbm, ⟨2, _⟩ => ⟨S2048x128, .bf16⟩
  | .hbm, ⟨3, _⟩ => ⟨S2048x128, .bf16⟩
  | .hbm, ⟨4, _⟩ => ⟨S2048x512, .bf16⟩
  | .hbm, ⟨5, _⟩ => ⟨S2048x512, .bf16⟩
  | .hbm, ⟨6, _⟩ => ⟨S2048x512, .f32⟩
  | .hbm, ⟨7, _⟩ => ⟨S2048x128, .f32⟩
  | .hbm, ⟨8, _⟩ => ⟨S2048x128, .f32⟩
  | .hbm, ⟨9, _⟩ => ⟨S2048x512, .f32⟩
  | .hbm, ⟨10, _⟩ => ⟨S16x128x2x4x64, .f32⟩
  | .hbm, ⟨11, _⟩ => ⟨S16x128x2x64, .f32⟩
  | .hbm, ⟨12, _⟩ => ⟨S16x128x2x64, .f32⟩
  | .hbm, ⟨13, _⟩ => ⟨S1x128x2x64, .f32⟩
  | .hbm, ⟨14, _⟩ => ⟨S15x128x2x64, .f32⟩
  | .hbm, ⟨15, _⟩ => ⟨S16x128x2x64, .f32⟩
  | .hbm, ⟨16, _⟩ => ⟨S16x256x2x64, .f32⟩
  | .hbm, ⟨17, _⟩ => ⟨S1x128x2x64, .f32⟩
  | .hbm, ⟨18, _⟩ => ⟨S15x128x2x64, .f32⟩
  | .hbm, ⟨19, _⟩ => ⟨S16x128x2x64, .f32⟩
  | .hbm, ⟨20, _⟩ => ⟨S16x256x2x64, .f32⟩
  | .hbm, ⟨21, _⟩ => ⟨S16x2x256x128x4, .f32⟩
  | .hbm, ⟨22, _⟩ => ⟨S16x2x4x128x256, .f32⟩
  | .hbm, ⟨23, _⟩ => ⟨S_, .f32⟩
  | .hbm, ⟨24, _⟩ => ⟨S16x2x4x128x256, .f32⟩
  | .hbm, ⟨25, _⟩ => ⟨S16x2x4x128x256, .f32⟩
  | .hbm, ⟨26, _⟩ => ⟨S256, .i32⟩
  | .hbm, ⟨27, _⟩ => ⟨S1x256, .i32⟩
  | .hbm, ⟨28, _⟩ => ⟨S128, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S16, .i32⟩
  | .hbm, ⟨37, _⟩ => ⟨S16x1x1, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S_, .i32⟩
  | .hbm, ⟨46, _⟩ => ⟨S16x1x1, .i32⟩
  | .hbm, ⟨47, _⟩ => ⟨S16x1x1, .i32⟩
  | .hbm, ⟨48, _⟩ => ⟨S_, .i32⟩
  | .hbm, ⟨49, _⟩ => ⟨S16x1x1, .i32⟩
  | .hbm, ⟨50, _⟩ => ⟨S16x1x1, .i32⟩
  | .hbm, ⟨51, _⟩ => ⟨S1x1x256, .i32⟩
  | .hbm, ⟨52, _⟩ => ⟨S16x1x256, .i32⟩
  | .hbm, ⟨53, _⟩ => ⟨S16x1x256, .i32⟩
  | .hbm, ⟨54, _⟩ => ⟨S16x1x256, .i32⟩
  | .hbm, ⟨55, _⟩ => ⟨S_, .i32⟩
  | .hbm, ⟨56, _⟩ => ⟨S16x1x256, .i32⟩
  | .hbm, ⟨57, _⟩ => ⟨S16x1x256, .i1⟩
  | .hbm, ⟨58, _⟩ => ⟨S1x128x256, .i1⟩
  | .hbm, ⟨59, _⟩ => ⟨S16x128x256, .i1⟩
  | .hbm, ⟨60, _⟩ => ⟨S16x128x256, .i1⟩
  | .hbm, ⟨61, _⟩ => ⟨S16x128x256, .i1⟩
  | .hbm, ⟨62, _⟩ => ⟨S16x1x1x128x256, .i1⟩
  | .hbm, ⟨63, _⟩ => ⟨S_, .f32⟩
  | .hbm, ⟨64, _⟩ => ⟨S_, .f32⟩
  | .hbm, ⟨65, _⟩ => ⟨S16x2x4x128x256, .i1⟩
  | .hbm, ⟨66, _⟩ => ⟨S16x2x4x128x256, .f32⟩
  | .hbm, ⟨67, _⟩ => ⟨S16x2x4x128x256, .f32⟩
  | .hbm, ⟨68, _⟩ => ⟨S2x4, .f32⟩
  | .hbm, ⟨69, _⟩ => ⟨S1x2x4x1x1, .f32⟩
  | .hbm, ⟨70, _⟩ => ⟨S16x2x4x128x1, .f32⟩
  | .hbm, ⟨71, _⟩ => ⟨S16x2x4x128x257, .f32⟩
  | .hbm, ⟨72, _⟩ => ⟨S_, .f32⟩
  | .hbm, ⟨73, _⟩ => ⟨S16x2x4x128, .f32⟩
  | .hbm, ⟨74, _⟩ => ⟨S_, .f32⟩
  | .hbm, ⟨75, _⟩ => ⟨S16x2x4x128, .f32⟩
  | .hbm, ⟨76, _⟩ => ⟨S16x2x4x128, .f32⟩
  | .hbm, ⟨77, _⟩ => ⟨S16x2x4x128x1, .f32⟩
  | .hbm, ⟨78, _⟩ => ⟨S16x2x4x128x257, .f32⟩
  | .hbm, ⟨79, _⟩ => ⟨S16x2x4x128x257, .f32⟩
  | .hbm, ⟨80, _⟩ => ⟨S16x2x4x128x257, .f32⟩
  | .hbm, ⟨81, _⟩ => ⟨S_, .f32⟩
  | .hbm, ⟨82, _⟩ => ⟨S16x2x4x128, .f32⟩
  | .hbm, ⟨83, _⟩ => ⟨S16x2x4x128x1, .f32⟩
  | .hbm, ⟨84, _⟩ => ⟨S16x2x4x128x257, .f32⟩
  | .hbm, ⟨85, _⟩ => ⟨S16x2x4x128x257, .f32⟩
  | .hbm, ⟨86, _⟩ => ⟨S16x2x4x128x256, .f32⟩
  | .hbm, ⟨87, _⟩ => ⟨S16x2x64x4x128, .f32⟩
  | .hbm, ⟨88, _⟩ => ⟨S16x128x2x4x64, .f32⟩
  | .hbm, ⟨89, _⟩ => ⟨S2048x512, .f32⟩
  | .hbm, ⟨90, _⟩ => ⟨S2048x512, .f32⟩
  | .hbm, ⟨91, _⟩ => ⟨S2048x512, .f32⟩
  | .hbm, ⟨92, _⟩ => ⟨S_, .f32⟩
  | .hbm, ⟨93, _⟩ => ⟨S2048x512, .f32⟩
  | .hbm, ⟨94, _⟩ => ⟨S2048x512, .f32⟩
  | .hbm, ⟨95, _⟩ => ⟨S_, .f32⟩
  | .hbm, ⟨96, _⟩ => ⟨S2048x512, .f32⟩
  | .hbm, ⟨97, _⟩ => ⟨S2048x512, .f32⟩
  | .hbm, ⟨98, _⟩ => ⟨S2048x512, .f32⟩
  | .hbm, ⟨99, _⟩ => ⟨S2048x512, .f32⟩
  | .hbm, ⟨100, _⟩ => ⟨S2048x512, .bf16⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_c : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_c_0 : Ref sig .tc := ⟨.hbm, 38, rfl⟩
abbrev main_v34 : Ref sig .tc := ⟨.hbm, 39, rfl⟩
abbrev main_v35 : Ref sig .tc := ⟨.hbm, 40, rfl⟩
abbrev main_c_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_2 : Ref sig .tc := ⟨.hbm, 45, rfl⟩
abbrev main_v39 : Ref sig .tc := ⟨.hbm, 46, rfl⟩
abbrev main_v40 : Ref sig .tc := ⟨.hbm, 47, rfl⟩
abbrev main_c_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_c_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_8 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== Kernel18.lean ====
abbrev S2048x10240 : Shape := ⟨2, ![2048, 10240]⟩
abbrev S2048x256 : Shape := ⟨2, ![2048, 256]⟩
abbrev S512x256 : Shape := ⟨2, ![512, 256]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x10240, .bf16⟩
  | .hbm, ⟨1, _⟩ => ⟨S2048x256, .f32⟩
  | .hbm, ⟨2, _⟩ => ⟨S2048x256, .f32⟩
  | .hbm, ⟨3, _⟩ => ⟨S2048x10240, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .bf16⟩
  | .local _ .vmem, ⟨5, _⟩ => ⟨S512x512, .bf16⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S2048x10240 : Shape := ⟨2, ![2048, 10240]⟩
abbrev S2048x256 : Shape := ⟨2, ![2048, 256]⟩
abbrev S2048x7680 : Shape := ⟨2, ![2048, 7680]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S2048x256, .f32⟩
  | .hbm, ⟨2, _⟩ => ⟨S2048x256, .f32⟩
  | .hbm, ⟨3, _⟩ => ⟨S2048x7680, .bf16⟩
  | .hbm, ⟨4, _⟩ => ⟨S2048x256, .bf16⟩
  | .hbm, ⟨5, _⟩ => ⟨S2048x256, .bf16⟩
  | .hbm, ⟨6, _⟩ => ⟨S2048x2048, .bf16⟩
  | .hbm, ⟨7, _⟩ => ⟨S2048x10240, .bf16⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S2048x1024 : Shape := ⟨2, ![2048, 1024]⟩
abbrev S2048x128 : Shape := ⟨2, ![2048, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S2048x128 : Shape := ⟨2, ![2048, 128]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S2048x1, .f32⟩
  | .hbm, ⟨26, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel20.lean ====
abbrev S1 : Shape := ⟨1, ![1]⟩
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 12
  | .vmem => 8
  | .smem => 1
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S1 : Shape := ⟨1, ![1]⟩
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S1x256x1024, .f32⟩
  | .hbm, ⟨10, _⟩ => ⟨S256x1024, .f32⟩
  | .hbm, ⟨11, _⟩ => ⟨S1x256x1024, .f32⟩
  | .hbm, ⟨12, _⟩ => ⟨S256x1024, .f32⟩
  | .hbm, ⟨13, _⟩ => ⟨S1x256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | .hbm, ⟨48, _⟩ => ⟨S1x256x1024, .f32⟩
  | .hbm, ⟨49, _⟩ => ⟨S256x1024, .f32⟩
  | .hbm, ⟨50, _⟩ => ⟨S1x256x1024, .f32⟩
  | .hbm, ⟨51, _⟩ => ⟨S1x256x1024, .f32⟩
  | .hbm, ⟨52, _⟩ => ⟨S2x256x1024, .f32⟩
  | .hbm, ⟨53, _⟩ => ⟨S1x256x1024, .f32⟩
  | .hbm, ⟨54, _⟩ => ⟨S256x1024, .f32⟩
  | .hbm, ⟨55, _⟩ => ⟨S1x256x1024, .f32⟩
  | .hbm, ⟨56, _⟩ => ⟨S1x256x1024, .f32⟩
  | .hbm, ⟨57, _⟩ => ⟨S2x256x1024, .f32⟩
  | .hbm, ⟨58, _⟩ => ⟨S1x256x1024, .f32⟩
  | .hbm, ⟨59, _⟩ => ⟨S256x1024, .f32⟩
  | .hbm, ⟨60, _⟩ => ⟨S1x256x1024, .f32⟩
  | .hbm, ⟨61, _⟩ => ⟨S1x256x1024, .f32⟩
  | .hbm, ⟨62, _⟩ => ⟨S2x256x1024, .f32⟩
  | .hbm, ⟨63, _⟩ => ⟨S1x256x1024, .f32⟩
  | .hbm, ⟨64, _⟩ => ⟨S256x1024, .f32⟩
  | .hbm, ⟨65, _⟩ => ⟨S1x256x1024, .f32⟩
  | .hbm, ⟨66, _⟩ => ⟨S1x256x1024, .f32⟩
  | .hbm, ⟨67, _⟩ => ⟨S2x256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Kernel21.lean ====
abbrev S1 : Shape := ⟨1, ![1]⟩
abbrev S2x4x384 : Shape := ⟨3, ![2, 4, 384]⟩
abbrev S4x384 : Shape := ⟨2, ![4, 384]⟩
abbrev S1x4x384 : Shape := ⟨3, ![1, 4, 384]⟩

abbrev nBuf : Space → Nat
  | .hbm => 12
  | .vmem => 8
  | .smem => 1
  | _ => 0

abbrev bufTy : (tb : Table) → Fin (tcTables nBuf tb) → BufTy
  | .hbm, ⟨0, _⟩ => ⟨S2x4x384, .f32⟩
  | .hbm, ⟨1, _⟩ => ⟨S4x384, .f32⟩
  | .hbm, ⟨2, _⟩ => ⟨S2x4x384, .f32⟩
  | .hbm, ⟨3, _⟩ => ⟨S2x4x384, .f32⟩
  | .hbm, ⟨4, _⟩ => ⟨S2x4x384, .f32⟩
  | .hbm, ⟨5, _⟩ => ⟨S2x4x384, .f32⟩
  | .hbm, ⟨6, _⟩ => ⟨S2x4x384, .f32⟩
  | .hbm, ⟨7, _⟩ => ⟨S2x4x384, .f32⟩
  | .hbm, ⟨8, _⟩ => ⟨S2x4x384, .f32⟩
  | .hbm, ⟨9, _⟩ => ⟨S2x4x384, .f32⟩
  | .hbm, ⟨10, _⟩ => ⟨S2x4x384, .f32⟩
  | .hbm, ⟨11, _⟩ => ⟨S2x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .smem, ⟨0, _⟩ => ⟨S1, .i32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S1 : Shape := ⟨1, ![1]⟩
abbrev S2x4x384 : Shape := ⟨3, ![2, 4, 384]⟩
abbrev S4x384 : Shape := ⟨2, ![4, 384]⟩
abbrev S1x4x384 : Shape := ⟨3, ![1, 4, 384]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x4x384, .f32⟩
  | .hbm, ⟨2, _⟩ => ⟨S4x384, .f32⟩
  | .hbm, ⟨3, _⟩ => ⟨S2x4x384, .f32⟩
  | .hbm, ⟨4, _⟩ => ⟨S2x4x384, .f32⟩
  | .hbm, ⟨5, _⟩ => ⟨S2x4x384, .f32⟩
  | .hbm, ⟨6, _⟩ => ⟨S2x4x384, .f32⟩
  | .hbm, ⟨7, _⟩ => ⟨S2x4x384, .f32⟩
  | .hbm, ⟨8, _⟩ => ⟨S2x4x384, .f32⟩
  | .hbm, ⟨9, _⟩ => ⟨S1x4x384, .f32⟩
  | .hbm, ⟨10, _⟩ => ⟨S4x384, .f32⟩
  | .hbm, ⟨11, _⟩ => ⟨S1x4x384, .f32⟩
  | .hbm, ⟨12, _⟩ => ⟨S4x384, .f32⟩
  | .hbm, ⟨13, _⟩ => ⟨S1x4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S_, .f32⟩
  | .hbm, ⟨19, _⟩ => ⟨S4x384, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S_, .f32⟩
  | .hbm, ⟨34, _⟩ => ⟨S4x384, .f32⟩
  | .hbm, ⟨35, _⟩ => ⟨S4x384, .f32⟩
  | .hbm, ⟨36, _⟩ => ⟨S4x384, .f32⟩
  | .hbm, ⟨37, _⟩ => ⟨S_, .f32⟩
  | .hbm, ⟨38, _⟩ => ⟨S4x384, .f32⟩
  | .hbm, ⟨39, _⟩ => ⟨S4x384, .f32⟩
  | .hbm, ⟨40, _⟩ => ⟨S4x384, .f32⟩
  | .hbm, ⟨41, _⟩ => ⟨S_, .f32⟩
  | .hbm, ⟨42, _⟩ => ⟨S4x384, .f32⟩
  | .hbm, ⟨43, _⟩ => ⟨S4x384, .f32⟩
  | .hbm, ⟨44, _⟩ => ⟨S4x384, .f32⟩
  | .hbm, ⟨45, _⟩ => ⟨S_, .f32⟩
  | .hbm, ⟨46, _⟩ => ⟨S4x384, .f32⟩
  | .hbm, ⟨47, _⟩ => ⟨S4x384, .f32⟩
  | .hbm, ⟨48, _⟩ => ⟨S1x4x384, .f32⟩
  | .hbm, ⟨49, _⟩ => ⟨S4x384, .f32⟩
  | .hbm, ⟨50, _⟩ => ⟨S1x4x384, .f32⟩
  | .hbm, ⟨51, _⟩ => ⟨S1x4x384, .f32⟩
  | .hbm, ⟨52, _⟩ => ⟨S2x4x384, .f32⟩
  | .hbm, ⟨53, _⟩ => ⟨S1x4x384, .f32⟩
  | .hbm, ⟨54, _⟩ => ⟨S4x384, .f32⟩
  | .hbm, ⟨55, _⟩ => ⟨S1x4x384, .f32⟩
  | .hbm, ⟨56, _⟩ => ⟨S1x4x384, .f32⟩
  | .hbm, ⟨57, _⟩ => ⟨S2x4x384, .f32⟩
  | .hbm, ⟨58, _⟩ => ⟨S1x4x384, .f32⟩
  | .hbm, ⟨59, _⟩ => ⟨S4x384, .f32⟩
  | .hbm, ⟨60, _⟩ => ⟨S1x4x384, .f32⟩
  | .hbm, ⟨61, _⟩ => ⟨S1x4x384, .f32⟩
  | .hbm, ⟨62, _⟩ => ⟨S2x4x384, .f32⟩
  | .hbm, ⟨63, _⟩ => ⟨S1x4x384, .f32⟩
  | .hbm, ⟨64, _⟩ => ⟨S4x384, .f32⟩
  | .hbm, ⟨65, _⟩ => ⟨S1x4x384, .f32⟩
  | .hbm, ⟨66, _⟩ => ⟨S1x4x384, .f32⟩
  | .hbm, ⟨67, _⟩ => ⟨S2x4x384, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Kernel22.lean ====
abbrev S1 : Shape := ⟨1, ![1]⟩
abbrev S2x2048x256 : Shape := ⟨3, ![2, 2048, 256]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 12
  | .vmem => 16
  | .smem => 1
  | _ => 0

abbrev bufTy : (tb : Table) → Fin (tcTables nBuf tb) → BufTy
  | .hbm, ⟨0, _⟩ => ⟨S2x2048x256, .f32⟩
  | .hbm, ⟨1, _⟩ => ⟨S2048x256, .f32⟩
  | .hbm, ⟨2, _⟩ => ⟨S2x2048x256, .f32⟩
  | .hbm, ⟨3, _⟩ => ⟨S2x2048x256, .f32⟩
  | .hbm, ⟨4, _⟩ => ⟨S2x2048x256, .f32⟩
  | .hbm, ⟨5, _⟩ => ⟨S2x2048x256, .f32⟩
  | .hbm, ⟨6, _⟩ => ⟨S2x2048x256, .f32⟩
  | .hbm, ⟨7, _⟩ => ⟨S2x2048x256, .f32⟩
  | .hbm, ⟨8, _⟩ => ⟨S2x2048x256, .f32⟩
  | .hbm, ⟨9, _⟩ => ⟨S2x2048x256, .f32⟩
  | .hbm, ⟨10, _⟩ => ⟨S2x2048x256, .f32⟩
  | .hbm, ⟨11, _⟩ => ⟨S2x2048x256, .f32⟩
  | .local _ .vmem, ⟨0, _⟩ => ⟨S1x512x256, .f32⟩
  | .local _ .vmem, ⟨1, _⟩ => ⟨S1x512x256, .f32⟩
  | .local _ .vmem, ⟨2, _⟩ => ⟨S512x256, .f32⟩
  | .local _ .vmem, ⟨3, _⟩ => ⟨S512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .smem, ⟨0, _⟩ => ⟨S1, .i32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S1 : Shape := ⟨1, ![1]⟩
abbrev S2x2048x256 : Shape := ⟨3, ![2, 2048, 256]⟩
abbrev S2048x256 : Shape := ⟨2, ![2048, 256]⟩
abbrev S1x2048x256 : Shape := ⟨3, ![1, 2048, 256]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2048x256, .f32⟩
  | .hbm, ⟨2, _⟩ => ⟨S2048x256, .f32⟩
  | .hbm, ⟨3, _⟩ => ⟨S2x2048x256, .f32⟩
  | .hbm, ⟨4, _⟩ => ⟨S2x2048x256, .f32⟩
  | .hbm, ⟨5, _⟩ => ⟨S2x2048x256, .f32⟩
  | .hbm, ⟨6, _⟩ => ⟨S2x2048x256, .f32⟩
  | .hbm, ⟨7, _⟩ => ⟨S2x2048x256, .f32⟩
  | .hbm, ⟨8, _⟩ => ⟨S2x2048x256, .f32⟩
  | .hbm, ⟨9, _⟩ => ⟨S1x2048x256, .f32⟩
  | .hbm, ⟨10, _⟩ => ⟨S2048x256, .f32⟩
  | .hbm, ⟨11, _⟩ => ⟨S1x2048x256, .f32⟩
  | .hbm, ⟨12, _⟩ => ⟨S2048x256, .f32⟩
  | .hbm, ⟨13, _⟩ => ⟨S1x2048x256, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S_, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S_, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S_, .f32⟩
  | .hbm, ⟨31, _⟩ => ⟨S2048x256, .f32⟩
  | .hbm, ⟨32, _⟩ => ⟨S2048x256, .f32⟩
  | .hbm, ⟨33, _⟩ => ⟨S_, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S_, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S_, .f32⟩
  | .hbm, ⟨42, _⟩ => ⟨S2048x256, .f32⟩
  | .hbm, ⟨43, _⟩ => ⟨S2048x256, .f32⟩
  | .hbm, ⟨44, _⟩ => ⟨S2048x256, .f32⟩
  | .hbm, ⟨45, _⟩ => ⟨S_, .f32⟩
  | .hbm, ⟨46, _⟩ => ⟨S2048x256, .f32⟩
  | .hbm, ⟨47, _⟩ => ⟨S2048x256, .f32⟩
  | .hbm, ⟨48, _⟩ => ⟨S1x2048x256, .f32⟩
  | .hbm, ⟨49, _⟩ => ⟨S2048x256, .f32⟩
  | .hbm, ⟨50, _⟩ => ⟨S1x2048x256, .f32⟩
  | .hbm, ⟨51, _⟩ => ⟨S1x2048x256, .f32⟩
  | .hbm, ⟨52, _⟩ => ⟨S2x2048x256, .f32⟩
  | .hbm, ⟨53, _⟩ => ⟨S1x2048x256, .f32⟩
  | .hbm, ⟨54, _⟩ => ⟨S2048x256, .f32⟩
  | .hbm, ⟨55, _⟩ => ⟨S1x2048x256, .f32⟩
  | .hbm, ⟨56, _⟩ => ⟨S1x2048x256, .f32⟩
  | .hbm, ⟨57, _⟩ => ⟨S2x2048x256, .f32⟩
  | .hbm, ⟨58, _⟩ => ⟨S1x2048x256, .f32⟩
  | .hbm, ⟨59, _⟩ => ⟨S2048x256, .f32⟩
  | .hbm, ⟨60, _⟩ => ⟨S1x2048x256, .f32⟩
  | .hbm, ⟨61, _⟩ => ⟨S1x2048x256, .f32⟩
  | .hbm, ⟨62, _⟩ => ⟨S2x2048x256, .f32⟩
  | .hbm, ⟨63, _⟩ => ⟨S1x2048x256, .f32⟩
  | .hbm, ⟨64, _⟩ => ⟨S2048x256, .f32⟩
  | .hbm, ⟨65, _⟩ => ⟨S1x2048x256, .f32⟩
  | .hbm, ⟨66, _⟩ => ⟨S1x2048x256, .f32⟩
  | .hbm, ⟨67, _⟩ => ⟨S2x2048x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Kernel23.lean ====
abbrev S1 : Shape := ⟨1, ![1]⟩
abbrev S208x1024 : Shape := ⟨2, ![208, 1024]⟩

abbrev nBuf : Space → Nat
  | .hbm => 7
  | .vmem => 7
  | .smem => 1
  | _ => 0

abbrev bufTy : (tb : Table) → Fin (tcTables nBuf tb) → BufTy
  | .hbm, ⟨0, _⟩ => ⟨S208x1024, .f32⟩
  | .hbm, ⟨1, _⟩ => ⟨S208x1024, .f32⟩
  | .hbm, ⟨2, _⟩ => ⟨S208x1024, .f32⟩
  | .hbm, ⟨3, _⟩ => ⟨S208x1024, .f32⟩
  | .hbm, ⟨4, _⟩ => ⟨S208x1024, .f32⟩
  | .hbm, ⟨5, _⟩ => ⟨S208x1024, .f32⟩
  | .hbm, ⟨6, _⟩ => ⟨S208x1024, .f32⟩
  | .local _ .vmem, ⟨0, _⟩ => ⟨S208x1024, .f32⟩
  | .local _ .vmem, ⟨1, _⟩ => ⟨S208x1024, .f32⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S208x1024, .f32⟩
  | .local _ .smem, ⟨0, _⟩ => ⟨S1, .i32⟩
  | _, _ => ⟨S208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S208x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S208x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S208x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S208x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S208x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S208x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S208x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S1 : Shape := ⟨1, ![1]⟩
abbrev S208x1024 : Shape := ⟨2, ![208, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1, .i32⟩
  | .hbm, ⟨1, _⟩ => ⟨S208x1024, .f32⟩
  | .hbm, ⟨2, _⟩ => ⟨S208x1024, .f32⟩
  | .hbm, ⟨3, _⟩ => ⟨S208x1024, .f32⟩
  | .hbm, ⟨4, _⟩ => ⟨S208x1024, .f32⟩
  | .hbm, ⟨5, _⟩ => ⟨S_, .f32⟩
  | .hbm, ⟨6, _⟩ => ⟨S208x1024, .f32⟩
  | .hbm, ⟨7, _⟩ => ⟨S208x1024, .f32⟩
  | .hbm, ⟨8, _⟩ => ⟨S_, .f32⟩
  | .hbm, ⟨9, _⟩ => ⟨S208x1024, .f32⟩
  | .hbm, ⟨10, _⟩ => ⟨S208x1024, .f32⟩
  | .hbm, ⟨11, _⟩ => ⟨S208x1024, .f32⟩
  | .hbm, ⟨12, _⟩ => ⟨S_, .f32⟩
  | .hbm, ⟨13, _⟩ => ⟨S208x1024, .f32⟩
  | .hbm, ⟨14, _⟩ => ⟨S208x1024, .f32⟩
  | .hbm, ⟨15, _⟩ => ⟨S208x1024, .f32⟩
  | .hbm, ⟨16, _⟩ => ⟨S_, .f32⟩
  | .hbm, ⟨17, _⟩ => ⟨S208x1024, .f32⟩
  | .hbm, ⟨18, _⟩ => ⟨S208x1024, .f32⟩
  | .hbm, ⟨19, _⟩ => ⟨S208x1024, .f32⟩
  | .hbm, ⟨20, _⟩ => ⟨S_, .f32⟩
  | .hbm, ⟨21, _⟩ => ⟨S208x1024, .f32⟩
  | .hbm, ⟨22, _⟩ => ⟨S208x1024, .f32⟩
  | .hbm, ⟨23, _⟩ => ⟨S_, .f32⟩
  | .hbm, ⟨24, _⟩ => ⟨S208x1024, .f32⟩
  | .hbm, ⟨25, _⟩ => ⟨S208x1024, .f32⟩
  | .hbm, ⟨26, _⟩ => ⟨S208x1024, .f32⟩
  | .hbm, ⟨27, _⟩ => ⟨S_, .f32⟩
  | .hbm, ⟨28, _⟩ => ⟨S208x1024, .f32⟩
  | .hbm, ⟨29, _⟩ => ⟨S208x1024, .f32⟩
  | .hbm, ⟨30, _⟩ => ⟨S208x1024, .f32⟩
  | .hbm, ⟨31, _⟩ => ⟨S_, .f32⟩
  | .hbm, ⟨32, _⟩ => ⟨S208x1024, .f32⟩
  | .hbm, ⟨33, _⟩ => ⟨S208x1024, .f32⟩
  | .hbm, ⟨34, _⟩ => ⟨S208x1024, .f32⟩
  | .hbm, ⟨35, _⟩ => ⟨S_, .f32⟩
  | .hbm, ⟨36, _⟩ => ⟨S208x1024, .f32⟩
  | .hbm, ⟨37, _⟩ => ⟨S208x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Proof.Softmax.lean ====
module

public import Idealize.ShloMosaic.Lib.Pipeline.ValueKit
public import Idealize.ShloMosaic.Lib.Pointwise

/-! Attention of one query row over its keys, as functions of one row of scores: what both programs of an attention
branch compute. The backward half is the gradient of the softmax as a quotient. -/

@[expose] public section

noncomputable section

open Idealize.ShloMosaic

namespace Cert.Softmax

/-- The scaled product of a query with a key. -/
def score (q k : Fin 128 → EReal) : EReal := (∑ d, q d * k d) * Ideal.ofBits .f32 0x3DB504F3#32

/-- The scores of one head: 128 of the query row's 512 columns against the same columns of the keys. -/
def scores (q : Fin 512 → EReal) (kv : Fin 256 → Fin 1024 → EReal) (h : Fin 4) (k : Fin 256) : EReal :=
  score (fun d => q ⟨h.val * 128 + d.val, by omega⟩) (fun d => kv k ⟨h.val * 128 + d.val, by omega⟩)

variable {n : ℕ}

/-- The largest score of a row. -/
def top (s : Fin n → EReal) : EReal := Finset.univ.fold max (Ideal.ofBits .f32 0xFF800000#32) s

/-- The weight of a key before the division. -/
def weight (s : Fin n → EReal) (k : Fin n) : EReal := Ideal.exp (s k - top s)

/-- The sum of a row's weights. -/
def total (s : Fin n → EReal) : EReal := ∑ k, weight s k

/-- The share of a key. -/
def prob (s : Fin n → EReal) (k : Fin n) : EReal := Ideal.div (weight s k) (total s)

/-- One over the squared sum of a row's weights. -/
def square (s : Fin n → EReal) : EReal := Ideal.div 1 (total s * total s)

/-- What reaches a score from the cotangents `g` of its row's shares. -/
def pull (s g : Fin n → EReal) (k : Fin n) : EReal :=
  (Ideal.div (g k) (total s) + -(∑ k', g k' * square s * weight s k')) * weight s k

/-- What reaches the product of a query and a key, before its scale. -/
def pullScaled (s g : Fin n → EReal) (k : Fin n) : EReal := pull s g k * Ideal.ofBits .f32 0x3DB504F3#32

/-- The cotangent of a share of one head: 128 of the 512 cotangents of a row against the values of the key. -/
def shares (g : Fin 512 → EReal) (kv : Fin 256 → Fin 1024 → EReal) (h : Fin 4) (k : Fin 256) : EReal :=
  ∑ d : Fin 128, g ⟨h.val * 128 + d.val, by omega⟩ * kv k ⟨512 + (h.val * 128 + d.val), by omega⟩

/-- Taking the maximum with the start of the fold once more changes nothing. -/
theorem max_fold (s : Fin n → EReal) :
    max (Ideal.ofBits .f32 0xFF800000#32) (Finset.univ.fold max (Ideal.ofBits .f32 0xFF800000#32) s) = top s :=
  max_eq_right ((Finset.le_fold_max _).2 (Or.inl le_rfl))

end Cert.Softmax

end
-- ==== Proof.MemBwdPoint.lean ====
module

public import proofs.«01_k».proof.Proof.Gen.Kernel12Ideal.Skeleton
public import proofs.«01_k».proof.Proof.Softmax
public import Idealize.ShloMosaic.Lib.Pipeline.ValueKit
public import Idealize.ShloMosaic.Lib.Pointwise

/-! What the pieces of the memory branch’s gradient compute, entry by entry. -/

@[expose] public section

set_option maxRecDepth 16384

noncomputable section

open Idealize.ShloMosaic Idealize.ShloMosaic.TcCoe Idealize.SL.Sem
open Idealize.ShloMosaic.Pipeline (Dat)

namespace Cert.Kernel12Ideal.MemBwd

open Cert.Kernel12Ideal Cert.Kernel12Ideal.Gen
open Cert.Softmax

/-- The scores of head 0. -/
theorem pay8_apply (v3 : Vec Ideal S512x512 .bf16) (v7 : Vec Ideal S256x1024 .f32) (r : Fin 512) (k : Fin 256) :
    k0_pay8 (F := Ideal) v3 v7 (ix2 r k) = scores (fun j => v3 (ix2 r j)) (fun k j => v7 (ix2 k j)) 0 k := by
  have e (d : Fin 128) : 0 * 128 + d.val = d.val := by omega
  pointwise [k0_pay8, k0_pay6, k0_pay7]
  simp only [scores, score, Fin.val_zero, e]
  rfl

/-- The scores of head 1. -/
theorem pay11_apply (v3 : Vec Ideal S512x512 .bf16) (v7 : Vec Ideal S256x1024 .f32) (r : Fin 512) (k : Fin 256) :
    k0_pay11 (F := Ideal) v3 v7 (ix2 r k) = scores (fun j => v3 (ix2 r j)) (fun k j => v7 (ix2 k j)) 1 k := by
  pointwise [k0_pay11, k0_pay9, k0_pay10]; rfl

/-- The scores of head 2. -/
theorem pay14_apply (v3 : Vec Ideal S512x512 .bf16) (v7 : Vec Ideal S256x1024 .f32) (r : Fin 512) (k : Fin 256) :
    k0_pay14 (F := Ideal) v3 v7 (ix2 r k) = scores (fun j => v3 (ix2 r j)) (fun k j => v7 (ix2 k j)) 2 k := by
  pointwise [k0_pay14, k0_pay12, k0_pay13]; rfl

/-- The scores of head 3. -/
theorem pay17_apply (v3 : Vec Ideal S512x512 .bf16) (v7 : Vec Ideal S256x1024 .f32) (r : Fin 512) (k : Fin 256) :
    k0_pay17 (F := Ideal) v3 v7 (ix2 r k) = scores (fun j => v3 (ix2 r j)) (fun k j => v7 (ix2 k j)) 3 k := by
  pointwise [k0_pay17, k0_pay15, k0_pay16]; rfl

/-- The largest score of a row of the first head. -/
theorem pay18_apply (v3 : Vec Ideal S512x512 .bf16) (v7 : Vec Ideal S256x1024 .f32) (r : Fin 512) (u : Fin 1) :
    k0_pay18 (F := Ideal) v3 v7 (ix2 r u) = top (scores (fun j => v3 (ix2 r j)) (fun k j => v7 (ix2 k j)) 0) := by
  pointwise [k0_pay18]; simp only [pay8_apply]; rfl

/-- The weights of the first head. -/
theorem pay19_apply (v15 : FVec Ideal S512x256 .f32) (v38 : FVec Ideal S512x1 .f32) (r : Fin 512) (k : Fin 256) (hm : ∀ r u, v38 (ix2 r u) = top (fun k => v15 (ix2 r k))) :
    k0_pay19 (F := Ideal) v15 v38 (ix2 r k) = weight (fun k => v15 (ix2 r k)) k := by
  pointwise [k0_pay19]; rw [hm]; rfl

/-- The sum of the weights of the first head. -/
theorem pay20_apply (v15 : FVec Ideal S512x256 .f32) (v38 : FVec Ideal S512x1 .f32) (r : Fin 512) (u : Fin 1) (hm : ∀ r u, v38 (ix2 r u) = top (fun k => v15 (ix2 r k))) :
    k0_pay20 (F := Ideal) v15 v38 (ix2 r u) = total (fun k => v15 (ix2 r k)) := by
  pointwise [k0_pay20]; simp only [pay19_apply _ _ _ _ hm]; rfl

/-- The shares of the first head. -/
theorem pay21_apply (v15 : FVec Ideal S512x256 .f32) (v38 : FVec Ideal S512x1 .f32) (r : Fin 512) (k : Fin 256) (hm : ∀ r u, v38 (ix2 r u) = top (fun k => v15 (ix2 r k))) :
    k0_pay21 (F := Ideal) v15 v38 (ix2 r k) = prob (fun k => v15 (ix2 r k)) k := by
  pointwise [k0_pay21]; simp only [pay19_apply _ _ _ _ hm, pay20_apply _ _ _ _ hm]; rfl

/-- The shares of the first head, cast. -/
theorem pay36_apply (v15 : FVec Ideal S512x256 .f32) (v38 : FVec Ideal S512x1 .f32) (r : Fin 512) (k : Fin 256) (hm : ∀ r u, v38 (ix2 r u) = top (fun k => v15 (ix2 r k))) :
    k0_pay36 (F := Ideal) v15 v38 (ix2 r k) = prob (fun k => v15 (ix2 r k)) k := by
  pointwise [k0_pay36]; exact pay21_apply _ _ _ _ hm

/-- One over the squared sum of the first head. -/
theorem pay22_apply (v15 : FVec Ideal S512x256 .f32) (v38 : FVec Ideal S512x1 .f32) (r : Fin 512) (u : Fin 1) (hm : ∀ r u, v38 (ix2 r u) = top (fun k => v15 (ix2 r k))) :
    k0_pay22 (F := Ideal) v15 v38 (ix2 r u) = square (fun k => v15 (ix2 r k)) := by
  pointwise [k0_pay22]; simp only [pay20_apply _ _ _ _ hm]; rfl

/-- The weights of head 1. -/
theorem pay23_apply (v22 : FVec Ideal S512x256 .f32) (r : Fin 512) (k : Fin 256) :
    k0_pay23 (F := Ideal) v22 (ix2 r k) = weight (fun k => v22 (ix2 r k)) k := by
  pointwise [k0_pay23]; rfl

/-- The sum of the weights of head 1. -/
theorem pay24_apply (v22 : FVec Ideal S512x256 .f32) (r : Fin 512) (u : Fin 1) :
    k0_pay24 (F := Ideal) v22 (ix2 r u) = total (fun k => v22 (ix2 r k)) := by
  pointwise [k0_pay24]; simp only [pay23_apply]; rfl

/-- The shares of head 1. -/
theorem pay25_apply (v22 : FVec Ideal S512x256 .f32) (r : Fin 512) (k : Fin 256) :
    k0_pay25 (F := Ideal) v22 (ix2 r k) = prob (fun k => v22 (ix2 r k)) k := by
  pointwise [k0_pay25]; simp only [pay23_apply, pay24_apply]; rfl

/-- One over the squared sum of head 1. -/
theorem pay26_apply (v22 : FVec Ideal S512x256 .f32) (r : Fin 512) (u : Fin 1) :
    k0_pay26 (F := Ideal) v22 (ix2 r u) = square (fun k => v22 (ix2 r k)) := by
  pointwise [k0_pay26]; simp only [pay24_apply]; rfl

/-- The weights of head 2. -/
theorem pay27_apply (v29 : FVec Ideal S512x256 .f32) (r : Fin 512) (k : Fin 256) :
    k0_pay27 (F := Ideal) v29 (ix2 r k) = weight (fun k => v29 (ix2 r k)) k := by
  pointwise [k0_pay27]; rfl

/-- The sum of the weights of head 2. -/
theorem pay28_apply (v29 : FVec Ideal S512x256 .f32) (r : Fin 512) (u : Fin 1) :
    k0_pay28 (F := Ideal) v29 (ix2 r u) = total (fun k => v29 (ix2 r k)) := by
  pointwise [k0_pay28]; simp only [pay27_apply]; rfl

/-- The shares of head 2. -/
theorem pay29_apply (v29 : FVec Ideal S512x256 .f32) (r : Fin 512) (k : Fin 256) :
    k0_pay29 (F := Ideal) v29 (ix2 r k) = prob (fun k => v29 (ix2 r k)) k := by
  pointwise [k0_pay29]; simp only [pay27_apply, pay28_apply]; rfl

/-- One over the squared sum of head 2. -/
theorem pay30_apply (v29 : FVec Ideal S512x256 .f32) (r : Fin 512) (u : Fin 1) :
    k0_pay30 (F := Ideal) v29 (ix2 r u) = square (fun k => v29 (ix2 r k)) := by
  pointwise [k0_pay30]; simp only [pay28_apply]; rfl

/-- The weights of head 3. -/
theorem pay31_apply (v36 : FVec Ideal S512x256 .f32) (r : Fin 512) (k : Fin 256) :
    k0_pay31 (F := Ideal) v36 (ix2 r k) = weight (fun k => v36 (ix2 r k)) k := by
  pointwise [k0_pay31]; rfl

/-- The sum of the weights of head 3. -/
theorem pay32_apply (v36 : FVec Ideal S512x256 .f32) (r : Fin 512) (u : Fin 1) :
    k0_pay32 (F := Ideal) v36 (ix2 r u) = total (fun k => v36 (ix2 r k)) := by
  pointwise [k0_pay32]; simp only [pay31_apply]; rfl

/-- The shares of head 3. -/
theorem pay33_apply (v36 : FVec Ideal S512x256 .f32) (r : Fin 512) (k : Fin 256) :
    k0_pay33 (F := Ideal) v36 (ix2 r k) = prob (fun k => v36 (ix2 r k)) k := by
  pointwise [k0_pay33]; simp only [pay31_apply, pay32_apply]; rfl

/-- One over the squared sum of head 3. -/
theorem pay34_apply (v36 : FVec Ideal S512x256 .f32) (r : Fin 512) (u : Fin 1) :
    k0_pay34 (F := Ideal) v36 (ix2 r u) = square (fun k => v36 (ix2 r k)) := by
  pointwise [k0_pay34]; simp only [pay32_apply]; rfl

/-- The cotangents of a row of the attention: those of the branch times its gate. -/
def gated (v6 v8 : Vec Ideal S512x512 .f32) (r j : Fin 512) : EReal :=
  v8 (ix2 r j) * (v6 (ix2 r j) * Ideal.logistic (v6 (ix2 r j)))

/-- The cotangents of head 0. -/
theorem pay44_apply (v6 : FVec Ideal S512x512 .f32) (v8 : Vec Ideal S512x512 .f32) (r : Fin 512) (d : Fin 128) :
    k0_pay44 (F := Ideal) v6 v8 (ix2 r d) = gated v6 v8 r ⟨0 + d.val, by omega⟩ := by
  have e : (⟨0 + d.val, by omega⟩ : Fin 512) = ⟨d.val, by omega⟩ := Fin.ext (by first | omega | (dsimp only; omega))
  rw [e]; pointwise [k0_pay44, k0_pay42, k0_pay41]; rfl

/-- The cotangents of head 1. -/
theorem pay45_apply (v6 : FVec Ideal S512x512 .f32) (v8 : Vec Ideal S512x512 .f32) (r : Fin 512) (d : Fin 128) :
    k0_pay45 (F := Ideal) v6 v8 (ix2 r d) = gated v6 v8 r ⟨128 + d.val, by omega⟩ := by
  pointwise [k0_pay45, k0_pay42, k0_pay41]; rfl

/-- The cotangents of head 2. -/
theorem pay46_apply (v6 : FVec Ideal S512x512 .f32) (v8 : Vec Ideal S512x512 .f32) (r : Fin 512) (d : Fin 128) :
    k0_pay46 (F := Ideal) v6 v8 (ix2 r d) = gated v6 v8 r ⟨256 + d.val, by omega⟩ := by
  pointwise [k0_pay46, k0_pay42, k0_pay41]; rfl

/-- The cotangents of head 3. -/
theorem pay47_apply (v6 : FVec Ideal S512x512 .f32) (v8 : Vec Ideal S512x512 .f32) (r : Fin 512) (d : Fin 128) :
    k0_pay47 (F := Ideal) v6 v8 (ix2 r d) = gated v6 v8 r ⟨384 + d.val, by omega⟩ := by
  pointwise [k0_pay47, k0_pay42, k0_pay41]; rfl

/-- The cotangents of the shares of head 3. -/
theorem pay48_apply (v6 : FVec Ideal S512x512 .f32) (v7 : Vec Ideal S256x1024 .f32) (v8 : Vec Ideal S512x512 .f32) (r : Fin 512) (k : Fin 256) :
    k0_pay48 (F := Ideal) v6 v7 v8 (ix2 r k) = shares (gated v6 v8 r) (fun k j => v7 (ix2 k j)) 3 k := by
  pointwise [k0_pay48, k0_pay40]
  simp only [pay47_apply, shares]
  rfl

/-- The cotangents of the shares of head 2. -/
theorem pay49_apply (v6 : FVec Ideal S512x512 .f32) (v7 : Vec Ideal S256x1024 .f32) (v8 : Vec Ideal S512x512 .f32) (r : Fin 512) (k : Fin 256) :
    k0_pay49 (F := Ideal) v6 v7 v8 (ix2 r k) = shares (gated v6 v8 r) (fun k j => v7 (ix2 k j)) 2 k := by
  pointwise [k0_pay49, k0_pay39]
  simp only [pay46_apply, shares]
  rfl

/-- The cotangents of the shares of head 1. -/
theorem pay52_apply (v89 : FVec Ideal S256x128 .f32) (v135 : FVec Ideal S512x128 .bf16) (r : Fin 512) (k : Fin 256) :
    k0_pay52 (F := Ideal) v89 v135 (ix2 r k) = ∑ d, v135 (ix2 r d) * v89 (ix2 k d) := by
  pointwise [k0_pay52]

/-- The cotangents of the shares of head 0. -/
theorem pay53_apply (v85 : FVec Ideal S256x128 .f32) (v113 : FVec Ideal S512x128 .f32) (r : Fin 512) (k : Fin 256) :
    k0_pay53 (F := Ideal) v85 v113 (ix2 r k) = ∑ d, v113 (ix2 r d) * v85 (ix2 k d) := by
  pointwise [k0_pay53]

/-- The gradient of the softmax of one head, from its pieces. -/
theorem pay55_apply (v77 : FVec Ideal S512x256 .f32) (v79 : FVec Ideal S512x1 .f32) (v84 : FVec Ideal S512x1 .f32) (v119 : FVec Ideal S512x256 .f32) (r : Fin 512) (k : Fin 256) :
    k0_pay55 (F := Ideal) v77 v79 v84 v119 (ix2 r k) = (Ideal.div (v119 (ix2 r k)) (v79 (ix2 r 0)) + -(∑ k, v119 (ix2 r k) * v84 (ix2 r 0) * v77 (ix2 r k))) * v77 (ix2 r k) := by
  pointwise [k0_pay55]
  rw [@Fin.sum_univ_one EReal _ _, sub_eq_add_neg, @zero_add EReal _]

/-- The gradient of the softmax of one head, from its pieces. -/
theorem pay57_apply (v53 : FVec Ideal S512x256 .f32) (v55 : FVec Ideal S512x1 .f32) (v60 : FVec Ideal S512x1 .f32) (v137 : FVec Ideal S512x256 .f32) (r : Fin 512) (k : Fin 256) :
    k0_pay57 (F := Ideal) v53 v55 v60 v137 (ix2 r k) = (Ideal.div (v137 (ix2 r k)) (v55 (ix2 r 0)) + -(∑ k, v137 (ix2 r k) * v60 (ix2 r 0) * v53 (ix2 r k))) * v53 (ix2 r k) := by
  pointwise [k0_pay57]
  rw [@Fin.sum_univ_one EReal _ _, sub_eq_add_neg, @zero_add EReal _]

/-- The gradient of the softmax of one head, from its pieces. -/
theorem pay58_apply (v41 : FVec Ideal S512x256 .f32) (v43 : FVec Ideal S512x1 .f32) (v48 : FVec Ideal S512x1 .f32) (v147 : FVec Ideal S512x256 .f32) (r : Fin 512) (k : Fin 256) :
    k0_pay58 (F := Ideal) v41 v43 v48 v147 (ix2 r k) = (Ideal.div (v147 (ix2 r k)) (v43 (ix2 r 0)) + -(∑ k, v147 (ix2 r k) * v48 (ix2 r 0) * v41 (ix2 r k))) * v41 (ix2 r k) := by
  pointwise [k0_pay58]
  rw [@Fin.sum_univ_one EReal _ _, sub_eq_add_neg, @zero_add EReal _]

/-- The gradient of the softmax of one head, from its pieces. -/
theorem pay56_apply (v65 : FVec Ideal S512x256 .f32) (v67 : FVec Ideal S512x1 .f32) (v72 : FVec Ideal S512x1 .f32) (v127 : FVec Ideal S512x256 .f32) (r : Fin 512) (k : Fin 256) :
    k0_pay56 (F := Ideal) v65 v67 v72 v127 (ix2 r k) = (Ideal.div (v127 (ix2 r k)) (v67 (ix2 r 0)) + -(∑ k, v127 (ix2 r k) * v72 (ix2 r 0) * v65 (ix2 r k))) := by
  pointwise [k0_pay56]
  rw [@Fin.sum_univ_one EReal _ _, sub_eq_add_neg, @zero_add EReal _]

section
variable (v10 v17 : FVec Ideal S256x128 .f32) (v196 v210 : FVec Ideal S512x256 .f32) (v227 : FVec Ideal S512x256 .bf16) (v228 : FVec Ideal S256x128 .bf16) (v31 : FVec Ideal S256x128 .f32) (v168 : FVec Ideal S512x256 .f32)

/-- The columns of head 0 in the gradient of the queries. -/
theorem query_0 (r : Fin 512) (j : Fin 512) (hj : j.val / 128 = 0) :
    k0_pay68 (F := Ideal) v10 v17 v196 v210 (k0_pay61 v31 v168) v227 v228 (ix2 r j) = ∑ k, v210 (ix2 r k) * Ideal.ofBits .f32 0x3DB504F3#32 * v10 (ix2 k (⟨j.val, by omega⟩ : Fin 128)) := by
  pointwise [k0_pay68, k0_pay65, k0_pay66, k0_pay61, k0_pay59]
  simp only [show j.val < 384 by omega, show j.val < 256 by omega, show j.val - 256 < 128 by omega, show j.val < 128 by omega, show j.val - 128 < 128 by omega, not_false_eq_true, ↓reduceDIte, @zero_add EReal _, @add_zero EReal _]

/-- The columns of head 1 in the gradient of the queries. -/
theorem query_1 (r : Fin 512) (j : Fin 512) (hj : j.val / 128 = 1) :
    k0_pay68 (F := Ideal) v10 v17 v196 v210 (k0_pay61 v31 v168) v227 v228 (ix2 r j) = ∑ k, v196 (ix2 r k) * Ideal.ofBits .f32 0x3DB504F3#32 * v17 (ix2 k (⟨j.val - 128, by omega⟩ : Fin 128)) := by
  pointwise [k0_pay68, k0_pay65, k0_pay66, k0_pay61, k0_pay59]
  simp only [show j.val < 384 by omega, show j.val < 256 by omega, show j.val - 256 < 128 by omega, show ¬ j.val < 128 by omega, show j.val - 128 < 128 by omega, not_false_eq_true, ↓reduceDIte, @zero_add EReal _, @add_zero EReal _]

/-- The columns of head 2 in the gradient of the queries. -/
theorem query_2 (r : Fin 512) (j : Fin 512) (hj : j.val / 128 = 2) :
    k0_pay68 (F := Ideal) v10 v17 v196 v210 (k0_pay61 v31 v168) v227 v228 (ix2 r j) = ∑ k, v227 (ix2 r k) * v228 (ix2 k (⟨j.val - 256, by omega⟩ : Fin 128)) := by
  pointwise [k0_pay68, k0_pay65, k0_pay66, k0_pay61, k0_pay59]
  simp only [show j.val < 384 by omega, show ¬ j.val < 256 by omega, show j.val - 256 < 128 by omega, show ¬ j.val < 128 by omega, show ¬ j.val - 128 < 128 by omega, not_false_eq_true, ↓reduceDIte, @zero_add EReal _, @add_zero EReal _]

/-- The columns of head 3 in the gradient of the queries. -/
theorem query_3 (r : Fin 512) (j : Fin 512) (hj : j.val / 128 = 3) :
    k0_pay68 (F := Ideal) v10 v17 v196 v210 (k0_pay61 v31 v168) v227 v228 (ix2 r j) = ∑ k, v168 (ix2 r k) * Ideal.ofBits .f32 0x3DB504F3#32 * v31 (ix2 k (⟨j.val - 384, by omega⟩ : Fin 128)) := by
  pointwise [k0_pay68, k0_pay65, k0_pay66, k0_pay61, k0_pay59]
  simp only [show ¬ j.val < 384 by omega, show ¬ j.val < 256 by omega, show ¬ j.val - 256 < 128 by omega, show ¬ j.val < 128 by omega, show ¬ j.val - 128 < 128 by omega, not_false_eq_true, ↓reduceDIte, @zero_add EReal _, @add_zero EReal _]

end

section
variable (v6 : FVec Ideal S512x512 .f32) (v7 : Vec Ideal S256x1024 .f32) (v8 : Vec Ideal S512x512 .f32) (v57 v69 v81 : FVec Ideal S512x256 .f32) (v86 : FVec Ideal S512x256 .bf16) (v87 : FVec Ideal S256x128 .bf16)

/-- The columns of head 0 in the gradient of the gate’s input. -/
theorem gate_0 (r : Fin 512) (j : Fin 512) (hj : j.val / 128 = 0) :
    k0_pay43 (F := Ideal) v6 v7 v8 v57 v69 v81 v86 v87 (ix2 r j) = (∑ k, v86 (ix2 r k) * v87 (ix2 k (⟨j.val, by omega⟩ : Fin 128))) * v8 (ix2 r j) * Ideal.logistic (v6 (ix2 r j)) + v6 (ix2 r j) * ((∑ k, v86 (ix2 r k) * v87 (ix2 k (⟨j.val, by omega⟩ : Fin 128))) * v8 (ix2 r j)) * (Ideal.logistic (v6 (ix2 r j)) * (1 - Ideal.logistic (v6 (ix2 r j)))) := by
  pointwise [k0_pay43, k0_pay41, k0_pay38, k0_pay39, k0_pay40]
  simp only [show j.val < 128 by omega, show j.val - 128 < 128 by omega, show j.val - 128 - 128 < 128 by omega, not_false_eq_true, ↓reduceDIte, @zero_add EReal _, @add_zero EReal _]

/-- The columns of head 1 in the gradient of the gate’s input. -/
theorem gate_1 (r : Fin 512) (j : Fin 512) (hj : j.val / 128 = 1) :
    k0_pay43 (F := Ideal) v6 v7 v8 v57 v69 v81 v86 v87 (ix2 r j) = (∑ k, v57 (ix2 r k) * v7 (ix2 k ⟨640 + (j.val - 128), by omega⟩)) * v8 (ix2 r j) * Ideal.logistic (v6 (ix2 r j)) + v6 (ix2 r j) * ((∑ k, v57 (ix2 r k) * v7 (ix2 k ⟨640 + (j.val - 128), by omega⟩)) * v8 (ix2 r j)) * (Ideal.logistic (v6 (ix2 r j)) * (1 - Ideal.logistic (v6 (ix2 r j)))) := by
  pointwise [k0_pay43, k0_pay41, k0_pay38, k0_pay39, k0_pay40]
  simp only [show ¬ j.val < 128 by omega, show j.val - 128 < 128 by omega, show j.val - 128 - 128 < 128 by omega, not_false_eq_true, ↓reduceDIte, @zero_add EReal _, @add_zero EReal _]

/-- The columns of head 2 in the gradient of the gate’s input. -/
theorem gate_2 (r : Fin 512) (j : Fin 512) (hj : j.val / 128 = 2) :
    k0_pay43 (F := Ideal) v6 v7 v8 v57 v69 v81 v86 v87 (ix2 r j) = (∑ k, v69 (ix2 r k) * v7 (ix2 k ⟨768 + (j.val - 128 - 128), by omega⟩)) * v8 (ix2 r j) * Ideal.logistic (v6 (ix2 r j)) + v6 (ix2 r j) * ((∑ k, v69 (ix2 r k) * v7 (ix2 k ⟨768 + (j.val - 128 - 128), by omega⟩)) * v8 (ix2 r j)) * (Ideal.logistic (v6 (ix2 r j)) * (1 - Ideal.logistic (v6 (ix2 r j)))) := by
  pointwise [k0_pay43, k0_pay41, k0_pay38, k0_pay39, k0_pay40]
  simp only [show ¬ j.val < 128 by omega, show ¬ j.val - 128 < 128 by omega, show j.val - 128 - 128 < 128 by omega, not_false_eq_true, ↓reduceDIte, @zero_add EReal _, @add_zero EReal _]

/-- The columns of head 3 in the gradient of the gate’s input. -/
theorem gate_3 (r : Fin 512) (j : Fin 512) (hj : j.val / 128 = 3) :
    k0_pay43 (F := Ideal) v6 v7 v8 v57 v69 v81 v86 v87 (ix2 r j) = (∑ k, v81 (ix2 r k) * v7 (ix2 k ⟨896 + (j.val - 128 - 128 - 128), by omega⟩)) * v8 (ix2 r j) * Ideal.logistic (v6 (ix2 r j)) + v6 (ix2 r j) * ((∑ k, v81 (ix2 r k) * v7 (ix2 k ⟨896 + (j.val - 128 - 128 - 128), by omega⟩)) * v8 (ix2 r j)) * (Ideal.logistic (v6 (ix2 r j)) * (1 - Ideal.logistic (v6 (ix2 r j)))) := by
  pointwise [k0_pay43, k0_pay41, k0_pay38, k0_pay39, k0_pay40]
  simp only [show ¬ j.val < 128 by omega, show ¬ j.val - 128 < 128 by omega, show ¬ j.val - 128 - 128 < 128 by omega, not_false_eq_true, ↓reduceDIte, @zero_add EReal _, @add_zero EReal _]

end

section
variable (v9 v16 v23 : FVec Ideal S512x128 .f32) (v196 v210 v226 : FVec Ideal S512x256 .f32) (v30 : FVec Ideal S512x128 .f32) (v168 v45 v57 : FVec Ideal S512x256 .f32) (v113 v114 : FVec Ideal S512x128 .f32) (v6 : FVec Ideal S512x512 .f32) (v8 : Vec Ideal S512x512 .f32) (v69 v81 : FVec Ideal S512x256 .f32)

/-- The columns from 0 on in the gradient of the memory. -/
theorem memory_0 (k : Fin 256) (j : Fin 1024) (hj : j.val / 128 = 0) :
    k0_pay67 (F := Ideal) v9 v16 v23 v196 v210 (k0_pay60 v30 (k0_pay54 v45 v57 v113 v114 (k0_pay50 v6 v8 v69 v81)) v168) v226 (ix2 k j) = ∑ r, v210 (ix2 r k) * Ideal.ofBits .f32 0x3DB504F3#32 * v9 (ix2 r (⟨j.val, by omega⟩ : Fin 128)) := by
  pointwise [k0_pay67, k0_pay65, k0_pay66, k0_pay60, k0_pay59, k0_pay54, k0_pay50]
  simp only [show j.val < 896 by omega, show j.val < 768 by omega, show j.val - 768 < 128 by omega, show j.val < 640 by omega, show j.val - 640 < 128 by omega, show j.val < 512 by omega, show j.val - 512 < 128 by omega, show j.val < 384 by omega, show j.val - 384 < 128 by omega, show j.val < 256 by omega, show j.val - 256 < 128 by omega, show j.val < 128 by omega, show j.val - 128 < 128 by omega, not_false_eq_true, ↓reduceDIte, @zero_add EReal _, @add_zero EReal _]

/-- The columns from 128 on in the gradient of the memory. -/
theorem memory_1 (k : Fin 256) (j : Fin 1024) (hj : j.val / 128 = 1) :
    k0_pay67 (F := Ideal) v9 v16 v23 v196 v210 (k0_pay60 v30 (k0_pay54 v45 v57 v113 v114 (k0_pay50 v6 v8 v69 v81)) v168) v226 (ix2 k j) = ∑ r, v196 (ix2 r k) * Ideal.ofBits .f32 0x3DB504F3#32 * v16 (ix2 r (⟨j.val - 128, by omega⟩ : Fin 128)) := by
  pointwise [k0_pay67, k0_pay65, k0_pay66, k0_pay60, k0_pay59, k0_pay54, k0_pay50]
  simp only [show j.val < 896 by omega, show j.val < 768 by omega, show j.val - 768 < 128 by omega, show j.val < 640 by omega, show j.val - 640 < 128 by omega, show j.val < 512 by omega, show j.val - 512 < 128 by omega, show j.val < 384 by omega, show j.val - 384 < 128 by omega, show j.val < 256 by omega, show j.val - 256 < 128 by omega, show ¬ j.val < 128 by omega, show j.val - 128 < 128 by omega, not_false_eq_true, ↓reduceDIte, @zero_add EReal _, @add_zero EReal _]

/-- The columns from 256 on in the gradient of the memory. -/
theorem memory_2 (k : Fin 256) (j : Fin 1024) (hj : j.val / 128 = 2) :
    k0_pay67 (F := Ideal) v9 v16 v23 v196 v210 (k0_pay60 v30 (k0_pay54 v45 v57 v113 v114 (k0_pay50 v6 v8 v69 v81)) v168) v226 (ix2 k j) = ∑ r, v226 (ix2 r k) * v23 (ix2 r (⟨j.val - 256, by omega⟩ : Fin 128)) := by
  pointwise [k0_pay67, k0_pay65, k0_pay66, k0_pay60, k0_pay59, k0_pay54, k0_pay50]
  simp only [show j.val < 896 by omega, show j.val < 768 by omega, show j.val - 768 < 128 by omega, show j.val < 640 by omega, show j.val - 640 < 128 by omega, show j.val < 512 by omega, show j.val - 512 < 128 by omega, show j.val < 384 by omega, show j.val - 384 < 128 by omega, show ¬ j.val < 256 by omega, show j.val - 256 < 128 by omega, show ¬ j.val < 128 by omega, show ¬ j.val - 128 < 128 by omega, not_false_eq_true, ↓reduceDIte, @zero_add EReal _, @add_zero EReal _]

/-- The columns from 384 on in the gradient of the memory. -/
theorem memory_3 (k : Fin 256) (j : Fin 1024) (hj : j.val / 128 = 3) :
    k0_pay67 (F := Ideal) v9 v16 v23 v196 v210 (k0_pay60 v30 (k0_pay54 v45 v57 v113 v114 (k0_pay50 v6 v8 v69 v81)) v168) v226 (ix2 k j) = ∑ r, v168 (ix2 r k) * Ideal.ofBits .f32 0x3DB504F3#32 * v30 (ix2 r (⟨j.val - 384, by omega⟩ : Fin 128)) := by
  pointwise [k0_pay67, k0_pay65, k0_pay66, k0_pay60, k0_pay59, k0_pay54, k0_pay50]
  simp only [show j.val < 896 by omega, show j.val < 768 by omega, show j.val - 768 < 128 by omega, show j.val < 640 by omega, show j.val - 640 < 128 by omega, show j.val < 512 by omega, show j.val - 512 < 128 by omega, show ¬ j.val < 384 by omega, show j.val - 384 < 128 by omega, show ¬ j.val < 256 by omega, show ¬ j.val - 256 < 128 by omega, show ¬ j.val < 128 by omega, show ¬ j.val - 128 < 128 by omega, not_false_eq_true, ↓reduceDIte, @zero_add EReal _, @add_zero EReal _]

/-- The columns from 512 on in the gradient of the memory. -/
theorem memory_4 (k : Fin 256) (j : Fin 1024) (hj : j.val / 128 = 4) :
    k0_pay67 (F := Ideal) v9 v16 v23 v196 v210 (k0_pay60 v30 (k0_pay54 v45 v57 v113 v114 (k0_pay50 v6 v8 v69 v81)) v168) v226 (ix2 k j) = ∑ r, v45 (ix2 r k) * v113 (ix2 r (⟨j.val - 512, by omega⟩ : Fin 128)) := by
  pointwise [k0_pay67, k0_pay65, k0_pay66, k0_pay60, k0_pay59, k0_pay54, k0_pay50]
  simp only [show j.val < 896 by omega, show j.val < 768 by omega, show j.val - 768 < 128 by omega, show j.val < 640 by omega, show j.val - 640 < 128 by omega, show ¬ j.val < 512 by omega, show j.val - 512 < 128 by omega, show ¬ j.val < 384 by omega, show ¬ j.val - 384 < 128 by omega, show ¬ j.val < 256 by omega, show ¬ j.val - 256 < 128 by omega, show ¬ j.val < 128 by omega, show ¬ j.val - 128 < 128 by omega, not_false_eq_true, ↓reduceDIte, @zero_add EReal _, @add_zero EReal _]

/-- The columns from 640 on in the gradient of the memory. -/
theorem memory_5 (k : Fin 256) (j : Fin 1024) (hj : j.val / 128 = 5) :
    k0_pay67 (F := Ideal) v9 v16 v23 v196 v210 (k0_pay60 v30 (k0_pay54 v45 v57 v113 v114 (k0_pay50 v6 v8 v69 v81)) v168) v226 (ix2 k j) = ∑ r, v57 (ix2 r k) * v114 (ix2 r (⟨j.val - 640, by omega⟩ : Fin 128)) := by
  pointwise [k0_pay67, k0_pay65, k0_pay66, k0_pay60, k0_pay59, k0_pay54, k0_pay50]
  simp only [show j.val < 896 by omega, show j.val < 768 by omega, show j.val - 768 < 128 by omega, show ¬ j.val < 640 by omega, show j.val - 640 < 128 by omega, show ¬ j.val < 512 by omega, show ¬ j.val - 512 < 128 by omega, show ¬ j.val < 384 by omega, show ¬ j.val - 384 < 128 by omega, show ¬ j.val < 256 by omega, show ¬ j.val - 256 < 128 by omega, show ¬ j.val < 128 by omega, show ¬ j.val - 128 < 128 by omega, not_false_eq_true, ↓reduceDIte, @zero_add EReal _, @add_zero EReal _]

/-- The columns from 768 on in the gradient of the memory. -/
theorem memory_6 (k : Fin 256) (j : Fin 1024) (hj : j.val / 128 = 6) :
    k0_pay67 (F := Ideal) v9 v16 v23 v196 v210 (k0_pay60 v30 (k0_pay54 v45 v57 v113 v114 (k0_pay50 v6 v8 v69 v81)) v168) v226 (ix2 k j) = ∑ r, v69 (ix2 r k) * k0_pay46 v6 v8 (ix2 r (⟨j.val - 768, by omega⟩ : Fin 128)) := by
  pointwise [k0_pay67, k0_pay65, k0_pay66, k0_pay60, k0_pay59, k0_pay54, k0_pay50]
  simp only [show j.val < 896 by omega, show ¬ j.val < 768 by omega, show j.val - 768 < 128 by omega, show ¬ j.val < 640 by omega, show ¬ j.val - 640 < 128 by omega, show ¬ j.val < 512 by omega, show ¬ j.val - 512 < 128 by omega, show ¬ j.val < 384 by omega, show ¬ j.val - 384 < 128 by omega, show ¬ j.val < 256 by omega, show ¬ j.val - 256 < 128 by omega, show ¬ j.val < 128 by omega, show ¬ j.val - 128 < 128 by omega, not_false_eq_true, ↓reduceDIte, @zero_add EReal _, @add_zero EReal _]

/-- The columns from 896 on in the gradient of the memory. -/
theorem memory_7 (k : Fin 256) (j : Fin 1024) (hj : j.val / 128 = 7) :
    k0_pay67 (F := Ideal) v9 v16 v23 v196 v210 (k0_pay60 v30 (k0_pay54 v45 v57 v113 v114 (k0_pay50 v6 v8 v69 v81)) v168) v226 (ix2 k j) = ∑ r, v81 (ix2 r k) * k0_pay47 v6 v8 (ix2 r (⟨j.val - 896, by omega⟩ : Fin 128)) := by
  pointwise [k0_pay67, k0_pay65, k0_pay66, k0_pay60, k0_pay59, k0_pay54, k0_pay50]
  simp only [show ¬ j.val < 896 by omega, show ¬ j.val < 768 by omega, show ¬ j.val - 768 < 128 by omega, show ¬ j.val < 640 by omega, show ¬ j.val - 640 < 128 by omega, show ¬ j.val < 512 by omega, show ¬ j.val - 512 < 128 by omega, show ¬ j.val < 384 by omega, show ¬ j.val - 384 < 128 by omega, show ¬ j.val < 256 by omega, show ¬ j.val - 256 < 128 by omega, show ¬ j.val < 128 by omega, show ¬ j.val - 128 < 128 by omega, not_false_eq_true, ↓reduceDIte, @zero_add EReal _, @add_zero EReal _]

end

/-- The cotangents of the shares of head 0. -/
theorem shares_0 (v5 : Vec Ideal S512x512 .bf16) (v7 : Vec Ideal S256x1024 .f32) (v8 : Vec Ideal S512x512 .f32) (r : Fin 512) (k : Fin 256) :
    k0_pay53 (F := Ideal) (k0_pay35 v7) (k0_pay44 (k0_pay5 v5) v8) (ix2 r k) = (shares (gated (k0_pay5 v5) v8 r) (fun k j => v7 (ix2 k j)) 0) k := by
  rw [pay53_apply]
  refine @Finset.sum_congr _ EReal _ _ _ _ _ rfl fun d _ => ?_
  have e : 0 * 128 + d.val = 0 + d.val := by omega
  rw [pay44_apply]
  simp only [Fin.val_zero, e]
  refine congrArg₂ (· * ·) rfl ?_
  pointwise [k0_pay35]

/-- The cotangents of the shares of head 1. -/
theorem shares_1 (v5 : Vec Ideal S512x512 .bf16) (v7 : Vec Ideal S256x1024 .f32) (v8 : Vec Ideal S512x512 .f32) (r : Fin 512) (k : Fin 256) :
    k0_pay52 (F := Ideal) (k0_pay38 v7) (k0_pay51 (k0_pay5 v5) v8) (ix2 r k) = (shares (gated (k0_pay5 v5) v8 r) (fun k j => v7 (ix2 k j)) 1) k := by
  rw [pay52_apply]
  refine @Finset.sum_congr _ EReal _ _ _ _ _ rfl fun d _ => ?_
  have h1 : k0_pay51 (F := Ideal) (k0_pay5 v5) v8 (ix2 r d) = k0_pay45 (F := Ideal) (k0_pay5 v5) v8 (ix2 r d) := by
    pointwise [k0_pay51]
  rw [h1, pay45_apply]
  refine congrArg₂ (· * ·) rfl ?_
  pointwise [k0_pay38]
  exact congrArg (fun j => v7 (ix2 k j)) (Fin.ext (by show 640 + d.val = 512 + (1 * 128 + d.val); omega))

section
variable (v3 v5 : Vec Ideal S512x512 .bf16) (v7 : Vec Ideal S256x1024 .f32) (v8 : Vec Ideal S512x512 .f32)

/-- The gradient of the scores of head 0. -/
theorem pull_0 (r : Fin 512) (k : Fin 256) :
    k0_pay58 (F := Ideal) (k0_pay19 (k0_pay8 v3 v7) (k0_pay18 v3 v7)) (k0_pay20 (k0_pay8 v3 v7) (k0_pay18 v3 v7)) (k0_pay22 (k0_pay8 v3 v7) (k0_pay18 v3 v7)) (k0_pay53 (k0_pay35 v7) (k0_pay44 (k0_pay5 v5) v8)) (ix2 r k) = pull (scores (fun j => v3 (ix2 r j)) (fun k j => v7 (ix2 k j)) 0) (shares (gated (k0_pay5 v5) v8 r) (fun k j => v7 (ix2 k j)) 0) k := by
  have hm (r : Fin 512) (u : Fin 1) : k0_pay18 (F := Ideal) v3 v7 (ix2 r u) = top (fun k => k0_pay8 (F := Ideal) v3 v7 (ix2 r k)) := by
    simp only [pay18_apply, pay8_apply]
  simp only [pay58_apply, shares_0, pay19_apply _ _ _ _ hm, pay20_apply _ _ _ _ hm, pay22_apply _ _ _ _ hm, pay8_apply]
  rfl

/-- The gradient of the scores of head 1. -/
theorem pull_1 (r : Fin 512) (k : Fin 256) :
    k0_pay57 (F := Ideal) (k0_pay23 (k0_pay11 v3 v7)) (k0_pay24 (k0_pay11 v3 v7)) (k0_pay26 (k0_pay11 v3 v7)) (k0_pay52 (k0_pay38 v7) (k0_pay51 (k0_pay5 v5) v8)) (ix2 r k) = pull (scores (fun j => v3 (ix2 r j)) (fun k j => v7 (ix2 k j)) 1) (shares (gated (k0_pay5 v5) v8 r) (fun k j => v7 (ix2 k j)) 1) k := by
  simp only [pay57_apply, shares_1, pay23_apply, pay24_apply, pay26_apply, pay11_apply]
  rfl

/-- The gradient of the scores of head 2. -/
theorem pull_2 (r : Fin 512) (k : Fin 256) :
    (k0_pay56 (F := Ideal) (k0_pay27 (k0_pay14 v3 v7)) (k0_pay28 (k0_pay14 v3 v7)) (k0_pay30 (k0_pay14 v3 v7)) (k0_pay49 (k0_pay5 v5) v7 v8) (ix2 r k) * weight (scores (fun j => v3 (ix2 r j)) (fun k j => v7 (ix2 k j)) 2) k) = pull (scores (fun j => v3 (ix2 r j)) (fun k j => v7 (ix2 k j)) 2) (shares (gated (k0_pay5 v5) v8 r) (fun k j => v7 (ix2 k j)) 2) k := by
  simp only [pay56_apply, pay49_apply, pay27_apply, pay28_apply, pay30_apply, pay14_apply]
  rfl

/-- The gradient of the scores of head 3. -/
theorem pull_3 (r : Fin 512) (k : Fin 256) :
    k0_pay55 (F := Ideal) (k0_pay31 (k0_pay17 v3 v7)) (k0_pay32 (k0_pay17 v3 v7)) (k0_pay34 (k0_pay17 v3 v7)) (k0_pay48 (k0_pay5 v5) v7 v8) (ix2 r k) = pull (scores (fun j => v3 (ix2 r j)) (fun k j => v7 (ix2 k j)) 3) (shares (gated (k0_pay5 v5) v8 r) (fun k j => v7 (ix2 k j)) 3) k := by
  simp only [pay55_apply, pay48_apply, pay31_apply, pay32_apply, pay34_apply, pay17_apply]
  rfl

end

/-- The queries of head 0. -/
theorem pay6_apply (v3 : Vec Ideal S512x512 .bf16) (r : Fin 512) (d : Fin 128) :
    k0_pay6 (F := Ideal) v3 (ix2 r d) = v3 (ix2 r ⟨d.val, by omega⟩) := by
  pointwise [k0_pay6, k0_pay4]

/-- The keys of head 0. -/
theorem pay7_apply (v7 : Vec Ideal S256x1024 .f32) (k : Fin 256) (d : Fin 128) :
    k0_pay7 (F := Ideal) v7 (ix2 k d) = v7 (ix2 k ⟨d.val, by omega⟩) := by
  pointwise [k0_pay7]

/-- The queries of head 1. -/
theorem pay9_apply (v3 : Vec Ideal S512x512 .bf16) (r : Fin 512) (d : Fin 128) :
    k0_pay9 (F := Ideal) v3 (ix2 r d) = v3 (ix2 r ⟨128 + d.val, by omega⟩) := by
  pointwise [k0_pay9, k0_pay4]

/-- The keys of head 1. -/
theorem pay10_apply (v7 : Vec Ideal S256x1024 .f32) (k : Fin 256) (d : Fin 128) :
    k0_pay10 (F := Ideal) v7 (ix2 k d) = v7 (ix2 k ⟨128 + d.val, by omega⟩) := by
  pointwise [k0_pay10]

/-- The queries of head 2. -/
theorem pay12_apply (v3 : Vec Ideal S512x512 .bf16) (r : Fin 512) (d : Fin 128) :
    k0_pay12 (F := Ideal) v3 (ix2 r d) = v3 (ix2 r ⟨256 + d.val, by omega⟩) := by
  pointwise [k0_pay12, k0_pay4]

/-- The keys of head 2. -/
theorem pay13_apply (v7 : Vec Ideal S256x1024 .f32) (k : Fin 256) (d : Fin 128) :
    k0_pay13 (F := Ideal) v7 (ix2 k d) = v7 (ix2 k ⟨256 + d.val, by omega⟩) := by
  pointwise [k0_pay13]

/-- The queries of head 3. -/
theorem pay15_apply (v3 : Vec Ideal S512x512 .bf16) (r : Fin 512) (d : Fin 128) :
    k0_pay15 (F := Ideal) v3 (ix2 r d) = v3 (ix2 r ⟨384 + d.val, by omega⟩) := by
  pointwise [k0_pay15, k0_pay4]

/-- The keys of head 3. -/
theorem pay16_apply (v7 : Vec Ideal S256x1024 .f32) (k : Fin 256) (d : Fin 128) :
    k0_pay16 (F := Ideal) v7 (ix2 k d) = v7 (ix2 k ⟨384 + d.val, by omega⟩) := by
  pointwise [k0_pay16]

/-- A cast. -/
theorem pay64_apply (v24 : FVec Ideal S256x128 .f32) (k : Fin 256) (d : Fin 128) :
    k0_pay64 (F := Ideal) v24 (ix2 k d) = v24 (ix2 k d) := by
  pointwise [k0_pay64]

/-- The values of head 0. -/
theorem pay37_apply (v7 : Vec Ideal S256x1024 .f32) (k : Fin 256) (d : Fin 128) :
    k0_pay37 (F := Ideal) v7 (ix2 k d) = v7 (ix2 k ⟨512 + d.val, by omega⟩) := by
  pointwise [k0_pay37, k0_pay35]

/-- The scaled gradient of the scores of head 2. -/
theorem pay62_apply (v65 : FVec Ideal S512x256 .f32) (v181 : FVec Ideal S512x256 .f32) (r : Fin 512) (k : Fin 256) :
    k0_pay62 (F := Ideal) v65 v181 (ix2 r k) = v181 (ix2 r k) * v65 (ix2 r k) * Ideal.ofBits .f32 0x3DB504F3#32 := by
  pointwise [k0_pay62]

/-- The same, cast. -/
theorem pay63_apply (v65 : FVec Ideal S512x256 .f32) (v181 : FVec Ideal S512x256 .f32) (r : Fin 512) (k : Fin 256) :
    k0_pay63 (F := Ideal) v65 v181 (ix2 r k) = v181 (ix2 r k) * v65 (ix2 r k) * Ideal.ofBits .f32 0x3DB504F3#32 := by
  pointwise [k0_pay63, k0_pay62]

/-- A cast. -/
theorem pay5_apply (v5 : Vec Ideal S512x512 .bf16) (r : Fin 512) (j : Fin 512) :
    k0_pay5 (F := Ideal) v5 (ix2 r j) = v5 (ix2 r j) := by
  pointwise [k0_pay5]

/-- The gradient of the queries of a block: each head pulls its scores’ gradient back through its keys. -/
theorem query (v3 : Vec Ideal S512x512 .bf16) (v5 : Vec Ideal S512x512 .bf16) (v7 : Vec Ideal S256x1024 .f32) (v8 : Vec Ideal S512x512 .f32) (r : Fin 512) (j : Fin 512) (h : Fin 4) (hj : j.val / 128 = h.val) :
    k0_pay68 (F := Ideal) (k0_pay7 v7) (k0_pay10 v7) (k0_pay57 (k0_pay23 (k0_pay11 v3 v7)) (k0_pay24 (k0_pay11 v3 v7)) (k0_pay26 (k0_pay11 v3 v7)) (k0_pay52 (k0_pay38 v7) (k0_pay51 (k0_pay5 v5) v8))) (k0_pay58 (k0_pay19 (k0_pay8 v3 v7) (k0_pay18 v3 v7)) (k0_pay20 (k0_pay8 v3 v7) (k0_pay18 v3 v7)) (k0_pay22 (k0_pay8 v3 v7) (k0_pay18 v3 v7)) (k0_pay53 (k0_pay35 v7) (k0_pay44 (k0_pay5 v5) v8))) (k0_pay61 (k0_pay16 v7) (k0_pay55 (k0_pay31 (k0_pay17 v3 v7)) (k0_pay32 (k0_pay17 v3 v7)) (k0_pay34 (k0_pay17 v3 v7)) (k0_pay48 (k0_pay5 v5) v7 v8))) (k0_pay63 (k0_pay27 (k0_pay14 v3 v7)) (k0_pay56 (k0_pay27 (k0_pay14 v3 v7)) (k0_pay28 (k0_pay14 v3 v7)) (k0_pay30 (k0_pay14 v3 v7)) (k0_pay49 (k0_pay5 v5) v7 v8))) (k0_pay64 (k0_pay13 v7)) (ix2 r j) = ∑ k, pullScaled (scores (fun j => v3 (ix2 r j)) (fun k j => v7 (ix2 k j)) h) (shares (gated (k0_pay5 v5) v8 r) (fun k j => v7 (ix2 k j)) h) k * v7 (ix2 k ⟨j.val, by omega⟩) := by
  match h, hj with
  | 0, hj =>
    replace hj : j.val / 128 = 0 := hj
    refine (query_0 _ _ _ _ _ _ _ _ r j hj).trans (@Finset.sum_congr _ EReal _ _ _ _ _ rfl fun k _ => ?_)
    simp only [pull_0, pay7_apply]
    refine congrArg₂ (· * ·) rfl (congrArg (fun j => v7 (ix2 k j)) (Fin.ext ?_))
    first | omega | (dsimp only; omega)
  | 1, hj =>
    replace hj : j.val / 128 = 1 := hj
    refine (query_1 _ _ _ _ _ _ _ _ r j hj).trans (@Finset.sum_congr _ EReal _ _ _ _ _ rfl fun k _ => ?_)
    simp only [pull_1, pay10_apply]
    refine congrArg₂ (· * ·) rfl (congrArg (fun j => v7 (ix2 k j)) (Fin.ext ?_))
    first | omega | (dsimp only; omega)
  | 2, hj =>
    replace hj : j.val / 128 = 2 := hj
    refine (query_2 _ _ _ _ _ _ _ _ r j hj).trans (@Finset.sum_congr _ EReal _ _ _ _ _ rfl fun k _ => ?_)
    simp only [pay63_apply, pay27_apply, pay14_apply, pull_2, pay64_apply, pay13_apply]
    refine congrArg₂ (· * ·) rfl (congrArg (fun j => v7 (ix2 k j)) (Fin.ext ?_))
    first | omega | (dsimp only; omega)
  | 3, hj =>
    replace hj : j.val / 128 = 3 := hj
    refine (query_3 _ _ _ _ _ _ _ _ r j hj).trans (@Finset.sum_congr _ EReal _ _ _ _ _ rfl fun k _ => ?_)
    simp only [pull_3, pay16_apply]
    refine congrArg₂ (· * ·) rfl (congrArg (fun j => v7 (ix2 k j)) (Fin.ext ?_))
    first | omega | (dsimp only; omega)

/-- The gradient of the gate’s input of a block. -/
theorem gate (v3 : Vec Ideal S512x512 .bf16) (v5 : Vec Ideal S512x512 .bf16) (v7 : Vec Ideal S256x1024 .f32) (v8 : Vec Ideal S512x512 .f32) (r : Fin 512) (j : Fin 512) (h : Fin 4) (hj : j.val / 128 = h.val) :
    k0_pay43 (F := Ideal) (k0_pay5 v5) v7 v8 (k0_pay25 (k0_pay11 v3 v7)) (k0_pay29 (k0_pay14 v3 v7)) (k0_pay33 (k0_pay17 v3 v7)) (k0_pay36 (k0_pay8 v3 v7) (k0_pay18 v3 v7)) (k0_pay37 v7) (ix2 r j) = (∑ k, prob (scores (fun j => v3 (ix2 r j)) (fun k j => v7 (ix2 k j)) h) k * v7 (ix2 k ⟨512 + j.val, by omega⟩)) * v8 (ix2 r j) * Ideal.logistic (v5 (ix2 r j)) + v5 (ix2 r j) * ((∑ k, prob (scores (fun j => v3 (ix2 r j)) (fun k j => v7 (ix2 k j)) h) k * v7 (ix2 k ⟨512 + j.val, by omega⟩)) * v8 (ix2 r j)) * (Ideal.logistic (v5 (ix2 r j)) * (1 - Ideal.logistic (v5 (ix2 r j)))) := by
  have hm (r : Fin 512) (u : Fin 1) : k0_pay18 (F := Ideal) v3 v7 (ix2 r u) = top (fun k => k0_pay8 (F := Ideal) v3 v7 (ix2 r k)) := by
    simp only [pay18_apply, pay8_apply]
  match h, hj with
  | 0, hj =>
    replace hj : j.val / 128 = 0 := hj
    refine (gate_0 _ _ _ _ _ _ _ _ r j hj).trans ?_
    simp only [pay5_apply, pay36_apply _ _ _ _ hm, pay8_apply, pay37_apply]
  | 1, hj =>
    replace hj : j.val / 128 = 1 := hj
    refine (gate_1 _ _ _ _ _ _ _ _ r j hj).trans ?_
    simp only [pay5_apply, pay25_apply, pay11_apply]
    have e : (⟨640 + (j.val - 128), by omega⟩ : Fin 1024) = ⟨512 + j.val, by omega⟩ := Fin.ext (by show 640 + (j.val - 128) = 512 + j.val; omega)
    simp only [e]
  | 2, hj =>
    replace hj : j.val / 128 = 2 := hj
    refine (gate_2 _ _ _ _ _ _ _ _ r j hj).trans ?_
    simp only [pay5_apply, pay29_apply, pay14_apply]
    have e : (⟨768 + (j.val - 128 - 128), by omega⟩ : Fin 1024) = ⟨512 + j.val, by omega⟩ := Fin.ext (by show 768 + (j.val - 128 - 128) = 512 + j.val; omega)
    simp only [e]
  | 3, hj =>
    replace hj : j.val / 128 = 3 := hj
    refine (gate_3 _ _ _ _ _ _ _ _ r j hj).trans ?_
    simp only [pay5_apply, pay33_apply, pay17_apply]
    have e : (⟨896 + (j.val - 128 - 128 - 128), by omega⟩ : Fin 1024) = ⟨512 + j.val, by omega⟩ := Fin.ext (by show 896 + (j.val - 128 - 128 - 128) = 512 + j.val; omega)
    simp only [e]

/-- What a block adds to the gradient of the keys. -/
theorem memory_keys (v3 : Vec Ideal S512x512 .bf16) (v5 : Vec Ideal S512x512 .bf16) (v7 : Vec Ideal S256x1024 .f32) (v8 : Vec Ideal S512x512 .f32) (k : Fin 256) (j : Fin 1024) (h : Fin 4) (hj : j.val / 128 = h.val) :
    k0_pay67 (F := Ideal) (k0_pay6 v3) (k0_pay9 v3) (k0_pay12 v3) (k0_pay57 (k0_pay23 (k0_pay11 v3 v7)) (k0_pay24 (k0_pay11 v3 v7)) (k0_pay26 (k0_pay11 v3 v7)) (k0_pay52 (k0_pay38 v7) (k0_pay51 (k0_pay5 v5) v8))) (k0_pay58 (k0_pay19 (k0_pay8 v3 v7) (k0_pay18 v3 v7)) (k0_pay20 (k0_pay8 v3 v7) (k0_pay18 v3 v7)) (k0_pay22 (k0_pay8 v3 v7) (k0_pay18 v3 v7)) (k0_pay53 (k0_pay35 v7) (k0_pay44 (k0_pay5 v5) v8))) (k0_pay60 (k0_pay15 v3) (k0_pay54 (k0_pay21 (k0_pay8 v3 v7) (k0_pay18 v3 v7)) (k0_pay25 (k0_pay11 v3 v7)) (k0_pay44 (k0_pay5 v5) v8) (k0_pay45 (k0_pay5 v5) v8) (k0_pay50 (k0_pay5 v5) v8 (k0_pay29 (k0_pay14 v3 v7)) (k0_pay33 (k0_pay17 v3 v7)))) (k0_pay55 (k0_pay31 (k0_pay17 v3 v7)) (k0_pay32 (k0_pay17 v3 v7)) (k0_pay34 (k0_pay17 v3 v7)) (k0_pay48 (k0_pay5 v5) v7 v8))) (k0_pay62 (k0_pay27 (k0_pay14 v3 v7)) (k0_pay56 (k0_pay27 (k0_pay14 v3 v7)) (k0_pay28 (k0_pay14 v3 v7)) (k0_pay30 (k0_pay14 v3 v7)) (k0_pay49 (k0_pay5 v5) v7 v8))) (ix2 k j) = ∑ r, pullScaled (scores (fun j => v3 (ix2 r j)) (fun k j => v7 (ix2 k j)) h) (shares (gated (k0_pay5 v5) v8 r) (fun k j => v7 (ix2 k j)) h) k * v3 (ix2 r ⟨j.val, by omega⟩) := by
  match h, hj with
  | 0, hj =>
    replace hj : j.val / 128 = 0 := hj
    refine (memory_0 _ _ _ _ _ _ _ _ _ _ _ _ _ _ _ _ k j hj).trans (@Finset.sum_congr _ EReal _ _ _ _ _ rfl fun r _ => ?_)
    simp only [pull_0, pay6_apply]
    refine congrArg₂ (· * ·) rfl (congrArg (fun j => v3 (ix2 r j)) (Fin.ext ?_))
    first | omega | (dsimp only; omega)
  | 1, hj =>
    replace hj : j.val / 128 = 1 := hj
    refine (memory_1 _ _ _ _ _ _ _ _ _ _ _ _ _ _ _ _ k j hj).trans (@Finset.sum_congr _ EReal _ _ _ _ _ rfl fun r _ => ?_)
    simp only [pull_1, pay9_apply]
    refine congrArg₂ (· * ·) rfl (congrArg (fun j => v3 (ix2 r j)) (Fin.ext ?_))
    first | omega | (dsimp only; omega)
  | 2, hj =>
    replace hj : j.val / 128 = 2 := hj
    refine (memory_2 _ _ _ _ _ _ _ _ _ _ _ _ _ _ _ _ k j hj).trans (@Finset.sum_congr _ EReal _ _ _ _ _ rfl fun r _ => ?_)
    simp only [pay62_apply, pay27_apply, pay14_apply, pull_2, pay12_apply]
    refine congrArg₂ (· * ·) rfl (congrArg (fun j => v3 (ix2 r j)) (Fin.ext ?_))
    first | omega | (dsimp only; omega)
  | 3, hj =>
    replace hj : j.val / 128 = 3 := hj
    refine (memory_3 _ _ _ _ _ _ _ _ _ _ _ _ _ _ _ _ k j hj).trans (@Finset.sum_congr _ EReal _ _ _ _ _ rfl fun r _ => ?_)
    simp only [pull_3, pay15_apply]
    refine congrArg₂ (· * ·) rfl (congrArg (fun j => v3 (ix2 r j)) (Fin.ext ?_))
    first | omega | (dsimp only; omega)

/-- What a block adds to the gradient of the values. -/
theorem memory_values (v3 : Vec Ideal S512x512 .bf16) (v5 : Vec Ideal S512x512 .bf16) (v7 : Vec Ideal S256x1024 .f32) (v8 : Vec Ideal S512x512 .f32) (k : Fin 256) (j : Fin 1024) (h : Fin 4) (hj : j.val / 128 = 4 + h.val) :
    k0_pay67 (F := Ideal) (k0_pay6 v3) (k0_pay9 v3) (k0_pay12 v3) (k0_pay57 (k0_pay23 (k0_pay11 v3 v7)) (k0_pay24 (k0_pay11 v3 v7)) (k0_pay26 (k0_pay11 v3 v7)) (k0_pay52 (k0_pay38 v7) (k0_pay51 (k0_pay5 v5) v8))) (k0_pay58 (k0_pay19 (k0_pay8 v3 v7) (k0_pay18 v3 v7)) (k0_pay20 (k0_pay8 v3 v7) (k0_pay18 v3 v7)) (k0_pay22 (k0_pay8 v3 v7) (k0_pay18 v3 v7)) (k0_pay53 (k0_pay35 v7) (k0_pay44 (k0_pay5 v5) v8))) (k0_pay60 (k0_pay15 v3) (k0_pay54 (k0_pay21 (k0_pay8 v3 v7) (k0_pay18 v3 v7)) (k0_pay25 (k0_pay11 v3 v7)) (k0_pay44 (k0_pay5 v5) v8) (k0_pay45 (k0_pay5 v5) v8) (k0_pay50 (k0_pay5 v5) v8 (k0_pay29 (k0_pay14 v3 v7)) (k0_pay33 (k0_pay17 v3 v7)))) (k0_pay55 (k0_pay31 (k0_pay17 v3 v7)) (k0_pay32 (k0_pay17 v3 v7)) (k0_pay34 (k0_pay17 v3 v7)) (k0_pay48 (k0_pay5 v5) v7 v8))) (k0_pay62 (k0_pay27 (k0_pay14 v3 v7)) (k0_pay56 (k0_pay27 (k0_pay14 v3 v7)) (k0_pay28 (k0_pay14 v3 v7)) (k0_pay30 (k0_pay14 v3 v7)) (k0_pay49 (k0_pay5 v5) v7 v8))) (ix2 k j) = ∑ r, prob (scores (fun j => v3 (ix2 r j)) (fun k j => v7 (ix2 k j)) h) k * gated (k0_pay5 v5) v8 r ⟨j.val - 512, by omega⟩ := by
  have hm (r : Fin 512) (u : Fin 1) : k0_pay18 (F := Ideal) v3 v7 (ix2 r u) = top (fun k => k0_pay8 (F := Ideal) v3 v7 (ix2 r k)) := by
    simp only [pay18_apply, pay8_apply]
  match h, hj with
  | 0, hj =>
    have hj' : j.val / 128 = 4 := hj
    refine (memory_4 _ _ _ _ _ _ _ _ _ _ _ _ _ _ _ _ k j hj').trans (@Finset.sum_congr _ EReal _ _ _ _ _ rfl fun r _ => ?_)
    simp only [pay21_apply _ _ _ _ hm, pay8_apply, pay44_apply]
    refine congrArg₂ (· * ·) rfl (congrArg (fun j => gated (k0_pay5 v5) v8 r j) (Fin.ext ?_))
    first | omega | (dsimp only; omega)
  | 1, hj =>
    have hj' : j.val / 128 = 5 := hj
    refine (memory_5 _ _ _ _ _ _ _ _ _ _ _ _ _ _ _ _ k j hj').trans (@Finset.sum_congr _ EReal _ _ _ _ _ rfl fun r _ => ?_)
    simp only [pay25_apply, pay11_apply, pay45_apply]
    refine congrArg₂ (· * ·) rfl (congrArg (fun j => gated (k0_pay5 v5) v8 r j) (Fin.ext ?_))
    first | omega | (dsimp only; omega)
  | 2, hj =>
    have hj' : j.val / 128 = 6 := hj
    refine (memory_6 _ _ _ _ _ _ _ _ _ _ _ _ _ _ _ _ k j hj').trans (@Finset.sum_congr _ EReal _ _ _ _ _ rfl fun r _ => ?_)
    simp only [pay29_apply, pay14_apply, pay46_apply]
    refine congrArg₂ (· * ·) rfl (congrArg (fun j => gated (k0_pay5 v5) v8 r j) (Fin.ext ?_))
    first | omega | (dsimp only; omega)
  | 3, hj =>
    have hj' : j.val / 128 = 7 := hj
    refine (memory_7 _ _ _ _ _ _ _ _ _ _ _ _ _ _ _ _ k j hj').trans (@Finset.sum_congr _ EReal _ _ _ _ _ rfl fun r _ => ?_)
    simp only [pay33_apply, pay17_apply, pay47_apply]
    refine congrArg₂ (· * ·) rfl (congrArg (fun j => gated (k0_pay5 v5) v8 r j) (Fin.ext ?_))
    first | omega | (dsimp only; omega)

end Cert.Kernel12Ideal.MemBwd

end
-- ==== Proof.MemBwdRef.lean ====
module

public import proofs.«01_k».proof.Proof.Gen.Reference12Ideal.Read
public import proofs.«01_k».proof.Proof.Softmax
public import Idealize.ShloMosaic.Lib.Pipeline.ValueKit
public import Idealize.ShloMosaic.Lib.Pointwise

/-! What the reference of the memory branch’s gradient computes, entry by entry. -/

@[expose] public section

set_option maxRecDepth 16384

noncomputable section

open Idealize.ShloMosaic Idealize.ShloMosaic.TcCoe Idealize.SL.Sem
open Idealize.ShloMosaic.Pipeline (Dat)

namespace Cert.Reference12Ideal.MemBwd

open Cert.Reference12Ideal Cert.Reference12Ideal.Read
open Cert.Softmax

/-- A row of the queries. -/
def query (x0 : FVec Ideal S2048x10240 .bf16) (r : Fin 2048) (j : Fin 512) : EReal := x0 (ix2 r ⟨9216 + j.val, by omega⟩)

/-- The memory's keys and values. -/
def memory (x1 : FVec Ideal S256x1024 .f32) (k : Fin 256) (j : Fin 1024) : EReal := x1 (ix2 k j)

/-- A row of the gate's inputs. -/
def gateIn (x0 : FVec Ideal S2048x10240 .bf16) (r : Fin 2048) (j : Fin 512) : EReal := x0 (ix2 r ⟨9728 + j.val, by omega⟩)

/-- A row of the branch's cotangents. -/
def cot (x2 : FVec Ideal S2048x2048 .f32) (r : Fin 2048) (j : Fin 512) : EReal := x2 (ix2 r ⟨1536 + j.val, by omega⟩)

/-- A row of the attention's cotangents. -/
def attnCot (x0 : FVec Ideal S2048x10240 .bf16) (x2 : FVec Ideal S2048x2048 .f32) (r : Fin 2048) (j : Fin 512) : EReal :=
  cot x2 r j * (gateIn x0 r j * Ideal.logistic (gateIn x0 r j))

/-- The scores. -/
theorem ref_scores (x0 : FVec Ideal S2048x10240 .bf16) (x1 : FVec Ideal S256x1024 .f32) (h : Fin 4) (r : Fin 2048) (k : Fin 256) : val_main_v11 (F := Ideal) x0 x1 (ix3 h r k) = scores (query x0 r) (memory x1) h k := by
  pointwise [val_main_v0, val_main_v1, val_main_v4, val_main_v5, val_main_v7, val_main_v9, val_main_cst, val_main_v10, val_main_v11]
  rfl

/-- The weights. -/
theorem ref_weight (x0 : FVec Ideal S2048x10240 .bf16) (x1 : FVec Ideal S256x1024 .f32) (h : Fin 4) (r : Fin 2048) (k : Fin 256) : val_main_v32 (F := Ideal) x0 x1 (ix3 h r k) = weight (scores (query x0 r) (memory x1) h) k := by
  pointwise [val_main_cst_0, val_main_v12, val_main_cst_2, val_main_v18, val_main_v19, val_main_v29, val_main_v30, val_main_v31, val_main_v32]
  simp only [ref_scores, max_fold]
  rfl

/-- Their sums. -/
theorem ref_total (x0 : FVec Ideal S2048x10240 .bf16) (x1 : FVec Ideal S256x1024 .f32) (h : Fin 4) (r : Fin 2048) (u : Fin 1) : val_main_v34 (F := Ideal) x0 x1 (ix3 h r u) = total (scores (query x0 r) (memory x1) h) := by
  pointwise [val_main_cst_8, val_main_v33, val_main_v34]
  simp only [ref_weight]
  rfl

/-- The shares. -/
theorem ref_prob (x0 : FVec Ideal S2048x10240 .bf16) (x1 : FVec Ideal S256x1024 .f32) (h : Fin 4) (r : Fin 2048) (k : Fin 256) : val_main_v36 (F := Ideal) x0 x1 (ix3 h r k) = prob (scores (query x0 r) (memory x1) h) k := by
  pointwise [val_main_v35, val_main_v36]
  simp only [ref_weight, ref_total]
  rfl

/-- One over the squared sums. -/
theorem ref_square (x0 : FVec Ideal S2048x10240 .bf16) (x1 : FVec Ideal S256x1024 .f32) (h : Fin 4) (r : Fin 2048) (u : Fin 1) : val_main_v39 (F := Ideal) x0 x1 (ix3 h r u) = square (scores (query x0 r) (memory x1) h) := by
  pointwise [val_main_v37, val_main_cst_9, val_main_v38, val_main_v39]
  simp only [ref_total]
  rfl

/-- The attention's cotangents. -/
theorem ref_cot (x0 : FVec Ideal S2048x10240 .bf16) (x2 : FVec Ideal S2048x2048 .f32) (r : Fin 2048) (j : Fin 512) : val_main_v47 (F := Ideal) x0 x2 (ix2 r j) = attnCot x0 x2 r j := by
  pointwise [Ideal.logistic, cot, gateIn, attnCot, val_main_v2, val_main_v3, val_main_call0_v0, val_main_call0_v1, val_main_call0_cst, val_main_call0_v2, val_main_call0_v3, val_main_call0_cst_0, val_main_call0_v4, val_main_v43_2, val_main_call0_cst_1, val_main_call0_v6, val_main_call0_v7, val_main_v43_1, val_main_v43_0, val_main_v45, val_main_v47]

/-- The attention, whose product the reference states with the values first. -/
theorem ref_attn (x0 : FVec Ideal S2048x10240 .bf16) (x1 : FVec Ideal S256x1024 .f32) (r : Fin 2048) (j : Fin 512) :
    val_main_v42 (F := Ideal) x0 x1 (ix2 r j) = ∑ k, prob (scores (query x0 r) (memory x1) ⟨j.val / 128, by omega⟩) k * memory x1 k ⟨512 + j.val, by omega⟩ := by
  pointwise [val_main_v6, val_main_v8, val_main_v40, val_main_v41, val_main_v42]
  simp only [ref_prob]
  exact @Finset.sum_congr _ EReal _ _ _ _ _ rfl fun k _ => @mul_comm EReal _ _ _

/-- The gradient of the gate's input. -/
theorem ref_gate (x0 : FVec Ideal S2048x10240 .bf16) (x1 : FVec Ideal S256x1024 .f32) (x2 : FVec Ideal S2048x2048 .f32) (r : Fin 2048) (j : Fin 512) :
    val_main_v48 (F := Ideal) x0 x1 x2 (ix2 r j)
      = (∑ k, prob (scores (query x0 r) (memory x1) ⟨j.val / 128, by omega⟩) k * memory x1 k ⟨512 + j.val, by omega⟩) * cot x2 r j * Ideal.logistic (gateIn x0 r j)
        + gateIn x0 r j * ((∑ k, prob (scores (query x0 r) (memory x1) ⟨j.val / 128, by omega⟩) k * memory x1 k ⟨512 + j.val, by omega⟩) * cot x2 r j)
          * (Ideal.logistic (gateIn x0 r j) * (1 - Ideal.logistic (gateIn x0 r j))) := by
  rw [← ref_attn]
  pointwise [Ideal.logistic, cot, gateIn, val_main_v2, val_main_v3, val_main_call0_v0, val_main_call0_v1, val_main_call0_cst, val_main_call0_v2, val_main_call0_v3, val_main_call0_cst_0, val_main_call0_v4, val_main_v43_2, val_main_call0_cst_1, val_main_call0_v6, val_main_call0_v7, val_main_v43_1, val_main_v43_0, val_main_v45, val_main_v46, val_main_call1_v0, val_main_call1_v1, val_main_call1_v2, val_main_v48]

/-- The cotangents of the shares. -/
theorem ref_shares (x0 : FVec Ideal S2048x10240 .bf16) (x1 : FVec Ideal S256x1024 .f32) (x2 : FVec Ideal S2048x2048 .f32) (h : Fin 4) (r : Fin 2048) (k : Fin 256) :
    val_main_v51 (F := Ideal) x0 x1 x2 (ix3 h r k) = shares (attnCot x0 x2 r) (memory x1) h k := by
  pointwise [val_main_v6, val_main_v8, val_main_v49, val_main_v50, val_main_v51]
  simp only [ref_cot]
  rfl

/-- The gradient of the scores. -/
theorem ref_pull (x0 : FVec Ideal S2048x10240 .bf16) (x1 : FVec Ideal S256x1024 .f32) (x2 : FVec Ideal S2048x2048 .f32) (h : Fin 4) (r : Fin 2048) (k : Fin 256) :
    val_main_v67 (F := Ideal) x0 x1 x2 (ix3 h r k) = pullScaled (scores (query x0 r) (memory x1) h) (shares (attnCot x0 x2 r) (memory x1) h) k := by
  pointwise [val_main_v54, val_main_v55, val_main_v56, val_main_cst_10, val_main_v57, val_main_v58, val_main_v59, val_main_v60, val_main_v61, val_main_cst_11, val_main_v62, val_main_v63, val_main_v64, val_main_v65, val_main_cst_12, val_main_v66, val_main_v67]
  rw [@Fin.sum_univ_one EReal _ _]
  simp only [ref_shares, ref_weight, ref_total, ref_square]
  rfl

/-- The gradient of the queries. -/
theorem ref_query (x0 : FVec Ideal S2048x10240 .bf16) (x1 : FVec Ideal S256x1024 .f32) (x2 : FVec Ideal S2048x2048 .f32) (r : Fin 2048) (j : Fin 512) :
    val_main_v75 (F := Ideal) x0 x1 x2 (ix2 r j)
      = ∑ k, pullScaled (scores (query x0 r) (memory x1) ⟨j.val / 128, by omega⟩) (shares (attnCot x0 x2 r) (memory x1) ⟨j.val / 128, by omega⟩) k
          * memory x1 k ⟨j.val, by omega⟩ := by
  pointwise [val_main_v5, val_main_v7, val_main_v70, val_main_v71, val_main_v75]
  simp only [ref_pull]
  rfl

/-- The gradient of the keys. -/
theorem ref_keys (x0 : FVec Ideal S2048x10240 .bf16) (x1 : FVec Ideal S256x1024 .f32) (x2 : FVec Ideal S2048x2048 .f32) (k : Fin 256) (j : Fin 512) :
    val_main_v73 (F := Ideal) x0 x1 x2 (ix2 k j)
      = ∑ r : Fin 2048, pullScaled (scores (query x0 r) (memory x1) ⟨j.val / 128, by omega⟩) (shares (attnCot x0 x2 r) (memory x1) ⟨j.val / 128, by omega⟩) k
          * query x0 r j := by
  pointwise [val_main_v0, val_main_v1, val_main_v4, val_main_v68, val_main_v69, val_main_v73]
  simp only [ref_pull]
  rfl

/-- The gradient of the values, whose product the reference states with the cotangents first. -/
theorem ref_values (x0 : FVec Ideal S2048x10240 .bf16) (x1 : FVec Ideal S256x1024 .f32) (x2 : FVec Ideal S2048x2048 .f32) (k : Fin 256) (j : Fin 512) :
    val_main_v72 (F := Ideal) x0 x1 x2 (ix2 k j)
      = ∑ r : Fin 2048, prob (scores (query x0 r) (memory x1) ⟨j.val / 128, by omega⟩) k * attnCot x0 x2 r j := by
  pointwise [val_main_v49, val_main_v50, val_main_v52, val_main_v53, val_main_v72]
  simp only [ref_prob, ref_cot]
  refine @Finset.sum_congr _ EReal _ _ _ _ _ rfl fun r _ => (@mul_comm EReal _ _ _).trans ?_
  rfl

end Cert.Reference12Ideal.MemBwd

end
-- ==== Proof.MemBwdValue.lean ====
module

public import proofs.«01_k».proof.Proof.Gen.Kernel12Ideal.Frame
public import proofs.«01_k».proof.Proof.MemBwdPoint
public import proofs.«01_k».proof.Proof.MemBwdRef
public import Idealize.ShloMosaic.Lib.Pipeline.ValueKit
public import Idealize.ShloMosaic.Lib.Pointwise

/-! The memory branch’s gradient. -/

@[expose] public section

set_option maxRecDepth 16384

noncomputable section

open Idealize.ShloMosaic Idealize.ShloMosaic.TcCoe Idealize.SL.Sem
open Idealize.ShloMosaic.Pipeline (Dat)

namespace Cert.Kernel12Ideal.MemBwdValue

open Cert.Kernel12Ideal Cert.Kernel12Ideal.Gen
open Cert.Softmax
open Cert.Kernel12Ideal.MemBwd hiding query gate
open Cert.Reference12Ideal.MemBwd

variable (m : (ℓ : Loc nD τ sig) → Buf (Elt Ideal) ℓ)

/-- Which block of its array each window stands at, at every point of the grid: the row blocks run backwards. -/
theorem idx : ∀ t : Fin cfg0.N, win0_0.index t = ![3 - t.val, 18]
    ∧ win0_1.index t = ![3 - t.val, 19]
    ∧ win0_2.index t = ![0, 0]
    ∧ win0_3.index t = ![3 - t.val, 3]
    ∧ win0_4.index t = ![3 - t.val, 9]
    ∧ win0_5.index t = ![0, 0] :=
  (by decide +kernel : ∀ t : Fin grid0.N, _)

theorem points (t : Fin cfg0.N) : t.val < 4 := t.isLt

/-- The row of the whole array at row `r` of the block of point `t`. -/
def row (t : Fin cfg0.N) (r : Fin 512) : Fin 2048 := ⟨(3 - t.val) * 512 + r.val, by have := points t; omega⟩

/-- Taken backwards, the blocks' rows are the array's rows in their order. -/
theorem row_rev (s : Fin cfg0.N) (k : Fin 512) (h : s.val * 512 + k.val < 2048) : row (Fin.revPerm s) k = ⟨s.val * 512 + k.val, h⟩ := by
  have hs := points s
  refine Fin.ext ?_
  have e : (Fin.revPerm s).val = 4 - (s.val + 1) := rfl
  show (3 - (Fin.revPerm s).val) * 512 + k.val = _
  rw [e]; congr 2; omega

theorem block_query (c : Dev nD) (t : Fin cfg0.N) (r j : Fin 512) : iblk m c 0 t (ix2 r j) = query (m ((c : Thread nD τ).loc main_arg0)) (row t r) j := by
  show _ = (m ((c : Thread nD τ).loc main_arg0)) (ix2 _ _)
  blk_point [iblk, V, idx t, row]

theorem block_gate (c : Dev nD) (t : Fin cfg0.N) (r j : Fin 512) : iblk m c 1 t (ix2 r j) = gateIn (m ((c : Thread nD τ).loc main_arg0)) (row t r) j := by
  show _ = (m ((c : Thread nD τ).loc main_arg0)) (ix2 _ _)
  blk_point [iblk, V, idx t, row]

theorem block_memory (c : Dev nD) (t : Fin cfg0.N) (k : Fin 256) (j : Fin 1024) : iblk m c 2 t (ix2 k j) = memory (m ((c : Thread nD τ).loc main_arg1)) k j := by
  show _ = (m ((c : Thread nD τ).loc main_arg1)) (ix2 _ _)
  blk_point [iblk, V, idx t, row]

theorem block_cot (c : Dev nD) (t : Fin cfg0.N) (r j : Fin 512) : iblk m c 3 t (ix2 r j) = cot (m ((c : Thread nD τ).loc main_arg2)) (row t r) j := by
  show _ = (m ((c : Thread nD τ).loc main_arg2)) (ix2 _ _)
  blk_point [iblk, V, idx t, row]

theorem block_gated (c : Dev nD) (t : Fin cfg0.N) (r : Fin 512) :
    gated (k0_pay5 (iblk m c 1 t)) (iblk m c 3 t) r = attnCot (m ((c : Thread nD τ).loc main_arg0)) (m ((c : Thread nD τ).loc main_arg2)) (row t r) := by
  funext j
  simp only [gated, attnCot, pay5_apply, ← block_gate, ← block_cot]

/-- The gradient of the queries at a block's place. -/
theorem point_query (c : Dev nD) (t : Fin cfg0.N) (r j : Fin 512) :
    k0_pay68 (F := Ideal) (k0_pay7 (iblk m c 2 t)) (k0_pay10 (iblk m c 2 t)) (k0_pay57 (k0_pay23 (k0_pay11 (iblk m c 0 t) (iblk m c 2 t))) (k0_pay24 (k0_pay11 (iblk m c 0 t) (iblk m c 2 t))) (k0_pay26 (k0_pay11 (iblk m c 0 t) (iblk m c 2 t))) (k0_pay52 (k0_pay38 (iblk m c 2 t)) (k0_pay51 (k0_pay5 (iblk m c 1 t)) (iblk m c 3 t)))) (k0_pay58 (k0_pay19 (k0_pay8 (iblk m c 0 t) (iblk m c 2 t)) (k0_pay18 (iblk m c 0 t) (iblk m c 2 t))) (k0_pay20 (k0_pay8 (iblk m c 0 t) (iblk m c 2 t)) (k0_pay18 (iblk m c 0 t) (iblk m c 2 t))) (k0_pay22 (k0_pay8 (iblk m c 0 t) (iblk m c 2 t)) (k0_pay18 (iblk m c 0 t) (iblk m c 2 t))) (k0_pay53 (k0_pay35 (iblk m c 2 t)) (k0_pay44 (k0_pay5 (iblk m c 1 t)) (iblk m c 3 t)))) (k0_pay61 (k0_pay16 (iblk m c 2 t)) (k0_pay55 (k0_pay31 (k0_pay17 (iblk m c 0 t) (iblk m c 2 t))) (k0_pay32 (k0_pay17 (iblk m c 0 t) (iblk m c 2 t))) (k0_pay34 (k0_pay17 (iblk m c 0 t) (iblk m c 2 t))) (k0_pay48 (k0_pay5 (iblk m c 1 t)) (iblk m c 2 t) (iblk m c 3 t)))) (k0_pay63 (k0_pay27 (k0_pay14 (iblk m c 0 t) (iblk m c 2 t))) (k0_pay56 (k0_pay27 (k0_pay14 (iblk m c 0 t) (iblk m c 2 t))) (k0_pay28 (k0_pay14 (iblk m c 0 t) (iblk m c 2 t))) (k0_pay30 (k0_pay14 (iblk m c 0 t) (iblk m c 2 t))) (k0_pay49 (k0_pay5 (iblk m c 1 t)) (iblk m c 2 t) (iblk m c 3 t)))) (k0_pay64 (k0_pay13 (iblk m c 2 t))) (ix2 r j)
      = Cert.Reference12Ideal.Read.val_main_v75 (F := Ideal) (m ((c : Thread nD τ).loc main_arg0)) (m ((c : Thread nD τ).loc main_arg1)) (m ((c : Thread nD τ).loc main_arg2)) (ix2 (row t r) j) := by
  rw [ref_query]
  refine (Cert.Kernel12Ideal.MemBwd.query _ _ _ _ r j ⟨j.val / 128, by omega⟩ rfl).trans ?_
  simp only [block_query, block_memory, block_gated]

/-- The gradient of the gate's input at a block's place. -/
theorem point_gate (c : Dev nD) (t : Fin cfg0.N) (r j : Fin 512) :
    k0_pay43 (F := Ideal) (k0_pay5 (iblk m c 1 t)) (iblk m c 2 t) (iblk m c 3 t) (k0_pay25 (k0_pay11 (iblk m c 0 t) (iblk m c 2 t))) (k0_pay29 (k0_pay14 (iblk m c 0 t) (iblk m c 2 t))) (k0_pay33 (k0_pay17 (iblk m c 0 t) (iblk m c 2 t))) (k0_pay36 (k0_pay8 (iblk m c 0 t) (iblk m c 2 t)) (k0_pay18 (iblk m c 0 t) (iblk m c 2 t))) (k0_pay37 (iblk m c 2 t)) (ix2 r j)
      = Cert.Reference12Ideal.Read.val_main_v48 (F := Ideal) (m ((c : Thread nD τ).loc main_arg0)) (m ((c : Thread nD τ).loc main_arg1)) (m ((c : Thread nD τ).loc main_arg2)) (ix2 (row t r) j) := by
  rw [ref_gate]
  refine (Cert.Kernel12Ideal.MemBwd.gate _ _ _ _ r j ⟨j.val / 128, by omega⟩ rfl).trans ?_
  simp only [block_query, block_memory, block_gate, block_cot]

/-- A block of the result: the queries' columns, then the gate's. -/
theorem pay1_apply (P Q : FVec Ideal S512x512 .f32) (r : Fin 512) (j : Fin 1024) :
    k0_pay1 (F := Ideal) P Q (ix2 r j) = if h : j.val < 512 then Q (ix2 r ⟨j.val, h⟩) else P (ix2 r ⟨j.val - 512, by omega⟩) := by
  pointwise [k0_pay1]

theorem ref_cols (x0 x1 x2 x3) (R : Fin 2048) (J : Fin 10240) :
    Cert.Reference12Ideal.Read.val_main_v79 (F := Ideal) x0 x1 x2 x3 (ix2 R J)
      = if h : J.val < 9216 then x3 (ix2 R J)
        else if h' : J.val - 9216 < 512 then Cert.Reference12Ideal.Read.val_main_v75 (F := Ideal) x0 x1 x2 (ix2 R ⟨J.val - 9216, h'⟩)
        else Cert.Reference12Ideal.Read.val_main_v48 (F := Ideal) x0 x1 x2 (ix2 R ⟨J.val - 9216 - 512, by omega⟩) := by
  pointwise [Cert.Reference12Ideal.Read.val_main_v76, Cert.Reference12Ideal.Read.val_main_v77, Cert.Reference12Ideal.Read.val_main_v78, Cert.Reference12Ideal.Read.val_main_v79]

theorem ref_kv (x0 x1 x2) (k : Fin 256) (J : Fin 1024) :
    Cert.Reference12Ideal.Read.val_main_v74 (F := Ideal) x0 x1 x2 (ix2 k J)
      = if h : J.val < 512 then Cert.Reference12Ideal.Read.val_main_v73 (F := Ideal) x0 x1 x2 (ix2 k ⟨J.val, h⟩)
        else Cert.Reference12Ideal.Read.val_main_v72 (F := Ideal) x0 x1 x2 (ix2 k ⟨J.val - 512, by omega⟩) := by
  pointwise [Cert.Reference12Ideal.Read.val_main_v74]

theorem emb4 (t : Fin cfg0.N) (r : Fin 512) (j : Fin 1024) :
    ((cfg0.win 4).blk t).view.emb (ix2 r j) = (ix2 (row t r) ⟨9216 + j.val, by omega⟩ : S2048x10240.Idx) := by
  blk_ext [idx t, row]

theorem point4_at (c : Dev nD) (t : Fin cfg0.N) (r : Fin 512) (j : Fin 1024) :
    k0_pay1 (F := Ideal) (k0_pay43 (F := Ideal) (k0_pay5 (iblk m c 1 t)) (iblk m c 2 t) (iblk m c 3 t) (k0_pay25 (k0_pay11 (iblk m c 0 t) (iblk m c 2 t))) (k0_pay29 (k0_pay14 (iblk m c 0 t) (iblk m c 2 t))) (k0_pay33 (k0_pay17 (iblk m c 0 t) (iblk m c 2 t))) (k0_pay36 (k0_pay8 (iblk m c 0 t) (iblk m c 2 t)) (k0_pay18 (iblk m c 0 t) (iblk m c 2 t))) (k0_pay37 (iblk m c 2 t))) (k0_pay68 (F := Ideal) (k0_pay7 (iblk m c 2 t)) (k0_pay10 (iblk m c 2 t)) (k0_pay57 (k0_pay23 (k0_pay11 (iblk m c 0 t) (iblk m c 2 t))) (k0_pay24 (k0_pay11 (iblk m c 0 t) (iblk m c 2 t))) (k0_pay26 (k0_pay11 (iblk m c 0 t) (iblk m c 2 t))) (k0_pay52 (k0_pay38 (iblk m c 2 t)) (k0_pay51 (k0_pay5 (iblk m c 1 t)) (iblk m c 3 t)))) (k0_pay58 (k0_pay19 (k0_pay8 (iblk m c 0 t) (iblk m c 2 t)) (k0_pay18 (iblk m c 0 t) (iblk m c 2 t))) (k0_pay20 (k0_pay8 (iblk m c 0 t) (iblk m c 2 t)) (k0_pay18 (iblk m c 0 t) (iblk m c 2 t))) (k0_pay22 (k0_pay8 (iblk m c 0 t) (iblk m c 2 t)) (k0_pay18 (iblk m c 0 t) (iblk m c 2 t))) (k0_pay53 (k0_pay35 (iblk m c 2 t)) (k0_pay44 (k0_pay5 (iblk m c 1 t)) (iblk m c 3 t)))) (k0_pay61 (k0_pay16 (iblk m c 2 t)) (k0_pay55 (k0_pay31 (k0_pay17 (iblk m c 0 t) (iblk m c 2 t))) (k0_pay32 (k0_pay17 (iblk m c 0 t) (iblk m c 2 t))) (k0_pay34 (k0_pay17 (iblk m c 0 t) (iblk m c 2 t))) (k0_pay48 (k0_pay5 (iblk m c 1 t)) (iblk m c 2 t) (iblk m c 3 t)))) (k0_pay63 (k0_pay27 (k0_pay14 (iblk m c 0 t) (iblk m c 2 t))) (k0_pay56 (k0_pay27 (k0_pay14 (iblk m c 0 t) (iblk m c 2 t))) (k0_pay28 (k0_pay14 (iblk m c 0 t) (iblk m c 2 t))) (k0_pay30 (k0_pay14 (iblk m c 0 t) (iblk m c 2 t))) (k0_pay49 (k0_pay5 (iblk m c 1 t)) (iblk m c 2 t) (iblk m c 3 t)))) (k0_pay64 (k0_pay13 (iblk m c 2 t)))) (ix2 r j)
      = Cert.Reference12Ideal.Read.val_main_v79 (F := Ideal) (m ((c : Thread nD τ).loc main_arg0)) (m ((c : Thread nD τ).loc main_arg1)) (m ((c : Thread nD τ).loc main_arg2)) (m ((c : Thread nD τ).loc main_arg3)) (ix2 (row t r) ⟨9216 + j.val, by omega⟩) := by
  have out : ¬ ((⟨9216 + j.val, by omega⟩ : Fin 10240).val < 9216) := by show ¬ (9216 + j.val < 9216); omega
  rw [pay1_apply, ref_cols, dif_neg out]
  by_cases h : j.val < 512
  · rw [dif_pos h, dif_pos (by show 9216 + j.val - 9216 < 512; omega), point_query]
    exact congrArg (fun j => Cert.Reference12Ideal.Read.val_main_v75 (F := Ideal) (m ((c : Thread nD τ).loc main_arg0)) (m ((c : Thread nD τ).loc main_arg1)) (m ((c : Thread nD τ).loc main_arg2)) (ix2 (row t r) j)) (Fin.ext (by show j.val = 9216 + j.val - 9216; omega))
  · rw [dif_neg h, dif_neg (by show ¬ (9216 + j.val - 9216 < 512); omega), point_gate]
    exact congrArg (fun j => Cert.Reference12Ideal.Read.val_main_v48 (F := Ideal) (m ((c : Thread nD τ).loc main_arg0)) (m ((c : Thread nD τ).loc main_arg1)) (m ((c : Thread nD τ).loc main_arg2)) (ix2 (row t r) j)) (Fin.ext (by show j.val - 512 = 9216 + j.val - 9216 - 512; omega))

/-- The columns a point stores are the reference's. -/
theorem point4 (c : Dev nD) (t : Fin cfg0.N) (y : S512x1024.Idx) :
    k0_pay1 (F := Ideal) (k0_pay43 (F := Ideal) (k0_pay5 (iblk m c 1 t)) (iblk m c 2 t) (iblk m c 3 t) (k0_pay25 (k0_pay11 (iblk m c 0 t) (iblk m c 2 t))) (k0_pay29 (k0_pay14 (iblk m c 0 t) (iblk m c 2 t))) (k0_pay33 (k0_pay17 (iblk m c 0 t) (iblk m c 2 t))) (k0_pay36 (k0_pay8 (iblk m c 0 t) (iblk m c 2 t)) (k0_pay18 (iblk m c 0 t) (iblk m c 2 t))) (k0_pay37 (iblk m c 2 t))) (k0_pay68 (F := Ideal) (k0_pay7 (iblk m c 2 t)) (k0_pay10 (iblk m c 2 t)) (k0_pay57 (k0_pay23 (k0_pay11 (iblk m c 0 t) (iblk m c 2 t))) (k0_pay24 (k0_pay11 (iblk m c 0 t) (iblk m c 2 t))) (k0_pay26 (k0_pay11 (iblk m c 0 t) (iblk m c 2 t))) (k0_pay52 (k0_pay38 (iblk m c 2 t)) (k0_pay51 (k0_pay5 (iblk m c 1 t)) (iblk m c 3 t)))) (k0_pay58 (k0_pay19 (k0_pay8 (iblk m c 0 t) (iblk m c 2 t)) (k0_pay18 (iblk m c 0 t) (iblk m c 2 t))) (k0_pay20 (k0_pay8 (iblk m c 0 t) (iblk m c 2 t)) (k0_pay18 (iblk m c 0 t) (iblk m c 2 t))) (k0_pay22 (k0_pay8 (iblk m c 0 t) (iblk m c 2 t)) (k0_pay18 (iblk m c 0 t) (iblk m c 2 t))) (k0_pay53 (k0_pay35 (iblk m c 2 t)) (k0_pay44 (k0_pay5 (iblk m c 1 t)) (iblk m c 3 t)))) (k0_pay61 (k0_pay16 (iblk m c 2 t)) (k0_pay55 (k0_pay31 (k0_pay17 (iblk m c 0 t) (iblk m c 2 t))) (k0_pay32 (k0_pay17 (iblk m c 0 t) (iblk m c 2 t))) (k0_pay34 (k0_pay17 (iblk m c 0 t) (iblk m c 2 t))) (k0_pay48 (k0_pay5 (iblk m c 1 t)) (iblk m c 2 t) (iblk m c 3 t)))) (k0_pay63 (k0_pay27 (k0_pay14 (iblk m c 0 t) (iblk m c 2 t))) (k0_pay56 (k0_pay27 (k0_pay14 (iblk m c 0 t) (iblk m c 2 t))) (k0_pay28 (k0_pay14 (iblk m c 0 t) (iblk m c 2 t))) (k0_pay30 (k0_pay14 (iblk m c 0 t) (iblk m c 2 t))) (k0_pay49 (k0_pay5 (iblk m c 1 t)) (iblk m c 2 t) (iblk m c 3 t)))) (k0_pay64 (k0_pay13 (iblk m c 2 t)))) y
      = Cert.Reference12Ideal.Read.val_main_v79 (F := Ideal) (m ((c : Thread nD τ).loc main_arg0)) (m ((c : Thread nD τ).loc main_arg1)) (m ((c : Thread nD τ).loc main_arg2)) (m ((c : Thread nD τ).loc main_arg3)) (((cfg0.win 4).blk t).view.emb y) :=
  (congrArg _ (eq_ix2 y)).trans ((point4_at m c t (y 0) (y 1)).trans
    (congrArg _ ((emb4 t (y 0) (y 1)).symm.trans (congrArg _ (eq_ix2 y).symm))))

/-- The gradients fill the last 1024 columns; the others keep what they held. -/
theorem stored4 (c : Dev nD) : (dats m 0 c).arrAt 4 (cfgs 0).N
    = fun i => if 9216 ≤ (i 1).val then Cert.Reference12Ideal.Read.val_main_v79 (F := Ideal) (m ((c : Thread nD τ).loc main_arg0)) (m ((c : Thread nD τ).loc main_arg1)) (m ((c : Thread nD τ).loc main_arg2)) (m ((c : Thread nD τ).loc main_arg3)) i
        else V m c main_v0_0 i := by
  refine (dats m 0 c).arrAt_eq_of_coversWhere 4 _ (fun β => 9 ≤ β (1 : Fin 2)) (by decide +kernel) (fun t hf y => ?_)
    (fun j => by blk_simp [Pipeline.Window.cell_apply]; omega)
  blk_simp; rw [after0_4]
  by_cases h : t.val % 4 = 0
  · rw [outsAt0_A m c t h]; frame_out; exact point4 m c t y
  · rw [outsAt0_B m c t h]; frame_out; exact point4 m c t y

theorem final4 (c : Dev nD) : (dats m 0 c).arrAt 4 (cfgs 0).N
    = Cert.Reference12Ideal.Read.val_main_v79 (F := Ideal) (m ((c : Thread nD τ).loc main_arg0)) (m ((c : Thread nD τ).loc main_arg1)) (m ((c : Thread nD τ).loc main_arg2)) (m ((c : Thread nD τ).loc main_arg3)) := by
  rw [stored4]
  funext i
  by_cases h : 9216 ≤ (i 1).val
  · rw [if_pos h]
  · rw [if_neg h, eq_ix2 i, ref_cols _ _ _ _ (i 0) (i 1), dif_pos (by omega)]
    entry_read
    rfl

theorem zero5 (j : S256x1024.Idx) : k0_pay3 (F := Ideal) j = 0 := by pointwise! [k0_pay3]

theorem pay2 (a acc : FVec Ideal S256x1024 .f32) (j : S256x1024.Idx) : k0_pay2 (F := Ideal) a acc j = acc j + a j := by
  pointwise [k0_pay2]

/-- What a point adds to the gradient of the memory's keys and values. -/
theorem part5 (c : Dev nD) (k : Fin 256) (j : Fin 1024) :
    (∑ s : Fin 4, k0_pay67 (F := Ideal) (k0_pay6 (iblk m c 0 (Fin.revPerm s))) (k0_pay9 (iblk m c 0 (Fin.revPerm s))) (k0_pay12 (iblk m c 0 (Fin.revPerm s))) (k0_pay57 (k0_pay23 (k0_pay11 (iblk m c 0 (Fin.revPerm s)) (iblk m c 2 (Fin.revPerm s)))) (k0_pay24 (k0_pay11 (iblk m c 0 (Fin.revPerm s)) (iblk m c 2 (Fin.revPerm s)))) (k0_pay26 (k0_pay11 (iblk m c 0 (Fin.revPerm s)) (iblk m c 2 (Fin.revPerm s)))) (k0_pay52 (k0_pay38 (iblk m c 2 (Fin.revPerm s))) (k0_pay51 (k0_pay5 (iblk m c 1 (Fin.revPerm s))) (iblk m c 3 (Fin.revPerm s))))) (k0_pay58 (k0_pay19 (k0_pay8 (iblk m c 0 (Fin.revPerm s)) (iblk m c 2 (Fin.revPerm s))) (k0_pay18 (iblk m c 0 (Fin.revPerm s)) (iblk m c 2 (Fin.revPerm s)))) (k0_pay20 (k0_pay8 (iblk m c 0 (Fin.revPerm s)) (iblk m c 2 (Fin.revPerm s))) (k0_pay18 (iblk m c 0 (Fin.revPerm s)) (iblk m c 2 (Fin.revPerm s)))) (k0_pay22 (k0_pay8 (iblk m c 0 (Fin.revPerm s)) (iblk m c 2 (Fin.revPerm s))) (k0_pay18 (iblk m c 0 (Fin.revPerm s)) (iblk m c 2 (Fin.revPerm s)))) (k0_pay53 (k0_pay35 (iblk m c 2 (Fin.revPerm s))) (k0_pay44 (k0_pay5 (iblk m c 1 (Fin.revPerm s))) (iblk m c 3 (Fin.revPerm s))))) (k0_pay60 (k0_pay15 (iblk m c 0 (Fin.revPerm s))) (k0_pay54 (k0_pay21 (k0_pay8 (iblk m c 0 (Fin.revPerm s)) (iblk m c 2 (Fin.revPerm s))) (k0_pay18 (iblk m c 0 (Fin.revPerm s)) (iblk m c 2 (Fin.revPerm s)))) (k0_pay25 (k0_pay11 (iblk m c 0 (Fin.revPerm s)) (iblk m c 2 (Fin.revPerm s)))) (k0_pay44 (k0_pay5 (iblk m c 1 (Fin.revPerm s))) (iblk m c 3 (Fin.revPerm s))) (k0_pay45 (k0_pay5 (iblk m c 1 (Fin.revPerm s))) (iblk m c 3 (Fin.revPerm s))) (k0_pay50 (k0_pay5 (iblk m c 1 (Fin.revPerm s))) (iblk m c 3 (Fin.revPerm s)) (k0_pay29 (k0_pay14 (iblk m c 0 (Fin.revPerm s)) (iblk m c 2 (Fin.revPerm s)))) (k0_pay33 (k0_pay17 (iblk m c 0 (Fin.revPerm s)) (iblk m c 2 (Fin.revPerm s)))))) (k0_pay55 (k0_pay31 (k0_pay17 (iblk m c 0 (Fin.revPerm s)) (iblk m c 2 (Fin.revPerm s)))) (k0_pay32 (k0_pay17 (iblk m c 0 (Fin.revPerm s)) (iblk m c 2 (Fin.revPerm s)))) (k0_pay34 (k0_pay17 (iblk m c 0 (Fin.revPerm s)) (iblk m c 2 (Fin.revPerm s)))) (k0_pay48 (k0_pay5 (iblk m c 1 (Fin.revPerm s))) (iblk m c 2 (Fin.revPerm s)) (iblk m c 3 (Fin.revPerm s))))) (k0_pay62 (k0_pay27 (k0_pay14 (iblk m c 0 (Fin.revPerm s)) (iblk m c 2 (Fin.revPerm s)))) (k0_pay56 (k0_pay27 (k0_pay14 (iblk m c 0 (Fin.revPerm s)) (iblk m c 2 (Fin.revPerm s)))) (k0_pay28 (k0_pay14 (iblk m c 0 (Fin.revPerm s)) (iblk m c 2 (Fin.revPerm s)))) (k0_pay30 (k0_pay14 (iblk m c 0 (Fin.revPerm s)) (iblk m c 2 (Fin.revPerm s)))) (k0_pay49 (k0_pay5 (iblk m c 1 (Fin.revPerm s))) (iblk m c 2 (Fin.revPerm s)) (iblk m c 3 (Fin.revPerm s))))) (ix2 k j))
      = Cert.Reference12Ideal.Read.val_main_v74 (F := Ideal) (m ((c : Thread nD τ).loc main_arg0)) (m ((c : Thread nD τ).loc main_arg1)) (m ((c : Thread nD τ).loc main_arg2)) (ix2 k j) := by
  rw [ref_kv]
  by_cases h : j.val < 512
  · rw [dif_pos h, ref_keys]
    simp only [memory_keys _ _ _ _ k j ⟨j.val / 128, by omega⟩ rfl, block_query, block_memory, block_gated]
    refine Fin.sum_mul_add_congr fun s r hl => ?_
    rw [row_rev s r hl]
  · rw [dif_neg h, ref_values]
    simp only [memory_values _ _ _ _ k j ⟨j.val / 128 - 4, by omega⟩ (by show _ = 4 + (j.val / 128 - 4); omega), block_query, block_memory, block_gated]
    refine Fin.sum_mul_add_congr fun s r hl => ?_
    rw [row_rev s r hl]
    have e : (⟨j.val / 128 - 4, by omega⟩ : Fin 4) = ⟨(j.val - 512) / 128, by omega⟩ := Fin.ext (by show j.val / 128 - 4 = (j.val - 512) / 128; omega)
    rw [e]

theorem final5 (c : Dev nD) : (dats m 0 c).arrAt 5 (cfgs 0).N
    = Cert.Reference12Ideal.Read.val_main_v74 (F := Ideal) (m ((c : Thread nD τ).loc main_arg0)) (m ((c : Thread nD τ).loc main_arg1)) (m ((c : Thread nD τ).loc main_arg2)) := by
  refine (dats m 0 c).arrAt_eq_of_after_last 5 t0_3 (by decide +kernel) _ fun j => ?_
  blk_simp
  rw [after0_5, Pipeline.eq_sum_fin_of_reset_step_apply_last (fun n h => (outsAt0 m c n h).2) 4 (fun _ => 0) _
    (fun t h j => by rw [outsAt0_A m c t h]; frame_out; rw [pay2, zero5])
    (fun t h j => by rw [outsAt0_B m c t h]; frame_out; rw [pay2])
    (le_of_eq N_0) t0_3 rfl j, zero_add]
  rw [← Equiv.sum_comp Fin.revPerm, eq_ix2 j]
  exact part5 m c (j 0) (j 1)

end Cert.Kernel12Ideal.MemBwdValue

end
-- ==== Proof.MemFwdValue.lean ====
module

public import proofs.«01_k».proof.Proof.Gen.Kernel13Ideal.Frame
public import proofs.«01_k».proof.Proof.Gen.Reference13Ideal.Read
public import Idealize.ShloMosaic.Lib.Pipeline.ValueKit
public import Idealize.ShloMosaic.Lib.Pointwise
public import proofs.«01_k».proof.Proof.Softmax

/-! The memory branch: every column of a block is its head’s attention over the memory, times the branch’s gate. -/

@[expose] public section

set_option maxRecDepth 16384

noncomputable section

open Idealize.ShloMosaic Idealize.ShloMosaic.TcCoe Idealize.SL.Sem
open Idealize.ShloMosaic.Pipeline (Dat)

namespace Cert.Kernel13Ideal.MemFwdValue

open Cert.Kernel13Ideal Cert.Kernel13Ideal.Gen
open Cert.Reference13Ideal.Read

variable (m : (ℓ : Loc nD τ sig) → Buf (Elt Ideal) ℓ)

open Cert.Softmax

/-- Which block of its array each window stands at, at every point of the grid. -/
theorem idx : ∀ t : Fin cfg0.N, win0_0.index t = ![t.val, 18]
    ∧ win0_1.index t = ![t.val, 19]
    ∧ win0_2.index t = ![0, 0]
    ∧ win0_3.index t = ![t.val, 0] :=
  (by decide +kernel : ∀ t : Fin grid0.N, _)

/-- The shares of the first head of a block. -/
theorem head0 (x0 : FVec Ideal S512x512 .bf16) (x2 : FVec Ideal S256x1024 .f32) (r : Fin 512) (k : Fin 256) :
    k0_pay6 (F := Ideal) x0 x2 (ix2 r k) = prob (scores (fun j => x0 (ix2 r j)) (fun k j => x2 (ix2 k j)) 0) k := by
  have e (d : Fin 128) : 0 * 128 + d.val = d.val := by omega
  pointwise [k0_pay6]
  simp only [prob, weight, total, top, scores, score, Fin.val_zero, e]
  rfl

/-- The scores of head 1 of a block. -/
theorem head1 (x0 : FVec Ideal S512x512 .bf16) (x2 : FVec Ideal S256x1024 .f32) (r : Fin 512) (k : Fin 256) :
    k0_pay3 (F := Ideal) x0 x2 (ix2 r k) = scores (fun j => x0 (ix2 r j)) (fun k j => x2 (ix2 k j)) 1 k := by
  pointwise [k0_pay3]; rfl

/-- The scores of head 2 of a block. -/
theorem head2 (x0 : FVec Ideal S512x512 .bf16) (x2 : FVec Ideal S256x1024 .f32) (r : Fin 512) (k : Fin 256) :
    k0_pay4 (F := Ideal) x0 x2 (ix2 r k) = scores (fun j => x0 (ix2 r j)) (fun k j => x2 (ix2 k j)) 2 k := by
  pointwise [k0_pay4]; rfl

/-- The scores of head 3 of a block. -/
theorem head3 (x0 : FVec Ideal S512x512 .bf16) (x2 : FVec Ideal S256x1024 .f32) (r : Fin 512) (k : Fin 256) :
    k0_pay5 (F := Ideal) x0 x2 (ix2 r k) = scores (fun j => x0 (ix2 r j)) (fun k j => x2 (ix2 k j)) 3 k := by
  pointwise [k0_pay5]; rfl

/-- What a point stores, column by column: the head of a column weighs the values of that column. -/
theorem stored (x0 x1 : FVec Ideal S512x512 .bf16) (x2 : FVec Ideal S256x1024 .f32) (r j : Fin 512) (y) (hy : y = ix2 r j) :
    k0_pay7 (F := Ideal) (k0_pay2 x1) x2 (k0_pay3 x0 x2) (k0_pay4 x0 x2) (k0_pay5 x0 x2) (k0_pay6 x0 x2) y
      = (∑ k : Fin 256, prob (scores (fun j => x0 (ix2 r j)) (fun k j => x2 (ix2 k j)) ⟨j.val / 128, by omega⟩) k
          * x2 (ix2 k ⟨512 + j.val, by omega⟩)) * (x1 (ix2 r j) * Ideal.logistic (x1 (ix2 r j))) := by
  subst hy
  pointwise [k0_pay7, k0_pay2]
  simp only [head0, head1, head2, head3]
  refine congrArg (· * _) ?_
  by_cases h0 : j.val < 128
  · rw [dif_pos h0]
    rw [show (⟨j.val / 128, by omega⟩ : Fin 4) = 0 from Fin.ext (by show j.val / 128 = 0; omega)]
  rw [dif_neg h0]
  by_cases h1 : j.val - 128 < 128
  · rw [dif_pos h1]
    rw [show (⟨j.val / 128, by omega⟩ : Fin 4) = 1 from Fin.ext (by show j.val / 128 = 1; omega)]
    refine @Finset.sum_congr _ EReal _ _ _ _ _ rfl fun k _ => congrArg₂ (· * ·) rfl (congrArg (fun j => x2 (ix2 k j)) (Fin.ext ?_))
    dsimp only; omega
  rw [dif_neg h1]
  by_cases h2 : j.val - 128 - 128 < 128
  · rw [dif_pos h2]
    rw [show (⟨j.val / 128, by omega⟩ : Fin 4) = 2 from Fin.ext (by show j.val / 128 = 2; omega)]
    refine @Finset.sum_congr _ EReal _ _ _ _ _ rfl fun k _ => congrArg₂ (· * ·) rfl (congrArg (fun j => x2 (ix2 k j)) (Fin.ext ?_))
    dsimp only; omega
  rw [dif_neg h2]
  rw [show (⟨j.val / 128, by omega⟩ : Fin 4) = 3 from Fin.ext (by show j.val / 128 = 3; omega)]
  refine @Finset.sum_congr _ EReal _ _ _ _ _ rfl fun k _ => congrArg₂ (· * ·) rfl (congrArg (fun j => x2 (ix2 k j)) (Fin.ext ?_))
  dsimp only; omega

/-- The reference's scores. -/
theorem ref_scores (x0 : FVec Ideal S2048x10240 .bf16) (x1 : FVec Ideal S256x1024 .f32) (h : Fin 4) (r : Fin 2048) (k : Fin 256) :
    val_main_v11 (F := Ideal) x0 x1 (ix3 h r k)
      = scores (fun j => x0 (ix2 r ⟨9216 + j.val, by omega⟩)) (fun k j => x1 (ix2 k j)) h k := by
  pointwise [val_main_v0, val_main_v1, val_main_v4, val_main_v5, val_main_v7, val_main_v9, val_main_cst, val_main_v10, val_main_v11]
  rfl

/-- The reference's shares. -/
theorem ref_prob (x0 : FVec Ideal S2048x10240 .bf16) (x1 : FVec Ideal S256x1024 .f32) (h : Fin 4) (r : Fin 2048) (k : Fin 256) :
    val_main_v22 (F := Ideal) x0 x1 (ix3 h r k)
      = prob (scores (fun j => x0 (ix2 r ⟨9216 + j.val, by omega⟩)) (fun k j => x1 (ix2 k j)) h) k := by
  pointwise [val_main_cst_0, val_main_v12, val_main_cst_1, val_main_v13, val_main_v14, val_main_v15, val_main_v16, val_main_v17, val_main_v18, val_main_cst_2, val_main_v19, val_main_v20, val_main_v21, val_main_v22]
  simp only [ref_scores, max_fold]
  rfl

/-- The reference's result. -/
theorem ref_out (x0 : FVec Ideal S2048x10240 .bf16) (x1 : FVec Ideal S256x1024 .f32) (r : Fin 2048) (j : Fin 512) (y) (hy : y = ix2 r j) :
    val_main_v28 (F := Ideal) x0 x1 y
      = (∑ k : Fin 256, prob (scores (fun j => x0 (ix2 r ⟨9216 + j.val, by omega⟩)) (fun k j => x1 (ix2 k j)) ⟨j.val / 128, by omega⟩) k
          * x1 (ix2 k ⟨512 + j.val, by omega⟩))
        * (x0 (ix2 r ⟨9728 + j.val, by omega⟩) * Ideal.logistic (x0 (ix2 r ⟨9728 + j.val, by omega⟩))) := by
  subst hy
  pointwise [Ideal.logistic, val_main_v2, val_main_v3, val_main_v6, val_main_v8, val_main_v23, val_main_v24, val_main_v25, val_main_call0_v0, val_main_call0_v1, val_main_call0_cst, val_main_call0_v2, val_main_call0_v3, val_main_call0_cst_0, val_main_call0_v4, val_main_call0_v5, val_main_v26, val_main_v27, val_main_v28]
  simp only [ref_prob]
  refine congrArg₂ (· * ·) (@Finset.sum_congr _ EReal _ _ _ _ _ rfl fun k _ => @mul_comm EReal _ _ _) rfl

/-- What a point stores is the reference's array at the block's place. -/
theorem point (c : Dev nD) (t : Fin cfg0.N) (y) :
    k0_pay7 (F := Ideal) (k0_pay2 (iblk m c 1 t)) (iblk m c 2 t) (k0_pay3 (iblk m c 0 t) (iblk m c 2 t))
        (k0_pay4 (iblk m c 0 t) (iblk m c 2 t)) (k0_pay5 (iblk m c 0 t) (iblk m c 2 t))
        (k0_pay6 (iblk m c 0 t) (iblk m c 2 t)) y
      = val_main_v28 (F := Ideal) (m ((c : Thread nD τ).loc main_arg0)) (m ((c : Thread nD τ).loc main_arg1)) (((cfg0.win 3).blk t).view.emb y) := by
  rw [stored _ _ _ (y 0) (y 1) y (eq_ix2 y), ref_out _ _ _ _ _ (eq_ix2 _)]
  blk_point [iblk, V, idx t]

/-- The result array after the run. -/
theorem final (c : Dev nD) : (dats m 0 c).arrAt 3 (cfgs 0).N
    = val_main_v28 (F := Ideal) (m ((c : Thread nD τ).loc main_arg0)) (m ((c : Thread nD τ).loc main_arg1)) := by
  refine (dats m 0 c).arrAt_eq_of_covers 3 _ (by decide +kernel) fun t hf y => ?_
  blk_simp; rw [after0_3]; frame_out
  exact point m c t y

end Cert.Kernel13Ideal.MemFwdValue

end
-- ==== Proof.Gating.lean ====
module

public import Idealize.ShloMosaic.Lib.WordCmp
public import Idealize.ShloMosaic.Lib.Pipeline.ValueKit
public import Idealize.ShloMosaic.Lib.Pointwise

/-! The mathematics of the spatial gating branch, without a program: the units, the gain of a row, the mask of the earlier places. -/

@[expose] public section

set_option maxRecDepth 16384

noncomputable section

open Idealize.ShloMosaic Idealize.ShloMosaic.TcCoe Idealize.SL.Sem
open Idealize.ShloMosaic.Pipeline (Dat)

namespace Cert.Gating

/-- The tanh form of the Gaussian error unit. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The reciprocal root of the mean square of a row of 512. -/
def gain (v : Fin 512 → EReal) : EReal :=
  Ideal.rsqrt (Ideal.div (∑ j, v j * v j) (Ideal.ofBits .f32 0x44000000#32) + Ideal.ofBits .f32 0x358637BD#32)

/-- The normalised half of a row that is mixed over the tokens. -/
def normed (x : Fin 1024 → EReal) (g : Fin 512 → EReal) (j : Fin 512) : EReal :=
  gelu (x ⟨512 + j.val, by omega⟩) * gain (fun j => gelu (x ⟨512 + j.val, by omega⟩)) * g j

/-- A number kept where the second index does not pass the first, zero elsewhere. -/
def keep (p q : Fin 128) (w : EReal) : EReal := if q ≤ p then w else 0

/-- The comparison of two places, as a select reads it. -/
theorem select_keep (p q : Fin 128) (w : EReal) :
    Scalar.select (IntOp.cmpi .sge (BitVec.ofNat 32 p.val) (BitVec.ofNat 32 q.val)) w (0 : EReal) = keep p q w := by
  have hp := p.isLt
  have hq := q.isLt
  have e : IntOp.cmpi .sge (BitVec.ofNat 32 p.val) (BitVec.ofNat 32 q.val) = BitVec.ofBool (decide (q.val ≤ p.val)) := by
    exact Idealize.ShloMosaic.WordCmp.cmpi_sge_ofNat (by omega) (by omega)
  rw [e]
  unfold keep
  by_cases h : q.val ≤ p.val
  · rw [if_pos (show q ≤ p from h), decide_eq_true h]; rfl
  · rw [if_neg (show ¬ q ≤ p from h), decide_eq_false h]; rfl

/-- The comparison of two places, as a host’s mask reads it. -/
theorem select_mask (p q : Fin 128) (w z : EReal) (hz : z = 0) :
    Scalar.select (Scalar.select (IntOp.cmpi .sge (IntOp.addi (BitVec.ofNat 32 p.val) 0#32) (BitVec.ofNat 32 q.val)) 1#1 0#1) w z = keep p q w := by
  subst hz
  rw [← select_keep]
  have e : IntOp.addi (BitVec.ofNat 32 p.val) 0#32 = BitVec.ofNat 32 p.val := BitVec.add_zero _
  rw [e]
  generalize IntOp.cmpi .sge (BitVec.ofNat 32 p.val) (BitVec.ofNat 32 q.val) = b
  have hb : b = 0#1 ∨ b = 1#1 := by revert b; decide
  rcases hb with rfl | rfl <;> rfl

/-- One where two places are the same, zero elsewhere. -/
theorem same_place (p q : Fin 128) :
    FloatOps.sitofp (F := Ideal) .f32 (BitVec.setWidth 32 (IntOp.cmpi .eq (BitVec.ofNat 32 p.val) (BitVec.ofNat 32 q.val))) = (if p = q then 1 else 0 : EReal) := by
  have hp := p.isLt
  have hq := q.isLt
  have e : IntOp.cmpi .eq (BitVec.ofNat 32 p.val) (BitVec.ofNat 32 q.val) = BitVec.ofBool (decide (p.val = q.val)) := by
    exact Idealize.ShloMosaic.WordCmp.cmpi_eq_ofNat (by omega) (by omega)
  rw [e]
  by_cases h : p.val = q.val
  · rw [if_pos (Fin.ext h), decide_eq_true h]
    show (((1 : ℤ) : ℝ) : EReal) = 1
    norm_num
  · rw [if_neg (fun hh => h (congrArg Fin.val hh)), decide_eq_false h]
    show (((0 : ℤ) : ℝ) : EReal) = 0
    norm_num

/-- A sum against such a row picks one entry. -/
theorem pick_sum (p : Fin 128) (v : Fin 128 → EReal) : (∑ q, (if p = q then 1 else 0 : EReal) * v q) = v p := by
  simp only [ite_mul, one_mul, zero_mul, Finset.sum_ite_eq, Finset.mem_univ, if_true]

end Cert.Gating

end
-- ==== Proof.GatingFwdValue.lean ====
module

public import proofs.«01_k».proof.Proof.Gen.Kernel15Ideal.Frame
public import proofs.«01_k».proof.Proof.Gen.Reference15Ideal.Read
public import proofs.«01_k».proof.Proof.Gating
public import Idealize.ShloMosaic.Lib.Pipeline.ValueKit
public import Idealize.ShloMosaic.Lib.Pointwise

/-! The spatial gating branch: every column of a block is its head’s mixture over the earlier rows of the same 128, times the other half and the gate. -/

@[expose] public section

set_option maxRecDepth 16384

noncomputable section

open Idealize.ShloMosaic Idealize.ShloMosaic.TcCoe Idealize.SL.Sem
open Idealize.ShloMosaic.Pipeline (Dat)

namespace Cert.Kernel15Ideal.GatingFwdValue

open Cert.Kernel15Ideal Cert.Kernel15Ideal.Gen
open Cert.Gating

/-- One row of a mixed block: the weights times the column, plus the bias. -/
def mix (w : FVec Ideal S128x128 .f32) (b : FVec Ideal S128x1 .f32) (v : Fin 128 → EReal) (p : Fin 128) : EReal :=
  (∑ q, w (ix2 p q) * v q) + b (ix2 p 0)

/-- The block a point stores, as the program puts it together. -/
abbrev storedBlk (v3 v35 : FVec Ideal S512x512 .f32) (v21 : FVec Ideal S1x128 .f32) (v48 : FVec Ideal S512x512 .f32) (v53 v56 v59 v62 v65 : FVec Ideal S128x128 .f32) (v69 v73 : FVec Ideal S128x1 .f32) (v75 : FVec Ideal S128x128 .f32) : FVec Ideal S512x512 .f32 :=
    k0_pay1 (F := Ideal) v3 v35 v65 (k0_pay28 v21 v53) (k0_pay29 v21 v48 v53 v56 v59 v62 v65 v69 v73 v75)
      (k0_pay34 v65 (k0_pay28 v21 v53) (k0_pay30 v48) (k0_pay31 v48 v56 v69) (k0_pay32 v48 v59 v73) (k0_pay33 v48 v62 v75))
      (k0_pay35 v48 v56 v59 v62 v65 v69 v73 (k0_pay27 v75) (k0_pay28 v21 v53)) (k0_pay36 v48)
      (k0_pay37 v48 v56 v69) (k0_pay38 v48 v59 v73) (k0_pay39 v48 v62 (k0_pay27 v75))

section
variable (v3 v35 : FVec Ideal S512x512 .f32) (v21 : FVec Ideal S1x128 .f32) (v48 : FVec Ideal S512x512 .f32) (v53 v56 v59 v62 v65 : FVec Ideal S128x128 .f32) (v69 v73 : FVec Ideal S128x1 .f32) (v75 : FVec Ideal S128x128 .f32)

theorem stored_0_0 (r j : Fin 512) (hr : r.val / 128 = 0) (hj : j.val / 128 = 0) :
    storedBlk v3 v35 v21 v48 v53 v56 v59 v62 v65 v69 v73 v75 (ix2 r j)
      = v35 (ix2 r j) * mix v56 v69 (fun q => v48 (ix2 ⟨q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val, by omega⟩ : Fin 128) = ⟨r.val % 128, by omega⟩ := Fin.ext (by show r.val = r.val % 128; omega)
  simp only [show r.val < 128 by omega, show j.val < 128 by omega, not_false_eq_true, ↓reduceDIte, er, mix]

theorem stored_0_1 (r j : Fin 512) (hr : r.val / 128 = 0) (hj : j.val / 128 = 1) :
    storedBlk v3 v35 v21 v48 v53 v56 v59 v62 v65 v69 v73 v75 (ix2 r j)
      = v35 (ix2 r j) * mix v59 v73 (fun q => v48 (ix2 ⟨q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val, by omega⟩ : Fin 128) = ⟨r.val % 128, by omega⟩ := Fin.ext (by show r.val = r.val % 128; omega)
  have ej : (⟨128 + (j.val - 128), by omega⟩ : Fin 512) = j := Fin.ext (by show 128 + (j.val - 128) = j.val; omega)
  simp only [show r.val < 128 by omega, show ¬ j.val < 128 by omega, show j.val - 128 < 128 by omega, not_false_eq_true, ↓reduceDIte, er, ej, mix]

theorem stored_0_2 (r j : Fin 512) (hr : r.val / 128 = 0) (hj : j.val / 128 = 2) :
    storedBlk v3 v35 v21 v48 v53 v56 v59 v62 v65 v69 v73 v75 (ix2 r j)
      = v35 (ix2 r j) * mix v62 (k0_pay27 v75) (fun q => v48 (ix2 ⟨q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val, by omega⟩ : Fin 128) = ⟨r.val % 128, by omega⟩ := Fin.ext (by show r.val = r.val % 128; omega)
  have ej : (⟨256 + (j.val - 128 - 128), by omega⟩ : Fin 512) = j := Fin.ext (by show 256 + (j.val - 128 - 128) = j.val; omega)
  simp only [show r.val < 128 by omega, show ¬ j.val < 128 by omega, show ¬ j.val - 128 < 128 by omega, show j.val - 128 - 128 < 128 by omega, not_false_eq_true, ↓reduceDIte, er, ej, mix]

theorem stored_0_3 (r j : Fin 512) (hr : r.val / 128 = 0) (hj : j.val / 128 = 3) :
    storedBlk v3 v35 v21 v48 v53 v56 v59 v62 v65 v69 v73 v75 (ix2 r j)
      = v35 (ix2 r j) * mix v65 (k0_pay28 v21 v53) (fun q => v48 (ix2 ⟨q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val, by omega⟩ : Fin 128) = ⟨r.val % 128, by omega⟩ := Fin.ext (by show r.val = r.val % 128; omega)
  have ej : (⟨384 + (j.val - 128 - 128 - 128), by omega⟩ : Fin 512) = j := Fin.ext (by show 384 + (j.val - 128 - 128 - 128) = j.val; omega)
  simp only [show r.val < 128 by omega, show ¬ j.val < 128 by omega, show ¬ j.val - 128 < 128 by omega, show ¬ j.val - 128 - 128 < 128 by omega, not_false_eq_true, ↓reduceDIte, er, ej, mix]

theorem stored_1_0 (r j : Fin 512) (hr : r.val / 128 = 1) (hj : j.val / 128 = 0) :
    storedBlk v3 v35 v21 v48 v53 v56 v59 v62 v65 v69 v73 v75 (ix2 r j)
      = v35 (ix2 r j) * mix v56 v69 (fun q => v48 (ix2 ⟨128 + q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val - 128, by omega⟩ : Fin 128) = ⟨r.val % 128, by omega⟩ := Fin.ext (by show r.val - 128 = r.val % 128; omega)
  simp only [show ¬ r.val < 128 by omega, show r.val - 128 < 128 by omega, show j.val < 128 by omega, not_false_eq_true, ↓reduceDIte, er, mix]

theorem stored_1_1 (r j : Fin 512) (hr : r.val / 128 = 1) (hj : j.val / 128 = 1) :
    storedBlk v3 v35 v21 v48 v53 v56 v59 v62 v65 v69 v73 v75 (ix2 r j)
      = v35 (ix2 r j) * mix v59 v73 (fun q => v48 (ix2 ⟨128 + q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val - 128, by omega⟩ : Fin 128) = ⟨r.val % 128, by omega⟩ := Fin.ext (by show r.val - 128 = r.val % 128; omega)
  have ej : (⟨128 + (j.val - 128), by omega⟩ : Fin 512) = j := Fin.ext (by show 128 + (j.val - 128) = j.val; omega)
  simp only [show ¬ r.val < 128 by omega, show r.val - 128 < 128 by omega, show ¬ j.val < 128 by omega, show j.val - 128 < 128 by omega, not_false_eq_true, ↓reduceDIte, er, ej, mix]

theorem stored_1_2 (r j : Fin 512) (hr : r.val / 128 = 1) (hj : j.val / 128 = 2) :
    storedBlk v3 v35 v21 v48 v53 v56 v59 v62 v65 v69 v73 v75 (ix2 r j)
      = v35 (ix2 r j) * mix v62 (k0_pay27 v75) (fun q => v48 (ix2 ⟨128 + q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val - 128, by omega⟩ : Fin 128) = ⟨r.val % 128, by omega⟩ := Fin.ext (by show r.val - 128 = r.val % 128; omega)
  have ej : (⟨256 + (j.val - 128 - 128), by omega⟩ : Fin 512) = j := Fin.ext (by show 256 + (j.val - 128 - 128) = j.val; omega)
  simp only [show ¬ r.val < 128 by omega, show r.val - 128 < 128 by omega, show ¬ j.val < 128 by omega, show ¬ j.val - 128 < 128 by omega, show j.val - 128 - 128 < 128 by omega, not_false_eq_true, ↓reduceDIte, er, ej, mix]

theorem stored_1_3 (r j : Fin 512) (hr : r.val / 128 = 1) (hj : j.val / 128 = 3) :
    storedBlk v3 v35 v21 v48 v53 v56 v59 v62 v65 v69 v73 v75 (ix2 r j)
      = v35 (ix2 r j) * mix v65 (k0_pay28 v21 v53) (fun q => v48 (ix2 ⟨128 + q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val - 128, by omega⟩ : Fin 128) = ⟨r.val % 128, by omega⟩ := Fin.ext (by show r.val - 128 = r.val % 128; omega)
  have ej : (⟨384 + (j.val - 128 - 128 - 128), by omega⟩ : Fin 512) = j := Fin.ext (by show 384 + (j.val - 128 - 128 - 128) = j.val; omega)
  simp only [show ¬ r.val < 128 by omega, show r.val - 128 < 128 by omega, show ¬ j.val < 128 by omega, show ¬ j.val - 128 < 128 by omega, show ¬ j.val - 128 - 128 < 128 by omega, not_false_eq_true, ↓reduceDIte, er, ej, mix]

theorem stored_2_0 (r j : Fin 512) (hr : r.val / 128 = 2) (hj : j.val / 128 = 0) :
    storedBlk v3 v35 v21 v48 v53 v56 v59 v62 v65 v69 v73 v75 (ix2 r j)
      = v35 (ix2 r j) * mix v56 v69 (fun q => v48 (ix2 ⟨256 + q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val - 128 - 128, by omega⟩ : Fin 128) = ⟨r.val % 128, by omega⟩ := Fin.ext (by show r.val - 128 - 128 = r.val % 128; omega)
  simp only [show ¬ r.val < 128 by omega, show ¬ r.val - 128 < 128 by omega, show r.val - 128 - 128 < 128 by omega, show j.val < 128 by omega, not_false_eq_true, ↓reduceDIte, er, mix]

theorem stored_2_1 (r j : Fin 512) (hr : r.val / 128 = 2) (hj : j.val / 128 = 1) :
    storedBlk v3 v35 v21 v48 v53 v56 v59 v62 v65 v69 v73 v75 (ix2 r j)
      = v35 (ix2 r j) * mix v59 v73 (fun q => v48 (ix2 ⟨256 + q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val - 128 - 128, by omega⟩ : Fin 128) = ⟨r.val % 128, by omega⟩ := Fin.ext (by show r.val - 128 - 128 = r.val % 128; omega)
  have ej : (⟨128 + (j.val - 128), by omega⟩ : Fin 512) = j := Fin.ext (by show 128 + (j.val - 128) = j.val; omega)
  simp only [show ¬ r.val < 128 by omega, show ¬ r.val - 128 < 128 by omega, show r.val - 128 - 128 < 128 by omega, show ¬ j.val < 128 by omega, show j.val - 128 < 128 by omega, not_false_eq_true, ↓reduceDIte, er, ej, mix]

theorem stored_2_2 (r j : Fin 512) (hr : r.val / 128 = 2) (hj : j.val / 128 = 2) :
    storedBlk v3 v35 v21 v48 v53 v56 v59 v62 v65 v69 v73 v75 (ix2 r j)
      = v35 (ix2 r j) * mix v62 (k0_pay27 v75) (fun q => v48 (ix2 ⟨256 + q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val - 128 - 128, by omega⟩ : Fin 128) = ⟨r.val % 128, by omega⟩ := Fin.ext (by show r.val - 128 - 128 = r.val % 128; omega)
  have ej : (⟨256 + (j.val - 128 - 128), by omega⟩ : Fin 512) = j := Fin.ext (by show 256 + (j.val - 128 - 128) = j.val; omega)
  simp only [show ¬ r.val < 128 by omega, show ¬ r.val - 128 < 128 by omega, show r.val - 128 - 128 < 128 by omega, show ¬ j.val < 128 by omega, show ¬ j.val - 128 < 128 by omega, show j.val - 128 - 128 < 128 by omega, not_false_eq_true, ↓reduceDIte, er, ej, mix]

theorem stored_2_3 (r j : Fin 512) (hr : r.val / 128 = 2) (hj : j.val / 128 = 3) :
    storedBlk v3 v35 v21 v48 v53 v56 v59 v62 v65 v69 v73 v75 (ix2 r j)
      = v35 (ix2 r j) * mix v65 (k0_pay28 v21 v53) (fun q => v48 (ix2 ⟨256 + q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val - 128 - 128, by omega⟩ : Fin 128) = ⟨r.val % 128, by omega⟩ := Fin.ext (by show r.val - 128 - 128 = r.val % 128; omega)
  have ej : (⟨384 + (j.val - 128 - 128 - 128), by omega⟩ : Fin 512) = j := Fin.ext (by show 384 + (j.val - 128 - 128 - 128) = j.val; omega)
  simp only [show ¬ r.val < 128 by omega, show ¬ r.val - 128 < 128 by omega, show r.val - 128 - 128 < 128 by omega, show ¬ j.val < 128 by omega, show ¬ j.val - 128 < 128 by omega, show ¬ j.val - 128 - 128 < 128 by omega, not_false_eq_true, ↓reduceDIte, er, ej, mix]

theorem stored_3_0 (r j : Fin 512) (hr : r.val / 128 = 3) (hj : j.val / 128 = 0) :
    storedBlk v3 v35 v21 v48 v53 v56 v59 v62 v65 v69 v73 v75 (ix2 r j)
      = v35 (ix2 r j) * mix v56 v69 (fun q => v48 (ix2 ⟨384 + q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val - 128 - 128 - 128, by omega⟩ : Fin 128) = ⟨r.val % 128, by omega⟩ := Fin.ext (by show r.val - 128 - 128 - 128 = r.val % 128; omega)
  simp only [show ¬ r.val < 128 by omega, show ¬ r.val - 128 < 128 by omega, show ¬ r.val - 128 - 128 < 128 by omega, show j.val < 128 by omega, not_false_eq_true, ↓reduceDIte, er, mix]

theorem stored_3_1 (r j : Fin 512) (hr : r.val / 128 = 3) (hj : j.val / 128 = 1) :
    storedBlk v3 v35 v21 v48 v53 v56 v59 v62 v65 v69 v73 v75 (ix2 r j)
      = v35 (ix2 r j) * mix v59 v73 (fun q => v48 (ix2 ⟨384 + q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val - 128 - 128 - 128, by omega⟩ : Fin 128) = ⟨r.val % 128, by omega⟩ := Fin.ext (by show r.val - 128 - 128 - 128 = r.val % 128; omega)
  have ej : (⟨128 + (j.val - 128), by omega⟩ : Fin 512) = j := Fin.ext (by show 128 + (j.val - 128) = j.val; omega)
  simp only [show ¬ r.val < 128 by omega, show ¬ r.val - 128 < 128 by omega, show ¬ r.val - 128 - 128 < 128 by omega, show ¬ j.val < 128 by omega, show j.val - 128 < 128 by omega, not_false_eq_true, ↓reduceDIte, er, ej, mix]

theorem stored_3_2 (r j : Fin 512) (hr : r.val / 128 = 3) (hj : j.val / 128 = 2) :
    storedBlk v3 v35 v21 v48 v53 v56 v59 v62 v65 v69 v73 v75 (ix2 r j)
      = v35 (ix2 r j) * mix v62 (k0_pay27 v75) (fun q => v48 (ix2 ⟨384 + q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val - 128 - 128 - 128, by omega⟩ : Fin 128) = ⟨r.val % 128, by omega⟩ := Fin.ext (by show r.val - 128 - 128 - 128 = r.val % 128; omega)
  have ej : (⟨256 + (j.val - 128 - 128), by omega⟩ : Fin 512) = j := Fin.ext (by show 256 + (j.val - 128 - 128) = j.val; omega)
  simp only [show ¬ r.val < 128 by omega, show ¬ r.val - 128 < 128 by omega, show ¬ r.val - 128 - 128 < 128 by omega, show ¬ j.val < 128 by omega, show ¬ j.val - 128 < 128 by omega, show j.val - 128 - 128 < 128 by omega, not_false_eq_true, ↓reduceDIte, er, ej, mix]

theorem stored_3_3 (r j : Fin 512) (hr : r.val / 128 = 3) (hj : j.val / 128 = 3) :
    storedBlk v3 v35 v21 v48 v53 v56 v59 v62 v65 v69 v73 v75 (ix2 r j)
      = v35 (ix2 r j) * mix v65 (k0_pay28 v21 v53) (fun q => v48 (ix2 ⟨384 + q.val, by omega⟩ j)) ⟨r.val % 128, by omega⟩ * (v3 (ix2 r j) * Ideal.logistic (v3 (ix2 r j))) := by
  pointwise [storedBlk, k0_pay1, k0_pay29, k0_pay30, k0_pay31, k0_pay32, k0_pay33, k0_pay34, k0_pay35, k0_pay36, k0_pay37, k0_pay38, k0_pay39]
  have er : (⟨r.val - 128 - 128 - 128, by omega⟩ : Fin 128) = ⟨r.val % 128, by omega⟩ := Fin.ext (by show r.val - 128 - 128 - 128 = r.val % 128; omega)
  have ej : (⟨384 + (j.val - 128 - 128 - 128), by omega⟩ : Fin 512) = j := Fin.ext (by show 384 + (j.val - 128 - 128 - 128) = j.val; omega)
  simp only [show ¬ r.val < 128 by omega, show ¬ r.val - 128 < 128 by omega, show ¬ r.val - 128 - 128 < 128 by omega, show ¬ j.val < 128 by omega, show ¬ j.val - 128 < 128 by omega, show ¬ j.val - 128 - 128 < 128 by omega, not_false_eq_true, ↓reduceDIte, er, ej, mix]

end

/-- The weights of a head, kept below the diagonal. -/
theorem weights (x0 x1 x2) (x3 : Vec Ideal S4x128x128 .f32) (x4 : Vec Ideal S4x1x128 .f32) (p q : Fin 128) :
    k0_pay47 (F := Ideal) x0 x1 x2 x3 x4 (ix2 p q) = keep p q (x3 (ix3 0 p q))
    ∧ k0_pay48 (F := Ideal) x0 x1 x2 x3 x4 (ix2 p q) = keep p q (x3 (ix3 1 p q))
    ∧ k0_pay49 (F := Ideal) x0 x1 x2 x3 x4 (ix2 p q) = keep p q (x3 (ix3 2 p q))
    ∧ k0_pay50 (F := Ideal) x0 x1 x2 x3 x4 (ix2 p q) = keep p q (x3 (ix3 3 p q)) := by
  refine ⟨?_, ?_, ?_, ?_⟩
  · pointwise [k0_pay47, k0_pay20, k0_pay5]
    exact select_keep _ _ _
  · pointwise [k0_pay48, k0_pay21, k0_pay6]
    exact select_keep _ _ _
  · pointwise [k0_pay49, k0_pay22, k0_pay7]
    exact select_keep _ _ _
  · pointwise [k0_pay50, k0_pay23, k0_pay8]
    exact select_keep _ _ _

theorem diagonal (p q : Fin 128) : k0_pay19 (F := Ideal) (ix2 p q) = if p = q then 1 else 0 := by
  pointwise [k0_pay19]
  exact same_place p q

/-- The bias of a head, moved from a row to a column. -/
theorem biases (x0 x1 x2 x3) (x4 : Vec Ideal S4x1x128 .f32) (p : Fin 128) :
    k0_pay51 (F := Ideal) x0 x1 x2 x3 x4 (ix2 p 0) = x4 (ix3 0 0 p)
    ∧ k0_pay52 (F := Ideal) x0 x1 x2 x3 x4 (ix2 p 0) = x4 (ix3 1 0 p)
    ∧ k0_pay27 (F := Ideal) (k0_pay53 x0 x1 x2 x3 x4) (ix2 p 0) = x4 (ix3 2 0 p)
    ∧ k0_pay28 (F := Ideal) (k0_pay41 x0 x1 x2 x3 x4) (k0_pay46 x0 x1 x2 x3 x4) (ix2 p 0) = x4 (ix3 3 0 p) := by
  refine ⟨?_, ?_, ?_, ?_⟩
  · pointwise [k0_pay51, k0_pay24, k0_pay9]
    simp only [diagonal]
    exact pick_sum _ _
  · pointwise [k0_pay52, k0_pay25, k0_pay10]
    simp only [diagonal]
    exact pick_sum _ _
  · pointwise [k0_pay53, k0_pay26, k0_pay27, k0_pay11]
    simp only [diagonal]
    exact pick_sum _ _
  · pointwise [k0_pay41, k0_pay46, k0_pay28, k0_pay12]
    simp only [diagonal]
    exact pick_sum _ _

/-- The unit of a block. -/
theorem unit_at (x0 : Vec Ideal S512x1024 .bf16) (r : Fin 512) (j : Fin 1024) :
    k0_pay16 (F := Ideal) (k0_pay2 (View.ld x0 r0_0)) (k0_pay13 (View.ld x0 r0_0)) (k0_pay14 (View.ld x0 r0_0)) k0_pay15 (ix2 r j) = gelu (x0 (ix2 r j)) := by
  pointwise [k0_pay16, k0_pay2, k0_pay13, k0_pay14, k0_pay15]
  exact (mul_assoc _ _ _).trans (mul_left_comm _ _ _)

theorem first_half (x0 : Vec Ideal S512x1024 .bf16) (x1 x2 x3 x4) (r j : Fin 512) :
    k0_pay17 (F := Ideal) (k0_pay40 x0 x1 x2 x3 x4) (k0_pay42 x0 x1 x2 x3 x4) (k0_pay43 x0 x1 x2 x3 x4) (k0_pay44 x0 x1 x2 x3 x4) (ix2 r j)
      = gelu (x0 (ix2 r ⟨j.val, by omega⟩)) := by
  rw [← unit_at x0 r ⟨j.val, by omega⟩]
  pointwise [k0_pay17, k0_pay40, k0_pay42, k0_pay43, k0_pay44]

theorem second_half (x0 : Vec Ideal S512x1024 .bf16) (x1) (x2 : Vec Ideal S1x512 .f32) (x3 x4) (r j : Fin 512) :
    k0_pay45 (F := Ideal) x0 x1 x2 x3 x4 (ix2 r j) = normed (fun j => x0 (ix2 r j)) (fun j => x2 (ix2 0 j)) j := by
  simp only [normed, gain]
  simp only [← unit_at x0]
  pointwise [k0_pay45, k0_pay18, k0_pay4, k0_pay40, k0_pay42, k0_pay43, k0_pay44]

/-- The stored block, for whole weights and biases: the first half times the mixed second half, times the gate. -/
theorem stored (x0 : Vec Ideal S512x1024 .bf16) (x1 : Vec Ideal S512x512 .bf16) (x2 : Vec Ideal S1x512 .f32) (x3 : Vec Ideal S4x128x128 .f32) (x4 : Vec Ideal S4x1x128 .f32) (r j : Fin 512) :
    k0_pay1 (F := Ideal) (k0_pay3 x1) (k0_pay17 (k0_pay40 x0 x1 x2 x3 x4) (k0_pay42 x0 x1 x2 x3 x4) (k0_pay43 x0 x1 x2 x3 x4) (k0_pay44 x0 x1 x2 x3 x4)) (k0_pay50 x0 x1 x2 x3 x4) (k0_pay28 (k0_pay41 x0 x1 x2 x3 x4) (k0_pay46 x0 x1 x2 x3 x4)) (k0_pay29 (k0_pay41 x0 x1 x2 x3 x4) (k0_pay45 x0 x1 x2 x3 x4) (k0_pay46 x0 x1 x2 x3 x4) (k0_pay47 x0 x1 x2 x3 x4) (k0_pay48 x0 x1 x2 x3 x4) (k0_pay49 x0 x1 x2 x3 x4) (k0_pay50 x0 x1 x2 x3 x4) (k0_pay51 x0 x1 x2 x3 x4) (k0_pay52 x0 x1 x2 x3 x4) (k0_pay53 x0 x1 x2 x3 x4))
      (k0_pay34 (k0_pay50 x0 x1 x2 x3 x4) (k0_pay28 (k0_pay41 x0 x1 x2 x3 x4) (k0_pay46 x0 x1 x2 x3 x4)) (k0_pay30 (k0_pay45 x0 x1 x2 x3 x4)) (k0_pay31 (k0_pay45 x0 x1 x2 x3 x4) (k0_pay47 x0 x1 x2 x3 x4) (k0_pay51 x0 x1 x2 x3 x4)) (k0_pay32 (k0_pay45 x0 x1 x2 x3 x4) (k0_pay48 x0 x1 x2 x3 x4) (k0_pay52 x0 x1 x2 x3 x4)) (k0_pay33 (k0_pay45 x0 x1 x2 x3 x4) (k0_pay49 x0 x1 x2 x3 x4) (k0_pay53 x0 x1 x2 x3 x4)))
      (k0_pay35 (k0_pay45 x0 x1 x2 x3 x4) (k0_pay47 x0 x1 x2 x3 x4) (k0_pay48 x0 x1 x2 x3 x4) (k0_pay49 x0 x1 x2 x3 x4) (k0_pay50 x0 x1 x2 x3 x4) (k0_pay51 x0 x1 x2 x3 x4) (k0_pay52 x0 x1 x2 x3 x4) (k0_pay27 (k0_pay53 x0 x1 x2 x3 x4)) (k0_pay28 (k0_pay41 x0 x1 x2 x3 x4) (k0_pay46 x0 x1 x2 x3 x4))) (k0_pay36 (k0_pay45 x0 x1 x2 x3 x4))
      (k0_pay37 (k0_pay45 x0 x1 x2 x3 x4) (k0_pay47 x0 x1 x2 x3 x4) (k0_pay51 x0 x1 x2 x3 x4)) (k0_pay38 (k0_pay45 x0 x1 x2 x3 x4) (k0_pay48 x0 x1 x2 x3 x4) (k0_pay52 x0 x1 x2 x3 x4)) (k0_pay39 (k0_pay45 x0 x1 x2 x3 x4) (k0_pay49 x0 x1 x2 x3 x4) (k0_pay27 (k0_pay53 x0 x1 x2 x3 x4))) (ix2 r j)
      = gelu (x0 (ix2 r ⟨j.val, by omega⟩))
        * ((∑ q : Fin 128, keep ⟨r.val % 128, by omega⟩ q (x3 (ix3 ⟨j.val / 128, by omega⟩ ⟨r.val % 128, by omega⟩ q))
              * normed (fun j => x0 (ix2 ⟨r.val / 128 * 128 + q.val, by omega⟩ j)) (fun j => x2 (ix2 0 j)) j)
            + x4 (ix3 ⟨j.val / 128, by omega⟩ 0 ⟨r.val % 128, by omega⟩))
        * (x1 (ix2 r j) * Ideal.logistic (x1 (ix2 r j))) := by
  have hz : k0_pay3 (F := Ideal) x1 (ix2 r j) = x1 (ix2 r j) := by pointwise [k0_pay3]
  have hr : r.val / 128 = 0 ∨ r.val / 128 = 1 ∨ r.val / 128 = 2 ∨ r.val / 128 = 3 := by omega
  have hj : j.val / 128 = 0 ∨ j.val / 128 = 1 ∨ j.val / 128 = 2 ∨ j.val / 128 = 3 := by omega
  rcases hr with hr | hr | hr | hr <;> rcases hj with hj | hj | hj | hj
  · have eh : (⟨j.val / 128, by omega⟩ : Fin 4) = 0 := Fin.ext hj
    have er (q : Fin 128) : (⟨r.val / 128 * 128 + q.val, by omega⟩ : Fin 512) = ⟨q.val, by omega⟩ := Fin.ext (by show r.val / 128 * 128 + q.val = q.val; omega)
    refine (stored_0_0 _ _ _ _ _ _ _ _ _ _ _ _ r j hr hj).trans ?_
    rw [first_half, hz]
    simp only [mix, second_half, (weights x0 x1 x2 x3 x4 _ _).1, (biases x0 x1 x2 x3 x4 _).1, eh, er]
  · have eh : (⟨j.val / 128, by omega⟩ : Fin 4) = 1 := Fin.ext hj
    have er (q : Fin 128) : (⟨r.val / 128 * 128 + q.val, by omega⟩ : Fin 512) = ⟨q.val, by omega⟩ := Fin.ext (by show r.val / 128 * 128 + q.val = q.val; omega)
    refine (stored_0_1 _ _ _ _ _ _ _ _ _ _ _ _ r j hr hj).trans ?_
    rw [first_half, hz]
    simp only [mix, second_half, (weights x0 x1 x2 x3 x4 _ _).2.1, (biases x0 x1 x2 x3 x4 _).2.1, eh, er]
  · have eh : (⟨j.val / 128, by omega⟩ : Fin 4) = 2 := Fin.ext hj
    have er (q : Fin 128) : (⟨r.val / 128 * 128 + q.val, by omega⟩ : Fin 512) = ⟨q.val, by omega⟩ := Fin.ext (by show r.val / 128 * 128 + q.val = q.val; omega)
    refine (stored_0_2 _ _ _ _ _ _ _ _ _ _ _ _ r j hr hj).trans ?_
    rw [first_half, hz]
    simp only [mix, second_half, (weights x0 x1 x2 x3 x4 _ _).2.2.1, (biases x0 x1 x2 x3 x4 _).2.2.1, eh, er]
  · have eh : (⟨j.val / 128, by omega⟩ : Fin 4) = 3 := Fin.ext hj
    have er (q : Fin 128) : (⟨r.val / 128 * 128 + q.val, by omega⟩ : Fin 512) = ⟨q.val, by omega⟩ := Fin.ext (by show r.val / 128 * 128 + q.val = q.val; omega)
    refine (stored_0_3 _ _ _ _ _ _ _ _ _ _ _ _ r j hr hj).trans ?_
    rw [first_half, hz]
    simp only [mix, second_half, (weights x0 x1 x2 x3 x4 _ _).2.2.2, (biases x0 x1 x2 x3 x4 _).2.2.2, eh, er]
  · have eh : (⟨j.val / 128, by omega⟩ : Fin 4) = 0 := Fin.ext hj
    have er (q : Fin 128) : (⟨r.val / 128 * 128 + q.val, by omega⟩ : Fin 512) = ⟨128 + q.val, by omega⟩ := Fin.ext (by show r.val / 128 * 128 + q.val = 128 + q.val; omega)
    refine (stored_1_0 _ _ _ _ _ _ _ _ _ _ _ _ r j hr hj).trans ?_
    rw [first_half, hz]
    simp only [mix, second_half, (weights x0 x1 x2 x3 x4 _ _).1, (biases x0 x1 x2 x3 x4 _).1, eh, er]
  · have eh : (⟨j.val / 128, by omega⟩ : Fin 4) = 1 := Fin.ext hj
    have er (q : Fin 128) : (⟨r.val / 128 * 128 + q.val, by omega⟩ : Fin 512) = ⟨128 + q.val, by omega⟩ := Fin.ext (by show r.val / 128 * 128 + q.val = 128 + q.val; omega)
    refine (stored_1_1 _ _ _ _ _ _ _ _ _ _ _ _ r j hr hj).trans ?_
    rw [first_half, hz]
    simp only [mix, second_half, (weights x0 x1 x2 x3 x4 _ _).2.1, (biases x0 x1 x2 x3 x4 _).2.1, eh, er]
  · have eh : (⟨j.val / 128, by omega⟩ : Fin 4) = 2 := Fin.ext hj
    have er (q : Fin 128) : (⟨r.val / 128 * 128 + q.val, by omega⟩ : Fin 512) = ⟨128 + q.val, by omega⟩ := Fin.ext (by show r.val / 128 * 128 + q.val = 128 + q.val; omega)
    refine (stored_1_2 _ _ _ _ _ _ _ _ _ _ _ _ r j hr hj).trans ?_
    rw [first_half, hz]
    simp only [mix, second_half, (weights x0 x1 x2 x3 x4 _ _).2.2.1, (biases x0 x1 x2 x3 x4 _).2.2.1, eh, er]
  · have eh : (⟨j.val / 128, by omega⟩ : Fin 4) = 3 := Fin.ext hj
    have er (q : Fin 128) : (⟨r.val / 128 * 128 + q.val, by omega⟩ : Fin 512) = ⟨128 + q.val, by omega⟩ := Fin.ext (by show r.val / 128 * 128 + q.val = 128 + q.val; omega)
    refine (stored_1_3 _ _ _ _ _ _ _ _ _ _ _ _ r j hr hj).trans ?_
    rw [first_half, hz]
    simp only [mix, second_half, (weights x0 x1 x2 x3 x4 _ _).2.2.2, (biases x0 x1 x2 x3 x4 _).2.2.2, eh, er]
  · have eh : (⟨j.val / 128, by omega⟩ : Fin 4) = 0 := Fin.ext hj
    have er (q : Fin 128) : (⟨r.val / 128 * 128 + q.val, by omega⟩ : Fin 512) = ⟨256 + q.val, by omega⟩ := Fin.ext (by show r.val / 128 * 128 + q.val = 256 + q.val; omega)
    refine (stored_2_0 _ _ _ _ _ _ _ _ _ _ _ _ r j hr hj).trans ?_
    rw [first_half, hz]
    simp only [mix, second_half, (weights x0 x1 x2 x3 x4 _ _).1, (biases x0 x1 x2 x3 x4 _).1, eh, er]
  · have eh : (⟨j.val / 128, by omega⟩ : Fin 4) = 1 := Fin.ext hj
    have er (q : Fin 128) : (⟨r.val / 128 * 128 + q.val, by omega⟩ : Fin 512) = ⟨256 + q.val, by omega⟩ := Fin.ext (by show r.val / 128 * 128 + q.val = 256 + q.val; omega)
    refine (stored_2_1 _ _ _ _ _ _ _ _ _ _ _ _ r j hr hj).trans ?_
    rw [first_half, hz]
    simp only [mix, second_half, (weights x0 x1 x2 x3 x4 _ _).2.1, (biases x0 x1 x2 x3 x4 _).2.1, eh, er]
  · have eh : (⟨j.val / 128, by omega⟩ : Fin 4) = 2 := Fin.ext hj
    have er (q : Fin 128) : (⟨r.val / 128 * 128 + q.val, by omega⟩ : Fin 512) = ⟨256 + q.val, by omega⟩ := Fin.ext (by show r.val / 128 * 128 + q.val = 256 + q.val; omega)
    refine (stored_2_2 _ _ _ _ _ _ _ _ _ _ _ _ r j hr hj).trans ?_
    rw [first_half, hz]
    simp only [mix, second_half, (weights x0 x1 x2 x3 x4 _ _).2.2.1, (biases x0 x1 x2 x3 x4 _).2.2.1, eh, er]
  · have eh : (⟨j.val / 128, by omega⟩ : Fin 4) = 3 := Fin.ext hj
    have er (q : Fin 128) : (⟨r.val / 128 * 128 + q.val, by omega⟩ : Fin 512) = ⟨256 + q.val, by omega⟩ := Fin.ext (by show r.val / 128 * 128 + q.val = 256 + q.val; omega)
    refine (stored_2_3 _ _ _ _ _ _ _ _ _ _ _ _ r j hr hj).trans ?_
    rw [first_half, hz]
    simp only [mix, second_half, (weights x0 x1 x2 x3 x4 _ _).2.2.2, (biases x0 x1 x2 x3 x4 _).2.2.2, eh, er]
  · have eh : (⟨j.val / 128, by omega⟩ : Fin 4) = 0 := Fin.ext hj
    have er (q : Fin 128) : (⟨r.val / 128 * 128 + q.val, by omega⟩ : Fin 512) = ⟨384 + q.val, by omega⟩ := Fin.ext (by show r.val / 128 * 128 + q.val = 384 + q.val; omega)
    refine (stored_3_0 _ _ _ _ _ _ _ _ _ _ _ _ r j hr hj).trans ?_
    rw [first_half, hz]
    simp only [mix, second_half, (weights x0 x1 x2 x3 x4 _ _).1, (biases x0 x1 x2 x3 x4 _).1, eh, er]
  · have eh : (⟨j.val / 128, by omega⟩ : Fin 4) = 1 := Fin.ext hj
    have er (q : Fin 128) : (⟨r.val / 128 * 128 + q.val, by omega⟩ : Fin 512) = ⟨384 + q.val, by omega⟩ := Fin.ext (by show r.val / 128 * 128 + q.val = 384 + q.val; omega)
    refine (stored_3_1 _ _ _ _ _ _ _ _ _ _ _ _ r j hr hj).trans ?_
    rw [first_half, hz]
    simp only [mix, second_half, (weights x0 x1 x2 x3 x4 _ _).2.1, (biases x0 x1 x2 x3 x4 _).2.1, eh, er]
  · have eh : (⟨j.val / 128, by omega⟩ : Fin 4) = 2 := Fin.ext hj
    have er (q : Fin 128) : (⟨r.val / 128 * 128 + q.val, by omega⟩ : Fin 512) = ⟨384 + q.val, by omega⟩ := Fin.ext (by show r.val / 128 * 128 + q.val = 384 + q.val; omega)
    refine (stored_3_2 _ _ _ _ _ _ _ _ _ _ _ _ r j hr hj).trans ?_
    rw [first_half, hz]
    simp only [mix, second_half, (weights x0 x1 x2 x3 x4 _ _).2.2.1, (biases x0 x1 x2 x3 x4 _).2.2.1, eh, er]
  · have eh : (⟨j.val / 128, by omega⟩ : Fin 4) = 3 := Fin.ext hj
    have er (q : Fin 128) : (⟨r.val / 128 * 128 + q.val, by omega⟩ : Fin 512) = ⟨384 + q.val, by omega⟩ := Fin.ext (by show r.val / 128 * 128 + q.val = 384 + q.val; omega)
    refine (stored_3_3 _ _ _ _ _ _ _ _ _ _ _ _ r j hr hj).trans ?_
    rw [first_half, hz]
    simp only [mix, second_half, (weights x0 x1 x2 x3 x4 _ _).2.2.2, (biases x0 x1 x2 x3 x4 _).2.2.2, eh, er]

/-- The reference's unit. -/
theorem ref_unit (x0 : FVec Ideal S2048x10240 .bf16) (r : Fin 2048) (j : Fin 1024) : Cert.Reference15Ideal.Read.val_main_v16 (F := Ideal) x0 (ix2 r j) = gelu (x0 (ix2 r ⟨6144 + j.val, by omega⟩)) := by
  pointwise [Cert.Reference15Ideal.Read.val_main_v0, Cert.Reference15Ideal.Read.val_main_v1, Cert.Reference15Ideal.Read.val_main_v4, Cert.Reference15Ideal.Read.val_main_v5, Cert.Reference15Ideal.Read.val_main_cst, Cert.Reference15Ideal.Read.val_main_v6, Cert.Reference15Ideal.Read.val_main_v7, Cert.Reference15Ideal.Read.val_main_v8, Cert.Reference15Ideal.Read.val_main_cst_0, Cert.Reference15Ideal.Read.val_main_v9, Cert.Reference15Ideal.Read.val_main_v10, Cert.Reference15Ideal.Read.val_main_v11, Cert.Reference15Ideal.Read.val_main_cst_1, Cert.Reference15Ideal.Read.val_main_v12, Cert.Reference15Ideal.Read.val_main_v13, Cert.Reference15Ideal.Read.val_main_cst_2, Cert.Reference15Ideal.Read.val_main_v14, Cert.Reference15Ideal.Read.val_main_v15, Cert.Reference15Ideal.Read.val_main_v16]
  rfl

theorem ref_normed (x0 : FVec Ideal S2048x10240 .bf16) (x1 : FVec Ideal S512 .f32) (r : Fin 2048) (j : Fin 512) : Cert.Reference15Ideal.Read.val_main_v31 (F := Ideal) x0 x1 (ix2 r j)
    = normed (fun j => x0 (ix2 r ⟨6144 + j.val, by omega⟩)) (fun j => x1 (ix1 j)) j := by
  pointwise [Cert.Reference15Ideal.Read.val_main_v18, Cert.Reference15Ideal.Read.val_main_v19, Cert.Reference15Ideal.Read.val_main_cst_3, Cert.Reference15Ideal.Read.val_main_v20, Cert.Reference15Ideal.Read.val_main_v21, Cert.Reference15Ideal.Read.val_main_cst_4, Cert.Reference15Ideal.Read.val_main_v22, Cert.Reference15Ideal.Read.val_main_v23, Cert.Reference15Ideal.Read.val_main_cst_5, Cert.Reference15Ideal.Read.val_main_v24, Cert.Reference15Ideal.Read.val_main_v25, Cert.Reference15Ideal.Read.val_main_v26, Cert.Reference15Ideal.Read.val_main_v27, Cert.Reference15Ideal.Read.val_main_v28, Cert.Reference15Ideal.Read.val_main_v29, Cert.Reference15Ideal.Read.val_main_v30, Cert.Reference15Ideal.Read.val_main_v31]
  simp only [ref_unit]
  rfl

theorem ref_weights (x2 : FVec Ideal S4x128x128 .f32) (h : Fin 4) (p q : Fin 128) : Cert.Reference15Ideal.Read.val_main_v35 (F := Ideal) x2 (ix3 h p q) = keep p q (x2 (ix3 h p q)) := by
  pointwise [Cert.Reference15Ideal.Read.val_main_c, Cert.Reference15Ideal.Read.val_main_v33, Cert.Reference15Ideal.Read.val_main_call0_v0, Cert.Reference15Ideal.Read.val_main_call0_c, Cert.Reference15Ideal.Read.val_main_call0_v1, Cert.Reference15Ideal.Read.val_main_call0_v2, Cert.Reference15Ideal.Read.val_main_call0_v3, Cert.Reference15Ideal.Read.val_main_call0_v4, Cert.Reference15Ideal.Read.val_main_call0_c_0, Cert.Reference15Ideal.Read.val_main_call0_v5, Cert.Reference15Ideal.Read.val_main_v34, Cert.Reference15Ideal.Read.val_main_cst_6, Cert.Reference15Ideal.Read.val_main_call1_v0, Cert.Reference15Ideal.Read.val_main_call1_v1, Cert.Reference15Ideal.Read.val_main_call1_v2, Cert.Reference15Ideal.Read.val_main_v35]
  exact select_mask _ _ _ _ (by dsimp only [id]; pointwise)

/-- The reference's result. -/
theorem ref_out (x0 : FVec Ideal S2048x10240 .bf16) (x1 : FVec Ideal S512 .f32) (x2 : FVec Ideal S4x128x128 .f32) (x3 : FVec Ideal S4x128 .f32) (r : Fin 2048) (j : Fin 512) (y) (hy : y = ix2 r j) :
    Cert.Reference15Ideal.Read.val_main_v46 (F := Ideal) x0 x1 x2 x3 y
      = gelu (x0 (ix2 r ⟨6144 + j.val, by omega⟩))
        * ((∑ q : Fin 128, keep ⟨r.val % 128, by omega⟩ q (x2 (ix3 ⟨j.val / 128, by omega⟩ ⟨r.val % 128, by omega⟩ q))
              * normed (fun j => x0 (ix2 ⟨r.val / 128 * 128 + q.val, by omega⟩ ⟨6144 + j.val, by omega⟩)) (fun j => x1 (ix1 j)) j)
            + x3 (ix2 ⟨j.val / 128, by omega⟩ ⟨r.val % 128, by omega⟩))
        * (x0 (ix2 r ⟨7168 + j.val, by omega⟩) * Ideal.logistic (x0 (ix2 r ⟨7168 + j.val, by omega⟩))) := by
  subst hy
  pointwise [Ideal.logistic, Cert.Reference15Ideal.Read.val_main_v2, Cert.Reference15Ideal.Read.val_main_v3, Cert.Reference15Ideal.Read.val_main_v17, Cert.Reference15Ideal.Read.val_main_v32, Cert.Reference15Ideal.Read.val_main_v36, Cert.Reference15Ideal.Read.val_main_v37, Cert.Reference15Ideal.Read.val_main_v38, Cert.Reference15Ideal.Read.val_main_v39, Cert.Reference15Ideal.Read.val_main_v40, Cert.Reference15Ideal.Read.val_main_v41, Cert.Reference15Ideal.Read.val_main_v42, Cert.Reference15Ideal.Read.val_main_v43, Cert.Reference15Ideal.Read.val_main_call2_v0, Cert.Reference15Ideal.Read.val_main_call2_v1, Cert.Reference15Ideal.Read.val_main_call2_cst, Cert.Reference15Ideal.Read.val_main_call2_v2, Cert.Reference15Ideal.Read.val_main_call2_v3, Cert.Reference15Ideal.Read.val_main_call2_cst_0, Cert.Reference15Ideal.Read.val_main_call2_v4, Cert.Reference15Ideal.Read.val_main_call2_v5, Cert.Reference15Ideal.Read.val_main_v44, Cert.Reference15Ideal.Read.val_main_v45, Cert.Reference15Ideal.Read.val_main_v46]
  simp only [ref_unit, ref_weights, ref_normed]
  refine congrArg (· * _) (congrArg _ (congrArg (· + _) (@Finset.sum_congr _ EReal _ _ _ _ _ rfl fun q _ => ?_)))
  refine (@mul_comm EReal _ _ _).trans (congrArg _ (congrArg _ (Fin.ext ?_)))
  rfl

variable (m : (ℓ : Loc nD τ sig) → Buf (Elt Ideal) ℓ)

/-- Which block of its array each window stands at, at every point of the grid. -/
theorem idx : ∀ t : Fin cfg0.N, win0_0.index t = ![t.val, 6]
    ∧ win0_1.index t = ![t.val, 14]
    ∧ win0_2.index t = ![0, 0]
    ∧ win0_3.index t = ![0, 0, 0]
    ∧ win0_4.index t = ![0, 0, 0]
    ∧ win0_5.index t = ![t.val, 0] :=
  (by decide +kernel : ∀ t : Fin grid0.N, _)

theorem points (t : Fin cfg0.N) : t.val < 4 := t.isLt

theorem block_uv (c : Dev nD) (t : Fin cfg0.N) (r : Fin 512) (j : Fin 1024) :
    iblk m c 0 t (ix2 r j) = (m ((c : Thread nD τ).loc main_arg0)) (ix2 ⟨t.val * 512 + r.val, by have := points t; omega⟩ ⟨6144 + j.val, by omega⟩) := by
  blk_point [iblk, V, idx t]

theorem block_z (c : Dev nD) (t : Fin cfg0.N) (r j : Fin 512) :
    iblk m c 1 t (ix2 r j) = (m ((c : Thread nD τ).loc main_arg0)) (ix2 ⟨t.val * 512 + r.val, by have := points t; omega⟩ ⟨7168 + j.val, by omega⟩) := by
  blk_point [iblk, V, idx t]

theorem block_gain (c : Dev nD) (t : Fin cfg0.N) (j : Fin 512) :
    iblk m c 2 t (ix2 0 j) = (m ((c : Thread nD τ).loc main_arg1)) (ix1 j) := by
  blk_simp [iblk, idx t]; entry_read; pointwise; blk_ext [idx t]

theorem block_weights (c : Dev nD) (t : Fin cfg0.N) (h : Fin 4) (p q : Fin 128) :
    iblk m c 3 t (ix3 h p q) = (m ((c : Thread nD τ).loc main_arg2)) (ix3 h p q) := by
  blk_point [iblk, V, idx t]

theorem block_bias (c : Dev nD) (t : Fin cfg0.N) (h : Fin 4) (p : Fin 128) :
    iblk m c 4 t (ix3 h 0 p) = (m ((c : Thread nD τ).loc main_arg3)) (ix2 h p) := by
  blk_simp [iblk, idx t]; entry_read; pointwise; blk_ext [idx t]

/-- What a point stores is the reference's array at the block's place. -/
theorem point (c : Dev nD) (t : Fin cfg0.N) (r j : Fin 512) :
    k0_pay1 (F := Ideal) (k0_pay3 (iblk m c 1 t)) (k0_pay17 (k0_pay40 (iblk m c 0 t) (iblk m c 1 t) (iblk m c 2 t) (iblk m c 3 t) (iblk m c 4 t)) (k0_pay42 (iblk m c 0 t) (iblk m c 1 t) (iblk m c 2 t) (iblk m c 3 t) (iblk m c 4 t)) (k0_pay43 (iblk m c 0 t) (iblk m c 1 t) (iblk m c 2 t) (iblk m c 3 t) (iblk m c 4 t)) (k0_pay44 (iblk m c 0 t) (iblk m c 1 t) (iblk m c 2 t) (iblk m c 3 t) (iblk m c 4 t))) (k0_pay50 (iblk m c 0 t) (iblk m c 1 t) (iblk m c 2 t) (iblk m c 3 t) (iblk m c 4 t)) (k0_pay28 (k0_pay41 (iblk m c 0 t) (iblk m c 1 t) (iblk m c 2 t) (iblk m c 3 t) (iblk m c 4 t)) (k0_pay46 (iblk m c 0 t) (iblk m c 1 t) (iblk m c 2 t) (iblk m c 3 t) (iblk m c 4 t))) (k0_pay29 (k0_pay41 (iblk m c 0 t) (iblk m c 1 t) (iblk m c 2 t) (iblk m c 3 t) (iblk m c 4 t)) (k0_pay45 (iblk m c 0 t) (iblk m c 1 t) (iblk m c 2 t) (iblk m c 3 t) (iblk m c 4 t)) (k0_pay46 (iblk m c 0 t) (iblk m c 1 t) (iblk m c 2 t) (iblk m c 3 t) (iblk m c 4 t)) (k0_pay47 (iblk m c 0 t) (iblk m c 1 t) (iblk m c 2 t) (iblk m c 3 t) (iblk m c 4 t)) (k0_pay48 (iblk m c 0 t) (iblk m c 1 t) (iblk m c 2 t) (iblk m c 3 t) (iblk m c 4 t)) (k0_pay49 (iblk m c 0 t) (iblk m c 1 t) (iblk m c 2 t) (iblk m c 3 t) (iblk m c 4 t)) (k0_pay50 (iblk m c 0 t) (iblk m c 1 t) (iblk m c 2 t) (iblk m c 3 t) (iblk m c 4 t)) (k0_pay51 (iblk m c 0 t) (iblk m c 1 t) (iblk m c 2 t) (iblk m c 3 t) (iblk m c 4 t)) (k0_pay52 (iblk m c 0 t) (iblk m c 1 t) (iblk m c 2 t) (iblk m c 3 t) (iblk m c 4 t)) (k0_pay53 (iblk m c 0 t) (iblk m c 1 t) (iblk m c 2 t) (iblk m c 3 t) (iblk m c 4 t)))
      (k0_pay34 (k0_pay50 (iblk m c 0 t) (iblk m c 1 t) (iblk m c 2 t) (iblk m c 3 t) (iblk m c 4 t)) (k0_pay28 (k0_pay41 (iblk m c 0 t) (iblk m c 1 t) (iblk m c 2 t) (iblk m c 3 t) (iblk m c 4 t)) (k0_pay46 (iblk m c 0 t) (iblk m c 1 t) (iblk m c 2 t) (iblk m c 3 t) (iblk m c 4 t))) (k0_pay30 (k0_pay45 (iblk m c 0 t) (iblk m c 1 t) (iblk m c 2 t) (iblk m c 3 t) (iblk m c 4 t))) (k0_pay31 (k0_pay45 (iblk m c 0 t) (iblk m c 1 t) (iblk m c 2 t) (iblk m c 3 t) (iblk m c 4 t)) (k0_pay47 (iblk m c 0 t) (iblk m c 1 t) (iblk m c 2 t) (iblk m c 3 t) (iblk m c 4 t)) (k0_pay51 (iblk m c 0 t) (iblk m c 1 t) (iblk m c 2 t) (iblk m c 3 t) (iblk m c 4 t))) (k0_pay32 (k0_pay45 (iblk m c 0 t) (iblk m c 1 t) (iblk m c 2 t) (iblk m c 3 t) (iblk m c 4 t)) (k0_pay48 (iblk m c 0 t) (iblk m c 1 t) (iblk m c 2 t) (iblk m c 3 t) (iblk m c 4 t)) (k0_pay52 (iblk m c 0 t) (iblk m c 1 t) (iblk m c 2 t) (iblk m c 3 t) (iblk m c 4 t))) (k0_pay33 (k0_pay45 (iblk m c 0 t) (iblk m c 1 t) (iblk m c 2 t) (iblk m c 3 t) (iblk m c 4 t)) (k0_pay49 (iblk m c 0 t) (iblk m c 1 t) (iblk m c 2 t) (iblk m c 3 t) (iblk m c 4 t)) (k0_pay53 (iblk m c 0 t) (iblk m c 1 t) (iblk m c 2 t) (iblk m c 3 t) (iblk m c 4 t))))
      (k0_pay35 (k0_pay45 (iblk m c 0 t) (iblk m c 1 t) (iblk m c 2 t) (iblk m c 3 t) (iblk m c 4 t)) (k0_pay47 (iblk m c 0 t) (iblk m c 1 t) (iblk m c 2 t) (iblk m c 3 t) (iblk m c 4 t)) (k0_pay48 (iblk m c 0 t) (iblk m c 1 t) (iblk m c 2 t) (iblk m c 3 t) (iblk m c 4 t)) (k0_pay49 (iblk m c 0 t) (iblk m c 1 t) (iblk m c 2 t) (iblk m c 3 t) (iblk m c 4 t)) (k0_pay50 (iblk m c 0 t) (iblk m c 1 t) (iblk m c 2 t) (iblk m c 3 t) (iblk m c 4 t)) (k0_pay51 (iblk m c 0 t) (iblk m c 1 t) (iblk m c 2 t) (iblk m c 3 t) (iblk m c 4 t)) (k0_pay52 (iblk m c 0 t) (iblk m c 1 t) (iblk m c 2 t) (iblk m c 3 t) (iblk m c 4 t)) (k0_pay27 (k0_pay53 (iblk m c 0 t) (iblk m c 1 t) (iblk m c 2 t) (iblk m c 3 t) (iblk m c 4 t))) (k0_pay28 (k0_pay41 (iblk m c 0 t) (iblk m c 1 t) (iblk m c 2 t) (iblk m c 3 t) (iblk m c 4 t)) (k0_pay46 (iblk m c 0 t) (iblk m c 1 t) (iblk m c 2 t) (iblk m c 3 t) (iblk m c 4 t)))) (k0_pay36 (k0_pay45 (iblk m c 0 t) (iblk m c 1 t) (iblk m c 2 t) (iblk m c 3 t) (iblk m c 4 t)))
      (k0_pay37 (k0_pay45 (iblk m c 0 t) (iblk m c 1 t) (iblk m c 2 t) (iblk m c 3 t) (iblk m c 4 t)) (k0_pay47 (iblk m c 0 t) (iblk m c 1 t) (iblk m c 2 t) (iblk m c 3 t) (iblk m c 4 t)) (k0_pay51 (iblk m c 0 t) (iblk m c 1 t) (iblk m c 2 t) (iblk m c 3 t) (iblk m c 4 t))) (k0_pay38 (k0_pay45 (iblk m c 0 t) (iblk m c 1 t) (iblk m c 2 t) (iblk m c 3 t) (iblk m c 4 t)) (k0_pay48 (iblk m c 0 t) (iblk m c 1 t) (iblk m c 2 t) (iblk m c 3 t) (iblk m c 4 t)) (k0_pay52 (iblk m c 0 t) (iblk m c 1 t) (iblk m c 2 t) (iblk m c 3 t) (iblk m c 4 t))) (k0_pay39 (k0_pay45 (iblk m c 0 t) (iblk m c 1 t) (iblk m c 2 t) (iblk m c 3 t) (iblk m c 4 t)) (k0_pay49 (iblk m c 0 t) (iblk m c 1 t) (iblk m c 2 t) (iblk m c 3 t) (iblk m c 4 t)) (k0_pay27 (k0_pay53 (iblk m c 0 t) (iblk m c 1 t) (iblk m c 2 t) (iblk m c 3 t) (iblk m c 4 t)))) (ix2 r j)
      = Cert.Reference15Ideal.Read.val_main_v46 (F := Ideal) (m ((c : Thread nD τ).loc main_arg0)) (m ((c : Thread nD τ).loc main_arg1)) (m ((c : Thread nD τ).loc main_arg2)) (m ((c : Thread nD τ).loc main_arg3)) (((cfg0.win 5).blk t).view.emb (ix2 r j)) := by
  have ht := points t
  refine (stored _ _ _ _ _ r j).trans ?_
  rw [ref_out _ _ _ _ ⟨t.val * 512 + r.val, by omega⟩ j _ (by blk_ext [idx t])]
  have e1 : (⟨(t.val * 512 + r.val) % 128, by omega⟩ : Fin 128) = ⟨r.val % 128, by omega⟩ := Fin.ext (by show (t.val * 512 + r.val) % 128 = r.val % 128; omega)
  have e2 (q : Fin 128) : (⟨(t.val * 512 + r.val) / 128 * 128 + q.val, by omega⟩ : Fin 2048) = ⟨t.val * 512 + (r.val / 128 * 128 + q.val), by omega⟩ := Fin.ext (by show (t.val * 512 + r.val) / 128 * 128 + q.val = t.val * 512 + (r.val / 128 * 128 + q.val); omega)
  simp only [block_uv, block_z, block_gain, block_weights, block_bias, e1, e2]

/-- The result array after the run. -/
theorem final (c : Dev nD) : (dats m 0 c).arrAt 5 (cfgs 0).N
    = Cert.Reference15Ideal.Read.val_main_v46 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  rw [eq_ix2 y]
  exact point m c t (y 0) (y 1)

end Cert.Kernel15Ideal.GatingFwdValue

end
-- ==== Proof.BranchClaims.lean ====
module

public import proofs.«01_k».proof.Defs
public import proofs.«01_k».proof.Proof.MemBwdValue
public import proofs.«01_k».proof.Proof.Gen.Kernel12Ideal.Value
public import proofs.«01_k».proof.Proof.Gen.Reference12Ideal.Run
public import proofs.«01_k».proof.Proof.Gen.Reference12Ideal.Read
public import proofs.«01_k».proof.Proof.MemFwdValue
public import proofs.«01_k».proof.Proof.Gen.Kernel13Ideal.Value
public import proofs.«01_k».proof.Proof.Gen.Reference13Ideal.Run
public import proofs.«01_k».proof.Proof.Gen.Reference13Ideal.Read
public import proofs.«01_k».proof.Proof.GatingFwdValue
public import proofs.«01_k».proof.Proof.Gen.Kernel15Ideal.Value
public import proofs.«01_k».proof.Proof.Gen.Reference15Ideal.Run
public import proofs.«01_k».proof.Proof.Gen.Reference15Ideal.Read
public import Idealize.ShloMosaic.Lib.Claim

/-! The memory attention with its gradient, and the spatial gating: the claims of these calls. -/

@[expose] public section

set_option maxRecDepth 16384

noncomputable section

namespace Cert.Proof.Branch

open Idealize.ShloMosaic Idealize.ShloMosaic.TcCoe Idealize.SL.Sem

theorem frame_reference12 : Cert.quiescent_Reference12Ideal := by
  intro m g _
  exact (θ_run Cert.Reference12Ideal.defs _ _).mono (fun r h => ⟨fun c => (h c).2.2, sem_eq_zero_of_no_sems (by decide) r.2⟩)
    (Cert.Reference12Ideal.Value.run (F := Ideal) m g)

theorem frame_reference13 : Cert.quiescent_Reference13Ideal := by
  intro m g _
  exact (θ_run Cert.Reference13Ideal.defs _ _).mono (fun r h => ⟨fun c => (h c).2, sem_eq_zero_of_no_sems (by decide) r.2⟩)
    (Cert.Reference13Ideal.Value.run (F := Ideal) m g)

theorem frame_reference15 : Cert.quiescent_Reference15Ideal := by
  intro m g _
  exact (θ_run Cert.Reference15Ideal.defs _ _).mono (fun r h => ⟨fun c => (h c).2, sem_eq_zero_of_no_sems (by decide) r.2⟩)
    (Cert.Reference15Ideal.Value.run (F := Ideal) m g)

theorem algebraic12 : Cert.algebraic_Kernel12Ideal_Reference12Ideal := by
  intro m g m' g' _ hagree
  refine ⟨fun c => Cert.Reference12Ideal.Read.val_main_v74 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)), fun c => Cert.Reference12Ideal.Read.val_main_v79 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)), ?_, ?_⟩
  · refine (θ_run Cert.Kernel12Ideal.defs _ _).mono (fun r h c => ?_) (Cert.Kernel12Ideal.Value.run_blocks (F := Ideal) m g)
    obtain ⟨h1, h0, ha⟩ := h c
    exact ⟨h0.trans (Cert.Kernel12Ideal.MemBwdValue.final5 m c), h1.trans (Cert.Kernel12Ideal.MemBwdValue.final4 m c), ha⟩
  · refine (θ_run Cert.Reference12Ideal.defs _ _).mono (fun r h c => ?_) (Cert.Reference12Ideal.Value.run (F := Ideal) m' g')
    obtain ⟨h0, h1, ha⟩ := h c
    obtain ⟨e0, e1, e2, e3⟩ := hagree c
    exact ⟨h0.trans ((Cert.Reference12Ideal.Read.val_main_v74_eq _ _).trans (by rw [e0, e1, e2])), h1.trans ((Cert.Reference12Ideal.Read.val_main_v79_eq _ _).trans (by rw [e0, e1, e2, e3])), ha⟩

theorem algebraic13 : Cert.algebraic_Kernel13Ideal_Reference13Ideal := by
  intro m g m' g' _ hagree
  refine ⟨fun c => Cert.Reference13Ideal.Read.val_main_v28 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)), ?_, ?_⟩
  · refine (θ_run Cert.Kernel13Ideal.defs _ _).mono (fun r h c => ?_) (Cert.Kernel13Ideal.Value.run_blocks (F := Ideal) m g)
    obtain ⟨h0, ha⟩ := h c
    exact ⟨h0.trans (Cert.Kernel13Ideal.MemFwdValue.final m c), ha⟩
  · refine (θ_run Cert.Reference13Ideal.defs _ _).mono (fun r h c => ?_) (Cert.Reference13Ideal.Value.run (F := Ideal) m' g')
    obtain ⟨h0, ha⟩ := h c
    obtain ⟨e0, e1⟩ := hagree c
    exact ⟨h0.trans ((Cert.Reference13Ideal.Read.val_main_v28_eq _ _).trans (by rw [e0, e1])), ha⟩

theorem algebraic15 : Cert.algebraic_Kernel15Ideal_Reference15Ideal := by
  intro m g m' g' _ hagree
  refine ⟨fun c => Cert.Reference15Ideal.Read.val_main_v46 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)), ?_, ?_⟩
  · refine (θ_run Cert.Kernel15Ideal.defs _ _).mono (fun r h c => ?_) (Cert.Kernel15Ideal.Value.run_blocks (F := Ideal) m g)
    obtain ⟨h0, ha⟩ := h c
    exact ⟨h0.trans (Cert.Kernel15Ideal.GatingFwdValue.final m c), ha⟩
  · refine (θ_run Cert.Reference15Ideal.defs _ _).mono (fun r h c => ?_) (Cert.Reference15Ideal.Value.run (F := Ideal) m' g')
    obtain ⟨h0, ha⟩ := h c
    obtain ⟨e0, e1, e2, e3⟩ := hagree c
    exact ⟨h0.trans ((Cert.Reference15Ideal.Read.val_main_v46_eq _ _).trans (by rw [e0, e1, e2, e3])), ha⟩

end Cert.Proof.Branch

end
-- ==== Proof.GatingBack.lean ====
module

public import proofs.«01_k».proof.Proof.Gating
public import Idealize.ShloMosaic.Lib.Pipeline.ValueKit
public import Idealize.ShloMosaic.Lib.Pointwise

/-! The mathematics of the spatial gating branch’s gradient, without a program. -/

@[expose] public section

set_option maxRecDepth 16384

noncomputable section

open Idealize.ShloMosaic Idealize.ShloMosaic.TcCoe Idealize.SL.Sem
open Idealize.ShloMosaic.Pipeline (Dat)

namespace Cert.Gating

/-- The mean square of a row of 512, moved off zero. -/
def meansq (v : Fin 512 → EReal) : EReal :=
  Ideal.div (∑ j, v j * v j) (Ideal.ofBits .f32 0x44000000#32) + Ideal.ofBits .f32 0x358637BD#32

/-- How the gain of a row moves with its mean square. -/
def slope (v : Fin 512 → EReal) : EReal := Ideal.ofBits .f32 0xBF000000#32 * Ideal.div (gain v) (meansq v)

/-- The bounded number inside the unit. -/
def bend (x : EReal) : EReal :=
  Ideal.tanh (Ideal.ofBits .f32 0x3F4C422A#32 * (x + Ideal.ofBits .f32 0x3D372713#32 * (x * x * x)))

/-- The part of the unit's gradient that comes through the bounded number. -/
def inner (x g : EReal) : EReal :=
  Ideal.ofBits .f32 0x3F4C422A#32 * (Ideal.ofBits .f32 0x3F000000#32 * (x * g) * ((1 + bend x) * (1 - bend x)))

/-- The gradient of the unit. -/
def pull (x g : EReal) : EReal :=
  g * (Ideal.ofBits .f32 0x3F000000#32 * (1 + bend x)) + inner x g
    + Ideal.ofBits .f32 0x3D372713#32 * inner x g * (Ideal.ofBits .f32 0x40400000#32 * (x * x))

/-- The gradient of a row's normalisation: straight through the gain, and twice through its mean square. -/
def spread (v d : Fin 512 → EReal) (j : Fin 512) : EReal :=
  d j * gain v + v j * Ideal.div ((∑ i, v i * d i) * slope v) (Ideal.ofBits .f32 0x44000000#32)
    + Ideal.div ((∑ i, v i * d i) * slope v) (Ideal.ofBits .f32 0x44000000#32) * v j

/-- The gate. -/
def gate (z : EReal) : EReal := z * Ideal.logistic z

/-- The gradient of the gate. -/
def ungate (z d : EReal) : EReal := d * Ideal.logistic z + z * d * (Ideal.logistic z * (1 - Ideal.logistic z))

/-- The first half of a row's units. -/
def left (x : Fin 1024 → EReal) (j : Fin 512) : EReal := gelu (x ⟨j.val, by omega⟩)

/-- The second half of a row's units. -/
def right (x : Fin 1024 → EReal) (j : Fin 512) : EReal := gelu (x ⟨512 + j.val, by omega⟩)

/-- What reaches a row's mixture from its result. -/
def fed (x : Fin 1024 → EReal) (z e : Fin 512 → EReal) (j : Fin 512) : EReal := left x j * (e j * gate (z j))

/-- A row's mixture over the earlier rows of its group. -/
def mixture (Y : Fin 128 → Fin 1024 → EReal) (g : Fin 512 → EReal) (w : Fin 4 → Fin 128 → Fin 128 → EReal) (b : Fin 4 → Fin 128 → EReal) (p : Fin 128) (j : Fin 512) : EReal :=
  (∑ q, keep p q (w ⟨j.val / 128, by omega⟩ p q) * normed (Y q) g j) + b ⟨j.val / 128, by omega⟩ p

/-- What a row's normalised half receives from the later rows of its group. -/
def carried (Y : Fin 128 → Fin 1024 → EReal) (Z E : Fin 128 → Fin 512 → EReal) (w : Fin 4 → Fin 128 → Fin 128 → EReal) (p : Fin 128) (j : Fin 512) : EReal :=
  ∑ q, keep q p (w ⟨j.val / 128, by omega⟩ q p) * fed (Y q) (Z q) (E q) j

/-- The gradient of a row's units, both halves. -/
def reach (Y : Fin 128 → Fin 1024 → EReal) (Z E : Fin 128 → Fin 512 → EReal) (g : Fin 512 → EReal) (w : Fin 4 → Fin 128 → Fin 128 → EReal) (b : Fin 4 → Fin 128 → EReal) (p : Fin 128) (j : Fin 1024) : EReal :=
  if h : j.val < 512 then E p ⟨j.val, h⟩ * gate (Z p ⟨j.val, h⟩) * mixture Y g w b p ⟨j.val, h⟩
  else spread (right (Y p)) (fun i => carried Y Z E w p i * g i) ⟨j.val - 512, by omega⟩

/-- The gradient of a row's gate column. -/
def reachGate (Y : Fin 128 → Fin 1024 → EReal) (Z E : Fin 128 → Fin 512 → EReal) (g : Fin 512 → EReal) (w : Fin 4 → Fin 128 → Fin 128 → EReal) (b : Fin 4 → Fin 128 → EReal) (p : Fin 128) (j : Fin 512) : EReal :=
  ungate (Z p j) (left (Y p) j * mixture Y g w b p j * E p j)

theorem three : Ideal.ofBits .f32 0x40400000#32 = 1 + 1 + 1 := by
  have e : Ideal.ofBits .f32 0x40400000#32 = ((3 : ℝ) : EReal) := by
    simp [Ideal.ofBits, Ideal.ieee, -EReal.coe_mul]; norm_num
  rw [e, show (3 : ℝ) = 1 + 1 + 1 by norm_num, EReal.coe_add, EReal.coe_add, EReal.coe_one]

theorem three_mul' (y : EReal) : Ideal.ofBits .f32 0x40400000#32 * y = y + y + y := by
  rw [three, EReal.right_distrib_of_nonneg (by norm_num) (by norm_num), EReal.right_distrib_of_nonneg (by norm_num) (by norm_num), one_mul]

/-- The unit's gradient, the cube's three equal parts added one by one. -/
theorem pull_eq (x g : EReal) :
    inner x g + x * x * (Ideal.ofBits .f32 0x3D372713#32 * inner x g) + x * (Ideal.ofBits .f32 0x3D372713#32 * inner x g * x)
      + Ideal.ofBits .f32 0x3D372713#32 * inner x g * x * x + Ideal.ofBits .f32 0x3F000000#32 * (g * (1 + bend x)) = pull x g := by
  unfold pull
  rw [mul_left_comm (Ideal.ofBits .f32 0x3D372713#32 * inner x g), three_mul']
  generalize Ideal.ofBits .f32 0x3D372713#32 * inner x g = b
  rw [mul_left_comm (Ideal.ofBits .f32 0x3F000000#32)]
  have e1 : x * x * b = b * (x * x) := mul_comm _ _
  have e2 : x * (b * x) = b * (x * x) := mul_left_comm _ _ _
  have e3 : b * x * x = b * (x * x) := mul_assoc _ _ _
  rw [e1, e2, e3]
  simp only [add_comm, add_left_comm, add_assoc]

end Cert.Gating

end
-- ==== Proof.GatingBwdPoint.lean ====
module

public import proofs.«01_k».proof.Proof.Gen.Kernel14Ideal.Frame
public import proofs.«01_k».proof.Proof.GatingBack
public import Idealize.ShloMosaic.Lib.Pipeline.ValueKit
public import Idealize.ShloMosaic.Lib.Pointwise

/-! The spatial gating branch’s gradient: what one grid point computes, entry by entry. -/

@[expose] public section

set_option maxRecDepth 16384

noncomputable section

open Idealize.ShloMosaic Idealize.ShloMosaic.TcCoe Idealize.SL.Sem
open Idealize.ShloMosaic.Pipeline (Dat)

namespace Cert.Kernel14Ideal.GatingBwd

open Cert.Kernel14Ideal Cert.Kernel14Ideal.Gen
open Cert.Gating

/-- One row of a mixed block: the weights times the column, plus the bias. -/
def mix (w : FVec Ideal S128x128 .f32) (b : FVec Ideal S128x1 .f32) (v : Fin 128 → EReal) (p : Fin 128) : EReal :=
  (∑ q, w (ix2 p q) * v q) + b (ix2 p 0)

/-- The mixed columns, as the program puts them together. -/
abbrev mixedBlk (w0 w1 v14 v16 v65 : FVec Ideal S128x128 .f32) (v61 v62 : IVec S128x128 32) (v18 v20 v22 v24 : FVec Ideal S1x128 .f32) (v60 : FVec Ideal S512x512 .f32) : FVec Ideal S512x512 .f32 :=
    k0_pay67 (F := Ideal) w0 w1 (k0_pay37 v14 v61 v62) (k0_pay39 v16 v61 v62) (k0_pay40 v18 v65) (k0_pay41 v20 v65) (k0_pay42 v22 v65) (k0_pay43 v24 v65)
      (k0_pay49 v14 v16 v18 v20 v22 v24 v60 v61 v62 v65 w0 w1)
      (k0_pay55 w0 w1 (k0_pay37 v14 v61 v62) (k0_pay39 v16 v61 v62) (k0_pay40 v18 v65) (k0_pay41 v20 v65) (k0_pay42 v22 v65) (k0_pay43 v24 v65) (k0_pay50 v60) (k0_pay51 v60))
      (k0_pay61 v60 w0 w1 (k0_pay37 v14 v61 v62) (k0_pay39 v16 v61 v62) (k0_pay40 v18 v65) (k0_pay41 v20 v65) (k0_pay42 v22 v65) (k0_pay43 v24 v65))
      (k0_pay62 v60) (k0_pay63 v60)

/-- The gradient carried back through the mixing, as the program puts it together. -/
abbrev carriedBlk (w0 w1 w2 w3 : FVec Ideal S128x128 .f32) (v6 y5 v44 : FVec Ideal S512x512 .f32) : FVec Ideal S512x512 .f32 :=
    k0_pay133 (F := Ideal) w0 w1 w2
          (k0_pay119 w0 w1
            (k0_pay104 w0
              (k0_pay90 w0 w1 w2 (k0_pay77 v6 y5 v44) (k0_pay78 v6 y5 v44) (k0_pay79 v6 y5 v44) (k0_pay80 v6 y5 v44) (k0_pay83 w3))
              (k0_pay91 (k0_pay75 v6 y5 v44)) (k0_pay101 w1 w2 w3 (k0_pay75 v6 y5 v44) (k0_pay92 (k0_pay75 v6 y5 v44))))
            (k0_pay105 (k0_pay74 v6 y5 v44)) (k0_pay106 (k0_pay74 v6 y5 v44)) (k0_pay113 w2 w3 (k0_pay74 v6 y5 v44)))
          (k0_pay120 (k0_pay73 v6 y5 v44)) (k0_pay121 (k0_pay73 v6 y5 v44)) (k0_pay122 (k0_pay73 v6 y5 v44))
          (k0_pay126 w3 (k0_pay73 v6 y5 v44))

section
variable (w0 w1 w2 w3 v14 v16 v65 : FVec Ideal S128x128 .f32) (v61 v62 : IVec S128x128 32) (v18 v20 v22 v24 : FVec Ideal S1x128 .f32) (v60 v6 y5 v44 : FVec Ideal S512x512 .f32)

theorem mixed_0_0 (r j : Fin 512) (hr : r.val / 128 = 0) (hj : j.val / 128 = 0) :
    mixedBlk w0 w1 v14 v16 v65 v61 v62 v18 v20 v22 v24 v60 (ix2 r j)
      = mix w0 (k0_pay40 v18 v65) (fun q => v60 (ix2 ⟨q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val, by omega⟩ : Fin 128) = ⟨r.val % 128, by omega⟩ := Fin.ext (by show r.val = r.val % 128; omega)
  simp only [show r.val < 128 by omega, show j.val < 128 by omega, not_false_eq_true, ↓reduceDIte, er, mix]

theorem carried_0_0 (r j : Fin 512) (hr : r.val / 128 = 0) (hj : j.val / 128 = 0) :
    carriedBlk w0 w1 w2 w3 v6 y5 v44 (ix2 r j)
      = ∑ q : Fin 128, w0 (ix2 q ⟨r.val % 128, by omega⟩) * k0_pay71 (F := Ideal) v6 y5 v44 (ix2 ⟨q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val, by omega⟩ : Fin 128) = ⟨r.val % 128, by omega⟩ := Fin.ext (by show r.val = r.val % 128; omega)
  simp only [show r.val < 128 by omega, show r.val < 256 by omega, show r.val < 384 by omega, show r.val - 128 < 128 by omega, show r.val - 256 < 128 by omega, show j.val < 128 by omega, show j.val < 256 by omega, show j.val < 384 by omega, show j.val - 128 < 128 by omega, show j.val - 256 < 128 by omega, not_false_eq_true, ↓reduceDIte, er, add_zero, zero_add]

theorem mixed_0_1 (r j : Fin 512) (hr : r.val / 128 = 0) (hj : j.val / 128 = 1) :
    mixedBlk w0 w1 v14 v16 v65 v61 v62 v18 v20 v22 v24 v60 (ix2 r j)
      = mix w1 (k0_pay41 v20 v65) (fun q => v60 (ix2 ⟨q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val, by omega⟩ : Fin 128) = ⟨r.val % 128, by omega⟩ := Fin.ext (by show r.val = r.val % 128; omega)
  have ej : (⟨128 + (j.val - 128), by omega⟩ : Fin 512) = j := Fin.ext (by show 128 + (j.val - 128) = j.val; omega)
  simp only [show r.val < 128 by omega, show ¬ j.val < 128 by omega, show j.val - 128 < 128 by omega, not_false_eq_true, ↓reduceDIte, er, ej, mix]

theorem carried_0_1 (r j : Fin 512) (hr : r.val / 128 = 0) (hj : j.val / 128 = 1) :
    carriedBlk w0 w1 w2 w3 v6 y5 v44 (ix2 r j)
      = ∑ q : Fin 128, w1 (ix2 q ⟨r.val % 128, by omega⟩) * k0_pay71 (F := Ideal) v6 y5 v44 (ix2 ⟨q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val, by omega⟩ : Fin 128) = ⟨r.val % 128, by omega⟩ := Fin.ext (by show r.val = r.val % 128; omega)
  have ej : (⟨128 + (j.val - 128), by omega⟩ : Fin 512) = j := Fin.ext (by show 128 + (j.val - 128) = j.val; omega)
  simp only [show r.val < 128 by omega, show r.val < 256 by omega, show r.val < 384 by omega, show r.val - 128 < 128 by omega, show r.val - 256 < 128 by omega, show ¬ j.val < 128 by omega, show j.val < 256 by omega, show j.val < 384 by omega, show j.val - 128 < 128 by omega, show j.val - 256 < 128 by omega, not_false_eq_true, ↓reduceDIte, er, ej, add_zero, zero_add]

theorem mixed_0_2 (r j : Fin 512) (hr : r.val / 128 = 0) (hj : j.val / 128 = 2) :
    mixedBlk w0 w1 v14 v16 v65 v61 v62 v18 v20 v22 v24 v60 (ix2 r j)
      = mix (k0_pay37 v14 v61 v62) (k0_pay42 v22 v65) (fun q => v60 (ix2 ⟨q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val, by omega⟩ : Fin 128) = ⟨r.val % 128, by omega⟩ := Fin.ext (by show r.val = r.val % 128; omega)
  have ej : (⟨256 + (j.val - 128 - 128), by omega⟩ : Fin 512) = j := Fin.ext (by show 256 + (j.val - 128 - 128) = j.val; omega)
  simp only [show r.val < 128 by omega, show ¬ j.val < 128 by omega, show ¬ j.val - 128 < 128 by omega, show j.val - 128 - 128 < 128 by omega, not_false_eq_true, ↓reduceDIte, er, ej, mix]

theorem carried_0_2 (r j : Fin 512) (hr : r.val / 128 = 0) (hj : j.val / 128 = 2) :
    carriedBlk w0 w1 w2 w3 v6 y5 v44 (ix2 r j)
      = ∑ q : Fin 128, w2 (ix2 q ⟨r.val % 128, by omega⟩) * k0_pay71 (F := Ideal) v6 y5 v44 (ix2 ⟨q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val, by omega⟩ : Fin 128) = ⟨r.val % 128, by omega⟩ := Fin.ext (by show r.val = r.val % 128; omega)
  have ej : (⟨256 + (j.val - 256), by omega⟩ : Fin 512) = j := Fin.ext (by show 256 + (j.val - 256) = j.val; omega)
  simp only [show r.val < 128 by omega, show r.val < 256 by omega, show r.val < 384 by omega, show r.val - 128 < 128 by omega, show r.val - 256 < 128 by omega, show ¬ j.val < 128 by omega, show ¬ j.val < 256 by omega, show j.val < 384 by omega, show ¬ j.val - 128 < 128 by omega, show j.val - 256 < 128 by omega, not_false_eq_true, ↓reduceDIte, er, ej, add_zero, zero_add]

theorem mixed_0_3 (r j : Fin 512) (hr : r.val / 128 = 0) (hj : j.val / 128 = 3) :
    mixedBlk w0 w1 v14 v16 v65 v61 v62 v18 v20 v22 v24 v60 (ix2 r j)
      = mix (k0_pay39 v16 v61 v62) (k0_pay43 v24 v65) (fun q => v60 (ix2 ⟨q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val, by omega⟩ : Fin 128) = ⟨r.val % 128, by omega⟩ := Fin.ext (by show r.val = r.val % 128; omega)
  have ej : (⟨384 + (j.val - 128 - 128 - 128), by omega⟩ : Fin 512) = j := Fin.ext (by show 384 + (j.val - 128 - 128 - 128) = j.val; omega)
  simp only [show r.val < 128 by omega, show ¬ j.val < 128 by omega, show ¬ j.val - 128 < 128 by omega, show ¬ j.val - 128 - 128 < 128 by omega, not_false_eq_true, ↓reduceDIte, er, ej, mix]

theorem carried_0_3 (r j : Fin 512) (hr : r.val / 128 = 0) (hj : j.val / 128 = 3) :
    carriedBlk w0 w1 w2 w3 v6 y5 v44 (ix2 r j)
      = ∑ q : Fin 128, w3 (ix2 q ⟨r.val % 128, by omega⟩) * k0_pay71 (F := Ideal) v6 y5 v44 (ix2 ⟨q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val, by omega⟩ : Fin 128) = ⟨r.val % 128, by omega⟩ := Fin.ext (by show r.val = r.val % 128; omega)
  have ej : (⟨384 + (j.val - 384), by omega⟩ : Fin 512) = j := Fin.ext (by show 384 + (j.val - 384) = j.val; omega)
  simp only [show r.val < 128 by omega, show r.val < 256 by omega, show r.val < 384 by omega, show r.val - 128 < 128 by omega, show r.val - 256 < 128 by omega, show ¬ j.val < 128 by omega, show ¬ j.val < 256 by omega, show ¬ j.val < 384 by omega, show ¬ j.val - 128 < 128 by omega, show ¬ j.val - 256 < 128 by omega, not_false_eq_true, ↓reduceDIte, er, ej, add_zero, zero_add]

theorem mixed_1_0 (r j : Fin 512) (hr : r.val / 128 = 1) (hj : j.val / 128 = 0) :
    mixedBlk w0 w1 v14 v16 v65 v61 v62 v18 v20 v22 v24 v60 (ix2 r j)
      = mix w0 (k0_pay40 v18 v65) (fun q => v60 (ix2 ⟨128 + q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val - 128, by omega⟩ : Fin 128) = ⟨r.val % 128, by omega⟩ := Fin.ext (by show r.val - 128 = r.val % 128; omega)
  simp only [show ¬ r.val < 128 by omega, show r.val - 128 < 128 by omega, show j.val < 128 by omega, not_false_eq_true, ↓reduceDIte, er, mix]

theorem carried_1_0 (r j : Fin 512) (hr : r.val / 128 = 1) (hj : j.val / 128 = 0) :
    carriedBlk w0 w1 w2 w3 v6 y5 v44 (ix2 r j)
      = ∑ q : Fin 128, w0 (ix2 q ⟨r.val % 128, by omega⟩) * k0_pay71 (F := Ideal) v6 y5 v44 (ix2 ⟨128 + q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val - 128, by omega⟩ : Fin 128) = ⟨r.val % 128, by omega⟩ := Fin.ext (by show r.val - 128 = r.val % 128; omega)
  simp only [show ¬ r.val < 128 by omega, show r.val < 256 by omega, show r.val < 384 by omega, show r.val - 128 < 128 by omega, show r.val - 256 < 128 by omega, show j.val < 128 by omega, show j.val < 256 by omega, show j.val < 384 by omega, show j.val - 128 < 128 by omega, show j.val - 256 < 128 by omega, not_false_eq_true, ↓reduceDIte, er, add_zero, zero_add]

theorem mixed_1_1 (r j : Fin 512) (hr : r.val / 128 = 1) (hj : j.val / 128 = 1) :
    mixedBlk w0 w1 v14 v16 v65 v61 v62 v18 v20 v22 v24 v60 (ix2 r j)
      = mix w1 (k0_pay41 v20 v65) (fun q => v60 (ix2 ⟨128 + q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val - 128, by omega⟩ : Fin 128) = ⟨r.val % 128, by omega⟩ := Fin.ext (by show r.val - 128 = r.val % 128; omega)
  have ej : (⟨128 + (j.val - 128), by omega⟩ : Fin 512) = j := Fin.ext (by show 128 + (j.val - 128) = j.val; omega)
  simp only [show ¬ r.val < 128 by omega, show r.val - 128 < 128 by omega, show ¬ j.val < 128 by omega, show j.val - 128 < 128 by omega, not_false_eq_true, ↓reduceDIte, er, ej, mix]

theorem carried_1_1 (r j : Fin 512) (hr : r.val / 128 = 1) (hj : j.val / 128 = 1) :
    carriedBlk w0 w1 w2 w3 v6 y5 v44 (ix2 r j)
      = ∑ q : Fin 128, w1 (ix2 q ⟨r.val % 128, by omega⟩) * k0_pay71 (F := Ideal) v6 y5 v44 (ix2 ⟨128 + q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val - 128, by omega⟩ : Fin 128) = ⟨r.val % 128, by omega⟩ := Fin.ext (by show r.val - 128 = r.val % 128; omega)
  have ej : (⟨128 + (j.val - 128), by omega⟩ : Fin 512) = j := Fin.ext (by show 128 + (j.val - 128) = j.val; omega)
  simp only [show ¬ r.val < 128 by omega, show r.val < 256 by omega, show r.val < 384 by omega, show r.val - 128 < 128 by omega, show r.val - 256 < 128 by omega, show ¬ j.val < 128 by omega, show j.val < 256 by omega, show j.val < 384 by omega, show j.val - 128 < 128 by omega, show j.val - 256 < 128 by omega, not_false_eq_true, ↓reduceDIte, er, ej, add_zero, zero_add]

theorem mixed_1_2 (r j : Fin 512) (hr : r.val / 128 = 1) (hj : j.val / 128 = 2) :
    mixedBlk w0 w1 v14 v16 v65 v61 v62 v18 v20 v22 v24 v60 (ix2 r j)
      = mix (k0_pay37 v14 v61 v62) (k0_pay42 v22 v65) (fun q => v60 (ix2 ⟨128 + q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val - 128, by omega⟩ : Fin 128) = ⟨r.val % 128, by omega⟩ := Fin.ext (by show r.val - 128 = r.val % 128; omega)
  have ej : (⟨256 + (j.val - 128 - 128), by omega⟩ : Fin 512) = j := Fin.ext (by show 256 + (j.val - 128 - 128) = j.val; omega)
  simp only [show ¬ r.val < 128 by omega, show r.val - 128 < 128 by omega, show ¬ j.val < 128 by omega, show ¬ j.val - 128 < 128 by omega, show j.val - 128 - 128 < 128 by omega, not_false_eq_true, ↓reduceDIte, er, ej, mix]

theorem carried_1_2 (r j : Fin 512) (hr : r.val / 128 = 1) (hj : j.val / 128 = 2) :
    carriedBlk w0 w1 w2 w3 v6 y5 v44 (ix2 r j)
      = ∑ q : Fin 128, w2 (ix2 q ⟨r.val % 128, by omega⟩) * k0_pay71 (F := Ideal) v6 y5 v44 (ix2 ⟨128 + q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val - 128, by omega⟩ : Fin 128) = ⟨r.val % 128, by omega⟩ := Fin.ext (by show r.val - 128 = r.val % 128; omega)
  have ej : (⟨256 + (j.val - 256), by omega⟩ : Fin 512) = j := Fin.ext (by show 256 + (j.val - 256) = j.val; omega)
  simp only [show ¬ r.val < 128 by omega, show r.val < 256 by omega, show r.val < 384 by omega, show r.val - 128 < 128 by omega, show r.val - 256 < 128 by omega, show ¬ j.val < 128 by omega, show ¬ j.val < 256 by omega, show j.val < 384 by omega, show ¬ j.val - 128 < 128 by omega, show j.val - 256 < 128 by omega, not_false_eq_true, ↓reduceDIte, er, ej, add_zero, zero_add]

theorem mixed_1_3 (r j : Fin 512) (hr : r.val / 128 = 1) (hj : j.val / 128 = 3) :
    mixedBlk w0 w1 v14 v16 v65 v61 v62 v18 v20 v22 v24 v60 (ix2 r j)
      = mix (k0_pay39 v16 v61 v62) (k0_pay43 v24 v65) (fun q => v60 (ix2 ⟨128 + q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val - 128, by omega⟩ : Fin 128) = ⟨r.val % 128, by omega⟩ := Fin.ext (by show r.val - 128 = r.val % 128; omega)
  have ej : (⟨384 + (j.val - 128 - 128 - 128), by omega⟩ : Fin 512) = j := Fin.ext (by show 384 + (j.val - 128 - 128 - 128) = j.val; omega)
  simp only [show ¬ r.val < 128 by omega, show r.val - 128 < 128 by omega, show ¬ j.val < 128 by omega, show ¬ j.val - 128 < 128 by omega, show ¬ j.val - 128 - 128 < 128 by omega, not_false_eq_true, ↓reduceDIte, er, ej, mix]

theorem carried_1_3 (r j : Fin 512) (hr : r.val / 128 = 1) (hj : j.val / 128 = 3) :
    carriedBlk w0 w1 w2 w3 v6 y5 v44 (ix2 r j)
      = ∑ q : Fin 128, w3 (ix2 q ⟨r.val % 128, by omega⟩) * k0_pay71 (F := Ideal) v6 y5 v44 (ix2 ⟨128 + q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val - 128, by omega⟩ : Fin 128) = ⟨r.val % 128, by omega⟩ := Fin.ext (by show r.val - 128 = r.val % 128; omega)
  have ej : (⟨384 + (j.val - 384), by omega⟩ : Fin 512) = j := Fin.ext (by show 384 + (j.val - 384) = j.val; omega)
  simp only [show ¬ r.val < 128 by omega, show r.val < 256 by omega, show r.val < 384 by omega, show r.val - 128 < 128 by omega, show r.val - 256 < 128 by omega, show ¬ j.val < 128 by omega, show ¬ j.val < 256 by omega, show ¬ j.val < 384 by omega, show ¬ j.val - 128 < 128 by omega, show ¬ j.val - 256 < 128 by omega, not_false_eq_true, ↓reduceDIte, er, ej, add_zero, zero_add]

theorem mixed_2_0 (r j : Fin 512) (hr : r.val / 128 = 2) (hj : j.val / 128 = 0) :
    mixedBlk w0 w1 v14 v16 v65 v61 v62 v18 v20 v22 v24 v60 (ix2 r j)
      = mix w0 (k0_pay40 v18 v65) (fun q => v60 (ix2 ⟨256 + q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val - 128 - 128, by omega⟩ : Fin 128) = ⟨r.val % 128, by omega⟩ := Fin.ext (by show r.val - 128 - 128 = r.val % 128; omega)
  simp only [show ¬ r.val < 128 by omega, show ¬ r.val - 128 < 128 by omega, show r.val - 128 - 128 < 128 by omega, show j.val < 128 by omega, not_false_eq_true, ↓reduceDIte, er, mix]

theorem carried_2_0 (r j : Fin 512) (hr : r.val / 128 = 2) (hj : j.val / 128 = 0) :
    carriedBlk w0 w1 w2 w3 v6 y5 v44 (ix2 r j)
      = ∑ q : Fin 128, w0 (ix2 q ⟨r.val % 128, by omega⟩) * k0_pay71 (F := Ideal) v6 y5 v44 (ix2 ⟨256 + q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val - 256, by omega⟩ : Fin 128) = ⟨r.val % 128, by omega⟩ := Fin.ext (by show r.val - 256 = r.val % 128; omega)
  simp only [show ¬ r.val < 128 by omega, show ¬ r.val < 256 by omega, show r.val < 384 by omega, show ¬ r.val - 128 < 128 by omega, show r.val - 256 < 128 by omega, show j.val < 128 by omega, show j.val < 256 by omega, show j.val < 384 by omega, show j.val - 128 < 128 by omega, show j.val - 256 < 128 by omega, not_false_eq_true, ↓reduceDIte, er, add_zero, zero_add]

theorem mixed_2_1 (r j : Fin 512) (hr : r.val / 128 = 2) (hj : j.val / 128 = 1) :
    mixedBlk w0 w1 v14 v16 v65 v61 v62 v18 v20 v22 v24 v60 (ix2 r j)
      = mix w1 (k0_pay41 v20 v65) (fun q => v60 (ix2 ⟨256 + q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val - 128 - 128, by omega⟩ : Fin 128) = ⟨r.val % 128, by omega⟩ := Fin.ext (by show r.val - 128 - 128 = r.val % 128; omega)
  have ej : (⟨128 + (j.val - 128), by omega⟩ : Fin 512) = j := Fin.ext (by show 128 + (j.val - 128) = j.val; omega)
  simp only [show ¬ r.val < 128 by omega, show ¬ r.val - 128 < 128 by omega, show r.val - 128 - 128 < 128 by omega, show ¬ j.val < 128 by omega, show j.val - 128 < 128 by omega, not_false_eq_true, ↓reduceDIte, er, ej, mix]

theorem carried_2_1 (r j : Fin 512) (hr : r.val / 128 = 2) (hj : j.val / 128 = 1) :
    carriedBlk w0 w1 w2 w3 v6 y5 v44 (ix2 r j)
      = ∑ q : Fin 128, w1 (ix2 q ⟨r.val % 128, by omega⟩) * k0_pay71 (F := Ideal) v6 y5 v44 (ix2 ⟨256 + q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val - 256, by omega⟩ : Fin 128) = ⟨r.val % 128, by omega⟩ := Fin.ext (by show r.val - 256 = r.val % 128; omega)
  have ej : (⟨128 + (j.val - 128), by omega⟩ : Fin 512) = j := Fin.ext (by show 128 + (j.val - 128) = j.val; omega)
  simp only [show ¬ r.val < 128 by omega, show ¬ r.val < 256 by omega, show r.val < 384 by omega, show ¬ r.val - 128 < 128 by omega, show r.val - 256 < 128 by omega, show ¬ j.val < 128 by omega, show j.val < 256 by omega, show j.val < 384 by omega, show j.val - 128 < 128 by omega, show j.val - 256 < 128 by omega, not_false_eq_true, ↓reduceDIte, er, ej, add_zero, zero_add]

theorem mixed_2_2 (r j : Fin 512) (hr : r.val / 128 = 2) (hj : j.val / 128 = 2) :
    mixedBlk w0 w1 v14 v16 v65 v61 v62 v18 v20 v22 v24 v60 (ix2 r j)
      = mix (k0_pay37 v14 v61 v62) (k0_pay42 v22 v65) (fun q => v60 (ix2 ⟨256 + q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val - 128 - 128, by omega⟩ : Fin 128) = ⟨r.val % 128, by omega⟩ := Fin.ext (by show r.val - 128 - 128 = r.val % 128; omega)
  have ej : (⟨256 + (j.val - 128 - 128), by omega⟩ : Fin 512) = j := Fin.ext (by show 256 + (j.val - 128 - 128) = j.val; omega)
  simp only [show ¬ r.val < 128 by omega, show ¬ r.val - 128 < 128 by omega, show r.val - 128 - 128 < 128 by omega, show ¬ j.val < 128 by omega, show ¬ j.val - 128 < 128 by omega, show j.val - 128 - 128 < 128 by omega, not_false_eq_true, ↓reduceDIte, er, ej, mix]

theorem carried_2_2 (r j : Fin 512) (hr : r.val / 128 = 2) (hj : j.val / 128 = 2) :
    carriedBlk w0 w1 w2 w3 v6 y5 v44 (ix2 r j)
      = ∑ q : Fin 128, w2 (ix2 q ⟨r.val % 128, by omega⟩) * k0_pay71 (F := Ideal) v6 y5 v44 (ix2 ⟨256 + q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val - 256, by omega⟩ : Fin 128) = ⟨r.val % 128, by omega⟩ := Fin.ext (by show r.val - 256 = r.val % 128; omega)
  have ej : (⟨256 + (j.val - 256), by omega⟩ : Fin 512) = j := Fin.ext (by show 256 + (j.val - 256) = j.val; omega)
  simp only [show ¬ r.val < 128 by omega, show ¬ r.val < 256 by omega, show r.val < 384 by omega, show ¬ r.val - 128 < 128 by omega, show r.val - 256 < 128 by omega, show ¬ j.val < 128 by omega, show ¬ j.val < 256 by omega, show j.val < 384 by omega, show ¬ j.val - 128 < 128 by omega, show j.val - 256 < 128 by omega, not_false_eq_true, ↓reduceDIte, er, ej, add_zero, zero_add]

theorem mixed_2_3 (r j : Fin 512) (hr : r.val / 128 = 2) (hj : j.val / 128 = 3) :
    mixedBlk w0 w1 v14 v16 v65 v61 v62 v18 v20 v22 v24 v60 (ix2 r j)
      = mix (k0_pay39 v16 v61 v62) (k0_pay43 v24 v65) (fun q => v60 (ix2 ⟨256 + q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val - 128 - 128, by omega⟩ : Fin 128) = ⟨r.val % 128, by omega⟩ := Fin.ext (by show r.val - 128 - 128 = r.val % 128; omega)
  have ej : (⟨384 + (j.val - 128 - 128 - 128), by omega⟩ : Fin 512) = j := Fin.ext (by show 384 + (j.val - 128 - 128 - 128) = j.val; omega)
  simp only [show ¬ r.val < 128 by omega, show ¬ r.val - 128 < 128 by omega, show r.val - 128 - 128 < 128 by omega, show ¬ j.val < 128 by omega, show ¬ j.val - 128 < 128 by omega, show ¬ j.val - 128 - 128 < 128 by omega, not_false_eq_true, ↓reduceDIte, er, ej, mix]

theorem carried_2_3 (r j : Fin 512) (hr : r.val / 128 = 2) (hj : j.val / 128 = 3) :
    carriedBlk w0 w1 w2 w3 v6 y5 v44 (ix2 r j)
      = ∑ q : Fin 128, w3 (ix2 q ⟨r.val % 128, by omega⟩) * k0_pay71 (F := Ideal) v6 y5 v44 (ix2 ⟨256 + q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val - 256, by omega⟩ : Fin 128) = ⟨r.val % 128, by omega⟩ := Fin.ext (by show r.val - 256 = r.val % 128; omega)
  have ej : (⟨384 + (j.val - 384), by omega⟩ : Fin 512) = j := Fin.ext (by show 384 + (j.val - 384) = j.val; omega)
  simp only [show ¬ r.val < 128 by omega, show ¬ r.val < 256 by omega, show r.val < 384 by omega, show ¬ r.val - 128 < 128 by omega, show r.val - 256 < 128 by omega, show ¬ j.val < 128 by omega, show ¬ j.val < 256 by omega, show ¬ j.val < 384 by omega, show ¬ j.val - 128 < 128 by omega, show ¬ j.val - 256 < 128 by omega, not_false_eq_true, ↓reduceDIte, er, ej, add_zero, zero_add]

theorem mixed_3_0 (r j : Fin 512) (hr : r.val / 128 = 3) (hj : j.val / 128 = 0) :
    mixedBlk w0 w1 v14 v16 v65 v61 v62 v18 v20 v22 v24 v60 (ix2 r j)
      = mix w0 (k0_pay40 v18 v65) (fun q => v60 (ix2 ⟨384 + q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val - 128 - 128 - 128, by omega⟩ : Fin 128) = ⟨r.val % 128, by omega⟩ := Fin.ext (by show r.val - 128 - 128 - 128 = r.val % 128; omega)
  simp only [show ¬ r.val < 128 by omega, show ¬ r.val - 128 < 128 by omega, show ¬ r.val - 128 - 128 < 128 by omega, show j.val < 128 by omega, not_false_eq_true, ↓reduceDIte, er, mix]

theorem carried_3_0 (r j : Fin 512) (hr : r.val / 128 = 3) (hj : j.val / 128 = 0) :
    carriedBlk w0 w1 w2 w3 v6 y5 v44 (ix2 r j)
      = ∑ q : Fin 128, w0 (ix2 q ⟨r.val % 128, by omega⟩) * k0_pay71 (F := Ideal) v6 y5 v44 (ix2 ⟨384 + q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val - 384, by omega⟩ : Fin 128) = ⟨r.val % 128, by omega⟩ := Fin.ext (by show r.val - 384 = r.val % 128; omega)
  simp only [show ¬ r.val < 128 by omega, show ¬ r.val < 256 by omega, show ¬ r.val < 384 by omega, show ¬ r.val - 128 < 128 by omega, show ¬ r.val - 256 < 128 by omega, show j.val < 128 by omega, show j.val < 256 by omega, show j.val < 384 by omega, show j.val - 128 < 128 by omega, show j.val - 256 < 128 by omega, not_false_eq_true, ↓reduceDIte, er, add_zero, zero_add]

theorem mixed_3_1 (r j : Fin 512) (hr : r.val / 128 = 3) (hj : j.val / 128 = 1) :
    mixedBlk w0 w1 v14 v16 v65 v61 v62 v18 v20 v22 v24 v60 (ix2 r j)
      = mix w1 (k0_pay41 v20 v65) (fun q => v60 (ix2 ⟨384 + q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val - 128 - 128 - 128, by omega⟩ : Fin 128) = ⟨r.val % 128, by omega⟩ := Fin.ext (by show r.val - 128 - 128 - 128 = r.val % 128; omega)
  have ej : (⟨128 + (j.val - 128), by omega⟩ : Fin 512) = j := Fin.ext (by show 128 + (j.val - 128) = j.val; omega)
  simp only [show ¬ r.val < 128 by omega, show ¬ r.val - 128 < 128 by omega, show ¬ r.val - 128 - 128 < 128 by omega, show ¬ j.val < 128 by omega, show j.val - 128 < 128 by omega, not_false_eq_true, ↓reduceDIte, er, ej, mix]

theorem carried_3_1 (r j : Fin 512) (hr : r.val / 128 = 3) (hj : j.val / 128 = 1) :
    carriedBlk w0 w1 w2 w3 v6 y5 v44 (ix2 r j)
      = ∑ q : Fin 128, w1 (ix2 q ⟨r.val % 128, by omega⟩) * k0_pay71 (F := Ideal) v6 y5 v44 (ix2 ⟨384 + q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val - 384, by omega⟩ : Fin 128) = ⟨r.val % 128, by omega⟩ := Fin.ext (by show r.val - 384 = r.val % 128; omega)
  have ej : (⟨128 + (j.val - 128), by omega⟩ : Fin 512) = j := Fin.ext (by show 128 + (j.val - 128) = j.val; omega)
  simp only [show ¬ r.val < 128 by omega, show ¬ r.val < 256 by omega, show ¬ r.val < 384 by omega, show ¬ r.val - 128 < 128 by omega, show ¬ r.val - 256 < 128 by omega, show ¬ j.val < 128 by omega, show j.val < 256 by omega, show j.val < 384 by omega, show j.val - 128 < 128 by omega, show j.val - 256 < 128 by omega, not_false_eq_true, ↓reduceDIte, er, ej, add_zero, zero_add]

theorem mixed_3_2 (r j : Fin 512) (hr : r.val / 128 = 3) (hj : j.val / 128 = 2) :
    mixedBlk w0 w1 v14 v16 v65 v61 v62 v18 v20 v22 v24 v60 (ix2 r j)
      = mix (k0_pay37 v14 v61 v62) (k0_pay42 v22 v65) (fun q => v60 (ix2 ⟨384 + q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val - 128 - 128 - 128, by omega⟩ : Fin 128) = ⟨r.val % 128, by omega⟩ := Fin.ext (by show r.val - 128 - 128 - 128 = r.val % 128; omega)
  have ej : (⟨256 + (j.val - 128 - 128), by omega⟩ : Fin 512) = j := Fin.ext (by show 256 + (j.val - 128 - 128) = j.val; omega)
  simp only [show ¬ r.val < 128 by omega, show ¬ r.val - 128 < 128 by omega, show ¬ r.val - 128 - 128 < 128 by omega, show ¬ j.val < 128 by omega, show ¬ j.val - 128 < 128 by omega, show j.val - 128 - 128 < 128 by omega, not_false_eq_true, ↓reduceDIte, er, ej, mix]

theorem carried_3_2 (r j : Fin 512) (hr : r.val / 128 = 3) (hj : j.val / 128 = 2) :
    carriedBlk w0 w1 w2 w3 v6 y5 v44 (ix2 r j)
      = ∑ q : Fin 128, w2 (ix2 q ⟨r.val % 128, by omega⟩) * k0_pay71 (F := Ideal) v6 y5 v44 (ix2 ⟨384 + q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val - 384, by omega⟩ : Fin 128) = ⟨r.val % 128, by omega⟩ := Fin.ext (by show r.val - 384 = r.val % 128; omega)
  have ej : (⟨256 + (j.val - 256), by omega⟩ : Fin 512) = j := Fin.ext (by show 256 + (j.val - 256) = j.val; omega)
  simp only [show ¬ r.val < 128 by omega, show ¬ r.val < 256 by omega, show ¬ r.val < 384 by omega, show ¬ r.val - 128 < 128 by omega, show ¬ r.val - 256 < 128 by omega, show ¬ j.val < 128 by omega, show ¬ j.val < 256 by omega, show j.val < 384 by omega, show ¬ j.val - 128 < 128 by omega, show j.val - 256 < 128 by omega, not_false_eq_true, ↓reduceDIte, er, ej, add_zero, zero_add]

theorem mixed_3_3 (r j : Fin 512) (hr : r.val / 128 = 3) (hj : j.val / 128 = 3) :
    mixedBlk w0 w1 v14 v16 v65 v61 v62 v18 v20 v22 v24 v60 (ix2 r j)
      = mix (k0_pay39 v16 v61 v62) (k0_pay43 v24 v65) (fun q => v60 (ix2 ⟨384 + q.val, by omega⟩ j)) ⟨r.val % 128, by omega⟩ := by
  pointwise [mixedBlk, k0_pay67, k0_pay49, k0_pay55, k0_pay61, k0_pay44, k0_pay45, k0_pay46, k0_pay47, k0_pay48, k0_pay50, k0_pay51, k0_pay52, k0_pay53, k0_pay54, k0_pay56, k0_pay57, k0_pay58, k0_pay59, k0_pay60, k0_pay62, k0_pay63, k0_pay64, k0_pay65, k0_pay66]
  have er : (⟨r.val - 128 - 128 - 128, by omega⟩ : Fin 128) = ⟨r.val % 128, by omega⟩ := Fin.ext (by show r.val - 128 - 128 - 128 = r.val % 128; omega)
  have ej : (⟨384 + (j.val - 128 - 128 - 128), by omega⟩ : Fin 512) = j := Fin.ext (by show 384 + (j.val - 128 - 128 - 128) = j.val; omega)
  simp only [show ¬ r.val < 128 by omega, show ¬ r.val - 128 < 128 by omega, show ¬ r.val - 128 - 128 < 128 by omega, show ¬ j.val < 128 by omega, show ¬ j.val - 128 < 128 by omega, show ¬ j.val - 128 - 128 < 128 by omega, not_false_eq_true, ↓reduceDIte, er, ej, mix]

theorem carried_3_3 (r j : Fin 512) (hr : r.val / 128 = 3) (hj : j.val / 128 = 3) :
    carriedBlk w0 w1 w2 w3 v6 y5 v44 (ix2 r j)
      = ∑ q : Fin 128, w3 (ix2 q ⟨r.val % 128, by omega⟩) * k0_pay71 (F := Ideal) v6 y5 v44 (ix2 ⟨384 + q.val, by omega⟩ j) := by
  pointwise [carriedBlk, k0_pay133, k0_pay126, k0_pay119, k0_pay113, k0_pay104, k0_pay101, k0_pay90, k0_pay83, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123]
  have er : (⟨r.val - 384, by omega⟩ : Fin 128) = ⟨r.val % 128, by omega⟩ := Fin.ext (by show r.val - 384 = r.val % 128; omega)
  have ej : (⟨384 + (j.val - 384), by omega⟩ : Fin 512) = j := Fin.ext (by show 384 + (j.val - 384) = j.val; omega)
  simp only [show ¬ r.val < 128 by omega, show ¬ r.val < 256 by omega, show ¬ r.val < 384 by omega, show ¬ r.val - 128 < 128 by omega, show ¬ r.val - 256 < 128 by omega, show ¬ j.val < 128 by omega, show ¬ j.val < 256 by omega, show ¬ j.val < 384 by omega, show ¬ j.val - 128 < 128 by omega, show ¬ j.val - 256 < 128 by omega, not_false_eq_true, ↓reduceDIte, er, ej, add_zero, zero_add]

end

/-- The products of two arrays' rows over one head's columns, summed over the four groups of 128 rows. -/
def pairing (d v : FVec Ideal S512x512 .f32) (h : Fin 4) (p q : Fin 128) : EReal :=
  ∑ k : Fin 4, ∑ j : Fin 128, d (ix2 ⟨k.val * 128 + p.val, by omega⟩ ⟨h.val * 128 + j.val, by omega⟩) * v (ix2 ⟨k.val * 128 + q.val, by omega⟩ ⟨h.val * 128 + j.val, by omega⟩)

/-- The sums of an array's rows over one head's columns, summed over the four groups of 128 rows. -/
def gathered (d : FVec Ideal S512x512 .f32) (h : Fin 4) (p : Fin 128) : EReal :=
  ∑ k : Fin 4, ∑ j : Fin 128, d (ix2 ⟨k.val * 128 + p.val, by omega⟩ ⟨h.val * 128 + j.val, by omega⟩)

theorem pairing_eq (d v : FVec Ideal S512x512 .f32) (h : Fin 4) (p q : Fin 128) :
    pairing d v h p q = (((∑ j : Fin 128, d (ix2 ⟨384 + p.val, by omega⟩ ⟨h.val * 128 + j.val, by omega⟩) * v (ix2 ⟨384 + q.val, by omega⟩ ⟨h.val * 128 + j.val, by omega⟩))
      + ∑ j : Fin 128, d (ix2 ⟨256 + p.val, by omega⟩ ⟨h.val * 128 + j.val, by omega⟩) * v (ix2 ⟨256 + q.val, by omega⟩ ⟨h.val * 128 + j.val, by omega⟩))
      + ∑ j : Fin 128, d (ix2 ⟨128 + p.val, by omega⟩ ⟨h.val * 128 + j.val, by omega⟩) * v (ix2 ⟨128 + q.val, by omega⟩ ⟨h.val * 128 + j.val, by omega⟩))
      + ∑ j : Fin 128, d (ix2 ⟨p.val, by omega⟩ ⟨h.val * 128 + j.val, by omega⟩) * v (ix2 ⟨q.val, by omega⟩ ⟨h.val * 128 + j.val, by omega⟩) := by
  unfold pairing
  rw [← Equiv.sum_comp Fin.revPerm, Fin.sum_univ_four]
  have e (p : Fin 128) : (⟨0 * 128 + p.val, by omega⟩ : Fin 512) = ⟨p.val, by omega⟩ := Fin.ext (by show 0 * 128 + p.val = p.val; omega)
  have f (p : Fin 128) : (⟨1 * 128 + p.val, by omega⟩ : Fin 512) = ⟨128 + p.val, by omega⟩ := Fin.ext (by show 1 * 128 + p.val = 128 + p.val; omega)
  have g (p : Fin 128) : (⟨2 * 128 + p.val, by omega⟩ : Fin 512) = ⟨256 + p.val, by omega⟩ := Fin.ext (by show 2 * 128 + p.val = 256 + p.val; omega)
  have i (p : Fin 128) : (⟨3 * 128 + p.val, by omega⟩ : Fin 512) = ⟨384 + p.val, by omega⟩ := Fin.ext (by show 3 * 128 + p.val = 384 + p.val; omega)
  simp only [← e, ← f, ← g, ← i]
  rfl

theorem gathered_eq (d : FVec Ideal S512x512 .f32) (h : Fin 4) (p : Fin 128) :
    gathered d h p = (((∑ j : Fin 128, d (ix2 ⟨384 + p.val, by omega⟩ ⟨h.val * 128 + j.val, by omega⟩))
      + ∑ j : Fin 128, d (ix2 ⟨256 + p.val, by omega⟩ ⟨h.val * 128 + j.val, by omega⟩))
      + ∑ j : Fin 128, d (ix2 ⟨128 + p.val, by omega⟩ ⟨h.val * 128 + j.val, by omega⟩))
      + ∑ j : Fin 128, d (ix2 ⟨p.val, by omega⟩ ⟨h.val * 128 + j.val, by omega⟩) := by
  unfold gathered
  rw [← Equiv.sum_comp Fin.revPerm, Fin.sum_univ_four]
  have e (p : Fin 128) : (⟨0 * 128 + p.val, by omega⟩ : Fin 512) = ⟨p.val, by omega⟩ := Fin.ext (by show 0 * 128 + p.val = p.val; omega)
  have f (p : Fin 128) : (⟨1 * 128 + p.val, by omega⟩ : Fin 512) = ⟨128 + p.val, by omega⟩ := Fin.ext (by show 1 * 128 + p.val = 128 + p.val; omega)
  have g (p : Fin 128) : (⟨2 * 128 + p.val, by omega⟩ : Fin 512) = ⟨256 + p.val, by omega⟩ := Fin.ext (by show 2 * 128 + p.val = 256 + p.val; omega)
  have i (p : Fin 128) : (⟨3 * 128 + p.val, by omega⟩ : Fin 512) = ⟨384 + p.val, by omega⟩ := Fin.ext (by show 3 * 128 + p.val = 384 + p.val; omega)
  simp only [← e, ← f, ← g, ← i]
  rfl

theorem diagonal (p q : Fin 128) : k0_pay31 (F := Ideal) (ix2 p q) = if p = q then 1 else 0 := by
  pointwise [k0_pay31]
  exact same_place p q

/-- A column read along the diagonal is the column. -/
theorem picked (p : Fin 128) (v : Fin 128 → EReal) : (∑ q, (if q = p then 1 else 0 : EReal) * v q) = v p := by
  simp only [ite_mul, one_mul, zero_mul, Finset.sum_ite_eq', Finset.mem_univ, if_true]

/-- The addition to the weights' gradient of head 0. -/
theorem weight_0 (v6 y5 v44 v60 : FVec Ideal S512x512 .f32) (w : FVec Ideal S1x128x128 .f32) (p q : Fin 128) :
    k0_pay149 (F := Ideal) (k0_pay148
      (k0_pay141 k0_pay32
        (k0_pay132 (k0_pay45 v60) (k0_pay118 (k0_pay51 v60) (k0_pay103 (k0_pay57 v60) (k0_pay89 (k0_pay63 v60) (k0_pay77 v6 y5 v44)) (k0_pay91 (k0_pay75 v6 y5 v44))) (k0_pay105 (k0_pay74 v6 y5 v44))) (k0_pay120 (k0_pay73 v6 y5 v44)))) w) (ix3 0 p q)
      = w (ix3 0 p q) + keep p q (pairing (k0_pay71 v6 y5 v44) v60 0 p q) := by
  rw [pairing_eq, ← select_keep]
  pointwise [k0_pay149, k0_pay148, k0_pay141, k0_pay32, k0_pay132, k0_pay118, k0_pay103, k0_pay89, k0_pay45, k0_pay51, k0_pay57, k0_pay63, k0_pay77, k0_pay91, k0_pay105, k0_pay120, k0_pay73, k0_pay74, k0_pay75, k0_pay76, k0_pay78, k0_pay79, k0_pay80, k0_pay92, k0_pay93, k0_pay94, k0_pay106, k0_pay107, k0_pay108, k0_pay121, k0_pay122, k0_pay123, k0_pay44, k0_pay50, k0_pay56, k0_pay62]

/-- The addition to the biases' gradient of head 0. -/
theorem bias_0 (v6 y5 v44 : FVec Ideal S512x512 .f32) (w : FVec Ideal S1x1x128 .f32) (p : Fin 128) :
    k0_pay153 (F := Ideal) (k0_pay137 k0_pay31 (k0_pay131 (k0_pay117 (k0_pay102 (k0_pay88 (k0_pay77 v6 y5 v44)) (k0_pay91 (k0_pay75 v6 y5 v44))) (k0_pay105 (k0_pay74 v6 y5 v44))) (k0_pay120 (k0_pay73 v6 y5 v44)))) w (ix3 0 0 p)
      = w (ix3 0 0 p) + gathered (k0_pay71 v6 y5 v44) 0 p := by
  rw [gathered_eq]
  pointwise [k0_pay153, k0_pay137, k0_pay131, k0_pay117, k0_pay102, k0_pay88, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123, k0_pay44, k0_pay50, k0_pay56, k0_pay62]
  simp only [diagonal, picked]
  exact congrArg _ (Fin.sum_univ_one _)

/-- The addition to the weights' gradient of head 1. -/
theorem weight_1 (v6 y5 v44 v60 : FVec Ideal S512x512 .f32) (w : FVec Ideal S1x128x128 .f32) (p q : Fin 128) :
    k0_pay150 (F := Ideal)
      (k0_pay140 k0_pay34
        (k0_pay130 (k0_pay46 v60) (k0_pay116 (k0_pay52 (k0_pay50 v60)) (k0_pay100 (k0_pay58 v60) (k0_pay87 (k0_pay64 (k0_pay62 v60)) (k0_pay78 v6 y5 v44)) (k0_pay92 (k0_pay75 v6 y5 v44))) (k0_pay106 (k0_pay74 v6 y5 v44))) (k0_pay121 (k0_pay73 v6 y5 v44)))) w (ix3 0 p q)
      = w (ix3 0 p q) + keep p q (pairing (k0_pay71 v6 y5 v44) v60 1 p q) := by
  rw [pairing_eq, ← select_keep]
  pointwise [k0_pay150, k0_pay140, k0_pay34, k0_pay130, k0_pay116, k0_pay100, k0_pay87, k0_pay46, k0_pay52, k0_pay50, k0_pay58, k0_pay64, k0_pay62, k0_pay78, k0_pay92, k0_pay106, k0_pay121, k0_pay73, k0_pay74, k0_pay75, k0_pay76, k0_pay77, k0_pay79, k0_pay80, k0_pay91, k0_pay93, k0_pay94, k0_pay105, k0_pay107, k0_pay108, k0_pay120, k0_pay122, k0_pay123, k0_pay44, k0_pay56]

/-- The addition to the biases' gradient of head 1. -/
theorem bias_1 (v6 y5 v44 : FVec Ideal S512x512 .f32) (w : FVec Ideal S1x1x128 .f32) (p : Fin 128) :
    k0_pay1 (F := Ideal) (k0_pay136 k0_pay31 (k0_pay129 (k0_pay115 (k0_pay99 (k0_pay86 (k0_pay78 v6 y5 v44)) (k0_pay92 (k0_pay75 v6 y5 v44))) (k0_pay114 (k0_pay74 v6 y5 v44))) (k0_pay121 (k0_pay73 v6 y5 v44)))) (k0_pay154 w) (ix3 0 0 p)
      = w (ix3 0 0 p) + gathered (k0_pay71 v6 y5 v44) 1 p := by
  rw [gathered_eq]
  pointwise [k0_pay1, k0_pay136, k0_pay129, k0_pay115, k0_pay99, k0_pay86, k0_pay114, k0_pay154, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123, k0_pay44, k0_pay50, k0_pay56, k0_pay62]
  simp only [diagonal, picked]
  exact congrArg _ (Fin.sum_univ_one _)

/-- The addition to the weights' gradient of head 2. -/
theorem weight_2 (v6 y5 v44 v60 : FVec Ideal S512x512 .f32) (w : FVec Ideal S1x128x128 .f32) (p q : Fin 128) :
    k0_pay151 (F := Ideal)
      (k0_pay139 (k0_pay36 (iota .tc S128x128 32 [0] iota_S128x128_d0_w32) (iota .tc S128x128 32 [1] iota_S128x128_d1_w32))
        (k0_pay128 (k0_pay47 v60) (k0_pay112 (k0_pay53 (k0_pay50 v60)) (k0_pay74 v6 y5 v44) (k0_pay98 (k0_pay59 v60) (k0_pay75 v6 y5 v44) (k0_pay85 (k0_pay65 (k0_pay62 v60)) (k0_pay79 v6 y5 v44)))) (k0_pay122 (k0_pay73 v6 y5 v44)))) w (ix3 0 p q)
      = w (ix3 0 p q) + keep p q (pairing (k0_pay71 v6 y5 v44) v60 2 p q) := by
  rw [pairing_eq, ← select_keep]
  pointwise [k0_pay151, k0_pay139, k0_pay36, k0_pay128, k0_pay112, k0_pay98, k0_pay85, k0_pay47, k0_pay53, k0_pay50, k0_pay59, k0_pay65, k0_pay62, k0_pay79, k0_pay122, k0_pay73, k0_pay74, k0_pay75, k0_pay76, k0_pay77, k0_pay78, k0_pay80, k0_pay91, k0_pay92, k0_pay93, k0_pay94, k0_pay105, k0_pay106, k0_pay107, k0_pay108, k0_pay120, k0_pay121, k0_pay123, k0_pay44, k0_pay56]

/-- The addition to the biases' gradient of head 2. -/
theorem bias_2 (v6 y5 v44 : FVec Ideal S512x512 .f32) (w : FVec Ideal S1x1x128 .f32) (p : Fin 128) :
    k0_pay2 (F := Ideal) (k0_pay135 k0_pay31 (k0_pay127 (k0_pay111 (k0_pay74 v6 y5 v44) (k0_pay97 (k0_pay75 v6 y5 v44) (k0_pay84 (k0_pay79 v6 y5 v44)))) (k0_pay122 (k0_pay73 v6 y5 v44)))) w (ix3 0 0 p)
      = w (ix3 0 0 p) + gathered (k0_pay71 v6 y5 v44) 2 p := by
  rw [gathered_eq]
  pointwise [k0_pay2, k0_pay135, k0_pay127, k0_pay111, k0_pay97, k0_pay84, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123, k0_pay44, k0_pay50, k0_pay56, k0_pay62]
  simp only [diagonal, picked]
  exact congrArg _ (Fin.sum_univ_one _)

/-- The addition to the weights' gradient of head 3. -/
theorem weight_3 (v6 y5 v44 v60 : FVec Ideal S512x512 .f32) (w : FVec Ideal S1x128x128 .f32) (p q : Fin 128) :
    k0_pay152 (F := Ideal)
      (k0_pay138 (k0_pay38 (iota .tc S128x128 32 [0] iota_S128x128_d0_w32) (iota .tc S128x128 32 [1] iota_S128x128_d1_w32))
        (k0_pay125 (k0_pay48 v60) (k0_pay73 v6 y5 v44) (k0_pay110 (k0_pay54 (k0_pay50 v60)) (k0_pay74 v6 y5 v44) (k0_pay96 (k0_pay60 v60) (k0_pay75 v6 y5 v44) (k0_pay82 v6 y5 v44 (k0_pay62 v60)))))) w (ix3 0 p q)
      = w (ix3 0 p q) + keep p q (pairing (k0_pay71 v6 y5 v44) v60 3 p q) := by
  rw [pairing_eq, ← select_keep]
  pointwise [k0_pay152, k0_pay138, k0_pay38, k0_pay125, k0_pay110, k0_pay96, k0_pay82, k0_pay48, k0_pay54, k0_pay50, k0_pay60, k0_pay62, k0_pay66, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123, k0_pay44, k0_pay56]

/-- The addition to the biases' gradient of head 3. -/
theorem bias_3 (v6 y5 v44 : FVec Ideal S512x512 .f32) (w : FVec Ideal S1x1x128 .f32) (p : Fin 128) :
    k0_pay3 (F := Ideal) (k0_pay134 k0_pay31 (k0_pay124 (k0_pay73 v6 y5 v44) (k0_pay109 (k0_pay74 v6 y5 v44) (k0_pay95 (k0_pay75 v6 y5 v44) (k0_pay81 v6 y5 v44))))) w (ix3 0 0 p)
      = w (ix3 0 0 p) + gathered (k0_pay71 v6 y5 v44) 3 p := by
  rw [gathered_eq]
  pointwise [k0_pay3, k0_pay134, k0_pay124, k0_pay109, k0_pay95, k0_pay81, k0_pay73, k0_pay74, k0_pay75, k0_pay76, k0_pay77, k0_pay78, k0_pay79, k0_pay80, k0_pay91, k0_pay92, k0_pay93, k0_pay94, k0_pay105, k0_pay106, k0_pay107, k0_pay108, k0_pay120, k0_pay121, k0_pay122, k0_pay123, k0_pay44, k0_pay50, k0_pay56, k0_pay62]
  simp only [diagonal, picked]
  exact congrArg _ (Fin.sum_univ_one _)

theorem unit_at (v4 : FVec Ideal S512x1024 .f32) (r : Fin 512) (j : Fin 1024) : k0_pay23 v4 (ix2 r j) = gelu (v4 (ix2 r j)) := by
  pointwise [k0_pay23, k0_pay18, k0_pay22, k0_pay20, k0_pay19]
  exact (mul_assoc _ _ _).trans (mul_left_comm _ _ _)

theorem left_at (v4 : FVec Ideal S512x1024 .f32) (r j : Fin 512) : k0_pay24 v4 (ix2 r j) = left (fun i => v4 (ix2 r i)) j := by
  pointwise [k0_pay24]
  rw [unit_at]; rfl

theorem right_at (v4 : FVec Ideal S512x1024 .f32) (r j : Fin 512) : k0_pay25 v4 (ix2 r j) = right (fun i => v4 (ix2 r i)) j := by
  pointwise [k0_pay25]
  rw [unit_at]; rfl

theorem meansq_at (v4 : FVec Ideal S512x1024 .f32) (r : Fin 512) : k0_pay26 v4 (ix2 r 0) = meansq (right fun i => v4 (ix2 r i)) := by
  pointwise [k0_pay26]
  simp only [right_at]
  rfl

theorem gain_at (v4 : FVec Ideal S512x1024 .f32) (r : Fin 512) : k0_pay27 v4 (ix2 r 0) = gain (right fun i => v4 (ix2 r i)) := by
  pointwise [k0_pay27]
  rw [meansq_at]; rfl

theorem slope_at (v4 : FVec Ideal S512x1024 .f32) (r : Fin 512) : k0_pay28 v4 (ix2 r 0) = slope (right fun i => v4 (ix2 r i)) := by
  pointwise [k0_pay28]
  rw [meansq_at, gain_at]; rfl

theorem scaled_at (v4 : FVec Ideal S512x1024 .f32) (r j : Fin 512) :
    k0_pay29 v4 (ix2 r j) = right (fun i => v4 (ix2 r i)) j * gain (right fun i => v4 (ix2 r i)) := by
  pointwise [k0_pay29]
  rw [right_at, gain_at]

theorem normed_at (v4 : FVec Ideal S512x1024 .f32) (v8 : FVec Ideal S1x512 .f32) (r j : Fin 512) :
    k0_pay30 v4 v8 (ix2 r j) = normed (fun i => v4 (ix2 r i)) (fun i => v8 (ix2 0 i)) j := by
  pointwise [k0_pay30]
  rw [scaled_at]; rfl

theorem gated_at (v6 y5 : FVec Ideal S512x512 .f32) (r j : Fin 512) : k0_pay69 v6 y5 (ix2 r j) = y5 (ix2 r j) * gate (v6 (ix2 r j)) := by
  pointwise [k0_pay69, k0_pay68]
  rfl

theorem fed_at (v4 : FVec Ideal S512x1024 .f32) (v6 y5 : FVec Ideal S512x512 .f32) (r j : Fin 512) :
    k0_pay71 v6 y5 (k0_pay24 v4) (ix2 r j) = fed (fun i => v4 (ix2 r i)) (fun i => v6 (ix2 r i)) (fun i => y5 (ix2 r i)) j := by
  pointwise [k0_pay71]
  rw [gated_at, left_at]; rfl

/-- The gradient of the first half, for any mixture. -/
theorem through_gate (v6 y5 : FVec Ideal S512x512 .f32) (w0 w1 v14 v16 v65 : FVec Ideal S128x128 .f32) (v61 v62 : IVec S128x128 32) (v18 v20 v22 v24 : FVec Ideal S1x128 .f32) (v60 : FVec Ideal S512x512 .f32) (r j : Fin 512) (x : EReal)
    (hx : k0_pay67 (F := Ideal) w0 w1 (k0_pay37 v14 v61 v62) (k0_pay39 v16 v61 v62) (k0_pay40 v18 v65) (k0_pay41 v20 v65) (k0_pay42 v22 v65) (k0_pay43 v24 v65)
      (k0_pay49 v14 v16 v18 v20 v22 v24 v60 v61 v62 v65 w0 w1)
      (k0_pay55 w0 w1 (k0_pay37 v14 v61 v62) (k0_pay39 v16 v61 v62) (k0_pay40 v18 v65) (k0_pay41 v20 v65) (k0_pay42 v22 v65) (k0_pay43 v24 v65) (k0_pay50 v60) (k0_pay51 v60))
      (k0_pay61 v60 w0 w1 (k0_pay37 v14 v61 v62) (k0_pay39 v16 v61 v62) (k0_pay40 v18 v65) (k0_pay41 v20 v65) (k0_pay42 v22 v65) (k0_pay43 v24 v65))
      (k0_pay62 v60) (k0_pay63 v60) (ix2 r j) = x) :
    k0_pay72 (F := Ideal) v6 y5 w0 w1 (k0_pay37 v14 v61 v62) (k0_pay39 v16 v61 v62) (k0_pay40 v18 v65) (k0_pay41 v20 v65) (k0_pay42 v22 v65) (k0_pay43 v24 v65)
      (k0_pay49 v14 v16 v18 v20 v22 v24 v60 v61 v62 v65 w0 w1)
      (k0_pay55 w0 w1 (k0_pay37 v14 v61 v62) (k0_pay39 v16 v61 v62) (k0_pay40 v18 v65) (k0_pay41 v20 v65) (k0_pay42 v22 v65) (k0_pay43 v24 v65) (k0_pay50 v60) (k0_pay51 v60))
      (k0_pay61 v60 w0 w1 (k0_pay37 v14 v61 v62) (k0_pay39 v16 v61 v62) (k0_pay40 v18 v65) (k0_pay41 v20 v65) (k0_pay42 v22 v65) (k0_pay43 v24 v65))
      (k0_pay62 v60) (k0_pay63 v60) (ix2 r j)
      = y5 (ix2 r j) * gate (v6 (ix2 r j)) * x := by
  subst hx
  pointwise [k0_pay72]
  rw [gated_at]

/-- The gradient of the gate's column, for any mixture. -/
theorem through_result (v6 y5 v44 : FVec Ideal S512x512 .f32) (w0 w1 v14 v16 v65 : FVec Ideal S128x128 .f32) (v61 v62 : IVec S128x128 32) (v18 v20 v22 v24 : FVec Ideal S1x128 .f32) (v60 : FVec Ideal S512x512 .f32) (r j : Fin 512) (x : EReal)
    (hx : k0_pay67 (F := Ideal) w0 w1 (k0_pay37 v14 v61 v62) (k0_pay39 v16 v61 v62) (k0_pay40 v18 v65) (k0_pay41 v20 v65) (k0_pay42 v22 v65) (k0_pay43 v24 v65)
      (k0_pay49 v14 v16 v18 v20 v22 v24 v60 v61 v62 v65 w0 w1)
      (k0_pay55 w0 w1 (k0_pay37 v14 v61 v62) (k0_pay39 v16 v61 v62) (k0_pay40 v18 v65) (k0_pay41 v20 v65) (k0_pay42 v22 v65) (k0_pay43 v24 v65) (k0_pay50 v60) (k0_pay51 v60))
      (k0_pay61 v60 w0 w1 (k0_pay37 v14 v61 v62) (k0_pay39 v16 v61 v62) (k0_pay40 v18 v65) (k0_pay41 v20 v65) (k0_pay42 v22 v65) (k0_pay43 v24 v65))
      (k0_pay62 v60) (k0_pay63 v60) (ix2 r j) = x) :
    k0_pay70 (F := Ideal) v6 y5 v44 w0 w1 (k0_pay37 v14 v61 v62) (k0_pay39 v16 v61 v62) (k0_pay40 v18 v65) (k0_pay41 v20 v65) (k0_pay42 v22 v65) (k0_pay43 v24 v65)
      (k0_pay49 v14 v16 v18 v20 v22 v24 v60 v61 v62 v65 w0 w1)
      (k0_pay55 w0 w1 (k0_pay37 v14 v61 v62) (k0_pay39 v16 v61 v62) (k0_pay40 v18 v65) (k0_pay41 v20 v65) (k0_pay42 v22 v65) (k0_pay43 v24 v65) (k0_pay50 v60) (k0_pay51 v60))
      (k0_pay61 v60 w0 w1 (k0_pay37 v14 v61 v62) (k0_pay39 v16 v61 v62) (k0_pay40 v18 v65) (k0_pay41 v20 v65) (k0_pay42 v22 v65) (k0_pay43 v24 v65))
      (k0_pay62 v60) (k0_pay63 v60) (ix2 r j)
      = ungate (v6 (ix2 r j)) (v44 (ix2 r j) * x * y5 (ix2 r j)) := by
  subst hx
  pointwise [k0_pay70, k0_pay68]
  rfl

theorem spread_at (v4 : FVec Ideal S512x1024 .f32) (v8 : FVec Ideal S1x512 .f32) (dv : FVec Ideal S512x512 .f32) (r j : Fin 512) :
    k0_pay144 v8 (k0_pay27 v4) dv (ix2 r j)
      + right (fun i => v4 (ix2 r i)) j * k0_pay145 v8 (k0_pay25 v4) (k0_pay28 v4) dv (ix2 r 0)
      + k0_pay145 v8 (k0_pay25 v4) (k0_pay28 v4) dv (ix2 r 0) * right (fun i => v4 (ix2 r i)) j
      = spread (right fun i => v4 (ix2 r i)) (fun i => dv (ix2 r i) * v8 (ix2 0 i)) j := by
  pointwise [k0_pay143, k0_pay144, k0_pay145]
  simp only [right_at, gain_at, slope_at]
  rfl

/-- The stored gradient of the units, the two halves side by side. -/
theorem units_at (v4 : FVec Ideal S512x1024 .f32) (v8 : FVec Ideal S1x512 .f32) (dz du dv : FVec Ideal S512x512 .f32) (r : Fin 512) (j : Fin 1024) :
    k0_pay146 v4 (k0_pay18 v4) (k0_pay19 v4) (k0_pay21 v4) (k0_pay22 v4) (k0_pay25 v4) dz du
      (k0_pay144 v8 (k0_pay27 v4) dv) (k0_pay145 v8 (k0_pay25 v4) (k0_pay28 v4) dv) (ix2 r ⟨j.val, by omega⟩)
      = pull (v4 (ix2 r j)) (if h : j.val < 512 then du (ix2 r ⟨j.val, h⟩) else spread (right fun i => v4 (ix2 r i)) (fun i => dv (ix2 r i) * v8 (ix2 0 i)) ⟨j.val - 512, by omega⟩) := by
  simp only [← spread_at, ← right_at]
  generalize k0_pay144 v8 (k0_pay27 v4) dv = a
  generalize k0_pay145 v8 (k0_pay25 v4) (k0_pay28 v4) dv = b
  pointwise [k0_pay146, k0_pay18, k0_pay19, k0_pay21, k0_pay22, k0_pay20]
  rw [← pull_eq]
  by_cases h : j.val < 512
  · simp only [h, show j.val < 1024 from j.isLt, ↓reduceDIte, zero_add]
    rw [mul_assoc (Ideal.ofBits .f32 0x3F000000#32) (v4 _)]
    rfl
  · simp only [h, show j.val < 1024 from j.isLt, ↓reduceDIte, add_zero, Fin.sum_univ_one]
    rw [mul_assoc (Ideal.ofBits .f32 0x3F000000#32) (v4 _)]
    rfl

/-- The stored gradient of the gate's columns. -/
theorem gates_at (v4 : FVec Ideal S512x1024 .f32) (dz du a : FVec Ideal S512x512 .f32) (b : FVec Ideal S512x1 .f32) (r j : Fin 512) :
    k0_pay146 v4 (k0_pay18 v4) (k0_pay19 v4) (k0_pay21 v4) (k0_pay22 v4) (k0_pay25 v4) dz du a b (ix2 r ⟨1024 + j.val, by omega⟩) = dz (ix2 r j) := by
  pointwise [k0_pay146]

/-- The addition to the gain's gradient. -/
theorem gains_at (v4 : FVec Ideal S512x1024 .f32) (dv : FVec Ideal S512x512 .f32) (w : FVec Ideal S1x512 .f32) (j : Fin 512) :
    k0_pay147 (k0_pay142 (k0_pay29 v4) dv) w (ix2 0 j)
      = w (ix2 0 j) + ∑ r : Fin 512, right (fun i => v4 (ix2 r i)) j * gain (right fun i => v4 (ix2 r i)) * dv (ix2 r j) := by
  pointwise [k0_pay147, k0_pay142]
  simp only [scaled_at]

end Cert.Kernel14Ideal.GatingBwd

end
-- ==== Proof.GatingBwdRows.lean ====
module

public import proofs.«01_k».proof.Proof.GatingBwdPoint
public import Idealize.ShloMosaic.Lib.Pipeline.ValueKit
public import Idealize.ShloMosaic.Lib.Pointwise

/-! The spatial gating branch’s gradient: one block’s rows, the four heads and the four groups together. -/

@[expose] public section

set_option maxRecDepth 16384

noncomputable section

open Idealize.ShloMosaic Idealize.ShloMosaic.TcCoe Idealize.SL.Sem
open Idealize.ShloMosaic.Pipeline (Dat)

namespace Cert.Kernel14Ideal.GatingBwd

open Cert.Kernel14Ideal Cert.Kernel14Ideal.Gen
open Cert.Gating

theorem mixed (w0 w1 v14 v16 v65 : FVec Ideal S128x128 .f32) (v61 v62 : IVec S128x128 32) (v18 v20 v22 v24 : FVec Ideal S1x128 .f32) (v60 : FVec Ideal S512x512 .f32) (w : Fin 4 → Fin 128 → Fin 128 → EReal) (b : Fin 4 → Fin 128 → EReal) (g : Fin 512 → EReal) (Y : Fin 512 → Fin 1024 → EReal)
    (hw0 : ∀ p q, (w0 : FVec Ideal S128x128 .f32) (ix2 p q) = keep p q (w 0 p q)) (hw1 : ∀ p q, (w1 : FVec Ideal S128x128 .f32) (ix2 p q) = keep p q (w 1 p q)) (hw2 : ∀ p q, (k0_pay37 v14 v61 v62 : FVec Ideal S128x128 .f32) (ix2 p q) = keep p q (w 2 p q)) (hw3 : ∀ p q, (k0_pay39 v16 v61 v62 : FVec Ideal S128x128 .f32) (ix2 p q) = keep p q (w 3 p q))
    (hb0 : ∀ p, (k0_pay40 v18 v65 : FVec Ideal S128x1 .f32) (ix2 p 0) = b 0 p) (hb1 : ∀ p, (k0_pay41 v20 v65 : FVec Ideal S128x1 .f32) (ix2 p 0) = b 1 p) (hb2 : ∀ p, (k0_pay42 v22 v65 : FVec Ideal S128x1 .f32) (ix2 p 0) = b 2 p) (hb3 : ∀ p, (k0_pay43 v24 v65 : FVec Ideal S128x1 .f32) (ix2 p 0) = b 3 p)
    (hv : ∀ r j, v60 (ix2 r j) = normed (Y r) g j) (r j : Fin 512) :
    mixedBlk w0 w1 v14 v16 v65 v61 v62 v18 v20 v22 v24 v60 (ix2 r j)
      = mixture (fun q => Y ⟨r.val / 128 * 128 + q.val, by omega⟩) g w b ⟨r.val % 128, by omega⟩ j := by
  unfold mixture
  have hr : r.val / 128 = 0 ∨ r.val / 128 = 1 ∨ r.val / 128 = 2 ∨ r.val / 128 = 3 := by omega
  have hj : j.val / 128 = 0 ∨ j.val / 128 = 1 ∨ j.val / 128 = 2 ∨ j.val / 128 = 3 := by omega
  rcases hr with hr | hr | hr | hr <;> rcases hj with hj | hj | hj | hj
  · have eh : (⟨j.val / 128, by omega⟩ : Fin 4) = 0 := Fin.ext hj
    have er (q : Fin 128) : (⟨r.val / 128 * 128 + q.val, by omega⟩ : Fin 512) = ⟨q.val, by omega⟩ := Fin.ext (by show r.val / 128 * 128 + q.val = q.val; omega)
    rw [mixed_0_0 _ _ _ _ _ _ _ _ _ _ _ _ r j hr hj]
    simp only [mix, hw0, hb0, hv, eh, er]
  · have eh : (⟨j.val / 128, by omega⟩ : Fin 4) = 1 := Fin.ext hj
    have er (q : Fin 128) : (⟨r.val / 128 * 128 + q.val, by omega⟩ : Fin 512) = ⟨q.val, by omega⟩ := Fin.ext (by show r.val / 128 * 128 + q.val = q.val; omega)
    rw [mixed_0_1 _ _ _ _ _ _ _ _ _ _ _ _ r j hr hj]
    simp only [mix, hw1, hb1, hv, eh, er]
  · have eh : (⟨j.val / 128, by omega⟩ : Fin 4) = 2 := Fin.ext hj
    have er (q : Fin 128) : (⟨r.val / 128 * 128 + q.val, by omega⟩ : Fin 512) = ⟨q.val, by omega⟩ := Fin.ext (by show r.val / 128 * 128 + q.val = q.val; omega)
    rw [mixed_0_2 _ _ _ _ _ _ _ _ _ _ _ _ r j hr hj]
    simp only [mix, hw2, hb2, hv, eh, er]
  · have eh : (⟨j.val / 128, by omega⟩ : Fin 4) = 3 := Fin.ext hj
    have er (q : Fin 128) : (⟨r.val / 128 * 128 + q.val, by omega⟩ : Fin 512) = ⟨q.val, by omega⟩ := Fin.ext (by show r.val / 128 * 128 + q.val = q.val; omega)
    rw [mixed_0_3 _ _ _ _ _ _ _ _ _ _ _ _ r j hr hj]
    simp only [mix, hw3, hb3, hv, eh, er]
  · have eh : (⟨j.val / 128, by omega⟩ : Fin 4) = 0 := Fin.ext hj
    have er (q : Fin 128) : (⟨r.val / 128 * 128 + q.val, by omega⟩ : Fin 512) = ⟨128 + q.val, by omega⟩ := Fin.ext (by show r.val / 128 * 128 + q.val = 128 + q.val; omega)
    rw [mixed_1_0 _ _ _ _ _ _ _ _ _ _ _ _ r j hr hj]
    simp only [mix, hw0, hb0, hv, eh, er]
  · have eh : (⟨j.val / 128, by omega⟩ : Fin 4) = 1 := Fin.ext hj
    have er (q : Fin 128) : (⟨r.val / 128 * 128 + q.val, by omega⟩ : Fin 512) = ⟨128 + q.val, by omega⟩ := Fin.ext (by show r.val / 128 * 128 + q.val = 128 + q.val; omega)
    rw [mixed_1_1 _ _ _ _ _ _ _ _ _ _ _ _ r j hr hj]
    simp only [mix, hw1, hb1, hv, eh, er]
  · have eh : (⟨j.val / 128, by omega⟩ : Fin 4) = 2 := Fin.ext hj
    have er (q : Fin 128) : (⟨r.val / 128 * 128 + q.val, by omega⟩ : Fin 512) = ⟨128 + q.val, by omega⟩ := Fin.ext (by show r.val / 128 * 128 + q.val = 128 + q.val; omega)
    rw [mixed_1_2 _ _ _ _ _ _ _ _ _ _ _ _ r j hr hj]
    simp only [mix, hw2, hb2, hv, eh, er]
  · have eh : (⟨j.val / 128, by omega⟩ : Fin 4) = 3 := Fin.ext hj
    have er (q : Fin 128) : (⟨r.val / 128 * 128 + q.val, by omega⟩ : Fin 512) = ⟨128 + q.val, by omega⟩ := Fin.ext (by show r.val / 128 * 128 + q.val = 128 + q.val; omega)
    rw [mixed_1_3 _ _ _ _ _ _ _ _ _ _ _ _ r j hr hj]
    simp only [mix, hw3, hb3, hv, eh, er]
  · have eh : (⟨j.val / 128, by omega⟩ : Fin 4) = 0 := Fin.ext hj
    have er (q : Fin 128) : (⟨r.val / 128 * 128 + q.val, by omega⟩ : Fin 512) = ⟨256 + q.val, by omega⟩ := Fin.ext (by show r.val / 128 * 128 + q.val = 256 + q.val; omega)
    rw [mixed_2_0 _ _ _ _ _ _ _ _ _ _ _ _ r j hr hj]
    simp only [mix, hw0, hb0, hv, eh, er]
  · have eh : (⟨j.val / 128, by omega⟩ : Fin 4) = 1 := Fin.ext hj
    have er (q : Fin 128) : (⟨r.val / 128 * 128 + q.val, by omega⟩ : Fin 512) = ⟨256 + q.val, by omega⟩ := Fin.ext (by show r.val / 128 * 128 + q.val = 256 + q.val; omega)
    rw [mixed_2_1 _ _ _ _ _ _ _ _ _ _ _ _ r j hr hj]
    simp only [mix, hw1, hb1, hv, eh, er]
  · have eh : (⟨j.val / 128, by omega⟩ : Fin 4) = 2 := Fin.ext hj
    have er (q : Fin 128) : (⟨r.val / 128 * 128 + q.val, by omega⟩ : Fin 512) = ⟨256 + q.val, by omega⟩ := Fin.ext (by show r.val / 128 * 128 + q.val = 256 + q.val; omega)
    rw [mixed_2_2 _ _ _ _ _ _ _ _ _ _ _ _ r j hr hj]
    simp only [mix, hw2, hb2, hv, eh, er]
  · have eh : (⟨j.val / 128, by omega⟩ : Fin 4) = 3 := Fin.ext hj
    have er (q : Fin 128) : (⟨r.val / 128 * 128 + q.val, by omega⟩ : Fin 512) = ⟨256 + q.val, by omega⟩ := Fin.ext (by show r.val / 128 * 128 + q.val = 256 + q.val; omega)
    rw [mixed_2_3 _ _ _ _ _ _ _ _ _ _ _ _ r j hr hj]
    simp only [mix, hw3, hb3, hv, eh, er]
  · have eh : (⟨j.val / 128, by omega⟩ : Fin 4) = 0 := Fin.ext hj
    have er (q : Fin 128) : (⟨r.val / 128 * 128 + q.val, by omega⟩ : Fin 512) = ⟨384 + q.val, by omega⟩ := Fin.ext (by show r.val / 128 * 128 + q.val = 384 + q.val; omega)
    rw [mixed_3_0 _ _ _ _ _ _ _ _ _ _ _ _ r j hr hj]
    simp only [mix, hw0, hb0, hv, eh, er]
  · have eh : (⟨j.val / 128, by omega⟩ : Fin 4) = 1 := Fin.ext hj
    have er (q : Fin 128) : (⟨r.val / 128 * 128 + q.val, by omega⟩ : Fin 512) = ⟨384 + q.val, by omega⟩ := Fin.ext (by show r.val / 128 * 128 + q.val = 384 + q.val; omega)
    rw [mixed_3_1 _ _ _ _ _ _ _ _ _ _ _ _ r j hr hj]
    simp only [mix, hw1, hb1, hv, eh, er]
  · have eh : (⟨j.val / 128, by omega⟩ : Fin 4) = 2 := Fin.ext hj
    have er (q : Fin 128) : (⟨r.val / 128 * 128 + q.val, by omega⟩ : Fin 512) = ⟨384 + q.val, by omega⟩ := Fin.ext (by show r.val / 128 * 128 + q.val = 384 + q.val; omega)
    rw [mixed_3_2 _ _ _ _ _ _ _ _ _ _ _ _ r j hr hj]
    simp only [mix, hw2, hb2, hv, eh, er]
  · have eh : (⟨j.val / 128, by omega⟩ : Fin 4) = 3 := Fin.ext hj
    have er (q : Fin 128) : (⟨r.val / 128 * 128 + q.val, by omega⟩ : Fin 512) = ⟨384 + q.val, by omega⟩ := Fin.ext (by show r.val / 128 * 128 + q.val = 384 + q.val; omega)
    rw [mixed_3_3 _ _ _ _ _ _ _ _ _ _ _ _ r j hr hj]
    simp only [mix, hw3, hb3, hv, eh, er]

theorem carriedOver (w0 w1 w2 w3 : FVec Ideal S128x128 .f32) (v6 y5 v44 : FVec Ideal S512x512 .f32) (w : Fin 4 → Fin 128 → Fin 128 → EReal) (Y : Fin 512 → Fin 1024 → EReal) (Z E : Fin 512 → Fin 512 → EReal)
    (hw0 : ∀ p q, w0 (ix2 p q) = keep p q (w 0 p q)) (hw1 : ∀ p q, w1 (ix2 p q) = keep p q (w 1 p q)) (hw2 : ∀ p q, w2 (ix2 p q) = keep p q (w 2 p q)) (hw3 : ∀ p q, w3 (ix2 p q) = keep p q (w 3 p q))
    (hd : ∀ r j, k0_pay71 v6 y5 v44 (ix2 r j) = fed (Y r) (Z r) (E r) j) (r j : Fin 512) :
    carriedBlk w0 w1 w2 w3 v6 y5 v44 (ix2 r j)
      = carried (fun q => Y ⟨r.val / 128 * 128 + q.val, by omega⟩) (fun q => Z ⟨r.val / 128 * 128 + q.val, by omega⟩) (fun q => E ⟨r.val / 128 * 128 + q.val, by omega⟩) w ⟨r.val % 128, by omega⟩ j := by
  unfold carried
  have hr : r.val / 128 = 0 ∨ r.val / 128 = 1 ∨ r.val / 128 = 2 ∨ r.val / 128 = 3 := by omega
  have hj : j.val / 128 = 0 ∨ j.val / 128 = 1 ∨ j.val / 128 = 2 ∨ j.val / 128 = 3 := by omega
  rcases hr with hr | hr | hr | hr <;> rcases hj with hj | hj | hj | hj
  · have eh : (⟨j.val / 128, by omega⟩ : Fin 4) = 0 := Fin.ext hj
    have er (q : Fin 128) : (⟨r.val / 128 * 128 + q.val, by omega⟩ : Fin 512) = ⟨q.val, by omega⟩ := Fin.ext (by show r.val / 128 * 128 + q.val = q.val; omega)
    rw [carried_0_0 _ _ _ _ _ _ _ r j hr hj]
    simp only [hw0, hd, eh, er]
  · have eh : (⟨j.val / 128, by omega⟩ : Fin 4) = 1 := Fin.ext hj
    have er (q : Fin 128) : (⟨r.val / 128 * 128 + q.val, by omega⟩ : Fin 512) = ⟨q.val, by omega⟩ := Fin.ext (by show r.val / 128 * 128 + q.val = q.val; omega)
    rw [carried_0_1 _ _ _ _ _ _ _ r j hr hj]
    simp only [hw1, hd, eh, er]
  · have eh : (⟨j.val / 128, by omega⟩ : Fin 4) = 2 := Fin.ext hj
    have er (q : Fin 128) : (⟨r.val / 128 * 128 + q.val, by omega⟩ : Fin 512) = ⟨q.val, by omega⟩ := Fin.ext (by show r.val / 128 * 128 + q.val = q.val; omega)
    rw [carried_0_2 _ _ _ _ _ _ _ r j hr hj]
    simp only [hw2, hd, eh, er]
  · have eh : (⟨j.val / 128, by omega⟩ : Fin 4) = 3 := Fin.ext hj
    have er (q : Fin 128) : (⟨r.val / 128 * 128 + q.val, by omega⟩ : Fin 512) = ⟨q.val, by omega⟩ := Fin.ext (by show r.val / 128 * 128 + q.val = q.val; omega)
    rw [carried_0_3 _ _ _ _ _ _ _ r j hr hj]
    simp only [hw3, hd, eh, er]
  · have eh : (⟨j.val / 128, by omega⟩ : Fin 4) = 0 := Fin.ext hj
    have er (q : Fin 128) : (⟨r.val / 128 * 128 + q.val, by omega⟩ : Fin 512) = ⟨128 + q.val, by omega⟩ := Fin.ext (by show r.val / 128 * 128 + q.val = 128 + q.val; omega)
    rw [carried_1_0 _ _ _ _ _ _ _ r j hr hj]
    simp only [hw0, hd, eh, er]
  · have eh : (⟨j.val / 128, by omega⟩ : Fin 4) = 1 := Fin.ext hj
    have er (q : Fin 128) : (⟨r.val / 128 * 128 + q.val, by omega⟩ : Fin 512) = ⟨128 + q.val, by omega⟩ := Fin.ext (by show r.val / 128 * 128 + q.val = 128 + q.val; omega)
    rw [carried_1_1 _ _ _ _ _ _ _ r j hr hj]
    simp only [hw1, hd, eh, er]
  · have eh : (⟨j.val / 128, by omega⟩ : Fin 4) = 2 := Fin.ext hj
    have er (q : Fin 128) : (⟨r.val / 128 * 128 + q.val, by omega⟩ : Fin 512) = ⟨128 + q.val, by omega⟩ := Fin.ext (by show r.val / 128 * 128 + q.val = 128 + q.val; omega)
    rw [carried_1_2 _ _ _ _ _ _ _ r j hr hj]
    simp only [hw2, hd, eh, er]
  · have eh : (⟨j.val / 128, by omega⟩ : Fin 4) = 3 := Fin.ext hj
    have er (q : Fin 128) : (⟨r.val / 128 * 128 + q.val, by omega⟩ : Fin 512) = ⟨128 + q.val, by omega⟩ := Fin.ext (by show r.val / 128 * 128 + q.val = 128 + q.val; omega)
    rw [carried_1_3 _ _ _ _ _ _ _ r j hr hj]
    simp only [hw3, hd, eh, er]
  · have eh : (⟨j.val / 128, by omega⟩ : Fin 4) = 0 := Fin.ext hj
    have er (q : Fin 128) : (⟨r.val / 128 * 128 + q.val, by omega⟩ : Fin 512) = ⟨256 + q.val, by omega⟩ := Fin.ext (by show r.val / 128 * 128 + q.val = 256 + q.val; omega)
    rw [carried_2_0 _ _ _ _ _ _ _ r j hr hj]
    simp only [hw0, hd, eh, er]
  · have eh : (⟨j.val / 128, by omega⟩ : Fin 4) = 1 := Fin.ext hj
    have er (q : Fin 128) : (⟨r.val / 128 * 128 + q.val, by omega⟩ : Fin 512) = ⟨256 + q.val, by omega⟩ := Fin.ext (by show r.val / 128 * 128 + q.val = 256 + q.val; omega)
    rw [carried_2_1 _ _ _ _ _ _ _ r j hr hj]
    simp only [hw1, hd, eh, er]
  · have eh : (⟨j.val / 128, by omega⟩ : Fin 4) = 2 := Fin.ext hj
    have er (q : Fin 128) : (⟨r.val / 128 * 128 + q.val, by omega⟩ : Fin 512) = ⟨256 + q.val, by omega⟩ := Fin.ext (by show r.val / 128 * 128 + q.val = 256 + q.val; omega)
    rw [carried_2_2 _ _ _ _ _ _ _ r j hr hj]
    simp only [hw2, hd, eh, er]
  · have eh : (⟨j.val / 128, by omega⟩ : Fin 4) = 3 := Fin.ext hj
    have er (q : Fin 128) : (⟨r.val / 128 * 128 + q.val, by omega⟩ : Fin 512) = ⟨256 + q.val, by omega⟩ := Fin.ext (by show r.val / 128 * 128 + q.val = 256 + q.val; omega)
    rw [carried_2_3 _ _ _ _ _ _ _ r j hr hj]
    simp only [hw3, hd, eh, er]
  · have eh : (⟨j.val / 128, by omega⟩ : Fin 4) = 0 := Fin.ext hj
    have er (q : Fin 128) : (⟨r.val / 128 * 128 + q.val, by omega⟩ : Fin 512) = ⟨384 + q.val, by omega⟩ := Fin.ext (by show r.val / 128 * 128 + q.val = 384 + q.val; omega)
    rw [carried_3_0 _ _ _ _ _ _ _ r j hr hj]
    simp only [hw0, hd, eh, er]
  · have eh : (⟨j.val / 128, by omega⟩ : Fin 4) = 1 := Fin.ext hj
    have er (q : Fin 128) : (⟨r.val / 128 * 128 + q.val, by omega⟩ : Fin 512) = ⟨384 + q.val, by omega⟩ := Fin.ext (by show r.val / 128 * 128 + q.val = 384 + q.val; omega)
    rw [carried_3_1 _ _ _ _ _ _ _ r j hr hj]
    simp only [hw1, hd, eh, er]
  · have eh : (⟨j.val / 128, by omega⟩ : Fin 4) = 2 := Fin.ext hj
    have er (q : Fin 128) : (⟨r.val / 128 * 128 + q.val, by omega⟩ : Fin 512) = ⟨384 + q.val, by omega⟩ := Fin.ext (by show r.val / 128 * 128 + q.val = 384 + q.val; omega)
    rw [carried_3_2 _ _ _ _ _ _ _ r j hr hj]
    simp only [hw2, hd, eh, er]
  · have eh : (⟨j.val / 128, by omega⟩ : Fin 4) = 3 := Fin.ext hj
    have er (q : Fin 128) : (⟨r.val / 128 * 128 + q.val, by omega⟩ : Fin 512) = ⟨384 + q.val, by omega⟩ := Fin.ext (by show r.val / 128 * 128 + q.val = 384 + q.val; omega)
    rw [carried_3_3 _ _ _ _ _ _ _ r j hr hj]
    simp only [hw3, hd, eh, er]

/-- The weights of a head, kept below the diagonal. -/
theorem weights_at (x3 : Vec Ideal S4x128x128 .f32) (p q : Fin 128) :
    k0_pay33 (F := Ideal) (k0_pay10 (View.ld x3 (Rect.unit ![0, 0, 0] ![1, 128, 128] inb_S4x128x128_S1x128x128_0_0_0))) (ix2 p q) = keep p q (x3 (ix3 0 p q)) ∧ k0_pay35 (F := Ideal) (k0_pay11 (View.ld x3 (Rect.unit ![1, 0, 0] ![1, 128, 128] inb_S4x128x128_S1x128x128_1_0_0))) (ix2 p q) = keep p q (x3 (ix3 1 p q)) ∧ k0_pay37 (F := Ideal) (k0_pay12 (View.ld x3 (Rect.unit ![2, 0, 0] ![1, 128, 128] inb_S4x128x128_S1x128x128_2_0_0))) (iota .tc S128x128 32 [0] iota_S128x128_d0_w32) (iota .tc S128x128 32 [1] iota_S128x128_d1_w32) (ix2 p q) = keep p q (x3 (ix3 2 p q)) ∧ k0_pay39 (F := Ideal) (k0_pay13 (View.ld x3 (Rect.unit ![3, 0, 0] ![1, 128, 128] inb_S4x128x128_S1x128x128_3_0_0))) (iota .tc S128x128 32 [0] iota_S128x128_d0_w32) (iota .tc S128x128 32 [1] iota_S128x128_d1_w32) (ix2 p q) = keep p q (x3 (ix3 3 p q)) := by
  refine ⟨?_, ?_, ?_, ?_⟩
  · pointwise [k0_pay33, k0_pay32, k0_pay10]
    exact select_keep _ _ _
  · pointwise [k0_pay35, k0_pay34, k0_pay11]
    exact select_keep _ _ _
  · pointwise [k0_pay37, k0_pay36, k0_pay12]
    exact select_keep _ _ _
  · pointwise [k0_pay39, k0_pay38, k0_pay13]
    exact select_keep _ _ _

/-- The bias of a head, moved from a row to a column. -/
theorem biases_at (x4 : Vec Ideal S4x1x128 .f32) (p : Fin 128) :
    k0_pay40 (F := Ideal) (k0_pay14 (View.ld x4 (Rect.unit ![0, 0, 0] ![1, 1, 128] inb_S4x1x128_S1x1x128_0_0_0))) k0_pay31 (ix2 p 0) = x4 (ix3 0 0 p) ∧ k0_pay41 (F := Ideal) (k0_pay15 (View.ld x4 (Rect.unit ![1, 0, 0] ![1, 1, 128] inb_S4x1x128_S1x1x128_1_0_0))) k0_pay31 (ix2 p 0) = x4 (ix3 1 0 p) ∧ k0_pay42 (F := Ideal) (k0_pay16 (View.ld x4 (Rect.unit ![2, 0, 0] ![1, 1, 128] inb_S4x1x128_S1x1x128_2_0_0))) k0_pay31 (ix2 p 0) = x4 (ix3 2 0 p) ∧ k0_pay43 (F := Ideal) (k0_pay17 (View.ld x4 (Rect.unit ![3, 0, 0] ![1, 1, 128] inb_S4x1x128_S1x1x128_3_0_0))) k0_pay31 (ix2 p 0) = x4 (ix3 3 0 p) := by
  refine ⟨?_, ?_, ?_, ?_⟩
  · pointwise [k0_pay40, k0_pay14]
    simp only [diagonal]
    exact pick_sum _ _
  · pointwise [k0_pay41, k0_pay15]
    simp only [diagonal]
    exact pick_sum _ _
  · pointwise [k0_pay42, k0_pay16]
    simp only [diagonal]
    exact pick_sum _ _
  · pointwise [k0_pay43, k0_pay17]
    simp only [diagonal]
    exact pick_sum _ _

/-- A place before a written slab is what the earlier writes left. -/
theorem canon_skip {s : Shape} {e : EltTy} (off size : Fin s.rank → Nat) (inb) (w) (L : List (View.Piece (Elt Ideal) s e)) (i : s.Idx) (a : Fin s.rank) (h : (i a).val < off a) :
    View.canon (⟨Rect.unit off size inb, w⟩ :: L) i = View.canon L i :=
  View.canon_cons_of_not_mem _ _ (fun hm => absurd ((Rect.mem_set_unit (inb := inb)).mp hm a).1 (Nat.not_le.mpr h))

/-- A place in the last written slab is what was written there. -/
theorem canon_hit {s : Shape} {e : EltTy} (r : Rect s) (w) (L : List (View.Piece (Elt Ideal) s e)) (i : s.Idx) (x) (h : r.emb x = i) :
    View.canon (⟨r, w⟩ :: L) i = w x := by rw [← h, View.canon_cons_emb]

theorem slab8_0 (f0 f1 f2 f3 : Vec Ideal S1x128x128 .f32) (L : List (View.Piece (Elt Ideal) S4x128x128 .f32)) (p q : Fin 128) :
    View.canon (⟨Rect.unit ![3, 0, 0] ![1, 128, 128] inb_S4x128x128_S1x128x128_3_0_0, f3⟩ :: ⟨Rect.unit ![2, 0, 0] ![1, 128, 128] inb_S4x128x128_S1x128x128_2_0_0, f2⟩ :: ⟨Rect.unit ![1, 0, 0] ![1, 128, 128] inb_S4x128x128_S1x128x128_1_0_0, f1⟩ :: ⟨Rect.unit ![0, 0, 0] ![1, 128, 128] inb_S4x128x128_S1x128x128_0_0_0, f0⟩ :: L) (ix3 0 p q) = f0 (ix3 0 p q) := by
  refine (canon_skip _ _ _ _ _ _ (0 : Fin 3) (by show 0 < 3; omega)).trans ?_
  refine (canon_skip _ _ _ _ _ _ (0 : Fin 3) (by show 0 < 2; omega)).trans ?_
  refine (canon_skip _ _ _ _ _ _ (0 : Fin 3) (by show 0 < 1; omega)).trans ?_
  exact canon_hit _ _ _ _ _ (by funext a; refine Fin.ext ?_; fin_cases a <;> simp [Rect.emb, Rect.unit])

theorem slab8_1 (f0 f1 f2 f3 : Vec Ideal S1x128x128 .f32) (L : List (View.Piece (Elt Ideal) S4x128x128 .f32)) (p q : Fin 128) :
    View.canon (⟨Rect.unit ![3, 0, 0] ![1, 128, 128] inb_S4x128x128_S1x128x128_3_0_0, f3⟩ :: ⟨Rect.unit ![2, 0, 0] ![1, 128, 128] inb_S4x128x128_S1x128x128_2_0_0, f2⟩ :: ⟨Rect.unit ![1, 0, 0] ![1, 128, 128] inb_S4x128x128_S1x128x128_1_0_0, f1⟩ :: ⟨Rect.unit ![0, 0, 0] ![1, 128, 128] inb_S4x128x128_S1x128x128_0_0_0, f0⟩ :: L) (ix3 1 p q) = f1 (ix3 0 p q) := by
  refine (canon_skip _ _ _ _ _ _ (0 : Fin 3) (by show 1 < 3; omega)).trans ?_
  refine (canon_skip _ _ _ _ _ _ (0 : Fin 3) (by show 1 < 2; omega)).trans ?_
  exact canon_hit _ _ _ _ _ (by funext a; refine Fin.ext ?_; fin_cases a <;> simp [Rect.emb, Rect.unit])

theorem slab8_2 (f0 f1 f2 f3 : Vec Ideal S1x128x128 .f32) (L : List (View.Piece (Elt Ideal) S4x128x128 .f32)) (p q : Fin 128) :
    View.canon (⟨Rect.unit ![3, 0, 0] ![1, 128, 128] inb_S4x128x128_S1x128x128_3_0_0, f3⟩ :: ⟨Rect.unit ![2, 0, 0] ![1, 128, 128] inb_S4x128x128_S1x128x128_2_0_0, f2⟩ :: ⟨Rect.unit ![1, 0, 0] ![1, 128, 128] inb_S4x128x128_S1x128x128_1_0_0, f1⟩ :: ⟨Rect.unit ![0, 0, 0] ![1, 128, 128] inb_S4x128x128_S1x128x128_0_0_0, f0⟩ :: L) (ix3 2 p q) = f2 (ix3 0 p q) := by
  refine (canon_skip _ _ _ _ _ _ (0 : Fin 3) (by show 2 < 3; omega)).trans ?_
  exact canon_hit _ _ _ _ _ (by funext a; refine Fin.ext ?_; fin_cases a <;> simp [Rect.emb, Rect.unit])

theorem slab8_3 (f0 f1 f2 f3 : Vec Ideal S1x128x128 .f32) (L : List (View.Piece (Elt Ideal) S4x128x128 .f32)) (p q : Fin 128) :
    View.canon (⟨Rect.unit ![3, 0, 0] ![1, 128, 128] inb_S4x128x128_S1x128x128_3_0_0, f3⟩ :: ⟨Rect.unit ![2, 0, 0] ![1, 128, 128] inb_S4x128x128_S1x128x128_2_0_0, f2⟩ :: ⟨Rect.unit ![1, 0, 0] ![1, 128, 128] inb_S4x128x128_S1x128x128_1_0_0, f1⟩ :: ⟨Rect.unit ![0, 0, 0] ![1, 128, 128] inb_S4x128x128_S1x128x128_0_0_0, f0⟩ :: L) (ix3 3 p q) = f3 (ix3 0 p q) := by
  exact canon_hit _ _ _ _ _ (by funext a; refine Fin.ext ?_; fin_cases a <;> simp [Rect.emb, Rect.unit])

/-- Four slabs written one after the other are the array they make up. -/
theorem slabs8 (f0 f1 f2 f3 : Vec Ideal S1x128x128 .f32) (L : List (View.Piece (Elt Ideal) S4x128x128 .f32)) (S : Fin 4 → Fin 128 → Fin 128 → EReal)
    (h0 : ∀ p q, f0 (ix3 0 p q) = S 0 p q) (h1 : ∀ p q, f1 (ix3 0 p q) = S 1 p q) (h2 : ∀ p q, f2 (ix3 0 p q) = S 2 p q) (h3 : ∀ p q, f3 (ix3 0 p q) = S 3 p q) (g : Fin 4) (p q : Fin 128) :
    View.canon (⟨Rect.unit ![3, 0, 0] ![1, 128, 128] inb_S4x128x128_S1x128x128_3_0_0, f3⟩ :: ⟨Rect.unit ![2, 0, 0] ![1, 128, 128] inb_S4x128x128_S1x128x128_2_0_0, f2⟩ :: ⟨Rect.unit ![1, 0, 0] ![1, 128, 128] inb_S4x128x128_S1x128x128_1_0_0, f1⟩ :: ⟨Rect.unit ![0, 0, 0] ![1, 128, 128] inb_S4x128x128_S1x128x128_0_0_0, f0⟩ :: L) (ix3 g p q) = S g p q := by
  match g with
  | 0 => exact (slab8_0 f0 f1 f2 f3 L p q).trans (h0 p q)
  | 1 => exact (slab8_1 f0 f1 f2 f3 L p q).trans (h1 p q)
  | 2 => exact (slab8_2 f0 f1 f2 f3 L p q).trans (h2 p q)
  | 3 => exact (slab8_3 f0 f1 f2 f3 L p q).trans (h3 p q)

theorem slab9_0 (f0 f1 f2 f3 : Vec Ideal S1x1x128 .f32) (L : List (View.Piece (Elt Ideal) S4x1x128 .f32)) (p : Fin 128) :
    View.canon (⟨Rect.unit ![3, 0, 0] ![1, 1, 128] inb_S4x1x128_S1x1x128_3_0_0, f3⟩ :: ⟨Rect.unit ![2, 0, 0] ![1, 1, 128] inb_S4x1x128_S1x1x128_2_0_0, f2⟩ :: ⟨Rect.unit ![1, 0, 0] ![1, 1, 128] inb_S4x1x128_S1x1x128_1_0_0, f1⟩ :: ⟨Rect.unit ![0, 0, 0] ![1, 1, 128] inb_S4x1x128_S1x1x128_0_0_0, f0⟩ :: L) (ix3 0 0 p) = f0 (ix3 0 0 p) := by
  refine (canon_skip _ _ _ _ _ _ (0 : Fin 3) (by show 0 < 3; omega)).trans ?_
  refine (canon_skip _ _ _ _ _ _ (0 : Fin 3) (by show 0 < 2; omega)).trans ?_
  refine (canon_skip _ _ _ _ _ _ (0 : Fin 3) (by show 0 < 1; omega)).trans ?_
  exact canon_hit _ _ _ _ _ (by funext a; refine Fin.ext ?_; fin_cases a <;> simp [Rect.emb, Rect.unit])

theorem slab9_1 (f0 f1 f2 f3 : Vec Ideal S1x1x128 .f32) (L : List (View.Piece (Elt Ideal) S4x1x128 .f32)) (p : Fin 128) :
    View.canon (⟨Rect.unit ![3, 0, 0] ![1, 1, 128] inb_S4x1x128_S1x1x128_3_0_0, f3⟩ :: ⟨Rect.unit ![2, 0, 0] ![1, 1, 128] inb_S4x1x128_S1x1x128_2_0_0, f2⟩ :: ⟨Rect.unit ![1, 0, 0] ![1, 1, 128] inb_S4x1x128_S1x1x128_1_0_0, f1⟩ :: ⟨Rect.unit ![0, 0, 0] ![1, 1, 128] inb_S4x1x128_S1x1x128_0_0_0, f0⟩ :: L) (ix3 1 0 p) = f1 (ix3 0 0 p) := by
  refine (canon_skip _ _ _ _ _ _ (0 : Fin 3) (by show 1 < 3; omega)).trans ?_
  refine (canon_skip _ _ _ _ _ _ (0 : Fin 3) (by show 1 < 2; omega)).trans ?_
  exact canon_hit _ _ _ _ _ (by funext a; refine Fin.ext ?_; fin_cases a <;> simp [Rect.emb, Rect.unit])

theorem slab9_2 (f0 f1 f2 f3 : Vec Ideal S1x1x128 .f32) (L : List (View.Piece (Elt Ideal) S4x1x128 .f32)) (p : Fin 128) :
    View.canon (⟨Rect.unit ![3, 0, 0] ![1, 1, 128] inb_S4x1x128_S1x1x128_3_0_0, f3⟩ :: ⟨Rect.unit ![2, 0, 0] ![1, 1, 128] inb_S4x1x128_S1x1x128_2_0_0, f2⟩ :: ⟨Rect.unit ![1, 0, 0] ![1, 1, 128] inb_S4x1x128_S1x1x128_1_0_0, f1⟩ :: ⟨Rect.unit ![0, 0, 0] ![1, 1, 128] inb_S4x1x128_S1x1x128_0_0_0, f0⟩ :: L) (ix3 2 0 p) = f2 (ix3 0 0 p) := by
  refine (canon_skip _ _ _ _ _ _ (0 : Fin 3) (by show 2 < 3; omega)).trans ?_
  exact canon_hit _ _ _ _ _ (by funext a; refine Fin.ext ?_; fin_cases a <;> simp [Rect.emb, Rect.unit])

theorem slab9_3 (f0 f1 f2 f3 : Vec Ideal S1x1x128 .f32) (L : List (View.Piece (Elt Ideal) S4x1x128 .f32)) (p : Fin 128) :
    View.canon (⟨Rect.unit ![3, 0, 0] ![1, 1, 128] inb_S4x1x128_S1x1x128_3_0_0, f3⟩ :: ⟨Rect.unit ![2, 0, 0] ![1, 1, 128] inb_S4x1x128_S1x1x128_2_0_0, f2⟩ :: ⟨Rect.unit ![1, 0, 0] ![1, 1, 128] inb_S4x1x128_S1x1x128_1_0_0, f1⟩ :: ⟨Rect.unit ![0, 0, 0] ![1, 1, 128] inb_S4x1x128_S1x1x128_0_0_0, f0⟩ :: L) (ix3 3 0 p) = f3 (ix3 0 0 p) := by
  exact canon_hit _ _ _ _ _ (by funext a; refine Fin.ext ?_; fin_cases a <;> simp [Rect.emb, Rect.unit])

/-- Four slabs written one after the other are the array they make up. -/
theorem slabs9 (f0 f1 f2 f3 : Vec Ideal S1x1x128 .f32) (L : List (View.Piece (Elt Ideal) S4x1x128 .f32)) (S : Fin 4 → Fin 128 → EReal)
    (h0 : ∀ p, f0 (ix3 0 0 p) = S 0 p) (h1 : ∀ p, f1 (ix3 0 0 p) = S 1 p) (h2 : ∀ p, f2 (ix3 0 0 p) = S 2 p) (h3 : ∀ p, f3 (ix3 0 0 p) = S 3 p) (g : Fin 4) (p : Fin 128) :
    View.canon (⟨Rect.unit ![3, 0, 0] ![1, 1, 128] inb_S4x1x128_S1x1x128_3_0_0, f3⟩ :: ⟨Rect.unit ![2, 0, 0] ![1, 1, 128] inb_S4x1x128_S1x1x128_2_0_0, f2⟩ :: ⟨Rect.unit ![1, 0, 0] ![1, 1, 128] inb_S4x1x128_S1x1x128_1_0_0, f1⟩ :: ⟨Rect.unit ![0, 0, 0] ![1, 1, 128] inb_S4x1x128_S1x1x128_0_0_0, f0⟩ :: L) (ix3 g 0 p) = S g p := by
  match g with
  | 0 => exact (slab9_0 f0 f1 f2 f3 L p).trans (h0 p)
  | 1 => exact (slab9_1 f0 f1 f2 f3 L p).trans (h1 p)
  | 2 => exact (slab9_2 f0 f1 f2 f3 L p).trans (h2 p)
  | 3 => exact (slab9_3 f0 f1 f2 f3 L p).trans (h3 p)

end Cert.Kernel14Ideal.GatingBwd

end
-- ==== Proof.GatingBwdRef.lean ====
module

public import proofs.«01_k».proof.Proof.Gen.Reference14Ideal.Read
public import proofs.«01_k».proof.Proof.GatingBack
public import Idealize.ShloMosaic.Lib.Pipeline.ValueKit
public import Idealize.ShloMosaic.Lib.Pointwise

/-! The spatial gating branch’s gradient: the reference, entry by entry. -/

@[expose] public section

set_option maxRecDepth 16384

noncomputable section

open Idealize.ShloMosaic Idealize.ShloMosaic.TcCoe Idealize.SL.Sem
open Idealize.ShloMosaic.Pipeline (Dat)

namespace Cert.Reference14Ideal.GatingBwd

open Cert.Reference14Ideal
open Cert.Gating

/-- The places of an array of four axes that fall on one place when the first and the last axis are summed. -/
theorem dropped {a b c d : ℕ} (h : (⟨4, ![a, b, c, d]⟩ : Shape).ReducesTo [0, 3] ⟨2, ![b, c]⟩) (p : Fin b) (q : Fin c) (i : (⟨4, ![a, b, c, d]⟩ : Shape).Idx) :
    h.drop i = ix2 p q ↔ ∃ k : Fin a × Fin d, ix4 k.1 p q k.2 = i := by
  constructor
  · intro e
    refine ⟨(i 0, i 3), ?_⟩
    funext x; apply Fin.ext
    match x with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext x
    apply Fin.ext
    match x with
    | ⟨0, _⟩ => rfl
    | ⟨1, _⟩ => rfl

/-- The sum of an array of four axes over its first and its last one. -/
theorem sum_outer {a b c d : ℕ} (h : (⟨4, ![a, b, c, d]⟩ : Shape).ReducesTo [0, 3] ⟨2, ![b, c]⟩) (v : (⟨4, ![a, b, c, d]⟩ : Shape).Idx → EReal) (z : EReal) (p : Fin b) (q : Fin c) :
    Ideal.hostReduceAdd h v z (ix2 p q) = z + ∑ k : Fin a, ∑ i : Fin d, v (ix4 k p q i) := by
  refine congrArg (z + ·) ((Finset.sum_filter_eq_sum_of_fiber _ (fun k : Fin a × Fin d => ix4 k.1 p q k.2) (fun _ _ e => Prod.ext (congrFun e 0) (congrFun e 3)) (dropped h p q) v).trans ?_)
  simp only [Fintype.sum_prod_type]

/-- A row of the packed columns, where the units are. -/
def uv (x0 : FVec Ideal S2048x10240 .bf16) (r : Fin 2048) (j : Fin 1024) : EReal := x0 (ix2 r ⟨6144 + j.val, by omega⟩)

/-- A row of the packed columns, where the gate is. -/
def zs (x0 : FVec Ideal S2048x10240 .bf16) (r : Fin 2048) (j : Fin 512) : EReal := x0 (ix2 r ⟨7168 + j.val, by omega⟩)

/-- A row of the incoming gradient, where this branch's columns are. -/
def es (x4 : FVec Ideal S2048x2048 .f32) (r : Fin 2048) (j : Fin 512) : EReal := x4 (ix2 r ⟨512 + j.val, by omega⟩)

/-- The rows of one group of 128. -/
def group {α : Type} (f : Fin 2048 → α) (k : Fin 16) (q : Fin 128) : α := f ⟨k.val * 128 + q.val, by omega⟩

theorem ref_uv (x0 : FVec Ideal S2048x10240 .bf16) (r : Fin 2048) (j : Fin 1024) : Cert.Reference14Ideal.Read.val_main_v1 (F := Ideal) x0 (ix2 r j) = uv x0 r j := by
  pointwise [Cert.Reference14Ideal.Read.val_main_v0, Cert.Reference14Ideal.Read.val_main_v1]
  rfl

theorem ref_bend (x0 : FVec Ideal S2048x10240 .bf16) (r : Fin 2048) (j : Fin 1024) : Cert.Reference14Ideal.Read.val_main_v14 (F := Ideal) x0 (ix2 r j) = bend (uv x0 r j) := by
  pointwise [Cert.Reference14Ideal.Read.val_main_v4, Cert.Reference14Ideal.Read.val_main_v5, Cert.Reference14Ideal.Read.val_main_cst_0, Cert.Reference14Ideal.Read.val_main_v9, Cert.Reference14Ideal.Read.val_main_v10, Cert.Reference14Ideal.Read.val_main_v11, Cert.Reference14Ideal.Read.val_main_cst_1, Cert.Reference14Ideal.Read.val_main_v12, Cert.Reference14Ideal.Read.val_main_v13, Cert.Reference14Ideal.Read.val_main_v14]
  simp only [ref_uv]
  rfl

theorem ref_half (x0 : FVec Ideal S2048x10240 .bf16) (r : Fin 2048) (j : Fin 1024) : Cert.Reference14Ideal.Read.val_main_v23 (F := Ideal) x0 (ix2 r j) = Ideal.ofBits .f32 0x3F000000#32 * (1 + bend (uv x0 r j)) := by
  pointwise [Cert.Reference14Ideal.Read.val_main_cst_4, Cert.Reference14Ideal.Read.val_main_v20, Cert.Reference14Ideal.Read.val_main_v21, Cert.Reference14Ideal.Read.val_main_cst_5, Cert.Reference14Ideal.Read.val_main_v22, Cert.Reference14Ideal.Read.val_main_v23]
  simp only [ref_bend]

theorem ref_cross (x0 : FVec Ideal S2048x10240 .bf16) (r : Fin 2048) (j : Fin 1024) : Cert.Reference14Ideal.Read.val_main_v19 (F := Ideal) x0 (ix2 r j) = (1 + bend (uv x0 r j)) * (1 - bend (uv x0 r j)) := by
  pointwise [Cert.Reference14Ideal.Read.val_main_cst_2, Cert.Reference14Ideal.Read.val_main_v15, Cert.Reference14Ideal.Read.val_main_v16, Cert.Reference14Ideal.Read.val_main_cst_3, Cert.Reference14Ideal.Read.val_main_v17, Cert.Reference14Ideal.Read.val_main_v18, Cert.Reference14Ideal.Read.val_main_v19]
  simp only [ref_bend]

theorem ref_square (x0 : FVec Ideal S2048x10240 .bf16) (r : Fin 2048) (j : Fin 1024) : Cert.Reference14Ideal.Read.val_main_v8 (F := Ideal) x0 (ix2 r j) = Ideal.ofBits .f32 0x40400000#32 * (uv x0 r j * uv x0 r j) := by
  pointwise [Cert.Reference14Ideal.Read.val_main_v6, Cert.Reference14Ideal.Read.val_main_cst, Cert.Reference14Ideal.Read.val_main_v7, Cert.Reference14Ideal.Read.val_main_v8]
  simp only [ref_uv]

theorem ref_unit (x0 : FVec Ideal S2048x10240 .bf16) (r : Fin 2048) (j : Fin 1024) : Cert.Reference14Ideal.Read.val_main_v24 (F := Ideal) x0 (ix2 r j) = gelu (uv x0 r j) := by
  pointwise [Cert.Reference14Ideal.Read.val_main_v24]
  rw [ref_uv, ref_half]; rfl

theorem ref_left (x0 : FVec Ideal S2048x10240 .bf16) (r : Fin 2048) (j : Fin 512) : Cert.Reference14Ideal.Read.val_main_v25 (F := Ideal) x0 (ix2 r j) = left (uv x0 r) j := by
  pointwise [Cert.Reference14Ideal.Read.val_main_v25]
  rw [ref_unit]; rfl

theorem ref_right (x0 : FVec Ideal S2048x10240 .bf16) (r : Fin 2048) (j : Fin 512) : Cert.Reference14Ideal.Read.val_main_v26 (F := Ideal) x0 (ix2 r j) = right (uv x0 r) j := by
  pointwise [Cert.Reference14Ideal.Read.val_main_v26]
  rw [ref_unit]; rfl

theorem ref_meansq (x0 : FVec Ideal S2048x10240 .bf16) (r : Fin 2048) : Cert.Reference14Ideal.Read.val_main_v33 (F := Ideal) x0 (ix2 r 0) = meansq (right (uv x0 r)) := by
  pointwise [Cert.Reference14Ideal.Read.val_main_v27, Cert.Reference14Ideal.Read.val_main_cst_6, Cert.Reference14Ideal.Read.val_main_v28, Cert.Reference14Ideal.Read.val_main_v29, Cert.Reference14Ideal.Read.val_main_cst_7, Cert.Reference14Ideal.Read.val_main_v30, Cert.Reference14Ideal.Read.val_main_v31, Cert.Reference14Ideal.Read.val_main_cst_8, Cert.Reference14Ideal.Read.val_main_v32, Cert.Reference14Ideal.Read.val_main_v33]
  simp only [ref_right]
  rfl

theorem ref_gain (x0 : FVec Ideal S2048x10240 .bf16) (r : Fin 2048) : Cert.Reference14Ideal.Read.val_main_v34 (F := Ideal) x0 (ix2 r 0) = gain (right (uv x0 r)) := by
  pointwise [Cert.Reference14Ideal.Read.val_main_v34]
  rw [ref_meansq]; rfl

theorem ref_slope (x0 : FVec Ideal S2048x10240 .bf16) (r : Fin 2048) : Cert.Reference14Ideal.Read.val_main_v37 (F := Ideal) x0 (ix2 r 0) = slope (right (uv x0 r)) := by
  pointwise [Cert.Reference14Ideal.Read.val_main_v35, Cert.Reference14Ideal.Read.val_main_cst_9, Cert.Reference14Ideal.Read.val_main_v36, Cert.Reference14Ideal.Read.val_main_v37]
  rw [ref_meansq, ref_gain]; rfl

theorem ref_scaled (x0 : FVec Ideal S2048x10240 .bf16) (r : Fin 2048) (j : Fin 512) : Cert.Reference14Ideal.Read.val_main_v39 (F := Ideal) x0 (ix2 r j) = right (uv x0 r) j * gain (right (uv x0 r)) := by
  pointwise [Cert.Reference14Ideal.Read.val_main_v38, Cert.Reference14Ideal.Read.val_main_v39]
  rw [ref_right, ref_gain]

theorem ref_normed (x0 : FVec Ideal S2048x10240 .bf16) (x1 : FVec Ideal S512 .f32) (r : Fin 2048) (j : Fin 512) : Cert.Reference14Ideal.Read.val_main_v42 (F := Ideal) x0 x1 (ix2 r j) = normed (uv x0 r) (fun i => x1 (ix1 i)) j := by
  pointwise [Cert.Reference14Ideal.Read.val_main_v40, Cert.Reference14Ideal.Read.val_main_v41, Cert.Reference14Ideal.Read.val_main_v42]
  rw [ref_scaled]; rfl

theorem ref_weights (x2 : FVec Ideal S4x128x128 .f32) (h : Fin 4) (p q : Fin 128) : Cert.Reference14Ideal.Read.val_main_v46_0 (F := Ideal) x2 (ix3 h p q) = keep p q (x2 (ix3 h p q)) := by
  pointwise [Cert.Reference14Ideal.Read.val_main_c, Cert.Reference14Ideal.Read.val_main_v44, Cert.Reference14Ideal.Read.val_main_call0_v0, Cert.Reference14Ideal.Read.val_main_call0_c, Cert.Reference14Ideal.Read.val_main_call0_v1, Cert.Reference14Ideal.Read.val_main_call0_v2, Cert.Reference14Ideal.Read.val_main_call0_v3, Cert.Reference14Ideal.Read.val_main_call0_v4, Cert.Reference14Ideal.Read.val_main_call0_c_0, Cert.Reference14Ideal.Read.val_main_call0_v5, Cert.Reference14Ideal.Read.val_main_v45, Cert.Reference14Ideal.Read.val_main_cst_10, Cert.Reference14Ideal.Read.val_main_call1_v0, Cert.Reference14Ideal.Read.val_main_v46_1, Cert.Reference14Ideal.Read.val_main_call1_v2, Cert.Reference14Ideal.Read.val_main_v46_0]
  exact select_mask _ _ _ _ (by dsimp only [id]; pointwise)

theorem ref_mixture (x0 : FVec Ideal S2048x10240 .bf16) (x1 : FVec Ideal S512 .f32) (x2 : FVec Ideal S4x128x128 .f32) (x3 : FVec Ideal S4x128 .f32) (r : Fin 2048) (j : Fin 512) : Cert.Reference14Ideal.Read.val_main_v53 (F := Ideal) x0 x1 x2 x3 (ix2 r j)
    = mixture (group (uv x0) ⟨r.val / 128, by omega⟩) (fun i => x1 (ix1 i)) (fun h p q => x2 (ix3 h p q)) (fun h p => x3 (ix2 h p)) ⟨r.val % 128, by omega⟩ j := by
  pointwise [Cert.Reference14Ideal.Read.val_main_v43, Cert.Reference14Ideal.Read.val_main_v47, Cert.Reference14Ideal.Read.val_main_v48, Cert.Reference14Ideal.Read.val_main_v49, Cert.Reference14Ideal.Read.val_main_v50, Cert.Reference14Ideal.Read.val_main_v51, Cert.Reference14Ideal.Read.val_main_v52, Cert.Reference14Ideal.Read.val_main_v53]
  simp only [ref_weights, ref_normed]
  refine congrArg (· + _) (@Finset.sum_congr _ EReal _ _ _ _ _ rfl fun q _ => ?_)
  refine (@mul_comm EReal _ _ _).trans (congrArg _ (congrArg _ (Fin.ext ?_)))
  rfl

theorem ref_z (x0 : FVec Ideal S2048x10240 .bf16) (r : Fin 2048) (j : Fin 512) : Cert.Reference14Ideal.Read.val_main_v3 (F := Ideal) x0 (ix2 r j) = zs x0 r j := by
  pointwise [Cert.Reference14Ideal.Read.val_main_v2, Cert.Reference14Ideal.Read.val_main_v3]
  rfl

theorem ref_logistic (x0 : FVec Ideal S2048x10240 .bf16) (r : Fin 2048) (j : Fin 512) : Cert.Reference14Ideal.Read.val_main_v55_2 (F := Ideal) x0 (ix2 r j) = Ideal.logistic (zs x0 r j) := by
  pointwise [Cert.Reference14Ideal.Read.val_main_call2_v0, Cert.Reference14Ideal.Read.val_main_call2_v1, Cert.Reference14Ideal.Read.val_main_call2_cst, Cert.Reference14Ideal.Read.val_main_call2_v2, Cert.Reference14Ideal.Read.val_main_call2_v3, Cert.Reference14Ideal.Read.val_main_call2_cst_0, Cert.Reference14Ideal.Read.val_main_call2_v4, Cert.Reference14Ideal.Read.val_main_v55_2]
  rw [ref_z]; rfl

theorem ref_gate (x0 : FVec Ideal S2048x10240 .bf16) (r : Fin 2048) (j : Fin 512) : Cert.Reference14Ideal.Read.val_main_v55_0 (F := Ideal) x0 (ix2 r j) = gate (zs x0 r j) := by
  pointwise [Cert.Reference14Ideal.Read.val_main_v55_0]
  rw [ref_z, ref_logistic]; rfl

theorem ref_es (x4 : FVec Ideal S2048x2048 .f32) (r : Fin 2048) (j : Fin 512) : Cert.Reference14Ideal.Read.val_main_v57 (F := Ideal) x4 (ix2 r j) = es x4 r j := by
  pointwise [Cert.Reference14Ideal.Read.val_main_v57]
  rfl

theorem ref_fed (x0 : FVec Ideal S2048x10240 .bf16) (x4 : FVec Ideal S2048x2048 .f32) (r : Fin 2048) (j : Fin 512) : Cert.Reference14Ideal.Read.val_main_v61 (F := Ideal) x0 x4 (ix2 r j) = fed (uv x0 r) (zs x0 r) (es x4 r) j := by
  pointwise [Cert.Reference14Ideal.Read.val_main_v59, Cert.Reference14Ideal.Read.val_main_v61]
  rw [ref_left, ref_gate, ref_es]; rfl

theorem ref_gates (x0 : FVec Ideal S2048x10240 .bf16) (x1 : FVec Ideal S512 .f32) (x2 : FVec Ideal S4x128x128 .f32) (x3 : FVec Ideal S4x128 .f32) (x4 : FVec Ideal S2048x2048 .f32) (r : Fin 2048) (j : Fin 512) : Cert.Reference14Ideal.Read.val_main_v60 (F := Ideal) x0 x1 x2 x3 x4 (ix2 r j)
    = ungate (zs x0 r j) (left (uv x0 r) j * mixture (group (uv x0) ⟨r.val / 128, by omega⟩) (fun i => x1 (ix1 i)) (fun h p q => x2 (ix3 h p q)) (fun h p => x3 (ix2 h p)) ⟨r.val % 128, by omega⟩ j * es x4 r j) := by
  pointwise [Cert.Reference14Ideal.Read.val_main_v54, Cert.Reference14Ideal.Read.val_main_call2_cst_1, Cert.Reference14Ideal.Read.val_main_call2_v6, Cert.Reference14Ideal.Read.val_main_call2_v7, Cert.Reference14Ideal.Read.val_main_v55_1, Cert.Reference14Ideal.Read.val_main_v58, Cert.Reference14Ideal.Read.val_main_call3_v0, Cert.Reference14Ideal.Read.val_main_call3_v1, Cert.Reference14Ideal.Read.val_main_call3_v2, Cert.Reference14Ideal.Read.val_main_v60]
  rw [ref_left, ref_mixture, ref_es, ref_z, ref_logistic]; rfl

theorem ref_carried (x0 : FVec Ideal S2048x10240 .bf16) (x2 : FVec Ideal S4x128x128 .f32) (x4 : FVec Ideal S2048x2048 .f32) (r : Fin 2048) (j : Fin 512) : Cert.Reference14Ideal.Read.val_main_v73 (F := Ideal) x0 x2 x4 (ix2 r j)
    = carried (group (uv x0) ⟨r.val / 128, by omega⟩) (group (zs x0) ⟨r.val / 128, by omega⟩) (group (es x4) ⟨r.val / 128, by omega⟩) (fun h p q => x2 (ix3 h p q)) ⟨r.val % 128, by omega⟩ j := by
  pointwise [Cert.Reference14Ideal.Read.val_main_v63, Cert.Reference14Ideal.Read.val_main_v68, Cert.Reference14Ideal.Read.val_main_v70, Cert.Reference14Ideal.Read.val_main_v71, Cert.Reference14Ideal.Read.val_main_v73]
  simp only [ref_weights, ref_fed]
  refine @Finset.sum_congr _ EReal _ _ _ _ _ rfl fun q _ => ?_
  exact @mul_comm EReal _ _ _

theorem ref_units (x0 : FVec Ideal S2048x10240 .bf16) (x1 : FVec Ideal S512 .f32) (x2 : FVec Ideal S4x128x128 .f32) (x3 : FVec Ideal S4x128 .f32) (x4 : FVec Ideal S2048x2048 .f32) (r : Fin 2048) (j : Fin 1024) : Cert.Reference14Ideal.Read.val_main_v106 (F := Ideal) x0 x1 x2 x3 x4 (ix2 r j)
    = pull (uv x0 r j) (reach (group (uv x0) ⟨r.val / 128, by omega⟩) (group (zs x0) ⟨r.val / 128, by omega⟩) (group (es x4) ⟨r.val / 128, by omega⟩) (fun i => x1 (ix1 i)) (fun h p q => x2 (ix3 h p q)) (fun h p => x3 (ix2 h p)) ⟨r.val % 128, by omega⟩ j) := by
  have e : (⟨r.val / 128 * 128 + r.val % 128, by omega⟩ : Fin 2048) = r := Fin.ext (by show r.val / 128 * 128 + r.val % 128 = r.val; omega)
  pointwise [Cert.Reference14Ideal.Read.val_main_v95, Cert.Reference14Ideal.Read.val_main_v96, Cert.Reference14Ideal.Read.val_main_cst_18, Cert.Reference14Ideal.Read.val_main_v97, Cert.Reference14Ideal.Read.val_main_v98, Cert.Reference14Ideal.Read.val_main_v99, Cert.Reference14Ideal.Read.val_main_cst_19, Cert.Reference14Ideal.Read.val_main_v100, Cert.Reference14Ideal.Read.val_main_v101, Cert.Reference14Ideal.Read.val_main_v102, Cert.Reference14Ideal.Read.val_main_cst_20, Cert.Reference14Ideal.Read.val_main_v103, Cert.Reference14Ideal.Read.val_main_v104, Cert.Reference14Ideal.Read.val_main_v105, Cert.Reference14Ideal.Read.val_main_v106]
  rw [ref_uv, ref_half, ref_cross, ref_square]
  have h : Cert.Reference14Ideal.Read.val_main_v94 (F := Ideal) x0 x1 x2 x3 x4 (ix2 r j) = reach (group (uv x0) ⟨r.val / 128, by omega⟩) (group (zs x0) ⟨r.val / 128, by omega⟩) (group (es x4) ⟨r.val / 128, by omega⟩) (fun i => x1 (ix1 i)) (fun h p q => x2 (ix3 h p q)) (fun h p => x3 (ix2 h p)) ⟨r.val % 128, by omega⟩ j := by
    unfold reach
    pointwise [Cert.Reference14Ideal.Read.val_main_v59, Cert.Reference14Ideal.Read.val_main_v62, Cert.Reference14Ideal.Read.val_main_v40, Cert.Reference14Ideal.Read.val_main_v77, Cert.Reference14Ideal.Read.val_main_v78, Cert.Reference14Ideal.Read.val_main_v80, Cert.Reference14Ideal.Read.val_main_cst_15, Cert.Reference14Ideal.Read.val_main_v81, Cert.Reference14Ideal.Read.val_main_v82, Cert.Reference14Ideal.Read.val_main_v83, Cert.Reference14Ideal.Read.val_main_v84, Cert.Reference14Ideal.Read.val_main_v85, Cert.Reference14Ideal.Read.val_main_cst_16, Cert.Reference14Ideal.Read.val_main_v86, Cert.Reference14Ideal.Read.val_main_v87, Cert.Reference14Ideal.Read.val_main_cst_17, Cert.Reference14Ideal.Read.val_main_v88, Cert.Reference14Ideal.Read.val_main_v89, Cert.Reference14Ideal.Read.val_main_v90, Cert.Reference14Ideal.Read.val_main_v91, Cert.Reference14Ideal.Read.val_main_v92, Cert.Reference14Ideal.Read.val_main_v93, Cert.Reference14Ideal.Read.val_main_v94]
    simp only [Fin.sum_univ_one, ref_es, ref_gate, ref_mixture, ref_right, ref_gain, ref_slope, ref_carried, group, e]
    rfl
  rw [h]
  rfl

/-- The reference's gradient of the gain. -/
theorem ref_dgain (x0 : FVec Ideal S2048x10240 .bf16) (x2 : FVec Ideal S4x128x128 .f32) (x4 : FVec Ideal S2048x2048 .f32) (j : Fin 512) : Cert.Reference14Ideal.Read.val_main_v107 (F := Ideal) x0 x2 x4 (ix2 0 j)
    = ∑ r : Fin 2048, right (uv x0 r) j * gain (right (uv x0 r)) * carried (group (uv x0) ⟨r.val / 128, by omega⟩) (group (zs x0) ⟨r.val / 128, by omega⟩) (group (es x4) ⟨r.val / 128, by omega⟩) (fun h p q => x2 (ix3 h p q)) ⟨r.val % 128, by omega⟩ j := by
  pointwise [Cert.Reference14Ideal.Read.val_main_v74, Cert.Reference14Ideal.Read.val_main_cst_13, Cert.Reference14Ideal.Read.val_main_v75, Cert.Reference14Ideal.Read.val_main_v76, Cert.Reference14Ideal.Read.val_main_cst_14, Cert.Reference14Ideal.Read.val_main_v79, Cert.Reference14Ideal.Read.val_main_v107]
  simp only [Fin.sum_univ_one, ref_scaled, ref_carried]

/-- The reference's gradient of the weights. -/
theorem ref_dweights (x0 : FVec Ideal S2048x10240 .bf16) (x1 : FVec Ideal S512 .f32) (x4 : FVec Ideal S2048x2048 .f32) (h : Fin 4) (p q : Fin 128) : Cert.Reference14Ideal.Read.val_main_v72 (F := Ideal) x0 x1 x4 (ix3 h p q)
    = keep p q (∑ k : Fin 16, ∑ i : Fin 128, group (fun r => fed (uv x0 r) (zs x0 r) (es x4 r)) k p ⟨h.val * 128 + i.val, by omega⟩ * group (fun r => normed (uv x0 r) (fun i => x1 (ix1 i))) k q ⟨h.val * 128 + i.val, by omega⟩) := by
  pointwise [Cert.Reference14Ideal.Read.val_main_c, Cert.Reference14Ideal.Read.val_main_v44, Cert.Reference14Ideal.Read.val_main_call0_v0, Cert.Reference14Ideal.Read.val_main_call0_c, Cert.Reference14Ideal.Read.val_main_call0_v1, Cert.Reference14Ideal.Read.val_main_call0_v2, Cert.Reference14Ideal.Read.val_main_call0_v3, Cert.Reference14Ideal.Read.val_main_call0_v4, Cert.Reference14Ideal.Read.val_main_call0_c_0, Cert.Reference14Ideal.Read.val_main_call0_v5, Cert.Reference14Ideal.Read.val_main_v45, Cert.Reference14Ideal.Read.val_main_cst_10, Cert.Reference14Ideal.Read.val_main_call1_v0, Cert.Reference14Ideal.Read.val_main_v46_1, Cert.Reference14Ideal.Read.val_main_v43, Cert.Reference14Ideal.Read.val_main_v63, Cert.Reference14Ideal.Read.val_main_v68, Cert.Reference14Ideal.Read.val_main_v69, Cert.Reference14Ideal.Read.val_main_call4_cst, Cert.Reference14Ideal.Read.val_main_call4_v0, Cert.Reference14Ideal.Read.val_main_v72]
  simp only [ref_fed, ref_normed]
  refine (select_mask _ _ _ _ (by pointwise)).trans (congrArg _ ?_)
  rfl

/-- The reference's gradient of the biases. -/
theorem ref_dbias (x0 : FVec Ideal S2048x10240 .bf16) (x4 : FVec Ideal S2048x2048 .f32) (h : Fin 4) (p : Fin 128) : Cert.Reference14Ideal.Read.val_main_v108 (F := Ideal) x0 x4 (ix3 h 0 p)
    = ∑ k : Fin 16, ∑ i : Fin 128, group (fun r => fed (uv x0 r) (zs x0 r) (es x4 r)) k p ⟨h.val * 128 + i.val, by omega⟩ := by
  pointwise [Cert.Reference14Ideal.Read.val_main_v63, Cert.Reference14Ideal.Read.val_main_cst_11, Cert.Reference14Ideal.Read.val_main_v64, Cert.Reference14Ideal.Read.val_main_v65, Cert.Reference14Ideal.Read.val_main_cst_12, Cert.Reference14Ideal.Read.val_main_v66, Cert.Reference14Ideal.Read.val_main_v67, Cert.Reference14Ideal.Read.val_main_v108]
  rw [sum_outer]
  pointwise
  simp only [ValueIdx.hostReduceAdd_apply, sum_outer, Fin.sum_univ_one]
  pointwise
  simp only [ref_fed]

  rfl

/-- The reference's packed gradient, where the units are. -/
theorem ref_cols_units (x0 : FVec Ideal S2048x10240 .bf16) (x1 : FVec Ideal S512 .f32) (x2 : FVec Ideal S4x128x128 .f32) (x3 : FVec Ideal S4x128 .f32) (x4 : FVec Ideal S2048x2048 .f32) (x5 : FVec Ideal S2048x10240 .bf16) (r : Fin 2048) (j : Fin 1024) :
    Cert.Reference14Ideal.Read.val_main_v113 (F := Ideal) x0 x1 x2 x3 x4 x5 (ix2 r ⟨6144 + j.val, by omega⟩) = Cert.Reference14Ideal.Read.val_main_v106 (F := Ideal) x0 x1 x2 x3 x4 (ix2 r j) := by
  pointwise [Cert.Reference14Ideal.Read.val_main_v110, Cert.Reference14Ideal.Read.val_main_v113]

/-- The reference's packed gradient, where the gate is. -/
theorem ref_cols_gates (x0 : FVec Ideal S2048x10240 .bf16) (x1 : FVec Ideal S512 .f32) (x2 : FVec Ideal S4x128x128 .f32) (x3 : FVec Ideal S4x128 .f32) (x4 : FVec Ideal S2048x2048 .f32) (x5 : FVec Ideal S2048x10240 .bf16) (r : Fin 2048) (j : Fin 512) :
    Cert.Reference14Ideal.Read.val_main_v113 (F := Ideal) x0 x1 x2 x3 x4 x5 (ix2 r ⟨7168 + j.val, by omega⟩) = Cert.Reference14Ideal.Read.val_main_v60 (F := Ideal) x0 x1 x2 x3 x4 (ix2 r j) := by
  pointwise [Cert.Reference14Ideal.Read.val_main_v111, Cert.Reference14Ideal.Read.val_main_v113]
  simp only [show ¬ 7168 + j.val < 6144 by omega, show ¬ 7168 + j.val - 6144 < 1024 by omega, show 7168 + j.val - 6144 - 1024 < 512 by omega, ↓reduceDIte]
  exact congrArg _ (congrArg _ (Fin.ext (by show 7168 + j.val - 6144 - 1024 = j.val; omega)))

/-- The reference's packed gradient elsewhere: what was there before. -/
theorem ref_cols_kept (x0 : FVec Ideal S2048x10240 .bf16) (x1 : FVec Ideal S512 .f32) (x2 : FVec Ideal S4x128x128 .f32) (x3 : FVec Ideal S4x128 .f32) (x4 : FVec Ideal S2048x2048 .f32) (x5 : FVec Ideal S2048x10240 .bf16) (r : Fin 2048) (j : Fin 10240) (h : ¬ (6144 ≤ j.val ∧ j.val < 7680)) :
    Cert.Reference14Ideal.Read.val_main_v113 (F := Ideal) x0 x1 x2 x3 x4 x5 (ix2 r j) = x5 (ix2 r j) := by
  rcases Nat.lt_or_ge j.val 6144 with hj | hj
  · pointwise [Cert.Reference14Ideal.Read.val_main_v109, Cert.Reference14Ideal.Read.val_main_v113]
    simp only [hj, ↓reduceDIte]
  · have hj2 : 7680 ≤ j.val := by omega
    pointwise [Cert.Reference14Ideal.Read.val_main_v112, Cert.Reference14Ideal.Read.val_main_v113]
    simp only [show ¬ j.val < 6144 by omega, show ¬ j.val - 6144 < 1024 by omega, show ¬ j.val - 6144 - 1024 < 512 by omega, ↓reduceDIte]
    exact congrArg _ (congrArg _ (Fin.ext (by show 7680 + (j.val - 6144 - 1024 - 512) = j.val; omega)))

end Cert.Reference14Ideal.GatingBwd

end
-- ==== Proof.GatingBwdBlock.lean ====
module

public import proofs.«01_k».proof.Proof.GatingBwdRows
public import proofs.«01_k».proof.Proof.GatingBwdRef
public import Idealize.ShloMosaic.Lib.Pipeline.ValueKit
public import Idealize.ShloMosaic.Lib.Pointwise

/-! The spatial gating branch’s gradient: one block’s numbers by the whole arrays. -/

@[expose] public section

set_option maxRecDepth 16384

noncomputable section

open Idealize.ShloMosaic Idealize.ShloMosaic.TcCoe Idealize.SL.Sem
open Idealize.ShloMosaic.Pipeline (Dat)

namespace Cert.Kernel14Ideal.GatingBwdValue

open Cert.Kernel14Ideal Cert.Kernel14Ideal.Gen
open Cert.Gating
open Cert.Kernel14Ideal.GatingBwd
open Cert.Reference14Ideal.GatingBwd

variable (m : (ℓ : Loc nD τ sig) → Buf (Elt Ideal) ℓ)

/-- Which block of its array each window stands at, at every point of the grid: the row blocks run backwards. -/
theorem idx : ∀ t : Fin cfg0.N, win0_0.index t = ![3 - t.val, 6]
    ∧ win0_1.index t = ![3 - t.val, 14]
    ∧ win0_2.index t = ![0, 0]
    ∧ win0_3.index t = ![0, 0, 0]
    ∧ win0_4.index t = ![0, 0, 0]
    ∧ win0_5.index t = ![3 - t.val, 1]
    ∧ win0_6.index t = ![3 - t.val, 4]
    ∧ win0_7.index t = ![0, 0]
    ∧ win0_8.index t = ![0, 0, 0]
    ∧ win0_9.index t = ![0, 0, 0] :=
  (by decide +kernel : ∀ t : Fin grid0.N, _)

theorem points (t : Fin cfg0.N) : t.val < 4 := t.isLt

/-- The row of the whole array at row `r` of the block of point `t`. -/
def row (t : Fin cfg0.N) (r : Fin 512) : Fin 2048 := ⟨(3 - t.val) * 512 + r.val, by have := points t; omega⟩

/-- Taken backwards, the blocks' rows are the array's rows in their order. -/
theorem row_rev (s : Fin cfg0.N) (k : Fin 512) (h : s.val * 512 + k.val < 2048) : row (Fin.revPerm s) k = ⟨s.val * 512 + k.val, h⟩ := by
  have hs := points s
  refine Fin.ext ?_
  have e : (Fin.revPerm s).val = 4 - (s.val + 1) := rfl
  show (3 - (Fin.revPerm s).val) * 512 + k.val = _
  rw [e]; congr 2; omega

/-- A row's place in its group of 128. -/
theorem row_place (t : Fin cfg0.N) (r : Fin 512) : (⟨r.val % 128, by omega⟩ : Fin 128) = ⟨(row t r).val % 128, by omega⟩ := by
  have := points t
  exact Fin.ext (by show r.val % 128 = ((3 - t.val) * 512 + r.val) % 128; omega)

/-- The rows of a row's group of 128. -/
theorem row_group {α : Type} (f : Fin 2048 → α) (t : Fin cfg0.N) (r : Fin 512) :
    (fun q : Fin 128 => f (row t ⟨r.val / 128 * 128 + q.val, by omega⟩)) = group f ⟨(row t r).val / 128, by omega⟩ := by
  have := points t
  funext q
  exact congrArg f (Fin.ext (by show (3 - t.val) * 512 + (r.val / 128 * 128 + q.val) = ((3 - t.val) * 512 + r.val) / 128 * 128 + q.val; omega))

theorem group_self {α : Type} (f : Fin 2048 → α) (r : Fin 2048) : group f ⟨r.val / 128, by omega⟩ ⟨r.val % 128, by omega⟩ = f r :=
  congrArg f (Fin.ext (by show r.val / 128 * 128 + r.val % 128 = r.val; omega))

theorem block_uv (c : Dev nD) (t : Fin cfg0.N) (r : Fin 512) (j : Fin 1024) : (k0_pay7 (F := Ideal) (iblk m c 0 t)) (ix2 r j) = uv (m ((c : Thread nD τ).loc main_arg0)) (row t r) j := by
  show _ = (m ((c : Thread nD τ).loc main_arg0)) (ix2 _ _)
  pointwise [k0_pay7]
  blk_point [iblk, V, idx t, row]

theorem block_z (c : Dev nD) (t : Fin cfg0.N) (r j : Fin 512) : (k0_pay8 (F := Ideal) (iblk m c 1 t)) (ix2 r j) = zs (m ((c : Thread nD τ).loc main_arg0)) (row t r) j := by
  show _ = (m ((c : Thread nD τ).loc main_arg0)) (ix2 _ _)
  pointwise [k0_pay8]
  blk_point [iblk, V, idx t, row]

theorem block_cot (c : Dev nD) (t : Fin cfg0.N) (r j : Fin 512) : iblk m c 5 t (ix2 r j) = es (m ((c : Thread nD τ).loc main_arg4)) (row t r) j := by
  show _ = (m ((c : Thread nD τ).loc main_arg4)) (ix2 _ _)
  blk_point [iblk, V, idx t, row]

theorem block_gain (c : Dev nD) (t : Fin cfg0.N) (j : Fin 512) : (k0_pay9 (F := Ideal) (iblk m c 2 t)) (ix2 0 j) = (m ((c : Thread nD τ).loc main_arg1)) (ix1 j) := by
  pointwise [k0_pay9]
  blk_simp [iblk, idx t]; entry_read; pointwise; blk_ext [idx t]

theorem block_weights (c : Dev nD) (t : Fin cfg0.N) (h : Fin 4) (p q : Fin 128) : iblk m c 3 t (ix3 h p q) = (m ((c : Thread nD τ).loc main_arg2)) (ix3 h p q) := by
  blk_point [iblk, V, idx t]

theorem block_bias (c : Dev nD) (t : Fin cfg0.N) (h : Fin 4) (p : Fin 128) : iblk m c 4 t (ix3 h 0 p) = (m ((c : Thread nD τ).loc main_arg3)) (ix2 h p) := by
  blk_simp [iblk, idx t]; entry_read; pointwise; blk_ext [idx t]

theorem units_row (c : Dev nD) (t : Fin cfg0.N) (r : Fin 512) : (fun j => (k0_pay7 (F := Ideal) (iblk m c 0 t)) (ix2 r j)) = (uv (m ((c : Thread nD τ).loc main_arg0)) (row t r)) := funext fun j => block_uv m c t r j

/-- What reaches the mixture, at a block's place. -/
theorem fed_row (c : Dev nD) (t : Fin cfg0.N) (r j : Fin 512) : k0_pay71 (F := Ideal) (k0_pay8 (F := Ideal) (iblk m c 1 t)) (iblk m c 5 t) (k0_pay24 (k0_pay7 (F := Ideal) (iblk m c 0 t))) (ix2 r j) = fed (uv (m ((c : Thread nD τ).loc main_arg0)) (row t r)) (zs (m ((c : Thread nD τ).loc main_arg0)) (row t r)) (es (m ((c : Thread nD τ).loc main_arg4)) (row t r)) j := by
  rw [fed_at, units_row]
  simp only [block_z, block_cot]

/-- The normalised half, at a block's place. -/
theorem normed_row (c : Dev nD) (t : Fin cfg0.N) (r j : Fin 512) : (k0_pay30 (k0_pay7 (F := Ideal) (iblk m c 0 t)) (k0_pay9 (F := Ideal) (iblk m c 2 t))) (ix2 r j) = normed (uv (m ((c : Thread nD τ).loc main_arg0)) (row t r)) (fun i => (m ((c : Thread nD τ).loc main_arg1)) (ix1 i)) j := by
  rw [normed_at, units_row]
  simp only [block_gain]

/-- The mixture, at a block's place. -/
theorem mixed_row (c : Dev nD) (t : Fin cfg0.N) (r j : Fin 512) : mixedBlk (k0_pay33 (k0_pay10 (View.ld (iblk m c 3 t) (Rect.unit ![0, 0, 0] ![1, 128, 128] inb_S4x128x128_S1x128x128_0_0_0)))) (k0_pay35 (k0_pay11 (View.ld (iblk m c 3 t) (Rect.unit ![1, 0, 0] ![1, 128, 128] inb_S4x128x128_S1x128x128_1_0_0)))) (k0_pay12 (View.ld (iblk m c 3 t) (Rect.unit ![2, 0, 0] ![1, 128, 128] inb_S4x128x128_S1x128x128_2_0_0))) (k0_pay13 (View.ld (iblk m c 3 t) (Rect.unit ![3, 0, 0] ![1, 128, 128] inb_S4x128x128_S1x128x128_3_0_0))) (k0_pay31 (F := Ideal)) (iota .tc S128x128 32 [0] iota_S128x128_d0_w32) (iota .tc S128x128 32 [1] iota_S128x128_d1_w32) (k0_pay14 (View.ld (iblk m c 4 t) (Rect.unit ![0, 0, 0] ![1, 1, 128] inb_S4x1x128_S1x1x128_0_0_0))) (k0_pay15 (View.ld (iblk m c 4 t) (Rect.unit ![1, 0, 0] ![1, 1, 128] inb_S4x1x128_S1x1x128_1_0_0))) (k0_pay16 (View.ld (iblk m c 4 t) (Rect.unit ![2, 0, 0] ![1, 1, 128] inb_S4x1x128_S1x1x128_2_0_0))) (k0_pay17 (View.ld (iblk m c 4 t) (Rect.unit ![3, 0, 0] ![1, 1, 128] inb_S4x1x128_S1x1x128_3_0_0))) (k0_pay30 (k0_pay7 (F := Ideal) (iblk m c 0 t)) (k0_pay9 (F := Ideal) (iblk m c 2 t))) (ix2 r j)
      = mixture (group (uv (m ((c : Thread nD τ).loc main_arg0))) ⟨(row t r).val / 128, by omega⟩) (fun i => (m ((c : Thread nD τ).loc main_arg1)) (ix1 i)) (fun h p q => (m ((c : Thread nD τ).loc main_arg2)) (ix3 h p q)) (fun h p => (m ((c : Thread nD τ).loc main_arg3)) (ix2 h p)) ⟨(row t r).val % 128, by omega⟩ j := by
  refine (mixed _ _ _ _ _ _ _ _ _ _ _ _ (fun h p q => (m ((c : Thread nD τ).loc main_arg2)) (ix3 h p q)) (fun h p => (m ((c : Thread nD τ).loc main_arg3)) (ix2 h p)) (fun i => (m ((c : Thread nD τ).loc main_arg1)) (ix1 i)) (fun r => (uv (m ((c : Thread nD τ).loc main_arg0)) (row t r)))
    (fun p q => ((weights_at _ p q).1).trans (by rw [block_weights])) (fun p q => ((weights_at _ p q).2.1).trans (by rw [block_weights])) (fun p q => ((weights_at _ p q).2.2.1).trans (by rw [block_weights])) (fun p q => ((weights_at _ p q).2.2.2).trans (by rw [block_weights]))
    (fun p => ((biases_at _ p).1).trans (by rw [block_bias])) (fun p => ((biases_at _ p).2.1).trans (by rw [block_bias])) (fun p => ((biases_at _ p).2.2.1).trans (by rw [block_bias])) (fun p => ((biases_at _ p).2.2.2).trans (by rw [block_bias]))
    (fun r j => normed_row m c t r j) r j).trans ?_
  rw [row_place t r, row_group]

/-- What the normalised half receives, at a block's place. -/
theorem carried_row (c : Dev nD) (t : Fin cfg0.N) (r j : Fin 512) : carriedBlk (k0_pay33 (k0_pay10 (View.ld (iblk m c 3 t) (Rect.unit ![0, 0, 0] ![1, 128, 128] inb_S4x128x128_S1x128x128_0_0_0)))) (k0_pay35 (k0_pay11 (View.ld (iblk m c 3 t) (Rect.unit ![1, 0, 0] ![1, 128, 128] inb_S4x128x128_S1x128x128_1_0_0)))) (k0_pay37 (k0_pay12 (View.ld (iblk m c 3 t) (Rect.unit ![2, 0, 0] ![1, 128, 128] inb_S4x128x128_S1x128x128_2_0_0))) (iota .tc S128x128 32 [0] iota_S128x128_d0_w32) (iota .tc S128x128 32 [1] iota_S128x128_d1_w32)) (k0_pay39 (k0_pay13 (View.ld (iblk m c 3 t) (Rect.unit ![3, 0, 0] ![1, 128, 128] inb_S4x128x128_S1x128x128_3_0_0))) (iota .tc S128x128 32 [0] iota_S128x128_d0_w32) (iota .tc S128x128 32 [1] iota_S128x128_d1_w32)) (k0_pay8 (F := Ideal) (iblk m c 1 t)) (iblk m c 5 t) (k0_pay24 (k0_pay7 (F := Ideal) (iblk m c 0 t))) (ix2 r j)
      = carried (group (uv (m ((c : Thread nD τ).loc main_arg0))) ⟨(row t r).val / 128, by omega⟩) (group (zs (m ((c : Thread nD τ).loc main_arg0))) ⟨(row t r).val / 128, by omega⟩) (group (es (m ((c : Thread nD τ).loc main_arg4))) ⟨(row t r).val / 128, by omega⟩) (fun h p q => (m ((c : Thread nD τ).loc main_arg2)) (ix3 h p q)) ⟨(row t r).val % 128, by omega⟩ j := by
  refine (carriedOver _ _ _ _ _ _ _ (fun h p q => (m ((c : Thread nD τ).loc main_arg2)) (ix3 h p q)) (fun r => (uv (m ((c : Thread nD τ).loc main_arg0)) (row t r))) (fun r => (zs (m ((c : Thread nD τ).loc main_arg0)) (row t r))) (fun r => (es (m ((c : Thread nD τ).loc main_arg4)) (row t r)))
    (fun p q => ((weights_at _ p q).1).trans (by rw [block_weights])) (fun p q => ((weights_at _ p q).2.1).trans (by rw [block_weights])) (fun p q => ((weights_at _ p q).2.2.1).trans (by rw [block_weights])) (fun p q => ((weights_at _ p q).2.2.2).trans (by rw [block_weights]))
    (fun r j => fed_row m c t r j) r j).trans ?_
  rw [row_place t r, row_group, row_group, row_group]

end Cert.Kernel14Ideal.GatingBwdValue

end
-- ==== Proof.GatingBwdSums.lean ====
module

public import proofs.«01_k».proof.Proof.GatingBwdBlock
public import Idealize.ShloMosaic.Lib.Pipeline.ValueKit
public import Idealize.ShloMosaic.Lib.Pointwise

/-! The spatial gating branch’s gradient: what the blocks add up to. -/

@[expose] public section

set_option maxRecDepth 16384

noncomputable section

open Idealize.ShloMosaic Idealize.ShloMosaic.TcCoe Idealize.SL.Sem
open Idealize.ShloMosaic.Pipeline (Dat)

namespace Cert.Kernel14Ideal.GatingBwdValue

open Cert.Kernel14Ideal Cert.Kernel14Ideal.Gen
open Cert.Gating
open Cert.Kernel14Ideal.GatingBwd
open Cert.Reference14Ideal.GatingBwd

variable (m : (ℓ : Loc nD τ sig) → Buf (Elt Ideal) ℓ)

/-- A place after a written slab is what the earlier writes left. -/
theorem canon_past {s : Shape} {e : EltTy} (off size : Fin s.rank → Nat) (inb) (w) (L : List (View.Piece (Elt Ideal) s e)) (i : s.Idx) (a : Fin s.rank) (h : off a + size a ≤ (i a).val) :
    View.canon (⟨Rect.unit off size inb, w⟩ :: L) i = View.canon L i :=
  View.canon_cons_of_not_mem _ _ (fun hm => absurd ((Rect.mem_set_unit (inb := inb)).mp hm a).2 (Nat.not_lt.mpr h))

theorem empty5 (j : S4x128x128.Idx) : k0_pay5 (F := Ideal) j = 0 := by pointwise! [k0_pay5]

theorem empty6 (j : S4x1x128.Idx) : k0_pay6 (F := Ideal) j = 0 := by pointwise! [k0_pay6]

theorem empty4 (j : S1x512.Idx) : k0_pay4 (F := Ideal) j = 0 := by pointwise! [k0_pay4]

theorem slab8_emb_0 (p q : Fin 128) : (Rect.unit (s := S4x128x128) ![0, 0, 0] ![1, 128, 128] inb_S4x128x128_S1x128x128_0_0_0).emb (ix3 0 p q) = (ix3 0 p q : S4x128x128.Idx) := by
  funext a; refine Fin.ext ?_; fin_cases a <;> simp [Rect.emb, Rect.unit]

theorem held8_0 (x : Vec Ideal S4x128x128 .f32) (p q : Fin 128) : View.ld x (Rect.unit (s := S4x128x128) ![0, 0, 0] ![1, 128, 128] inb_S4x128x128_S1x128x128_0_0_0) (ix3 0 p q) = x (ix3 0 p q) := congrArg x (slab8_emb_0 p q)

theorem fresh8_0 (t : Fin cfg0.N) (p q : Fin 128) :
    (ms0_8 t).view.readCov ([⟨Rect.unit (s := S4x128x128) ![0, 0, 0] ![4, 128, 128] inb_S4x128x128_S4x128x128_0_0_0, k0_pay5 (F := Ideal)⟩] : List (View.Piece (Elt Ideal) S4x128x128 .f32)) (Rect.unit (s := S4x128x128) ![0, 0, 0] ![1, 128, 128] inb_S4x128x128_S1x128x128_0_0_0).toLoadRect (ix3 0 p q) = 0 := by
  refine (congrFun (View.readCov_eq_canon' _ _ _) _).trans ((congrArg _ (slab8_emb_0 p q)).trans ?_)
  exact (canon_hit _ _ _ _ (ix3 0 p q) (by funext a; refine Fin.ext ?_; fin_cases a <;> simp [Rect.emb, Rect.unit])).trans (empty5 _)

theorem slab8_emb_1 (p q : Fin 128) : (Rect.unit (s := S4x128x128) ![1, 0, 0] ![1, 128, 128] inb_S4x128x128_S1x128x128_1_0_0).emb (ix3 0 p q) = (ix3 1 p q : S4x128x128.Idx) := by
  funext a; refine Fin.ext ?_; fin_cases a <;> simp [Rect.emb, Rect.unit]

theorem held8_1 (x : Vec Ideal S4x128x128 .f32) (p q : Fin 128) : View.ld x (Rect.unit (s := S4x128x128) ![1, 0, 0] ![1, 128, 128] inb_S4x128x128_S1x128x128_1_0_0) (ix3 0 p q) = x (ix3 1 p q) := congrArg x (slab8_emb_1 p q)

theorem fresh8_1 (t : Fin cfg0.N) (f0 : Vec Ideal S1x128x128 .f32) (p q : Fin 128) :
    (ms0_8 t).view.readCov ([⟨Rect.unit (s := S4x128x128) ![0, 0, 0] ![1, 128, 128] inb_S4x128x128_S1x128x128_0_0_0, f0⟩, ⟨Rect.unit (s := S4x128x128) ![0, 0, 0] ![4, 128, 128] inb_S4x128x128_S4x128x128_0_0_0, k0_pay5 (F := Ideal)⟩] : List (View.Piece (Elt Ideal) S4x128x128 .f32)) (Rect.unit (s := S4x128x128) ![1, 0, 0] ![1, 128, 128] inb_S4x128x128_S1x128x128_1_0_0).toLoadRect (ix3 0 p q) = 0 := by
  refine (congrFun (View.readCov_eq_canon' _ _ _) _).trans ((congrArg _ (slab8_emb_1 p q)).trans ?_)
  refine (canon_past _ _ _ _ _ _ (0 : Fin 3) (by show 0 + 1 ≤ 1; omega)).trans ?_
  exact (canon_hit _ _ _ _ (ix3 1 p q) (by funext a; refine Fin.ext ?_; fin_cases a <;> simp [Rect.emb, Rect.unit])).trans (empty5 _)

theorem slab8_emb_2 (p q : Fin 128) : (Rect.unit (s := S4x128x128) ![2, 0, 0] ![1, 128, 128] inb_S4x128x128_S1x128x128_2_0_0).emb (ix3 0 p q) = (ix3 2 p q : S4x128x128.Idx) := by
  funext a; refine Fin.ext ?_; fin_cases a <;> simp [Rect.emb, Rect.unit]

theorem held8_2 (x : Vec Ideal S4x128x128 .f32) (p q : Fin 128) : View.ld x (Rect.unit (s := S4x128x128) ![2, 0, 0] ![1, 128, 128] inb_S4x128x128_S1x128x128_2_0_0) (ix3 0 p q) = x (ix3 2 p q) := congrArg x (slab8_emb_2 p q)

theorem fresh8_2 (t : Fin cfg0.N) (f0 f1 : Vec Ideal S1x128x128 .f32) (p q : Fin 128) :
    (ms0_8 t).view.readCov ([⟨Rect.unit (s := S4x128x128) ![1, 0, 0] ![1, 128, 128] inb_S4x128x128_S1x128x128_1_0_0, f1⟩, ⟨Rect.unit (s := S4x128x128) ![0, 0, 0] ![1, 128, 128] inb_S4x128x128_S1x128x128_0_0_0, f0⟩, ⟨Rect.unit (s := S4x128x128) ![0, 0, 0] ![4, 128, 128] inb_S4x128x128_S4x128x128_0_0_0, k0_pay5 (F := Ideal)⟩] : List (View.Piece (Elt Ideal) S4x128x128 .f32)) (Rect.unit (s := S4x128x128) ![2, 0, 0] ![1, 128, 128] inb_S4x128x128_S1x128x128_2_0_0).toLoadRect (ix3 0 p q) = 0 := by
  refine (congrFun (View.readCov_eq_canon' _ _ _) _).trans ((congrArg _ (slab8_emb_2 p q)).trans ?_)
  refine (canon_past _ _ _ _ _ _ (0 : Fin 3) (by show 1 + 1 ≤ 2; omega)).trans ?_
  refine (canon_past _ _ _ _ _ _ (0 : Fin 3) (by show 0 + 1 ≤ 2; omega)).trans ?_
  exact (canon_hit _ _ _ _ (ix3 2 p q) (by funext a; refine Fin.ext ?_; fin_cases a <;> simp [Rect.emb, Rect.unit])).trans (empty5 _)

theorem slab8_emb_3 (p q : Fin 128) : (Rect.unit (s := S4x128x128) ![3, 0, 0] ![1, 128, 128] inb_S4x128x128_S1x128x128_3_0_0).emb (ix3 0 p q) = (ix3 3 p q : S4x128x128.Idx) := by
  funext a; refine Fin.ext ?_; fin_cases a <;> simp [Rect.emb, Rect.unit]

theorem held8_3 (x : Vec Ideal S4x128x128 .f32) (p q : Fin 128) : View.ld x (Rect.unit (s := S4x128x128) ![3, 0, 0] ![1, 128, 128] inb_S4x128x128_S1x128x128_3_0_0) (ix3 0 p q) = x (ix3 3 p q) := congrArg x (slab8_emb_3 p q)

theorem fresh8_3 (t : Fin cfg0.N) (f0 f1 f2 : Vec Ideal S1x128x128 .f32) (p q : Fin 128) :
    (ms0_8 t).view.readCov ([⟨Rect.unit (s := S4x128x128) ![2, 0, 0] ![1, 128, 128] inb_S4x128x128_S1x128x128_2_0_0, f2⟩, ⟨Rect.unit (s := S4x128x128) ![1, 0, 0] ![1, 128, 128] inb_S4x128x128_S1x128x128_1_0_0, f1⟩, ⟨Rect.unit (s := S4x128x128) ![0, 0, 0] ![1, 128, 128] inb_S4x128x128_S1x128x128_0_0_0, f0⟩, ⟨Rect.unit (s := S4x128x128) ![0, 0, 0] ![4, 128, 128] inb_S4x128x128_S4x128x128_0_0_0, k0_pay5 (F := Ideal)⟩] : List (View.Piece (Elt Ideal) S4x128x128 .f32)) (Rect.unit (s := S4x128x128) ![3, 0, 0] ![1, 128, 128] inb_S4x128x128_S1x128x128_3_0_0).toLoadRect (ix3 0 p q) = 0 := by
  refine (congrFun (View.readCov_eq_canon' _ _ _) _).trans ((congrArg _ (slab8_emb_3 p q)).trans ?_)
  refine (canon_past _ _ _ _ _ _ (0 : Fin 3) (by show 2 + 1 ≤ 3; omega)).trans ?_
  refine (canon_past _ _ _ _ _ _ (0 : Fin 3) (by show 1 + 1 ≤ 3; omega)).trans ?_
  refine (canon_past _ _ _ _ _ _ (0 : Fin 3) (by show 0 + 1 ≤ 3; omega)).trans ?_
  exact (canon_hit _ _ _ _ (ix3 3 p q) (by funext a; refine Fin.ext ?_; fin_cases a <;> simp [Rect.emb, Rect.unit])).trans (empty5 _)

theorem slab9_emb_0 (p : Fin 128) : (Rect.unit (s := S4x1x128) ![0, 0, 0] ![1, 1, 128] inb_S4x1x128_S1x1x128_0_0_0).emb (ix3 0 0 p) = (ix3 0 0 p : S4x1x128.Idx) := by
  funext a; refine Fin.ext ?_; fin_cases a <;> simp [Rect.emb, Rect.unit]

theorem held9_0 (x : Vec Ideal S4x1x128 .f32) (p : Fin 128) : View.ld x (Rect.unit (s := S4x1x128) ![0, 0, 0] ![1, 1, 128] inb_S4x1x128_S1x1x128_0_0_0) (ix3 0 0 p) = x (ix3 0 0 p) := congrArg x (slab9_emb_0 p)

theorem fresh9_0 (t : Fin cfg0.N) (p : Fin 128) :
    (ms0_9 t).view.readCov ([⟨Rect.unit (s := S4x1x128) ![0, 0, 0] ![4, 1, 128] inb_S4x1x128_S4x1x128_0_0_0, k0_pay6 (F := Ideal)⟩] : List (View.Piece (Elt Ideal) S4x1x128 .f32)) (Rect.unit (s := S4x1x128) ![0, 0, 0] ![1, 1, 128] inb_S4x1x128_S1x1x128_0_0_0).toLoadRect (ix3 0 0 p) = 0 := by
  refine (congrFun (View.readCov_eq_canon' _ _ _) _).trans ((congrArg _ (slab9_emb_0 p)).trans ?_)
  exact (canon_hit _ _ _ _ (ix3 0 0 p) (by funext a; refine Fin.ext ?_; fin_cases a <;> simp [Rect.emb, Rect.unit])).trans (empty6 _)

theorem slab9_emb_1 (p : Fin 128) : (Rect.unit (s := S4x1x128) ![1, 0, 0] ![1, 1, 128] inb_S4x1x128_S1x1x128_1_0_0).emb (ix3 0 0 p) = (ix3 1 0 p : S4x1x128.Idx) := by
  funext a; refine Fin.ext ?_; fin_cases a <;> simp [Rect.emb, Rect.unit]

theorem held9_1 (x : Vec Ideal S4x1x128 .f32) (p : Fin 128) : View.ld x (Rect.unit (s := S4x1x128) ![1, 0, 0] ![1, 1, 128] inb_S4x1x128_S1x1x128_1_0_0) (ix3 0 0 p) = x (ix3 1 0 p) := congrArg x (slab9_emb_1 p)

theorem fresh9_1 (t : Fin cfg0.N) (f0 : Vec Ideal S1x1x128 .f32) (p : Fin 128) :
    (ms0_9 t).view.readCov ([⟨Rect.unit (s := S4x1x128) ![0, 0, 0] ![1, 1, 128] inb_S4x1x128_S1x1x128_0_0_0, f0⟩, ⟨Rect.unit (s := S4x1x128) ![0, 0, 0] ![4, 1, 128] inb_S4x1x128_S4x1x128_0_0_0, k0_pay6 (F := Ideal)⟩] : List (View.Piece (Elt Ideal) S4x1x128 .f32)) (Rect.unit (s := S4x1x128) ![1, 0, 0] ![1, 1, 128] inb_S4x1x128_S1x1x128_1_0_0).toLoadRect (ix3 0 0 p) = 0 := by
  refine (congrFun (View.readCov_eq_canon' _ _ _) _).trans ((congrArg _ (slab9_emb_1 p)).trans ?_)
  refine (canon_past _ _ _ _ _ _ (0 : Fin 3) (by show 0 + 1 ≤ 1; omega)).trans ?_
  exact (canon_hit _ _ _ _ (ix3 1 0 p) (by funext a; refine Fin.ext ?_; fin_cases a <;> simp [Rect.emb, Rect.unit])).trans (empty6 _)

theorem slab9_emb_2 (p : Fin 128) : (Rect.unit (s := S4x1x128) ![2, 0, 0] ![1, 1, 128] inb_S4x1x128_S1x1x128_2_0_0).emb (ix3 0 0 p) = (ix3 2 0 p : S4x1x128.Idx) := by
  funext a; refine Fin.ext ?_; fin_cases a <;> simp [Rect.emb, Rect.unit]

theorem held9_2 (x : Vec Ideal S4x1x128 .f32) (p : Fin 128) : View.ld x (Rect.unit (s := S4x1x128) ![2, 0, 0] ![1, 1, 128] inb_S4x1x128_S1x1x128_2_0_0) (ix3 0 0 p) = x (ix3 2 0 p) := congrArg x (slab9_emb_2 p)

theorem fresh9_2 (t : Fin cfg0.N) (f0 f1 : Vec Ideal S1x1x128 .f32) (p : Fin 128) :
    (ms0_9 t).view.readCov ([⟨Rect.unit (s := S4x1x128) ![1, 0, 0] ![1, 1, 128] inb_S4x1x128_S1x1x128_1_0_0, f1⟩, ⟨Rect.unit (s := S4x1x128) ![0, 0, 0] ![1, 1, 128] inb_S4x1x128_S1x1x128_0_0_0, f0⟩, ⟨Rect.unit (s := S4x1x128) ![0, 0, 0] ![4, 1, 128] inb_S4x1x128_S4x1x128_0_0_0, k0_pay6 (F := Ideal)⟩] : List (View.Piece (Elt Ideal) S4x1x128 .f32)) (Rect.unit (s := S4x1x128) ![2, 0, 0] ![1, 1, 128] inb_S4x1x128_S1x1x128_2_0_0).toLoadRect (ix3 0 0 p) = 0 := by
  refine (congrFun (View.readCov_eq_canon' _ _ _) _).trans ((congrArg _ (slab9_emb_2 p)).trans ?_)
  refine (canon_past _ _ _ _ _ _ (0 : Fin 3) (by show 1 + 1 ≤ 2; omega)).trans ?_
  refine (canon_past _ _ _ _ _ _ (0 : Fin 3) (by show 0 + 1 ≤ 2; omega)).trans ?_
  exact (canon_hit _ _ _ _ (ix3 2 0 p) (by funext a; refine Fin.ext ?_; fin_cases a <;> simp [Rect.emb, Rect.unit])).trans (empty6 _)

theorem slab9_emb_3 (p : Fin 128) : (Rect.unit (s := S4x1x128) ![3, 0, 0] ![1, 1, 128] inb_S4x1x128_S1x1x128_3_0_0).emb (ix3 0 0 p) = (ix3 3 0 p : S4x1x128.Idx) := by
  funext a; refine Fin.ext ?_; fin_cases a <;> simp [Rect.emb, Rect.unit]

theorem held9_3 (x : Vec Ideal S4x1x128 .f32) (p : Fin 128) : View.ld x (Rect.unit (s := S4x1x128) ![3, 0, 0] ![1, 1, 128] inb_S4x1x128_S1x1x128_3_0_0) (ix3 0 0 p) = x (ix3 3 0 p) := congrArg x (slab9_emb_3 p)

theorem fresh9_3 (t : Fin cfg0.N) (f0 f1 f2 : Vec Ideal S1x1x128 .f32) (p : Fin 128) :
    (ms0_9 t).view.readCov ([⟨Rect.unit (s := S4x1x128) ![2, 0, 0] ![1, 1, 128] inb_S4x1x128_S1x1x128_2_0_0, f2⟩, ⟨Rect.unit (s := S4x1x128) ![1, 0, 0] ![1, 1, 128] inb_S4x1x128_S1x1x128_1_0_0, f1⟩, ⟨Rect.unit (s := S4x1x128) ![0, 0, 0] ![1, 1, 128] inb_S4x1x128_S1x1x128_0_0_0, f0⟩, ⟨Rect.unit (s := S4x1x128) ![0, 0, 0] ![4, 1, 128] inb_S4x1x128_S4x1x128_0_0_0, k0_pay6 (F := Ideal)⟩] : List (View.Piece (Elt Ideal) S4x1x128 .f32)) (Rect.unit (s := S4x1x128) ![3, 0, 0] ![1, 1, 128] inb_S4x1x128_S1x1x128_3_0_0).toLoadRect (ix3 0 0 p) = 0 := by
  refine (congrFun (View.readCov_eq_canon' _ _ _) _).trans ((congrArg _ (slab9_emb_3 p)).trans ?_)
  refine (canon_past _ _ _ _ _ _ (0 : Fin 3) (by show 2 + 1 ≤ 3; omega)).trans ?_
  refine (canon_past _ _ _ _ _ _ (0 : Fin 3) (by show 1 + 1 ≤ 3; omega)).trans ?_
  refine (canon_past _ _ _ _ _ _ (0 : Fin 3) (by show 0 + 1 ≤ 3; omega)).trans ?_
  exact (canon_hit _ _ _ _ (ix3 3 0 p) (by funext a; refine Fin.ext ?_; fin_cases a <;> simp [Rect.emb, Rect.unit])).trans (empty6 _)

/-- Keeping places commutes with a sum over the blocks. -/
theorem keep_sum {n : Nat} (p q : Fin 128) (f : Fin n → EReal) : ∑ s, keep p q (f s) = keep p q (∑ s, f s) := by
  unfold keep
  split
  · rfl
  · exact Finset.sum_const_zero

/-- What a row adds to the gain's gradient. -/
def gainPart (c : Dev nD) (r : Fin 2048) (j : Fin 512) : EReal := right (uv (m ((c : Thread nD τ).loc main_arg0)) r) j * gain (right (uv (m ((c : Thread nD τ).loc main_arg0)) r)) * carried (group (uv (m ((c : Thread nD τ).loc main_arg0))) ⟨r.val / 128, by omega⟩) (group (zs (m ((c : Thread nD τ).loc main_arg0))) ⟨r.val / 128, by omega⟩) (group (es (m ((c : Thread nD τ).loc main_arg4))) ⟨r.val / 128, by omega⟩) (fun h p q => (m ((c : Thread nD τ).loc main_arg2)) (ix3 h p q)) ⟨r.val % 128, by omega⟩ j

/-- What a block adds to the gain's gradient. -/
def term7 (c : Dev nD) (t : Fin cfg0.N) (j : Fin 512) : EReal := ∑ r : Fin 512, gainPart m c (row t r) j

/-- What a block adds to the weights' gradient. -/
def term8 (c : Dev nD) (t : Fin cfg0.N) (h : Fin 4) (p q : Fin 128) : EReal := keep p q (∑ k : Fin 4, ∑ i : Fin 128, fed (uv (m ((c : Thread nD τ).loc main_arg0)) (row t ⟨k.val * 128 + (p).val, by omega⟩)) (zs (m ((c : Thread nD τ).loc main_arg0)) (row t ⟨k.val * 128 + (p).val, by omega⟩)) (es (m ((c : Thread nD τ).loc main_arg4)) (row t ⟨k.val * 128 + (p).val, by omega⟩)) ⟨(h).val * 128 + i.val, by omega⟩ * normed (uv (m ((c : Thread nD τ).loc main_arg0)) (row t ⟨k.val * 128 + (q).val, by omega⟩)) (fun i => (m ((c : Thread nD τ).loc main_arg1)) (ix1 i)) ⟨(h).val * 128 + i.val, by omega⟩)

/-- What a block adds to the biases' gradient. -/
def term9 (c : Dev nD) (t : Fin cfg0.N) (h : Fin 4) (p : Fin 128) : EReal := ∑ k : Fin 4, ∑ i : Fin 128, fed (uv (m ((c : Thread nD τ).loc main_arg0)) (row t ⟨k.val * 128 + (p).val, by omega⟩)) (zs (m ((c : Thread nD τ).loc main_arg0)) (row t ⟨k.val * 128 + (p).val, by omega⟩)) (es (m ((c : Thread nD τ).loc main_arg4)) (row t ⟨k.val * 128 + (p).val, by omega⟩)) ⟨(h).val * 128 + i.val, by omega⟩

theorem pairing_row (c : Dev nD) (t : Fin cfg0.N) (h : Fin 4) (p q : Fin 128) : keep p q (pairing (k0_pay71 (F := Ideal) (k0_pay8 (F := Ideal) (iblk m c 1 t)) (iblk m c 5 t) (k0_pay24 (k0_pay7 (F := Ideal) (iblk m c 0 t)))) (k0_pay30 (k0_pay7 (F := Ideal) (iblk m c 0 t)) (k0_pay9 (F := Ideal) (iblk m c 2 t))) h p q) = term8 m c t h p q :=
  congrArg (keep p q) (Finset.sum_congr rfl fun k _ => Finset.sum_congr rfl fun i _ =>
    congrArg₂ _ (fed_row m c t ⟨k.val * 128 + p.val, by omega⟩ ⟨h.val * 128 + i.val, by omega⟩) (normed_row m c t ⟨k.val * 128 + q.val, by omega⟩ ⟨h.val * 128 + i.val, by omega⟩))

theorem gathered_row (c : Dev nD) (t : Fin cfg0.N) (h : Fin 4) (p : Fin 128) : gathered (k0_pay71 (F := Ideal) (k0_pay8 (F := Ideal) (iblk m c 1 t)) (iblk m c 5 t) (k0_pay24 (k0_pay7 (F := Ideal) (iblk m c 0 t)))) h p = term9 m c t h p :=
  Finset.sum_congr rfl fun k _ => Finset.sum_congr rfl fun i _ => fed_row m c t ⟨k.val * 128 + p.val, by omega⟩ ⟨h.val * 128 + i.val, by omega⟩

theorem whole7 (c : Dev nD) (j : Fin 512) : ∑ s : Fin 4, term7 m c (Fin.revPerm s) j = Cert.Reference14Ideal.Read.val_main_v107 (F := Ideal) (m ((c : Thread nD τ).loc main_arg0)) (m ((c : Thread nD τ).loc main_arg2)) (m ((c : Thread nD τ).loc main_arg4)) (ix2 0 j) := by
  rw [ref_dgain]
  refine Fin.sum_mul_add_congr fun s r hl => ?_
  rw [row_rev s r hl]
  rfl

theorem whole8 (c : Dev nD) (h : Fin 4) (p q : Fin 128) : ∑ s : Fin 4, term8 m c (Fin.revPerm s) h p q = Cert.Reference14Ideal.Read.val_main_v72 (F := Ideal) (m ((c : Thread nD τ).loc main_arg0)) (m ((c : Thread nD τ).loc main_arg1)) (m ((c : Thread nD τ).loc main_arg4)) (ix3 h p q) := by
  rw [ref_dweights]
  refine (keep_sum p q _).trans (congrArg _ ?_)
  refine Fin.sum_mul_add_congr fun s k hl => ?_
  refine Finset.sum_congr rfl fun i _ => ?_
  rw [row_rev s ⟨k.val * 128 + p.val, by omega⟩ (by show s.val * 512 + (k.val * 128 + p.val) < 2048; omega), row_rev s ⟨k.val * 128 + q.val, by omega⟩ (by show s.val * 512 + (k.val * 128 + q.val) < 2048; omega)]
  have e (p : Fin 128) : (⟨s.val * 512 + (k.val * 128 + p.val), by omega⟩ : Fin 2048) = ⟨(s.val * 4 + k.val) * 128 + p.val, by omega⟩ := Fin.ext (by show s.val * 512 + (k.val * 128 + p.val) = (s.val * 4 + k.val) * 128 + p.val; omega)
  simp only [group, e]

theorem whole9 (c : Dev nD) (h : Fin 4) (p : Fin 128) : ∑ s : Fin 4, term9 m c (Fin.revPerm s) h p = Cert.Reference14Ideal.Read.val_main_v108 (F := Ideal) (m ((c : Thread nD τ).loc main_arg0)) (m ((c : Thread nD τ).loc main_arg4)) (ix3 h 0 p) := by
  rw [ref_dbias]
  refine Fin.sum_mul_add_congr fun s k hl => ?_
  refine Finset.sum_congr rfl fun i _ => ?_
  rw [row_rev s ⟨k.val * 128 + p.val, by omega⟩ (by show s.val * 512 + (k.val * 128 + p.val) < 2048; omega)]
  have e (p : Fin 128) : (⟨s.val * 512 + (k.val * 128 + p.val), by omega⟩ : Fin 2048) = ⟨(s.val * 4 + k.val) * 128 + p.val, by omega⟩ := Fin.ext (by show s.val * 512 + (k.val * 128 + p.val) = (s.val * 4 + k.val) * 128 + p.val; omega)
  simp only [group, e]

end Cert.Kernel14Ideal.GatingBwdValue

end
-- ==== Proof.GatingBwdValue.lean ====
module

public import proofs.«01_k».proof.Proof.GatingBwdSums
public import Idealize.ShloMosaic.Lib.Pipeline.ValueKit
public import Idealize.ShloMosaic.Lib.Pointwise

/-! The spatial gating branch’s gradient: the arrays after the run. -/

@[expose] public section

set_option maxRecDepth 16384

noncomputable section

open Idealize.ShloMosaic Idealize.ShloMosaic.TcCoe Idealize.SL.Sem
open Idealize.ShloMosaic.Pipeline (Dat)

namespace Cert.Kernel14Ideal.GatingBwdValue

open Cert.Kernel14Ideal Cert.Kernel14Ideal.Gen
open Cert.Gating
open Cert.Kernel14Ideal.GatingBwd
open Cert.Reference14Ideal.GatingBwd

variable (m : (ℓ : Loc nD τ sig) → Buf (Elt Ideal) ℓ)

theorem one_row (j : S1x512.Idx) : ∃ j1 : Fin 512, j = ix2 (0 : Fin 1) j1 :=
  ⟨j 1, (eq_ix2 j).trans (congrArg (fun i : Fin 1 => (ix2 i (j 1) : S1x512.Idx)) (Subsingleton.elim (α := Fin 1) _ _))⟩

theorem one_middle (j : S4x1x128.Idx) : ∃ (g : Fin 4) (p : Fin 128), j = ix3 g (0 : Fin 1) p :=
  ⟨j 0, j 2, (eq_ix3 j).trans (congrArg (fun i : Fin 1 => (ix3 (j 0) i (j 2) : S4x1x128.Idx)) (Subsingleton.elim (α := Fin 1) _ _))⟩

theorem gains_row (c : Dev nD) (t : Fin cfg0.N) (w : FVec Ideal S1x512 .f32) (j : Fin 512) :
    k0_pay147 (k0_pay142 (k0_pay29 (k0_pay7 (F := Ideal) (iblk m c 0 t))) (carriedBlk (k0_pay33 (k0_pay10 (View.ld (iblk m c 3 t) (Rect.unit ![0, 0, 0] ![1, 128, 128] inb_S4x128x128_S1x128x128_0_0_0)))) (k0_pay35 (k0_pay11 (View.ld (iblk m c 3 t) (Rect.unit ![1, 0, 0] ![1, 128, 128] inb_S4x128x128_S1x128x128_1_0_0)))) (k0_pay37 (k0_pay12 (View.ld (iblk m c 3 t) (Rect.unit ![2, 0, 0] ![1, 128, 128] inb_S4x128x128_S1x128x128_2_0_0))) (iota .tc S128x128 32 [0] iota_S128x128_d0_w32) (iota .tc S128x128 32 [1] iota_S128x128_d1_w32)) (k0_pay39 (k0_pay13 (View.ld (iblk m c 3 t) (Rect.unit ![3, 0, 0] ![1, 128, 128] inb_S4x128x128_S1x128x128_3_0_0))) (iota .tc S128x128 32 [0] iota_S128x128_d0_w32) (iota .tc S128x128 32 [1] iota_S128x128_d1_w32)) (k0_pay8 (F := Ideal) (iblk m c 1 t)) (iblk m c 5 t) (k0_pay24 (k0_pay7 (F := Ideal) (iblk m c 0 t))))) w (ix2 0 j) = w (ix2 0 j) + term7 m c t j := by
  rw [gains_at]
  refine congrArg _ (Finset.sum_congr rfl fun r _ => ?_)
  rw [units_row, carried_row]
  rfl

theorem step7_A (c : Dev nD) (t : Fin cfg0.N) (h : t.val % 4 = 0) (j : S1x512.Idx) : (outsAt0 m c t.val t.isLt).2.1 j = 0 + term7 m c t (j 1) := by
  rw [outsAt0_A m c t h]; frame_out
  obtain ⟨j1, rfl⟩ : ∃ j1 : Fin 512, j = ix2 (0 : Fin 1) j1 := one_row j
  refine (gains_row m c t _ j1).trans ?_
  rw [empty4]
  rfl

theorem step8_A (c : Dev nD) (t : Fin cfg0.N) (h : t.val % 4 = 0) (j : S4x128x128.Idx) : (outsAt0 m c t.val t.isLt).2.2.1 j = 0 + term8 m c t (j 0) (j 1) (j 2) := by
  rw [outsAt0_A m c t h]; frame_out
  obtain ⟨g, p, q, rfl⟩ : ∃ (g : Fin 4) (p q : Fin 128), j = ix3 g p q := ⟨j 0, j 1, j 2, eq_ix3 j⟩
  refine slabs8 _ _ _ _ _ (fun g p q => 0 + term8 m c t g p q) (fun p q => ?_) (fun p q => ?_) (fun p q => ?_) (fun p q => ?_) g p q
  · exact (weight_0 _ _ _ _ _ p q).trans (congrArg₂ _ (fresh8_0 t p q) (pairing_row m c t 0 p q))
  · exact (weight_1 _ _ _ _ _ p q).trans (congrArg₂ _ (fresh8_1 t _ p q) (pairing_row m c t 1 p q))
  · exact (weight_2 _ _ _ _ _ p q).trans (congrArg₂ _ (fresh8_2 t _ _ p q) (pairing_row m c t 2 p q))
  · exact (weight_3 _ _ _ _ _ p q).trans (congrArg₂ _ (fresh8_3 t _ _ _ p q) (pairing_row m c t 3 p q))

theorem step9_A (c : Dev nD) (t : Fin cfg0.N) (h : t.val % 4 = 0) (j : S4x1x128.Idx) : (outsAt0 m c t.val t.isLt).2.2.2 j = 0 + term9 m c t (j 0) (j 2) := by
  rw [outsAt0_A m c t h]; frame_out
  obtain ⟨g, p, rfl⟩ : ∃ (g : Fin 4) (p : Fin 128), j = ix3 g (0 : Fin 1) p := one_middle j
  refine slabs9 _ _ _ _ _ (fun g p => 0 + term9 m c t g p) (fun p => ?_) (fun p => ?_) (fun p => ?_) (fun p => ?_) g p
  · exact (bias_0 _ _ _ _ p).trans (congrArg₂ _ (fresh9_0 t p) (gathered_row m c t 0 p))
  · exact (bias_1 _ _ _ _ p).trans (congrArg₂ _ (fresh9_1 t _ p) (gathered_row m c t 1 p))
  · exact (bias_2 _ _ _ _ p).trans (congrArg₂ _ (fresh9_2 t _ _ p) (gathered_row m c t 2 p))
  · exact (bias_3 _ _ _ _ p).trans (congrArg₂ _ (fresh9_3 t _ _ _ p) (gathered_row m c t 3 p))

theorem step7_B (c : Dev nD) (t : Fin cfg0.N) (h : ¬ t.val % 4 = 0) (j : S1x512.Idx) : (outsAt0 m c t.val t.isLt).2.1 j = (outsAt0 m c (t.val - 1) (by omega)).2.1 j + term7 m c t (j 1) := by
  rw [outsAt0_B m c t h]; frame_out
  obtain ⟨j1, rfl⟩ : ∃ j1 : Fin 512, j = ix2 (0 : Fin 1) j1 := one_row j
  refine (gains_row m c t _ j1).trans ?_
  rfl

theorem step8_B (c : Dev nD) (t : Fin cfg0.N) (h : ¬ t.val % 4 = 0) (j : S4x128x128.Idx) : (outsAt0 m c t.val t.isLt).2.2.1 j = (outsAt0 m c (t.val - 1) (by omega)).2.2.1 j + term8 m c t (j 0) (j 1) (j 2) := by
  rw [outsAt0_B m c t h]; frame_out
  obtain ⟨g, p, q, rfl⟩ : ∃ (g : Fin 4) (p q : Fin 128), j = ix3 g p q := ⟨j 0, j 1, j 2, eq_ix3 j⟩
  refine slabs8 _ _ _ _ _ (fun g p q => (outsAt0 m c (t.val - 1) (by omega)).2.2.1 (ix3 g p q) + term8 m c t g p q) (fun p q => ?_) (fun p q => ?_) (fun p q => ?_) (fun p q => ?_) g p q
  · exact (weight_0 _ _ _ _ _ p q).trans (congrArg₂ _ (held8_0 _ p q) (pairing_row m c t 0 p q))
  · exact (weight_1 _ _ _ _ _ p q).trans (congrArg₂ _ (held8_1 _ p q) (pairing_row m c t 1 p q))
  · exact (weight_2 _ _ _ _ _ p q).trans (congrArg₂ _ (held8_2 _ p q) (pairing_row m c t 2 p q))
  · exact (weight_3 _ _ _ _ _ p q).trans (congrArg₂ _ (held8_3 _ p q) (pairing_row m c t 3 p q))

theorem step9_B (c : Dev nD) (t : Fin cfg0.N) (h : ¬ t.val % 4 = 0) (j : S4x1x128.Idx) : (outsAt0 m c t.val t.isLt).2.2.2 j = (outsAt0 m c (t.val - 1) (by omega)).2.2.2 j + term9 m c t (j 0) (j 2) := by
  rw [outsAt0_B m c t h]; frame_out
  obtain ⟨g, p, rfl⟩ : ∃ (g : Fin 4) (p : Fin 128), j = ix3 g (0 : Fin 1) p := one_middle j
  refine slabs9 _ _ _ _ _ (fun g p => (outsAt0 m c (t.val - 1) (by omega)).2.2.2 (ix3 g 0 p) + term9 m c t g p) (fun p => ?_) (fun p => ?_) (fun p => ?_) (fun p => ?_) g p
  · exact (bias_0 _ _ _ _ p).trans (congrArg₂ _ (held9_0 _ p) (gathered_row m c t 0 p))
  · exact (bias_1 _ _ _ _ p).trans (congrArg₂ _ (held9_1 _ p) (gathered_row m c t 1 p))
  · exact (bias_2 _ _ _ _ p).trans (congrArg₂ _ (held9_2 _ p) (gathered_row m c t 2 p))
  · exact (bias_3 _ _ _ _ p).trans (congrArg₂ _ (held9_3 _ p) (gathered_row m c t 3 p))

theorem final7 (c : Dev nD) : (dats m 0 c).arrAt 7 (cfgs 0).N
    = Cert.Reference14Ideal.Read.val_main_v107 (F := Ideal) (m ((c : Thread nD τ).loc main_arg0)) (m ((c : Thread nD τ).loc main_arg2)) (m ((c : Thread nD τ).loc main_arg4)) := by
  refine (dats m 0 c).arrAt_eq_of_after_last 7 t0_3 (by decide +kernel) _ fun j => ?_
  blk_simp
  rw [after0_7, Pipeline.eq_sum_fin_of_reset_step_apply_last (fun n h => (outsAt0 m c n h).2.1) 4 (fun _ => 0) (fun t j => term7 m c t (j 1))
    (fun t h j => step7_A m c t h j) (fun t h j => step7_B m c t h j) (le_of_eq N_0) t0_3 rfl j, zero_add]
  rw [← Equiv.sum_comp Fin.revPerm]
  obtain ⟨j1, rfl⟩ : ∃ j1 : Fin 512, j = ix2 (0 : Fin 1) j1 := one_row j
  exact whole7 m c j1

theorem final8 (c : Dev nD) : (dats m 0 c).arrAt 8 (cfgs 0).N
    = Cert.Reference14Ideal.Read.val_main_v72 (F := Ideal) (m ((c : Thread nD τ).loc main_arg0)) (m ((c : Thread nD τ).loc main_arg1)) (m ((c : Thread nD τ).loc main_arg4)) := by
  refine (dats m 0 c).arrAt_eq_of_after_last 8 t0_3 (by decide +kernel) _ fun j => ?_
  blk_simp
  rw [after0_8, Pipeline.eq_sum_fin_of_reset_step_apply_last (fun n h => (outsAt0 m c n h).2.2.1) 4 (fun _ => 0) (fun t j => term8 m c t (j 0) (j 1) (j 2))
    (fun t h j => step8_A m c t h j) (fun t h j => step8_B m c t h j) (le_of_eq N_0) t0_3 rfl j, zero_add]
  rw [← Equiv.sum_comp Fin.revPerm]
  rw [eq_ix3 j]
  exact whole8 m c (j 0) (j 1) (j 2)

theorem final9 (c : Dev nD) : (dats m 0 c).arrAt 9 (cfgs 0).N
    = Cert.Reference14Ideal.Read.val_main_v108 (F := Ideal) (m ((c : Thread nD τ).loc main_arg0)) (m ((c : Thread nD τ).loc main_arg4)) := by
  refine (dats m 0 c).arrAt_eq_of_after_last 9 t0_3 (by decide +kernel) _ fun j => ?_
  blk_simp
  rw [after0_9, Pipeline.eq_sum_fin_of_reset_step_apply_last (fun n h => (outsAt0 m c n h).2.2.2) 4 (fun _ => 0) (fun t j => term9 m c t (j 0) (j 2))
    (fun t h j => step9_A m c t h j) (fun t h j => step9_B m c t h j) (le_of_eq N_0) t0_3 rfl j, zero_add]
  rw [← Equiv.sum_comp Fin.revPerm]
  obtain ⟨g, p, rfl⟩ : ∃ (g : Fin 4) (p : Fin 128), j = ix3 g (0 : Fin 1) p := one_middle j
  exact whole9 m c g p

theorem emb6 (t : Fin cfg0.N) (y : ((cfg0.win 6).xblock (cfg0.grid.coords t)).Idx) (r : Fin 512) (j : Fin 1536) (hr : (y 0).val = r.val) (hj : (y 1).val = j.val) :
    ((cfg0.win 6).blk t).view.emb y = (ix2 (row t r) ⟨6144 + j.val, by omega⟩ : S2048x10240.Idx) := by
  blk_ext [idx t, row]

/-- The gradient that reaches the first half. -/
theorem first_row (c : Dev nD) (t : Fin cfg0.N) (r j : Fin 512) : k0_pay72 (F := Ideal) (k0_pay8 (F := Ideal) (iblk m c 1 t)) (iblk m c 5 t) (k0_pay33 (k0_pay10 (View.ld (iblk m c 3 t) (Rect.unit ![0, 0, 0] ![1, 128, 128] inb_S4x128x128_S1x128x128_0_0_0)))) (k0_pay35 (k0_pay11 (View.ld (iblk m c 3 t) (Rect.unit ![1, 0, 0] ![1, 128, 128] inb_S4x128x128_S1x128x128_1_0_0)))) (k0_pay37 (k0_pay12 (View.ld (iblk m c 3 t) (Rect.unit ![2, 0, 0] ![1, 128, 128] inb_S4x128x128_S1x128x128_2_0_0))) (iota .tc S128x128 32 [0] iota_S128x128_d0_w32) (iota .tc S128x128 32 [1] iota_S128x128_d1_w32)) (k0_pay39 (k0_pay13 (View.ld (iblk m c 3 t) (Rect.unit ![3, 0, 0] ![1, 128, 128] inb_S4x128x128_S1x128x128_3_0_0))) (iota .tc S128x128 32 [0] iota_S128x128_d0_w32) (iota .tc S128x128 32 [1] iota_S128x128_d1_w32)) (k0_pay40 (k0_pay14 (View.ld (iblk m c 4 t) (Rect.unit ![0, 0, 0] ![1, 1, 128] inb_S4x1x128_S1x1x128_0_0_0))) (k0_pay31 (F := Ideal))) (k0_pay41 (k0_pay15 (View.ld (iblk m c 4 t) (Rect.unit ![1, 0, 0] ![1, 1, 128] inb_S4x1x128_S1x1x128_1_0_0))) (k0_pay31 (F := Ideal))) (k0_pay42 (k0_pay16 (View.ld (iblk m c 4 t) (Rect.unit ![2, 0, 0] ![1, 1, 128] inb_S4x1x128_S1x1x128_2_0_0))) (k0_pay31 (F := Ideal))) (k0_pay43 (k0_pay17 (View.ld (iblk m c 4 t) (Rect.unit ![3, 0, 0] ![1, 1, 128] inb_S4x1x128_S1x1x128_3_0_0))) (k0_pay31 (F := Ideal)))
      (k0_pay49 (k0_pay12 (View.ld (iblk m c 3 t) (Rect.unit ![2, 0, 0] ![1, 128, 128] inb_S4x128x128_S1x128x128_2_0_0))) (k0_pay13 (View.ld (iblk m c 3 t) (Rect.unit ![3, 0, 0] ![1, 128, 128] inb_S4x128x128_S1x128x128_3_0_0))) (k0_pay14 (View.ld (iblk m c 4 t) (Rect.unit ![0, 0, 0] ![1, 1, 128] inb_S4x1x128_S1x1x128_0_0_0))) (k0_pay15 (View.ld (iblk m c 4 t) (Rect.unit ![1, 0, 0] ![1, 1, 128] inb_S4x1x128_S1x1x128_1_0_0))) (k0_pay16 (View.ld (iblk m c 4 t) (Rect.unit ![2, 0, 0] ![1, 1, 128] inb_S4x1x128_S1x1x128_2_0_0))) (k0_pay17 (View.ld (iblk m c 4 t) (Rect.unit ![3, 0, 0] ![1, 1, 128] inb_S4x1x128_S1x1x128_3_0_0))) (k0_pay30 (k0_pay7 (F := Ideal) (iblk m c 0 t)) (k0_pay9 (F := Ideal) (iblk m c 2 t))) (iota .tc S128x128 32 [0] iota_S128x128_d0_w32) (iota .tc S128x128 32 [1] iota_S128x128_d1_w32) (k0_pay31 (F := Ideal)) (k0_pay33 (k0_pay10 (View.ld (iblk m c 3 t) (Rect.unit ![0, 0, 0] ![1, 128, 128] inb_S4x128x128_S1x128x128_0_0_0)))) (k0_pay35 (k0_pay11 (View.ld (iblk m c 3 t) (Rect.unit ![1, 0, 0] ![1, 128, 128] inb_S4x128x128_S1x128x128_1_0_0)))))
      (k0_pay55 (k0_pay33 (k0_pay10 (View.ld (iblk m c 3 t) (Rect.unit ![0, 0, 0] ![1, 128, 128] inb_S4x128x128_S1x128x128_0_0_0)))) (k0_pay35 (k0_pay11 (View.ld (iblk m c 3 t) (Rect.unit ![1, 0, 0] ![1, 128, 128] inb_S4x128x128_S1x128x128_1_0_0)))) (k0_pay37 (k0_pay12 (View.ld (iblk m c 3 t) (Rect.unit ![2, 0, 0] ![1, 128, 128] inb_S4x128x128_S1x128x128_2_0_0))) (iota .tc S128x128 32 [0] iota_S128x128_d0_w32) (iota .tc S128x128 32 [1] iota_S128x128_d1_w32)) (k0_pay39 (k0_pay13 (View.ld (iblk m c 3 t) (Rect.unit ![3, 0, 0] ![1, 128, 128] inb_S4x128x128_S1x128x128_3_0_0))) (iota .tc S128x128 32 [0] iota_S128x128_d0_w32) (iota .tc S128x128 32 [1] iota_S128x128_d1_w32)) (k0_pay40 (k0_pay14 (View.ld (iblk m c 4 t) (Rect.unit ![0, 0, 0] ![1, 1, 128] inb_S4x1x128_S1x1x128_0_0_0))) (k0_pay31 (F := Ideal))) (k0_pay41 (k0_pay15 (View.ld (iblk m c 4 t) (Rect.unit ![1, 0, 0] ![1, 1, 128] inb_S4x1x128_S1x1x128_1_0_0))) (k0_pay31 (F := Ideal))) (k0_pay42 (k0_pay16 (View.ld (iblk m c 4 t) (Rect.unit ![2, 0, 0] ![1, 1, 128] inb_S4x1x128_S1x1x128_2_0_0))) (k0_pay31 (F := Ideal))) (k0_pay43 (k0_pay17 (View.ld (iblk m c 4 t) (Rect.unit ![3, 0, 0] ![1, 1, 128] inb_S4x1x128_S1x1x128_3_0_0))) (k0_pay31 (F := Ideal))) (k0_pay50 (k0_pay30 (k0_pay7 (F := Ideal) (iblk m c 0 t)) (k0_pay9 (F := Ideal) (iblk m c 2 t)))) (k0_pay51 (k0_pay30 (k0_pay7 (F := Ideal) (iblk m c 0 t)) (k0_pay9 (F := Ideal) (iblk m c 2 t)))))
      (k0_pay61 (k0_pay30 (k0_pay7 (F := Ideal) (iblk m c 0 t)) (k0_pay9 (F := Ideal) (iblk m c 2 t))) (k0_pay33 (k0_pay10 (View.ld (iblk m c 3 t) (Rect.unit ![0, 0, 0] ![1, 128, 128] inb_S4x128x128_S1x128x128_0_0_0)))) (k0_pay35 (k0_pay11 (View.ld (iblk m c 3 t) (Rect.unit ![1, 0, 0] ![1, 128, 128] inb_S4x128x128_S1x128x128_1_0_0)))) (k0_pay37 (k0_pay12 (View.ld (iblk m c 3 t) (Rect.unit ![2, 0, 0] ![1, 128, 128] inb_S4x128x128_S1x128x128_2_0_0))) (iota .tc S128x128 32 [0] iota_S128x128_d0_w32) (iota .tc S128x128 32 [1] iota_S128x128_d1_w32)) (k0_pay39 (k0_pay13 (View.ld (iblk m c 3 t) (Rect.unit ![3, 0, 0] ![1, 128, 128] inb_S4x128x128_S1x128x128_3_0_0))) (iota .tc S128x128 32 [0] iota_S128x128_d0_w32) (iota .tc S128x128 32 [1] iota_S128x128_d1_w32)) (k0_pay40 (k0_pay14 (View.ld (iblk m c 4 t) (Rect.unit ![0, 0, 0] ![1, 1, 128] inb_S4x1x128_S1x1x128_0_0_0))) (k0_pay31 (F := Ideal))) (k0_pay41 (k0_pay15 (View.ld (iblk m c 4 t) (Rect.unit ![1, 0, 0] ![1, 1, 128] inb_S4x1x128_S1x1x128_1_0_0))) (k0_pay31 (F := Ideal))) (k0_pay42 (k0_pay16 (View.ld (iblk m c 4 t) (Rect.unit ![2, 0, 0] ![1, 1, 128] inb_S4x1x128_S1x1x128_2_0_0))) (k0_pay31 (F := Ideal))) (k0_pay43 (k0_pay17 (View.ld (iblk m c 4 t) (Rect.unit ![3, 0, 0] ![1, 1, 128] inb_S4x1x128_S1x1x128_3_0_0))) (k0_pay31 (F := Ideal))))
      (k0_pay62 (k0_pay30 (k0_pay7 (F := Ideal) (iblk m c 0 t)) (k0_pay9 (F := Ideal) (iblk m c 2 t)))) (k0_pay63 (k0_pay30 (k0_pay7 (F := Ideal) (iblk m c 0 t)) (k0_pay9 (F := Ideal) (iblk m c 2 t)))) (ix2 r j)
      = (es (m ((c : Thread nD τ).loc main_arg4)) (row t r)) j * gate ((zs (m ((c : Thread nD τ).loc main_arg0)) (row t r)) j) * mixture (group (uv (m ((c : Thread nD τ).loc main_arg0))) ⟨(row t r).val / 128, by omega⟩) (fun i => (m ((c : Thread nD τ).loc main_arg1)) (ix1 i)) (fun h p q => (m ((c : Thread nD τ).loc main_arg2)) (ix3 h p q)) (fun h p => (m ((c : Thread nD τ).loc main_arg3)) (ix2 h p)) ⟨(row t r).val % 128, by omega⟩ j := by
  refine (through_gate _ _ _ _ _ _ _ _ _ _ _ _ _ _ r j _ (mixed_row m c t r j)).trans ?_
  rw [block_z, block_cot]

/-- The gradient of the gate's input. -/
theorem gate_row (c : Dev nD) (t : Fin cfg0.N) (r j : Fin 512) : k0_pay70 (F := Ideal) (k0_pay8 (F := Ideal) (iblk m c 1 t)) (iblk m c 5 t) (k0_pay24 (k0_pay7 (F := Ideal) (iblk m c 0 t))) (k0_pay33 (k0_pay10 (View.ld (iblk m c 3 t) (Rect.unit ![0, 0, 0] ![1, 128, 128] inb_S4x128x128_S1x128x128_0_0_0)))) (k0_pay35 (k0_pay11 (View.ld (iblk m c 3 t) (Rect.unit ![1, 0, 0] ![1, 128, 128] inb_S4x128x128_S1x128x128_1_0_0)))) (k0_pay37 (k0_pay12 (View.ld (iblk m c 3 t) (Rect.unit ![2, 0, 0] ![1, 128, 128] inb_S4x128x128_S1x128x128_2_0_0))) (iota .tc S128x128 32 [0] iota_S128x128_d0_w32) (iota .tc S128x128 32 [1] iota_S128x128_d1_w32)) (k0_pay39 (k0_pay13 (View.ld (iblk m c 3 t) (Rect.unit ![3, 0, 0] ![1, 128, 128] inb_S4x128x128_S1x128x128_3_0_0))) (iota .tc S128x128 32 [0] iota_S128x128_d0_w32) (iota .tc S128x128 32 [1] iota_S128x128_d1_w32)) (k0_pay40 (k0_pay14 (View.ld (iblk m c 4 t) (Rect.unit ![0, 0, 0] ![1, 1, 128] inb_S4x1x128_S1x1x128_0_0_0))) (k0_pay31 (F := Ideal))) (k0_pay41 (k0_pay15 (View.ld (iblk m c 4 t) (Rect.unit ![1, 0, 0] ![1, 1, 128] inb_S4x1x128_S1x1x128_1_0_0))) (k0_pay31 (F := Ideal))) (k0_pay42 (k0_pay16 (View.ld (iblk m c 4 t) (Rect.unit ![2, 0, 0] ![1, 1, 128] inb_S4x1x128_S1x1x128_2_0_0))) (k0_pay31 (F := Ideal))) (k0_pay43 (k0_pay17 (View.ld (iblk m c 4 t) (Rect.unit ![3, 0, 0] ![1, 1, 128] inb_S4x1x128_S1x1x128_3_0_0))) (k0_pay31 (F := Ideal)))
      (k0_pay49 (k0_pay12 (View.ld (iblk m c 3 t) (Rect.unit ![2, 0, 0] ![1, 128, 128] inb_S4x128x128_S1x128x128_2_0_0))) (k0_pay13 (View.ld (iblk m c 3 t) (Rect.unit ![3, 0, 0] ![1, 128, 128] inb_S4x128x128_S1x128x128_3_0_0))) (k0_pay14 (View.ld (iblk m c 4 t) (Rect.unit ![0, 0, 0] ![1, 1, 128] inb_S4x1x128_S1x1x128_0_0_0))) (k0_pay15 (View.ld (iblk m c 4 t) (Rect.unit ![1, 0, 0] ![1, 1, 128] inb_S4x1x128_S1x1x128_1_0_0))) (k0_pay16 (View.ld (iblk m c 4 t) (Rect.unit ![2, 0, 0] ![1, 1, 128] inb_S4x1x128_S1x1x128_2_0_0))) (k0_pay17 (View.ld (iblk m c 4 t) (Rect.unit ![3, 0, 0] ![1, 1, 128] inb_S4x1x128_S1x1x128_3_0_0))) (k0_pay30 (k0_pay7 (F := Ideal) (iblk m c 0 t)) (k0_pay9 (F := Ideal) (iblk m c 2 t))) (iota .tc S128x128 32 [0] iota_S128x128_d0_w32) (iota .tc S128x128 32 [1] iota_S128x128_d1_w32) (k0_pay31 (F := Ideal)) (k0_pay33 (k0_pay10 (View.ld (iblk m c 3 t) (Rect.unit ![0, 0, 0] ![1, 128, 128] inb_S4x128x128_S1x128x128_0_0_0)))) (k0_pay35 (k0_pay11 (View.ld (iblk m c 3 t) (Rect.unit ![1, 0, 0] ![1, 128, 128] inb_S4x128x128_S1x128x128_1_0_0)))))
      (k0_pay55 (k0_pay33 (k0_pay10 (View.ld (iblk m c 3 t) (Rect.unit ![0, 0, 0] ![1, 128, 128] inb_S4x128x128_S1x128x128_0_0_0)))) (k0_pay35 (k0_pay11 (View.ld (iblk m c 3 t) (Rect.unit ![1, 0, 0] ![1, 128, 128] inb_S4x128x128_S1x128x128_1_0_0)))) (k0_pay37 (k0_pay12 (View.ld (iblk m c 3 t) (Rect.unit ![2, 0, 0] ![1, 128, 128] inb_S4x128x128_S1x128x128_2_0_0))) (iota .tc S128x128 32 [0] iota_S128x128_d0_w32) (iota .tc S128x128 32 [1] iota_S128x128_d1_w32)) (k0_pay39 (k0_pay13 (View.ld (iblk m c 3 t) (Rect.unit ![3, 0, 0] ![1, 128, 128] inb_S4x128x128_S1x128x128_3_0_0))) (iota .tc S128x128 32 [0] iota_S128x128_d0_w32) (iota .tc S128x128 32 [1] iota_S128x128_d1_w32)) (k0_pay40 (k0_pay14 (View.ld (iblk m c 4 t) (Rect.unit ![0, 0, 0] ![1, 1, 128] inb_S4x1x128_S1x1x128_0_0_0))) (k0_pay31 (F := Ideal))) (k0_pay41 (k0_pay15 (View.ld (iblk m c 4 t) (Rect.unit ![1, 0, 0] ![1, 1, 128] inb_S4x1x128_S1x1x128_1_0_0))) (k0_pay31 (F := Ideal))) (k0_pay42 (k0_pay16 (View.ld (iblk m c 4 t) (Rect.unit ![2, 0, 0] ![1, 1, 128] inb_S4x1x128_S1x1x128_2_0_0))) (k0_pay31 (F := Ideal))) (k0_pay43 (k0_pay17 (View.ld (iblk m c 4 t) (Rect.unit ![3, 0, 0] ![1, 1, 128] inb_S4x1x128_S1x1x128_3_0_0))) (k0_pay31 (F := Ideal))) (k0_pay50 (k0_pay30 (k0_pay7 (F := Ideal) (iblk m c 0 t)) (k0_pay9 (F := Ideal) (iblk m c 2 t)))) (k0_pay51 (k0_pay30 (k0_pay7 (F := Ideal) (iblk m c 0 t)) (k0_pay9 (F := Ideal) (iblk m c 2 t)))))
      (k0_pay61 (k0_pay30 (k0_pay7 (F := Ideal) (iblk m c 0 t)) (k0_pay9 (F := Ideal) (iblk m c 2 t))) (k0_pay33 (k0_pay10 (View.ld (iblk m c 3 t) (Rect.unit ![0, 0, 0] ![1, 128, 128] inb_S4x128x128_S1x128x128_0_0_0)))) (k0_pay35 (k0_pay11 (View.ld (iblk m c 3 t) (Rect.unit ![1, 0, 0] ![1, 128, 128] inb_S4x128x128_S1x128x128_1_0_0)))) (k0_pay37 (k0_pay12 (View.ld (iblk m c 3 t) (Rect.unit ![2, 0, 0] ![1, 128, 128] inb_S4x128x128_S1x128x128_2_0_0))) (iota .tc S128x128 32 [0] iota_S128x128_d0_w32) (iota .tc S128x128 32 [1] iota_S128x128_d1_w32)) (k0_pay39 (k0_pay13 (View.ld (iblk m c 3 t) (Rect.unit ![3, 0, 0] ![1, 128, 128] inb_S4x128x128_S1x128x128_3_0_0))) (iota .tc S128x128 32 [0] iota_S128x128_d0_w32) (iota .tc S128x128 32 [1] iota_S128x128_d1_w32)) (k0_pay40 (k0_pay14 (View.ld (iblk m c 4 t) (Rect.unit ![0, 0, 0] ![1, 1, 128] inb_S4x1x128_S1x1x128_0_0_0))) (k0_pay31 (F := Ideal))) (k0_pay41 (k0_pay15 (View.ld (iblk m c 4 t) (Rect.unit ![1, 0, 0] ![1, 1, 128] inb_S4x1x128_S1x1x128_1_0_0))) (k0_pay31 (F := Ideal))) (k0_pay42 (k0_pay16 (View.ld (iblk m c 4 t) (Rect.unit ![2, 0, 0] ![1, 1, 128] inb_S4x1x128_S1x1x128_2_0_0))) (k0_pay31 (F := Ideal))) (k0_pay43 (k0_pay17 (View.ld (iblk m c 4 t) (Rect.unit ![3, 0, 0] ![1, 1, 128] inb_S4x1x128_S1x1x128_3_0_0))) (k0_pay31 (F := Ideal))))
      (k0_pay62 (k0_pay30 (k0_pay7 (F := Ideal) (iblk m c 0 t)) (k0_pay9 (F := Ideal) (iblk m c 2 t)))) (k0_pay63 (k0_pay30 (k0_pay7 (F := Ideal) (iblk m c 0 t)) (k0_pay9 (F := Ideal) (iblk m c 2 t)))) (ix2 r j)
      = Cert.Reference14Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) j) := by
  refine (through_result _ _ _ _ _ _ _ _ _ _ _ _ _ _ _ r j _ (mixed_row m c t r j)).trans ?_
  rw [ref_gates, block_z, block_cot, left_at, units_row]

/-- A stored entry, from the gradients that reach the two halves and the gate. -/
theorem stored_row (c : Dev nD) (t : Fin cfg0.N) (dz du dv : FVec Ideal S512x512 .f32)
    (hz : ∀ r j, dz (ix2 r j) = Cert.Reference14Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) j))
    (hu : ∀ r j, du (ix2 r j) = (es (m ((c : Thread nD τ).loc main_arg4)) (row t r)) j * gate ((zs (m ((c : Thread nD τ).loc main_arg0)) (row t r)) j) * mixture (group (uv (m ((c : Thread nD τ).loc main_arg0))) ⟨(row t r).val / 128, by omega⟩) (fun i => (m ((c : Thread nD τ).loc main_arg1)) (ix1 i)) (fun h p q => (m ((c : Thread nD τ).loc main_arg2)) (ix3 h p q)) (fun h p => (m ((c : Thread nD τ).loc main_arg3)) (ix2 h p)) ⟨(row t r).val % 128, by omega⟩ j)
    (hv : ∀ r j, dv (ix2 r j) = carried (group (uv (m ((c : Thread nD τ).loc main_arg0))) ⟨(row t r).val / 128, by omega⟩) (group (zs (m ((c : Thread nD τ).loc main_arg0))) ⟨(row t r).val / 128, by omega⟩) (group (es (m ((c : Thread nD τ).loc main_arg4))) ⟨(row t r).val / 128, by omega⟩) (fun h p q => (m ((c : Thread nD τ).loc main_arg2)) (ix3 h p q)) ⟨(row t r).val % 128, by omega⟩ j) (r : Fin 512) (j : Fin 1536) :
    k0_pay146 (k0_pay7 (F := Ideal) (iblk m c 0 t)) (k0_pay18 (k0_pay7 (F := Ideal) (iblk m c 0 t))) (k0_pay19 (k0_pay7 (F := Ideal) (iblk m c 0 t))) (k0_pay21 (k0_pay7 (F := Ideal) (iblk m c 0 t))) (k0_pay22 (k0_pay7 (F := Ideal) (iblk m c 0 t))) (k0_pay25 (k0_pay7 (F := Ideal) (iblk m c 0 t))) dz du (k0_pay144 (k0_pay9 (F := Ideal) (iblk m c 2 t)) (k0_pay27 (k0_pay7 (F := Ideal) (iblk m c 0 t))) dv) (k0_pay145 (k0_pay9 (F := Ideal) (iblk m c 2 t)) (k0_pay25 (k0_pay7 (F := Ideal) (iblk m c 0 t))) (k0_pay28 (k0_pay7 (F := Ideal) (iblk m c 0 t))) dv) (ix2 r j)
      = Cert.Reference14Ideal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) ⟨6144 + j.val, by omega⟩) := by
  rcases Nat.lt_or_ge j.val 1024 with h | h
  · have e : j = ⟨(⟨j.val, h⟩ : Fin 1024).val, by omega⟩ := rfl
    have hr := ref_cols_units (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) ⟨j.val, h⟩
    refine (units_at _ _ _ _ _ r ⟨j.val, h⟩).trans (Eq.trans ?_ hr.symm)
    rw [ref_units, block_uv]
    refine congrArg _ ?_
    unfold reach
    by_cases h5 : j.val < 512
    · rw [dif_pos h5, dif_pos h5, hu, group_self, group_self]
    · rw [dif_neg h5, dif_neg h5, units_row, group_self]
      simp only [hv, block_gain]
  · have hb (j' : Fin 512) : 1024 + j'.val < 1536 := by omega
    obtain ⟨j', hj'⟩ : ∃ j' : Fin 512, j = ⟨1024 + j'.val, hb j'⟩ := ⟨⟨j.val - 1024, by omega⟩, Fin.ext (by show j.val = 1024 + (j.val - 1024); omega)⟩
    subst hj'
    have hr := ref_cols_gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) j'
    refine (gates_at _ _ _ _ _ r j').trans ((hz r j').trans (hr.symm.trans ?_))
    exact congrArg _ (congrArg _ (Fin.ext (by show 7168 + j'.val = 6144 + (1024 + j'.val); omega)))

/-- The columns a point stores are the reference's. -/
theorem point6 (c : Dev nD) (t : Fin cfg0.N) (dz du dv : FVec Ideal S512x512 .f32)
    (hz : ∀ r j, dz (ix2 r j) = Cert.Reference14Ideal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) j))
    (hu : ∀ r j, du (ix2 r j) = (es (m ((c : Thread nD τ).loc main_arg4)) (row t r)) j * gate ((zs (m ((c : Thread nD τ).loc main_arg0)) (row t r)) j) * mixture (group (uv (m ((c : Thread nD τ).loc main_arg0))) ⟨(row t r).val / 128, by omega⟩) (fun i => (m ((c : Thread nD τ).loc main_arg1)) (ix1 i)) (fun h p q => (m ((c : Thread nD τ).loc main_arg2)) (ix3 h p q)) (fun h p => (m ((c : Thread nD τ).loc main_arg3)) (ix2 h p)) ⟨(row t r).val % 128, by omega⟩ j)
    (hv : ∀ r j, dv (ix2 r j) = carried (group (uv (m ((c : Thread nD τ).loc main_arg0))) ⟨(row t r).val / 128, by omega⟩) (group (zs (m ((c : Thread nD τ).loc main_arg0))) ⟨(row t r).val / 128, by omega⟩) (group (es (m ((c : Thread nD τ).loc main_arg4))) ⟨(row t r).val / 128, by omega⟩) (fun h p q => (m ((c : Thread nD τ).loc main_arg2)) (ix3 h p q)) ⟨(row t r).val % 128, by omega⟩ j)
    (y : ((cfg0.win 6).xblock (cfg0.grid.coords t)).Idx) (x : S512x1536.Idx) (h0 : (y 0).val = (x 0).val) (h1 : (y 1).val = (x 1).val) :
    k0_pay146 (k0_pay7 (F := Ideal) (iblk m c 0 t)) (k0_pay18 (k0_pay7 (F := Ideal) (iblk m c 0 t))) (k0_pay19 (k0_pay7 (F := Ideal) (iblk m c 0 t))) (k0_pay21 (k0_pay7 (F := Ideal) (iblk m c 0 t))) (k0_pay22 (k0_pay7 (F := Ideal) (iblk m c 0 t))) (k0_pay25 (k0_pay7 (F := Ideal) (iblk m c 0 t))) dz du (k0_pay144 (k0_pay9 (F := Ideal) (iblk m c 2 t)) (k0_pay27 (k0_pay7 (F := Ideal) (iblk m c 0 t))) dv) (k0_pay145 (k0_pay9 (F := Ideal) (iblk m c 2 t)) (k0_pay25 (k0_pay7 (F := Ideal) (iblk m c 0 t))) (k0_pay28 (k0_pay7 (F := Ideal) (iblk m c 0 t))) dv) x
      = Cert.Reference14Ideal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) :=
  (congrArg _ (eq_ix2 x)).trans ((stored_row m c t dz du dv hz hu hv (x 0) (x 1)).trans (congrArg _ (emb6 t y (x 0) (x 1) h0 h1).symm))

/-- The gradients fill columns 6144 to 7679; the others keep what they held. -/
theorem stored6 (c : Dev nD) : (dats m 0 c).arrAt 6 (cfgs 0).N
    = fun i => if 6144 ≤ (i 1).val ∧ (i 1).val < 7680 then Cert.Reference14Ideal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i
        else V m c main_v2_0 i := by
  refine (dats m 0 c).arrAt_eq_of_coversWhere 6 _ (fun β => β (1 : Fin 2) = 4) (by decide +kernel) (fun t hf y => ?_)
    (fun j => by blk_simp [Pipeline.Window.cell_apply]; omega)
  blk_simp; rw [after0_6]
  by_cases h : t.val % 4 = 0
  · rw [outsAt0_A m c t h]; frame_out; exact point6 m c t _ _ _ (gate_row m c t) (first_row m c t) (carried_row m c t) y _ rfl rfl
  · rw [outsAt0_B m c t h]; frame_out; exact point6 m c t _ _ _ (gate_row m c t) (first_row m c t) (carried_row m c t) y _ rfl rfl

theorem final6 (c : Dev nD) : (dats m 0 c).arrAt 6 (cfgs 0).N
    = Cert.Reference14Ideal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [stored6]
  funext i
  by_cases h : 6144 ≤ (i 1).val ∧ (i 1).val < 7680
  · rw [if_pos h]
  · rw [if_neg h, eq_ix2 i, ref_cols_kept _ _ _ _ _ _ (i 0) (i 1) h]
    entry_read
    rfl

end Cert.Kernel14Ideal.GatingBwdValue

end
-- ==== Proof.GatingBwdClaims.lean ====
module

public import proofs.«01_k».proof.Defs
public import proofs.«01_k».proof.Proof.GatingBwdValue
public import proofs.«01_k».proof.Proof.Gen.Kernel14Ideal.Value
public import proofs.«01_k».proof.Proof.Gen.Reference14Ideal.Run
public import proofs.«01_k».proof.Proof.Gen.Reference14Ideal.Read
public import Idealize.ShloMosaic.Lib.Claim

/-! The gradient of the spatial gating: the claims of this call. -/

@[expose] public section

set_option maxRecDepth 16384

noncomputable section

namespace Cert.Proof.GmB

open Idealize.ShloMosaic Idealize.ShloMosaic.TcCoe Idealize.SL.Sem

theorem frame_reference14 : Cert.quiescent_Reference14Ideal := by
  intro m g _
  exact (θ_run Cert.Reference14Ideal.defs _ _).mono (fun r h => ⟨fun c => (h c).2.2.2.2, sem_eq_zero_of_no_sems (by decide) r.2⟩)
    (Cert.Reference14Ideal.Value.run (F := Ideal) m g)

theorem algebraic14 : Cert.algebraic_Kernel14Ideal_Reference14Ideal := by
  intro m g m' g' _ hagree
  refine ⟨fun c => Cert.Reference14Ideal.Read.val_main_v107 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg4)), fun c => Cert.Reference14Ideal.Read.val_main_v72 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg4)), fun c => Cert.Reference14Ideal.Read.val_main_v108 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg4)), fun c => Cert.Reference14Ideal.Read.val_main_v113 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)), ?_, ?_⟩
  · refine (θ_run Cert.Kernel14Ideal.defs _ _).mono (fun r h c => ?_) (Cert.Kernel14Ideal.Value.run_blocks (F := Ideal) m g)
    obtain ⟨h3, h0, h1, h2, ha⟩ := h c
    exact ⟨h0.trans (Cert.Kernel14Ideal.GatingBwdValue.final7 m c), h1.trans (Cert.Kernel14Ideal.GatingBwdValue.final8 m c), h2.trans (Cert.Kernel14Ideal.GatingBwdValue.final9 m c), h3.trans (Cert.Kernel14Ideal.GatingBwdValue.final6 m c), ha⟩
  · refine (θ_run Cert.Reference14Ideal.defs _ _).mono (fun r h c => ?_) (Cert.Reference14Ideal.Value.run (F := Ideal) m' g')
    obtain ⟨h0, h1, h2, h3, ha⟩ := h c
    obtain ⟨e0, e1, e2, e3, e4, e5⟩ := hagree c
    exact ⟨h0.trans ((Cert.Reference14Ideal.Read.val_main_v107_eq _).trans (show Cert.Reference14Ideal.Read.val_main_v107 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg4)) = _ from by rw [e0, e2, e4])), h1.trans ((Cert.Reference14Ideal.Read.val_main_v72_eq _).trans (show Cert.Reference14Ideal.Read.val_main_v72 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg4)) = _ from by rw [e0, e1, e4])), h2.trans ((Cert.Reference14Ideal.Read.val_main_v108_eq _).trans (show Cert.Reference14Ideal.Read.val_main_v108 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg4)) = _ from by rw [e0, e4])), h3.trans ((Cert.Reference14Ideal.Read.val_main_v113_eq _).trans (show Cert.Reference14Ideal.Read.val_main_v113 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) (m' ((c.tc : Thread Cert.Reference14Ideal.nD Cert.Reference14Ideal.τ).loc Cert.Reference14Ideal.main_arg4)) (m' ((c.tc : Thread Cert.Reference14Ideal.nD Cert.Reference14Ideal.τ).loc Cert.Reference14Ideal.main_arg5)) = _ from by rw [e0, e1, e2, e3, e4, e5])), ha⟩

end Cert.Proof.GmB

end
-- ==== Proof.InProjDxValue.lean ====
module

public import proofs.«01_k».proof.Proof.Gen.Kernel2Ideal.Frame
public import proofs.«01_k».proof.Proof.Gen.Reference2Ideal.Read
public import Idealize.ShloMosaic.Lib.Pipeline.ValueKit
public import Idealize.ShloMosaic.Lib.Pointwise

/-! The gradient of the input projection with respect to its rows: five points of the grid, a fifth of the columns each, add up to one block of it. -/

@[expose] public section

set_option maxRecDepth 16384

noncomputable section

open Idealize.ShloMosaic Idealize.ShloMosaic.TcCoe Idealize.SL.Sem
open Idealize.ShloMosaic.Pipeline (Dat)

namespace Cert.Kernel2Ideal.InProjDxValue

open Cert.Kernel2Ideal Cert.Kernel2Ideal.Gen
open Cert.Reference2Ideal.Read

variable (m : (ℓ : Loc nD τ sig) → Buf (Elt Ideal) ℓ)

/-- Which block of its array each window stands at, at every point of the grid. -/
theorem idx : ∀ t : Fin cfg0.N, win0_0.index t = ![t.val / 5, t.val % 5]
    ∧ win0_1.index t = ![t.val % 5, 0]
    ∧ win0_2.index t = ![t.val / 5, 0] :=
  (by decide +kernel : ∀ t : Fin grid0.N, _)

/-- What a point adds to its block. -/
def part (a : FVec Ideal S1024x2048 .bf16) (b : FVec Ideal S2048x1024 .bf16) (j : S1024x1024.Idx) : EReal :=
  ∑ k : Fin 2048, a (ix2 (j 0) k) * b (ix2 k (j 1))

/-- The block after the run is the sum of the five parts, which is the reference's product. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => (outsAt0 m c n h)) 5 (fun _ => 0)
    (fun t j => part (iblk m c 0 t) (iblk m c 1 t) j)
    (fun t h j => by rw [outsAt0_A m c t h (by omega)]; frame_out; rw [zero_add]; pointwise [part, k0_pay1])
    (fun t h j => by rw [outsAt0_B m c t h (by omega)]; frame_out; pointwise [part, k0_pay2, k0_pay1])
    t ((flush0_2 t).mp hf) _, zero_add]
  pointwise [part, val_main_v5, val_main_v4, val_main_v2, val_main_v1]
  refine Fin.sum_mul_add_congr fun s k hl => ?_
  blk_point [iblk, V, idx t, idx ⟨_, Pipeline.run_point_lt_of_flush t ((flush0_2 t).mp hf) s⟩]

end Cert.Kernel2Ideal.InProjDxValue

end
-- ==== Proof.InProjDwValue.lean ====
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise

/-! The gradient of the input projection with respect to its weights: every point of the grid computes 1024 rows of it. -/

@[expose] public section

set_option maxRecDepth 16384

noncomputable section

open Idealize.ShloMosaic Idealize.ShloMosaic.TcCoe Idealize.SL.Sem
open Idealize.ShloMosaic.Pipeline (Dat)

namespace Cert.Kernel3Ideal.InProjDwValue

open Cert.Kernel3Ideal Cert.Kernel3Ideal.Gen
open Cert.Reference3Ideal.Read

variable (m : (ℓ : Loc nD τ sig) → Buf (Elt Ideal) ℓ)

/-- Which block of its array each window stands at, at every point of the grid. -/
theorem idx : ∀ t : Fin cfg0.N, win0_0.index t = ![0, t.val]
    ∧ win0_1.index t = ![0, 0]
    ∧ win0_2.index t = ![t.val, 0] :=
  (by decide +kernel : ∀ t : Fin grid0.N, _)

/-- What a point stores is the reference's array at the block's place. -/
theorem point (c : Dev nD) (t : Fin cfg0.N) (y) :
    k0_pay1 (F := Ideal) (iblk m c 0 t) (iblk m c 1 t) y
      = val_main_v8 (F := Ideal) (m ((c : Thread nD τ).loc main_arg0)) (m ((c : Thread nD τ).loc main_arg1)) (((cfg0.win 2).blk t).view.emb y) := by
  pointwise [k0_pay1, val_main_v8, val_main_v7, val_main_v6, val_main_v5, val_main_v4, val_main_v1]
  blk_point [iblk, V, idx t]

/-- The result array after the run. -/
theorem final (c : Dev nD) : (dats m 0 c).arrAt 2 (cfgs 0).N
    = val_main_v8 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel3Ideal.InProjDwValue

end
-- ==== Proof.InProjValue.lean ====
module

public import proofs.«01_k».proof.Proof.Gen.Kernel4Ideal.Frame
public import proofs.«01_k».proof.Proof.Gen.Reference4Ideal.Read
public import Idealize.ShloMosaic.Lib.Pipeline.ValueKit
public import Idealize.ShloMosaic.Lib.Pointwise

/-! The input projection: every point of the grid computes 2048 columns of it. -/

@[expose] public section

set_option maxRecDepth 16384

noncomputable section

open Idealize.ShloMosaic Idealize.ShloMosaic.TcCoe Idealize.SL.Sem
open Idealize.ShloMosaic.Pipeline (Dat)

namespace Cert.Kernel4Ideal.InProjValue

open Cert.Kernel4Ideal Cert.Kernel4Ideal.Gen
open Cert.Reference4Ideal.Read

variable (m : (ℓ : Loc nD τ sig) → Buf (Elt Ideal) ℓ)

/-- Which block of its array each window stands at, at every point of the grid. -/
theorem idx : ∀ t : Fin cfg0.N, win0_0.index t = ![0, 0]
    ∧ win0_1.index t = ![t.val, 0]
    ∧ win0_2.index t = ![0, t.val] :=
  (by decide +kernel : ∀ t : Fin grid0.N, _)

/-- What a point stores is the reference's array at the block's place. -/
theorem point (c : Dev nD) (t : Fin cfg0.N) (y) :
    k0_pay1 (F := Ideal) (iblk m c 0 t) (iblk m c 1 t) y
      = val_main_v4 (F := Ideal) (m ((c : Thread nD τ).loc main_arg0)) (m ((c : Thread nD τ).loc main_arg1)) (((cfg0.win 2).blk t).view.emb y) := by
  pointwise [k0_pay1, val_main_v4, val_main_v3, val_main_v2, val_main_v1, val_main_v0]
  blk_point [iblk, V, idx t]

/-- The result array after the run. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel4Ideal.InProjValue

end
-- ==== Proof.InProjClaims.lean ====
module

public import proofs.«01_k».proof.Defs
public import proofs.«01_k».proof.Proof.InProjDxValue
public import proofs.«01_k».proof.Proof.InProjDwValue
public import proofs.«01_k».proof.Proof.InProjValue
public import proofs.«01_k».proof.Proof.Gen.Reference2Ideal.Run
public import proofs.«01_k».proof.Proof.Gen.Reference3Ideal.Run
public import proofs.«01_k».proof.Proof.Gen.Reference4Ideal.Run
public import Idealize.ShloMosaic.Lib.Claim

/-! The input projection and its two gradients: the claims of these calls, assembled from the values of
    their results. -/

@[expose] public section

set_option maxRecDepth 16384

noncomputable section

namespace Cert.Proof.InProj

open Idealize.ShloMosaic Idealize.ShloMosaic.TcCoe Idealize.SL.Sem

theorem frame_reference2 : Cert.quiescent_Reference2Ideal := by
  intro m g _
  exact (θ_run Cert.Reference2Ideal.defs _ _).mono (fun r h => ⟨fun c => (h c).2, sem_eq_zero_of_no_sems (by decide) r.2⟩)
    (Cert.Reference2Ideal.Value.run (F := Ideal) m g)

theorem frame_reference3 : Cert.quiescent_Reference3Ideal := by
  intro m g _
  exact (θ_run Cert.Reference3Ideal.defs _ _).mono (fun r h => ⟨fun c => (h c).2, sem_eq_zero_of_no_sems (by decide) r.2⟩)
    (Cert.Reference3Ideal.Value.run (F := Ideal) m g)

theorem frame_reference4 : Cert.quiescent_Reference4Ideal := by
  intro m g _
  exact (θ_run Cert.Reference4Ideal.defs _ _).mono (fun r h => ⟨fun c => (h c).2, sem_eq_zero_of_no_sems (by decide) r.2⟩)
    (Cert.Reference4Ideal.Value.run (F := Ideal) m g)

theorem algebraic2 : Cert.algebraic_Kernel2Ideal_Reference2Ideal := by
  pair_intro
  · run_from Cert.Kernel2Ideal.Gen.run_main m g
  · run_from Cert.Reference2Ideal.Value.run m' g'
    exact (Cert.Kernel2Ideal.InProjDxValue.final m c).symm

theorem algebraic3 : Cert.algebraic_Kernel3Ideal_Reference3Ideal := by
  pair_intro
  · run_from Cert.Kernel3Ideal.Gen.run_main m g
  · run_from Cert.Reference3Ideal.Value.run m' g'
    exact (Cert.Kernel3Ideal.InProjDwValue.final m c).symm

theorem algebraic4 : Cert.algebraic_Kernel4Ideal_Reference4Ideal := by
  pair_intro
  · run_from Cert.Kernel4Ideal.Gen.run_main m g
  · run_from Cert.Reference4Ideal.Value.run m' g'
    exact (Cert.Kernel4Ideal.InProjValue.final m c).symm

end Cert.Proof.InProj

end
-- ==== Proof.PrenormValue.lean ====
module

public import proofs.«01_k».proof.Proof.Gen.Kernel6Ideal.Frame
public import proofs.«01_k».proof.Proof.Gen.Reference6Ideal.Read
public import Idealize.ShloMosaic.Lib.Pipeline.ValueKit
public import Idealize.ShloMosaic.Lib.Pointwise

/-! The gradient of the normalisation before the input projection: the row blocks are taken from the last to the first,
    the gain gradient is summed over them. -/

@[expose] public section

set_option maxRecDepth 16384

noncomputable section

open Idealize.ShloMosaic Idealize.ShloMosaic.TcCoe Idealize.SL.Sem
open Idealize.ShloMosaic.Pipeline (Dat)

namespace Cert.Kernel6Ideal.PrenormValue

open Cert.Kernel6Ideal Cert.Kernel6Ideal.Gen
open Cert.Reference6Ideal.Read

variable (m : (ℓ : Loc nD τ sig) → Buf (Elt Ideal) ℓ)

/-- Which block of its array each window stands at, at every point of the grid: the row blocks run backwards. -/
theorem idx : ∀ t : Fin cfg0.N, win0_0.index t = ![3 - t.val, 0]
    ∧ win0_1.index t = ![0, 0]
    ∧ win0_2.index t = ![3 - t.val, 0]
    ∧ win0_3.index t = ![3 - t.val, 0]
    ∧ win0_4.index t = ![3 - t.val, 0]
    ∧ win0_5.index t = ![0, 0] :=
  (by decide +kernel : ∀ t : Fin grid0.N, _)

theorem points (t : Fin cfg0.N) : t.val < 4 := t.isLt

/-- The row of the whole array at row `k` of the block of point `t`. -/
def row (t : Fin cfg0.N) (k : Fin 512) : Fin 2048 := ⟨(3 - t.val) * 512 + k.val, by have := points t; omega⟩

/-- Taken backwards, the blocks' rows are the array's rows in their order. -/
theorem row_rev (s : Fin cfg0.N) (k : Fin 512) (h : s.val * 512 + k.val < 2048) : row (Fin.revPerm s) k = ⟨s.val * 512 + k.val, h⟩ := by
  have hs := points s
  refine Fin.ext ?_
  have e : (Fin.revPerm s).val = 4 - (s.val + 1) := rfl
  show (3 - (Fin.revPerm s).val) * 512 + k.val = _
  rw [e]; congr 2; omega

/-- The gradient of the block's input, at a block's place. -/
theorem point4 (c : Dev nD) (t : Fin cfg0.N) (y) :
    k0_pay1 (F := Ideal) (iblk m c 0 t) (k0_pay8 (iblk m c 0 t) (iblk m c 1 t) (iblk m c 2 t)) (k0_pay9 (iblk m c 0 t) (iblk m c 1 t) (iblk m c 2 t) (iblk m c 3 t)) y
      = val_main_v36 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, k0_pay5, k0_pay6, k0_pay7, k0_pay8, k0_pay9, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36, val_main_v37]
  blk_point [iblk, V, idx t]

theorem final4 (c : Dev nD) : (dats m 0 c).arrAt 4 (cfgs 0).N = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  by_cases h : t.val % 4 = 0
  · rw [outsAt0_A m c t h]; frame_out; exact point4 m c t y
  · rw [outsAt0_B m c t h]; frame_out; exact point4 m c t y

theorem final5 (c : Dev nD) : (dats m 0 c).arrAt 5 (cfgs 0).N = val_main_v37 (F := Ideal) (m ((c : Thread nD τ).loc main_arg0)) (m ((c : Thread nD τ).loc main_arg2)) := by
  refine (dats m 0 c).arrAt_eq_of_after_last 5 t0_3 (by decide +kernel) _ fun j => ?_
  blk_simp
  rw [after0_5, Pipeline.eq_sum_fin_of_reset_step_apply_last (fun n h => (outsAt0 m c n h).2) 4 (fun _ => 0)
    (fun n j => k0_pay6 (F := Ideal) (iblk m c 0 n) (iblk m c 2 n) j)
    (fun t h j => by rw [outsAt0_A m c t h]; frame_out; pointwise [k0_pay2, k0_pay3])
    (fun t h j => by rw [outsAt0_B m c t h]; frame_out; pointwise [k0_pay2])
    (le_of_eq N_0) t0_3 rfl j, zero_add]
  rw [← Equiv.sum_comp Fin.revPerm]
  pointwise [k0_pay4, k0_pay5, k0_pay6, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36, val_main_v37]
  refine Eq.trans ?_ (@Fin.sum_univ_one EReal _ _).symm
  refine Fin.sum_mul_add_congr fun s k hl => ?_
  rw [← row_rev s k hl]
  blk_point [iblk, V, idx (Fin.revPerm s), row]

end Cert.Kernel6Ideal.PrenormValue

end
-- ==== Proof.MemKvValue.lean ====
module

public import proofs.«01_k».proof.Proof.Gen.Kernel7Ideal.Frame
public import proofs.«01_k».proof.Proof.Gen.Reference7Ideal.Read
public import Idealize.ShloMosaic.Lib.Pipeline.ValueKit
public import Idealize.ShloMosaic.Lib.Pointwise

/-! The gradient of the memory branch's keys and values: one point computes the weight gradient and the gain gradient. -/

@[expose] public section

set_option maxRecDepth 16384

noncomputable section

open Idealize.ShloMosaic Idealize.ShloMosaic.TcCoe Idealize.SL.Sem
open Idealize.ShloMosaic.Pipeline (Dat)

namespace Cert.Kernel7Ideal.MemKvValue

open Cert.Kernel7Ideal Cert.Kernel7Ideal.Gen
open Cert.Reference7Ideal.Read

variable (m : (ℓ : Loc nD τ sig) → Buf (Elt Ideal) ℓ)

/-- Which block of its array each window stands at: the whole of it. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0] :=
  (by decide +kernel : ∀ t : Fin grid0.N, _)

/-- The gain gradient. -/
theorem final4 (c : Dev nD) : (dats m 0 c).arrAt 4 (cfgs 0).N = val_main_v22 (F := Ideal) (m ((c : Thread nD τ).loc main_arg0)) (m ((c : Thread nD τ).loc main_arg2)) (m ((c : Thread nD τ).loc main_arg3)) := by
  refine (dats m 0 c).arrAt_eq_of_covers 4 _ (by decide +kernel) fun t hf y => ?_
  blk_simp; rw [after0_4]; unfold outsAt0; frame_out
  pointwise [k0_pay1, k0_pay2, k0_pay3, k0_pay4, k0_pay5, k0_pay6, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v17, val_main_v18, val_main_cst_2, val_main_v19, val_main_v20, val_main_cst_3, val_main_v21, val_main_v22]
  refine Eq.trans ?_ (@Fin.sum_univ_one EReal _ _).symm
  blk_point [iblk, V, idx t]

/-- The weight gradient: the reference contracts the cotangent with the normalised memory and transposes. -/
theorem final5 (c : Dev nD) : (dats m 0 c).arrAt 5 (cfgs 0).N = val_main_v16 (F := Ideal) (m ((c : Thread nD τ).loc main_arg0)) (m ((c : Thread nD τ).loc main_arg1)) (m ((c : Thread nD τ).loc main_arg3)) := by
  refine (dats m 0 c).arrAt_eq_of_covers 5 _ (by decide +kernel) fun t hf y => ?_
  blk_simp; rw [after0_5]; unfold outsAt0; frame_out
  pointwise [k0_pay1, k0_pay2, k0_pay3, k0_pay4, k0_pay5, k0_pay6, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v17, val_main_v18, val_main_cst_2, val_main_v19, val_main_v20, val_main_cst_3, val_main_v21, val_main_v22]
  refine Eq.trans ?_ (@Finset.sum_congr _ EReal _ _ _ _ _ rfl fun k _ => mul_comm _ _)
  blk_point [iblk, V, idx t]

end Cert.Kernel7Ideal.MemKvValue

end
-- ==== Proof.PrenormFwdValue.lean ====
module

public import proofs.«01_k».proof.Proof.Gen.Kernel10Ideal.Frame
public import proofs.«01_k».proof.Proof.Gen.Reference10Ideal.Read
public import Idealize.ShloMosaic.Lib.Pipeline.ValueKit
public import Idealize.ShloMosaic.Lib.Pointwise

/-! The normalisation before the input projection: every point of the grid computes a block of rows. -/

@[expose] public section

set_option maxRecDepth 16384

noncomputable section

open Idealize.ShloMosaic Idealize.ShloMosaic.TcCoe Idealize.SL.Sem
open Idealize.ShloMosaic.Pipeline (Dat)

namespace Cert.Kernel10Ideal.PrenormFwdValue

open Cert.Kernel10Ideal Cert.Kernel10Ideal.Gen
open Cert.Reference10Ideal.Read

variable (m : (ℓ : Loc nD τ sig) → Buf (Elt Ideal) ℓ)

/-- Which block of its array each window stands at, at every point of the grid. -/
theorem idx : ∀ t : Fin cfg0.N, win0_0.index t = ![t.val, 0]
    ∧ win0_1.index t = ![0, 0]
    ∧ win0_2.index t = ![t.val, 0] :=
  (by decide +kernel : ∀ t : Fin grid0.N, _)

/-- What a point stores is the reference's array at the block's place. -/
theorem point (c : Dev nD) (t : Fin cfg0.N) (y) :
    k0_pay1 (F := Ideal) (iblk m c 0 t) (iblk m c 1 t) y
      = val_main_v13 (F := Ideal) (m ((c : Thread nD τ).loc main_arg0)) (m ((c : Thread nD τ).loc main_arg1)) (((cfg0.win 2).blk t).view.emb y) := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  blk_point [iblk, V, idx t]

/-- The result array after the run. -/
theorem final (c : Dev nD) : (dats m 0 c).arrAt 2 (cfgs 0).N
    = val_main_v13 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel10Ideal.PrenormFwdValue

end
-- ==== Proof.MemKvFwdValue.lean ====
module

public import proofs.«01_k».proof.Proof.Gen.Kernel11Ideal.Frame
public import proofs.«01_k».proof.Proof.Gen.Reference11Ideal.Read
public import Idealize.ShloMosaic.Lib.Pipeline.ValueKit
public import Idealize.ShloMosaic.Lib.Pointwise

/-! The keys and values of the memory branch: one point computes the whole array. -/

@[expose] public section

set_option maxRecDepth 16384

noncomputable section

open Idealize.ShloMosaic Idealize.ShloMosaic.TcCoe Idealize.SL.Sem
open Idealize.ShloMosaic.Pipeline (Dat)

namespace Cert.Kernel11Ideal.MemKvFwdValue

open Cert.Kernel11Ideal Cert.Kernel11Ideal.Gen
open Cert.Reference11Ideal.Read

variable (m : (ℓ : Loc nD τ sig) → Buf (Elt Ideal) ℓ)

/-- Which block of its array each window stands at, at every point of the grid. -/
theorem idx : ∀ t : Fin cfg0.N, win0_0.index t = ![0, 0]
    ∧ win0_1.index t = ![0, 0]
    ∧ win0_2.index t = ![0, 0]
    ∧ win0_3.index t = ![0, 0] :=
  (by decide +kernel : ∀ t : Fin grid0.N, _)

/-- What a point stores is the reference's array at the block's place. -/
theorem point (c : Dev nD) (t : Fin cfg0.N) (y) :
    k0_pay1 (F := Ideal) (iblk m c 0 t) (iblk m c 1 t) (iblk m c 2 t) y
      = val_main_v14 (F := Ideal) (m ((c : Thread nD τ).loc main_arg0)) (m ((c : Thread nD τ).loc main_arg1)) (m ((c : Thread nD τ).loc main_arg2)) (((cfg0.win 3).blk t).view.emb y) := by
  pointwise [k0_pay1, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]
  blk_point [iblk, V, idx t]

/-- The result array after the run. -/
theorem final (c : Dev nD) : (dats m 0 c).arrAt 3 (cfgs 0).N
    = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.Kernel11Ideal.MemKvFwdValue

end
-- ==== Proof.NormClaims.lean ====
module

public import proofs.«01_k».proof.Defs
public import proofs.«01_k».proof.Proof.PrenormValue
public import proofs.«01_k».proof.Proof.Gen.Reference6Ideal.Run
public import proofs.«01_k».proof.Proof.MemKvValue
public import proofs.«01_k».proof.Proof.Gen.Reference7Ideal.Run
public import proofs.«01_k».proof.Proof.PrenormFwdValue
public import proofs.«01_k».proof.Proof.Gen.Reference10Ideal.Run
public import proofs.«01_k».proof.Proof.MemKvFwdValue
public import proofs.«01_k».proof.Proof.Gen.Reference11Ideal.Run
public import Idealize.ShloMosaic.Lib.Claim

/-! The normalisation before the input projection, the keys and values of the memory branch, and their gradients: the claims of these calls. -/

@[expose] public section

set_option maxRecDepth 16384

noncomputable section

namespace Cert.Proof.Norm

open Idealize.ShloMosaic Idealize.ShloMosaic.TcCoe Idealize.SL.Sem

theorem frame_reference6 : Cert.quiescent_Reference6Ideal := by
  intro m g _
  exact (θ_run Cert.Reference6Ideal.defs _ _).mono (fun r h => ⟨fun c => (h c).2.2, sem_eq_zero_of_no_sems (by decide) r.2⟩)
    (Cert.Reference6Ideal.Value.run (F := Ideal) m g)

theorem frame_reference7 : Cert.quiescent_Reference7Ideal := by
  intro m g _
  exact (θ_run Cert.Reference7Ideal.defs _ _).mono (fun r h => ⟨fun c => (h c).2.2, sem_eq_zero_of_no_sems (by decide) r.2⟩)
    (Cert.Reference7Ideal.Value.run (F := Ideal) m g)

theorem frame_reference10 : Cert.quiescent_Reference10Ideal := by
  intro m g _
  exact (θ_run Cert.Reference10Ideal.defs _ _).mono (fun r h => ⟨fun c => (h c).2, sem_eq_zero_of_no_sems (by decide) r.2⟩)
    (Cert.Reference10Ideal.Value.run (F := Ideal) m g)

theorem frame_reference11 : Cert.quiescent_Reference11Ideal := by
  intro m g _
  exact (θ_run Cert.Reference11Ideal.defs _ _).mono (fun r h => ⟨fun c => (h c).2, sem_eq_zero_of_no_sems (by decide) r.2⟩)
    (Cert.Reference11Ideal.Value.run (F := Ideal) m g)

theorem algebraic6 : Cert.algebraic_Kernel6Ideal_Reference6Ideal := by
  pair_intro
  · run_from Cert.Kernel6Ideal.Gen.run_main m g
  · run_from Cert.Reference6Ideal.Value.run m' g'
    · exact (Cert.Kernel6Ideal.PrenormValue.final4 m c).symm
    · exact (Cert.Kernel6Ideal.PrenormValue.final5 m c).symm

theorem algebraic7 : Cert.algebraic_Kernel7Ideal_Reference7Ideal := by
  pair_intro
  · run_from Cert.Kernel7Ideal.Gen.run_main m g
  · run_from Cert.Reference7Ideal.Value.run m' g'
    · exact (Cert.Kernel7Ideal.MemKvValue.final4 m c).symm
    · exact (Cert.Kernel7Ideal.MemKvValue.final5 m c).symm

theorem algebraic10 : Cert.algebraic_Kernel10Ideal_Reference10Ideal := by
  pair_intro
  · run_from Cert.Kernel10Ideal.Gen.run_main m g
  · run_from Cert.Reference10Ideal.Value.run m' g'
    exact (Cert.Kernel10Ideal.PrenormFwdValue.final m c).symm

theorem algebraic11 : Cert.algebraic_Kernel11Ideal_Reference11Ideal := by
  pair_intro
  · run_from Cert.Kernel11Ideal.Gen.run_main m g
  · run_from Cert.Reference11Ideal.Value.run m' g'
    exact (Cert.Kernel11Ideal.MemKvFwdValue.final m c).symm

end Cert.Proof.Norm

end
-- ==== Proof.OptValue.lean ====
module

public import proofs.«01_k».proof.Proof.Gen.Kernel20Ideal.Frame
public import proofs.«01_k».proof.Proof.Gen.Reference20Ideal.Read
public import Idealize.ShloMosaic.Lib.Pipeline.ValueKit
public import Idealize.ShloMosaic.Lib.Pointwise

/-! The optimiser’s step on the output projection of the first layer: the update, the two moments and the gradient
put beside those of the second layer. -/

@[expose] public section

set_option maxRecDepth 16384

noncomputable section

open Idealize.ShloMosaic Idealize.ShloMosaic.TcCoe Idealize.SL.Sem
open Idealize.ShloMosaic.Pipeline (Dat)

namespace Cert.Kernel20Ideal.OptValue

open Cert.Kernel20Ideal Cert.Kernel20Ideal.Gen
open Cert.Reference20Ideal.Read

/-- No window's place depends on the core's number. -/
theorem ok {F : FTy → Type} [FloatOps F] (m : (ℓ : Loc nD τ sig) → Buf (Elt F) ℓ) : Ok m := trivial

variable (m : (ℓ : Loc nD τ sig) → Buf (Elt Ideal) ℓ)

/-- Every window stands at the first block of its array. -/
theorem idx {F : FTy → Type} [FloatOps F] (a : (pcfg0 (F := F)).Adm) (t : Fin grid0.N) : ∀ (w : Fin 8) (k), (pcfg0.win a w).index t k = 0 :=
  have h : ∀ t : Fin grid0.N, (∀ k, cc0_transform_0 (grid0.coords t) k = 0) ∧ (∀ k, cc0_transform_1 (grid0.coords t) k = 0) ∧ (∀ k, cc0_transform_2 (grid0.coords t) k = 0) ∧ (∀ k, cc0_transform_3 (grid0.coords t) k = 0)
      ∧ (∀ k, cc0_transform_8 (grid0.coords t) k = 0) ∧ (∀ k, cc0_transform_9 (grid0.coords t) k = 0) ∧ (∀ k, cc0_transform_10 (grid0.coords t) k = 0) ∧ (∀ k, cc0_transform_11 (grid0.coords t) k = 0) := by decide +kernel
  fun | 0 => (h t).1 | 1 => (h t).2.1 | 2 => (h t).2.2.1 | 3 => (h t).2.2.2.1 | 4 => (h t).2.2.2.2.1 | 5 => (h t).2.2.2.2.2.1
      | 6 => (h t).2.2.2.2.2.2.1 | 7 => (h t).2.2.2.2.2.2.2

theorem first {x n k : ℕ} (h : x = 0) : x * n + k = k := by rw [h, Nat.zero_mul, Nat.zero_add]

/-- An array of the launch. -/
abbrev at_ (c : Dev nD) (b : Ref sig .tc) := m ((c : Thread nD τ).loc b)

/-- Two arrays of two layers, the second layer the same. -/
theorem layers (f g : S2x256x1024.Idx → EReal) (h : ∀ R J, f (ix3 (1 : Fin 2) R J) = g (ix3 (1 : Fin 2) R J)) :
    (fun i => if (i 0).val = 0 then f i else g i) = f := by
  funext i
  by_cases p : (i 0).val = 0
  · exact if_pos p
  · have e : i = ix3 (1 : Fin 2) (i 1) (i 2) := (eq_ix3 i).trans (congrArg (fun a => ix3 a (i 1) (i 2)) (Fin.ext (by have : (i 0).val < 2 := (i 0).isLt; show (i 0).val = 1; omega)))
    exact (if_neg p).trans ((congrArg g e).trans ((h _ _).symm.trans (congrArg f e).symm))

/-- The stored blocks cover the first layer. -/
theorem covers (a : (pcfg0 (F := Ideal)).Adm) : (((cfg0 a).win 4).CoversWhere fun β => β (0 : Fin 3) = 0) ∧ (((cfg0 a).win 5).CoversWhere fun β => β (0 : Fin 3) = 0) ∧ (((cfg0 a).win 6).CoversWhere fun β => β (0 : Fin 3) = 0) ∧ (((cfg0 a).win 7).CoversWhere fun β => β (0 : Fin 3) = 0) := by
  refine ⟨?_, ?_, ?_, ?_⟩ <;>
  · refine ⟨(by decide : ∀ k : Fin 3, 0 < S1x256x1024.size k), fun t _ => ⟨idx a t _ _, fun k => .inl rfl⟩,
      fun β h => ⟨(⟨0, by decide⟩ : Fin grid0.N), fun k => (idx a _ _ k).trans ?_, by first | exact flush0_4 a _ | exact flush0_5 a _ | exact flush0_6 a _ | exact flush0_7 a _⟩⟩
    have b : (β k).val < _ := (β k).isLt
    match k, b with
    | ⟨0, _⟩, _ => exact h.symm
    | ⟨1, _⟩, b => exact (Nat.lt_one_iff.1 ((show _ < (256 + 256 - 1) / 256 from b).trans_eq (by decide))).symm
    | ⟨2, _⟩, b => exact (Nat.lt_one_iff.1 ((show _ < (1024 + 1024 - 1) / 1024 from b).trans_eq (by decide))).symm

/-- The reference’s array. -/
abbrev ref4 (c : Dev nD) := val_main_v34 (F := Ideal) (at_ m c main_arg1) (at_ m c main_arg2) (at_ m c main_arg3) (at_ m c main_arg4) (at_ m c main_arg5)

/-- The block a point stores. -/
abbrev pay4 (c : Dev nD) (t : Fin (cfgM m (ok m)).N) := k0_pay6 (F := Ideal) (iblk m (ok m) c 0 t) (iblk m (ok m) c 1 t) (iblk m (ok m) c 2 t) (iblk m (ok m) c 3 t)

theorem point4 (c : Dev nD) (t : Fin (cfgM m (ok m)).N) (y : S1x256x1024.Idx) : pay4 m c t y = ref4 m c ((((cfgM m (ok m)).win 4).blk t).view.emb y) := by
  have e : (((cfgM m (ok m)).win 4).blk t).view.emb y = (ix3 (0 : Fin 2) (y 1) (y 2) : S2x256x1024.Idx) := by
    blk_ext
    all_goals first | exact idx _ _ _ _ | exact first (idx _ _ _ _)
  rw [e, eq_ix3 y]
  pointwise [k0_pay4, k0_pay5, k0_pay6, val_main_v34, val_main_v32, val_main_v29, val_main_v28, val_main_cst_7, val_main_v27, val_main_v24, val_main_v18, val_main_v10, val_main_v7, val_main_v6, val_main_cst, val_main_v3, val_main_v2, val_main_v9, val_main_v8, val_main_cst_0, val_main_v17, val_main_cst_3, val_main_v23, val_main_v21, val_main_v20, val_main_v16, val_main_v12, val_main_v11, val_main_cst_1, val_main_v5, val_main_v4, val_main_v15, val_main_v14, val_main_cst_2, val_main_v13, val_main_v19, val_main_cst_4, val_main_v22, val_main_cst_5, val_main_v26, val_main_v25, val_main_cst_6, val_main_v1, val_main_v0]
  blk_point [iblk]
  all_goals first | exact idx _ _ _ _ | exact first (idx _ _ _ _)

theorem outs4 (c : Dev nD) (t : Fin (cfgM m (ok m)).N) : (outsAt0 m (ok m) c t).1 = pay4 m c t := by
  unfold outsAt0
  dsimp only
  unfold out0_A_4
  frame_out
  exact congr (congr (congr (congrArg k0_pay6 ((hs0_0 m (ok m) t).read_unread _)) ((hs0_1 m (ok m) t).read_unread _)) ((hs0_2 m (ok m) t).read_unread _)) ((hs0_3 m (ok m) t).read_unread _)

theorem final4 (c : Dev nD) : (dats m (ok m) 0 c).arrAt 4 (cfgM m (ok m)).N = ref4 m c := by
  have s : (dats m (ok m) 0 c).arrAt 4 (cfgM m (ok m)).N = fun i => if (i 0).val = 0 then ref4 m c i else V m c main_v0_0 i :=
    (dats m (ok m) 0 c).arrAt_eq_of_coversWhere 4 _ (fun β => β (0 : Fin 3) = 0) (covers _).1 (fun t hf y =>
      (congrFun ((after0_4 m (ok m) c t).trans (outs4 m c t)) y).trans (point4 m c t y))
      (fun j => by show _ ↔ (j (0 : Fin 3)).val / 1 = 0; rw [Nat.div_one]; rfl)
  refine s.trans (layers _ _ fun R J => ?_)
  pointwise [val_main_v30, val_main_v31, val_main_v33, val_main_v34]
  entry_read
  rfl

/-- The reference’s array. -/
abbrev ref5 (c : Dev nD) := val_main_v39 (F := Ideal) (at_ m c main_arg2) (at_ m c main_arg3) (at_ m c main_arg6)

/-- The block a point stores. -/
abbrev pay5 (c : Dev nD) (t : Fin (cfgM m (ok m)).N) := k0_pay1 (F := Ideal) (k0_pay4 (iblk m (ok m) c 1 t) (iblk m (ok m) c 2 t))

theorem point5 (c : Dev nD) (t : Fin (cfgM m (ok m)).N) (y : S1x256x1024.Idx) : pay5 m c t y = ref5 m c ((((cfgM m (ok m)).win 5).blk t).view.emb y) := by
  have e : (((cfgM m (ok m)).win 5).blk t).view.emb y = (ix3 (0 : Fin 2) (y 1) (y 2) : S2x256x1024.Idx) := by
    blk_ext
    all_goals first | exact idx _ _ _ _ | exact first (idx _ _ _ _)
  rw [e, eq_ix3 y]
  pointwise [k0_pay1, k0_pay4, val_main_v39, val_main_v37, val_main_v10, val_main_v7, val_main_v6, val_main_cst, val_main_v3, val_main_v2, val_main_v9, val_main_v8, val_main_cst_0]
  blk_point [iblk]
  all_goals first | exact idx _ _ _ _ | exact first (idx _ _ _ _)

theorem outs5 (c : Dev nD) (t : Fin (cfgM m (ok m)).N) : (outsAt0 m (ok m) c t).2.1 = pay5 m c t := by
  unfold outsAt0
  dsimp only
  unfold out0_A_5
  frame_out
  exact congrArg k0_pay1 (congr (congrArg k0_pay4 ((hs0_1 m (ok m) t).read_unread _)) ((hs0_2 m (ok m) t).read_unread _))

theorem final5 (c : Dev nD) : (dats m (ok m) 0 c).arrAt 5 (cfgM m (ok m)).N = ref5 m c := by
  have s : (dats m (ok m) 0 c).arrAt 5 (cfgM m (ok m)).N = fun i => if (i 0).val = 0 then ref5 m c i else V m c main_v0_1 i :=
    (dats m (ok m) 0 c).arrAt_eq_of_coversWhere 5 _ (fun β => β (0 : Fin 3) = 0) (covers _).2.1 (fun t hf y =>
      (congrFun ((after0_5 m (ok m) c t).trans (outs5 m c t)) y).trans (point5 m c t y))
      (fun j => by show _ ↔ (j (0 : Fin 3)).val / 1 = 0; rw [Nat.div_one]; rfl)
  refine s.trans (layers _ _ fun R J => ?_)
  pointwise [val_main_v35, val_main_v36, val_main_v38, val_main_v39]
  entry_read
  rfl

/-- The reference’s array. -/
abbrev ref6 (c : Dev nD) := val_main_v44 (F := Ideal) (at_ m c main_arg2) (at_ m c main_arg4) (at_ m c main_arg7)

/-- The block a point stores. -/
abbrev pay6 (c : Dev nD) (t : Fin (cfgM m (ok m)).N) := k0_pay2 (F := Ideal) (k0_pay5 (iblk m (ok m) c 1 t) (iblk m (ok m) c 3 t))

theorem point6 (c : Dev nD) (t : Fin (cfgM m (ok m)).N) (y : S1x256x1024.Idx) : pay6 m c t y = ref6 m c ((((cfgM m (ok m)).win 6).blk t).view.emb y) := by
  have e : (((cfgM m (ok m)).win 6).blk t).view.emb y = (ix3 (0 : Fin 2) (y 1) (y 2) : S2x256x1024.Idx) := by
    blk_ext
    all_goals first | exact idx _ _ _ _ | exact first (idx _ _ _ _)
  rw [e, eq_ix3 y]
  pointwise [k0_pay2, k0_pay5, val_main_v44, val_main_v42, val_main_v16, val_main_v12, val_main_v11, val_main_cst_1, val_main_v5, val_main_v4, val_main_v15, val_main_v14, val_main_cst_2, val_main_v13]
  blk_point [iblk]
  all_goals first | exact idx _ _ _ _ | exact first (idx _ _ _ _)

theorem outs6 (c : Dev nD) (t : Fin (cfgM m (ok m)).N) : (outsAt0 m (ok m) c t).2.2.1 = pay6 m c t := by
  unfold outsAt0
  dsimp only
  unfold out0_A_6
  frame_out
  exact congrArg k0_pay2 (congr (congrArg k0_pay5 ((hs0_1 m (ok m) t).read_unread _)) ((hs0_3 m (ok m) t).read_unread _))

theorem final6 (c : Dev nD) : (dats m (ok m) 0 c).arrAt 6 (cfgM m (ok m)).N = ref6 m c := by
  have s : (dats m (ok m) 0 c).arrAt 6 (cfgM m (ok m)).N = fun i => if (i 0).val = 0 then ref6 m c i else V m c main_v0_2 i :=
    (dats m (ok m) 0 c).arrAt_eq_of_coversWhere 6 _ (fun β => β (0 : Fin 3) = 0) (covers _).2.2.1 (fun t hf y =>
      (congrFun ((after0_6 m (ok m) c t).trans (outs6 m c t)) y).trans (point6 m c t y))
      (fun j => by show _ ↔ (j (0 : Fin 3)).val / 1 = 0; rw [Nat.div_one]; rfl)
  refine s.trans (layers _ _ fun R J => ?_)
  pointwise [val_main_v40, val_main_v41, val_main_v43, val_main_v44]
  entry_read
  rfl

/-- The reference’s array. -/
abbrev ref7 (c : Dev nD) := val_main_v49 (F := Ideal) (at_ m c main_arg2) (at_ m c main_arg8)

/-- The block a point stores. -/
abbrev pay7 (c : Dev nD) (t : Fin (cfgM m (ok m)).N) := k0_pay3 (F := Ideal) (iblk m (ok m) c 1 t)

theorem point7 (c : Dev nD) (t : Fin (cfgM m (ok m)).N) (y : S1x256x1024.Idx) : pay7 m c t y = ref7 m c ((((cfgM m (ok m)).win 7).blk t).view.emb y) := by
  have e : (((cfgM m (ok m)).win 7).blk t).view.emb y = (ix3 (0 : Fin 2) (y 1) (y 2) : S2x256x1024.Idx) := by
    blk_ext
    all_goals first | exact idx _ _ _ _ | exact first (idx _ _ _ _)
  rw [e, eq_ix3 y]
  pointwise [k0_pay3, val_main_v49, val_main_v47]
  blk_point [iblk]
  all_goals first | exact idx _ _ _ _ | exact first (idx _ _ _ _)

theorem outs7 (c : Dev nD) (t : Fin (cfgM m (ok m)).N) : (outsAt0 m (ok m) c t).2.2.2 = pay7 m c t := by
  unfold outsAt0
  dsimp only
  unfold out0_A_7
  frame_out
  exact congrArg k0_pay3 ((hs0_1 m (ok m) t).read_unread _)

theorem final7 (c : Dev nD) : (dats m (ok m) 0 c).arrAt 7 (cfgM m (ok m)).N = ref7 m c := by
  have s : (dats m (ok m) 0 c).arrAt 7 (cfgM m (ok m)).N = fun i => if (i 0).val = 0 then ref7 m c i else V m c main_v0_3 i :=
    (dats m (ok m) 0 c).arrAt_eq_of_coversWhere 7 _ (fun β => β (0 : Fin 3) = 0) (covers _).2.2.2 (fun t hf y =>
      (congrFun ((after0_7 m (ok m) c t).trans (outs7 m c t)) y).trans (point7 m c t y))
      (fun j => by show _ ↔ (j (0 : Fin 3)).val / 1 = 0; rw [Nat.div_one]; rfl)
  refine s.trans (layers _ _ fun R J => ?_)
  pointwise [val_main_v45, val_main_v46, val_main_v48, val_main_v49]
  entry_read
  rfl

end Cert.Kernel20Ideal.OptValue

end
-- ==== Proof.OptConvValue.lean ====
module

public import proofs.«01_k».proof.Proof.Gen.Kernel21Ideal.Frame
public import proofs.«01_k».proof.Proof.Gen.Reference21Ideal.Read
public import Idealize.ShloMosaic.Lib.Pipeline.ValueKit
public import Idealize.ShloMosaic.Lib.Pointwise

/-! The optimiser’s step on the causal convolution of the first layer: the update, the two moments and the gradient
put beside those of the second layer. -/

@[expose] public section

set_option maxRecDepth 16384

noncomputable section

open Idealize.ShloMosaic Idealize.ShloMosaic.TcCoe Idealize.SL.Sem
open Idealize.ShloMosaic.Pipeline (Dat)

namespace Cert.Kernel21Ideal.OptValue

open Cert.Kernel21Ideal Cert.Kernel21Ideal.Gen
open Cert.Reference21Ideal.Read

/-- No window's place depends on the core's number. -/
theorem ok {F : FTy → Type} [FloatOps F] (m : (ℓ : Loc nD τ sig) → Buf (Elt F) ℓ) : Ok m := trivial

variable (m : (ℓ : Loc nD τ sig) → Buf (Elt Ideal) ℓ)

/-- Every window stands at the first block of its array. -/
theorem idx {F : FTy → Type} [FloatOps F] (a : (pcfg0 (F := F)).Adm) (t : Fin grid0.N) : ∀ (w : Fin 8) (k), (pcfg0.win a w).index t k = 0 :=
  have h : ∀ t : Fin grid0.N, (∀ k, cc0_transform_0 (grid0.coords t) k = 0) ∧ (∀ k, cc0_transform_1 (grid0.coords t) k = 0) ∧ (∀ k, cc0_transform_2 (grid0.coords t) k = 0) ∧ (∀ k, cc0_transform_3 (grid0.coords t) k = 0)
      ∧ (∀ k, cc0_transform_8 (grid0.coords t) k = 0) ∧ (∀ k, cc0_transform_9 (grid0.coords t) k = 0) ∧ (∀ k, cc0_transform_10 (grid0.coords t) k = 0) ∧ (∀ k, cc0_transform_11 (grid0.coords t) k = 0) := by decide +kernel
  fun | 0 => (h t).1 | 1 => (h t).2.1 | 2 => (h t).2.2.1 | 3 => (h t).2.2.2.1 | 4 => (h t).2.2.2.2.1 | 5 => (h t).2.2.2.2.2.1
      | 6 => (h t).2.2.2.2.2.2.1 | 7 => (h t).2.2.2.2.2.2.2

theorem first {x n k : ℕ} (h : x = 0) : x * n + k = k := by rw [h, Nat.zero_mul, Nat.zero_add]

/-- An array of the launch. -/
abbrev at_ (c : Dev nD) (b : Ref sig .tc) := m ((c : Thread nD τ).loc b)

/-- Two arrays of two layers, the second layer the same. -/
theorem layers (f g : S2x4x384.Idx → EReal) (h : ∀ R J, f (ix3 (1 : Fin 2) R J) = g (ix3 (1 : Fin 2) R J)) :
    (fun i => if (i 0).val = 0 then f i else g i) = f := by
  funext i
  by_cases p : (i 0).val = 0
  · exact if_pos p
  · have e : i = ix3 (1 : Fin 2) (i 1) (i 2) := (eq_ix3 i).trans (congrArg (fun a => ix3 a (i 1) (i 2)) (Fin.ext (by have : (i 0).val < 2 := (i 0).isLt; show (i 0).val = 1; omega)))
    exact (if_neg p).trans ((congrArg g e).trans ((h _ _).symm.trans (congrArg f e).symm))

/-- The stored blocks cover the first layer. -/
theorem covers (a : (pcfg0 (F := Ideal)).Adm) : (((cfg0 a).win 4).CoversWhere fun β => β (0 : Fin 3) = 0) ∧ (((cfg0 a).win 5).CoversWhere fun β => β (0 : Fin 3) = 0) ∧ (((cfg0 a).win 6).CoversWhere fun β => β (0 : Fin 3) = 0) ∧ (((cfg0 a).win 7).CoversWhere fun β => β (0 : Fin 3) = 0) := by
  refine ⟨?_, ?_, ?_, ?_⟩ <;>
  · refine ⟨(by decide : ∀ k : Fin 3, 0 < S1x4x384.size k), fun t _ => ⟨idx a t _ _, fun k => .inl rfl⟩,
      fun β h => ⟨(⟨0, by decide⟩ : Fin grid0.N), fun k => (idx a _ _ k).trans ?_, by first | exact flush0_4 a _ | exact flush0_5 a _ | exact flush0_6 a _ | exact flush0_7 a _⟩⟩
    have b : (β k).val < _ := (β k).isLt
    match k, b with
    | ⟨0, _⟩, _ => exact h.symm
    | ⟨1, _⟩, b => exact (Nat.lt_one_iff.1 ((show _ < (4 + 4 - 1) / 4 from b).trans_eq (by decide))).symm
    | ⟨2, _⟩, b => exact (Nat.lt_one_iff.1 ((show _ < (384 + 384 - 1) / 384 from b).trans_eq (by decide))).symm

/-- The reference’s array. -/
abbrev ref4 (c : Dev nD) := val_main_v34 (F := Ideal) (at_ m c main_arg1) (at_ m c main_arg2) (at_ m c main_arg3) (at_ m c main_arg4) (at_ m c main_arg5)

/-- The block a point stores. -/
abbrev pay4 (c : Dev nD) (t : Fin (cfgM m (ok m)).N) := k0_pay6 (F := Ideal) (iblk m (ok m) c 0 t) (iblk m (ok m) c 1 t) (iblk m (ok m) c 2 t) (iblk m (ok m) c 3 t)

theorem point4 (c : Dev nD) (t : Fin (cfgM m (ok m)).N) (y : S1x4x384.Idx) : pay4 m c t y = ref4 m c ((((cfgM m (ok m)).win 4).blk t).view.emb y) := by
  have e : (((cfgM m (ok m)).win 4).blk t).view.emb y = (ix3 (0 : Fin 2) (y 1) (y 2) : S2x4x384.Idx) := by
    blk_ext
    all_goals first | exact idx _ _ _ _ | exact first (idx _ _ _ _)
  rw [e, eq_ix3 y]
  pointwise [k0_pay4, k0_pay5, k0_pay6, val_main_v34, val_main_v32, val_main_v29, val_main_v28, val_main_cst_7, val_main_v27, val_main_v24, val_main_v18, val_main_v10, val_main_v7, val_main_v6, val_main_cst, val_main_v3, val_main_v2, val_main_v9, val_main_v8, val_main_cst_0, val_main_v17, val_main_cst_3, val_main_v23, val_main_v21, val_main_v20, val_main_v16, val_main_v12, val_main_v11, val_main_cst_1, val_main_v5, val_main_v4, val_main_v15, val_main_v14, val_main_cst_2, val_main_v13, val_main_v19, val_main_cst_4, val_main_v22, val_main_cst_5, val_main_v26, val_main_v25, val_main_cst_6, val_main_v1, val_main_v0]
  blk_point [iblk]
  all_goals first | exact idx _ _ _ _ | exact first (idx _ _ _ _)

theorem outs4 (c : Dev nD) (t : Fin (cfgM m (ok m)).N) : (outsAt0 m (ok m) c t).1 = pay4 m c t := by
  unfold outsAt0
  dsimp only
  unfold out0_A_4
  frame_out
  exact congr (congr (congr (congrArg k0_pay6 ((hs0_0 m (ok m) t).read_unread _)) ((hs0_1 m (ok m) t).read_unread _)) ((hs0_2 m (ok m) t).read_unread _)) ((hs0_3 m (ok m) t).read_unread _)

theorem final4 (c : Dev nD) : (dats m (ok m) 0 c).arrAt 4 (cfgM m (ok m)).N = ref4 m c := by
  have s : (dats m (ok m) 0 c).arrAt 4 (cfgM m (ok m)).N = fun i => if (i 0).val = 0 then ref4 m c i else V m c main_v0_0 i :=
    (dats m (ok m) 0 c).arrAt_eq_of_coversWhere 4 _ (fun β => β (0 : Fin 3) = 0) (covers _).1 (fun t hf y =>
      (congrFun ((after0_4 m (ok m) c t).trans (outs4 m c t)) y).trans (point4 m c t y))
      (fun j => by show _ ↔ (j (0 : Fin 3)).val / 1 = 0; rw [Nat.div_one]; rfl)
  refine s.trans (layers _ _ fun R J => ?_)
  pointwise [val_main_v30, val_main_v31, val_main_v33, val_main_v34]
  entry_read
  rfl

/-- The reference’s array. -/
abbrev ref5 (c : Dev nD) := val_main_v39 (F := Ideal) (at_ m c main_arg2) (at_ m c main_arg3) (at_ m c main_arg6)

/-- The block a point stores. -/
abbrev pay5 (c : Dev nD) (t : Fin (cfgM m (ok m)).N) := k0_pay1 (F := Ideal) (k0_pay4 (iblk m (ok m) c 1 t) (iblk m (ok m) c 2 t))

theorem point5 (c : Dev nD) (t : Fin (cfgM m (ok m)).N) (y : S1x4x384.Idx) : pay5 m c t y = ref5 m c ((((cfgM m (ok m)).win 5).blk t).view.emb y) := by
  have e : (((cfgM m (ok m)).win 5).blk t).view.emb y = (ix3 (0 : Fin 2) (y 1) (y 2) : S2x4x384.Idx) := by
    blk_ext
    all_goals first | exact idx _ _ _ _ | exact first (idx _ _ _ _)
  rw [e, eq_ix3 y]
  pointwise [k0_pay1, k0_pay4, val_main_v39, val_main_v37, val_main_v10, val_main_v7, val_main_v6, val_main_cst, val_main_v3, val_main_v2, val_main_v9, val_main_v8, val_main_cst_0]
  blk_point [iblk]
  all_goals first | exact idx _ _ _ _ | exact first (idx _ _ _ _)

theorem outs5 (c : Dev nD) (t : Fin (cfgM m (ok m)).N) : (outsAt0 m (ok m) c t).2.1 = pay5 m c t := by
  unfold outsAt0
  dsimp only
  unfold out0_A_5
  frame_out
  exact congrArg k0_pay1 (congr (congrArg k0_pay4 ((hs0_1 m (ok m) t).read_unread _)) ((hs0_2 m (ok m) t).read_unread _))

theorem final5 (c : Dev nD) : (dats m (ok m) 0 c).arrAt 5 (cfgM m (ok m)).N = ref5 m c := by
  have s : (dats m (ok m) 0 c).arrAt 5 (cfgM m (ok m)).N = fun i => if (i 0).val = 0 then ref5 m c i else V m c main_v0_1 i :=
    (dats m (ok m) 0 c).arrAt_eq_of_coversWhere 5 _ (fun β => β (0 : Fin 3) = 0) (covers _).2.1 (fun t hf y =>
      (congrFun ((after0_5 m (ok m) c t).trans (outs5 m c t)) y).trans (point5 m c t y))
      (fun j => by show _ ↔ (j (0 : Fin 3)).val / 1 = 0; rw [Nat.div_one]; rfl)
  refine s.trans (layers _ _ fun R J => ?_)
  pointwise [val_main_v35, val_main_v36, val_main_v38, val_main_v39]
  entry_read
  rfl

/-- The reference’s array. -/
abbrev ref6 (c : Dev nD) := val_main_v44 (F := Ideal) (at_ m c main_arg2) (at_ m c main_arg4) (at_ m c main_arg7)

/-- The block a point stores. -/
abbrev pay6 (c : Dev nD) (t : Fin (cfgM m (ok m)).N) := k0_pay2 (F := Ideal) (k0_pay5 (iblk m (ok m) c 1 t) (iblk m (ok m) c 3 t))

theorem point6 (c : Dev nD) (t : Fin (cfgM m (ok m)).N) (y : S1x4x384.Idx) : pay6 m c t y = ref6 m c ((((cfgM m (ok m)).win 6).blk t).view.emb y) := by
  have e : (((cfgM m (ok m)).win 6).blk t).view.emb y = (ix3 (0 : Fin 2) (y 1) (y 2) : S2x4x384.Idx) := by
    blk_ext
    all_goals first | exact idx _ _ _ _ | exact first (idx _ _ _ _)
  rw [e, eq_ix3 y]
  pointwise [k0_pay2, k0_pay5, val_main_v44, val_main_v42, val_main_v16, val_main_v12, val_main_v11, val_main_cst_1, val_main_v5, val_main_v4, val_main_v15, val_main_v14, val_main_cst_2, val_main_v13]
  blk_point [iblk]
  all_goals first | exact idx _ _ _ _ | exact first (idx _ _ _ _)

theorem outs6 (c : Dev nD) (t : Fin (cfgM m (ok m)).N) : (outsAt0 m (ok m) c t).2.2.1 = pay6 m c t := by
  unfold outsAt0
  dsimp only
  unfold out0_A_6
  frame_out
  exact congrArg k0_pay2 (congr (congrArg k0_pay5 ((hs0_1 m (ok m) t).read_unread _)) ((hs0_3 m (ok m) t).read_unread _))

theorem final6 (c : Dev nD) : (dats m (ok m) 0 c).arrAt 6 (cfgM m (ok m)).N = ref6 m c := by
  have s : (dats m (ok m) 0 c).arrAt 6 (cfgM m (ok m)).N = fun i => if (i 0).val = 0 then ref6 m c i else V m c main_v0_2 i :=
    (dats m (ok m) 0 c).arrAt_eq_of_coversWhere 6 _ (fun β => β (0 : Fin 3) = 0) (covers _).2.2.1 (fun t hf y =>
      (congrFun ((after0_6 m (ok m) c t).trans (outs6 m c t)) y).trans (point6 m c t y))
      (fun j => by show _ ↔ (j (0 : Fin 3)).val / 1 = 0; rw [Nat.div_one]; rfl)
  refine s.trans (layers _ _ fun R J => ?_)
  pointwise [val_main_v40, val_main_v41, val_main_v43, val_main_v44]
  entry_read
  rfl

/-- The reference’s array. -/
abbrev ref7 (c : Dev nD) := val_main_v49 (F := Ideal) (at_ m c main_arg2) (at_ m c main_arg8)

/-- The block a point stores. -/
abbrev pay7 (c : Dev nD) (t : Fin (cfgM m (ok m)).N) := k0_pay3 (F := Ideal) (iblk m (ok m) c 1 t)

theorem point7 (c : Dev nD) (t : Fin (cfgM m (ok m)).N) (y : S1x4x384.Idx) : pay7 m c t y = ref7 m c ((((cfgM m (ok m)).win 7).blk t).view.emb y) := by
  have e : (((cfgM m (ok m)).win 7).blk t).view.emb y = (ix3 (0 : Fin 2) (y 1) (y 2) : S2x4x384.Idx) := by
    blk_ext
    all_goals first | exact idx _ _ _ _ | exact first (idx _ _ _ _)
  rw [e, eq_ix3 y]
  pointwise [k0_pay3, val_main_v49, val_main_v47]
  blk_point [iblk]
  all_goals first | exact idx _ _ _ _ | exact first (idx _ _ _ _)

theorem outs7 (c : Dev nD) (t : Fin (cfgM m (ok m)).N) : (outsAt0 m (ok m) c t).2.2.2 = pay7 m c t := by
  unfold outsAt0
  dsimp only
  unfold out0_A_7
  frame_out
  exact congrArg k0_pay3 ((hs0_1 m (ok m) t).read_unread _)

theorem final7 (c : Dev nD) : (dats m (ok m) 0 c).arrAt 7 (cfgM m (ok m)).N = ref7 m c := by
  have s : (dats m (ok m) 0 c).arrAt 7 (cfgM m (ok m)).N = fun i => if (i 0).val = 0 then ref7 m c i else V m c main_v0_3 i :=
    (dats m (ok m) 0 c).arrAt_eq_of_coversWhere 7 _ (fun β => β (0 : Fin 3) = 0) (covers _).2.2.2 (fun t hf y =>
      (congrFun ((after0_7 m (ok m) c t).trans (outs7 m c t)) y).trans (point7 m c t y))
      (fun j => by show _ ↔ (j (0 : Fin 3)).val / 1 = 0; rw [Nat.div_one]; rfl)
  refine s.trans (layers _ _ fun R J => ?_)
  pointwise [val_main_v45, val_main_v46, val_main_v48, val_main_v49]
  entry_read
  rfl

end Cert.Kernel21Ideal.OptValue

end
-- ==== Proof.OptUpValue.lean ====
module

public import proofs.«01_k».proof.Proof.Gen.Kernel22Ideal.Frame
public import proofs.«01_k».proof.Proof.Gen.Reference22Ideal.Read
public import Idealize.ShloMosaic.Lib.Pipeline.ValueKit
public import Idealize.ShloMosaic.Lib.Pointwise

/-! The optimiser’s step on the branch projections of the first layer: the update, the two moments and the gradient
put beside those of the second layer. -/

@[expose] public section

set_option maxRecDepth 16384

noncomputable section

open Idealize.ShloMosaic Idealize.ShloMosaic.TcCoe Idealize.SL.Sem
open Idealize.ShloMosaic.Pipeline (Dat)

namespace Cert.Kernel22Ideal.OptValue

open Cert.Kernel22Ideal Cert.Kernel22Ideal.Gen
open Cert.Reference22Ideal.Read

/-- No window's place depends on the core's number. -/
theorem ok {F : FTy → Type} [FloatOps F] (m : (ℓ : Loc nD τ sig) → Buf (Elt F) ℓ) : Ok m := trivial

variable (m : (ℓ : Loc nD τ sig) → Buf (Elt Ideal) ℓ)

/-- Where a window stands: at the point's block of rows, of the first layer. -/
abbrev place (w : Fin 8) {n : ℕ} (k : Fin n) (t : ℕ) : ℕ := if k.val + (if w.val = 1 then 1 else 0) = 1 then t else 0

theorem idx {F : FTy → Type} [FloatOps F] (a : (pcfg0 (F := F)).Adm) (t : Fin grid0.N) : ∀ (w : Fin 8) (k), (pcfg0.win a w).index t k = place w k t.val :=
  have h : ∀ t : Fin grid0.N, (∀ k, cc0_transform_0 (grid0.coords t) k = place 0 k t.val) ∧ (∀ k, cc0_transform_1 (grid0.coords t) k = place 1 k t.val) ∧ (∀ k, cc0_transform_2 (grid0.coords t) k = place 2 k t.val) ∧ (∀ k, cc0_transform_3 (grid0.coords t) k = place 3 k t.val)
      ∧ (∀ k, cc0_transform_8 (grid0.coords t) k = place 4 k t.val) ∧ (∀ k, cc0_transform_9 (grid0.coords t) k = place 5 k t.val) ∧ (∀ k, cc0_transform_10 (grid0.coords t) k = place 6 k t.val) ∧ (∀ k, cc0_transform_11 (grid0.coords t) k = place 7 k t.val) := by decide +kernel
  fun | 0 => (h t).1 | 1 => (h t).2.1 | 2 => (h t).2.2.1 | 3 => (h t).2.2.2.1 | 4 => (h t).2.2.2.2.1 | 5 => (h t).2.2.2.2.2.1
      | 6 => (h t).2.2.2.2.2.2.1 | 7 => (h t).2.2.2.2.2.2.2

theorem first {x n k : ℕ} (h : x = 0) : x * n + k = k := by rw [h, Nat.zero_mul, Nat.zero_add]

theorem row {x t n k : ℕ} (h : x = t) : x * n + k = t * n + k := by rw [h]

/-- An array of the launch. -/
abbrev at_ (c : Dev nD) (b : Ref sig .tc) := m ((c : Thread nD τ).loc b)

/-- Two arrays of two layers, the second layer the same. -/
theorem layers (f g : S2x2048x256.Idx → EReal) (h : ∀ R J, f (ix3 (1 : Fin 2) R J) = g (ix3 (1 : Fin 2) R J)) :
    (fun i => if (i 0).val = 0 then f i else g i) = f := by
  funext i
  by_cases p : (i 0).val = 0
  · exact if_pos p
  · have e : i = ix3 (1 : Fin 2) (i 1) (i 2) := (eq_ix3 i).trans (congrArg (fun a => ix3 a (i 1) (i 2)) (Fin.ext (by have : (i 0).val < 2 := (i 0).isLt; show (i 0).val = 1; omega)))
    exact (if_neg p).trans ((congrArg g e).trans ((h _ _).symm.trans (congrArg f e).symm))

/-- The stored blocks cover the first layer. -/
theorem covers (a : (pcfg0 (F := Ideal)).Adm) : (((cfg0 a).win 4).CoversWhere fun β => β (0 : Fin 3) = 0) ∧ (((cfg0 a).win 5).CoversWhere fun β => β (0 : Fin 3) = 0) ∧ (((cfg0 a).win 6).CoversWhere fun β => β (0 : Fin 3) = 0) ∧ (((cfg0 a).win 7).CoversWhere fun β => β (0 : Fin 3) = 0) := by
  refine ⟨?_, ?_, ?_, ?_⟩ <;>
  · refine ⟨(by decide : ∀ k : Fin 3, 0 < S1x512x256.size k), fun t _ => ⟨idx a t _ _, fun k => .inl rfl⟩,
      fun β h => ⟨(⟨(β (1 : Fin 3)).val, (show _ < (2048 + 512 - 1) / 512 from (β (1 : Fin 3)).isLt).trans_eq (by decide)⟩ : Fin grid0.N), fun k => (idx a _ _ k).trans ?_, by first | exact flush0_4 a _ | exact flush0_5 a _ | exact flush0_6 a _ | exact flush0_7 a _⟩⟩
    have b : (β k).val < _ := (β k).isLt
    match k, b with
    | ⟨0, _⟩, _ => exact h.symm
    | ⟨1, _⟩, _ => rfl
    | ⟨2, _⟩, b => exact (Nat.lt_one_iff.1 ((show _ < (256 + 256 - 1) / 256 from b).trans_eq (by decide))).symm

/-- The reference’s array. -/
abbrev ref4 (c : Dev nD) := val_main_v34 (F := Ideal) (at_ m c main_arg1) (at_ m c main_arg2) (at_ m c main_arg3) (at_ m c main_arg4) (at_ m c main_arg5)

/-- The block a point stores. -/
abbrev pay4 (c : Dev nD) (t : Fin (cfgM m (ok m)).N) := k0_pay6 (F := Ideal) (iblk m (ok m) c 0 t) (iblk m (ok m) c 1 t) (iblk m (ok m) c 2 t) (iblk m (ok m) c 3 t)

theorem point4 (c : Dev nD) (t : Fin (cfgM m (ok m)).N) (y : S1x512x256.Idx) : pay4 m c t y = ref4 m c ((((cfgM m (ok m)).win 4).blk t).view.emb y) := by
  have e : (((cfgM m (ok m)).win 4).blk t).view.emb y = (ix3 (0 : Fin 2) ⟨t.val * 512 + (y 1).val, by have : t.val < 4 := t.isLt; have : (y 1).val < 512 := (y 1).isLt; omega⟩ (y 2) : S2x2048x256.Idx) := by
    blk_ext
    all_goals first | exact idx _ _ _ _ | exact first (idx _ _ _ _) | exact row (idx _ _ _ _)
  rw [e, eq_ix3 y]
  pointwise [k0_pay4, k0_pay5, k0_pay6, val_main_v34, val_main_v32, val_main_v29, val_main_v28, val_main_cst_7, val_main_v27, val_main_v24, val_main_v18, val_main_v10, val_main_v7, val_main_v6, val_main_cst, val_main_v3, val_main_v2, val_main_v9, val_main_v8, val_main_cst_0, val_main_v17, val_main_cst_3, val_main_v23, val_main_v21, val_main_v20, val_main_v16, val_main_v12, val_main_v11, val_main_cst_1, val_main_v5, val_main_v4, val_main_v15, val_main_v14, val_main_cst_2, val_main_v13, val_main_v19, val_main_cst_4, val_main_v22, val_main_cst_5, val_main_v26, val_main_v25, val_main_cst_6, val_main_v1, val_main_v0]
  blk_point [iblk]
  all_goals first | exact idx _ _ _ _ | exact first (idx _ _ _ _) | exact row (idx _ _ _ _)

theorem outs4 (c : Dev nD) (t : Fin (cfgM m (ok m)).N) : (outsAt0 m (ok m) c t).1 = pay4 m c t := by
  unfold outsAt0
  dsimp only
  unfold out0_A_4
  frame_out
  exact congr (congr (congr (congrArg k0_pay6 ((hs0_0 m (ok m) t).read_unread _)) ((hs0_1 m (ok m) t).read_unread _)) ((hs0_2 m (ok m) t).read_unread _)) ((hs0_3 m (ok m) t).read_unread _)

theorem final4 (c : Dev nD) : (dats m (ok m) 0 c).arrAt 4 (cfgM m (ok m)).N = ref4 m c := by
  have s : (dats m (ok m) 0 c).arrAt 4 (cfgM m (ok m)).N = fun i => if (i 0).val = 0 then ref4 m c i else V m c main_v0_0 i :=
    (dats m (ok m) 0 c).arrAt_eq_of_coversWhere 4 _ (fun β => β (0 : Fin 3) = 0) (covers _).1 (fun t hf y =>
      (congrFun ((after0_4 m (ok m) c t).trans (outs4 m c t)) y).trans (point4 m c t y))
      (fun j => by show _ ↔ (j (0 : Fin 3)).val / 1 = 0; rw [Nat.div_one]; rfl)
  refine s.trans (layers _ _ fun R J => ?_)
  pointwise [val_main_v30, val_main_v31, val_main_v33, val_main_v34]
  entry_read
  rfl

/-- The reference’s array. -/
abbrev ref5 (c : Dev nD) := val_main_v39 (F := Ideal) (at_ m c main_arg2) (at_ m c main_arg3) (at_ m c main_arg6)

/-- The block a point stores. -/
abbrev pay5 (c : Dev nD) (t : Fin (cfgM m (ok m)).N) := k0_pay1 (F := Ideal) (k0_pay4 (iblk m (ok m) c 1 t) (iblk m (ok m) c 2 t))

theorem point5 (c : Dev nD) (t : Fin (cfgM m (ok m)).N) (y : S1x512x256.Idx) : pay5 m c t y = ref5 m c ((((cfgM m (ok m)).win 5).blk t).view.emb y) := by
  have e : (((cfgM m (ok m)).win 5).blk t).view.emb y = (ix3 (0 : Fin 2) ⟨t.val * 512 + (y 1).val, by have : t.val < 4 := t.isLt; have : (y 1).val < 512 := (y 1).isLt; omega⟩ (y 2) : S2x2048x256.Idx) := by
    blk_ext
    all_goals first | exact idx _ _ _ _ | exact first (idx _ _ _ _) | exact row (idx _ _ _ _)
  rw [e, eq_ix3 y]
  pointwise [k0_pay1, k0_pay4, val_main_v39, val_main_v37, val_main_v10, val_main_v7, val_main_v6, val_main_cst, val_main_v3, val_main_v2, val_main_v9, val_main_v8, val_main_cst_0]
  blk_point [iblk]
  all_goals first | exact idx _ _ _ _ | exact first (idx _ _ _ _) | exact row (idx _ _ _ _)

theorem outs5 (c : Dev nD) (t : Fin (cfgM m (ok m)).N) : (outsAt0 m (ok m) c t).2.1 = pay5 m c t := by
  unfold outsAt0
  dsimp only
  unfold out0_A_5
  frame_out
  exact congrArg k0_pay1 (congr (congrArg k0_pay4 ((hs0_1 m (ok m) t).read_unread _)) ((hs0_2 m (ok m) t).read_unread _))

theorem final5 (c : Dev nD) : (dats m (ok m) 0 c).arrAt 5 (cfgM m (ok m)).N = ref5 m c := by
  have s : (dats m (ok m) 0 c).arrAt 5 (cfgM m (ok m)).N = fun i => if (i 0).val = 0 then ref5 m c i else V m c main_v0_1 i :=
    (dats m (ok m) 0 c).arrAt_eq_of_coversWhere 5 _ (fun β => β (0 : Fin 3) = 0) (covers _).2.1 (fun t hf y =>
      (congrFun ((after0_5 m (ok m) c t).trans (outs5 m c t)) y).trans (point5 m c t y))
      (fun j => by show _ ↔ (j (0 : Fin 3)).val / 1 = 0; rw [Nat.div_one]; rfl)
  refine s.trans (layers _ _ fun R J => ?_)
  pointwise [val_main_v35, val_main_v36, val_main_v38, val_main_v39]
  entry_read
  rfl

/-- The reference’s array. -/
abbrev ref6 (c : Dev nD) := val_main_v44 (F := Ideal) (at_ m c main_arg2) (at_ m c main_arg4) (at_ m c main_arg7)

/-- The block a point stores. -/
abbrev pay6 (c : Dev nD) (t : Fin (cfgM m (ok m)).N) := k0_pay2 (F := Ideal) (k0_pay5 (iblk m (ok m) c 1 t) (iblk m (ok m) c 3 t))

theorem point6 (c : Dev nD) (t : Fin (cfgM m (ok m)).N) (y : S1x512x256.Idx) : pay6 m c t y = ref6 m c ((((cfgM m (ok m)).win 6).blk t).view.emb y) := by
  have e : (((cfgM m (ok m)).win 6).blk t).view.emb y = (ix3 (0 : Fin 2) ⟨t.val * 512 + (y 1).val, by have : t.val < 4 := t.isLt; have : (y 1).val < 512 := (y 1).isLt; omega⟩ (y 2) : S2x2048x256.Idx) := by
    blk_ext
    all_goals first | exact idx _ _ _ _ | exact first (idx _ _ _ _) | exact row (idx _ _ _ _)
  rw [e, eq_ix3 y]
  pointwise [k0_pay2, k0_pay5, val_main_v44, val_main_v42, val_main_v16, val_main_v12, val_main_v11, val_main_cst_1, val_main_v5, val_main_v4, val_main_v15, val_main_v14, val_main_cst_2, val_main_v13]
  blk_point [iblk]
  all_goals first | exact idx _ _ _ _ | exact first (idx _ _ _ _) | exact row (idx _ _ _ _)

theorem outs6 (c : Dev nD) (t : Fin (cfgM m (ok m)).N) : (outsAt0 m (ok m) c t).2.2.1 = pay6 m c t := by
  unfold outsAt0
  dsimp only
  unfold out0_A_6
  frame_out
  exact congrArg k0_pay2 (congr (congrArg k0_pay5 ((hs0_1 m (ok m) t).read_unread _)) ((hs0_3 m (ok m) t).read_unread _))

theorem final6 (c : Dev nD) : (dats m (ok m) 0 c).arrAt 6 (cfgM m (ok m)).N = ref6 m c := by
  have s : (dats m (ok m) 0 c).arrAt 6 (cfgM m (ok m)).N = fun i => if (i 0).val = 0 then ref6 m c i else V m c main_v0_2 i :=
    (dats m (ok m) 0 c).arrAt_eq_of_coversWhere 6 _ (fun β => β (0 : Fin 3) = 0) (covers _).2.2.1 (fun t hf y =>
      (congrFun ((after0_6 m (ok m) c t).trans (outs6 m c t)) y).trans (point6 m c t y))
      (fun j => by show _ ↔ (j (0 : Fin 3)).val / 1 = 0; rw [Nat.div_one]; rfl)
  refine s.trans (layers _ _ fun R J => ?_)
  pointwise [val_main_v40, val_main_v41, val_main_v43, val_main_v44]
  entry_read
  rfl

/-- The reference’s array. -/
abbrev ref7 (c : Dev nD) := val_main_v49 (F := Ideal) (at_ m c main_arg2) (at_ m c main_arg8)

/-- The block a point stores. -/
abbrev pay7 (c : Dev nD) (t : Fin (cfgM m (ok m)).N) := k0_pay3 (F := Ideal) (iblk m (ok m) c 1 t)

theorem point7 (c : Dev nD) (t : Fin (cfgM m (ok m)).N) (y : S1x512x256.Idx) : pay7 m c t y = ref7 m c ((((cfgM m (ok m)).win 7).blk t).view.emb y) := by
  have e : (((cfgM m (ok m)).win 7).blk t).view.emb y = (ix3 (0 : Fin 2) ⟨t.val * 512 + (y 1).val, by have : t.val < 4 := t.isLt; have : (y 1).val < 512 := (y 1).isLt; omega⟩ (y 2) : S2x2048x256.Idx) := by
    blk_ext
    all_goals first | exact idx _ _ _ _ | exact first (idx _ _ _ _) | exact row (idx _ _ _ _)
  rw [e, eq_ix3 y]
  pointwise [k0_pay3, val_main_v49, val_main_v47]
  blk_point [iblk]
  all_goals first | exact idx _ _ _ _ | exact first (idx _ _ _ _) | exact row (idx _ _ _ _)

theorem outs7 (c : Dev nD) (t : Fin (cfgM m (ok m)).N) : (outsAt0 m (ok m) c t).2.2.2 = pay7 m c t := by
  unfold outsAt0
  dsimp only
  unfold out0_A_7
  frame_out
  exact congrArg k0_pay3 ((hs0_1 m (ok m) t).read_unread _)

theorem final7 (c : Dev nD) : (dats m (ok m) 0 c).arrAt 7 (cfgM m (ok m)).N = ref7 m c := by
  have s : (dats m (ok m) 0 c).arrAt 7 (cfgM m (ok m)).N = fun i => if (i 0).val = 0 then ref7 m c i else V m c main_v0_3 i :=
    (dats m (ok m) 0 c).arrAt_eq_of_coversWhere 7 _ (fun β => β (0 : Fin 3) = 0) (covers _).2.2.2 (fun t hf y =>
      (congrFun ((after0_7 m (ok m) c t).trans (outs7 m c t)) y).trans (point7 m c t y))
      (fun j => by show _ ↔ (j (0 : Fin 3)).val / 1 = 0; rw [Nat.div_one]; rfl)
  refine s.trans (layers _ _ fun R J => ?_)
  pointwise [val_main_v45, val_main_v46, val_main_v48, val_main_v49]
  entry_read
  rfl

end Cert.Kernel22Ideal.OptValue

end
-- ==== Proof.OptSmallValue.lean ====
module

public import proofs.«01_k».proof.Proof.Gen.Kernel23Ideal.Frame
public import proofs.«01_k».proof.Proof.Gen.Reference23Ideal.Read
public import Idealize.ShloMosaic.Lib.Pipeline.ValueKit
public import Idealize.ShloMosaic.Lib.Pointwise

/-! The optimiser’s step on the small parameters, packed in one array. -/

@[expose] public section

set_option maxRecDepth 16384

noncomputable section

open Idealize.ShloMosaic Idealize.ShloMosaic.TcCoe Idealize.SL.Sem
open Idealize.ShloMosaic.Pipeline (Dat)

namespace Cert.Kernel23Ideal.OptValue

open Cert.Kernel23Ideal Cert.Kernel23Ideal.Gen
open Cert.Reference23Ideal.Read

/-- No window's place depends on the core's number. -/
theorem ok {F : FTy → Type} [FloatOps F] (m : (ℓ : Loc nD τ sig) → Buf (Elt F) ℓ) : Ok m := trivial

variable (m : (ℓ : Loc nD τ sig) → Buf (Elt Ideal) ℓ)

/-- Every window is its whole array. -/
theorem idx {F : FTy → Type} [FloatOps F] (a : (pcfg0 (F := F)).Adm) (t : Fin grid0.N) : ∀ (w : Fin 7) (k), (pcfg0.win a w).index t k = 0 :=
  have h : ∀ t : Fin grid0.N, (∀ k, cc0_transform_0 (grid0.coords t) k = 0) ∧ (∀ k, cc0_transform_1 (grid0.coords t) k = 0) ∧ (∀ k, cc0_transform_2 (grid0.coords t) k = 0) ∧ (∀ k, cc0_transform_3 (grid0.coords t) k = 0)
      ∧ (∀ k, cc0_transform_4 (grid0.coords t) k = 0) ∧ (∀ k, cc0_transform_5 (grid0.coords t) k = 0) ∧ (∀ k, cc0_transform_6 (grid0.coords t) k = 0) := by decide +kernel
  fun | 0 => (h t).1 | 1 => (h t).2.1 | 2 => (h t).2.2.1 | 3 => (h t).2.2.2.1 | 4 => (h t).2.2.2.2.1 | 5 => (h t).2.2.2.2.2.1
      | 6 => (h t).2.2.2.2.2.2

theorem first {x n k : ℕ} (h : x = 0) : x * n + k = k := by rw [h, Nat.zero_mul, Nat.zero_add]

/-- An array of the launch. -/
abbrev at_ (c : Dev nD) (b : Ref sig .tc) := m ((c : Thread nD τ).loc b)

/-- The stored block covers the array. -/
theorem covers (a : (pcfg0 (F := Ideal)).Adm) : ((cfg0 a).win 4).Covers ∧ ((cfg0 a).win 5).Covers ∧ ((cfg0 a).win 6).Covers := by
  refine ⟨?_, ?_, ?_⟩ <;>
  · refine ⟨(by decide : ∀ k : Fin 2, 0 < S208x1024.size k), fun β => ⟨(⟨0, by decide⟩ : Fin grid0.N),
      by first | exact flush0_4 a _ | exact flush0_5 a _ | exact flush0_6 a _, fun k => ⟨(idx a _ _ k).trans ?_, .inl rfl⟩⟩⟩
    have b : (β k).val < _ := (β k).isLt
    match k, b with
    | ⟨0, _⟩, b => have b : _ < (208 + 208 - 1) / 208 := b; omega
    | ⟨1, _⟩, b => have b : _ < (1024 + 1024 - 1) / 1024 := b; omega

/-- The reference’s array. -/
abbrev ref4 (c : Dev nD) := val_main_v23 (F := Ideal) (at_ m c main_arg1) (at_ m c main_arg2) (at_ m c main_arg3) (at_ m c main_arg4)

/-- The block a point stores. -/
abbrev pay4 (c : Dev nD) (t : Fin (cfgM m (ok m)).N) := k0_pay3 (F := Ideal) (iblk m (ok m) c 0 t) (iblk m (ok m) c 1 t) (iblk m (ok m) c 2 t) (iblk m (ok m) c 3 t)

theorem point4 (c : Dev nD) (t : Fin (cfgM m (ok m)).N) (y : S208x1024.Idx) :
    pay4 m c t y = ref4 m c ((((cfgM m (ok m)).win 4).blk t).view.emb y) := by
  have e : (((cfgM m (ok m)).win 4).blk t).view.emb y = (ix2 (y 0) (y 1) : S208x1024.Idx) := by
    blk_ext
    all_goals exact first (idx _ _ _ _)
  rw [e, eq_ix2 y]
  pointwise [k0_pay1, k0_pay2, k0_pay3, val_main_v23, val_main_v22, val_main_cst_7, val_main_v21, val_main_v18, val_main_v12, val_main_v4, val_main_v1, val_main_v0, val_main_cst, val_main_v3, val_main_v2, val_main_cst_0, val_main_v11, val_main_cst_3, val_main_v17, val_main_v15, val_main_v14, val_main_v10, val_main_v6, val_main_v5, val_main_cst_1, val_main_v9, val_main_v8, val_main_cst_2, val_main_v7, val_main_v13, val_main_cst_4, val_main_v16, val_main_cst_5, val_main_v20, val_main_v19, val_main_cst_6]
  blk_point [iblk]
  all_goals exact first (idx _ _ _ _)

theorem outs4 (c : Dev nD) (t : Fin (cfgM m (ok m)).N) : (outsAt0 m (ok m) c t).1 = pay4 m c t := by
  unfold outsAt0
  dsimp only
  unfold out0_A_4
  frame_out
  exact congr (congr (congr (congrArg k0_pay3 ((hs0_0 m (ok m) t).read_unread _)) ((hs0_1 m (ok m) t).read_unread _)) ((hs0_2 m (ok m) t).read_unread _)) ((hs0_3 m (ok m) t).read_unread _)

theorem final4 (c : Dev nD) : (dats m (ok m) 0 c).arrAt 4 (cfgM m (ok m)).N = ref4 m c :=
  (dats m (ok m) 0 c).arrAt_eq_of_covers 4 _ (covers _).1 fun t _ y =>
    (congrFun ((after0_4 m (ok m) c t).trans (outs4 m c t)) y).trans (point4 m c t y)

/-- The reference’s array. -/
abbrev ref5 (c : Dev nD) := val_main_v4 (F := Ideal) (at_ m c main_arg2) (at_ m c main_arg3)

/-- The block a point stores. -/
abbrev pay5 (c : Dev nD) (t : Fin (cfgM m (ok m)).N) := k0_pay1 (F := Ideal) (iblk m (ok m) c 1 t) (iblk m (ok m) c 2 t)

theorem point5 (c : Dev nD) (t : Fin (cfgM m (ok m)).N) (y : S208x1024.Idx) :
    pay5 m c t y = ref5 m c ((((cfgM m (ok m)).win 5).blk t).view.emb y) := by
  have e : (((cfgM m (ok m)).win 5).blk t).view.emb y = (ix2 (y 0) (y 1) : S208x1024.Idx) := by
    blk_ext
    all_goals exact first (idx _ _ _ _)
  rw [e, eq_ix2 y]
  pointwise [k0_pay1, val_main_v4, val_main_v1, val_main_v0, val_main_cst, val_main_v3, val_main_v2, val_main_cst_0]
  blk_point [iblk]
  all_goals exact first (idx _ _ _ _)

theorem outs5 (c : Dev nD) (t : Fin (cfgM m (ok m)).N) : (outsAt0 m (ok m) c t).2.1 = pay5 m c t := by
  unfold outsAt0
  dsimp only
  unfold out0_A_5
  frame_out
  exact congr (congrArg k0_pay1 ((hs0_1 m (ok m) t).read_unread _)) ((hs0_2 m (ok m) t).read_unread _)

theorem final5 (c : Dev nD) : (dats m (ok m) 0 c).arrAt 5 (cfgM m (ok m)).N = ref5 m c :=
  (dats m (ok m) 0 c).arrAt_eq_of_covers 5 _ (covers _).2.1 fun t _ y =>
    (congrFun ((after0_5 m (ok m) c t).trans (outs5 m c t)) y).trans (point5 m c t y)

/-- The reference’s array. -/
abbrev ref6 (c : Dev nD) := val_main_v10 (F := Ideal) (at_ m c main_arg2) (at_ m c main_arg4)

/-- The block a point stores. -/
abbrev pay6 (c : Dev nD) (t : Fin (cfgM m (ok m)).N) := k0_pay2 (F := Ideal) (iblk m (ok m) c 1 t) (iblk m (ok m) c 3 t)

theorem point6 (c : Dev nD) (t : Fin (cfgM m (ok m)).N) (y : S208x1024.Idx) :
    pay6 m c t y = ref6 m c ((((cfgM m (ok m)).win 6).blk t).view.emb y) := by
  have e : (((cfgM m (ok m)).win 6).blk t).view.emb y = (ix2 (y 0) (y 1) : S208x1024.Idx) := by
    blk_ext
    all_goals exact first (idx _ _ _ _)
  rw [e, eq_ix2 y]
  pointwise [k0_pay2, val_main_v10, val_main_v6, val_main_v5, val_main_cst_1, val_main_v9, val_main_v8, val_main_cst_2, val_main_v7]
  blk_point [iblk]
  all_goals exact first (idx _ _ _ _)

theorem outs6 (c : Dev nD) (t : Fin (cfgM m (ok m)).N) : (outsAt0 m (ok m) c t).2.2 = pay6 m c t := by
  unfold outsAt0
  dsimp only
  unfold out0_A_6
  frame_out
  exact congr (congrArg k0_pay2 ((hs0_1 m (ok m) t).read_unread _)) ((hs0_3 m (ok m) t).read_unread _)

theorem final6 (c : Dev nD) : (dats m (ok m) 0 c).arrAt 6 (cfgM m (ok m)).N = ref6 m c :=
  (dats m (ok m) 0 c).arrAt_eq_of_covers 6 _ (covers _).2.2 fun t _ y =>
    (congrFun ((after0_6 m (ok m) c t).trans (outs6 m c t)) y).trans (point6 m c t y)

end Cert.Kernel23Ideal.OptValue

end
-- ==== Proof.OptClaims.lean ====
module

public import proofs.«01_k».proof.Defs
public import proofs.«01_k».proof.Proof.OptValue
public import proofs.«01_k».proof.Proof.Gen.Reference20Ideal.Run
public import proofs.«01_k».proof.Proof.Gen.Reference20Ideal.Read
public import proofs.«01_k».proof.Proof.OptConvValue
public import proofs.«01_k».proof.Proof.Gen.Reference21Ideal.Run
public import proofs.«01_k».proof.Proof.Gen.Reference21Ideal.Read
public import proofs.«01_k».proof.Proof.OptUpValue
public import proofs.«01_k».proof.Proof.Gen.Reference22Ideal.Run
public import proofs.«01_k».proof.Proof.Gen.Reference22Ideal.Read
public import proofs.«01_k».proof.Proof.OptSmallValue
public import proofs.«01_k».proof.Proof.Gen.Reference23Ideal.Run
public import proofs.«01_k».proof.Proof.Gen.Reference23Ideal.Read
public import Idealize.ShloMosaic.Lib.Claim

/-! The optimiser’s steps: the claims of these calls. -/

@[expose] public section

set_option maxRecDepth 16384

noncomputable section

namespace Cert.Proof.Opt

open Idealize.ShloMosaic Idealize.ShloMosaic.TcCoe Idealize.SL.Sem

theorem frame_reference20 : Cert.quiescent_Reference20Ideal := by
  intro m g _
  exact (θ_run Cert.Reference20Ideal.defs _ _).mono (fun r h => ⟨fun c => (h c).2.2.2.2, sem_eq_zero_of_no_sems (by decide) r.2⟩)
    (Cert.Reference20Ideal.Value.run (F := Ideal) m g)

open Cert.Kernel20Ideal.OptValue Cert.Reference20Ideal.Read in
theorem algebraic20 : Cert.algebraic_Kernel20Ideal_Reference20Ideal := by
  intro m g m' g' _ hagree
  refine ⟨ref4 m, ref5 m, ref6 m, ref7 m, ?_, ?_⟩
  · refine (θ_run Cert.Kernel20Ideal.defs _ _).mono (fun r h c => ?_)
      (θ_run_and (Cert.Kernel20Ideal.Gen.run_main (F := Ideal) m g (ok m)) (Cert.Kernel20Ideal.Gen.unchanged (F := Ideal) m g (ok m)))
    exact ⟨((h.1 c).1 4).trans (final4 m c), ((h.1 c).1 5).trans (final5 m c), ((h.1 c).1 6).trans (final6 m c), ((h.1 c).1 7).trans (final7 m c), h.2 c⟩
  · refine (θ_run Cert.Reference20Ideal.defs _ _).mono (fun r h c => ?_) (Cert.Reference20Ideal.Value.run (F := Ideal) m' g')
    obtain ⟨h0, h1, h2, h3, ha⟩ := h c
    obtain ⟨_, e1, e2, e3, e4, e5, e6, e7, e8⟩ := hagree c
    exact ⟨h0.trans ((val_main_v34_eq _ _ _ _ _).trans (by rw [e1, e2, e3, e4, e5])),
      h1.trans ((val_main_v39_eq _ _ _).trans (by rw [e2, e3, e6])),
      h2.trans ((val_main_v44_eq _ _ _).trans (by rw [e2, e4, e7])),
      h3.trans ((val_main_v49_eq _ _).trans (by rw [e2, e8])), ha⟩

theorem frame_reference21 : Cert.quiescent_Reference21Ideal := by
  intro m g _
  exact (θ_run Cert.Reference21Ideal.defs _ _).mono (fun r h => ⟨fun c => (h c).2.2.2.2, sem_eq_zero_of_no_sems (by decide) r.2⟩)
    (Cert.Reference21Ideal.Value.run (F := Ideal) m g)

open Cert.Kernel21Ideal.OptValue Cert.Reference21Ideal.Read in
theorem algebraic21 : Cert.algebraic_Kernel21Ideal_Reference21Ideal := by
  intro m g m' g' _ hagree
  refine ⟨ref4 m, ref5 m, ref6 m, ref7 m, ?_, ?_⟩
  · refine (θ_run Cert.Kernel21Ideal.defs _ _).mono (fun r h c => ?_)
      (θ_run_and (Cert.Kernel21Ideal.Gen.run_main (F := Ideal) m g (ok m)) (Cert.Kernel21Ideal.Gen.unchanged (F := Ideal) m g (ok m)))
    exact ⟨((h.1 c).1 4).trans (final4 m c), ((h.1 c).1 5).trans (final5 m c), ((h.1 c).1 6).trans (final6 m c), ((h.1 c).1 7).trans (final7 m c), h.2 c⟩
  · refine (θ_run Cert.Reference21Ideal.defs _ _).mono (fun r h c => ?_) (Cert.Reference21Ideal.Value.run (F := Ideal) m' g')
    obtain ⟨h0, h1, h2, h3, ha⟩ := h c
    obtain ⟨_, e1, e2, e3, e4, e5, e6, e7, e8⟩ := hagree c
    exact ⟨h0.trans ((val_main_v34_eq _ _ _ _ _).trans (by rw [e1, e2, e3, e4, e5])),
      h1.trans ((val_main_v39_eq _ _ _).trans (by rw [e2, e3, e6])),
      h2.trans ((val_main_v44_eq _ _ _).trans (by rw [e2, e4, e7])),
      h3.trans ((val_main_v49_eq _ _).trans (by rw [e2, e8])), ha⟩

theorem frame_reference22 : Cert.quiescent_Reference22Ideal := by
  intro m g _
  exact (θ_run Cert.Reference22Ideal.defs _ _).mono (fun r h => ⟨fun c => (h c).2.2.2.2, sem_eq_zero_of_no_sems (by decide) r.2⟩)
    (Cert.Reference22Ideal.Value.run (F := Ideal) m g)

open Cert.Kernel22Ideal.OptValue Cert.Reference22Ideal.Read in
theorem algebraic22 : Cert.algebraic_Kernel22Ideal_Reference22Ideal := by
  intro m g m' g' _ hagree
  refine ⟨ref4 m, ref5 m, ref6 m, ref7 m, ?_, ?_⟩
  · refine (θ_run Cert.Kernel22Ideal.defs _ _).mono (fun r h c => ?_)
      (θ_run_and (Cert.Kernel22Ideal.Gen.run_main (F := Ideal) m g (ok m)) (Cert.Kernel22Ideal.Gen.unchanged (F := Ideal) m g (ok m)))
    exact ⟨((h.1 c).1 4).trans (final4 m c), ((h.1 c).1 5).trans (final5 m c), ((h.1 c).1 6).trans (final6 m c), ((h.1 c).1 7).trans (final7 m c), h.2 c⟩
  · refine (θ_run Cert.Reference22Ideal.defs _ _).mono (fun r h c => ?_) (Cert.Reference22Ideal.Value.run (F := Ideal) m' g')
    obtain ⟨h0, h1, h2, h3, ha⟩ := h c
    obtain ⟨_, e1, e2, e3, e4, e5, e6, e7, e8⟩ := hagree c
    exact ⟨h0.trans ((val_main_v34_eq _ _ _ _ _).trans (by rw [e1, e2, e3, e4, e5])),
      h1.trans ((val_main_v39_eq _ _ _).trans (by rw [e2, e3, e6])),
      h2.trans ((val_main_v44_eq _ _ _).trans (by rw [e2, e4, e7])),
      h3.trans ((val_main_v49_eq _ _).trans (by rw [e2, e8])), ha⟩

theorem frame_reference23 : Cert.quiescent_Reference23Ideal := by
  intro m g _
  exact (θ_run Cert.Reference23Ideal.defs _ _).mono (fun r h => ⟨fun c => (h c).2.2.2, sem_eq_zero_of_no_sems (by decide) r.2⟩)
    (Cert.Reference23Ideal.Value.run (F := Ideal) m g)

open Cert.Kernel23Ideal.OptValue Cert.Reference23Ideal.Read in
theorem algebraic23 : Cert.algebraic_Kernel23Ideal_Reference23Ideal := by
  intro m g m' g' _ hagree
  refine ⟨ref4 m, ref5 m, ref6 m, ?_, ?_⟩
  · refine (θ_run Cert.Kernel23Ideal.defs _ _).mono (fun r h c => ?_)
      (θ_run_and (Cert.Kernel23Ideal.Gen.run_main (F := Ideal) m g (ok m)) (Cert.Kernel23Ideal.Gen.unchanged (F := Ideal) m g (ok m)))
    exact ⟨((h.1 c).1 4).trans (final4 m c), ((h.1 c).1 5).trans (final5 m c), ((h.1 c).1 6).trans (final6 m c), h.2 c⟩
  · refine (θ_run Cert.Reference23Ideal.defs _ _).mono (fun r h c => ?_) (Cert.Reference23Ideal.Value.run (F := Ideal) m' g')
    obtain ⟨h0, h1, h2, ha⟩ := h c
    obtain ⟨_, e1, e2, e3, e4⟩ := hagree c
    exact ⟨h0.trans ((val_main_v23_eq _ _ _ _).trans (by rw [e1, e2, e3, e4])),
      h1.trans ((val_main_v4_eq _ _).trans (by rw [e2, e3])),
      h2.trans ((val_main_v10_eq _ _).trans (by rw [e2, e4])), ha⟩

end Cert.Proof.Opt

end
-- ==== Proof.OutValue.lean ====
module

public import proofs.«01_k».proof.Proof.Gen.Kernel5Ideal.Frame
public import proofs.«01_k».proof.Proof.Gen.Reference5Ideal.Read
public import Idealize.ShloMosaic.Lib.Pipeline.ValueKit
public import Idealize.ShloMosaic.Lib.Pointwise

/-! The gradient of the output projection with its normalisation: the row blocks are taken from the last to the first, the
    weight gradient and the gain gradient are summed over them. -/

@[expose] public section

set_option maxRecDepth 16384

noncomputable section

open Idealize.ShloMosaic Idealize.ShloMosaic.TcCoe Idealize.SL.Sem
open Idealize.ShloMosaic.Pipeline (Dat)

namespace Cert.Kernel5Ideal.OutValue

open Cert.Kernel5Ideal Cert.Kernel5Ideal.Gen
open Cert.Reference5Ideal.Read

variable (m : (ℓ : Loc nD τ sig) → Buf (Elt Ideal) ℓ)

/-- Which block of its array each window stands at, at every point of the grid: the row blocks run backwards. -/
theorem idx : ∀ t : Fin cfg0.N, win0_1.index t = ![7 - t.val, 0]
    ∧ win0_2.index t = ![0, 0]
    ∧ win0_3.index t = ![0, 0]
    ∧ win0_4.index t = ![7 - t.val, 0]
    ∧ win0_5.index t = ![7 - t.val, 0]
    ∧ win0_6.index t = ![7 - t.val, 0]
    ∧ win0_7.index t = ![0, 0]
    ∧ win0_8.index t = ![0, 0] :=
  (by decide +kernel : ∀ t : Fin grid0.N, _)

theorem points (t : Fin cfg0.N) : t.val < 8 := t.isLt

/-- The row of the whole array at row `k` of the block of point `t`. -/
def row (t : Fin cfg0.N) (k : Fin 256) : Fin 2048 := ⟨(7 - t.val) * 256 + k.val, by have := points t; omega⟩

/-- Taken backwards, the blocks' rows are the array's rows in their order. -/
theorem row_rev (s : Fin cfg0.N) (k : Fin 256) (h : s.val * 256 + k.val < 2048) : row (Fin.revPerm s) k = ⟨s.val * 256 + k.val, h⟩ := by
  have hs := points s
  refine Fin.ext ?_
  have e : (Fin.revPerm s).val = 8 - (s.val + 1) := rfl
  show (7 - (Fin.revPerm s).val) * 256 + k.val = _
  rw [e]; congr 2; omega

/-- The gradient that enters the product: a point's block of it is the reference's rows. -/
theorem product_grad (c : Dev nD) (t : Fin cfg0.N) (k : Fin 256) (n : Fin 1024) :
    k0_pay1 (F := Ideal) (k0_pay9 (iblk m c 1 t) (iblk m c 2 t)) (k0_pay15 (iblk m c 1 t) (iblk m c 2 t) (iblk m c 3 t) (iblk m c 4 t)) (k0_pay16 (iblk m c 1 t) (iblk m c 2 t) (iblk m c 3 t) (iblk m c 4 t)) (ix2 k n)
      = val_main_v40 (F := Ideal) (m ((c : Thread nD τ).loc main_arg1)) (m ((c : Thread nD τ).loc main_arg2)) (m ((c : Thread nD τ).loc main_arg3)) (m ((c : Thread nD τ).loc main_arg4)) (ix2 (row t k) n) := by
  pointwise [k0_pay1, k0_pay7, k0_pay8, k0_pay9, k0_pay10, k0_pay11, k0_pay12, k0_pay13, k0_pay14, k0_pay15, k0_pay16, val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_cst_6, val_main_v33, val_main_v34, val_main_cst_7, val_main_v35, val_main_v36, val_main_v37, val_main_v38, val_main_v39, val_main_v40, val_main_v41, val_main_v42, val_main_v43, val_main_v44]
  blk_point [iblk, V, idx t, row]

/-- The gradient of the merged branches, at a block's place. -/
theorem point6 (c : Dev nD) (t : Fin cfg0.N) (y) :
    k0_pay2 (F := Ideal) (k0_pay8 (iblk m c 2 t)) (k0_pay9 (iblk m c 1 t) (iblk m c 2 t)) (k0_pay15 (iblk m c 1 t) (iblk m c 2 t) (iblk m c 3 t) (iblk m c 4 t)) (k0_pay16 (iblk m c 1 t) (iblk m c 2 t) (iblk m c 3 t) (iblk m c 4 t)) y
      = val_main_v43 (F := Ideal) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay2, k0_pay8, val_main_v43, val_main_v1]
  refine Finset.sum_congr rfl fun n _ => ?_
  refine congrArg₂ (· * ·) ((product_grad m c t (y 0) n).trans (congrArg _ ?_)) ?_
  · blk_ext [idx t, row]
  · blk_point [iblk, V, idx t]

theorem final6 (c : Dev nD) : (dats m 0 c).arrAt 6 (cfgs 0).N = val_main_v43 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  by_cases h : t.val % 8 = 0
  · rw [outsAt0_A m c t h]; frame_out; exact point6 m c t y
  · rw [outsAt0_B m c t h]; frame_out; exact point6 m c t y

/-- The cotangent of the residual is handed on unchanged. -/
theorem final5 (c : Dev nD) : (dats m 0 c).arrAt 5 (cfgs 0).N = m ((c : Thread nD τ).loc main_arg4) := by
  refine (dats m 0 c).arrAt_eq_of_covers 5 _ (by decide +kernel) fun t hf y => ?_
  blk_simp; rw [after0_5]
  by_cases h : t.val % 8 = 0
  · rw [outsAt0_A m c t h]; frame_out; pointwise [k0_pay12]; blk_point [iblk, V, idx t]
  · rw [outsAt0_B m c t h]; frame_out; pointwise [k0_pay12]; blk_point [iblk, V, idx t]

theorem zero7 (j : S1024x1024.Idx) : k0_pay5 (F := Ideal) j = 0 := by pointwise! [k0_pay5]

/-- The accumulating store adds the block's product of the merged branches with the gradient. -/
theorem pay7 (v4 : FVec Ideal S256x1024 .f32) (v12 v36 : FVec Ideal S256x1024 .f32) (v39 : FVec Ideal S256x1 .f32) (v55 : FVec Ideal S1024x1024 .f32) (j : S1024x1024.Idx) :
    k0_pay3 (F := Ideal) v4 v12 v36 v39 v55 j
      = v55 j + ∑ k : Fin 256, v4 (ix2 k (j 0)) * k0_pay1 (F := Ideal) v12 v36 v39 (ix2 k (j 1)) := by
  pointwise [k0_pay3]

theorem ref42_at (x1 : FVec Ideal S2048x1024 .bf16) (x2 : FVec Ideal S1024x1024 .bf16) (x3 : FVec Ideal S1024 .f32) (x4 : FVec Ideal S2048x1024 .f32) (i : S1024x1024.Idx) :
    val_main_v42 (F := Ideal) x1 x2 x3 x4 i = ∑ r : Fin 2048, x1 (ix2 r (i 0)) * val_main_v40 (F := Ideal) x1 x2 x3 x4 (ix2 r (i 1)) := by
  pointwise [val_main_v42, val_main_v41, val_main_v0]
  exact Finset.sum_congr rfl fun r _ => mul_comm _ _

theorem final7 (c : Dev nD) : (dats m 0 c).arrAt 7 (cfgs 0).N = val_main_v42 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0) _
    (fun t h j => by rw [outsAt0_A m c t h]; frame_out; rw [pay7, zero7])
    (fun t h j => by rw [outsAt0_B m c t h]; frame_out; rw [pay7])
    (le_of_eq N_0) t0_7 rfl j, zero_add, ref42_at]
  rw [← Equiv.sum_comp Fin.revPerm]
  refine Fin.sum_mul_add_congr fun s k hl => ?_
  refine congrArg₂ (· * ·) ?_ ((product_grad m c _ k (j 1)).trans (congrArg (fun r => val_main_v40 (F := Ideal) _ _ _ _ (ix2 r (j 1))) (row_rev s k hl)))
  rw [← row_rev s k hl]
  pointwise [k0_pay7]
  blk_point [iblk, V, idx (Fin.revPerm s), row]

theorem zero8 (j : S1x1024.Idx) : k0_pay6 (F := Ideal) j = 0 := by pointwise! [k0_pay6]

theorem final8 (c : Dev nD) : (dats m 0 c).arrAt 8 (cfgs 0).N = val_main_v44 (F := Ideal) (m ((c : Thread nD τ).loc main_arg1)) (m ((c : Thread nD τ).loc main_arg2)) (m ((c : Thread nD τ).loc main_arg4)) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun n j => k0_pay13 (F := Ideal) (iblk m c 1 n) (iblk m c 2 n) (iblk m c 4 n) j)
    (fun t h j => by rw [outsAt0_A m c t h]; frame_out; pointwise [k0_pay4, k0_pay6])
    (fun t h j => by rw [outsAt0_B m c t h]; frame_out; pointwise [k0_pay4])
    (le_of_eq N_0) t0_7 rfl j, zero_add]
  rw [← Equiv.sum_comp Fin.revPerm]
  pointwise [k0_pay9, k0_pay10, k0_pay11, k0_pay12, k0_pay13, k0_pay7, k0_pay8, val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_cst_6, val_main_v33, val_main_v34, val_main_cst_7, val_main_v35, val_main_v36, val_main_v37, val_main_v38, val_main_v39, val_main_v40, val_main_v41, val_main_v42, val_main_v43, val_main_v44]
  refine Eq.trans ?_ (@Fin.sum_univ_one EReal _ _).symm
  refine Fin.sum_mul_add_congr fun s k hl => ?_
  rw [← row_rev s k hl]
  blk_point [iblk, V, idx (Fin.revPerm s), row]

end Cert.Kernel5Ideal.OutValue

end
-- ==== Proof.UpFwdValue.lean ====
module

public import proofs.«01_k».proof.Proof.Gen.Kernel8Ideal.Frame
public import proofs.«01_k».proof.Proof.Gen.Reference8Ideal.Read
public import Idealize.ShloMosaic.Lib.Pipeline.ValueKit
public import Idealize.ShloMosaic.Lib.Pointwise

/-! The merge of the four branches: every point of the grid computes a block of rows. -/

@[expose] public section

set_option maxRecDepth 16384

noncomputable section

open Idealize.ShloMosaic Idealize.ShloMosaic.TcCoe Idealize.SL.Sem
open Idealize.ShloMosaic.Pipeline (Dat)

namespace Cert.Kernel8Ideal.UpFwdValue

open Cert.Kernel8Ideal Cert.Kernel8Ideal.Gen
open Cert.Reference8Ideal.Read

variable (m : (ℓ : Loc nD τ sig) → Buf (Elt Ideal) ℓ)

/-- Which block of its array each window stands at, at every point of the grid. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0, 0]
    ∧ win0_6.index t = ![t.val, 0] :=
  (by decide +kernel : ∀ t : Fin grid0.N, _)

theorem points (t : Fin cfg0.N) : t.val < 8 := t.isLt

/-- The gate columns a point reads: its block of rows, the first 4096 columns. -/
theorem gates (c : Dev nD) (t : Fin cfg0.N) (j : S256x4096.Idx) :
    X0_4 m c t j = m ((c : Thread nD τ).loc main_arg4)
      (ix2 ⟨t.val * 256 + (j 0).val, by have ht := points t; have h0 : (j 0).val < 256 := (j 0).isLt; omega⟩ ⟨(j 1).val, by have h1 : (j 1).val < 4096 := (j 1).isLt; omega⟩) := by
  unfold X0_4 Pipeline.Window.fill
  rw [dif_pos (moved0_4 t j)]
  blk_simp [iblk, V, idx t]
  blk_ext [idx t]

/-- The reference's sum over the branches, written out branch by branch. -/
theorem ref_at (x0 x1 x2 x3 : FVec Ideal S2048x512 .bf16) (x4 : FVec Ideal S2048x10240 .bf16) (x5 : FVec Ideal S4x512x1024 .bf16) (i : S2048x1024.Idx) :
    val_main_v20 (F := Ideal) x0 x1 x2 x3 x4 x5 i
      = Ideal.logistic (x4 (ix2 (i 0) ⟨(i 1).val, by have h1 : (i 1).val < 1024 := (i 1).isLt; omega⟩)) * (∑ k : Fin 512, x0 (ix2 (i 0) k) * x5 (ix3 0 k (i 1)))
        + Ideal.logistic (x4 (ix2 (i 0) ⟨1024 + (i 1).val, by have h1 : (i 1).val < 1024 := (i 1).isLt; omega⟩)) * (∑ k : Fin 512, x1 (ix2 (i 0) k) * x5 (ix3 1 k (i 1)))
        + Ideal.logistic (x4 (ix2 (i 0) ⟨2048 + (i 1).val, by have h1 : (i 1).val < 1024 := (i 1).isLt; omega⟩)) * (∑ k : Fin 512, x2 (ix2 (i 0) k) * x5 (ix3 2 k (i 1)))
        + Ideal.logistic (x4 (ix2 (i 0) ⟨3072 + (i 1).val, by have h1 : (i 1).val < 1024 := (i 1).isLt; omega⟩)) * (∑ k : Fin 512, x3 (ix2 (i 0) k) * x5 (ix3 3 k (i 1))) := by
  pointwise [val_main_v0, val_main_v1, val_main_v2, val_main_v3, val_main_v4, val_main_v5, val_main_v6, val_main_v7, val_main_v8, val_main_v9, val_main_v10, val_main_v11, val_main_v12, val_main_v13, val_main_cst, val_main_v14, val_main_v15, val_main_cst_0, val_main_v16, val_main_v17, val_main_v18, val_main_cst_1, val_main_v19, val_main_v20, Ideal.logistic]
  rw [Fin.sum_univ_four]
  refine congrArg₂ (· + ·) (congrArg₂ (· + ·) (congrArg₂ (· + ·) ?_ ?_) ?_) ?_
  all_goals refine congrArg₂ (· * ·) ?_ (Finset.sum_congr rfl fun k _ => (mul_comm _ _).trans ?_)
  all_goals first | rfl | (simp; done)

/-- The result array after the run. -/
theorem final (c : Dev nD) : (dats m 0 c).arrAt 6 (cfgs 0).N
    = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6, ref_at]; unfold outsAt0; frame_out
  pointwise [k0_pay1, k0_pay2, k0_pay3, k0_pay4, k0_pay5, k0_pay6, k0_pay7, Ideal.logistic]
  simp only [gates]
  blk_point [iblk, V, idx t]

end Cert.Kernel8Ideal.UpFwdValue

end
-- ==== Proof.OutFwdValue.lean ====
module

public import proofs.«01_k».proof.Proof.Gen.Kernel9Ideal.Frame
public import proofs.«01_k».proof.Proof.Gen.Reference9Ideal.Read
public import Idealize.ShloMosaic.Lib.Pipeline.ValueKit
public import Idealize.ShloMosaic.Lib.Pointwise

/-! The output projection with its normalisation: every point of the grid computes a block of rows. -/

@[expose] public section

set_option maxRecDepth 16384

noncomputable section

open Idealize.ShloMosaic Idealize.ShloMosaic.TcCoe Idealize.SL.Sem
open Idealize.ShloMosaic.Pipeline (Dat)

namespace Cert.Kernel9Ideal.OutFwdValue

open Cert.Kernel9Ideal Cert.Kernel9Ideal.Gen
open Cert.Reference9Ideal.Read

variable (m : (ℓ : Loc nD τ sig) → Buf (Elt Ideal) ℓ)

/-- Which block of its array each window stands at, at every point of the grid. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0] :=
  (by decide +kernel : ∀ t : Fin grid0.N, _)

/-- What a point stores is the reference's array at the block's place. -/
theorem point (c : Dev nD) (t : Fin cfg0.N) (y) :
    k0_pay1 (F := Ideal) (iblk m c 0 t) (iblk m c 1 t) (iblk m c 2 t) (iblk m c 3 t) y
      = val_main_v16 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16]
  blk_point [iblk, V, idx t]

/-- The result array after the run. -/
theorem final (c : Dev nD) : (dats m 0 c).arrAt 4 (cfgs 0).N
    = val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.Kernel9Ideal.OutFwdValue

end
-- ==== Proof.OutClaims.lean ====
module

public import proofs.«01_k».proof.Defs
public import proofs.«01_k».proof.Proof.OutValue
public import proofs.«01_k».proof.Proof.Gen.Kernel5Ideal.Value
public import proofs.«01_k».proof.Proof.Gen.Reference5Ideal.Run
public import proofs.«01_k».proof.Proof.UpFwdValue
public import proofs.«01_k».proof.Proof.Gen.Reference8Ideal.Run
public import proofs.«01_k».proof.Proof.OutFwdValue
public import proofs.«01_k».proof.Proof.Gen.Reference9Ideal.Run
public import Idealize.ShloMosaic.Lib.Claim

/-! The output projection, its gradient, and the merge: the claims of these calls. -/

@[expose] public section

set_option maxRecDepth 16384

noncomputable section

namespace Cert.Proof.Out

open Idealize.ShloMosaic Idealize.ShloMosaic.TcCoe Idealize.SL.Sem

theorem frame_reference5 : Cert.quiescent_Reference5Ideal := by
  intro m g _
  exact (θ_run Cert.Reference5Ideal.defs _ _).mono (fun r h => ⟨fun c => (h c).2.2.2.2, sem_eq_zero_of_no_sems (by decide) r.2⟩)
    (Cert.Reference5Ideal.Value.run (F := Ideal) m g)

theorem frame_reference8 : Cert.quiescent_Reference8Ideal := by
  intro m g _
  exact (θ_run Cert.Reference8Ideal.defs _ _).mono (fun r h => ⟨fun c => (h c).2, sem_eq_zero_of_no_sems (by decide) r.2⟩)
    (Cert.Reference8Ideal.Value.run (F := Ideal) m g)

theorem frame_reference9 : Cert.quiescent_Reference9Ideal := by
  intro m g _
  exact (θ_run Cert.Reference9Ideal.defs _ _).mono (fun r h => ⟨fun c => (h c).2, sem_eq_zero_of_no_sems (by decide) r.2⟩)
    (Cert.Reference9Ideal.Value.run (F := Ideal) m g)

theorem algebraic5 : Cert.algebraic_Kernel5Ideal_Reference5Ideal := by
  intro m g m' g' _ hagree
  refine ⟨fun c => m ((c.tc : Thread Cert.Kernel5Ideal.nD Cert.Kernel5Ideal.τ).loc Cert.Kernel5Ideal.main_arg4),
    fun c => Cert.Reference5Ideal.Read.val_main_v43 (F := Ideal) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    fun c => Cert.Reference5Ideal.Read.val_main_v42 (F := Ideal) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    fun c => Cert.Reference5Ideal.Read.val_main_v44 (F := Ideal) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg4)), ?_, ?_⟩
  · refine (θ_run Cert.Kernel5Ideal.defs _ _).mono (fun r h c => ?_) (Cert.Kernel5Ideal.Value.run_blocks (F := Ideal) m g)
    obtain ⟨h0, h1, h2, h3, ha⟩ := h c
    exact ⟨h0.trans (Cert.Kernel5Ideal.OutValue.final5 m c), h1.trans (Cert.Kernel5Ideal.OutValue.final6 m c),
      h2.trans (Cert.Kernel5Ideal.OutValue.final7 m c), h3.trans (Cert.Kernel5Ideal.OutValue.final8 m c), ha⟩
  · refine (θ_run Cert.Reference5Ideal.defs _ _).mono (fun r h c => ?_) (Cert.Reference5Ideal.Value.run (F := Ideal) m' g')
    obtain ⟨h1, h2, h3, h4, ha⟩ := h c
    obtain ⟨e0, e1, e2, e3, e4⟩ := hagree c
    exact ⟨h1.trans e4,
      h2.trans ((Cert.Reference5Ideal.Read.val_main_v43_eq _ _).trans (by rw [e1, e2, e3, e4])),
      h3.trans ((Cert.Reference5Ideal.Read.val_main_v42_eq _ _).trans (by rw [e1, e2, e3, e4])),
      h4.trans ((Cert.Reference5Ideal.Read.val_main_v44_eq _ _ _).trans (by rw [e1, e2, e4])), ha⟩

theorem algebraic8 : Cert.algebraic_Kernel8Ideal_Reference8Ideal := by
  pair_intro
  · run_from Cert.Kernel8Ideal.Gen.run_main m g
  · run_from Cert.Reference8Ideal.Value.run m' g'
    exact (Cert.Kernel8Ideal.UpFwdValue.final m c).symm

theorem algebraic9 : Cert.algebraic_Kernel9Ideal_Reference9Ideal := by
  pair_intro
  · run_from Cert.Kernel9Ideal.Gen.run_main m g
  · run_from Cert.Reference9Ideal.Value.run m' g'
    exact (Cert.Kernel9Ideal.OutFwdValue.final m c).symm

end Cert.Proof.Out

end
-- ==== Proof.MiscValue.lean ====
module

public import proofs.«01_k».proof.Proof.Gen.Kernel18Ideal.Frame
public import proofs.«01_k».proof.Proof.Gen.Reference18Ideal.Read
public import Idealize.ShloMosaic.Lib.Pipeline.ValueKit
public import Idealize.ShloMosaic.Lib.Pointwise

/-! The packed columns’ gradient: the window’s keys and values and the rates, put in their place. -/

@[expose] public section

set_option maxRecDepth 16384

noncomputable section

open Idealize.ShloMosaic Idealize.ShloMosaic.TcCoe Idealize.SL.Sem
open Idealize.ShloMosaic.Pipeline (Dat)

namespace Cert.Kernel18Ideal.MiscValue

open Cert.Kernel18Ideal Cert.Kernel18Ideal.Gen
open Cert.Reference18Ideal.Read

variable (m : (ℓ : Loc nD τ sig) → Buf (Elt Ideal) ℓ)

/-- Which block of its array each window stands at, at every point of the grid. -/
theorem idx : ∀ t : Fin cfg0.N, win0_0.index t = ![t.val, 0] ∧ win0_1.index t = ![t.val, 0] ∧ win0_2.index t = ![t.val, 15] :=
  (by decide +kernel : ∀ t : Fin grid0.N, _)

/-- The rows of a block. -/
def row (t : Fin cfg0.N) (r : Fin 512) : Fin 2048 := ⟨t.val * 512 + r.val, by have : t.val < 4 := t.isLt; omega⟩

theorem ref_cols (x0 x1 x2) (R : Fin 2048) (J : Fin 10240) :
    val_main_v4 (F := Ideal) x0 x1 x2 (ix2 R J)
      = if h : 7680 ≤ J.val ∧ J.val - 7680 < 512 then
          if g : J.val - 7680 < 256 then x1 (ix2 R ⟨J.val - 7680, g⟩) else x2 (ix2 R ⟨J.val - 7680 - 256, by omega⟩)
        else x0 (ix2 R J) := by
  pointwise [val_main_v0, val_main_v1, val_main_v2, val_main_v3, val_main_v4]
  by_cases a : J.val < 7680
  · rw [dif_pos a, dif_neg (by omega)]
  by_cases b : J.val - 7680 < 256
  · rw [dif_neg a, dif_pos b, dif_pos ⟨by omega, by omega⟩, dif_pos b]
  by_cases d : J.val - 7680 - 256 < 256
  · rw [dif_neg a, dif_neg b, dif_pos d, dif_pos ⟨by omega, by omega⟩, dif_neg b]
  · rw [dif_neg a, dif_neg b, dif_neg d, dif_neg (by omega)]
    exact congrArg (fun j => x0 (ix2 R j)) (Fin.ext (by show 8192 + (J.val - 7680 - 256 - 256) = J.val; omega))

theorem emb2 (t : Fin cfg0.N) (r : Fin 512) (j : Fin 512) :
    ((cfg0.win 2).blk t).view.emb (ix2 r j) = (ix2 (row t r) ⟨7680 + j.val, by omega⟩ : S2048x10240.Idx) := by
  blk_ext [idx t, row]

/-- The columns a point stores are the reference's. -/
theorem point_at (c : Dev nD) (t : Fin cfg0.N) (r j : Fin 512) :
    k0_pay1 (F := Ideal) (iblk m c 0 t) (iblk m c 1 t) (ix2 r j)
      = val_main_v4 (F := Ideal) (m ((c : Thread nD τ).loc main_arg0)) (m ((c : Thread nD τ).loc main_arg1)) (m ((c : Thread nD τ).loc main_arg2)) (ix2 (row t r) ⟨7680 + j.val, by omega⟩) := by
  rw [ref_cols, dif_pos ⟨by show 7680 ≤ 7680 + j.val; omega, by show 7680 + j.val - 7680 < 512; omega⟩]
  have e : (⟨7680 + j.val, by omega⟩ : Fin 10240).val - 7680 = j.val := by show 7680 + j.val - 7680 = j.val; omega
  simp only [e]
  pointwise [k0_pay1]
  by_cases h : j.val < 256
  · rw [dif_pos h, dif_pos h]; blk_point [iblk, V, idx t, row]
  · rw [dif_neg h, dif_neg h]; blk_point [iblk, V, idx t, row]

theorem point (c : Dev nD) (t : Fin cfg0.N) (y : S512x512.Idx) :
    k0_pay1 (F := Ideal) (iblk m c 0 t) (iblk m c 1 t) y
      = val_main_v4 (F := Ideal) (m ((c : Thread nD τ).loc main_arg0)) (m ((c : Thread nD τ).loc main_arg1)) (m ((c : Thread nD τ).loc main_arg2)) (((cfg0.win 2).blk t).view.emb y) :=
  (congrArg _ (eq_ix2 y)).trans ((point_at m c t (y 0) (y 1)).trans
    (congrArg _ ((emb2 t (y 0) (y 1)).symm.trans (congrArg _ (eq_ix2 y).symm))))

/-- The call fills its 512 columns; the others keep what they held. -/
theorem stored (c : Dev nD) : (dats m 0 c).arrAt 2 (cfgs 0).N
    = fun i => if 7680 ≤ (i 1).val ∧ (i 1).val - 7680 < 512 then val_main_v4 (F := Ideal) (m ((c : Thread nD τ).loc main_arg0)) (m ((c : Thread nD τ).loc main_arg1)) (m ((c : Thread nD τ).loc main_arg2)) i else V m c main_v0 i := by
  refine (dats m 0 c).arrAt_eq_of_coversWhere 2 _ (fun β => β (1 : Fin 2) = 15) (by decide +kernel) (fun t hf y => ?_)
    (fun j => by blk_simp [Pipeline.Window.cell_apply]; omega)
  blk_simp; rw [after0_2, outsAt0]; frame_out
  exact point m c t y

theorem final (c : Dev nD) : (dats m 0 c).arrAt 2 (cfgs 0).N = val_main_v4 (F := Ideal) (m ((c : Thread nD τ).loc main_arg0)) (m ((c : Thread nD τ).loc main_arg1)) (m ((c : Thread nD τ).loc main_arg2)) := by
  rw [stored]
  funext i
  by_cases h : 7680 ≤ (i 1).val ∧ (i 1).val - 7680 < 512
  · rw [if_pos h]
  · rw [if_neg h, eq_ix2 i, ref_cols _ _ _ (i 0) (i 1), dif_neg h]
    entry_read
    rfl

end Cert.Kernel18Ideal.MiscValue

end
-- ==== Proof.LossValue.lean ====
module

public import proofs.«01_k».proof.Proof.Gen.Kernel19Ideal.Frame
public import proofs.«01_k».proof.Proof.Gen.Reference19Ideal.Read
public import Idealize.ShloMosaic.Lib.Pipeline.ValueKit
public import Idealize.ShloMosaic.Lib.Pointwise

/-! The loss head: every token’s loss, and the gradient by the last activations. -/

@[expose] public section

set_option maxRecDepth 16384

noncomputable section

open Idealize.ShloMosaic Idealize.ShloMosaic.TcCoe Idealize.SL.Sem
open Idealize.ShloMosaic.Pipeline (Dat)

namespace Cert.Kernel19Ideal.LossValue

open Cert.Kernel19Ideal Cert.Kernel19Ideal.Gen
open Cert.Reference19Ideal.Read

variable (m : (ℓ : Loc nD τ sig) → Buf (Elt Ideal) ℓ)

/-- Which block of its array each window stands at, at every point of the grid. -/
theorem idx : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)

/-- Half of twice the difference over the width is the difference over the width. -/
theorem half_twice (x : EReal) :
    x * Ideal.ofBits .f32 0x3A800000#32
      = Ideal.div (Ideal.ofBits .f32 0x3F000000#32) (Ideal.ofBits .f32 0x44800000#32) * (Ideal.ofBits .f32 0x40000000#32 * x) := by
  have a : Ideal.ofBits .f32 0x3A800000#32 = ((1 / 1024 : ℝ) : EReal) := by
    simp [Ideal.ofBits, Ideal.ieee, -EReal.coe_mul]; norm_num
  have b : Ideal.ofBits .f32 0x3F000000#32 = ((1 / 2 : ℝ) : EReal) := by
    simp [Ideal.ofBits, Ideal.ieee, -EReal.coe_mul]
    norm_num
  have e : Ideal.ofBits .f32 0x44800000#32 = ((1024 : ℝ) : EReal) := by
    simp [Ideal.ofBits, Ideal.ieee, -EReal.coe_mul]; norm_num
  have f : Ideal.ofBits .f32 0x40000000#32 = ((2 : ℝ) : EReal) := by
    simp [Ideal.ofBits, Ideal.ieee, -EReal.coe_mul]; norm_num
  have g : Ideal.div ((1 / 2 : ℝ) : EReal) ((1024 : ℝ) : EReal) = ((1 / 2048 : ℝ) : EReal) := by
    rw [Ideal.div_coe (by norm_num), ← EReal.coe_mul]
    norm_num
  rw [a, b, e, f, g, ← mul_assoc, ← EReal.coe_mul, mul_comm]
  norm_num

/-- A block of the gradient by the last activations. -/
theorem point2 (c : Dev nD) (t : Fin cfg0.N) (y) :
    k0_pay2 (F := Ideal) (iblk m c 0 t) (iblk m c 1 t) y = val_main_v15 (F := Ideal) (m ((c : Thread nD τ).loc main_arg0)) (m ((c : Thread nD τ).loc main_arg1)) (((cfg0.win 2).blk t).view.emb y) := by
  pointwise [k0_pay2, k0_pay1, val_main_v0, val_main_cst, val_main_v2, val_main_v3, val_main_cst_3, val_main_v9, val_main_cst_4, val_main_v10, val_main_v11, val_main_cst_5, val_main_v12, val_main_v13, val_main_v14, val_main_v15]
  refine (half_twice _).trans ?_
  blk_point [iblk, V, idx t]

/-- A block of the tokens' losses. -/
theorem point3 (c : Dev nD) (t : Fin cfg0.N) (y) :
    k0_pay3 (F := Ideal) (iblk m c 0 t) (iblk m c 1 t) y = val_main_v17 (F := Ideal) (m ((c : Thread nD τ).loc main_arg0)) (m ((c : Thread nD τ).loc main_arg1)) (((cfg0.win 3).blk t).view.emb y) := by
  pointwise [k0_pay3, k0_pay1, val_main_v0, val_main_v1, val_main_cst_0, val_main_v4, val_main_cst_1, val_main_v5, val_main_v6, val_main_cst_2, val_main_v7, val_main_v8, val_main_v16, val_main_v17]
  blk_point [iblk, V, idx t]

theorem final2 (c : Dev nD) : (dats m 0 c).arrAt 2 (cfgs 0).N = val_main_v15 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point2 m c t y

theorem final3 (c : Dev nD) : (dats m 0 c).arrAt 3 (cfgs 0).N = val_main_v17 (F := Ideal) (m ((c : Thread nD τ).loc main_arg0)) (m ((c : Thread nD τ).loc main_arg1)) := by
  refine (dats m 0 c).arrAt_eq_of_covers 3 _ (by decide +kernel) fun t hf y => ?_
  blk_simp; rw [after0_3]; frame_out
  exact point3 m c t y

end Cert.Kernel19Ideal.LossValue

end
-- ==== Proof.RestClaims.lean ====
module

public import proofs.«01_k».proof.Defs
public import proofs.«01_k».proof.Proof.MiscValue
public import proofs.«01_k».proof.Proof.Gen.Kernel18Ideal.Value
public import proofs.«01_k».proof.Proof.Gen.Reference18Ideal.Run
public import proofs.«01_k».proof.Proof.Gen.Reference18Ideal.Read
public import proofs.«01_k».proof.Proof.LossValue
public import proofs.«01_k».proof.Proof.Gen.Kernel19Ideal.Value
public import proofs.«01_k».proof.Proof.Gen.Reference19Ideal.Run
public import proofs.«01_k».proof.Proof.Gen.Reference19Ideal.Read
public import Idealize.ShloMosaic.Lib.Claim

/-! The loss head and the columns of the packed gradient put in place: the claims of these calls. -/

@[expose] public section

set_option maxRecDepth 16384

noncomputable section

namespace Cert.Proof.Rest

open Idealize.ShloMosaic Idealize.ShloMosaic.TcCoe Idealize.SL.Sem

theorem frame_reference18 : Cert.quiescent_Reference18Ideal := by
  intro m g _
  exact (θ_run Cert.Reference18Ideal.defs _ _).mono (fun r h => ⟨fun c => (h c).2, sem_eq_zero_of_no_sems (by decide) r.2⟩)
    (Cert.Reference18Ideal.Value.run (F := Ideal) m g)

theorem frame_reference19 : Cert.quiescent_Reference19Ideal := by
  intro m g _
  exact (θ_run Cert.Reference19Ideal.defs _ _).mono (fun r h => ⟨fun c => (h c).2.2, sem_eq_zero_of_no_sems (by decide) r.2⟩)
    (Cert.Reference19Ideal.Value.run (F := Ideal) m g)

theorem algebraic18 : Cert.algebraic_Kernel18Ideal_Reference18Ideal := by
  intro m g m' g' _ hagree
  refine ⟨fun c => Cert.Reference18Ideal.Read.val_main_v4 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)), ?_, ?_⟩
  · refine (θ_run Cert.Kernel18Ideal.defs _ _).mono (fun r h c => ?_) (Cert.Kernel18Ideal.Value.run_blocks (F := Ideal) m g)
    obtain ⟨h0, ha⟩ := h c
    exact ⟨h0.trans (Cert.Kernel18Ideal.MiscValue.final m c), ha⟩
  · refine (θ_run Cert.Reference18Ideal.defs _ _).mono (fun r h c => ?_) (Cert.Reference18Ideal.Value.run (F := Ideal) m' g')
    obtain ⟨h0, ha⟩ := h c
    obtain ⟨e0, e1, e2⟩ := hagree c
    exact ⟨h0.trans ((Cert.Reference18Ideal.Read.val_main_v4_eq _ _ _).trans (by rw [e0, e1, e2])), ha⟩

theorem algebraic19 : Cert.algebraic_Kernel19Ideal_Reference19Ideal := by
  intro m g m' g' _ hagree
  refine ⟨fun c => Cert.Reference19Ideal.Read.val_main_v15 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)), fun c => Cert.Reference19Ideal.Read.val_main_v17 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)), ?_, ?_⟩
  · refine (θ_run Cert.Kernel19Ideal.defs _ _).mono (fun r h c => ?_) (Cert.Kernel19Ideal.Value.run_blocks (F := Ideal) m g)
    obtain ⟨h0, h1, ha⟩ := h c
    exact ⟨h0.trans (Cert.Kernel19Ideal.LossValue.final2 m c), h1.trans (Cert.Kernel19Ideal.LossValue.final3 m c), ha⟩
  · refine (θ_run Cert.Reference19Ideal.defs _ _).mono (fun r h c => ?_) (Cert.Reference19Ideal.Value.run (F := Ideal) m' g')
    obtain ⟨h0, h1, ha⟩ := h c
    obtain ⟨e0, e1⟩ := hagree c
    exact ⟨h0.trans ((Cert.Reference19Ideal.Read.val_main_v15_eq _ _).trans (by rw [e0, e1])), h1.trans ((Cert.Reference19Ideal.Read.val_main_v17_eq _ _).trans (by rw [e0, e1])), ha⟩

end Cert.Proof.Rest

end
-- ==== Proof.UpValue.lean ====
module

public import proofs.«01_k».proof.Proof.Gen.KernelIdeal.Frame
public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.UpValue

open Cert.KernelIdeal Cert.KernelIdeal.Gen
open Cert.ReferenceIdeal.Read

variable (m : (ℓ : Loc nD τ sig) → Buf (Elt Ideal) ℓ)

/-- Which block of its array each window stands at, at every point of the grid. -/
theorem idx : ∀ t : Fin cfg0.N, win0_0.index t = ![t.val % 2, t.val / 2]
    ∧ win0_1.index t = ![t.val % 2, t.val / 2]
    ∧ win0_2.index t = ![t.val % 2, 0]
    ∧ win0_3.index t = ![t.val / 2, 0, 0]
    ∧ win0_4.index t = ![t.val % 2, t.val / 2]
    ∧ win0_5.index t = ![t.val % 2, t.val / 2]
    ∧ win0_6.index t = ![t.val / 2, 0, 0] :=
  (by decide +kernel : ∀ t : Fin grid0.N, _)

/-- The four branch outputs side by side, as one function of branch, row and channel. -/
def branch (x0 x1 x2 x3 : FVec Ideal S2048x512 .bf16) (q : Fin 4) (r : Fin 2048) (k : Fin 512) : EReal :=
  ![x0 (ix2 r k), x1 (ix2 r k), x2 (ix2 r k), x3 (ix2 r k)] q

/-- The array the kernel is handed holds branch `q` in columns `q * 512` to `q * 512 + 511`. -/
theorem branch_col (c : Dev nD) (i : S2048x2048.Idx) (q : Fin 4) (r : Fin 2048) (k : Fin 512)
    (h0 : (i 0).val = r.val) (h1 : (i 1).val = q.val * 512 + k.val) :
    V m c main_v0 i = branch (m ((c : Thread nD τ).loc main_arg0)) (m ((c : Thread nD τ).loc main_arg1)) (m ((c : Thread nD τ).loc main_arg2)) (m ((c : Thread nD τ).loc main_arg3)) q r k := by
  have hi : i = ix2 r ⟨q.val * 512 + k.val, by omega⟩ := Shape.idx_ext₂ h0 h1
  rw [hi]
  clear hi h0 h1
  entry_read
  pointwise [branch]
  fin_cases q
  · simp
  · simp
  · simp
    rw [dif_neg (by omega), dif_neg (by omega), dif_pos (by omega)]
    exact congrArg _ (congrArg (ix2 r) (Fin.ext (by simp; omega)))
  · simp
    rw [dif_neg (by omega), dif_neg (by omega), dif_neg (by omega)]
    exact congrArg _ (congrArg (ix2 r) (Fin.ext (by simp; omega)))

/-- The reference's stack of the branch outputs. -/
theorem branch_stack (x0 x1 x2 x3 : FVec Ideal S2048x512 .bf16) (q : Fin 4) (r : Fin 2048) (k : Fin 512) :
    val_main_v5 (F := Ideal) x0 x1 x2 x3 (ix3 r q k) = branch x0 x1 x2 x3 q r k := by
  pointwise [val_main_v5, val_main_v4, val_main_v3, val_main_v2, val_main_v1, val_main_v0, branch]
  fin_cases q <;> simp

/-- The gradient of the branch outputs: what a point stores is the reference's array at the block's place. -/
theorem point4 (c : Dev nD) (t : Fin cfg0.N) (y) :
    k0_pay7 (F := Ideal) (iblk m c 1 t) (iblk m c 3 t) (iblk m c 2 t) y
      = val_main_v35 (F := Ideal) (m ((c : Thread nD τ).loc main_arg4)) (m ((c : Thread nD τ).loc main_arg5)) (m ((c : Thread nD τ).loc main_arg6)) (((cfg0.win 4).blk t).view.emb y) := by
  pointwise [k0_pay4, k0_pay5, k0_pay6, k0_pay7, Ideal.logistic, val_main_v6, val_main_v7, val_main_v8, val_main_v9, val_main_v10, val_main_v11, val_main_v12, val_main_v13, val_main_cst, val_main_v14, val_main_v15, val_main_cst_0, val_main_v16, val_main_v17, val_main_cst_1, val_main_v18, val_main_v19, val_main_v20, val_main_cst_2, val_main_v23, val_main_v24, val_main_v25, val_main_v26, val_main_v27, val_main_v28, val_main_v29, val_main_v30, val_main_v31, val_main_v32, val_main_v33, val_main_c, val_main_call0_v0, val_main_v34, val_main_v35]
  blk_point [iblk, V, idx t]

/-- The gate-logit gradient of the reference inside the gate columns, as arithmetic over the arguments:
    column `q * 1024 + n` belongs to branch `q` and channel `n`. -/
theorem ref34_at (x0 x1 x2 x3 : FVec Ideal S2048x512 .bf16) (x4 : FVec Ideal S2048x10240 .bf16) (x5 : FVec Ideal S2048x1024 .f32) (x6 : FVec Ideal S4x512x1024 .bf16)
    (i : S2048x10240.Idx) (r : Fin 2048) (q : Fin 4) (n : Fin 1024) (hr : (i 0).val = r.val) (hq : (i 1).val = q.val * 1024 + n.val) :
    val_main_v34 (F := Ideal) x0 x1 x2 x3 x4 x5 x6 i
      = (x5 (ix2 r n) * ∑ k : Fin 512, branch x0 x1 x2 x3 q r k * x6 (ix3 q k n))
        * (Ideal.logistic (x4 i) * (1 - Ideal.logistic (x4 i))) := by
  have h : (i 1).val < 4096 := by omega
  pointwise [val_main_v6, val_main_v7, val_main_v8, val_main_v9, val_main_v10, val_main_v11, val_main_v12, val_main_v13, val_main_cst, val_main_v14, val_main_v15, val_main_cst_0, val_main_v16, val_main_v17, val_main_cst_1, val_main_v18, val_main_v19, val_main_v20, val_main_cst_2, val_main_v23, val_main_v24, val_main_v25, val_main_v26, val_main_v27, val_main_v28, val_main_v29, val_main_v30, val_main_v31, val_main_v32, val_main_v33, val_main_c, val_main_call0_v0, val_main_v34, val_main_v35, Ideal.logistic]
  simp only [dif_pos h, branch_stack]
  have e : (ix2 (i 0) ⟨(i 1).val / 1024 * 1024 + (i 1).val % 1024, by omega⟩ : S2048x10240.Idx) = i :=
    Shape.idx_ext₂ rfl (by simp; omega)
  have e0 : i 0 = r := Fin.ext hr
  have e1 : (⟨(i 1).val % 1024, by omega⟩ : Fin 1024) = n := Fin.ext (by simp; omega)
  have e2 : (⟨(i 1).val / 1024, by omega⟩ : Fin 4) = q := Fin.ext (by simp; omega)
  rw [e]
  simp only [e0, e1, e2]
  refine congrArg₂ (· * ·) (congrArg₂ (· * ·) rfl (Finset.sum_congr rfl fun k _ => ?_)) rfl
  exact (mul_comm _ _).trans (congrArg (· * _) (branch_stack x0 x1 x2 x3 q r k))

/-- The gradient of the gate logits, in the columns a point writes. -/
theorem point5 (c : Dev nD) (t : Fin cfg0.N) (y) :
    k0_pay9 (F := Ideal) (iblk m c 0 t) (iblk m c 1 t) (iblk m c 3 t) (iblk m c 2 t) y
      = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 5).blk t).view.emb y) := by
  have h8 : t.val < 8 := t.isLt
  have hy0 : (y 0).val < 1024 := (y 0).isLt
  have hy1 : (y 1).val < 1024 := (y 1).isLt
  rw [ref34_at _ _ _ _ _ _ _ _ ⟨t.val % 2 * 1024 + (y 0).val, by omega⟩ ⟨t.val / 2, by omega⟩ ⟨(y 1).val, hy1⟩ (by blk_simp [idx t]) (by blk_simp [idx t])]
  pointwise [k0_pay3, k0_pay4, k0_pay5, k0_pay9, Ideal.logistic]
  blk_point [iblk, V, idx t]
  exact congrArg (· * _) (branch_col m c _ _ _ _ (by blk_simp [idx t]) (by blk_simp [idx t]))

theorem zero6 (j : S1x512x1024.Idx) : k0_pay2 (F := Ideal) j = 0 := by pointwise [k0_pay2]

/-- The accumulating store adds the tile's product of the branch outputs with the gated cotangent. -/
theorem pay6 (acc : FVec Ideal S1x512x1024 .f32) (x0 : FVec Ideal S1024x512 .bf16) (x1 : FVec Ideal S1024x1024 .bf16) (x2 : FVec Ideal S1024x1024 .f32)
    (j : S1x512x1024.Idx) :
    k0_pay1 (F := Ideal) (k0_pay8 x0 x1 x2) (k0_pay10 acc) j
      = acc j + ∑ k : Fin 1024, x0 (ix2 k (j 1)) * (Ideal.logistic (x1 (ix2 k (j 2))) * x2 (ix2 k (j 2))) := by
  pointwise [k0_pay1, k0_pay8, k0_pay10, k0_pay3, k0_pay5, k0_pay6]

theorem final6 (c : Dev nD) : (dats m 0 c).arrAt 6 (cfgs 0).N
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, Pipeline.eq_sum_fin_of_reset_step_apply_of_flush (fun n h => (outsAt0 m c n h).2.2) 2 (fun _ => 0) _
    (fun t h j => by rw [outsAt0_A m c t h]; frame_out; rw [pay6, zero6])
    (fun t h j => by rw [outsAt0_B m c t h]; frame_out; rw [pay6])
    t ((flush0_6 t).mp hf) _, zero_add]
  pointwise [val_main_v6, val_main_v7, val_main_v8, val_main_v9, val_main_v10, val_main_v11, val_main_v12, val_main_v13, val_main_cst, val_main_v14, val_main_v15, val_main_cst_0, val_main_v16, val_main_v17, val_main_cst_1, val_main_v18, val_main_v19, val_main_v20, val_main_cst_2, val_main_v23, val_main_v24, val_main_v25, val_main_v26, val_main_v27, val_main_v28, val_main_v29, val_main_v30, val_main_v31, val_main_v32, val_main_v33, val_main_c, val_main_call0_v0, val_main_v34, val_main_v35, Ideal.logistic]
  refine Fin.sum_mul_add_congr fun s k hl => ?_
  refine Eq.trans ?_ (@mul_comm EReal _ _ _)
  refine Eq.trans ?_ (congrArg (· * _) (branch_stack _ _ _ _ _ _ _).symm)
  blk_point [iblk, V, idx t, idx ⟨_, Pipeline.run_point_lt_of_flush t ((flush0_6 t).mp hf) s⟩]
  have hp := idx ⟨_, Pipeline.run_point_lt_of_flush t ((flush0_6 t).mp hf) s⟩
  exact congrArg (· * _) (branch_col m c _ _ _ _ (by blk_simp [idx t, hp]; dsimp only; omega) (by blk_simp [idx t, hp]; dsimp only; omega))

theorem final4 (c : Dev nD) : (dats m 0 c).arrAt 4 (cfgs 0).N
    = val_main_v35 (F := Ideal) (m ((c : Thread nD τ).loc main_arg4)) (m ((c : Thread nD τ).loc main_arg5)) (m ((c : Thread nD τ).loc main_arg6)) := by
  refine (dats m 0 c).arrAt_eq_of_covers 4 _ (by decide +kernel) fun t hf y => ?_
  blk_simp; rw [after0_4]
  by_cases h : t.val % 2 = 0
  · rw [outsAt0_A m c t h]; frame_out; exact point4 m c t y
  · rw [outsAt0_B m c t h]; frame_out; exact point4 m c t y

/-- The gate-logit gradient fills the first 4096 columns; the others keep what they held. -/
theorem final5 (c : Dev nD) : (dats m 0 c).arrAt 5 (cfgs 0).N
    = fun i => if (i 1).val < 4096 then val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i
        else V m c main_v1_1 i := by
  refine (dats m 0 c).arrAt_eq_of_coversWhere 5 _ (fun β => β (1 : Fin 2) < 4) (by decide +kernel) (fun t hf y => ?_)
    (fun j => by blk_simp [Pipeline.Window.cell_apply]; omega)
  blk_simp; rw [after0_5]
  by_cases h : t.val % 2 = 0
  · rw [outsAt0_A m c t h]; frame_out; exact point5 m c t y
  · rw [outsAt0_B m c t h]; frame_out; exact point5 m c t y

end Cert.KernelIdeal.UpValue

end
-- ==== Proof.UpClaim.lean ====
module

public import proofs.«01_k».proof.Defs
public import proofs.«01_k».proof.Proof.UpValue
public import proofs.«01_k».proof.Proof.Gen.KernelIdeal.Value
public import proofs.«01_k».proof.Proof.Gen.ReferenceIdeal.Run
public import proofs.«01_k».proof.Proof.Gen.On_up_written
public import Idealize.ShloMosaic.Lib.Claim

/-! The gradient of the gated merge: the claims of the first program, assembled from the values of its three
    results. -/

@[expose] public section

noncomputable section

namespace Cert.Proof.Up

open Idealize.ShloMosaic Idealize.ShloMosaic.TcCoe Idealize.SL.Sem

/-- The mask of the packed gradient is set in the gate columns only. -/
theorem gate_column (x0 x1 x2 x3 x4 x5 x6) (i : Cert.On_up_written.S2048x10240.Idx)
    (h : (Cert.On_up_written.fn (F := Ideal) x0 x1 x2 x3 x4 x5 x6).2.1 i = 1#1) : (i 1).val < 4096 := by
  have hi : (i 1).val < 10240 := (i 1).isLt
  have h' : IntOp.cmpi .slt (BitVec.ofNat 32 (i 1).val) 4096#32 = 1#1 := h
  generalize (i 1).val = r at h' hi ⊢
  by_contra hr
  have : BitVec.slt (BitVec.ofNat 32 r) 4096#32 = false := by
    rw [BitVec.slt, decide_eq_false_iff_not, BitVec.toInt_eq_toNat_bmod (BitVec.ofNat 32 r), BitVec.toNat_ofNat]
    have e : (4096#32).toInt = 4096 := by decide
    rw [e, Int.bmod]
    split <;> omega
  simp [IntOp.cmpi, this] at h'

theorem frame_reference : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run (F := Ideal) m g)

theorem algebraic : Cert.algebraic_KernelIdeal_ReferenceIdeal_on_up_written := by
  intro m g m' g' _ hagree
  refine ⟨fun c => Cert.ReferenceIdeal.Read.val_main_v35 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v34 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Value.run_blocks (F := Ideal) m g)
    obtain ⟨h0, h1, h2, ha⟩ := h c
    refine ⟨fun i _ => ?_, fun i hi => ?_, fun i _ => ?_, ha⟩
    · rw [h0]; exact congrFun (Cert.KernelIdeal.UpValue.final4 m c) i
    · rw [h1]; exact (congrFun (Cert.KernelIdeal.UpValue.final5 m c) i).trans (if_pos (gate_column _ _ _ _ _ _ _ i hi))
    · rw [h2]; exact congrFun (Cert.KernelIdeal.UpValue.final6 m c) i
  · refine (θ_run Cert.ReferenceIdeal.defs _ _).mono (fun r h c => ?_) (Cert.ReferenceIdeal.Value.run (F := Ideal) m' g')
    obtain ⟨h0, h1, h2, ha⟩ := h c
    obtain ⟨e0, e1, e2, e3, e4, e5, e6⟩ := hagree c
    refine ⟨fun i _ => ?_, fun i _ => ?_, fun i _ => ?_, ha⟩
    · exact congrFun (h0.trans ((Cert.ReferenceIdeal.Read.val_main_v35_eq _ _ _).trans (by rw [e4, e5, e6]))) i
    · exact congrFun (h1.trans ((Cert.ReferenceIdeal.Read.val_main_v34_eq _ _ _ _ _ _ _).trans (by rw [e0, e1, e2, e3, e4, e5, e6]))) i
    · exact congrFun (h2.trans ((Cert.ReferenceIdeal.Read.val_main_v32_eq _ _ _ _ _ _).trans (by rw [e0, e1, e2, e3, e4, e5]))) i

end Cert.Proof.Up

end
-- ==== Proof.Window.lean ====
module

public import Idealize.ShloMosaic.Lib.Pipeline.ValueKit
public import Idealize.ShloMosaic.Lib.Pointwise

/-! Attention over a window of keys with a sink: what both programs of the branch compute, row by row, and how the
kernel’s lane masks read. -/

@[expose] public section

set_option maxRecDepth 16384

noncomputable section

open Idealize.ShloMosaic Idealize.ShloMosaic.TcCoe Idealize.SL.Sem
open Idealize.ShloMosaic.Pipeline (Dat)

namespace Cert.Window

/-- A product of a query and a key, scaled, or the mask's number where the key may not be seen. -/
def masked (b : BitVec 1) (s : EReal) : EReal :=
  Scalar.select b (s * Ideal.ofBits .f32 0x3E000000#32) (Ideal.ofBits .f32 0xF149F2CA#32)

/-- The largest of a row's scores and its sink. -/
def peak (s : Fin 256 → EReal) (a : EReal) : EReal := max (Finset.univ.fold max (Ideal.ofBits .f32 0xFF800000#32) s) a

/-- The weight of a key before the division. -/
def weight (s : Fin 256 → EReal) (a : EReal) (k : Fin 256) : EReal := Ideal.exp (s k - peak s a)

/-- The weight of the sink. -/
def sinkWeight (s : Fin 256 → EReal) (a : EReal) : EReal := Ideal.exp (a - peak s a)

/-- The sum of a row's weights, the sink's included. -/
def total (s : Fin 256 → EReal) (a : EReal) : EReal := (∑ k, weight s a k) + sinkWeight s a

/-- The share of a key. -/
def share (s : Fin 256 → EReal) (a : EReal) (k : Fin 256) : EReal := Ideal.div (weight s a k) (total s a)

/-- The product of one of a row's eight queries with a key of its group. -/
def dots (q : Fin 512 → EReal) (kv : Fin 256 → Fin 256 → EReal) (h : Fin 8) (k : Fin 256) : EReal :=
  ∑ d : Fin 64, q ⟨h.val * 64 + d.val, by omega⟩ * kv k ⟨h.val / 4 * 64 + d.val, by omega⟩

/-- The scores of one head of a row, `ok` marking the keys it may see. -/
def scores (q : Fin 512 → EReal) (kv : Fin 256 → Fin 256 → EReal) (ok : Fin 256 → BitVec 1) (h : Fin 8) (k : Fin 256) : EReal :=
  masked (ok k) (dots q kv h k)

/-- A column of the attention of one row: its head weighs that column of the values. -/
def attn (q : Fin 512 → EReal) (kv : Fin 256 → Fin 256 → EReal) (ok : Fin 256 → BitVec 1) (a : Fin 8 → EReal) (j : Fin 512) : EReal :=
  ∑ k, share (scores q kv ok ⟨j.val / 64, by omega⟩) (a ⟨j.val / 64, by omega⟩) k
    * kv k ⟨128 + (j.val / 256 * 64 + j.val % 64), by omega⟩

/-- A bit read as a number. -/
theorem bit_number (b : BitVec 1) : FloatOps.sitofp (F := Ideal) .f32 (BitVec.setWidth 32 b) = (if b = 1#1 then 1 else 0 : EReal) := by
  have hb : b = 0#1 ∨ b = 1#1 := by revert b; decide
  rcases hb with rfl | rfl
  · rw [if_neg (by decide)]
    show (((0 : ℤ) : ℝ) : EReal) = 0
    norm_num
  · rw [if_pos rfl]
    show (((1 : ℤ) : ℝ) : EReal) = 1
    norm_num

/-- One on the first half of the lanes. -/
theorem left_lane (x : Fin 128) :
    FloatOps.sitofp (F := Ideal) .f32 (BitVec.setWidth 32 (IntOp.cmpi .slt (BitVec.ofNat 32 x.val) 64#32)) = (if x.val < 64 then 1 else 0 : EReal) := by
  rw [bit_number]
  exact if_congr ((by decide +kernel : ∀ x : Fin 128, IntOp.cmpi .slt (BitVec.ofNat 32 x.val) 64#32 = 1#1 ↔ x.val < 64) x) rfl rfl

/-- One on the second half of the lanes. -/
theorem right_lane (x : Fin 128) :
    FloatOps.sitofp (F := Ideal) .f32 (BitVec.setWidth 32 (IntOp.cmpi .sge (BitVec.ofNat 32 x.val) 64#32)) = (if x.val < 64 then 0 else 1 : EReal) := by
  rw [bit_number]
  by_cases h : x.val < 64
  · rw [if_pos h, if_neg (fun e => absurd h ((by decide +kernel : ∀ x : Fin 128, IntOp.cmpi .sge (BitVec.ofNat 32 x.val) 64#32 = 1#1 → ¬ x.val < 64) x e))]
  · rw [if_neg h, if_pos ((by decide +kernel : ∀ x : Fin 128, ¬ x.val < 64 → IntOp.cmpi .sge (BitVec.ofNat 32 x.val) 64#32 = 1#1) x h)]

/-- The column that a lane repeats, for the first key head. -/
theorem first_copy (x c : Fin 128) :
    FloatOps.sitofp (F := Ideal) .f32 (BitVec.setWidth 32 (IntOp.cmpi .eq (BitVec.ofNat 32 x.val) (IntOp.addi (0#32) (IntOp.andi (BitVec.ofNat 32 c.val) 63#32))))
      = (if x = ⟨c.val % 64, by omega⟩ then 1 else 0 : EReal) := by
  rw [bit_number]
  exact if_congr ((by decide +kernel : ∀ x c : Fin 128, IntOp.cmpi .eq (BitVec.ofNat 32 x.val) (IntOp.addi (0#32) (IntOp.andi (BitVec.ofNat 32 c.val) 63#32)) = 1#1
    ↔ x = ⟨c.val % 64, by omega⟩) x c) rfl rfl

/-- The column that a lane repeats, for the second key head. -/
theorem second_copy (x c : Fin 128) :
    FloatOps.sitofp (F := Ideal) .f32 (BitVec.setWidth 32 (IntOp.cmpi .eq (BitVec.ofNat 32 x.val) (IntOp.addi (64#32) (IntOp.andi (BitVec.ofNat 32 c.val) 63#32))))
      = (if x = ⟨64 + c.val % 64, by omega⟩ then 1 else 0 : EReal) := by
  rw [bit_number]
  exact if_congr ((by decide +kernel : ∀ x c : Fin 128, IntOp.cmpi .eq (BitVec.ofNat 32 x.val) (IntOp.addi (64#32) (IntOp.andi (BitVec.ofNat 32 c.val) 63#32)) = 1#1
    ↔ x = ⟨64 + c.val % 64, by omega⟩) x c) rfl rfl

/-- A row of zeros with a single one picks one entry. -/
theorem pick (f : Fin 128 → EReal) (p : Fin 128) : (∑ x, f x * (if x = p then 1 else 0 : EReal)) = f p := by
  simp only [mul_ite, mul_one, mul_zero, Finset.sum_ite_eq', Finset.mem_univ, if_true]

/-- The lane a head's sink stands in. -/
theorem sink_lane (f : Fin 128 → EReal) (h : Fin 8) :
    (∑ x : Fin 128, f x * FloatOps.sitofp (F := Ideal) .f32 (BitVec.setWidth 32 (IntOp.cmpi .eq (BitVec.ofNat 32 x.val) (BitVec.ofNat 32 h.val)))) = f ⟨h.val, by omega⟩ := by
  refine Eq.trans (@Finset.sum_congr _ EReal _ _ _ _ _ rfl fun x _ => congrArg (f x * ·) ?_) (pick f _)
  rw [bit_number]
  exact if_congr ((by decide +kernel : ∀ (x : Fin 128) (h : Fin 8), IntOp.cmpi .eq (BitVec.ofNat 32 x.val) (BitVec.ofNat 32 h.val) = 1#1
    ↔ x = ⟨h.val, by omega⟩) x h) rfl rfl

/-- A sum over the lanes is one over each half. -/
theorem lanes (f : Fin 128 → EReal) : (∑ x, f x) = (∑ d : Fin 64, f ⟨d.val, by omega⟩) + ∑ d : Fin 64, f ⟨64 + d.val, by omega⟩ :=
  @Fin.sum_univ_add EReal _ 64 64 f

/-- A product of lanes whose second half is cleared. -/
theorem left_half (f w : Fin 128 → EReal) :
    (∑ x, f x * (if x.val < 64 then 1 else 0 : EReal) * w x) = ∑ d : Fin 64, f ⟨d.val, by omega⟩ * w ⟨d.val, by omega⟩ := by
  rw [lanes]
  have e (d : Fin 64) : ¬ (64 + d.val < 64) := by omega
  have e' (d : Fin 64) : d.val < 64 := d.isLt
  simp only [e, e', if_true, if_false, mul_one, mul_zero, zero_mul, Finset.sum_const_zero, add_zero]

/-- One head on the first lanes, the next on the others. -/
theorem halves (c : Fin 128) (A B : EReal) : A * (if c.val < 64 then 1 else 0 : EReal) + B * (if c.val < 64 then 0 else 1 : EReal) = if c.val < 64 then A else B := by
  by_cases h : c.val < 64
  · simp only [if_pos h, mul_one, mul_zero, add_zero]
  · simp only [if_neg h, mul_one, mul_zero, zero_add]

/-- A column of the attention, by its head and its column of the values. -/
theorem attn_at (q : Fin 512 → EReal) (kv : Fin 256 → Fin 256 → EReal) (ok : Fin 256 → BitVec 1) (a : Fin 8 → EReal) (j : Fin 512) (h : Fin 8) (v : Fin 256)
    (e : j.val / 64 = h.val) (e' : v.val = 128 + (j.val / 256 * 64 + j.val % 64)) :
    attn q kv ok a j = ∑ k, share (scores q kv ok h) (a h) k * kv k v := by
  have eh : (⟨j.val / 64, by omega⟩ : Fin 8) = h := Fin.ext e
  have ev : (⟨128 + (j.val / 256 * 64 + j.val % 64), by omega⟩ : Fin 256) = v := Fin.ext e'.symm
  unfold attn
  rw [eh, ev]

/-- A product of lanes whose first half is cleared. -/
theorem right_half (f w : Fin 128 → EReal) :
    (∑ x, f x * (if x.val < 64 then 0 else 1 : EReal) * w x) = ∑ d : Fin 64, f ⟨64 + d.val, by omega⟩ * w ⟨64 + d.val, by omega⟩ := by
  rw [lanes]
  have e (d : Fin 64) : ¬ (64 + d.val < 64) := by omega
  have e' (d : Fin 64) : d.val < 64 := d.isLt
  simp only [e, e', if_true, if_false, mul_one, mul_zero, zero_mul, Finset.sum_const_zero, zero_add]

end Cert.Window

end
-- ==== Proof.WindowRef.lean ====
module

public import proofs.«01_k».proof.Proof.Window
public import Idealize.ShloMosaic.Lib.Pipeline.ValueKit
public import Idealize.ShloMosaic.Lib.Pointwise

/-! The sliding-window attention of a whole array: which rows a query may see. -/

@[expose] public section

set_option maxRecDepth 16384

noncomputable section

open Idealize.ShloMosaic Idealize.ShloMosaic.TcCoe Idealize.SL.Sem
open Idealize.ShloMosaic.Pipeline (Dat)

namespace Cert.Window

/-- A row of queries of the whole array. -/
def queryAt (x0 : (⟨2, ![2048, 10240]⟩ : Shape).Idx → EReal) (n : Fin 16) (r : Fin 128) (j : Fin 512) : EReal :=
  x0 (ix2 ⟨n.val * 128 + r.val, by omega⟩ ⟨8192 + j.val, by omega⟩)

/-- The keys and values that block `n` may see: the rows of the block before, then its own. -/
def rowsAt (x0 : (⟨2, ![2048, 10240]⟩ : Shape).Idx → EReal) (n : Fin 16) (k c : Fin 256) : EReal :=
  if k.val < 128 then (if n.val < 1 then x0 (ix2 ⟨n.val * 128 + k.val % 128, by omega⟩ ⟨7680 + c.val, by omega⟩)
    else x0 (ix2 ⟨(n.val - 1) * 128 + k.val % 128, by omega⟩ ⟨7680 + c.val, by omega⟩))
  else x0 (ix2 ⟨n.val * 128 + (k.val - 128), by omega⟩ ⟨7680 + c.val, by omega⟩)

/-- Whether a key is among the 128 rows that end at the query's. -/
def near (r : Fin 128) (k : Fin 256) : BitVec 1 :=
  IntOp.andi (IntOp.cmpi .sge (IntOp.subi (IntOp.addi (BitVec.ofNat 32 r.val) 128#32) (BitVec.ofNat 32 k.val)) 0#32)
    (IntOp.cmpi .slt (IntOp.subi (IntOp.addi (BitVec.ofNat 32 r.val) 128#32) (BitVec.ofNat 32 k.val)) 128#32)

/-- Whether a key stands in the array at all: the first block has none before it. -/
def inside (n : Fin 16) (k : Fin 256) : BitVec 1 :=
  IntOp.cmpi .sge (IntOp.addi (IntOp.subi (IntOp.muli (BitVec.ofNat 32 n.val) 128#32) 128#32) (BitVec.ofNat 32 k.val)) 0#32

/-- Whether a query of block `n` may see a key. -/
def seen (n : Fin 16) (r : Fin 128) (k : Fin 256) : BitVec 1 := IntOp.andi (near r k) (inside n k)

/-- Past the first block every key stands in the array. -/
theorem inside_later : ∀ (n : Fin 16) (k : Fin 256), n.val ≠ 0 → inside n k = 1#1 := by decide +kernel

/-- The first block of a tile: only the first tile has nothing before it. -/
theorem inside_first : ∀ (t : Fin 4) (k : Fin 256),
    IntOp.cmpi .sge (BitVec.ofNat 32 k.val) (Scalar.select (Scalar.cmpi .eq (BitVec.ofNat 32 t.val) 0#32) 128#32 0#32) = inside ⟨4 * t.val, by omega⟩ k := by
  decide +kernel

/-- Past the first block only the distance counts. -/
theorem seen_later (n : Fin 16) (r : Fin 128) (k : Fin 256) (h : n.val ≠ 0) : seen n r k = near r k := by
  unfold seen
  rw [inside_later n k h]
  generalize near r k = b
  revert b; decide

/-- The largest of 256 scores and the sink that follows them. -/
theorem peak_of (f : Fin 257 → EReal) :
    max (Ideal.ofBits .f32 0xFF800000#32) (Finset.univ.fold max (Ideal.ofBits .f32 0xFF800000#32) f)
      = peak (fun k => f ⟨k.val, by omega⟩) (f ⟨256, by omega⟩) := by
  refine (max_eq_right ((Finset.le_fold_max _).2 (Or.inl le_rfl))).trans ?_
  rw [Fin.univ_castSuccEmb, Finset.fold_cons, Finset.fold_map]
  exact max_comm _ _

/-- The share of a key among 256 scores and the sink that follows them. -/
theorem share_of (f : Fin 257 → EReal) (k : Fin 256) :
    Ideal.div (Ideal.exp (f ⟨k.val, by omega⟩ - peak (fun k => f ⟨k.val, by omega⟩) (f ⟨256, by omega⟩)))
        (∑ x, Ideal.exp (f x - peak (fun k => f ⟨k.val, by omega⟩) (f ⟨256, by omega⟩)))
      = share (fun k => f ⟨k.val, by omega⟩) (f ⟨256, by omega⟩) k := by
  rw [Fin.sum_univ_castSucc]
  rfl

end Cert.Window

end
-- ==== Proof.WindowFwdRef.lean ====
module

public import proofs.«01_k».proof.Proof.WindowRef
public import proofs.«01_k».proof.Proof.Gen.Reference17Ideal.Read
public import Idealize.ShloMosaic.Lib.Pipeline.ValueKit
public import Idealize.ShloMosaic.Lib.Pointwise

/-! The sliding-window attention: the reference, entry by entry. -/

@[expose] public section

set_option maxRecDepth 16384

noncomputable section

open Idealize.ShloMosaic Idealize.ShloMosaic.TcCoe Idealize.SL.Sem
open Idealize.ShloMosaic.Pipeline (Dat)

namespace Cert.Reference17Ideal.WindowFwd

open Cert.Reference17Ideal.Read
open Cert.Window

/-- The keys a block sees. -/
theorem ref_keys (x0 : FVec Ideal S2048x10240 .bf16) (n : Fin 16) (k : Fin 256) (h : Fin 2) (d : Fin 64) :
    val_main_v14 (F := Ideal) x0 (ix4 n k h d) = rowsAt x0 n k ⟨h.val * 64 + d.val, by omega⟩ := by
  pointwise [val_main_v0, val_main_v5, val_main_v9, val_main_v11, val_main_v12, val_main_v13, val_main_v14]
  unfold rowsAt
  by_cases e : k.val < 128
  · have e' : k.val % 128 = k.val := by omega
    by_cases f : n.val < 1
    · simp [e, f, e']
    · simp [e, f, e']
  · simp [e]

/-- The values a block sees. -/
theorem ref_values (x0 : FVec Ideal S2048x10240 .bf16) (n : Fin 16) (k : Fin 256) (h : Fin 2) (d : Fin 64) :
    val_main_v18 (F := Ideal) x0 (ix4 n k h d) = rowsAt x0 n k ⟨128 + (h.val * 64 + d.val), by omega⟩ := by
  pointwise [val_main_v1, val_main_v6, val_main_v10, val_main_v15, val_main_v16, val_main_v17, val_main_v18]
  unfold rowsAt
  by_cases e : k.val < 128
  · have e' : k.val % 128 = k.val := by omega
    by_cases f : n.val < 1
    · simp [e, f, e']; congr 3; omega
    · simp [e, f, e']; congr 3; omega
  · simp [e]; congr 3; omega

/-- The mask. -/
theorem ref_seen (n : Fin 16) (h : Fin 2) (g : Fin 4) (r : Fin 128) (k : Fin 256) :
    val_main_call0_v1 (F := Ideal) (ix5 n h g r k) = seen n r k := by
  pointwise [val_main_v23, val_main_v24, val_main_v25, val_main_v26, val_main_c, val_main_v27, val_main_v28, val_main_v29, val_main_v30, val_main_v31, val_main_v32, val_main_v33, val_main_c_0, val_main_v34, val_main_v35, val_main_c_1, val_main_v36, val_main_v37, val_main_v38, val_main_c_2, val_main_v39, val_main_v40, val_main_c_3, val_main_v41, val_main_v42, val_main_v43, val_main_v44, val_main_v45, val_main_v46, val_main_c_4, val_main_v47, val_main_v48, val_main_v49, val_main_v50, val_main_v51, val_main_v52, val_main_v53, val_main_call0_v1]
  rfl

/-- The scores. -/
theorem ref_scores (x0 : FVec Ideal S2048x10240 .bf16) (n : Fin 16) (h : Fin 2) (g : Fin 4) (r : Fin 128) (k : Fin 256) : val_main_v54 (F := Ideal) x0 (ix5 n h g r k) = (scores (queryAt x0 n r) (rowsAt x0 n) (seen n r) ⟨h.val * 4 + g.val, by omega⟩) k := by
  pointwise [val_main_v2, val_main_v4, val_main_v8, val_main_v19, val_main_v20, val_main_cst, val_main_v21, val_main_v22, val_main_cst_5, val_main_call0_v0, val_main_call0_v2, val_main_v54]
  simp only [ref_keys, ref_seen]
  refine congrArg (masked (seen n r k)) ?_
  refine @Finset.sum_congr _ EReal _ _ _ _ _ rfl fun d _ => (@mul_comm EReal _ _ _).trans (congrArg₂ (· * ·) ?_ ?_)
  · have e : (⟨h.val * 256 + g.val * 64 + d.val, by omega⟩ : Fin 512) = ⟨(h.val * 4 + g.val) * 64 + d.val, by omega⟩ := Fin.ext (by dsimp only; omega)
    exact congrArg (queryAt x0 n r) e
  · have e : (⟨h.val * 64 + d.val, by omega⟩ : Fin 256) = ⟨(h.val * 4 + g.val) / 4 * 64 + d.val, by omega⟩ := Fin.ext (by dsimp only; omega)
    exact congrArg (rowsAt x0 n k) e

/-- The scores and the sink after them. -/
theorem ref_row (x0 : FVec Ideal S2048x10240 .bf16) (x1 : FVec Ideal S8 .f32) (n : Fin 16) (h : Fin 2) (g : Fin 4) (r : Fin 128) (k : Fin 257) :
    val_main_v58 (F := Ideal) x0 x1 (ix5 n h g r k) = if e : k.val < 256 then (scores (queryAt x0 n r) (rowsAt x0 n) (seen n r) ⟨h.val * 4 + g.val, by omega⟩) ⟨k.val, e⟩ else (x1 (ix1 ⟨h.val * 4 + g.val, by omega⟩)) := by
  pointwise [val_main_v58, val_main_v57, val_main_v56, val_main_v55]
  simp only [ref_scores]

/-- The largest of a row. -/
theorem ref_max (x0 : FVec Ideal S2048x10240 .bf16) (x1 : FVec Ideal S8 .f32) (n : Fin 16) (h : Fin 2) (g : Fin 4) (r : Fin 128) : val_main_v61 (F := Ideal) x0 x1 (ix4 n h g r) = peak (scores (queryAt x0 n r) (rowsAt x0 n) (seen n r) ⟨h.val * 4 + g.val, by omega⟩) (x1 (ix1 ⟨h.val * 4 + g.val, by omega⟩)) := by
  rw [val_main_v61_apply]
  have e : val_main_v59 (F := Ideal) x0 x1 (ix4 n h g r) = Finset.univ.fold max (Ideal.ofBits .f32 0xFF800000#32) (fun k : Fin 257 => val_main_v58 (F := Ideal) x0 x1 (ix5 n h g r k)) := by
    pointwise [val_main_v59, val_main_cst_6]
  rw [e]
  simp only [ref_row]
  refine Eq.trans ?_ (peak_of (fun k : Fin 257 => if e : k.val < 256 then (scores (queryAt x0 n r) (rowsAt x0 n) (seen n r) ⟨h.val * 4 + g.val, by omega⟩) ⟨k.val, e⟩ else (x1 (ix1 ⟨h.val * 4 + g.val, by omega⟩))))
  generalize Finset.univ.fold max (Ideal.ofBits .f32 0xFF800000#32) (fun k : Fin 257 => if e : k.val < 256 then (scores (queryAt x0 n r) (rowsAt x0 n) (seen n r) ⟨h.val * 4 + g.val, by omega⟩) ⟨k.val, e⟩ else (x1 (ix1 ⟨h.val * 4 + g.val, by omega⟩))) = y
  pointwise [val_main_v60, val_main_cst_7]

/-- The weights before the division. -/
theorem ref_weight (x0 : FVec Ideal S2048x10240 .bf16) (x1 : FVec Ideal S8 .f32) (n : Fin 16) (h : Fin 2) (g : Fin 4) (r : Fin 128) (k : Fin 257) : val_main_v65 (F := Ideal) x0 x1 (ix5 n h g r k) = Ideal.exp ((if e : k.val < 256 then (scores (queryAt x0 n r) (rowsAt x0 n) (seen n r) ⟨h.val * 4 + g.val, by omega⟩) ⟨k.val, e⟩ else (x1 (ix1 ⟨h.val * 4 + g.val, by omega⟩))) - peak (scores (queryAt x0 n r) (rowsAt x0 n) (seen n r) ⟨h.val * 4 + g.val, by omega⟩) (x1 (ix1 ⟨h.val * 4 + g.val, by omega⟩))) := by
  have e : val_main_v63 (F := Ideal) x0 x1 (ix5 n h g r k) = val_main_v61 (F := Ideal) x0 x1 (ix4 n h g r) := by
    pointwise [val_main_v63, val_main_v62]
  rw [← ref_max, ← e, ← ref_row]
  pointwise [val_main_v65, val_main_v64]

/-- The shares. -/
theorem ref_share (x0 : FVec Ideal S2048x10240 .bf16) (x1 : FVec Ideal S8 .f32) (n : Fin 16) (h : Fin 2) (g : Fin 4) (r : Fin 128) (k : Fin 256) : val_main_v70 (F := Ideal) x0 x1 (ix5 n h g r k) = share (scores (queryAt x0 n r) (rowsAt x0 n) (seen n r) ⟨h.val * 4 + g.val, by omega⟩) (x1 (ix1 ⟨h.val * 4 + g.val, by omega⟩)) k := by
  pointwise [val_main_v70, val_main_v69, val_main_v68, val_main_v67, val_main_v66, val_main_cst_8]
  simp only [ref_weight]
  refine (share_of (fun k : Fin 257 => if e : k.val < 256 then (scores (queryAt x0 n r) (rowsAt x0 n) (seen n r) ⟨h.val * 4 + g.val, by omega⟩) ⟨k.val, e⟩ else (x1 (ix1 ⟨h.val * 4 + g.val, by omega⟩))) k).trans ?_
  simp

/-- The result. -/
theorem ref_out (x0 : FVec Ideal S2048x10240 .bf16) (x1 : FVec Ideal S8 .f32) (n : Fin 16) (r : Fin 128) (j : Fin 512) :
    val_main_v76 (F := Ideal) x0 x1 (ix2 ⟨n.val * 128 + r.val, by omega⟩ j)
      = attn (queryAt x0 n r) (rowsAt x0 n) (seen n r) (fun h => x1 (ix1 h)) j
        * (x0 (ix2 ⟨n.val * 128 + r.val, by omega⟩ ⟨8704 + j.val, by omega⟩) * Ideal.logistic (x0 (ix2 ⟨n.val * 128 + r.val, by omega⟩ ⟨8704 + j.val, by omega⟩))) := by
  pointwise [Ideal.logistic, val_main_v3, val_main_v7, val_main_v71, val_main_v72, val_main_v73, val_main_call1_v0, val_main_call1_v1, val_main_call1_cst, val_main_call1_v2, val_main_call1_v3, val_main_call1_cst_0, val_main_call1_v4, val_main_call1_v5, val_main_v74, val_main_v75, val_main_v76]
  simp only [ref_values, ref_share]
  have e1 : (n.val * 128 + r.val) / 128 = n.val := by omega
  have e2 : (n.val * 128 + r.val) % 128 = r.val := by omega
  refine congrArg (· * _) (@Finset.sum_congr _ EReal _ _ _ _ _ rfl fun k _ => (@mul_comm EReal _ _ _).trans ?_)
  have e3 : j.val / 256 * 4 + j.val / 64 % 4 = j.val / 64 := by omega
  have e4 : 128 + (j.val / 256 * 64 + j.val % 64) = 128 + j.val / 256 * 64 + j.val % 64 := by omega
  simp only [e3]

end Cert.Reference17Ideal.WindowFwd

end
-- ==== Proof.WindowFwdScores.lean ====
module

public import proofs.«01_k».proof.Proof.Gen.Kernel17Ideal.Frame
public import proofs.«01_k».proof.Proof.Window
public import Idealize.ShloMosaic.Lib.Pipeline.ValueKit
public import Idealize.ShloMosaic.Lib.Pointwise

/-! The sliding-window attention: the keys, values and products of a block, entry by entry. -/

@[expose] public section

set_option maxRecDepth 16384

noncomputable section

open Idealize.ShloMosaic Idealize.ShloMosaic.TcCoe Idealize.SL.Sem
open Idealize.ShloMosaic.Pipeline (Dat)

namespace Cert.Kernel17Ideal.WindowFwd

open Cert.Kernel17Ideal Cert.Kernel17Ideal.Gen
open Cert.Window

variable (i : grid0.Coords) (x0 : Vec Ideal S512x512 .bf16) (x1 : Vec Ideal S512x256 .bf16) (x2 : Vec Ideal S512x512 .bf16) (x3 : Vec Ideal S128x256 .bf16) (x4 : Vec Ideal S1x128 .f32)

/-- The keys and values that the queries of 128 rows may see: those of the 128 rows before and their own. -/
def rows (b : ℕ) (hb : b < 4) (x1 : Vec Ideal S512x256 .bf16) (x3 : Vec Ideal S128x256 .bf16) (k c : Fin 256) : EReal :=
  if k.val < 128 then (if b = 0 then x3 (ix2 ⟨k.val % 128, by omega⟩ c) else x1 (ix2 ⟨(b - 1) * 128 + k.val % 128, by omega⟩ c))
  else x1 (ix2 ⟨b * 128 + (k.val - 128), by omega⟩ c)

/-- A row of queries. -/
def query (b : ℕ) (hb : b < 4) (x0 : Vec Ideal S512x512 .bf16) (r : Fin 128) (j : Fin 512) : EReal := x0 (ix2 ⟨b * 128 + r.val, by omega⟩ j)

/-- The sinks. -/
def sinks (x4 : Vec Ideal S1x128 .f32) (h : Fin 8) : EReal := x4 (ix2 0 ⟨h.val, by omega⟩)

/-- Two indices with the same numbers are the same. -/
theorem at2 {m n : ℕ} (f : (⟨2, ![m, n]⟩ : Shape).Idx → EReal) {r r' : Fin m} {c c' : Fin n} (hr : r.val = r'.val) (hc : c.val = c'.val) : f (ix2 r c) = f (ix2 r' c') := by
  rw [Fin.ext hr, Fin.ext hc]

/-- The keys of block 0, key head 0, each column twice. -/
theorem keys00 (k : Fin 256) (c : Fin 128) :
    k0_pay156 (F := Ideal) i x0 x1 x2 x3 x4 (ix2 ⟨k.val, by omega⟩ c) = rows 0 (by omega) x1 x3 k ⟨0 * 64 + c.val % 64, by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay156]
  simp only [first_copy]
  refine (pick _ _).trans ?_
  by_cases h : k.val < 128
  · have e : k.val % 128 = k.val := by omega
    simp [rows, h, e]
  · simp [rows, h]

/-- The values of block 0, key head 0, each column twice. -/
theorem values00 (k : Fin 256) (c : Fin 128) :
    k0_pay156 (F := Ideal) i x0 x1 x2 x3 x4 (ix2 ⟨256 + k.val, by omega⟩ c) = rows 0 (by omega) x1 x3 k ⟨128 + (0 * 64 + c.val % 64), by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay156]
  simp only [first_copy]
  refine (pick _ _).trans ?_
  by_cases h : k.val < 128
  · have e : k.val % 128 = k.val := by omega
    simp [rows, h, e]
  · simp [rows, h]

/-- The keys of block 0, key head 1, each column twice. -/
theorem keys01 (k : Fin 256) (c : Fin 128) :
    k0_pay157 (F := Ideal) i x0 x1 x2 x3 x4 (ix2 ⟨k.val, by omega⟩ c) = rows 0 (by omega) x1 x3 k ⟨1 * 64 + c.val % 64, by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay157]
  simp only [second_copy]
  refine (pick _ _).trans ?_
  by_cases h : k.val < 128
  · have e : k.val % 128 = k.val := by omega
    simp [rows, h, e]
  · simp [rows, h]

/-- The values of block 0, key head 1, each column twice. -/
theorem values01 (k : Fin 256) (c : Fin 128) :
    k0_pay157 (F := Ideal) i x0 x1 x2 x3 x4 (ix2 ⟨256 + k.val, by omega⟩ c) = rows 0 (by omega) x1 x3 k ⟨128 + (1 * 64 + c.val % 64), by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay157]
  simp only [second_copy]
  refine (pick _ _).trans ?_
  by_cases h : k.val < 128
  · have e : k.val % 128 = k.val := by omega
    simp [rows, h, e]
  · simp [rows, h]

/-- The keys of block 1, key head 0, each column twice. -/
theorem keys10 (k : Fin 256) (c : Fin 128) :
    k0_pay158 (F := Ideal) i x0 x1 x2 x3 x4 (ix2 ⟨k.val, by omega⟩ c) = rows 1 (by omega) x1 x3 k ⟨0 * 64 + c.val % 64, by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay158]
  simp only [first_copy]
  refine (pick _ _).trans ?_
  by_cases h : k.val < 128
  · have e : k.val % 128 = k.val := by omega
    simp [rows, h, e]
  · simp [rows, h]

/-- The values of block 1, key head 0, each column twice. -/
theorem values10 (k : Fin 256) (c : Fin 128) :
    k0_pay158 (F := Ideal) i x0 x1 x2 x3 x4 (ix2 ⟨256 + k.val, by omega⟩ c) = rows 1 (by omega) x1 x3 k ⟨128 + (0 * 64 + c.val % 64), by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay158]
  simp only [first_copy]
  refine (pick _ _).trans ?_
  by_cases h : k.val < 128
  · have e : k.val % 128 = k.val := by omega
    simp [rows, h, e]
  · simp [rows, h]

/-- The keys of block 1, key head 1, each column twice. -/
theorem keys11 (k : Fin 256) (c : Fin 128) :
    k0_pay159 (F := Ideal) i x0 x1 x2 x3 x4 (ix2 ⟨k.val, by omega⟩ c) = rows 1 (by omega) x1 x3 k ⟨1 * 64 + c.val % 64, by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay159]
  simp only [second_copy]
  refine (pick _ _).trans ?_
  by_cases h : k.val < 128
  · have e : k.val % 128 = k.val := by omega
    simp [rows, h, e]
  · simp [rows, h]

/-- The values of block 1, key head 1, each column twice. -/
theorem values11 (k : Fin 256) (c : Fin 128) :
    k0_pay159 (F := Ideal) i x0 x1 x2 x3 x4 (ix2 ⟨256 + k.val, by omega⟩ c) = rows 1 (by omega) x1 x3 k ⟨128 + (1 * 64 + c.val % 64), by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay159]
  simp only [second_copy]
  refine (pick _ _).trans ?_
  by_cases h : k.val < 128
  · have e : k.val % 128 = k.val := by omega
    simp [rows, h, e]
  · simp [rows, h]

/-- The keys of block 2, key head 0, each column twice. -/
theorem keys20 (k : Fin 256) (c : Fin 128) :
    k0_pay160 (F := Ideal) i x0 x1 x2 x3 x4 (ix2 ⟨k.val, by omega⟩ c) = rows 2 (by omega) x1 x3 k ⟨0 * 64 + c.val % 64, by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay160]
  simp only [first_copy]
  refine (pick _ _).trans ?_
  by_cases h : k.val < 128
  · have e : k.val % 128 = k.val := by omega
    simp [rows, h, e]
  · simp [rows, h]

/-- The values of block 2, key head 0, each column twice. -/
theorem values20 (k : Fin 256) (c : Fin 128) :
    k0_pay160 (F := Ideal) i x0 x1 x2 x3 x4 (ix2 ⟨256 + k.val, by omega⟩ c) = rows 2 (by omega) x1 x3 k ⟨128 + (0 * 64 + c.val % 64), by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay160]
  simp only [first_copy]
  refine (pick _ _).trans ?_
  by_cases h : k.val < 128
  · have e : k.val % 128 = k.val := by omega
    simp [rows, h, e]
  · simp [rows, h]

/-- The keys of block 2, key head 1, each column twice. -/
theorem keys21 (k : Fin 256) (c : Fin 128) :
    k0_pay161 (F := Ideal) i x0 x1 x2 x3 x4 (ix2 ⟨k.val, by omega⟩ c) = rows 2 (by omega) x1 x3 k ⟨1 * 64 + c.val % 64, by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay161]
  simp only [second_copy]
  refine (pick _ _).trans ?_
  by_cases h : k.val < 128
  · have e : k.val % 128 = k.val := by omega
    simp [rows, h, e]
  · simp [rows, h]

/-- The values of block 2, key head 1, each column twice. -/
theorem values21 (k : Fin 256) (c : Fin 128) :
    k0_pay161 (F := Ideal) i x0 x1 x2 x3 x4 (ix2 ⟨256 + k.val, by omega⟩ c) = rows 2 (by omega) x1 x3 k ⟨128 + (1 * 64 + c.val % 64), by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay161]
  simp only [second_copy]
  refine (pick _ _).trans ?_
  by_cases h : k.val < 128
  · have e : k.val % 128 = k.val := by omega
    simp [rows, h, e]
  · simp [rows, h]

/-- The keys of block 3, key head 0, each column twice. -/
theorem keys30 (k : Fin 256) (c : Fin 128) :
    k0_pay162 (F := Ideal) i x0 x1 x2 x3 x4 (ix2 ⟨k.val, by omega⟩ c) = rows 3 (by omega) x1 x3 k ⟨0 * 64 + c.val % 64, by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay162]
  simp only [first_copy]
  refine (pick _ _).trans ?_
  by_cases h : k.val < 128
  · have e : k.val % 128 = k.val := by omega
    simp [rows, h, e]
  · simp [rows, h]

/-- The values of block 3, key head 0, each column twice. -/
theorem values30 (k : Fin 256) (c : Fin 128) :
    k0_pay162 (F := Ideal) i x0 x1 x2 x3 x4 (ix2 ⟨256 + k.val, by omega⟩ c) = rows 3 (by omega) x1 x3 k ⟨128 + (0 * 64 + c.val % 64), by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay162]
  simp only [first_copy]
  refine (pick _ _).trans ?_
  by_cases h : k.val < 128
  · have e : k.val % 128 = k.val := by omega
    simp [rows, h, e]
  · simp [rows, h]

/-- The keys of block 3, key head 1, each column twice. -/
theorem keys31 (k : Fin 256) (c : Fin 128) :
    k0_pay163 (F := Ideal) i x0 x1 x2 x3 x4 (ix2 ⟨k.val, by omega⟩ c) = rows 3 (by omega) x1 x3 k ⟨1 * 64 + c.val % 64, by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay163]
  simp only [second_copy]
  refine (pick _ _).trans ?_
  by_cases h : k.val < 128
  · have e : k.val % 128 = k.val := by omega
    simp [rows, h, e]
  · simp [rows, h]

/-- The values of block 3, key head 1, each column twice. -/
theorem values31 (k : Fin 256) (c : Fin 128) :
    k0_pay163 (F := Ideal) i x0 x1 x2 x3 x4 (ix2 ⟨256 + k.val, by omega⟩ c) = rows 3 (by omega) x1 x3 k ⟨128 + (1 * 64 + c.val % 64), by omega⟩ := by
  pointwise [k0_pay2, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay144, k0_pay145, k0_pay146, k0_pay147, k0_pay148, k0_pay154, k0_pay155, k0_pay163]
  simp only [second_copy]
  refine (pick _ _).trans ?_
  by_cases h : k.val < 128
  · have e : k.val % 128 = k.val := by omega
    simp [rows, h, e]
  · simp [rows, h]

/-- The products of head 0 of block 0. -/
theorem dots00 (r : Fin 128) (k : Fin 256) :
    k0_pay164 (F := Ideal) i x0 x1 x2 x3 x4 (ix2 ⟨r.val, by omega⟩ k) = dots (query 0 (by omega) x0 r) (rows 0 (by omega) x1 x3) ⟨0, by omega⟩ k := by
  pointwise [k0_pay1, k0_pay8, k0_pay9, k0_pay31, k0_pay146, k0_pay152, k0_pay153, k0_pay164]
  simp only [left_lane, keys00]
  refine (left_half _ _).trans (@Finset.sum_congr _ EReal _ _ _ _ _ rfl fun d _ => congrArg₂ (· * ·) ?_ ?_)
  · exact at2 x0 (by dsimp only <;> omega) (by dsimp only <;> omega)
  · exact congrArg (rows 0 (by omega) x1 x3 k) (Fin.ext (by dsimp only <;> omega))

/-- The products of head 1 of block 0. -/
theorem dots01 (r : Fin 128) (k : Fin 256) :
    k0_pay164 (F := Ideal) i x0 x1 x2 x3 x4 (ix2 ⟨128 + r.val, by omega⟩ k) = dots (query 0 (by omega) x0 r) (rows 0 (by omega) x1 x3) ⟨1, by omega⟩ k := by
  pointwise [k0_pay1, k0_pay8, k0_pay9, k0_pay31, k0_pay146, k0_pay152, k0_pay153, k0_pay164]
  simp only [right_lane, keys00, show ¬ 128 + r.val < 128 by omega, show 128 + r.val - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 0 (by omega) x1 x3 k) (Fin.ext (by dsimp only <;> omega))

/-- The products of head 2 of block 0. -/
theorem dots02 (r : Fin 128) (k : Fin 256) :
    k0_pay164 (F := Ideal) i x0 x1 x2 x3 x4 (ix2 ⟨256 + r.val, by omega⟩ k) = dots (query 0 (by omega) x0 r) (rows 0 (by omega) x1 x3) ⟨2, by omega⟩ k := by
  pointwise [k0_pay1, k0_pay8, k0_pay9, k0_pay31, k0_pay146, k0_pay152, k0_pay153, k0_pay164]
  simp only [left_lane, keys00, show ¬ 256 + r.val < 128 by omega, show ¬ 256 + r.val - 128 < 128 by omega, show 256 + r.val - 128 - 128 < 128 by omega, ↓reduceDIte]
  refine (left_half _ _).trans (@Finset.sum_congr _ EReal _ _ _ _ _ rfl fun d _ => congrArg₂ (· * ·) ?_ ?_)
  · exact at2 x0 (by dsimp only <;> omega) (by dsimp only <;> omega)
  · exact congrArg (rows 0 (by omega) x1 x3 k) (Fin.ext (by dsimp only <;> omega))

/-- The products of head 3 of block 0. -/
theorem dots03 (r : Fin 128) (k : Fin 256) :
    k0_pay164 (F := Ideal) i x0 x1 x2 x3 x4 (ix2 ⟨384 + r.val, by omega⟩ k) = dots (query 0 (by omega) x0 r) (rows 0 (by omega) x1 x3) ⟨3, by omega⟩ k := by
  pointwise [k0_pay1, k0_pay8, k0_pay9, k0_pay31, k0_pay146, k0_pay152, k0_pay153, k0_pay164]
  simp only [right_lane, keys00, show ¬ 384 + r.val < 128 by omega, show ¬ 384 + r.val - 128 < 128 by omega, show ¬ 384 + r.val - 128 - 128 < 128 by omega, show 384 + r.val - 128 - 128 - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 0 (by omega) x1 x3 k) (Fin.ext (by dsimp only <;> omega))

/-- The products of head 4 of block 0. -/
theorem dots04 (r : Fin 128) (k : Fin 256) :
    k0_pay165 (F := Ideal) i x0 x1 x2 x3 x4 (ix2 ⟨r.val, by omega⟩ k) = dots (query 0 (by omega) x0 r) (rows 0 (by omega) x1 x3) ⟨4, by omega⟩ k := by
  pointwise [k0_pay1, k0_pay8, k0_pay9, k0_pay32, k0_pay146, k0_pay152, k0_pay153, k0_pay165]
  simp only [left_lane, keys01]
  refine (left_half _ _).trans (@Finset.sum_congr _ EReal _ _ _ _ _ rfl fun d _ => congrArg₂ (· * ·) ?_ ?_)
  · exact at2 x0 (by dsimp only <;> omega) (by dsimp only <;> omega)
  · exact congrArg (rows 0 (by omega) x1 x3 k) (Fin.ext (by dsimp only <;> omega))

/-- The products of head 5 of block 0. -/
theorem dots05 (r : Fin 128) (k : Fin 256) :
    k0_pay165 (F := Ideal) i x0 x1 x2 x3 x4 (ix2 ⟨128 + r.val, by omega⟩ k) = dots (query 0 (by omega) x0 r) (rows 0 (by omega) x1 x3) ⟨5, by omega⟩ k := by
  pointwise [k0_pay1, k0_pay8, k0_pay9, k0_pay32, k0_pay146, k0_pay152, k0_pay153, k0_pay165]
  simp only [right_lane, keys01, show ¬ 128 + r.val < 128 by omega, show 128 + r.val - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 0 (by omega) x1 x3 k) (Fin.ext (by dsimp only <;> omega))

/-- The products of head 6 of block 0. -/
theorem dots06 (r : Fin 128) (k : Fin 256) :
    k0_pay165 (F := Ideal) i x0 x1 x2 x3 x4 (ix2 ⟨256 + r.val, by omega⟩ k) = dots (query 0 (by omega) x0 r) (rows 0 (by omega) x1 x3) ⟨6, by omega⟩ k := by
  pointwise [k0_pay1, k0_pay8, k0_pay9, k0_pay32, k0_pay146, k0_pay152, k0_pay153, k0_pay165]
  simp only [left_lane, keys01, show ¬ 256 + r.val < 128 by omega, show ¬ 256 + r.val - 128 < 128 by omega, show 256 + r.val - 128 - 128 < 128 by omega, ↓reduceDIte]
  refine (left_half _ _).trans (@Finset.sum_congr _ EReal _ _ _ _ _ rfl fun d _ => congrArg₂ (· * ·) ?_ ?_)
  · exact at2 x0 (by dsimp only <;> omega) (by dsimp only <;> omega)
  · exact congrArg (rows 0 (by omega) x1 x3 k) (Fin.ext (by dsimp only <;> omega))

/-- The products of head 7 of block 0. -/
theorem dots07 (r : Fin 128) (k : Fin 256) :
    k0_pay165 (F := Ideal) i x0 x1 x2 x3 x4 (ix2 ⟨384 + r.val, by omega⟩ k) = dots (query 0 (by omega) x0 r) (rows 0 (by omega) x1 x3) ⟨7, by omega⟩ k := by
  pointwise [k0_pay1, k0_pay8, k0_pay9, k0_pay32, k0_pay146, k0_pay152, k0_pay153, k0_pay165]
  simp only [right_lane, keys01, show ¬ 384 + r.val < 128 by omega, show ¬ 384 + r.val - 128 < 128 by omega, show ¬ 384 + r.val - 128 - 128 < 128 by omega, show 384 + r.val - 128 - 128 - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 0 (by omega) x1 x3 k) (Fin.ext (by dsimp only <;> omega))

/-- The products of head 0 of block 1. -/
theorem dots10 (r : Fin 128) (k : Fin 256) :
    k0_pay166 (F := Ideal) i x0 x1 x2 x3 x4 (ix2 ⟨r.val, by omega⟩ k) = dots (query 1 (by omega) x0 r) (rows 1 (by omega) x1 x3) ⟨0, by omega⟩ k := by
  pointwise [k0_pay1, k0_pay8, k0_pay9, k0_pay33, k0_pay34, k0_pay35, k0_pay146, k0_pay152, k0_pay153, k0_pay166]
  simp only [left_lane, keys10]
  refine (left_half _ _).trans (@Finset.sum_congr _ EReal _ _ _ _ _ rfl fun d _ => congrArg₂ (· * ·) ?_ ?_)
  · exact at2 x0 (by dsimp only <;> omega) (by dsimp only <;> omega)
  · exact congrArg (rows 1 (by omega) x1 x3 k) (Fin.ext (by dsimp only <;> omega))

/-- The products of head 1 of block 1. -/
theorem dots11 (r : Fin 128) (k : Fin 256) :
    k0_pay166 (F := Ideal) i x0 x1 x2 x3 x4 (ix2 ⟨128 + r.val, by omega⟩ k) = dots (query 1 (by omega) x0 r) (rows 1 (by omega) x1 x3) ⟨1, by omega⟩ k := by
  pointwise [k0_pay1, k0_pay8, k0_pay9, k0_pay33, k0_pay34, k0_pay35, k0_pay146, k0_pay152, k0_pay153, k0_pay166]
  simp only [right_lane, keys10, show ¬ 128 + r.val < 128 by omega, show 128 + r.val - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 1 (by omega) x1 x3 k) (Fin.ext (by dsimp only <;> omega))

/-- The products of head 2 of block 1. -/
theorem dots12 (r : Fin 128) (k : Fin 256) :
    k0_pay166 (F := Ideal) i x0 x1 x2 x3 x4 (ix2 ⟨256 + r.val, by omega⟩ k) = dots (query 1 (by omega) x0 r) (rows 1 (by omega) x1 x3) ⟨2, by omega⟩ k := by
  pointwise [k0_pay1, k0_pay8, k0_pay9, k0_pay33, k0_pay34, k0_pay35, k0_pay146, k0_pay152, k0_pay153, k0_pay166]
  simp only [left_lane, keys10, show ¬ 256 + r.val < 128 by omega, show ¬ 256 + r.val - 128 < 128 by omega, show 256 + r.val - 128 - 128 < 128 by omega, ↓reduceDIte]
  refine (left_half _ _).trans (@Finset.sum_congr _ EReal _ _ _ _ _ rfl fun d _ => congrArg₂ (· * ·) ?_ ?_)
  · exact at2 x0 (by dsimp only <;> omega) (by dsimp only <;> omega)
  · exact congrArg (rows 1 (by omega) x1 x3 k) (Fin.ext (by dsimp only <;> omega))

/-- The products of head 3 of block 1. -/
theorem dots13 (r : Fin 128) (k : Fin 256) :
    k0_pay166 (F := Ideal) i x0 x1 x2 x3 x4 (ix2 ⟨384 + r.val, by omega⟩ k) = dots (query 1 (by omega) x0 r) (rows 1 (by omega) x1 x3) ⟨3, by omega⟩ k := by
  pointwise [k0_pay1, k0_pay8, k0_pay9, k0_pay33, k0_pay34, k0_pay35, k0_pay146, k0_pay152, k0_pay153, k0_pay166]
  simp only [right_lane, keys10, show ¬ 384 + r.val < 128 by omega, show ¬ 384 + r.val - 128 < 128 by omega, show ¬ 384 + r.val - 128 - 128 < 128 by omega, show 384 + r.val - 128 - 128 - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 1 (by omega) x1 x3 k) (Fin.ext (by dsimp only <;> omega))

/-- The products of head 4 of block 1. -/
theorem dots14 (r : Fin 128) (k : Fin 256) :
    k0_pay167 (F := Ideal) i x0 x1 x2 x3 x4 (ix2 ⟨r.val, by omega⟩ k) = dots (query 1 (by omega) x0 r) (rows 1 (by omega) x1 x3) ⟨4, by omega⟩ k := by
  pointwise [k0_pay1, k0_pay8, k0_pay9, k0_pay36, k0_pay146, k0_pay152, k0_pay153, k0_pay167]
  simp only [left_lane, keys11]
  refine (left_half _ _).trans (@Finset.sum_congr _ EReal _ _ _ _ _ rfl fun d _ => congrArg₂ (· * ·) ?_ ?_)
  · exact at2 x0 (by dsimp only <;> omega) (by dsimp only <;> omega)
  · exact congrArg (rows 1 (by omega) x1 x3 k) (Fin.ext (by dsimp only <;> omega))

/-- The products of head 5 of block 1. -/
theorem dots15 (r : Fin 128) (k : Fin 256) :
    k0_pay167 (F := Ideal) i x0 x1 x2 x3 x4 (ix2 ⟨128 + r.val, by omega⟩ k) = dots (query 1 (by omega) x0 r) (rows 1 (by omega) x1 x3) ⟨5, by omega⟩ k := by
  pointwise [k0_pay1, k0_pay8, k0_pay9, k0_pay36, k0_pay146, k0_pay152, k0_pay153, k0_pay167]
  simp only [right_lane, keys11, show ¬ 128 + r.val < 128 by omega, show 128 + r.val - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 1 (by omega) x1 x3 k) (Fin.ext (by dsimp only <;> omega))

/-- The products of head 6 of block 1. -/
theorem dots16 (r : Fin 128) (k : Fin 256) :
    k0_pay167 (F := Ideal) i x0 x1 x2 x3 x4 (ix2 ⟨256 + r.val, by omega⟩ k) = dots (query 1 (by omega) x0 r) (rows 1 (by omega) x1 x3) ⟨6, by omega⟩ k := by
  pointwise [k0_pay1, k0_pay8, k0_pay9, k0_pay36, k0_pay146, k0_pay152, k0_pay153, k0_pay167]
  simp only [left_lane, keys11, show ¬ 256 + r.val < 128 by omega, show ¬ 256 + r.val - 128 < 128 by omega, show 256 + r.val - 128 - 128 < 128 by omega, ↓reduceDIte]
  refine (left_half _ _).trans (@Finset.sum_congr _ EReal _ _ _ _ _ rfl fun d _ => congrArg₂ (· * ·) ?_ ?_)
  · exact at2 x0 (by dsimp only <;> omega) (by dsimp only <;> omega)
  · exact congrArg (rows 1 (by omega) x1 x3 k) (Fin.ext (by dsimp only <;> omega))

/-- The products of head 7 of block 1. -/
theorem dots17 (r : Fin 128) (k : Fin 256) :
    k0_pay167 (F := Ideal) i x0 x1 x2 x3 x4 (ix2 ⟨384 + r.val, by omega⟩ k) = dots (query 1 (by omega) x0 r) (rows 1 (by omega) x1 x3) ⟨7, by omega⟩ k := by
  pointwise [k0_pay1, k0_pay8, k0_pay9, k0_pay36, k0_pay146, k0_pay152, k0_pay153, k0_pay167]
  simp only [right_lane, keys11, show ¬ 384 + r.val < 128 by omega, show ¬ 384 + r.val - 128 < 128 by omega, show ¬ 384 + r.val - 128 - 128 < 128 by omega, show 384 + r.val - 128 - 128 - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 1 (by omega) x1 x3 k) (Fin.ext (by dsimp only <;> omega))

/-- The products of head 0 of block 2. -/
theorem dots20 (r : Fin 128) (k : Fin 256) :
    k0_pay168 (F := Ideal) i x0 x1 x2 x3 x4 (ix2 ⟨r.val, by omega⟩ k) = dots (query 2 (by omega) x0 r) (rows 2 (by omega) x1 x3) ⟨0, by omega⟩ k := by
  pointwise [k0_pay1, k0_pay8, k0_pay9, k0_pay37, k0_pay146, k0_pay152, k0_pay153, k0_pay168]
  simp only [left_lane, keys20]
  refine (left_half _ _).trans (@Finset.sum_congr _ EReal _ _ _ _ _ rfl fun d _ => congrArg₂ (· * ·) ?_ ?_)
  · exact at2 x0 (by dsimp only <;> omega) (by dsimp only <;> omega)
  · exact congrArg (rows 2 (by omega) x1 x3 k) (Fin.ext (by dsimp only <;> omega))

/-- The products of head 1 of block 2. -/
theorem dots21 (r : Fin 128) (k : Fin 256) :
    k0_pay168 (F := Ideal) i x0 x1 x2 x3 x4 (ix2 ⟨128 + r.val, by omega⟩ k) = dots (query 2 (by omega) x0 r) (rows 2 (by omega) x1 x3) ⟨1, by omega⟩ k := by
  pointwise [k0_pay1, k0_pay8, k0_pay9, k0_pay37, k0_pay146, k0_pay152, k0_pay153, k0_pay168]
  simp only [right_lane, keys20, show ¬ 128 + r.val < 128 by omega, show 128 + r.val - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 2 (by omega) x1 x3 k) (Fin.ext (by dsimp only <;> omega))

/-- The products of head 2 of block 2. -/
theorem dots22 (r : Fin 128) (k : Fin 256) :
    k0_pay168 (F := Ideal) i x0 x1 x2 x3 x4 (ix2 ⟨256 + r.val, by omega⟩ k) = dots (query 2 (by omega) x0 r) (rows 2 (by omega) x1 x3) ⟨2, by omega⟩ k := by
  pointwise [k0_pay1, k0_pay8, k0_pay9, k0_pay37, k0_pay146, k0_pay152, k0_pay153, k0_pay168]
  simp only [left_lane, keys20, show ¬ 256 + r.val < 128 by omega, show ¬ 256 + r.val - 128 < 128 by omega, show 256 + r.val - 128 - 128 < 128 by omega, ↓reduceDIte]
  refine (left_half _ _).trans (@Finset.sum_congr _ EReal _ _ _ _ _ rfl fun d _ => congrArg₂ (· * ·) ?_ ?_)
  · exact at2 x0 (by dsimp only <;> omega) (by dsimp only <;> omega)
  · exact congrArg (rows 2 (by omega) x1 x3 k) (Fin.ext (by dsimp only <;> omega))

/-- The products of head 3 of block 2. -/
theorem dots23 (r : Fin 128) (k : Fin 256) :
    k0_pay168 (F := Ideal) i x0 x1 x2 x3 x4 (ix2 ⟨384 + r.val, by omega⟩ k) = dots (query 2 (by omega) x0 r) (rows 2 (by omega) x1 x3) ⟨3, by omega⟩ k := by
  pointwise [k0_pay1, k0_pay8, k0_pay9, k0_pay37, k0_pay146, k0_pay152, k0_pay153, k0_pay168]
  simp only [right_lane, keys20, show ¬ 384 + r.val < 128 by omega, show ¬ 384 + r.val - 128 < 128 by omega, show ¬ 384 + r.val - 128 - 128 < 128 by omega, show 384 + r.val - 128 - 128 - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 2 (by omega) x1 x3 k) (Fin.ext (by dsimp only <;> omega))

/-- The products of head 4 of block 2. -/
theorem dots24 (r : Fin 128) (k : Fin 256) :
    k0_pay169 (F := Ideal) i x0 x1 x2 x3 x4 (ix2 ⟨r.val, by omega⟩ k) = dots (query 2 (by omega) x0 r) (rows 2 (by omega) x1 x3) ⟨4, by omega⟩ k := by
  pointwise [k0_pay1, k0_pay8, k0_pay9, k0_pay38, k0_pay146, k0_pay152, k0_pay153, k0_pay169]
  simp only [left_lane, keys21]
  refine (left_half _ _).trans (@Finset.sum_congr _ EReal _ _ _ _ _ rfl fun d _ => congrArg₂ (· * ·) ?_ ?_)
  · exact at2 x0 (by dsimp only <;> omega) (by dsimp only <;> omega)
  · exact congrArg (rows 2 (by omega) x1 x3 k) (Fin.ext (by dsimp only <;> omega))

/-- The products of head 5 of block 2. -/
theorem dots25 (r : Fin 128) (k : Fin 256) :
    k0_pay169 (F := Ideal) i x0 x1 x2 x3 x4 (ix2 ⟨128 + r.val, by omega⟩ k) = dots (query 2 (by omega) x0 r) (rows 2 (by omega) x1 x3) ⟨5, by omega⟩ k := by
  pointwise [k0_pay1, k0_pay8, k0_pay9, k0_pay38, k0_pay146, k0_pay152, k0_pay153, k0_pay169]
  simp only [right_lane, keys21, show ¬ 128 + r.val < 128 by omega, show 128 + r.val - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 2 (by omega) x1 x3 k) (Fin.ext (by dsimp only <;> omega))

/-- The products of head 6 of block 2. -/
theorem dots26 (r : Fin 128) (k : Fin 256) :
    k0_pay169 (F := Ideal) i x0 x1 x2 x3 x4 (ix2 ⟨256 + r.val, by omega⟩ k) = dots (query 2 (by omega) x0 r) (rows 2 (by omega) x1 x3) ⟨6, by omega⟩ k := by
  pointwise [k0_pay1, k0_pay8, k0_pay9, k0_pay38, k0_pay146, k0_pay152, k0_pay153, k0_pay169]
  simp only [left_lane, keys21, show ¬ 256 + r.val < 128 by omega, show ¬ 256 + r.val - 128 < 128 by omega, show 256 + r.val - 128 - 128 < 128 by omega, ↓reduceDIte]
  refine (left_half _ _).trans (@Finset.sum_congr _ EReal _ _ _ _ _ rfl fun d _ => congrArg₂ (· * ·) ?_ ?_)
  · exact at2 x0 (by dsimp only <;> omega) (by dsimp only <;> omega)
  · exact congrArg (rows 2 (by omega) x1 x3 k) (Fin.ext (by dsimp only <;> omega))

/-- The products of head 7 of block 2. -/
theorem dots27 (r : Fin 128) (k : Fin 256) :
    k0_pay169 (F := Ideal) i x0 x1 x2 x3 x4 (ix2 ⟨384 + r.val, by omega⟩ k) = dots (query 2 (by omega) x0 r) (rows 2 (by omega) x1 x3) ⟨7, by omega⟩ k := by
  pointwise [k0_pay1, k0_pay8, k0_pay9, k0_pay38, k0_pay146, k0_pay152, k0_pay153, k0_pay169]
  simp only [right_lane, keys21, show ¬ 384 + r.val < 128 by omega, show ¬ 384 + r.val - 128 < 128 by omega, show ¬ 384 + r.val - 128 - 128 < 128 by omega, show 384 + r.val - 128 - 128 - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 2 (by omega) x1 x3 k) (Fin.ext (by dsimp only <;> omega))

/-- The products of head 0 of block 3. -/
theorem dots30 (r : Fin 128) (k : Fin 256) :
    k0_pay170 (F := Ideal) i x0 x1 x2 x3 x4 (ix2 ⟨r.val, by omega⟩ k) = dots (query 3 (by omega) x0 r) (rows 3 (by omega) x1 x3) ⟨0, by omega⟩ k := by
  pointwise [k0_pay1, k0_pay8, k0_pay9, k0_pay39, k0_pay40, k0_pay146, k0_pay152, k0_pay153, k0_pay170]
  simp only [left_lane, keys30]
  refine (left_half _ _).trans (@Finset.sum_congr _ EReal _ _ _ _ _ rfl fun d _ => congrArg₂ (· * ·) ?_ ?_)
  · exact at2 x0 (by dsimp only <;> omega) (by dsimp only <;> omega)
  · exact congrArg (rows 3 (by omega) x1 x3 k) (Fin.ext (by dsimp only <;> omega))

/-- The products of head 1 of block 3. -/
theorem dots31 (r : Fin 128) (k : Fin 256) :
    k0_pay170 (F := Ideal) i x0 x1 x2 x3 x4 (ix2 ⟨128 + r.val, by omega⟩ k) = dots (query 3 (by omega) x0 r) (rows 3 (by omega) x1 x3) ⟨1, by omega⟩ k := by
  pointwise [k0_pay1, k0_pay8, k0_pay9, k0_pay39, k0_pay40, k0_pay146, k0_pay152, k0_pay153, k0_pay170]
  simp only [right_lane, keys30, show ¬ 128 + r.val < 128 by omega, show 128 + r.val - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 3 (by omega) x1 x3 k) (Fin.ext (by dsimp only <;> omega))

/-- The products of head 2 of block 3. -/
theorem dots32 (r : Fin 128) (k : Fin 256) :
    k0_pay170 (F := Ideal) i x0 x1 x2 x3 x4 (ix2 ⟨256 + r.val, by omega⟩ k) = dots (query 3 (by omega) x0 r) (rows 3 (by omega) x1 x3) ⟨2, by omega⟩ k := by
  pointwise [k0_pay1, k0_pay8, k0_pay9, k0_pay39, k0_pay40, k0_pay146, k0_pay152, k0_pay153, k0_pay170]
  simp only [left_lane, keys30, show ¬ 256 + r.val < 128 by omega, show ¬ 256 + r.val - 128 < 128 by omega, show 256 + r.val - 128 - 128 < 128 by omega, ↓reduceDIte]
  refine (left_half _ _).trans (@Finset.sum_congr _ EReal _ _ _ _ _ rfl fun d _ => congrArg₂ (· * ·) ?_ ?_)
  · exact at2 x0 (by dsimp only <;> omega) (by dsimp only <;> omega)
  · exact congrArg (rows 3 (by omega) x1 x3 k) (Fin.ext (by dsimp only <;> omega))

/-- The products of head 3 of block 3. -/
theorem dots33 (r : Fin 128) (k : Fin 256) :
    k0_pay170 (F := Ideal) i x0 x1 x2 x3 x4 (ix2 ⟨384 + r.val, by omega⟩ k) = dots (query 3 (by omega) x0 r) (rows 3 (by omega) x1 x3) ⟨3, by omega⟩ k := by
  pointwise [k0_pay1, k0_pay8, k0_pay9, k0_pay39, k0_pay40, k0_pay146, k0_pay152, k0_pay153, k0_pay170]
  simp only [right_lane, keys30, show ¬ 384 + r.val < 128 by omega, show ¬ 384 + r.val - 128 < 128 by omega, show ¬ 384 + r.val - 128 - 128 < 128 by omega, show 384 + r.val - 128 - 128 - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 3 (by omega) x1 x3 k) (Fin.ext (by dsimp only <;> omega))

/-- The products of head 4 of block 3. -/
theorem dots34 (r : Fin 128) (k : Fin 256) :
    k0_pay171 (F := Ideal) i x0 x1 x2 x3 x4 (ix2 ⟨r.val, by omega⟩ k) = dots (query 3 (by omega) x0 r) (rows 3 (by omega) x1 x3) ⟨4, by omega⟩ k := by
  pointwise [k0_pay1, k0_pay8, k0_pay9, k0_pay41, k0_pay146, k0_pay152, k0_pay153, k0_pay171]
  simp only [left_lane, keys31]
  refine (left_half _ _).trans (@Finset.sum_congr _ EReal _ _ _ _ _ rfl fun d _ => congrArg₂ (· * ·) ?_ ?_)
  · exact at2 x0 (by dsimp only <;> omega) (by dsimp only <;> omega)
  · exact congrArg (rows 3 (by omega) x1 x3 k) (Fin.ext (by dsimp only <;> omega))

/-- The products of head 5 of block 3. -/
theorem dots35 (r : Fin 128) (k : Fin 256) :
    k0_pay171 (F := Ideal) i x0 x1 x2 x3 x4 (ix2 ⟨128 + r.val, by omega⟩ k) = dots (query 3 (by omega) x0 r) (rows 3 (by omega) x1 x3) ⟨5, by omega⟩ k := by
  pointwise [k0_pay1, k0_pay8, k0_pay9, k0_pay41, k0_pay146, k0_pay152, k0_pay153, k0_pay171]
  simp only [right_lane, keys31, show ¬ 128 + r.val < 128 by omega, show 128 + r.val - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 3 (by omega) x1 x3 k) (Fin.ext (by dsimp only <;> omega))

/-- The products of head 6 of block 3. -/
theorem dots36 (r : Fin 128) (k : Fin 256) :
    k0_pay171 (F := Ideal) i x0 x1 x2 x3 x4 (ix2 ⟨256 + r.val, by omega⟩ k) = dots (query 3 (by omega) x0 r) (rows 3 (by omega) x1 x3) ⟨6, by omega⟩ k := by
  pointwise [k0_pay1, k0_pay8, k0_pay9, k0_pay41, k0_pay146, k0_pay152, k0_pay153, k0_pay171]
  simp only [left_lane, keys31, show ¬ 256 + r.val < 128 by omega, show ¬ 256 + r.val - 128 < 128 by omega, show 256 + r.val - 128 - 128 < 128 by omega, ↓reduceDIte]
  refine (left_half _ _).trans (@Finset.sum_congr _ EReal _ _ _ _ _ rfl fun d _ => congrArg₂ (· * ·) ?_ ?_)
  · exact at2 x0 (by dsimp only <;> omega) (by dsimp only <;> omega)
  · exact congrArg (rows 3 (by omega) x1 x3 k) (Fin.ext (by dsimp only <;> omega))

/-- The products of head 7 of block 3. -/
theorem dots37 (r : Fin 128) (k : Fin 256) :
    k0_pay171 (F := Ideal) i x0 x1 x2 x3 x4 (ix2 ⟨384 + r.val, by omega⟩ k) = dots (query 3 (by omega) x0 r) (rows 3 (by omega) x1 x3) ⟨7, by omega⟩ k := by
  pointwise [k0_pay1, k0_pay8, k0_pay9, k0_pay41, k0_pay146, k0_pay152, k0_pay153, k0_pay171]
  simp only [right_lane, keys31, show ¬ 384 + r.val < 128 by omega, show ¬ 384 + r.val - 128 < 128 by omega, show ¬ 384 + r.val - 128 - 128 < 128 by omega, show 384 + r.val - 128 - 128 - 128 < 128 by omega, ↓reduceDIte]
  refine (right_half _ _).trans (@Finset.sum_congr _ EReal _ _ _ _ _ rfl fun d _ => congrArg₂ (· * ·) ?_ ?_)
  · exact at2 x0 (by dsimp only <;> omega) (by dsimp only <;> omega)
  · exact congrArg (rows 3 (by omega) x1 x3 k) (Fin.ext (by dsimp only <;> omega))

end Cert.Kernel17Ideal.WindowFwd

end
-- ==== Proof.WindowFwdShares.lean ====
module

public import proofs.«01_k».proof.Proof.WindowFwdScores
public import Idealize.ShloMosaic.Lib.Pipeline.ValueKit
public import Idealize.ShloMosaic.Lib.Pointwise

/-! The sliding-window attention: the shares of every head of a block. -/

@[expose] public section

set_option maxRecDepth 16384

noncomputable section

open Idealize.ShloMosaic Idealize.ShloMosaic.TcCoe Idealize.SL.Sem
open Idealize.ShloMosaic.Pipeline (Dat)

namespace Cert.Kernel17Ideal.WindowFwd

open Cert.Kernel17Ideal Cert.Kernel17Ideal.Gen
open Cert.Window

variable (i : grid0.Coords) (x0 : Vec Ideal S512x512 .bf16) (x1 : Vec Ideal S512x256 .bf16) (x2 : Vec Ideal S512x512 .bf16) (x3 : Vec Ideal S128x256 .bf16) (x4 : Vec Ideal S1x128 .f32)
variable (a : FVec Ideal S1x128 .f32) (m : IVec S128x256 1) (s : FVec Ideal S512x256 .f32) (r : Fin 128) (k : Fin 256)

/-- The lane of a row that a head reads. -/
abbrev lane (a : FVec Ideal S1x128 .f32) (n : BitVec 32) : EReal :=
  ∑ x : Fin 128, a (ix2 0 x) * FloatOps.sitofp (F := Ideal) .f32 (BitVec.setWidth 32 (IntOp.cmpi .eq (BitVec.ofNat 32 x.val) n))

theorem row1 : ¬ 128 + r.val < 128 ∧ 128 + r.val - 128 < 128 ∧ 128 + r.val - 128 = r.val := by omega

theorem row2 : ¬ 256 + r.val < 128 ∧ ¬ 256 + r.val - 128 < 128 ∧ 256 + r.val - 128 - 128 < 128 ∧ 256 + r.val - 128 - 128 = r.val := by omega

theorem row3 : ¬ 384 + r.val < 128 ∧ ¬ 384 + r.val - 128 < 128 ∧ ¬ 384 + r.val - 128 - 128 < 128 ∧ 384 + r.val - 128 - 128 - 128 < 128
    ∧ 384 + r.val - 128 - 128 - 128 = r.val := by omega

/-- The row of sinks, read. -/
theorem lane_read (x : Fin 128) : k0_pay149 (F := Ideal) i x0 x1 x2 x3 x4 (ix2 0 x) = x4 (ix2 0 x) := by
  pointwise [k0_pay149, k0_pay5]

/-- The sink of head 0. -/
theorem sink0 :
    lane (k0_pay149 (F := Ideal) i x0 x1 x2 x3 x4) 0#32 = sinks x4 ⟨0, by omega⟩ :=
  (@Finset.sum_congr _ EReal _ _ _ _ _ rfl fun x _ => congrArg (· * _) (lane_read i x0 x1 x2 x3 x4 x)).trans (sink_lane (fun x => x4 (ix2 0 x)) ⟨0, by omega⟩)

/-- The sink of head 1. -/
theorem sink1 :
    lane (k0_pay149 (F := Ideal) i x0 x1 x2 x3 x4) 1#32 = sinks x4 ⟨1, by omega⟩ :=
  (@Finset.sum_congr _ EReal _ _ _ _ _ rfl fun x _ => congrArg (· * _) (lane_read i x0 x1 x2 x3 x4 x)).trans (sink_lane (fun x => x4 (ix2 0 x)) ⟨1, by omega⟩)

/-- The sink of head 2. -/
theorem sink2 :
    lane (k0_pay149 (F := Ideal) i x0 x1 x2 x3 x4) 2#32 = sinks x4 ⟨2, by omega⟩ :=
  (@Finset.sum_congr _ EReal _ _ _ _ _ rfl fun x _ => congrArg (· * _) (lane_read i x0 x1 x2 x3 x4 x)).trans (sink_lane (fun x => x4 (ix2 0 x)) ⟨2, by omega⟩)

/-- The sink of head 3. -/
theorem sink3 :
    lane (k0_pay149 (F := Ideal) i x0 x1 x2 x3 x4) 3#32 = sinks x4 ⟨3, by omega⟩ :=
  (@Finset.sum_congr _ EReal _ _ _ _ _ rfl fun x _ => congrArg (· * _) (lane_read i x0 x1 x2 x3 x4 x)).trans (sink_lane (fun x => x4 (ix2 0 x)) ⟨3, by omega⟩)

/-- The sink of head 4. -/
theorem sink4 :
    lane (k0_pay149 (F := Ideal) i x0 x1 x2 x3 x4) 4#32 = sinks x4 ⟨4, by omega⟩ :=
  (@Finset.sum_congr _ EReal _ _ _ _ _ rfl fun x _ => congrArg (· * _) (lane_read i x0 x1 x2 x3 x4 x)).trans (sink_lane (fun x => x4 (ix2 0 x)) ⟨4, by omega⟩)

/-- The sink of head 5. -/
theorem sink5 :
    lane (k0_pay149 (F := Ideal) i x0 x1 x2 x3 x4) 5#32 = sinks x4 ⟨5, by omega⟩ :=
  (@Finset.sum_congr _ EReal _ _ _ _ _ rfl fun x _ => congrArg (· * _) (lane_read i x0 x1 x2 x3 x4 x)).trans (sink_lane (fun x => x4 (ix2 0 x)) ⟨5, by omega⟩)

/-- The sink of head 6. -/
theorem sink6 :
    lane (k0_pay149 (F := Ideal) i x0 x1 x2 x3 x4) 6#32 = sinks x4 ⟨6, by omega⟩ :=
  (@Finset.sum_congr _ EReal _ _ _ _ _ rfl fun x _ => congrArg (· * _) (lane_read i x0 x1 x2 x3 x4 x)).trans (sink_lane (fun x => x4 (ix2 0 x)) ⟨6, by omega⟩)

/-- The sink of head 7. -/
theorem sink7 :
    lane (k0_pay149 (F := Ideal) i x0 x1 x2 x3 x4) 7#32 = sinks x4 ⟨7, by omega⟩ :=
  (@Finset.sum_congr _ EReal _ _ _ _ _ rfl fun x _ => congrArg (· * _) (lane_read i x0 x1 x2 x3 x4 x)).trans (sink_lane (fun x => x4 (ix2 0 x)) ⟨7, by omega⟩)

/-- The shares from the products. -/
abbrev val00 : FVec Ideal S512x256 .f32 :=
  k0_pay50 a m s (k0_pay46 (k0_pay42 m s) (k0_pay43 a) (k0_pay44 a m s) (k0_pay45 a m s)) (k0_pay47 a m s) (k0_pay48 m s) (k0_pay49 a)

/-- The shares of the four heads of block 0 that read key head 0. -/
def shares00 : FVec Ideal S512x256 .f32 :=
  val00 (k0_pay149 i x0 x1 x2 x3 x4) (k0_pay151 i x0 x1 x2 x3 x4) (k0_pay164 i x0 x1 x2 x3 x4)

/-- The softmax of head 0 of block 0, from its products. -/
theorem soft00 :
    val00 a m s (ix2 ⟨r.val, by omega⟩ k)
      = share (fun k => masked (m (ix2 r k)) (s (ix2 ⟨r.val, by omega⟩ k)))
        (lane a 0#32) k := by
  pointwise [val00, k0_pay50, k0_pay46, k0_pay42, k0_pay43, k0_pay44, k0_pay45, k0_pay47, k0_pay48, k0_pay49]
  rfl

/-- The shares of head 0 of block 0. -/
theorem prob00 :
    shares00 i x0 x1 x2 x3 x4 (ix2 ⟨r.val, by omega⟩ k) = share (scores (query 0 (by omega) x0 r) (rows 0 (by omega) x1 x3) (fun k => k0_pay151 (F := Ideal) i x0 x1 x2 x3 x4 (ix2 r k)) ⟨0, by omega⟩) (sinks x4 ⟨0, by omega⟩) k :=
  (soft00 _ _ _ r k).trans (congrArg₂ (fun s a => share s a k) (funext fun k => congrArg (masked _) (dots00 i x0 x1 x2 x3 x4 r k)) (sink0 i x0 x1 x2 x3 x4))

/-- The softmax of head 1 of block 0, from its products. -/
theorem soft01 :
    val00 a m s (ix2 ⟨128 + r.val, by omega⟩ k)
      = share (fun k => masked (m (ix2 r k)) (s (ix2 ⟨128 + r.val, by omega⟩ k)))
        (lane a 1#32) k := by
  pointwise [val00, k0_pay50, k0_pay46, k0_pay42, k0_pay43, k0_pay44, k0_pay45, k0_pay47, k0_pay48, k0_pay49]
  first | rfl | (simp only [row1 r, r.isLt, ↓reduceDIte]; rfl)

/-- The shares of head 1 of block 0. -/
theorem prob01 :
    shares00 i x0 x1 x2 x3 x4 (ix2 ⟨128 + r.val, by omega⟩ k) = share (scores (query 0 (by omega) x0 r) (rows 0 (by omega) x1 x3) (fun k => k0_pay151 (F := Ideal) i x0 x1 x2 x3 x4 (ix2 r k)) ⟨1, by omega⟩) (sinks x4 ⟨1, by omega⟩) k :=
  (soft01 _ _ _ r k).trans (congrArg₂ (fun s a => share s a k) (funext fun k => congrArg (masked _) (dots01 i x0 x1 x2 x3 x4 r k)) (sink1 i x0 x1 x2 x3 x4))

/-- The softmax of head 2 of block 0, from its products. -/
theorem soft02 :
    val00 a m s (ix2 ⟨256 + r.val, by omega⟩ k)
      = share (fun k => masked (m (ix2 r k)) (s (ix2 ⟨256 + r.val, by omega⟩ k)))
        (lane a 2#32) k := by
  pointwise [val00, k0_pay50, k0_pay46, k0_pay42, k0_pay43, k0_pay44, k0_pay45, k0_pay47, k0_pay48, k0_pay49]
  first | rfl | (simp only [row2 r, r.isLt, ↓reduceDIte]; rfl)

/-- The shares of head 2 of block 0. -/
theorem prob02 :
    shares00 i x0 x1 x2 x3 x4 (ix2 ⟨256 + r.val, by omega⟩ k) = share (scores (query 0 (by omega) x0 r) (rows 0 (by omega) x1 x3) (fun k => k0_pay151 (F := Ideal) i x0 x1 x2 x3 x4 (ix2 r k)) ⟨2, by omega⟩) (sinks x4 ⟨2, by omega⟩) k :=
  (soft02 _ _ _ r k).trans (congrArg₂ (fun s a => share s a k) (funext fun k => congrArg (masked _) (dots02 i x0 x1 x2 x3 x4 r k)) (sink2 i x0 x1 x2 x3 x4))

/-- The softmax of head 3 of block 0, from its products. -/
theorem soft03 :
    val00 a m s (ix2 ⟨384 + r.val, by omega⟩ k)
      = share (fun k => masked (m (ix2 r k)) (s (ix2 ⟨384 + r.val, by omega⟩ k)))
        (lane a 3#32) k := by
  pointwise [val00, k0_pay50, k0_pay46, k0_pay42, k0_pay43, k0_pay44, k0_pay45, k0_pay47, k0_pay48, k0_pay49]
  first | rfl | (simp only [row3 r, r.isLt, ↓reduceDIte]; rfl)

/-- The shares of head 3 of block 0. -/
theorem prob03 :
    shares00 i x0 x1 x2 x3 x4 (ix2 ⟨384 + r.val, by omega⟩ k) = share (scores (query 0 (by omega) x0 r) (rows 0 (by omega) x1 x3) (fun k => k0_pay151 (F := Ideal) i x0 x1 x2 x3 x4 (ix2 r k)) ⟨3, by omega⟩) (sinks x4 ⟨3, by omega⟩) k :=
  (soft03 _ _ _ r k).trans (congrArg₂ (fun s a => share s a k) (funext fun k => congrArg (masked _) (dots03 i x0 x1 x2 x3 x4 r k)) (sink3 i x0 x1 x2 x3 x4))

/-- The shares from the products. -/
abbrev val01 : FVec Ideal S512x256 .f32 :=
  k0_pay65 (k0_pay53 a m (k0_pay51 s) (k0_pay52 (F := Ideal))) (k0_pay59 (k0_pay57 a m s) (k0_pay58 a m s)) (k0_pay60 a m s) (k0_pay62 a) (k0_pay63 a m s) (k0_pay64 a m s)

/-- The shares of the four heads of block 0 that read key head 1. -/
def shares01 : FVec Ideal S512x256 .f32 :=
  val01 (k0_pay149 i x0 x1 x2 x3 x4) (k0_pay151 i x0 x1 x2 x3 x4) (k0_pay165 i x0 x1 x2 x3 x4)

/-- The softmax of head 4 of block 0, from its products. -/
theorem soft04 :
    val01 a m s (ix2 ⟨r.val, by omega⟩ k)
      = share (fun k => masked (m (ix2 r k)) (s (ix2 ⟨r.val, by omega⟩ k)))
        (lane a 4#32) k := by
  pointwise [val01, k0_pay65, k0_pay53, k0_pay51, k0_pay52, k0_pay59, k0_pay57, k0_pay58, k0_pay60, k0_pay62, k0_pay63, k0_pay64, k0_pay56, k0_pay54, k0_pay55, k0_pay61]
  rfl

/-- The shares of head 4 of block 0. -/
theorem prob04 :
    shares01 i x0 x1 x2 x3 x4 (ix2 ⟨r.val, by omega⟩ k) = share (scores (query 0 (by omega) x0 r) (rows 0 (by omega) x1 x3) (fun k => k0_pay151 (F := Ideal) i x0 x1 x2 x3 x4 (ix2 r k)) ⟨4, by omega⟩) (sinks x4 ⟨4, by omega⟩) k :=
  (soft04 _ _ _ r k).trans (congrArg₂ (fun s a => share s a k) (funext fun k => congrArg (masked _) (dots04 i x0 x1 x2 x3 x4 r k)) (sink4 i x0 x1 x2 x3 x4))

/-- The softmax of head 5 of block 0, from its products. -/
theorem soft05 :
    val01 a m s (ix2 ⟨128 + r.val, by omega⟩ k)
      = share (fun k => masked (m (ix2 r k)) (s (ix2 ⟨128 + r.val, by omega⟩ k)))
        (lane a 5#32) k := by
  pointwise [val01, k0_pay65, k0_pay53, k0_pay51, k0_pay52, k0_pay59, k0_pay57, k0_pay58, k0_pay60, k0_pay62, k0_pay63, k0_pay64, k0_pay56, k0_pay54, k0_pay55, k0_pay61]
  first | rfl | (simp only [row1 r, r.isLt, ↓reduceDIte]; rfl)

/-- The shares of head 5 of block 0. -/
theorem prob05 :
    shares01 i x0 x1 x2 x3 x4 (ix2 ⟨128 + r.val, by omega⟩ k) = share (scores (query 0 (by omega) x0 r) (rows 0 (by omega) x1 x3) (fun k => k0_pay151 (F := Ideal) i x0 x1 x2 x3 x4 (ix2 r k)) ⟨5, by omega⟩) (sinks x4 ⟨5, by omega⟩) k :=
  (soft05 _ _ _ r k).trans (congrArg₂ (fun s a => share s a k) (funext fun k => congrArg (masked _) (dots05 i x0 x1 x2 x3 x4 r k)) (sink5 i x0 x1 x2 x3 x4))

/-- The softmax of head 6 of block 0, from its products. -/
theorem soft06 :
    val01 a m s (ix2 ⟨256 + r.val, by omega⟩ k)
      = share (fun k => masked (m (ix2 r k)) (s (ix2 ⟨256 + r.val, by omega⟩ k)))
        (lane a 6#32) k := by
  pointwise [val01, k0_pay65, k0_pay53, k0_pay51, k0_pay52, k0_pay59, k0_pay57, k0_pay58, k0_pay60, k0_pay62, k0_pay63, k0_pay64, k0_pay56, k0_pay54, k0_pay55, k0_pay61]
  first | rfl | (simp only [row2 r, r.isLt, ↓reduceDIte]; rfl)

/-- The shares of head 6 of block 0. -/
theorem prob06 :
    shares01 i x0 x1 x2 x3 x4 (ix2 ⟨256 + r.val, by omega⟩ k) = share (scores (query 0 (by omega) x0 r) (rows 0 (by omega) x1 x3) (fun k => k0_pay151 (F := Ideal) i x0 x1 x2 x3 x4 (ix2 r k)) ⟨6, by omega⟩) (sinks x4 ⟨6, by omega⟩) k :=
  (soft06 _ _ _ r k).trans (congrArg₂ (fun s a => share s a k) (funext fun k => congrArg (masked _) (dots06 i x0 x1 x2 x3 x4 r k)) (sink6 i x0 x1 x2 x3 x4))

/-- The softmax of head 7 of block 0, from its products. -/
theorem soft07 :
    val01 a m s (ix2 ⟨384 + r.val, by omega⟩ k)
      = share (fun k => masked (m (ix2 r k)) (s (ix2 ⟨384 + r.val, by omega⟩ k)))
        (lane a 7#32) k := by
  pointwise [val01, k0_pay65, k0_pay53, k0_pay51, k0_pay52, k0_pay59, k0_pay57, k0_pay58, k0_pay60, k0_pay62, k0_pay63, k0_pay64, k0_pay56, k0_pay54, k0_pay55, k0_pay61]
  first | rfl | (simp only [row3 r, r.isLt, ↓reduceDIte]; rfl)

/-- The shares of head 7 of block 0. -/
theorem prob07 :
    shares01 i x0 x1 x2 x3 x4 (ix2 ⟨384 + r.val, by omega⟩ k) = share (scores (query 0 (by omega) x0 r) (rows 0 (by omega) x1 x3) (fun k => k0_pay151 (F := Ideal) i x0 x1 x2 x3 x4 (ix2 r k)) ⟨7, by omega⟩) (sinks x4 ⟨7, by omega⟩) k :=
  (soft07 _ _ _ r k).trans (congrArg₂ (fun s a => share s a k) (funext fun k => congrArg (masked _) (dots07 i x0 x1 x2 x3 x4 r k)) (sink7 i x0 x1 x2 x3 x4))

/-- The shares from the products. -/
abbrev val10 : FVec Ideal S512x256 .f32 :=
  k0_pay72 a (k0_pay66 a m s) (k0_pay69 (k0_pay67 m s) (k0_pay68 a)) (k0_pay70 a m s) (k0_pay71 m s)

/-- The shares of the four heads of block 1 that read key head 0. -/
def shares10 : FVec Ideal S512x256 .f32 :=
  val10 (k0_pay149 i x0 x1 x2 x3 x4) (k0_pay150 i x0 x1 x2 x3 x4) (k0_pay166 i x0 x1 x2 x3 x4)

/-- The softmax of head 0 of block 1, from its products. -/
theorem soft10 :
    val10 a m s (ix2 ⟨r.val, by omega⟩ k)
      = share (fun k => masked (m (ix2 r k)) (s (ix2 ⟨r.val, by omega⟩ k)))
        (lane a 0#32) k := by
  pointwise [val10, k0_pay72, k0_pay66, k0_pay69, k0_pay67, k0_pay68, k0_pay70, k0_pay71]
  rfl

/-- The shares of head 0 of block 1. -/
theorem prob10 :
    shares10 i x0 x1 x2 x3 x4 (ix2 ⟨r.val, by omega⟩ k) = share (scores (query 1 (by omega) x0 r) (rows 1 (by omega) x1 x3) (fun k => k0_pay150 (F := Ideal) i x0 x1 x2 x3 x4 (ix2 r k)) ⟨0, by omega⟩) (sinks x4 ⟨0, by omega⟩) k :=
  (soft10 _ _ _ r k).trans (congrArg₂ (fun s a => share s a k) (funext fun k => congrArg (masked _) (dots10 i x0 x1 x2 x3 x4 r k)) (sink0 i x0 x1 x2 x3 x4))

/-- The softmax of head 1 of block 1, from its products. -/
theorem soft11 :
    val10 a m s (ix2 ⟨128 + r.val, by omega⟩ k)
      = share (fun k => masked (m (ix2 r k)) (s (ix2 ⟨128 + r.val, by omega⟩ k)))
        (lane a 1#32) k := by
  pointwise [val10, k0_pay72, k0_pay66, k0_pay69, k0_pay67, k0_pay68, k0_pay70, k0_pay71]
  first | rfl | (simp only [row1 r, r.isLt, ↓reduceDIte]; rfl)

/-- The shares of head 1 of block 1. -/
theorem prob11 :
    shares10 i x0 x1 x2 x3 x4 (ix2 ⟨128 + r.val, by omega⟩ k) = share (scores (query 1 (by omega) x0 r) (rows 1 (by omega) x1 x3) (fun k => k0_pay150 (F := Ideal) i x0 x1 x2 x3 x4 (ix2 r k)) ⟨1, by omega⟩) (sinks x4 ⟨1, by omega⟩) k :=
  (soft11 _ _ _ r k).trans (congrArg₂ (fun s a => share s a k) (funext fun k => congrArg (masked _) (dots11 i x0 x1 x2 x3 x4 r k)) (sink1 i x0 x1 x2 x3 x4))

/-- The softmax of head 2 of block 1, from its products. -/
theorem soft12 :
    val10 a m s (ix2 ⟨256 + r.val, by omega⟩ k)
      = share (fun k => masked (m (ix2 r k)) (s (ix2 ⟨256 + r.val, by omega⟩ k)))
        (lane a 2#32) k := by
  pointwise [val10, k0_pay72, k0_pay66, k0_pay69, k0_pay67, k0_pay68, k0_pay70, k0_pay71]
  first | rfl | (simp only [row2 r, r.isLt, ↓reduceDIte]; rfl)

/-- The shares of head 2 of block 1. -/
theorem prob12 :
    shares10 i x0 x1 x2 x3 x4 (ix2 ⟨256 + r.val, by omega⟩ k) = share (scores (query 1 (by omega) x0 r) (rows 1 (by omega) x1 x3) (fun k => k0_pay150 (F := Ideal) i x0 x1 x2 x3 x4 (ix2 r k)) ⟨2, by omega⟩) (sinks x4 ⟨2, by omega⟩) k :=
  (soft12 _ _ _ r k).trans (congrArg₂ (fun s a => share s a k) (funext fun k => congrArg (masked _) (dots12 i x0 x1 x2 x3 x4 r k)) (sink2 i x0 x1 x2 x3 x4))

/-- The softmax of head 3 of block 1, from its products. -/
theorem soft13 :
    val10 a m s (ix2 ⟨384 + r.val, by omega⟩ k)
      = share (fun k => masked (m (ix2 r k)) (s (ix2 ⟨384 + r.val, by omega⟩ k)))
        (lane a 3#32) k := by
  pointwise [val10, k0_pay72, k0_pay66, k0_pay69, k0_pay67, k0_pay68, k0_pay70, k0_pay71]
  first | rfl | (simp only [row3 r, r.isLt, ↓reduceDIte]; rfl)

/-- The shares of head 3 of block 1. -/
theorem prob13 :
    shares10 i x0 x1 x2 x3 x4 (ix2 ⟨384 + r.val, by omega⟩ k) = share (scores (query 1 (by omega) x0 r) (rows 1 (by omega) x1 x3) (fun k => k0_pay150 (F := Ideal) i x0 x1 x2 x3 x4 (ix2 r k)) ⟨3, by omega⟩) (sinks x4 ⟨3, by omega⟩) k :=
  (soft13 _ _ _ r k).trans (congrArg₂ (fun s a => share s a k) (funext fun k => congrArg (masked _) (dots13 i x0 x1 x2 x3 x4 r k)) (sink3 i x0 x1 x2 x3 x4))

/-- The shares from the products. -/
abbrev val11 : FVec Ideal S512x256 .f32 :=
  k0_pay84 a m s (k0_pay78 (k0_pay76 a m s) (k0_pay77 a m s)) (k0_pay79 a m s) (k0_pay81 a) (k0_pay82 a m s) (k0_pay83 a m s)

/-- The shares of the four heads of block 1 that read key head 1. -/
def shares11 : FVec Ideal S512x256 .f32 :=
  val11 (k0_pay149 i x0 x1 x2 x3 x4) (k0_pay150 i x0 x1 x2 x3 x4) (k0_pay167 i x0 x1 x2 x3 x4)

/-- The softmax of head 4 of block 1, from its products. -/
theorem soft14 :
    val11 a m s (ix2 ⟨r.val, by omega⟩ k)
      = share (fun k => masked (m (ix2 r k)) (s (ix2 ⟨r.val, by omega⟩ k)))
        (lane a 4#32) k := by
  pointwise [val11, k0_pay84, k0_pay78, k0_pay76, k0_pay77, k0_pay79, k0_pay81, k0_pay82, k0_pay83, k0_pay75, k0_pay73, k0_pay74, k0_pay80]
  rfl

/-- The shares of head 4 of block 1. -/
theorem prob14 :
    shares11 i x0 x1 x2 x3 x4 (ix2 ⟨r.val, by omega⟩ k) = share (scores (query 1 (by omega) x0 r) (rows 1 (by omega) x1 x3) (fun k => k0_pay150 (F := Ideal) i x0 x1 x2 x3 x4 (ix2 r k)) ⟨4, by omega⟩) (sinks x4 ⟨4, by omega⟩) k :=
  (soft14 _ _ _ r k).trans (congrArg₂ (fun s a => share s a k) (funext fun k => congrArg (masked _) (dots14 i x0 x1 x2 x3 x4 r k)) (sink4 i x0 x1 x2 x3 x4))

/-- The softmax of head 5 of block 1, from its products. -/
theorem soft15 :
    val11 a m s (ix2 ⟨128 + r.val, by omega⟩ k)
      = share (fun k => masked (m (ix2 r k)) (s (ix2 ⟨128 + r.val, by omega⟩ k)))
        (lane a 5#32) k := by
  pointwise [val11, k0_pay84, k0_pay78, k0_pay76, k0_pay77, k0_pay79, k0_pay81, k0_pay82, k0_pay83, k0_pay75, k0_pay73, k0_pay74, k0_pay80]
  first | rfl | (simp only [row1 r, r.isLt, ↓reduceDIte]; rfl)

/-- The shares of head 5 of block 1. -/
theorem prob15 :
    shares11 i x0 x1 x2 x3 x4 (ix2 ⟨128 + r.val, by omega⟩ k) = share (scores (query 1 (by omega) x0 r) (rows 1 (by omega) x1 x3) (fun k => k0_pay150 (F := Ideal) i x0 x1 x2 x3 x4 (ix2 r k)) ⟨5, by omega⟩) (sinks x4 ⟨5, by omega⟩) k :=
  (soft15 _ _ _ r k).trans (congrArg₂ (fun s a => share s a k) (funext fun k => congrArg (masked _) (dots15 i x0 x1 x2 x3 x4 r k)) (sink5 i x0 x1 x2 x3 x4))

/-- The softmax of head 6 of block 1, from its products. -/
theorem soft16 :
    val11 a m s (ix2 ⟨256 + r.val, by omega⟩ k)
      = share (fun k => masked (m (ix2 r k)) (s (ix2 ⟨256 + r.val, by omega⟩ k)))
        (lane a 6#32) k := by
  pointwise [val11, k0_pay84, k0_pay78, k0_pay76, k0_pay77, k0_pay79, k0_pay81, k0_pay82, k0_pay83, k0_pay75, k0_pay73, k0_pay74, k0_pay80]
  first | rfl | (simp only [row2 r, r.isLt, ↓reduceDIte]; rfl)

/-- The shares of head 6 of block 1. -/
theorem prob16 :
    shares11 i x0 x1 x2 x3 x4 (ix2 ⟨256 + r.val, by omega⟩ k) = share (scores (query 1 (by omega) x0 r) (rows 1 (by omega) x1 x3) (fun k => k0_pay150 (F := Ideal) i x0 x1 x2 x3 x4 (ix2 r k)) ⟨6, by omega⟩) (sinks x4 ⟨6, by omega⟩) k :=
  (soft16 _ _ _ r k).trans (congrArg₂ (fun s a => share s a k) (funext fun k => congrArg (masked _) (dots16 i x0 x1 x2 x3 x4 r k)) (sink6 i x0 x1 x2 x3 x4))

/-- The softmax of head 7 of block 1, from its products. -/
theorem soft17 :
    val11 a m s (ix2 ⟨384 + r.val, by omega⟩ k)
      = share (fun k => masked (m (ix2 r k)) (s (ix2 ⟨384 + r.val, by omega⟩ k)))
        (lane a 7#32) k := by
  pointwise [val11, k0_pay84, k0_pay78, k0_pay76, k0_pay77, k0_pay79, k0_pay81, k0_pay82, k0_pay83, k0_pay75, k0_pay73, k0_pay74, k0_pay80]
  first | rfl | (simp only [row3 r, r.isLt, ↓reduceDIte]; rfl)

/-- The shares of head 7 of block 1. -/
theorem prob17 :
    shares11 i x0 x1 x2 x3 x4 (ix2 ⟨384 + r.val, by omega⟩ k) = share (scores (query 1 (by omega) x0 r) (rows 1 (by omega) x1 x3) (fun k => k0_pay150 (F := Ideal) i x0 x1 x2 x3 x4 (ix2 r k)) ⟨7, by omega⟩) (sinks x4 ⟨7, by omega⟩) k :=
  (soft17 _ _ _ r k).trans (congrArg₂ (fun s a => share s a k) (funext fun k => congrArg (masked _) (dots17 i x0 x1 x2 x3 x4 r k)) (sink7 i x0 x1 x2 x3 x4))

/-- The shares from the products. -/
abbrev val20 : FVec Ideal S512x256 .f32 :=
  k0_pay96 (k0_pay87 (k0_pay85 m s) (k0_pay86 a)) (k0_pay88 a m s) (k0_pay90 a (k0_pay89 m s)) (k0_pay94 a m s) (k0_pay95 a m s)

/-- The shares of the four heads of block 2 that read key head 0. -/
def shares20 : FVec Ideal S512x256 .f32 :=
  val20 (k0_pay149 i x0 x1 x2 x3 x4) (k0_pay150 i x0 x1 x2 x3 x4) (k0_pay168 i x0 x1 x2 x3 x4)

/-- The softmax of head 0 of block 2, from its products. -/
theorem soft20 :
    val20 a m s (ix2 ⟨r.val, by omega⟩ k)
      = share (fun k => masked (m (ix2 r k)) (s (ix2 ⟨r.val, by omega⟩ k)))
        (lane a 0#32) k := by
  pointwise [val20, k0_pay96, k0_pay87, k0_pay85, k0_pay86, k0_pay88, k0_pay90, k0_pay89, k0_pay94, k0_pay95, k0_pay93, k0_pay91, k0_pay92]
  rfl

/-- The shares of head 0 of block 2. -/
theorem prob20 :
    shares20 i x0 x1 x2 x3 x4 (ix2 ⟨r.val, by omega⟩ k) = share (scores (query 2 (by omega) x0 r) (rows 2 (by omega) x1 x3) (fun k => k0_pay150 (F := Ideal) i x0 x1 x2 x3 x4 (ix2 r k)) ⟨0, by omega⟩) (sinks x4 ⟨0, by omega⟩) k :=
  (soft20 _ _ _ r k).trans (congrArg₂ (fun s a => share s a k) (funext fun k => congrArg (masked _) (dots20 i x0 x1 x2 x3 x4 r k)) (sink0 i x0 x1 x2 x3 x4))

/-- The softmax of head 1 of block 2, from its products. -/
theorem soft21 :
    val20 a m s (ix2 ⟨128 + r.val, by omega⟩ k)
      = share (fun k => masked (m (ix2 r k)) (s (ix2 ⟨128 + r.val, by omega⟩ k)))
        (lane a 1#32) k := by
  pointwise [val20, k0_pay96, k0_pay87, k0_pay85, k0_pay86, k0_pay88, k0_pay90, k0_pay89, k0_pay94, k0_pay95, k0_pay93, k0_pay91, k0_pay92]
  first | rfl | (simp only [row1 r, r.isLt, ↓reduceDIte]; rfl)

/-- The shares of head 1 of block 2. -/
theorem prob21 :
    shares20 i x0 x1 x2 x3 x4 (ix2 ⟨128 + r.val, by omega⟩ k) = share (scores (query 2 (by omega) x0 r) (rows 2 (by omega) x1 x3) (fun k => k0_pay150 (F := Ideal) i x0 x1 x2 x3 x4 (ix2 r k)) ⟨1, by omega⟩) (sinks x4 ⟨1, by omega⟩) k :=
  (soft21 _ _ _ r k).trans (congrArg₂ (fun s a => share s a k) (funext fun k => congrArg (masked _) (dots21 i x0 x1 x2 x3 x4 r k)) (sink1 i x0 x1 x2 x3 x4))

/-- The softmax of head 2 of block 2, from its products. -/
theorem soft22 :
    val20 a m s (ix2 ⟨256 + r.val, by omega⟩ k)
      = share (fun k => masked (m (ix2 r k)) (s (ix2 ⟨256 + r.val, by omega⟩ k)))
        (lane a 2#32) k := by
  pointwise [val20, k0_pay96, k0_pay87, k0_pay85, k0_pay86, k0_pay88, k0_pay90, k0_pay89, k0_pay94, k0_pay95, k0_pay93, k0_pay91, k0_pay92]
  first | rfl | (simp only [row2 r, r.isLt, ↓reduceDIte]; rfl)

/-- The shares of head 2 of block 2. -/
theorem prob22 :
    shares20 i x0 x1 x2 x3 x4 (ix2 ⟨256 + r.val, by omega⟩ k) = share (scores (query 2 (by omega) x0 r) (rows 2 (by omega) x1 x3) (fun k => k0_pay150 (F := Ideal) i x0 x1 x2 x3 x4 (ix2 r k)) ⟨2, by omega⟩) (sinks x4 ⟨2, by omega⟩) k :=
  (soft22 _ _ _ r k).trans (congrArg₂ (fun s a => share s a k) (funext fun k => congrArg (masked _) (dots22 i x0 x1 x2 x3 x4 r k)) (sink2 i x0 x1 x2 x3 x4))

/-- The softmax of head 3 of block 2, from its products. -/
theorem soft23 :
    val20 a m s (ix2 ⟨384 + r.val, by omega⟩ k)
      = share (fun k => masked (m (ix2 r k)) (s (ix2 ⟨384 + r.val, by omega⟩ k)))
        (lane a 3#32) k := by
  pointwise [val20, k0_pay96, k0_pay87, k0_pay85, k0_pay86, k0_pay88, k0_pay90, k0_pay89, k0_pay94, k0_pay95, k0_pay93, k0_pay91, k0_pay92]
  first | rfl | (simp only [row3 r, r.isLt, ↓reduceDIte]; rfl)

/-- The shares of head 3 of block 2. -/
theorem prob23 :
    shares20 i x0 x1 x2 x3 x4 (ix2 ⟨384 + r.val, by omega⟩ k) = share (scores (query 2 (by omega) x0 r) (rows 2 (by omega) x1 x3) (fun k => k0_pay150 (F := Ideal) i x0 x1 x2 x3 x4 (ix2 r k)) ⟨3, by omega⟩) (sinks x4 ⟨3, by omega⟩) k :=
  (soft23 _ _ _ r k).trans (congrArg₂ (fun s a => share s a k) (funext fun k => congrArg (masked _) (dots23 i x0 x1 x2 x3 x4 r k)) (sink3 i x0 x1 x2 x3 x4))

/-- The shares from the products. -/
abbrev val21 : FVec Ideal S512x256 .f32 :=
  k0_pay106 (k0_pay97 a m s) (k0_pay102 (k0_pay99 a) (k0_pay100 a m s) (k0_pay101 a m s)) (k0_pay103 a m s) (k0_pay104 m s) (k0_pay105 a)

/-- The shares of the four heads of block 2 that read key head 1. -/
def shares21 : FVec Ideal S512x256 .f32 :=
  val21 (k0_pay149 i x0 x1 x2 x3 x4) (k0_pay150 i x0 x1 x2 x3 x4) (k0_pay169 i x0 x1 x2 x3 x4)

/-- The softmax of head 4 of block 2, from its products. -/
theorem soft24 :
    val21 a m s (ix2 ⟨r.val, by omega⟩ k)
      = share (fun k => masked (m (ix2 r k)) (s (ix2 ⟨r.val, by omega⟩ k)))
        (lane a 4#32) k := by
  pointwise [val21, k0_pay106, k0_pay97, k0_pay102, k0_pay99, k0_pay100, k0_pay101, k0_pay103, k0_pay104, k0_pay105, k0_pay98]
  rfl

/-- The shares of head 4 of block 2. -/
theorem prob24 :
    shares21 i x0 x1 x2 x3 x4 (ix2 ⟨r.val, by omega⟩ k) = share (scores (query 2 (by omega) x0 r) (rows 2 (by omega) x1 x3) (fun k => k0_pay150 (F := Ideal) i x0 x1 x2 x3 x4 (ix2 r k)) ⟨4, by omega⟩) (sinks x4 ⟨4, by omega⟩) k :=
  (soft24 _ _ _ r k).trans (congrArg₂ (fun s a => share s a k) (funext fun k => congrArg (masked _) (dots24 i x0 x1 x2 x3 x4 r k)) (sink4 i x0 x1 x2 x3 x4))

/-- The softmax of head 5 of block 2, from its products. -/
theorem soft25 :
    val21 a m s (ix2 ⟨128 + r.val, by omega⟩ k)
      = share (fun k => masked (m (ix2 r k)) (s (ix2 ⟨128 + r.val, by omega⟩ k)))
        (lane a 5#32) k := by
  pointwise [val21, k0_pay106, k0_pay97, k0_pay102, k0_pay99, k0_pay100, k0_pay101, k0_pay103, k0_pay104, k0_pay105, k0_pay98]
  first | rfl | (simp only [row1 r, r.isLt, ↓reduceDIte]; rfl)

/-- The shares of head 5 of block 2. -/
theorem prob25 :
    shares21 i x0 x1 x2 x3 x4 (ix2 ⟨128 + r.val, by omega⟩ k) = share (scores (query 2 (by omega) x0 r) (rows 2 (by omega) x1 x3) (fun k => k0_pay150 (F := Ideal) i x0 x1 x2 x3 x4 (ix2 r k)) ⟨5, by omega⟩) (sinks x4 ⟨5, by omega⟩) k :=
  (soft25 _ _ _ r k).trans (congrArg₂ (fun s a => share s a k) (funext fun k => congrArg (masked _) (dots25 i x0 x1 x2 x3 x4 r k)) (sink5 i x0 x1 x2 x3 x4))

/-- The softmax of head 6 of block 2, from its products. -/
theorem soft26 :
    val21 a m s (ix2 ⟨256 + r.val, by omega⟩ k)
      = share (fun k => masked (m (ix2 r k)) (s (ix2 ⟨256 + r.val, by omega⟩ k)))
        (lane a 6#32) k := by
  pointwise [val21, k0_pay106, k0_pay97, k0_pay102, k0_pay99, k0_pay100, k0_pay101, k0_pay103, k0_pay104, k0_pay105, k0_pay98]
  first | rfl | (simp only [row2 r, r.isLt, ↓reduceDIte]; rfl)

/-- The shares of head 6 of block 2. -/
theorem prob26 :
    shares21 i x0 x1 x2 x3 x4 (ix2 ⟨256 + r.val, by omega⟩ k) = share (scores (query 2 (by omega) x0 r) (rows 2 (by omega) x1 x3) (fun k => k0_pay150 (F := Ideal) i x0 x1 x2 x3 x4 (ix2 r k)) ⟨6, by omega⟩) (sinks x4 ⟨6, by omega⟩) k :=
  (soft26 _ _ _ r k).trans (congrArg₂ (fun s a => share s a k) (funext fun k => congrArg (masked _) (dots26 i x0 x1 x2 x3 x4 r k)) (sink6 i x0 x1 x2 x3 x4))

/-- The softmax of head 7 of block 2, from its products. -/
theorem soft27 :
    val21 a m s (ix2 ⟨384 + r.val, by omega⟩ k)
      = share (fun k => masked (m (ix2 r k)) (s (ix2 ⟨384 + r.val, by omega⟩ k)))
        (lane a 7#32) k := by
  pointwise [val21, k0_pay106, k0_pay97, k0_pay102, k0_pay99, k0_pay100, k0_pay101, k0_pay103, k0_pay104, k0_pay105, k0_pay98]
  first | rfl | (simp only [row3 r, r.isLt, ↓reduceDIte]; rfl)

/-- The shares of head 7 of block 2. -/
theorem prob27 :
    shares21 i x0 x1 x2 x3 x4 (ix2 ⟨384 + r.val, by omega⟩ k) = share (scores (query 2 (by omega) x0 r) (rows 2 (by omega) x1 x3) (fun k => k0_pay150 (F := Ideal) i x0 x1 x2 x3 x4 (ix2 r k)) ⟨7, by omega⟩) (sinks x4 ⟨7, by omega⟩) k :=
  (soft27 _ _ _ r k).trans (congrArg₂ (fun s a => share s a k) (funext fun k => congrArg (masked _) (dots27 i x0 x1 x2 x3 x4 r k)) (sink7 i x0 x1 x2 x3 x4))

/-- The shares from the products. -/
abbrev val30 : FVec Ideal S512x256 .f32 :=
  k0_pay115 a m s (k0_pay107 a m s) (k0_pay109 a (k0_pay108 m s)) (k0_pay113 a m s) (k0_pay114 a m s)

/-- The shares of the four heads of block 3 that read key head 0. -/
def shares30 : FVec Ideal S512x256 .f32 :=
  val30 (k0_pay149 i x0 x1 x2 x3 x4) (k0_pay150 i x0 x1 x2 x3 x4) (k0_pay170 i x0 x1 x2 x3 x4)

/-- The softmax of head 0 of block 3, from its products. -/
theorem soft30 :
    val30 a m s (ix2 ⟨r.val, by omega⟩ k)
      = share (fun k => masked (m (ix2 r k)) (s (ix2 ⟨r.val, by omega⟩ k)))
        (lane a 0#32) k := by
  pointwise [val30, k0_pay115, k0_pay107, k0_pay109, k0_pay108, k0_pay113, k0_pay114, k0_pay112, k0_pay110, k0_pay111]
  rfl

/-- The shares of head 0 of block 3. -/
theorem prob30 :
    shares30 i x0 x1 x2 x3 x4 (ix2 ⟨r.val, by omega⟩ k) = share (scores (query 3 (by omega) x0 r) (rows 3 (by omega) x1 x3) (fun k => k0_pay150 (F := Ideal) i x0 x1 x2 x3 x4 (ix2 r k)) ⟨0, by omega⟩) (sinks x4 ⟨0, by omega⟩) k :=
  (soft30 _ _ _ r k).trans (congrArg₂ (fun s a => share s a k) (funext fun k => congrArg (masked _) (dots30 i x0 x1 x2 x3 x4 r k)) (sink0 i x0 x1 x2 x3 x4))

/-- The softmax of head 1 of block 3, from its products. -/
theorem soft31 :
    val30 a m s (ix2 ⟨128 + r.val, by omega⟩ k)
      = share (fun k => masked (m (ix2 r k)) (s (ix2 ⟨128 + r.val, by omega⟩ k)))
        (lane a 1#32) k := by
  pointwise [val30, k0_pay115, k0_pay107, k0_pay109, k0_pay108, k0_pay113, k0_pay114, k0_pay112, k0_pay110, k0_pay111]
  first | rfl | (simp only [row1 r, r.isLt, ↓reduceDIte]; rfl)

/-- The shares of head 1 of block 3. -/
theorem prob31 :
    shares30 i x0 x1 x2 x3 x4 (ix2 ⟨128 + r.val, by omega⟩ k) = share (scores (query 3 (by omega) x0 r) (rows 3 (by omega) x1 x3) (fun k => k0_pay150 (F := Ideal) i x0 x1 x2 x3 x4 (ix2 r k)) ⟨1, by omega⟩) (sinks x4 ⟨1, by omega⟩) k :=
  (soft31 _ _ _ r k).trans (congrArg₂ (fun s a => share s a k) (funext fun k => congrArg (masked _) (dots31 i x0 x1 x2 x3 x4 r k)) (sink1 i x0 x1 x2 x3 x4))

/-- The softmax of head 2 of block 3, from its products. -/
theorem soft32 :
    val30 a m s (ix2 ⟨256 + r.val, by omega⟩ k)
      = share (fun k => masked (m (ix2 r k)) (s (ix2 ⟨256 + r.val, by omega⟩ k)))
        (lane a 2#32) k := by
  pointwise [val30, k0_pay115, k0_pay107, k0_pay109, k0_pay108, k0_pay113, k0_pay114, k0_pay112, k0_pay110, k0_pay111]
  first | rfl | (simp only [row2 r, r.isLt, ↓reduceDIte]; rfl)

/-- The shares of head 2 of block 3. -/
theorem prob32 :
    shares30 i x0 x1 x2 x3 x4 (ix2 ⟨256 + r.val, by omega⟩ k) = share (scores (query 3 (by omega) x0 r) (rows 3 (by omega) x1 x3) (fun k => k0_pay150 (F := Ideal) i x0 x1 x2 x3 x4 (ix2 r k)) ⟨2, by omega⟩) (sinks x4 ⟨2, by omega⟩) k :=
  (soft32 _ _ _ r k).trans (congrArg₂ (fun s a => share s a k) (funext fun k => congrArg (masked _) (dots32 i x0 x1 x2 x3 x4 r k)) (sink2 i x0 x1 x2 x3 x4))

/-- The softmax of head 3 of block 3, from its products. -/
theorem soft33 :
    val30 a m s (ix2 ⟨384 + r.val, by omega⟩ k)
      = share (fun k => masked (m (ix2 r k)) (s (ix2 ⟨384 + r.val, by omega⟩ k)))
        (lane a 3#32) k := by
  pointwise [val30, k0_pay115, k0_pay107, k0_pay109, k0_pay108, k0_pay113, k0_pay114, k0_pay112, k0_pay110, k0_pay111]
  first | rfl | (simp only [row3 r, r.isLt, ↓reduceDIte]; rfl)

/-- The shares of head 3 of block 3. -/
theorem prob33 :
    shares30 i x0 x1 x2 x3 x4 (ix2 ⟨384 + r.val, by omega⟩ k) = share (scores (query 3 (by omega) x0 r) (rows 3 (by omega) x1 x3) (fun k => k0_pay150 (F := Ideal) i x0 x1 x2 x3 x4 (ix2 r k)) ⟨3, by omega⟩) (sinks x4 ⟨3, by omega⟩) k :=
  (soft33 _ _ _ r k).trans (congrArg₂ (fun s a => share s a k) (funext fun k => congrArg (masked _) (dots33 i x0 x1 x2 x3 x4 r k)) (sink3 i x0 x1 x2 x3 x4))

/-- The shares from the products. -/
abbrev val31 : FVec Ideal S512x256 .f32 :=
  k0_pay124 a m s (k0_pay120 (k0_pay117 a) (k0_pay118 a m s) (k0_pay119 a m s)) (k0_pay121 a m s) (k0_pay122 m s) (k0_pay123 a)

/-- The shares of the four heads of block 3 that read key head 1. -/
def shares31 : FVec Ideal S512x256 .f32 :=
  val31 (k0_pay149 i x0 x1 x2 x3 x4) (k0_pay150 i x0 x1 x2 x3 x4) (k0_pay171 i x0 x1 x2 x3 x4)

/-- The softmax of head 4 of block 3, from its products. -/
theorem soft34 :
    val31 a m s (ix2 ⟨r.val, by omega⟩ k)
      = share (fun k => masked (m (ix2 r k)) (s (ix2 ⟨r.val, by omega⟩ k)))
        (lane a 4#32) k := by
  pointwise [val31, k0_pay124, k0_pay120, k0_pay117, k0_pay118, k0_pay119, k0_pay121, k0_pay122, k0_pay123, k0_pay116]
  rfl

/-- The shares of head 4 of block 3. -/
theorem prob34 :
    shares31 i x0 x1 x2 x3 x4 (ix2 ⟨r.val, by omega⟩ k) = share (scores (query 3 (by omega) x0 r) (rows 3 (by omega) x1 x3) (fun k => k0_pay150 (F := Ideal) i x0 x1 x2 x3 x4 (ix2 r k)) ⟨4, by omega⟩) (sinks x4 ⟨4, by omega⟩) k :=
  (soft34 _ _ _ r k).trans (congrArg₂ (fun s a => share s a k) (funext fun k => congrArg (masked _) (dots34 i x0 x1 x2 x3 x4 r k)) (sink4 i x0 x1 x2 x3 x4))

/-- The softmax of head 5 of block 3, from its products. -/
theorem soft35 :
    val31 a m s (ix2 ⟨128 + r.val, by omega⟩ k)
      = share (fun k => masked (m (ix2 r k)) (s (ix2 ⟨128 + r.val, by omega⟩ k)))
        (lane a 5#32) k := by
  pointwise [val31, k0_pay124, k0_pay120, k0_pay117, k0_pay118, k0_pay119, k0_pay121, k0_pay122, k0_pay123, k0_pay116]
  first | rfl | (simp only [row1 r, r.isLt, ↓reduceDIte]; rfl)

/-- The shares of head 5 of block 3. -/
theorem prob35 :
    shares31 i x0 x1 x2 x3 x4 (ix2 ⟨128 + r.val, by omega⟩ k) = share (scores (query 3 (by omega) x0 r) (rows 3 (by omega) x1 x3) (fun k => k0_pay150 (F := Ideal) i x0 x1 x2 x3 x4 (ix2 r k)) ⟨5, by omega⟩) (sinks x4 ⟨5, by omega⟩) k :=
  (soft35 _ _ _ r k).trans (congrArg₂ (fun s a => share s a k) (funext fun k => congrArg (masked _) (dots35 i x0 x1 x2 x3 x4 r k)) (sink5 i x0 x1 x2 x3 x4))

/-- The softmax of head 6 of block 3, from its products. -/
theorem soft36 :
    val31 a m s (ix2 ⟨256 + r.val, by omega⟩ k)
      = share (fun k => masked (m (ix2 r k)) (s (ix2 ⟨256 + r.val, by omega⟩ k)))
        (lane a 6#32) k := by
  pointwise [val31, k0_pay124, k0_pay120, k0_pay117, k0_pay118, k0_pay119, k0_pay121, k0_pay122, k0_pay123, k0_pay116]
  first | rfl | (simp only [row2 r, r.isLt, ↓reduceDIte]; rfl)

/-- The shares of head 6 of block 3. -/
theorem prob36 :
    shares31 i x0 x1 x2 x3 x4 (ix2 ⟨256 + r.val, by omega⟩ k) = share (scores (query 3 (by omega) x0 r) (rows 3 (by omega) x1 x3) (fun k => k0_pay150 (F := Ideal) i x0 x1 x2 x3 x4 (ix2 r k)) ⟨6, by omega⟩) (sinks x4 ⟨6, by omega⟩) k :=
  (soft36 _ _ _ r k).trans (congrArg₂ (fun s a => share s a k) (funext fun k => congrArg (masked _) (dots36 i x0 x1 x2 x3 x4 r k)) (sink6 i x0 x1 x2 x3 x4))

/-- The softmax of head 7 of block 3, from its products. -/
theorem soft37 :
    val31 a m s (ix2 ⟨384 + r.val, by omega⟩ k)
      = share (fun k => masked (m (ix2 r k)) (s (ix2 ⟨384 + r.val, by omega⟩ k)))
        (lane a 7#32) k := by
  pointwise [val31, k0_pay124, k0_pay120, k0_pay117, k0_pay118, k0_pay119, k0_pay121, k0_pay122, k0_pay123, k0_pay116]
  first | rfl | (simp only [row3 r, r.isLt, ↓reduceDIte]; rfl)

/-- The shares of head 7 of block 3. -/
theorem prob37 :
    shares31 i x0 x1 x2 x3 x4 (ix2 ⟨384 + r.val, by omega⟩ k) = share (scores (query 3 (by omega) x0 r) (rows 3 (by omega) x1 x3) (fun k => k0_pay150 (F := Ideal) i x0 x1 x2 x3 x4 (ix2 r k)) ⟨7, by omega⟩) (sinks x4 ⟨7, by omega⟩) k :=
  (soft37 _ _ _ r k).trans (congrArg₂ (fun s a => share s a k) (funext fun k => congrArg (masked _) (dots37 i x0 x1 x2 x3 x4 r k)) (sink7 i x0 x1 x2 x3 x4))

end Cert.Kernel17Ideal.WindowFwd

end
-- ==== Proof.WindowFwdHeads.lean ====
module

public import proofs.«01_k».proof.Proof.WindowFwdShares
public import Idealize.ShloMosaic.Lib.Pipeline.ValueKit
public import Idealize.ShloMosaic.Lib.Pointwise

/-! The sliding-window attention: the weighed values of every head of a block. -/

@[expose] public section

set_option maxRecDepth 16384

noncomputable section

open Idealize.ShloMosaic Idealize.ShloMosaic.TcCoe Idealize.SL.Sem
open Idealize.ShloMosaic.Pipeline (Dat)

namespace Cert.Kernel17Ideal.WindowFwd

open Cert.Kernel17Ideal Cert.Kernel17Ideal.Gen
open Cert.Window

variable (i : grid0.Coords) (x0 : Vec Ideal S512x512 .bf16) (x1 : Vec Ideal S512x256 .bf16) (x2 : Vec Ideal S512x512 .bf16) (x3 : Vec Ideal S128x256 .bf16) (x4 : Vec Ideal S1x128 .f32)

/-- The values, weighed. -/
theorem weighed125 (v : FVec Ideal S512x128 .f32) (w : FVec Ideal S512x256 .f32) (m : Fin 512) (c : Fin 128) :
    k0_pay125 v w (ix2 m c) = ∑ k : Fin 256, w (ix2 m k) * v (ix2 ⟨256 + k.val, by omega⟩ c) := by
  pointwise [k0_pay125]

/-- The values, weighed. -/
theorem weighed129 (v : FVec Ideal S512x128 .f32) (w : FVec Ideal S512x256 .f32) (m : Fin 512) (c : Fin 128) :
    k0_pay129 v w (ix2 m c) = ∑ k : Fin 256, w (ix2 m k) * v (ix2 ⟨256 + k.val, by omega⟩ c) := by
  pointwise [k0_pay129]

/-- The values, weighed. -/
theorem weighed130 (v : FVec Ideal S512x128 .f32) (w : FVec Ideal S512x256 .f32) (m : Fin 512) (c : Fin 128) :
    k0_pay130 v w (ix2 m c) = ∑ k : Fin 256, w (ix2 m k) * v (ix2 ⟨256 + k.val, by omega⟩ c) := by
  pointwise [k0_pay130]

/-- The values, weighed. -/
theorem weighed131 (v : FVec Ideal S512x128 .f32) (w : FVec Ideal S512x256 .f32) (m : Fin 512) (c : Fin 128) :
    k0_pay131 v w (ix2 m c) = ∑ k : Fin 256, w (ix2 m k) * v (ix2 ⟨256 + k.val, by omega⟩ c) := by
  pointwise [k0_pay131]

/-- The values, weighed. -/
theorem weighed132 (v : FVec Ideal S512x128 .f32) (w : FVec Ideal S512x256 .f32) (m : Fin 512) (c : Fin 128) :
    k0_pay132 v w (ix2 m c) = ∑ k : Fin 256, w (ix2 m k) * v (ix2 ⟨256 + k.val, by omega⟩ c) := by
  pointwise [k0_pay132]

/-- The values, weighed. -/
theorem weighed133 (v : FVec Ideal S512x128 .f32) (w : FVec Ideal S512x256 .f32) (m : Fin 512) (c : Fin 128) :
    k0_pay133 v w (ix2 m c) = ∑ k : Fin 256, w (ix2 m k) * v (ix2 ⟨256 + k.val, by omega⟩ c) := by
  pointwise [k0_pay133]

/-- The values, weighed. -/
theorem weighed134 (v : FVec Ideal S512x128 .f32) (w : FVec Ideal S512x256 .f32) (m : Fin 512) (c : Fin 128) :
    k0_pay134 v w (ix2 m c) = ∑ k : Fin 256, w (ix2 m k) * v (ix2 ⟨256 + k.val, by omega⟩ c) := by
  pointwise [k0_pay134]

/-- The values, weighed. -/
theorem weighed128 (v : FVec Ideal S512x128 .f32) (w : FVec Ideal S512x256 .f32) (m : Fin 512) (c : Fin 128) :
    k0_pay128 (k0_pay126 v) (k0_pay127 w) (ix2 m c) = ∑ k : Fin 256, w (ix2 m k) * v (ix2 ⟨256 + k.val, by omega⟩ c) := by
  pointwise [k0_pay128, k0_pay126, k0_pay127]

/-- The values of block 0, weighed by the four heads that read key head 0. -/
def sums00 (i : grid0.Coords) (x0 : Vec Ideal S512x512 .bf16) (x1 : Vec Ideal S512x256 .bf16) (x2 : Vec Ideal S512x512 .bf16) (x3 : Vec Ideal S128x256 .bf16) (x4 : Vec Ideal S1x128 .f32) : FVec Ideal S512x128 .f32 :=
  k0_pay125 (k0_pay156 i x0 x1 x2 x3 x4) (shares00 i x0 x1 x2 x3 x4)

/-- The attention of head 0 of block 0. -/
theorem head00 (r c : Fin 128) :
    sums00 i x0 x1 x2 x3 x4 (ix2 ⟨r.val, by omega⟩ c)
      = ∑ k, share (scores (query 0 (by omega) x0 r) (rows 0 (by omega) x1 x3) (fun k => k0_pay151 (F := Ideal) i x0 x1 x2 x3 x4 (ix2 r k)) ⟨0, by omega⟩) (sinks x4 ⟨0, by omega⟩) k * rows 0 (by omega) x1 x3 k ⟨128 + (0 * 64 + c.val % 64), by omega⟩ :=
  (weighed125 _ _ _ _).trans (@Finset.sum_congr _ EReal _ _ _ _ _ rfl fun k _ =>
    congrArg₂ (· * ·) (prob00 i x0 x1 x2 x3 x4 r k) (values00 i x0 x1 x2 x3 x4 k c))

/-- The attention of head 1 of block 0. -/
theorem head01 (r c : Fin 128) :
    sums00 i x0 x1 x2 x3 x4 (ix2 ⟨128 + r.val, by omega⟩ c)
      = ∑ k, share (scores (query 0 (by omega) x0 r) (rows 0 (by omega) x1 x3) (fun k => k0_pay151 (F := Ideal) i x0 x1 x2 x3 x4 (ix2 r k)) ⟨1, by omega⟩) (sinks x4 ⟨1, by omega⟩) k * rows 0 (by omega) x1 x3 k ⟨128 + (0 * 64 + c.val % 64), by omega⟩ :=
  (weighed125 _ _ _ _).trans (@Finset.sum_congr _ EReal _ _ _ _ _ rfl fun k _ =>
    congrArg₂ (· * ·) (prob01 i x0 x1 x2 x3 x4 r k) (values00 i x0 x1 x2 x3 x4 k c))

/-- The attention of head 2 of block 0. -/
theorem head02 (r c : Fin 128) :
    sums00 i x0 x1 x2 x3 x4 (ix2 ⟨256 + r.val, by omega⟩ c)
      = ∑ k, share (scores (query 0 (by omega) x0 r) (rows 0 (by omega) x1 x3) (fun k => k0_pay151 (F := Ideal) i x0 x1 x2 x3 x4 (ix2 r k)) ⟨2, by omega⟩) (sinks x4 ⟨2, by omega⟩) k * rows 0 (by omega) x1 x3 k ⟨128 + (0 * 64 + c.val % 64), by omega⟩ :=
  (weighed125 _ _ _ _).trans (@Finset.sum_congr _ EReal _ _ _ _ _ rfl fun k _ =>
    congrArg₂ (· * ·) (prob02 i x0 x1 x2 x3 x4 r k) (values00 i x0 x1 x2 x3 x4 k c))

/-- The attention of head 3 of block 0. -/
theorem head03 (r c : Fin 128) :
    sums00 i x0 x1 x2 x3 x4 (ix2 ⟨384 + r.val, by omega⟩ c)
      = ∑ k, share (scores (query 0 (by omega) x0 r) (rows 0 (by omega) x1 x3) (fun k => k0_pay151 (F := Ideal) i x0 x1 x2 x3 x4 (ix2 r k)) ⟨3, by omega⟩) (sinks x4 ⟨3, by omega⟩) k * rows 0 (by omega) x1 x3 k ⟨128 + (0 * 64 + c.val % 64), by omega⟩ :=
  (weighed125 _ _ _ _).trans (@Finset.sum_congr _ EReal _ _ _ _ _ rfl fun k _ =>
    congrArg₂ (· * ·) (prob03 i x0 x1 x2 x3 x4 r k) (values00 i x0 x1 x2 x3 x4 k c))

/-- The values of block 0, weighed by the four heads that read key head 1. -/
def sums01 (i : grid0.Coords) (x0 : Vec Ideal S512x512 .bf16) (x1 : Vec Ideal S512x256 .bf16) (x2 : Vec Ideal S512x512 .bf16) (x3 : Vec Ideal S128x256 .bf16) (x4 : Vec Ideal S1x128 .f32) : FVec Ideal S512x128 .f32 :=
  k0_pay128 (k0_pay126 (k0_pay157 i x0 x1 x2 x3 x4)) (k0_pay127 (shares01 i x0 x1 x2 x3 x4))

/-- The attention of head 4 of block 0. -/
theorem head04 (r c : Fin 128) :
    sums01 i x0 x1 x2 x3 x4 (ix2 ⟨r.val, by omega⟩ c)
      = ∑ k, share (scores (query 0 (by omega) x0 r) (rows 0 (by omega) x1 x3) (fun k => k0_pay151 (F := Ideal) i x0 x1 x2 x3 x4 (ix2 r k)) ⟨4, by omega⟩) (sinks x4 ⟨4, by omega⟩) k * rows 0 (by omega) x1 x3 k ⟨128 + (1 * 64 + c.val % 64), by omega⟩ :=
  (weighed128 _ _ _ _).trans (@Finset.sum_congr _ EReal _ _ _ _ _ rfl fun k _ =>
    congrArg₂ (· * ·) (prob04 i x0 x1 x2 x3 x4 r k) (values01 i x0 x1 x2 x3 x4 k c))

/-- The attention of head 5 of block 0. -/
theorem head05 (r c : Fin 128) :
    sums01 i x0 x1 x2 x3 x4 (ix2 ⟨128 + r.val, by omega⟩ c)
      = ∑ k, share (scores (query 0 (by omega) x0 r) (rows 0 (by omega) x1 x3) (fun k => k0_pay151 (F := Ideal) i x0 x1 x2 x3 x4 (ix2 r k)) ⟨5, by omega⟩) (sinks x4 ⟨5, by omega⟩) k * rows 0 (by omega) x1 x3 k ⟨128 + (1 * 64 + c.val % 64), by omega⟩ :=
  (weighed128 _ _ _ _).trans (@Finset.sum_congr _ EReal _ _ _ _ _ rfl fun k _ =>
    congrArg₂ (· * ·) (prob05 i x0 x1 x2 x3 x4 r k) (values01 i x0 x1 x2 x3 x4 k c))

/-- The attention of head 6 of block 0. -/
theorem head06 (r c : Fin 128) :
    sums01 i x0 x1 x2 x3 x4 (ix2 ⟨256 + r.val, by omega⟩ c)
      = ∑ k, share (scores (query 0 (by omega) x0 r) (rows 0 (by omega) x1 x3) (fun k => k0_pay151 (F := Ideal) i x0 x1 x2 x3 x4 (ix2 r k)) ⟨6, by omega⟩) (sinks x4 ⟨6, by omega⟩) k * rows 0 (by omega) x1 x3 k ⟨128 + (1 * 64 + c.val % 64), by omega⟩ :=
  (weighed128 _ _ _ _).trans (@Finset.sum_congr _ EReal _ _ _ _ _ rfl fun k _ =>
    congrArg₂ (· * ·) (prob06 i x0 x1 x2 x3 x4 r k) (values01 i x0 x1 x2 x3 x4 k c))

/-- The attention of head 7 of block 0. -/
theorem head07 (r c : Fin 128) :
    sums01 i x0 x1 x2 x3 x4 (ix2 ⟨384 + r.val, by omega⟩ c)
      = ∑ k, share (scores (query 0 (by omega) x0 r) (rows 0 (by omega) x1 x3) (fun k => k0_pay151 (F := Ideal) i x0 x1 x2 x3 x4 (ix2 r k)) ⟨7, by omega⟩) (sinks x4 ⟨7, by omega⟩) k * rows 0 (by omega) x1 x3 k ⟨128 + (1 * 64 + c.val % 64), by omega⟩ :=
  (weighed128 _ _ _ _).trans (@Finset.sum_congr _ EReal _ _ _ _ _ rfl fun k _ =>
    congrArg₂ (· * ·) (prob07 i x0 x1 x2 x3 x4 r k) (values01 i x0 x1 x2 x3 x4 k c))

/-- The values of block 1, weighed by the four heads that read key head 0. -/
def sums10 (i : grid0.Coords) (x0 : Vec Ideal S512x512 .bf16) (x1 : Vec Ideal S512x256 .bf16) (x2 : Vec Ideal S512x512 .bf16) (x3 : Vec Ideal S128x256 .bf16) (x4 : Vec Ideal S1x128 .f32) : FVec Ideal S512x128 .f32 :=
  k0_pay129 (k0_pay158 i x0 x1 x2 x3 x4) (shares10 i x0 x1 x2 x3 x4)

/-- The attention of head 0 of block 1. -/
theorem head10 (r c : Fin 128) :
    sums10 i x0 x1 x2 x3 x4 (ix2 ⟨r.val, by omega⟩ c)
      = ∑ k, share (scores (query 1 (by omega) x0 r) (rows 1 (by omega) x1 x3) (fun k => k0_pay150 (F := Ideal) i x0 x1 x2 x3 x4 (ix2 r k)) ⟨0, by omega⟩) (sinks x4 ⟨0, by omega⟩) k * rows 1 (by omega) x1 x3 k ⟨128 + (0 * 64 + c.val % 64), by omega⟩ :=
  (weighed129 _ _ _ _).trans (@Finset.sum_congr _ EReal _ _ _ _ _ rfl fun k _ =>
    congrArg₂ (· * ·) (prob10 i x0 x1 x2 x3 x4 r k) (values10 i x0 x1 x2 x3 x4 k c))

/-- The attention of head 1 of block 1. -/
theorem head11 (r c : Fin 128) :
    sums10 i x0 x1 x2 x3 x4 (ix2 ⟨128 + r.val, by omega⟩ c)
      = ∑ k, share (scores (query 1 (by omega) x0 r) (rows 1 (by omega) x1 x3) (fun k => k0_pay150 (F := Ideal) i x0 x1 x2 x3 x4 (ix2 r k)) ⟨1, by omega⟩) (sinks x4 ⟨1, by omega⟩) k * rows 1 (by omega) x1 x3 k ⟨128 + (0 * 64 + c.val % 64), by omega⟩ :=
  (weighed129 _ _ _ _).trans (@Finset.sum_congr _ EReal _ _ _ _ _ rfl fun k _ =>
    congrArg₂ (· * ·) (prob11 i x0 x1 x2 x3 x4 r k) (values10 i x0 x1 x2 x3 x4 k c))

/-- The attention of head 2 of block 1. -/
theorem head12 (r c : Fin 128) :
    sums10 i x0 x1 x2 x3 x4 (ix2 ⟨256 + r.val, by omega⟩ c)
      = ∑ k, share (scores (query 1 (by omega) x0 r) (rows 1 (by omega) x1 x3) (fun k => k0_pay150 (F := Ideal) i x0 x1 x2 x3 x4 (ix2 r k)) ⟨2, by omega⟩) (sinks x4 ⟨2, by omega⟩) k * rows 1 (by omega) x1 x3 k ⟨128 + (0 * 64 + c.val % 64), by omega⟩ :=
  (weighed129 _ _ _ _).trans (@Finset.sum_congr _ EReal _ _ _ _ _ rfl fun k _ =>
    congrArg₂ (· * ·) (prob12 i x0 x1 x2 x3 x4 r k) (values10 i x0 x1 x2 x3 x4 k c))

/-- The attention of head 3 of block 1. -/
theorem head13 (r c : Fin 128) :
    sums10 i x0 x1 x2 x3 x4 (ix2 ⟨384 + r.val, by omega⟩ c)
      = ∑ k, share (scores (query 1 (by omega) x0 r) (rows 1 (by omega) x1 x3) (fun k => k0_pay150 (F := Ideal) i x0 x1 x2 x3 x4 (ix2 r k)) ⟨3, by omega⟩) (sinks x4 ⟨3, by omega⟩) k * rows 1 (by omega) x1 x3 k ⟨128 + (0 * 64 + c.val % 64), by omega⟩ :=
  (weighed129 _ _ _ _).trans (@Finset.sum_congr _ EReal _ _ _ _ _ rfl fun k _ =>
    congrArg₂ (· * ·) (prob13 i x0 x1 x2 x3 x4 r k) (values10 i x0 x1 x2 x3 x4 k c))

/-- The values of block 1, weighed by the four heads that read key head 1. -/
def sums11 (i : grid0.Coords) (x0 : Vec Ideal S512x512 .bf16) (x1 : Vec Ideal S512x256 .bf16) (x2 : Vec Ideal S512x512 .bf16) (x3 : Vec Ideal S128x256 .bf16) (x4 : Vec Ideal S1x128 .f32) : FVec Ideal S512x128 .f32 :=
  k0_pay130 (k0_pay159 i x0 x1 x2 x3 x4) (shares11 i x0 x1 x2 x3 x4)

/-- The attention of head 4 of block 1. -/
theorem head14 (r c : Fin 128) :
    sums11 i x0 x1 x2 x3 x4 (ix2 ⟨r.val, by omega⟩ c)
      = ∑ k, share (scores (query 1 (by omega) x0 r) (rows 1 (by omega) x1 x3) (fun k => k0_pay150 (F := Ideal) i x0 x1 x2 x3 x4 (ix2 r k)) ⟨4, by omega⟩) (sinks x4 ⟨4, by omega⟩) k * rows 1 (by omega) x1 x3 k ⟨128 + (1 * 64 + c.val % 64), by omega⟩ :=
  (weighed130 _ _ _ _).trans (@Finset.sum_congr _ EReal _ _ _ _ _ rfl fun k _ =>
    congrArg₂ (· * ·) (prob14 i x0 x1 x2 x3 x4 r k) (values11 i x0 x1 x2 x3 x4 k c))

/-- The attention of head 5 of block 1. -/
theorem head15 (r c : Fin 128) :
    sums11 i x0 x1 x2 x3 x4 (ix2 ⟨128 + r.val, by omega⟩ c)
      = ∑ k, share (scores (query 1 (by omega) x0 r) (rows 1 (by omega) x1 x3) (fun k => k0_pay150 (F := Ideal) i x0 x1 x2 x3 x4 (ix2 r k)) ⟨5, by omega⟩) (sinks x4 ⟨5, by omega⟩) k * rows 1 (by omega) x1 x3 k ⟨128 + (1 * 64 + c.val % 64), by omega⟩ :=
  (weighed130 _ _ _ _).trans (@Finset.sum_congr _ EReal _ _ _ _ _ rfl fun k _ =>
    congrArg₂ (· * ·) (prob15 i x0 x1 x2 x3 x4 r k) (values11 i x0 x1 x2 x3 x4 k c))

/-- The attention of head 6 of block 1. -/
theorem head16 (r c : Fin 128) :
    sums11 i x0 x1 x2 x3 x4 (ix2 ⟨256 + r.val, by omega⟩ c)
      = ∑ k, share (scores (query 1 (by omega) x0 r) (rows 1 (by omega) x1 x3) (fun k => k0_pay150 (F := Ideal) i x0 x1 x2 x3 x4 (ix2 r k)) ⟨6, by omega⟩) (sinks x4 ⟨6, by omega⟩) k * rows 1 (by omega) x1 x3 k ⟨128 + (1 * 64 + c.val % 64), by omega⟩ :=
  (weighed130 _ _ _ _).trans (@Finset.sum_congr _ EReal _ _ _ _ _ rfl fun k _ =>
    congrArg₂ (· * ·) (prob16 i x0 x1 x2 x3 x4 r k) (values11 i x0 x1 x2 x3 x4 k c))

/-- The attention of head 7 of block 1. -/
theorem head17 (r c : Fin 128) :
    sums11 i x0 x1 x2 x3 x4 (ix2 ⟨384 + r.val, by omega⟩ c)
      = ∑ k, share (scores (query 1 (by omega) x0 r) (rows 1 (by omega) x1 x3) (fun k => k0_pay150 (F := Ideal) i x0 x1 x2 x3 x4 (ix2 r k)) ⟨7, by omega⟩) (sinks x4 ⟨7, by omega⟩) k * rows 1 (by omega) x1 x3 k ⟨128 + (1 * 64 + c.val % 64), by omega⟩ :=
  (weighed130 _ _ _ _).trans (@Finset.sum_congr _ EReal _ _ _ _ _ rfl fun k _ =>
    congrArg₂ (· * ·) (prob17 i x0 x1 x2 x3 x4 r k) (values11 i x0 x1 x2 x3 x4 k c))

/-- The values of block 2, weighed by the four heads that read key head 0. -/
def sums20 (i : grid0.Coords) (x0 : Vec Ideal S512x512 .bf16) (x1 : Vec Ideal S512x256 .bf16) (x2 : Vec Ideal S512x512 .bf16) (x3 : Vec Ideal S128x256 .bf16) (x4 : Vec Ideal S1x128 .f32) : FVec Ideal S512x128 .f32 :=
  k0_pay131 (k0_pay160 i x0 x1 x2 x3 x4) (shares20 i x0 x1 x2 x3 x4)

/-- The attention of head 0 of block 2. -/
theorem head20 (r c : Fin 128) :
    sums20 i x0 x1 x2 x3 x4 (ix2 ⟨r.val, by omega⟩ c)
      = ∑ k, share (scores (query 2 (by omega) x0 r) (rows 2 (by omega) x1 x3) (fun k => k0_pay150 (F := Ideal) i x0 x1 x2 x3 x4 (ix2 r k)) ⟨0, by omega⟩) (sinks x4 ⟨0, by omega⟩) k * rows 2 (by omega) x1 x3 k ⟨128 + (0 * 64 + c.val % 64), by omega⟩ :=
  (weighed131 _ _ _ _).trans (@Finset.sum_congr _ EReal _ _ _ _ _ rfl fun k _ =>
    congrArg₂ (· * ·) (prob20 i x0 x1 x2 x3 x4 r k) (values20 i x0 x1 x2 x3 x4 k c))

/-- The attention of head 1 of block 2. -/
theorem head21 (r c : Fin 128) :
    sums20 i x0 x1 x2 x3 x4 (ix2 ⟨128 + r.val, by omega⟩ c)
      = ∑ k, share (scores (query 2 (by omega) x0 r) (rows 2 (by omega) x1 x3) (fun k => k0_pay150 (F := Ideal) i x0 x1 x2 x3 x4 (ix2 r k)) ⟨1, by omega⟩) (sinks x4 ⟨1, by omega⟩) k * rows 2 (by omega) x1 x3 k ⟨128 + (0 * 64 + c.val % 64), by omega⟩ :=
  (weighed131 _ _ _ _).trans (@Finset.sum_congr _ EReal _ _ _ _ _ rfl fun k _ =>
    congrArg₂ (· * ·) (prob21 i x0 x1 x2 x3 x4 r k) (values20 i x0 x1 x2 x3 x4 k c))

/-- The attention of head 2 of block 2. -/
theorem head22 (r c : Fin 128) :
    sums20 i x0 x1 x2 x3 x4 (ix2 ⟨256 + r.val, by omega⟩ c)
      = ∑ k, share (scores (query 2 (by omega) x0 r) (rows 2 (by omega) x1 x3) (fun k => k0_pay150 (F := Ideal) i x0 x1 x2 x3 x4 (ix2 r k)) ⟨2, by omega⟩) (sinks x4 ⟨2, by omega⟩) k * rows 2 (by omega) x1 x3 k ⟨128 + (0 * 64 + c.val % 64), by omega⟩ :=
  (weighed131 _ _ _ _).trans (@Finset.sum_congr _ EReal _ _ _ _ _ rfl fun k _ =>
    congrArg₂ (· * ·) (prob22 i x0 x1 x2 x3 x4 r k) (values20 i x0 x1 x2 x3 x4 k c))

/-- The attention of head 3 of block 2. -/
theorem head23 (r c : Fin 128) :
    sums20 i x0 x1 x2 x3 x4 (ix2 ⟨384 + r.val, by omega⟩ c)
      = ∑ k, share (scores (query 2 (by omega) x0 r) (rows 2 (by omega) x1 x3) (fun k => k0_pay150 (F := Ideal) i x0 x1 x2 x3 x4 (ix2 r k)) ⟨3, by omega⟩) (sinks x4 ⟨3, by omega⟩) k * rows 2 (by omega) x1 x3 k ⟨128 + (0 * 64 + c.val % 64), by omega⟩ :=
  (weighed131 _ _ _ _).trans (@Finset.sum_congr _ EReal _ _ _ _ _ rfl fun k _ =>
    congrArg₂ (· * ·) (prob23 i x0 x1 x2 x3 x4 r k) (values20 i x0 x1 x2 x3 x4 k c))

/-- The values of block 2, weighed by the four heads that read key head 1. -/
def sums21 (i : grid0.Coords) (x0 : Vec Ideal S512x512 .bf16) (x1 : Vec Ideal S512x256 .bf16) (x2 : Vec Ideal S512x512 .bf16) (x3 : Vec Ideal S128x256 .bf16) (x4 : Vec Ideal S1x128 .f32) : FVec Ideal S512x128 .f32 :=
  k0_pay132 (k0_pay161 i x0 x1 x2 x3 x4) (shares21 i x0 x1 x2 x3 x4)

/-- The attention of head 4 of block 2. -/
theorem head24 (r c : Fin 128) :
    sums21 i x0 x1 x2 x3 x4 (ix2 ⟨r.val, by omega⟩ c)
      = ∑ k, share (scores (query 2 (by omega) x0 r) (rows 2 (by omega) x1 x3) (fun k => k0_pay150 (F := Ideal) i x0 x1 x2 x3 x4 (ix2 r k)) ⟨4, by omega⟩) (sinks x4 ⟨4, by omega⟩) k * rows 2 (by omega) x1 x3 k ⟨128 + (1 * 64 + c.val % 64), by omega⟩ :=
  (weighed132 _ _ _ _).trans (@Finset.sum_congr _ EReal _ _ _ _ _ rfl fun k _ =>
    congrArg₂ (· * ·) (prob24 i x0 x1 x2 x3 x4 r k) (values21 i x0 x1 x2 x3 x4 k c))

/-- The attention of head 5 of block 2. -/
theorem head25 (r c : Fin 128) :
    sums21 i x0 x1 x2 x3 x4 (ix2 ⟨128 + r.val, by omega⟩ c)
      = ∑ k, share (scores (query 2 (by omega) x0 r) (rows 2 (by omega) x1 x3) (fun k => k0_pay150 (F := Ideal) i x0 x1 x2 x3 x4 (ix2 r k)) ⟨5, by omega⟩) (sinks x4 ⟨5, by omega⟩) k * rows 2 (by omega) x1 x3 k ⟨128 + (1 * 64 + c.val % 64), by omega⟩ :=
  (weighed132 _ _ _ _).trans (@Finset.sum_congr _ EReal _ _ _ _ _ rfl fun k _ =>
    congrArg₂ (· * ·) (prob25 i x0 x1 x2 x3 x4 r k) (values21 i x0 x1 x2 x3 x4 k c))

/-- The attention of head 6 of block 2. -/
theorem head26 (r c : Fin 128) :
    sums21 i x0 x1 x2 x3 x4 (ix2 ⟨256 + r.val, by omega⟩ c)
      = ∑ k, share (scores (query 2 (by omega) x0 r) (rows 2 (by omega) x1 x3) (fun k => k0_pay150 (F := Ideal) i x0 x1 x2 x3 x4 (ix2 r k)) ⟨6, by omega⟩) (sinks x4 ⟨6, by omega⟩) k * rows 2 (by omega) x1 x3 k ⟨128 + (1 * 64 + c.val % 64), by omega⟩ :=
  (weighed132 _ _ _ _).trans (@Finset.sum_congr _ EReal _ _ _ _ _ rfl fun k _ =>
    congrArg₂ (· * ·) (prob26 i x0 x1 x2 x3 x4 r k) (values21 i x0 x1 x2 x3 x4 k c))

/-- The attention of head 7 of block 2. -/
theorem head27 (r c : Fin 128) :
    sums21 i x0 x1 x2 x3 x4 (ix2 ⟨384 + r.val, by omega⟩ c)
      = ∑ k, share (scores (query 2 (by omega) x0 r) (rows 2 (by omega) x1 x3) (fun k => k0_pay150 (F := Ideal) i x0 x1 x2 x3 x4 (ix2 r k)) ⟨7, by omega⟩) (sinks x4 ⟨7, by omega⟩) k * rows 2 (by omega) x1 x3 k ⟨128 + (1 * 64 + c.val % 64), by omega⟩ :=
  (weighed132 _ _ _ _).trans (@Finset.sum_congr _ EReal _ _ _ _ _ rfl fun k _ =>
    congrArg₂ (· * ·) (prob27 i x0 x1 x2 x3 x4 r k) (values21 i x0 x1 x2 x3 x4 k c))

/-- The values of block 3, weighed by the four heads that read key head 0. -/
def sums30 (i : grid0.Coords) (x0 : Vec Ideal S512x512 .bf16) (x1 : Vec Ideal S512x256 .bf16) (x2 : Vec Ideal S512x512 .bf16) (x3 : Vec Ideal S128x256 .bf16) (x4 : Vec Ideal S1x128 .f32) : FVec Ideal S512x128 .f32 :=
  k0_pay133 (k0_pay162 i x0 x1 x2 x3 x4) (shares30 i x0 x1 x2 x3 x4)

/-- The attention of head 0 of block 3. -/
theorem head30 (r c : Fin 128) :
    sums30 i x0 x1 x2 x3 x4 (ix2 ⟨r.val, by omega⟩ c)
      = ∑ k, share (scores (query 3 (by omega) x0 r) (rows 3 (by omega) x1 x3) (fun k => k0_pay150 (F := Ideal) i x0 x1 x2 x3 x4 (ix2 r k)) ⟨0, by omega⟩) (sinks x4 ⟨0, by omega⟩) k * rows 3 (by omega) x1 x3 k ⟨128 + (0 * 64 + c.val % 64), by omega⟩ :=
  (weighed133 _ _ _ _).trans (@Finset.sum_congr _ EReal _ _ _ _ _ rfl fun k _ =>
    congrArg₂ (· * ·) (prob30 i x0 x1 x2 x3 x4 r k) (values30 i x0 x1 x2 x3 x4 k c))

/-- The attention of head 1 of block 3. -/
theorem head31 (r c : Fin 128) :
    sums30 i x0 x1 x2 x3 x4 (ix2 ⟨128 + r.val, by omega⟩ c)
      = ∑ k, share (scores (query 3 (by omega) x0 r) (rows 3 (by omega) x1 x3) (fun k => k0_pay150 (F := Ideal) i x0 x1 x2 x3 x4 (ix2 r k)) ⟨1, by omega⟩) (sinks x4 ⟨1, by omega⟩) k * rows 3 (by omega) x1 x3 k ⟨128 + (0 * 64 + c.val % 64), by omega⟩ :=
  (weighed133 _ _ _ _).trans (@Finset.sum_congr _ EReal _ _ _ _ _ rfl fun k _ =>
    congrArg₂ (· * ·) (prob31 i x0 x1 x2 x3 x4 r k) (values30 i x0 x1 x2 x3 x4 k c))

/-- The attention of head 2 of block 3. -/
theorem head32 (r c : Fin 128) :
    sums30 i x0 x1 x2 x3 x4 (ix2 ⟨256 + r.val, by omega⟩ c)
      = ∑ k, share (scores (query 3 (by omega) x0 r) (rows 3 (by omega) x1 x3) (fun k => k0_pay150 (F := Ideal) i x0 x1 x2 x3 x4 (ix2 r k)) ⟨2, by omega⟩) (sinks x4 ⟨2, by omega⟩) k * rows 3 (by omega) x1 x3 k ⟨128 + (0 * 64 + c.val % 64), by omega⟩ :=
  (weighed133 _ _ _ _).trans (@Finset.sum_congr _ EReal _ _ _ _ _ rfl fun k _ =>
    congrArg₂ (· * ·) (prob32 i x0 x1 x2 x3 x4 r k) (values30 i x0 x1 x2 x3 x4 k c))

/-- The attention of head 3 of block 3. -/
theorem head33 (r c : Fin 128) :
    sums30 i x0 x1 x2 x3 x4 (ix2 ⟨384 + r.val, by omega⟩ c)
      = ∑ k, share (scores (query 3 (by omega) x0 r) (rows 3 (by omega) x1 x3) (fun k => k0_pay150 (F := Ideal) i x0 x1 x2 x3 x4 (ix2 r k)) ⟨3, by omega⟩) (sinks x4 ⟨3, by omega⟩) k * rows 3 (by omega) x1 x3 k ⟨128 + (0 * 64 + c.val % 64), by omega⟩ :=
  (weighed133 _ _ _ _).trans (@Finset.sum_congr _ EReal _ _ _ _ _ rfl fun k _ =>
    congrArg₂ (· * ·) (prob33 i x0 x1 x2 x3 x4 r k) (values30 i x0 x1 x2 x3 x4 k c))

/-- The values of block 3, weighed by the four heads that read key head 1. -/
def sums31 (i : grid0.Coords) (x0 : Vec Ideal S512x512 .bf16) (x1 : Vec Ideal S512x256 .bf16) (x2 : Vec Ideal S512x512 .bf16) (x3 : Vec Ideal S128x256 .bf16) (x4 : Vec Ideal S1x128 .f32) : FVec Ideal S512x128 .f32 :=
  k0_pay134 (k0_pay163 i x0 x1 x2 x3 x4) (shares31 i x0 x1 x2 x3 x4)

/-- The attention of head 4 of block 3. -/
theorem head34 (r c : Fin 128) :
    sums31 i x0 x1 x2 x3 x4 (ix2 ⟨r.val, by omega⟩ c)
      = ∑ k, share (scores (query 3 (by omega) x0 r) (rows 3 (by omega) x1 x3) (fun k => k0_pay150 (F := Ideal) i x0 x1 x2 x3 x4 (ix2 r k)) ⟨4, by omega⟩) (sinks x4 ⟨4, by omega⟩) k * rows 3 (by omega) x1 x3 k ⟨128 + (1 * 64 + c.val % 64), by omega⟩ :=
  (weighed134 _ _ _ _).trans (@Finset.sum_congr _ EReal _ _ _ _ _ rfl fun k _ =>
    congrArg₂ (· * ·) (prob34 i x0 x1 x2 x3 x4 r k) (values31 i x0 x1 x2 x3 x4 k c))

/-- The attention of head 5 of block 3. -/
theorem head35 (r c : Fin 128) :
    sums31 i x0 x1 x2 x3 x4 (ix2 ⟨128 + r.val, by omega⟩ c)
      = ∑ k, share (scores (query 3 (by omega) x0 r) (rows 3 (by omega) x1 x3) (fun k => k0_pay150 (F := Ideal) i x0 x1 x2 x3 x4 (ix2 r k)) ⟨5, by omega⟩) (sinks x4 ⟨5, by omega⟩) k * rows 3 (by omega) x1 x3 k ⟨128 + (1 * 64 + c.val % 64), by omega⟩ :=
  (weighed134 _ _ _ _).trans (@Finset.sum_congr _ EReal _ _ _ _ _ rfl fun k _ =>
    congrArg₂ (· * ·) (prob35 i x0 x1 x2 x3 x4 r k) (values31 i x0 x1 x2 x3 x4 k c))

/-- The attention of head 6 of block 3. -/
theorem head36 (r c : Fin 128) :
    sums31 i x0 x1 x2 x3 x4 (ix2 ⟨256 + r.val, by omega⟩ c)
      = ∑ k, share (scores (query 3 (by omega) x0 r) (rows 3 (by omega) x1 x3) (fun k => k0_pay150 (F := Ideal) i x0 x1 x2 x3 x4 (ix2 r k)) ⟨6, by omega⟩) (sinks x4 ⟨6, by omega⟩) k * rows 3 (by omega) x1 x3 k ⟨128 + (1 * 64 + c.val % 64), by omega⟩ :=
  (weighed134 _ _ _ _).trans (@Finset.sum_congr _ EReal _ _ _ _ _ rfl fun k _ =>
    congrArg₂ (· * ·) (prob36 i x0 x1 x2 x3 x4 r k) (values31 i x0 x1 x2 x3 x4 k c))

/-- The attention of head 7 of block 3. -/
theorem head37 (r c : Fin 128) :
    sums31 i x0 x1 x2 x3 x4 (ix2 ⟨384 + r.val, by omega⟩ c)
      = ∑ k, share (scores (query 3 (by omega) x0 r) (rows 3 (by omega) x1 x3) (fun k => k0_pay150 (F := Ideal) i x0 x1 x2 x3 x4 (ix2 r k)) ⟨7, by omega⟩) (sinks x4 ⟨7, by omega⟩) k * rows 3 (by omega) x1 x3 k ⟨128 + (1 * 64 + c.val % 64), by omega⟩ :=
  (weighed134 _ _ _ _).trans (@Finset.sum_congr _ EReal _ _ _ _ _ rfl fun k _ =>
    congrArg₂ (· * ·) (prob37 i x0 x1 x2 x3 x4 r k) (values31 i x0 x1 x2 x3 x4 k c))

end Cert.Kernel17Ideal.WindowFwd

end
-- ==== Proof.WindowFwdPoint.lean ====
module

public import proofs.«01_k».proof.Proof.WindowFwdHeads
public import Idealize.ShloMosaic.Lib.Pipeline.ValueKit
public import Idealize.ShloMosaic.Lib.Pointwise

/-! The sliding-window attention: what a point of the grid stores. -/

@[expose] public section

set_option maxRecDepth 16384

noncomputable section

open Idealize.ShloMosaic Idealize.ShloMosaic.TcCoe Idealize.SL.Sem
open Idealize.ShloMosaic.Pipeline (Dat)

namespace Cert.Kernel17Ideal.WindowFwd

open Cert.Kernel17Ideal Cert.Kernel17Ideal.Gen
open Cert.Window

variable (i : grid0.Coords) (x0 : Vec Ideal S512x512 .bf16) (x1 : Vec Ideal S512x256 .bf16) (x2 : Vec Ideal S512x512 .bf16) (x3 : Vec Ideal S128x256 .bf16) (x4 : Vec Ideal S1x128 .f32)

theorem mix00 (v31 v35 : FVec Ideal S1x128 .f32) (A : FVec Ideal S512x128 .f32) (v : FVec Ideal S512x128 .f32) (w : FVec Ideal S512x256 .f32) (r c : Fin 128) :
    k0_pay140 (k0_pay135 v31 v35 A) (k0_pay136 v31 v35 A) (k0_pay137 v31 v35 (k0_pay126 v) (k0_pay127 w)) (k0_pay138 v31 (k0_pay126 v) (k0_pay127 w)) (k0_pay139 v35 (k0_pay126 v) (k0_pay127 w)) (ix2 r ⟨0 + c.val, by omega⟩)
      = A (ix2 ⟨r.val, by omega⟩ c) * v31 (ix2 0 c) + A (ix2 ⟨128 + r.val, by omega⟩ c) * v35 (ix2 0 c) := by
  pointwise [k0_pay140, k0_pay135, k0_pay136, k0_pay137, k0_pay138, k0_pay139]
  all_goals first | rfl | (simp only [show c.val < 128 by omega, show 0 + c.val = c.val by omega, c.isLt, zero_add, ↓reduceDIte]; try rfl)

theorem mix01 (v31 v35 : FVec Ideal S1x128 .f32) (A : FVec Ideal S512x128 .f32) (v : FVec Ideal S512x128 .f32) (w : FVec Ideal S512x256 .f32) (r c : Fin 128) :
    k0_pay140 (k0_pay135 v31 v35 A) (k0_pay136 v31 v35 A) (k0_pay137 v31 v35 (k0_pay126 v) (k0_pay127 w)) (k0_pay138 v31 (k0_pay126 v) (k0_pay127 w)) (k0_pay139 v35 (k0_pay126 v) (k0_pay127 w)) (ix2 r ⟨128 + c.val, by omega⟩)
      = A (ix2 ⟨256 + r.val, by omega⟩ c) * v31 (ix2 0 c) + A (ix2 ⟨384 + r.val, by omega⟩ c) * v35 (ix2 0 c) := by
  pointwise [k0_pay140, k0_pay135, k0_pay136, k0_pay137, k0_pay138, k0_pay139]
  all_goals first | rfl | (simp only [row1 c, c.isLt, zero_add, ↓reduceDIte]; try rfl)

theorem mix02 (v31 v35 : FVec Ideal S1x128 .f32) (A : FVec Ideal S512x128 .f32) (v : FVec Ideal S512x128 .f32) (w : FVec Ideal S512x256 .f32) (r c : Fin 128) :
    k0_pay140 (k0_pay135 v31 v35 A) (k0_pay136 v31 v35 A) (k0_pay137 v31 v35 (k0_pay126 v) (k0_pay127 w)) (k0_pay138 v31 (k0_pay126 v) (k0_pay127 w)) (k0_pay139 v35 (k0_pay126 v) (k0_pay127 w)) (ix2 r ⟨256 + c.val, by omega⟩)
      = (k0_pay128 (k0_pay126 v) (k0_pay127 w)) (ix2 ⟨r.val, by omega⟩ c) * v31 (ix2 0 c) + (k0_pay128 (k0_pay126 v) (k0_pay127 w)) (ix2 ⟨128 + r.val, by omega⟩ c) * v35 (ix2 0 c) := by
  pointwise [k0_pay140, k0_pay135, k0_pay136, k0_pay137, k0_pay138, k0_pay139]
  all_goals first | rfl | (simp only [row2 c, c.isLt, zero_add, ↓reduceDIte]; try rfl)

theorem mix03 (v31 v35 : FVec Ideal S1x128 .f32) (A : FVec Ideal S512x128 .f32) (v : FVec Ideal S512x128 .f32) (w : FVec Ideal S512x256 .f32) (r c : Fin 128) :
    k0_pay140 (k0_pay135 v31 v35 A) (k0_pay136 v31 v35 A) (k0_pay137 v31 v35 (k0_pay126 v) (k0_pay127 w)) (k0_pay138 v31 (k0_pay126 v) (k0_pay127 w)) (k0_pay139 v35 (k0_pay126 v) (k0_pay127 w)) (ix2 r ⟨384 + c.val, by omega⟩)
      = (k0_pay128 (k0_pay126 v) (k0_pay127 w)) (ix2 ⟨256 + r.val, by omega⟩ c) * v31 (ix2 0 c) + (k0_pay128 (k0_pay126 v) (k0_pay127 w)) (ix2 ⟨384 + r.val, by omega⟩ c) * v35 (ix2 0 c) := by
  pointwise [k0_pay140, k0_pay135, k0_pay136, k0_pay137, k0_pay138, k0_pay139]
  all_goals first | rfl | (simp only [row3 c, c.isLt, zero_add, ↓reduceDIte]; try rfl)

theorem mix10 (v31 v35 : FVec Ideal S1x128 .f32) (A : FVec Ideal S512x128 .f32) (B : FVec Ideal S512x128 .f32) (r c : Fin 128) :
    k0_pay141 v31 v35 A B (ix2 r ⟨0 + c.val, by omega⟩)
      = A (ix2 ⟨r.val, by omega⟩ c) * v31 (ix2 0 c) + A (ix2 ⟨128 + r.val, by omega⟩ c) * v35 (ix2 0 c) := by
  pointwise [k0_pay141]
  all_goals first | rfl | (simp only [show c.val < 128 by omega, show 0 + c.val = c.val by omega, c.isLt, zero_add, ↓reduceDIte]; try rfl)

theorem mix11 (v31 v35 : FVec Ideal S1x128 .f32) (A : FVec Ideal S512x128 .f32) (B : FVec Ideal S512x128 .f32) (r c : Fin 128) :
    k0_pay141 v31 v35 A B (ix2 r ⟨128 + c.val, by omega⟩)
      = A (ix2 ⟨256 + r.val, by omega⟩ c) * v31 (ix2 0 c) + A (ix2 ⟨384 + r.val, by omega⟩ c) * v35 (ix2 0 c) := by
  pointwise [k0_pay141]
  all_goals first | rfl | (simp only [row1 c, c.isLt, zero_add, ↓reduceDIte]; try rfl)

theorem mix12 (v31 v35 : FVec Ideal S1x128 .f32) (A : FVec Ideal S512x128 .f32) (B : FVec Ideal S512x128 .f32) (r c : Fin 128) :
    k0_pay141 v31 v35 A B (ix2 r ⟨256 + c.val, by omega⟩)
      = (B) (ix2 ⟨r.val, by omega⟩ c) * v31 (ix2 0 c) + (B) (ix2 ⟨128 + r.val, by omega⟩ c) * v35 (ix2 0 c) := by
  pointwise [k0_pay141]
  all_goals first | rfl | (simp only [row2 c, c.isLt, zero_add, ↓reduceDIte]; try rfl)

theorem mix13 (v31 v35 : FVec Ideal S1x128 .f32) (A : FVec Ideal S512x128 .f32) (B : FVec Ideal S512x128 .f32) (r c : Fin 128) :
    k0_pay141 v31 v35 A B (ix2 r ⟨384 + c.val, by omega⟩)
      = (B) (ix2 ⟨256 + r.val, by omega⟩ c) * v31 (ix2 0 c) + (B) (ix2 ⟨384 + r.val, by omega⟩ c) * v35 (ix2 0 c) := by
  pointwise [k0_pay141]
  all_goals first | rfl | (simp only [row3 c, c.isLt, zero_add, ↓reduceDIte]; try rfl)

theorem mix20 (v31 v35 : FVec Ideal S1x128 .f32) (A : FVec Ideal S512x128 .f32) (B : FVec Ideal S512x128 .f32) (r c : Fin 128) :
    k0_pay142 v31 v35 A B (ix2 r ⟨0 + c.val, by omega⟩)
      = A (ix2 ⟨r.val, by omega⟩ c) * v31 (ix2 0 c) + A (ix2 ⟨128 + r.val, by omega⟩ c) * v35 (ix2 0 c) := by
  pointwise [k0_pay142]
  all_goals first | rfl | (simp only [show c.val < 128 by omega, show 0 + c.val = c.val by omega, c.isLt, zero_add, ↓reduceDIte]; try rfl)

theorem mix21 (v31 v35 : FVec Ideal S1x128 .f32) (A : FVec Ideal S512x128 .f32) (B : FVec Ideal S512x128 .f32) (r c : Fin 128) :
    k0_pay142 v31 v35 A B (ix2 r ⟨128 + c.val, by omega⟩)
      = A (ix2 ⟨256 + r.val, by omega⟩ c) * v31 (ix2 0 c) + A (ix2 ⟨384 + r.val, by omega⟩ c) * v35 (ix2 0 c) := by
  pointwise [k0_pay142]
  all_goals first | rfl | (simp only [row1 c, c.isLt, zero_add, ↓reduceDIte]; try rfl)

theorem mix22 (v31 v35 : FVec Ideal S1x128 .f32) (A : FVec Ideal S512x128 .f32) (B : FVec Ideal S512x128 .f32) (r c : Fin 128) :
    k0_pay142 v31 v35 A B (ix2 r ⟨256 + c.val, by omega⟩)
      = (B) (ix2 ⟨r.val, by omega⟩ c) * v31 (ix2 0 c) + (B) (ix2 ⟨128 + r.val, by omega⟩ c) * v35 (ix2 0 c) := by
  pointwise [k0_pay142]
  all_goals first | rfl | (simp only [row2 c, c.isLt, zero_add, ↓reduceDIte]; try rfl)

theorem mix23 (v31 v35 : FVec Ideal S1x128 .f32) (A : FVec Ideal S512x128 .f32) (B : FVec Ideal S512x128 .f32) (r c : Fin 128) :
    k0_pay142 v31 v35 A B (ix2 r ⟨384 + c.val, by omega⟩)
      = (B) (ix2 ⟨256 + r.val, by omega⟩ c) * v31 (ix2 0 c) + (B) (ix2 ⟨384 + r.val, by omega⟩ c) * v35 (ix2 0 c) := by
  pointwise [k0_pay142]
  all_goals first | rfl | (simp only [row3 c, c.isLt, zero_add, ↓reduceDIte]; try rfl)

/-- The rows of block 0. -/
theorem block0 (z : FVec Ideal S512x512 .f32) (v31 v35 : FVec Ideal S1x128 .f32) (A B : FVec Ideal S512x128 .f32) (p0 p1 p2 : FVec Ideal S128x512 .f32) (r : Fin 128) (j : Fin 512) :
    k0_pay143 z v31 v35 A B p0 p1 p2 (ix2 ⟨0 + r.val, by omega⟩ j)
      = p0 (ix2 r j) * (z (ix2 ⟨0 + r.val, by omega⟩ j) * Ideal.logistic (z (ix2 ⟨0 + r.val, by omega⟩ j))) := by
  pointwise [Ideal.logistic, k0_pay143]
  all_goals simp only [show r.val < 128 by omega, show 0 + r.val = r.val by omega, r.isLt, zero_add, ↓reduceDIte]

/-- The rows of block 1. -/
theorem block1 (z : FVec Ideal S512x512 .f32) (v31 v35 : FVec Ideal S1x128 .f32) (A B : FVec Ideal S512x128 .f32) (p0 p1 p2 : FVec Ideal S128x512 .f32) (r : Fin 128) (j : Fin 512) :
    k0_pay143 z v31 v35 A B p0 p1 p2 (ix2 ⟨128 + r.val, by omega⟩ j)
      = p1 (ix2 r j) * (z (ix2 ⟨128 + r.val, by omega⟩ j) * Ideal.logistic (z (ix2 ⟨128 + r.val, by omega⟩ j))) := by
  pointwise [Ideal.logistic, k0_pay143]
  all_goals simp only [row1 r, r.isLt, zero_add, ↓reduceDIte]

/-- The rows of block 2. -/
theorem block2 (z : FVec Ideal S512x512 .f32) (v31 v35 : FVec Ideal S1x128 .f32) (A B : FVec Ideal S512x128 .f32) (p0 p1 p2 : FVec Ideal S128x512 .f32) (r : Fin 128) (j : Fin 512) :
    k0_pay143 z v31 v35 A B p0 p1 p2 (ix2 ⟨256 + r.val, by omega⟩ j)
      = p2 (ix2 r j) * (z (ix2 ⟨256 + r.val, by omega⟩ j) * Ideal.logistic (z (ix2 ⟨256 + r.val, by omega⟩ j))) := by
  pointwise [Ideal.logistic, k0_pay143]
  all_goals simp only [row2 r, r.isLt, zero_add, ↓reduceDIte]

/-- The rows of block 3, slice 0 of the columns. -/
theorem block30 (z : FVec Ideal S512x512 .f32) (v31 v35 : FVec Ideal S1x128 .f32) (A B : FVec Ideal S512x128 .f32) (p0 p1 p2 : FVec Ideal S128x512 .f32) (r c : Fin 128) :
    k0_pay143 z v31 v35 A B p0 p1 p2 (ix2 ⟨384 + r.val, by omega⟩ ⟨0 + c.val, by omega⟩)
      = (A (ix2 ⟨r.val, by omega⟩ c) * v31 (ix2 0 c) + A (ix2 ⟨128 + r.val, by omega⟩ c) * v35 (ix2 0 c))
        * (z (ix2 ⟨384 + r.val, by omega⟩ ⟨0 + c.val, by omega⟩) * Ideal.logistic (z (ix2 ⟨384 + r.val, by omega⟩ ⟨0 + c.val, by omega⟩))) := by
  pointwise [Ideal.logistic, k0_pay143]
  simp only [row3 r, show c.val < 128 by omega, show 0 + c.val = c.val by omega, r.isLt, c.isLt, zero_add, ↓reduceDIte]

/-- The rows of block 3, slice 1 of the columns. -/
theorem block31 (z : FVec Ideal S512x512 .f32) (v31 v35 : FVec Ideal S1x128 .f32) (A B : FVec Ideal S512x128 .f32) (p0 p1 p2 : FVec Ideal S128x512 .f32) (r c : Fin 128) :
    k0_pay143 z v31 v35 A B p0 p1 p2 (ix2 ⟨384 + r.val, by omega⟩ ⟨128 + c.val, by omega⟩)
      = (A (ix2 ⟨256 + r.val, by omega⟩ c) * v31 (ix2 0 c) + A (ix2 ⟨384 + r.val, by omega⟩ c) * v35 (ix2 0 c))
        * (z (ix2 ⟨384 + r.val, by omega⟩ ⟨128 + c.val, by omega⟩) * Ideal.logistic (z (ix2 ⟨384 + r.val, by omega⟩ ⟨128 + c.val, by omega⟩))) := by
  pointwise [Ideal.logistic, k0_pay143]
  simp only [row3 r, row1 c, r.isLt, c.isLt, zero_add, ↓reduceDIte]

/-- The rows of block 3, slice 2 of the columns. -/
theorem block32 (z : FVec Ideal S512x512 .f32) (v31 v35 : FVec Ideal S1x128 .f32) (A B : FVec Ideal S512x128 .f32) (p0 p1 p2 : FVec Ideal S128x512 .f32) (r c : Fin 128) :
    k0_pay143 z v31 v35 A B p0 p1 p2 (ix2 ⟨384 + r.val, by omega⟩ ⟨256 + c.val, by omega⟩)
      = (B (ix2 ⟨r.val, by omega⟩ c) * v31 (ix2 0 c) + B (ix2 ⟨128 + r.val, by omega⟩ c) * v35 (ix2 0 c))
        * (z (ix2 ⟨384 + r.val, by omega⟩ ⟨256 + c.val, by omega⟩) * Ideal.logistic (z (ix2 ⟨384 + r.val, by omega⟩ ⟨256 + c.val, by omega⟩))) := by
  pointwise [Ideal.logistic, k0_pay143]
  simp only [row3 r, row2 c, r.isLt, c.isLt, zero_add, ↓reduceDIte]

/-- The rows of block 3, slice 3 of the columns. -/
theorem block33 (z : FVec Ideal S512x512 .f32) (v31 v35 : FVec Ideal S1x128 .f32) (A B : FVec Ideal S512x128 .f32) (p0 p1 p2 : FVec Ideal S128x512 .f32) (r c : Fin 128) :
    k0_pay143 z v31 v35 A B p0 p1 p2 (ix2 ⟨384 + r.val, by omega⟩ ⟨384 + c.val, by omega⟩)
      = (B (ix2 ⟨256 + r.val, by omega⟩ c) * v31 (ix2 0 c) + B (ix2 ⟨384 + r.val, by omega⟩ c) * v35 (ix2 0 c))
        * (z (ix2 ⟨384 + r.val, by omega⟩ ⟨384 + c.val, by omega⟩) * Ideal.logistic (z (ix2 ⟨384 + r.val, by omega⟩ ⟨384 + c.val, by omega⟩))) := by
  pointwise [Ideal.logistic, k0_pay143]
  simp only [row3 r, row3 c, r.isLt, c.isLt, zero_add, ↓reduceDIte]

/-- What a point stores. -/
def written (i : grid0.Coords) (x0 : Vec Ideal S512x512 .bf16) (x1 : Vec Ideal S512x256 .bf16) (x2 : Vec Ideal S512x512 .bf16) (x3 : Vec Ideal S128x256 .bf16) (x4 : Vec Ideal S1x128 .f32) : FVec Ideal S512x512 .bf16 :=
  k0_pay143 (k0_pay3 (View.ld x2 r0_0)) (k0_pay152 i x0 x1 x2 x3 x4) (k0_pay153 i x0 x1 x2 x3 x4) (sums30 i x0 x1 x2 x3 x4) (sums31 i x0 x1 x2 x3 x4)
    (k0_pay140 (k0_pay135 (k0_pay152 i x0 x1 x2 x3 x4) (k0_pay153 i x0 x1 x2 x3 x4) (sums00 i x0 x1 x2 x3 x4)) (k0_pay136 (k0_pay152 i x0 x1 x2 x3 x4) (k0_pay153 i x0 x1 x2 x3 x4) (sums00 i x0 x1 x2 x3 x4))
      (k0_pay137 (k0_pay152 i x0 x1 x2 x3 x4) (k0_pay153 i x0 x1 x2 x3 x4) (k0_pay126 (k0_pay157 i x0 x1 x2 x3 x4)) (k0_pay127 (shares01 i x0 x1 x2 x3 x4))) (k0_pay138 (k0_pay152 i x0 x1 x2 x3 x4) (k0_pay126 (k0_pay157 i x0 x1 x2 x3 x4)) (k0_pay127 (shares01 i x0 x1 x2 x3 x4)))
      (k0_pay139 (k0_pay153 i x0 x1 x2 x3 x4) (k0_pay126 (k0_pay157 i x0 x1 x2 x3 x4)) (k0_pay127 (shares01 i x0 x1 x2 x3 x4))))
    (k0_pay141 (k0_pay152 i x0 x1 x2 x3 x4) (k0_pay153 i x0 x1 x2 x3 x4) (sums10 i x0 x1 x2 x3 x4) (sums11 i x0 x1 x2 x3 x4))
    (k0_pay142 (k0_pay152 i x0 x1 x2 x3 x4) (k0_pay153 i x0 x1 x2 x3 x4) (sums20 i x0 x1 x2 x3 x4) (sums21 i x0 x1 x2 x3 x4))

/-- One on the first half of the lanes. -/
theorem lane_left (c : Fin 128) : k0_pay152 (F := Ideal) i x0 x1 x2 x3 x4 (ix2 0 c) = (if c.val < 64 then 1 else 0 : EReal) := by
  pointwise [k0_pay152, k0_pay8]
  exact left_lane c

/-- One on the second half of the lanes. -/
theorem lane_right (c : Fin 128) : k0_pay153 (F := Ideal) i x0 x1 x2 x3 x4 (ix2 0 c) = (if c.val < 64 then 0 else 1 : EReal) := by
  pointwise [k0_pay153, k0_pay9]
  exact right_lane c

/-- The two heads of a slice, each on its half of the lanes. -/
theorem pair (c : Fin 128) {A B u v : EReal} (hA : A = u) (hB : B = v) :
    A * k0_pay152 (F := Ideal) i x0 x1 x2 x3 x4 (ix2 0 c) + B * k0_pay153 (F := Ideal) i x0 x1 x2 x3 x4 (ix2 0 c) = if c.val < 64 then u else v := by
  rw [hA, hB, lane_left, lane_right]
  exact halves c u v

/-- The gate's input, read. -/
theorem gate_read (x2 : Vec Ideal S512x512 .bf16) (r j : Fin 512) : k0_pay3 (F := Ideal) (View.ld x2 r0_0) (ix2 r j) = x2 (ix2 r j) := by
  pointwise [k0_pay3]

/-- Slice 0 of the columns of block 0 of what a point stores. -/
theorem stored00 (r c : Fin 128) :
    written i x0 x1 x2 x3 x4 (ix2 ⟨0 + r.val, by omega⟩ ⟨0 + c.val, by omega⟩)
      = attn (query 0 (by omega) x0 r) (rows 0 (by omega) x1 x3) (fun k => k0_pay151 (F := Ideal) i x0 x1 x2 x3 x4 (ix2 r k)) (sinks x4) ⟨0 + c.val, by omega⟩
        * (x2 (ix2 ⟨0 + r.val, by omega⟩ ⟨0 + c.val, by omega⟩) * Ideal.logistic (x2 (ix2 ⟨0 + r.val, by omega⟩ ⟨0 + c.val, by omega⟩))) := by
  refine ((block0 _ _ _ _ _ _ _ _ r _).trans (congrArg (· * _) (mix00 _ _ _ _ _ r c))).trans ?_
  refine congrArg₂ (· * ·) ?_ (by rw [gate_read])
  refine (pair i x0 x1 x2 x3 x4 c (head00 i x0 x1 x2 x3 x4 r c) (head01 i x0 x1 x2 x3 x4 r c)).trans ?_
  split <;> exact (attn_at _ _ _ _ _ _ _ (by dsimp only; omega) (by dsimp only; omega)).symm

/-- Slice 1 of the columns of block 0 of what a point stores. -/
theorem stored01 (r c : Fin 128) :
    written i x0 x1 x2 x3 x4 (ix2 ⟨0 + r.val, by omega⟩ ⟨128 + c.val, by omega⟩)
      = attn (query 0 (by omega) x0 r) (rows 0 (by omega) x1 x3) (fun k => k0_pay151 (F := Ideal) i x0 x1 x2 x3 x4 (ix2 r k)) (sinks x4) ⟨128 + c.val, by omega⟩
        * (x2 (ix2 ⟨0 + r.val, by omega⟩ ⟨128 + c.val, by omega⟩) * Ideal.logistic (x2 (ix2 ⟨0 + r.val, by omega⟩ ⟨128 + c.val, by omega⟩))) := by
  refine ((block0 _ _ _ _ _ _ _ _ r _).trans (congrArg (· * _) (mix01 _ _ _ _ _ r c))).trans ?_
  refine congrArg₂ (· * ·) ?_ (by rw [gate_read])
  refine (pair i x0 x1 x2 x3 x4 c (head02 i x0 x1 x2 x3 x4 r c) (head03 i x0 x1 x2 x3 x4 r c)).trans ?_
  split <;> exact (attn_at _ _ _ _ _ _ _ (by dsimp only; omega) (by dsimp only; omega)).symm

/-- Slice 2 of the columns of block 0 of what a point stores. -/
theorem stored02 (r c : Fin 128) :
    written i x0 x1 x2 x3 x4 (ix2 ⟨0 + r.val, by omega⟩ ⟨256 + c.val, by omega⟩)
      = attn (query 0 (by omega) x0 r) (rows 0 (by omega) x1 x3) (fun k => k0_pay151 (F := Ideal) i x0 x1 x2 x3 x4 (ix2 r k)) (sinks x4) ⟨256 + c.val, by omega⟩
        * (x2 (ix2 ⟨0 + r.val, by omega⟩ ⟨256 + c.val, by omega⟩) * Ideal.logistic (x2 (ix2 ⟨0 + r.val, by omega⟩ ⟨256 + c.val, by omega⟩))) := by
  refine ((block0 _ _ _ _ _ _ _ _ r _).trans (congrArg (· * _) (mix02 _ _ _ _ _ r c))).trans ?_
  refine congrArg₂ (· * ·) ?_ (by rw [gate_read])
  refine (pair i x0 x1 x2 x3 x4 c (head04 i x0 x1 x2 x3 x4 r c) (head05 i x0 x1 x2 x3 x4 r c)).trans ?_
  split <;> exact (attn_at _ _ _ _ _ _ _ (by dsimp only; omega) (by dsimp only; omega)).symm

/-- Slice 3 of the columns of block 0 of what a point stores. -/
theorem stored03 (r c : Fin 128) :
    written i x0 x1 x2 x3 x4 (ix2 ⟨0 + r.val, by omega⟩ ⟨384 + c.val, by omega⟩)
      = attn (query 0 (by omega) x0 r) (rows 0 (by omega) x1 x3) (fun k => k0_pay151 (F := Ideal) i x0 x1 x2 x3 x4 (ix2 r k)) (sinks x4) ⟨384 + c.val, by omega⟩
        * (x2 (ix2 ⟨0 + r.val, by omega⟩ ⟨384 + c.val, by omega⟩) * Ideal.logistic (x2 (ix2 ⟨0 + r.val, by omega⟩ ⟨384 + c.val, by omega⟩))) := by
  refine ((block0 _ _ _ _ _ _ _ _ r _).trans (congrArg (· * _) (mix03 _ _ _ _ _ r c))).trans ?_
  refine congrArg₂ (· * ·) ?_ (by rw [gate_read])
  refine (pair i x0 x1 x2 x3 x4 c (head06 i x0 x1 x2 x3 x4 r c) (head07 i x0 x1 x2 x3 x4 r c)).trans ?_
  split <;> exact (attn_at _ _ _ _ _ _ _ (by dsimp only; omega) (by dsimp only; omega)).symm

/-- Slice 0 of the columns of block 1 of what a point stores. -/
theorem stored10 (r c : Fin 128) :
    written i x0 x1 x2 x3 x4 (ix2 ⟨128 + r.val, by omega⟩ ⟨0 + c.val, by omega⟩)
      = attn (query 1 (by omega) x0 r) (rows 1 (by omega) x1 x3) (fun k => k0_pay150 (F := Ideal) i x0 x1 x2 x3 x4 (ix2 r k)) (sinks x4) ⟨0 + c.val, by omega⟩
        * (x2 (ix2 ⟨128 + r.val, by omega⟩ ⟨0 + c.val, by omega⟩) * Ideal.logistic (x2 (ix2 ⟨128 + r.val, by omega⟩ ⟨0 + c.val, by omega⟩))) := by
  refine ((block1 _ _ _ _ _ _ _ _ r _).trans (congrArg (· * _) (mix10 _ _ _ _ r c))).trans ?_
  refine congrArg₂ (· * ·) ?_ (by rw [gate_read])
  refine (pair i x0 x1 x2 x3 x4 c (head10 i x0 x1 x2 x3 x4 r c) (head11 i x0 x1 x2 x3 x4 r c)).trans ?_
  split <;> exact (attn_at _ _ _ _ _ _ _ (by dsimp only; omega) (by dsimp only; omega)).symm

/-- Slice 1 of the columns of block 1 of what a point stores. -/
theorem stored11 (r c : Fin 128) :
    written i x0 x1 x2 x3 x4 (ix2 ⟨128 + r.val, by omega⟩ ⟨128 + c.val, by omega⟩)
      = attn (query 1 (by omega) x0 r) (rows 1 (by omega) x1 x3) (fun k => k0_pay150 (F := Ideal) i x0 x1 x2 x3 x4 (ix2 r k)) (sinks x4) ⟨128 + c.val, by omega⟩
        * (x2 (ix2 ⟨128 + r.val, by omega⟩ ⟨128 + c.val, by omega⟩) * Ideal.logistic (x2 (ix2 ⟨128 + r.val, by omega⟩ ⟨128 + c.val, by omega⟩))) := by
  refine ((block1 _ _ _ _ _ _ _ _ r _).trans (congrArg (· * _) (mix11 _ _ _ _ r c))).trans ?_
  refine congrArg₂ (· * ·) ?_ (by rw [gate_read])
  refine (pair i x0 x1 x2 x3 x4 c (head12 i x0 x1 x2 x3 x4 r c) (head13 i x0 x1 x2 x3 x4 r c)).trans ?_
  split <;> exact (attn_at _ _ _ _ _ _ _ (by dsimp only; omega) (by dsimp only; omega)).symm

/-- Slice 2 of the columns of block 1 of what a point stores. -/
theorem stored12 (r c : Fin 128) :
    written i x0 x1 x2 x3 x4 (ix2 ⟨128 + r.val, by omega⟩ ⟨256 + c.val, by omega⟩)
      = attn (query 1 (by omega) x0 r) (rows 1 (by omega) x1 x3) (fun k => k0_pay150 (F := Ideal) i x0 x1 x2 x3 x4 (ix2 r k)) (sinks x4) ⟨256 + c.val, by omega⟩
        * (x2 (ix2 ⟨128 + r.val, by omega⟩ ⟨256 + c.val, by omega⟩) * Ideal.logistic (x2 (ix2 ⟨128 + r.val, by omega⟩ ⟨256 + c.val, by omega⟩))) := by
  refine ((block1 _ _ _ _ _ _ _ _ r _).trans (congrArg (· * _) (mix12 _ _ _ _ r c))).trans ?_
  refine congrArg₂ (· * ·) ?_ (by rw [gate_read])
  refine (pair i x0 x1 x2 x3 x4 c (head14 i x0 x1 x2 x3 x4 r c) (head15 i x0 x1 x2 x3 x4 r c)).trans ?_
  split <;> exact (attn_at _ _ _ _ _ _ _ (by dsimp only; omega) (by dsimp only; omega)).symm

/-- Slice 3 of the columns of block 1 of what a point stores. -/
theorem stored13 (r c : Fin 128) :
    written i x0 x1 x2 x3 x4 (ix2 ⟨128 + r.val, by omega⟩ ⟨384 + c.val, by omega⟩)
      = attn (query 1 (by omega) x0 r) (rows 1 (by omega) x1 x3) (fun k => k0_pay150 (F := Ideal) i x0 x1 x2 x3 x4 (ix2 r k)) (sinks x4) ⟨384 + c.val, by omega⟩
        * (x2 (ix2 ⟨128 + r.val, by omega⟩ ⟨384 + c.val, by omega⟩) * Ideal.logistic (x2 (ix2 ⟨128 + r.val, by omega⟩ ⟨384 + c.val, by omega⟩))) := by
  refine ((block1 _ _ _ _ _ _ _ _ r _).trans (congrArg (· * _) (mix13 _ _ _ _ r c))).trans ?_
  refine congrArg₂ (· * ·) ?_ (by rw [gate_read])
  refine (pair i x0 x1 x2 x3 x4 c (head16 i x0 x1 x2 x3 x4 r c) (head17 i x0 x1 x2 x3 x4 r c)).trans ?_
  split <;> exact (attn_at _ _ _ _ _ _ _ (by dsimp only; omega) (by dsimp only; omega)).symm

/-- Slice 0 of the columns of block 2 of what a point stores. -/
theorem stored20 (r c : Fin 128) :
    written i x0 x1 x2 x3 x4 (ix2 ⟨256 + r.val, by omega⟩ ⟨0 + c.val, by omega⟩)
      = attn (query 2 (by omega) x0 r) (rows 2 (by omega) x1 x3) (fun k => k0_pay150 (F := Ideal) i x0 x1 x2 x3 x4 (ix2 r k)) (sinks x4) ⟨0 + c.val, by omega⟩
        * (x2 (ix2 ⟨256 + r.val, by omega⟩ ⟨0 + c.val, by omega⟩) * Ideal.logistic (x2 (ix2 ⟨256 + r.val, by omega⟩ ⟨0 + c.val, by omega⟩))) := by
  refine ((block2 _ _ _ _ _ _ _ _ r _).trans (congrArg (· * _) (mix20 _ _ _ _ r c))).trans ?_
  refine congrArg₂ (· * ·) ?_ (by rw [gate_read])
  refine (pair i x0 x1 x2 x3 x4 c (head20 i x0 x1 x2 x3 x4 r c) (head21 i x0 x1 x2 x3 x4 r c)).trans ?_
  split <;> exact (attn_at _ _ _ _ _ _ _ (by dsimp only; omega) (by dsimp only; omega)).symm

/-- Slice 1 of the columns of block 2 of what a point stores. -/
theorem stored21 (r c : Fin 128) :
    written i x0 x1 x2 x3 x4 (ix2 ⟨256 + r.val, by omega⟩ ⟨128 + c.val, by omega⟩)
      = attn (query 2 (by omega) x0 r) (rows 2 (by omega) x1 x3) (fun k => k0_pay150 (F := Ideal) i x0 x1 x2 x3 x4 (ix2 r k)) (sinks x4) ⟨128 + c.val, by omega⟩
        * (x2 (ix2 ⟨256 + r.val, by omega⟩ ⟨128 + c.val, by omega⟩) * Ideal.logistic (x2 (ix2 ⟨256 + r.val, by omega⟩ ⟨128 + c.val, by omega⟩))) := by
  refine ((block2 _ _ _ _ _ _ _ _ r _).trans (congrArg (· * _) (mix21 _ _ _ _ r c))).trans ?_
  refine congrArg₂ (· * ·) ?_ (by rw [gate_read])
  refine (pair i x0 x1 x2 x3 x4 c (head22 i x0 x1 x2 x3 x4 r c) (head23 i x0 x1 x2 x3 x4 r c)).trans ?_
  split <;> exact (attn_at _ _ _ _ _ _ _ (by dsimp only; omega) (by dsimp only; omega)).symm

/-- Slice 2 of the columns of block 2 of what a point stores. -/
theorem stored22 (r c : Fin 128) :
    written i x0 x1 x2 x3 x4 (ix2 ⟨256 + r.val, by omega⟩ ⟨256 + c.val, by omega⟩)
      = attn (query 2 (by omega) x0 r) (rows 2 (by omega) x1 x3) (fun k => k0_pay150 (F := Ideal) i x0 x1 x2 x3 x4 (ix2 r k)) (sinks x4) ⟨256 + c.val, by omega⟩
        * (x2 (ix2 ⟨256 + r.val, by omega⟩ ⟨256 + c.val, by omega⟩) * Ideal.logistic (x2 (ix2 ⟨256 + r.val, by omega⟩ ⟨256 + c.val, by omega⟩))) := by
  refine ((block2 _ _ _ _ _ _ _ _ r _).trans (congrArg (· * _) (mix22 _ _ _ _ r c))).trans ?_
  refine congrArg₂ (· * ·) ?_ (by rw [gate_read])
  refine (pair i x0 x1 x2 x3 x4 c (head24 i x0 x1 x2 x3 x4 r c) (head25 i x0 x1 x2 x3 x4 r c)).trans ?_
  split <;> exact (attn_at _ _ _ _ _ _ _ (by dsimp only; omega) (by dsimp only; omega)).symm

/-- Slice 3 of the columns of block 2 of what a point stores. -/
theorem stored23 (r c : Fin 128) :
    written i x0 x1 x2 x3 x4 (ix2 ⟨256 + r.val, by omega⟩ ⟨384 + c.val, by omega⟩)
      = attn (query 2 (by omega) x0 r) (rows 2 (by omega) x1 x3) (fun k => k0_pay150 (F := Ideal) i x0 x1 x2 x3 x4 (ix2 r k)) (sinks x4) ⟨384 + c.val, by omega⟩
        * (x2 (ix2 ⟨256 + r.val, by omega⟩ ⟨384 + c.val, by omega⟩) * Ideal.logistic (x2 (ix2 ⟨256 + r.val, by omega⟩ ⟨384 + c.val, by omega⟩))) := by
  refine ((block2 _ _ _ _ _ _ _ _ r _).trans (congrArg (· * _) (mix23 _ _ _ _ r c))).trans ?_
  refine congrArg₂ (· * ·) ?_ (by rw [gate_read])
  refine (pair i x0 x1 x2 x3 x4 c (head26 i x0 x1 x2 x3 x4 r c) (head27 i x0 x1 x2 x3 x4 r c)).trans ?_
  split <;> exact (attn_at _ _ _ _ _ _ _ (by dsimp only; omega) (by dsimp only; omega)).symm

/-- Slice 0 of the columns of block 3 of what a point stores. -/
theorem stored30 (r c : Fin 128) :
    written i x0 x1 x2 x3 x4 (ix2 ⟨384 + r.val, by omega⟩ ⟨0 + c.val, by omega⟩)
      = attn (query 3 (by omega) x0 r) (rows 3 (by omega) x1 x3) (fun k => k0_pay150 (F := Ideal) i x0 x1 x2 x3 x4 (ix2 r k)) (sinks x4) ⟨0 + c.val, by omega⟩
        * (x2 (ix2 ⟨384 + r.val, by omega⟩ ⟨0 + c.val, by omega⟩) * Ideal.logistic (x2 (ix2 ⟨384 + r.val, by omega⟩ ⟨0 + c.val, by omega⟩))) := by
  refine ((block30 _ _ _ _ _ _ _ _ r c)).trans ?_
  refine congrArg₂ (· * ·) ?_ (by rw [gate_read])
  refine (pair i x0 x1 x2 x3 x4 c (head30 i x0 x1 x2 x3 x4 r c) (head31 i x0 x1 x2 x3 x4 r c)).trans ?_
  split <;> exact (attn_at _ _ _ _ _ _ _ (by dsimp only; omega) (by dsimp only; omega)).symm

/-- Slice 1 of the columns of block 3 of what a point stores. -/
theorem stored31 (r c : Fin 128) :
    written i x0 x1 x2 x3 x4 (ix2 ⟨384 + r.val, by omega⟩ ⟨128 + c.val, by omega⟩)
      = attn (query 3 (by omega) x0 r) (rows 3 (by omega) x1 x3) (fun k => k0_pay150 (F := Ideal) i x0 x1 x2 x3 x4 (ix2 r k)) (sinks x4) ⟨128 + c.val, by omega⟩
        * (x2 (ix2 ⟨384 + r.val, by omega⟩ ⟨128 + c.val, by omega⟩) * Ideal.logistic (x2 (ix2 ⟨384 + r.val, by omega⟩ ⟨128 + c.val, by omega⟩))) := by
  refine ((block31 _ _ _ _ _ _ _ _ r c)).trans ?_
  refine congrArg₂ (· * ·) ?_ (by rw [gate_read])
  refine (pair i x0 x1 x2 x3 x4 c (head32 i x0 x1 x2 x3 x4 r c) (head33 i x0 x1 x2 x3 x4 r c)).trans ?_
  split <;> exact (attn_at _ _ _ _ _ _ _ (by dsimp only; omega) (by dsimp only; omega)).symm

/-- Slice 2 of the columns of block 3 of what a point stores. -/
theorem stored32 (r c : Fin 128) :
    written i x0 x1 x2 x3 x4 (ix2 ⟨384 + r.val, by omega⟩ ⟨256 + c.val, by omega⟩)
      = attn (query 3 (by omega) x0 r) (rows 3 (by omega) x1 x3) (fun k => k0_pay150 (F := Ideal) i x0 x1 x2 x3 x4 (ix2 r k)) (sinks x4) ⟨256 + c.val, by omega⟩
        * (x2 (ix2 ⟨384 + r.val, by omega⟩ ⟨256 + c.val, by omega⟩) * Ideal.logistic (x2 (ix2 ⟨384 + r.val, by omega⟩ ⟨256 + c.val, by omega⟩))) := by
  refine ((block32 _ _ _ _ _ _ _ _ r c)).trans ?_
  refine congrArg₂ (· * ·) ?_ (by rw [gate_read])
  refine (pair i x0 x1 x2 x3 x4 c (head34 i x0 x1 x2 x3 x4 r c) (head35 i x0 x1 x2 x3 x4 r c)).trans ?_
  split <;> exact (attn_at _ _ _ _ _ _ _ (by dsimp only; omega) (by dsimp only; omega)).symm

/-- Slice 3 of the columns of block 3 of what a point stores. -/
theorem stored33 (r c : Fin 128) :
    written i x0 x1 x2 x3 x4 (ix2 ⟨384 + r.val, by omega⟩ ⟨384 + c.val, by omega⟩)
      = attn (query 3 (by omega) x0 r) (rows 3 (by omega) x1 x3) (fun k => k0_pay150 (F := Ideal) i x0 x1 x2 x3 x4 (ix2 r k)) (sinks x4) ⟨384 + c.val, by omega⟩
        * (x2 (ix2 ⟨384 + r.val, by omega⟩ ⟨384 + c.val, by omega⟩) * Ideal.logistic (x2 (ix2 ⟨384 + r.val, by omega⟩ ⟨384 + c.val, by omega⟩))) := by
  refine ((block33 _ _ _ _ _ _ _ _ r c)).trans ?_
  refine congrArg₂ (· * ·) ?_ (by rw [gate_read])
  refine (pair i x0 x1 x2 x3 x4 c (head36 i x0 x1 x2 x3 x4 r c) (head37 i x0 x1 x2 x3 x4 r c)).trans ?_
  split <;> exact (attn_at _ _ _ _ _ _ _ (by dsimp only; omega) (by dsimp only; omega)).symm

end Cert.Kernel17Ideal.WindowFwd

end
-- ==== Proof.WindowLanes.lean ====
module

public import Idealize.ShloMosaic.Lib.Routing.OpsOne
public import Idealize.ShloMosaic.Lib.Pipeline.ValueKit
public import Idealize.ShloMosaic.Lib.Pointwise

/-! A row of lanes whose first entries are set. -/

@[expose] public section

set_option maxRecDepth 16384

noncomputable section

open Idealize.ShloMosaic Idealize.ShloMosaic.TcCoe Idealize.SL.Sem
open Idealize.ShloMosaic.Pipeline (Dat)

namespace Cert.Window

open Idealize.ShloMosaic.Routing

/-- Where the entries written into the first lanes of a single row land. -/
theorem lands_lane {N U w : Nat} (d : ScatterDims (shape2 1 N) (shape1 2) (shape1 U)) (hi : d.insertedWindowDims = [0]) (hs : d.scatterDimsToOperandDims = [0, 1])
    (hv : d.indexVectorDim = 0) (at0 : IVec (shape1 2) w) (h0 : (at0 (ValueIdx.ix1 (0 : Fin 2))).toInt = 0) (h1 : (at0 (ValueIdx.ix1 (1 : Fin 2))).toInt = 0) (k : Fin U) (c : Fin N) :
    d.resultIdx? (ValueIdx.ix1 k) at0 = some (ValueIdx.ix2 0 c) ↔ k.val = c.val := by
  have w0 : d.window (ValueIdx.ix1 k) 0 = 0 := by
    unfold ScatterDims.window
    rw [dif_neg fun h => (of_decide_eq_true (List.mem_filter.1 h).2) (by rw [hi]; simp)]
  have w1 : d.window (ValueIdx.ix1 k) 1 = k.val := by
    have hk : d.sKept = [1] := by
      show (shape2 1 N).kept d.insertedWindowDims = _
      rw [hi]
      rfl
    unfold ScatterDims.window
    rw [dif_pos (by rw [hk]; simp)]
    exact congrArg (fun t => ((ValueIdx.ix1 k : (shape1 U).Idx) t).val) (Subsingleton.elim (α := Fin 1) _ 0)
  rw [resultIdx?_ix2, start_pair d hs hv, start_pair d hs hv, w0, w1, h0, h1]
  constructor
  · intro h; have := h.2; omega
  · intro h; exact ⟨by simp, by omega⟩

/-- A row whose first lanes are set. -/
theorem set_lanes {α : Type} {N U w : Nat} (d : ScatterDims (shape2 1 N) (shape1 2) (shape1 U)) (hi : d.insertedWindowDims = [0]) (hs : d.scatterDimsToOperandDims = [0, 1])
    (hv : d.indexVectorDim = 0) (x : (shape2 1 N).Idx → α) (at0 : IVec (shape1 2) w) (h0 : (at0 (ValueIdx.ix1 (0 : Fin 2))).toInt = 0) (h1 : (at0 (ValueIdx.ix1 (1 : Fin 2))).toInt = 0)
    (u : (shape1 U).Idx → α) (c : Fin N) :
    Host.scatter d (fun _ b => b) x at0 u (ValueIdx.ix2 0 c) = if h : c.val < U then u (ValueIdx.ix1 ⟨c.val, h⟩) else x (ValueIdx.ix2 0 c) := by
  have lands : ∀ k : (shape1 U).Idx, d.resultIdx? k at0 = some (ValueIdx.ix2 0 c) → (k 0).val = c.val := fun k hk =>
    (lands_lane d hi hs hv at0 h0 h1 (k 0) c).1 ((congrArg (fun t => d.resultIdx? t at0) (ValueIdx.eq_ix1 k).symm).trans hk)
  by_cases h : c.val < U
  · rw [dif_pos h]
    refine scatter_set_hit d x at0 u _ _ (fun k hk => ?_) (ValueIdx.ix1 ⟨c.val, h⟩) ((lands_lane d hi hs hv at0 h0 h1 ⟨c.val, h⟩ c).2 rfl)
    rw [ValueIdx.eq_ix1 k]
    exact congrArg (fun e => u (ValueIdx.ix1 e)) (Fin.ext (lands k hk))
  · rw [dif_neg h]
    refine scatter_set_miss d x at0 u _ fun k hk => h ?_
    have := lands k hk
    have : (k 0).val < U := (k 0).isLt
    omega

end Cert.Window

end
-- ==== Proof.WindowFwdValue.lean ====
module

public import proofs.«01_k».proof.Proof.WindowFwdRef
public import proofs.«01_k».proof.Proof.WindowFwdPoint
public import proofs.«01_k».proof.Proof.WindowLanes
public import proofs.«01_k».proof.Proof.Gen.Kernel17Ideal.Frame
public import Idealize.ShloMosaic.Lib.Pipeline.ValueKit
public import Idealize.ShloMosaic.Lib.Pointwise

/-! The sliding-window attention: the array after the run is the reference’s. -/

@[expose] public section

set_option maxRecDepth 16384

noncomputable section

open Idealize.ShloMosaic Idealize.ShloMosaic.TcCoe Idealize.SL.Sem
open Idealize.ShloMosaic.Pipeline (Dat)

namespace Cert.Kernel17Ideal.WindowFwdValue

open Cert.Kernel17Ideal Cert.Kernel17Ideal.Gen
open Cert.Reference17Ideal.Read
open Cert.Window
open Cert.Kernel17Ideal.WindowFwd

variable (m : (ℓ : Loc nD τ sig) → Buf (Elt Ideal) ℓ)

/-- Which block of its array each window stands at, at every point of the grid. -/
theorem idx : ∀ t : Fin cfg0.N, win0_0.index t = ![t.val, 16]
    ∧ win0_1.index t = ![t.val, 30]
    ∧ win0_2.index t = ![t.val, 17]
    ∧ win0_3.index t = ![4 * t.val - 1, 30]
    ∧ win0_4.index t = ![0, 0]
    ∧ win0_5.index t = ![t.val, 0] :=
  (by decide +kernel : ∀ t : Fin grid0.N, _)

/-- The grid has four points. -/
theorem few (t : Fin cfg0.N) : t.val < 4 := t.isLt

/-- The coordinate of a point of the grid is its number. -/
theorem coord : ∀ t : Fin cfg0.N, (grid0.coords t 0).val = t.val :=
  (by decide +kernel : ∀ t : Fin grid0.N, _)

/-- The mask of the first block of a tile. -/
theorem mask_first (t : Fin cfg0.N) (x0 : FVec Ideal S512x512 .bf16) (x1 : FVec Ideal S512x256 .bf16) (x2 : FVec Ideal S512x512 .bf16) (x3 : FVec Ideal S128x256 .bf16) (x4 : FVec Ideal S1x128 .f32) (r : Fin 128) (k : Fin 256) :
    k0_pay151 (F := Ideal) (grid0.coords t) x0 x1 x2 x3 x4 (ix2 r k) = seen ⟨4 * t.val + 0, by have := few t; omega⟩ r k := by
  pointwise [k0_pay151, k0_pay7, k0_pay6]
  rw [coord t]
  exact congrArg (IntOp.andi (near r k)) (inside_first ⟨t.val, few t⟩ k)

/-- The mask of a later block of a tile. -/
theorem mask_later (t : Fin cfg0.N) (b : ℕ) (hb : b < 4) (h : b ≠ 0) (x0 : FVec Ideal S512x512 .bf16) (x1 : FVec Ideal S512x256 .bf16) (x2 : FVec Ideal S512x512 .bf16) (x3 : FVec Ideal S128x256 .bf16) (x4 : FVec Ideal S1x128 .f32) (r : Fin 128) (k : Fin 256) :
    k0_pay150 (F := Ideal) (grid0.coords t) x0 x1 x2 x3 x4 (ix2 r k) = seen ⟨4 * t.val + b, by have := few t; omega⟩ r k := by
  rw [seen_later _ r k (by dsimp only; omega)]
  pointwise [k0_pay150, k0_pay6]
  rfl

/-- What a point stores, block by block. -/
theorem stored_at (t : Fin cfg0.N) (b : ℕ) (hb : b < 4) (u : ℕ) (hu : u < 4) (x0 : FVec Ideal S512x512 .bf16) (x1 : FVec Ideal S512x256 .bf16) (x2 : FVec Ideal S512x512 .bf16) (x3 : FVec Ideal S128x256 .bf16) (x4 : FVec Ideal S1x128 .f32) (r c : Fin 128) :
    written (grid0.coords t) x0 x1 x2 x3 x4 (ix2 ⟨b * 128 + r.val, by omega⟩ ⟨u * 128 + c.val, by omega⟩)
      = attn (query b hb x0 r) (rows b hb x1 x3) (fun k => seen ⟨4 * t.val + b, by have := few t; omega⟩ r k) (sinks x4) ⟨u * 128 + c.val, by omega⟩
        * (x2 (ix2 ⟨b * 128 + r.val, by omega⟩ ⟨u * 128 + c.val, by omega⟩) * Ideal.logistic (x2 (ix2 ⟨b * 128 + r.val, by omega⟩ ⟨u * 128 + c.val, by omega⟩))) := by
  interval_cases b <;> interval_cases u
  · exact (stored00 _ _ _ _ _ _ r c).trans (congrArg (fun s => attn _ _ s _ _ * _) (funext fun k => mask_first t x0 x1 x2 x3 x4 r k))
  · exact (stored01 _ _ _ _ _ _ r c).trans (congrArg (fun s => attn _ _ s _ _ * _) (funext fun k => mask_first t x0 x1 x2 x3 x4 r k))
  · exact (stored02 _ _ _ _ _ _ r c).trans (congrArg (fun s => attn _ _ s _ _ * _) (funext fun k => mask_first t x0 x1 x2 x3 x4 r k))
  · exact (stored03 _ _ _ _ _ _ r c).trans (congrArg (fun s => attn _ _ s _ _ * _) (funext fun k => mask_first t x0 x1 x2 x3 x4 r k))
  · exact (stored10 _ _ _ _ _ _ r c).trans (congrArg (fun s => attn _ _ s _ _ * _) (funext fun k => mask_later t 1 (by omega) (by omega) x0 x1 x2 x3 x4 r k))
  · exact (stored11 _ _ _ _ _ _ r c).trans (congrArg (fun s => attn _ _ s _ _ * _) (funext fun k => mask_later t 1 (by omega) (by omega) x0 x1 x2 x3 x4 r k))
  · exact (stored12 _ _ _ _ _ _ r c).trans (congrArg (fun s => attn _ _ s _ _ * _) (funext fun k => mask_later t 1 (by omega) (by omega) x0 x1 x2 x3 x4 r k))
  · exact (stored13 _ _ _ _ _ _ r c).trans (congrArg (fun s => attn _ _ s _ _ * _) (funext fun k => mask_later t 1 (by omega) (by omega) x0 x1 x2 x3 x4 r k))
  · exact (stored20 _ _ _ _ _ _ r c).trans (congrArg (fun s => attn _ _ s _ _ * _) (funext fun k => mask_later t 2 (by omega) (by omega) x0 x1 x2 x3 x4 r k))
  · exact (stored21 _ _ _ _ _ _ r c).trans (congrArg (fun s => attn _ _ s _ _ * _) (funext fun k => mask_later t 2 (by omega) (by omega) x0 x1 x2 x3 x4 r k))
  · exact (stored22 _ _ _ _ _ _ r c).trans (congrArg (fun s => attn _ _ s _ _ * _) (funext fun k => mask_later t 2 (by omega) (by omega) x0 x1 x2 x3 x4 r k))
  · exact (stored23 _ _ _ _ _ _ r c).trans (congrArg (fun s => attn _ _ s _ _ * _) (funext fun k => mask_later t 2 (by omega) (by omega) x0 x1 x2 x3 x4 r k))
  · exact (stored30 _ _ _ _ _ _ r c).trans (congrArg (fun s => attn _ _ s _ _ * _) (funext fun k => mask_later t 3 (by omega) (by omega) x0 x1 x2 x3 x4 r k))
  · exact (stored31 _ _ _ _ _ _ r c).trans (congrArg (fun s => attn _ _ s _ _ * _) (funext fun k => mask_later t 3 (by omega) (by omega) x0 x1 x2 x3 x4 r k))
  · exact (stored32 _ _ _ _ _ _ r c).trans (congrArg (fun s => attn _ _ s _ _ * _) (funext fun k => mask_later t 3 (by omega) (by omega) x0 x1 x2 x3 x4 r k))
  · exact (stored33 _ _ _ _ _ _ r c).trans (congrArg (fun s => attn _ _ s _ _ * _) (funext fun k => mask_later t 3 (by omega) (by omega) x0 x1 x2 x3 x4 r k))

/-- The block of queries of a point. -/
theorem read_query (c : Dev nD) (t : Fin cfg0.N) (b : ℕ) (hb : b < 4) (r : Fin 128) :
    query b hb (iblk m c 0 t) r = queryAt (m ((c : Thread nD τ).loc main_arg0)) ⟨4 * t.val + b, by have := few t; omega⟩ r := by
  have := few t
  funext j
  unfold query queryAt
  blk_point [iblk, V, idx t]

/-- The keys and values of a block of a point. -/
theorem read_rows (c : Dev nD) (t : Fin cfg0.N) (b : ℕ) (hb : b < 4) :
    rows b hb (iblk m c 1 t) (iblk m c 3 t) = rowsAt (m ((c : Thread nD τ).loc main_arg0)) ⟨4 * t.val + b, by have := few t; omega⟩ := by
  have := few t
  funext k j
  unfold rows rowsAt
  by_cases e : k.val < 128
  · rw [if_pos e, if_pos e]
    by_cases f : b = 0
    · subst f
      rw [if_pos rfl]
      by_cases g : t.val = 0
      · rw [if_pos (by dsimp only; omega)]
        blk_point [iblk, V, idx t]
      · rw [if_neg (by dsimp only; omega)]
        blk_point [iblk, V, idx t]
    · rw [if_neg f, if_neg (by dsimp only; omega)]
      blk_point [iblk, V, idx t]
  · rw [if_neg e, if_neg e]
    blk_point [iblk, V, idx t]

/-- The gate of a point. -/
theorem read_gate (c : Dev nD) (t : Fin cfg0.N) (p j : Fin 512) :
    iblk m c 2 t (ix2 p j) = (m ((c : Thread nD τ).loc main_arg0)) (ix2 ⟨t.val * 512 + p.val, by have := few t; omega⟩ ⟨8704 + j.val, by omega⟩) := by
  have := few t
  blk_point [iblk, V, idx t]

/-- The sinks. -/
theorem read_sinks (c : Dev nD) (t : Fin cfg0.N) : sinks (iblk m c 4 t) = fun h => (m ((c : Thread nD τ).loc main_arg1)) (ix1 h) := by
  funext h
  unfold sinks
  blk_simp [iblk, idx t]
  entry_read
  have e : ((View.whole main_v4).slice (win0_4.rect t)).emb (ix2 0 ⟨h.val, by omega⟩) = ix2 0 ⟨h.val, by omega⟩ := by
    blk_ext [idx t]
  rw [e]
  exact (set_lanes scatter_S1x128_S2_S8_0_0_01_0 rfl rfl rfl _ _ rfl rfl _ ⟨h.val, by omega⟩).trans (dif_pos h.isLt)

/-- A gate's value times its logistic. -/
def gate (x : EReal) : EReal := x * Ideal.logistic x

/-- What a point stores is the reference's array at the block's place. -/
theorem point (c : Dev nD) (t : Fin cfg0.N) (y) :
    written (grid0.coords t) (iblk m c 0 t) (iblk m c 1 t) (iblk m c 2 t) (iblk m c 3 t) (iblk m c 4 t) y
      = val_main_v76 (F := Ideal) (m ((c : Thread nD τ).loc main_arg0)) (m ((c : Thread nD τ).loc main_arg1)) (((cfg0.win 5).blk t).view.emb y) := by
  have h4 := few t
  have hp : (y 0).val < 512 := (y 0).isLt
  have hj : (y 1).val < 512 := (y 1).isLt
  have ey : y = ix2 ⟨(y 0).val / 128 * 128 + (y 0).val % 128, by omega⟩ ⟨(y 1).val / 128 * 128 + (y 1).val % 128, by omega⟩ := by
    refine (eq_ix2 y).trans (congrArg₂ ix2 (Fin.ext ?_) (Fin.ext ?_)) <;> dsimp only <;> omega
  have ez : ((cfg0.win 5).blk t).view.emb y = ix2 ⟨(4 * t.val + (y 0).val / 128) * 128 + (y 0).val % 128, by omega⟩ (y 1) := by
    blk_ext [idx t]
  rw [ez]
  have o := Cert.Reference17Ideal.WindowFwd.ref_out (m ((c : Thread nD τ).loc main_arg0)) (m ((c : Thread nD τ).loc main_arg1)) ⟨4 * t.val + (y 0).val / 128, by omega⟩ ⟨(y 0).val % 128, by omega⟩ (y 1)
  refine Eq.trans ?_ o.symm
  have w := stored_at t ((y 0).val / 128) (by omega) ((y 1).val / 128) (by omega) (iblk m c 0 t) (iblk m c 1 t) (iblk m c 2 t) (iblk m c 3 t) (iblk m c 4 t) ⟨(y 0).val % 128, by omega⟩ ⟨(y 1).val % 128, by omega⟩
  rw [read_query, read_rows, read_sinks, read_gate] at w
  refine (congrArg _ ey).trans (w.trans ?_)
  have ej : (⟨(y 1).val / 128 * 128 + (y 1).val % 128, by omega⟩ : Fin 512) = y 1 := Fin.ext (by dsimp only; omega)
  have eg : (⟨t.val * 512 + ((y 0).val / 128 * 128 + (y 0).val % 128), by omega⟩ : Fin 2048) = ⟨(4 * t.val + (y 0).val / 128) * 128 + (y 0).val % 128, by omega⟩ := Fin.ext (by dsimp only; omega)
  rw [ej]
  refine congrArg₂ (· * ·) rfl ?_
  exact congrArg (fun p => gate ((m ((c : Thread nD τ).loc main_arg0)) (ix2 p ⟨8704 + (y 1).val, by omega⟩))) eg

/-- A store of the whole buffer. -/
theorem whole_piece (p : Vec Ideal S512x512 .bf16) : View.canon [⟨r0_0, p⟩] = p := by
  funext y
  frame_out

/-- What a point leaves in its block. -/
theorem out_written (i : grid0.Coords) (x0 : FVec Ideal S512x512 .bf16) (x1 : FVec Ideal S512x256 .bf16) (x2 : FVec Ideal S512x512 .bf16) (x3 : FVec Ideal S128x256 .bf16) (x4 : FVec Ideal S1x128 .f32) : out0_5 (F := Ideal) i x0 x1 x2 x3 x4 = written i x0 x1 x2 x3 x4 := by
  unfold out0_5
  rw [whole_piece]
  rfl

/-- The result array after the run. -/
theorem final (c : Dev nD) : (dats m 0 c).arrAt 5 (cfgs 0).N = val_main_v76 (F := Ideal) (m ((c : Thread nD τ).loc main_arg0)) (m ((c : Thread nD τ).loc main_arg1)) := by
  refine (dats m 0 c).arrAt_eq_of_covers 5 _ (by decide +kernel) fun t hf y => ?_
  blk_simp; rw [after0_5]
  rw [out_written]
  exact point m c t y

end Cert.Kernel17Ideal.WindowFwdValue

end
-- ==== Proof.WindowClaims.lean ====
module

public import proofs.«01_k».proof.Defs
public import proofs.«01_k».proof.Proof.WindowFwdValue
public import proofs.«01_k».proof.Proof.Gen.Kernel17Ideal.Value
public import proofs.«01_k».proof.Proof.Gen.Reference17Ideal.Run
public import proofs.«01_k».proof.Proof.Gen.Reference17Ideal.Read
public import Idealize.ShloMosaic.Lib.Claim

/-! The claims of the sliding-window attention. -/

@[expose] public section

set_option maxRecDepth 16384

noncomputable section

namespace Cert.Proof.Window

open Idealize.ShloMosaic Idealize.ShloMosaic.TcCoe Idealize.SL.Sem

theorem frame_reference17 : Cert.quiescent_Reference17Ideal := by
  intro m g _
  exact (θ_run Cert.Reference17Ideal.defs _ _).mono (fun r h => ⟨fun c => (h c).2, sem_eq_zero_of_no_sems (by decide) r.2⟩)
    (Cert.Reference17Ideal.Value.run (F := Ideal) m g)

theorem algebraic17 : Cert.algebraic_Kernel17Ideal_Reference17Ideal := by
  intro m g m' g' _ hagree
  refine ⟨fun c => Cert.Reference17Ideal.Read.val_main_v76 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)), ?_, ?_⟩
  · refine (θ_run Cert.Kernel17Ideal.defs _ _).mono (fun r h c => ?_) (Cert.Kernel17Ideal.Value.run_blocks (F := Ideal) m g)
    obtain ⟨h0, ha⟩ := h c
    exact ⟨h0.trans (Cert.Kernel17Ideal.WindowFwdValue.final m c), ha⟩
  · refine (θ_run Cert.Reference17Ideal.defs _ _).mono (fun r h c => ?_) (Cert.Reference17Ideal.Value.run (F := Ideal) m' g')
    obtain ⟨h0, ha⟩ := h c
    obtain ⟨e0, e1⟩ := hagree c
    exact ⟨h0.trans ((Cert.Reference17Ideal.Read.val_main_v76_eq _ _).trans (by rw [e0, e1])), ha⟩

end Cert.Proof.Window

end
-- ==== Proof.lean ====
module

public import proofs.«01_k».proof.Defs
public import proofs.«01_k».proof.Proof.BranchClaims
public import proofs.«01_k».proof.Proof.GatingBwdClaims
public import proofs.«01_k».proof.Proof.InProjClaims
public import proofs.«01_k».proof.Proof.NormClaims
public import proofs.«01_k».proof.Proof.OptClaims
public import proofs.«01_k».proof.Proof.OutClaims
public import proofs.«01_k».proof.Proof.RestClaims
public import proofs.«01_k».proof.Proof.UpClaim
public import proofs.«01_k».proof.Proof.WindowClaims
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Reference23Ideal.Read
public import proofs.«01_k».proof.Proof.Gen.On_up_written

/-! The claims of every program, put together from the modules that prove them. -/

@[expose] public section

noncomputable section

namespace Cert.Proof

open Idealize.ShloMosaic Idealize.SL.Sem

theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.Kernel11.Gen.facts,
   Cert.Kernel11Ideal.Gen.facts,
   Cert.Reference11Ideal.Gen.facts,
   Cert.Kernel12.Gen.facts,
   Cert.Kernel12Ideal.Gen.facts,
   Cert.Reference12Ideal.Gen.facts,
   Cert.Kernel13.Gen.facts,
   Cert.Kernel13Ideal.Gen.facts,
   Cert.Reference13Ideal.Gen.facts,
   Cert.Kernel14.Gen.facts,
   Cert.Kernel14Ideal.Gen.facts,
   Cert.Reference14Ideal.Gen.facts,
   Cert.Kernel15.Gen.facts,
   Cert.Kernel15Ideal.Gen.facts,
   Cert.Reference15Ideal.Gen.facts,
   Cert.Kernel17.Gen.facts,
   Cert.Kernel17Ideal.Gen.facts,
   Cert.Reference17Ideal.Gen.facts,
   Cert.Kernel18.Gen.facts,
   Cert.Kernel18Ideal.Gen.facts,
   Cert.Reference18Ideal.Gen.facts,
   Cert.Kernel19.Gen.facts,
   Cert.Kernel19Ideal.Gen.facts,
   Cert.Reference19Ideal.Gen.facts,
   Cert.Kernel20.Gen.facts,
   Cert.Kernel20Ideal.Gen.facts,
   Cert.Reference20Ideal.Gen.facts,
   Cert.Kernel21.Gen.facts,
   Cert.Kernel21Ideal.Gen.facts,
   Cert.Reference21Ideal.Gen.facts,
   Cert.Kernel22.Gen.facts,
   Cert.Kernel22Ideal.Gen.facts,
   Cert.Reference22Ideal.Gen.facts,
   Cert.Kernel23.Gen.facts,
   Cert.Kernel23Ideal.Gen.facts,
   Cert.Reference23Ideal.Gen.facts,
   Cert.On_up_written.Gen.facts,
   fun m ρ _ => Cert.Kernel.Gen.frame m ρ,
   fun m ρ _ => Cert.KernelIdeal.Gen.frame m ρ,
   Up.frame_reference,
   fun m ρ _ => Cert.Kernel2.Gen.frame m ρ,
   fun m ρ _ => Cert.Kernel2Ideal.Gen.frame m ρ,
   InProj.frame_reference2,
   fun m ρ _ => Cert.Kernel3.Gen.frame m ρ,
   fun m ρ _ => Cert.Kernel3Ideal.Gen.frame m ρ,
   InProj.frame_reference3,
   fun m ρ _ => Cert.Kernel4.Gen.frame m ρ,
   fun m ρ _ => Cert.Kernel4Ideal.Gen.frame m ρ,
   InProj.frame_reference4,
   fun m ρ _ => Cert.Kernel5.Gen.frame m ρ,
   fun m ρ _ => Cert.Kernel5Ideal.Gen.frame m ρ,
   Out.frame_reference5,
   fun m ρ _ => Cert.Kernel6.Gen.frame m ρ,
   fun m ρ _ => Cert.Kernel6Ideal.Gen.frame m ρ,
   Norm.frame_reference6,
   fun m ρ _ => Cert.Kernel7.Gen.frame m ρ,
   fun m ρ _ => Cert.Kernel7Ideal.Gen.frame m ρ,
   Norm.frame_reference7,
   fun m ρ _ => Cert.Kernel8.Gen.frame m ρ,
   fun m ρ _ => Cert.Kernel8Ideal.Gen.frame m ρ,
   Out.frame_reference8,
   fun m ρ _ => Cert.Kernel9.Gen.frame m ρ,
   fun m ρ _ => Cert.Kernel9Ideal.Gen.frame m ρ,
   Out.frame_reference9,
   fun m ρ _ => Cert.Kernel10.Gen.frame m ρ,
   fun m ρ _ => Cert.Kernel10Ideal.Gen.frame m ρ,
   Norm.frame_reference10,
   fun m ρ _ => Cert.Kernel11.Gen.frame m ρ,
   fun m ρ _ => Cert.Kernel11Ideal.Gen.frame m ρ,
   Norm.frame_reference11,
   fun m ρ _ => Cert.Kernel12.Gen.frame m ρ,
   fun m ρ _ => Cert.Kernel12Ideal.Gen.frame m ρ,
   Branch.frame_reference12,
   fun m ρ _ => Cert.Kernel13.Gen.frame m ρ,
   fun m ρ _ => Cert.Kernel13Ideal.Gen.frame m ρ,
   Branch.frame_reference13,
   fun m ρ _ => Cert.Kernel14.Gen.frame m ρ,
   fun m ρ _ => Cert.Kernel14Ideal.Gen.frame m ρ,
   GmB.frame_reference14,
   fun m ρ _ => Cert.Kernel15.Gen.frame m ρ,
   fun m ρ _ => Cert.Kernel15Ideal.Gen.frame m ρ,
   Branch.frame_reference15,
   fun m ρ _ => Cert.Kernel17.Gen.frame m ρ,
   fun m ρ _ => Cert.Kernel17Ideal.Gen.frame m ρ,
   Window.frame_reference17,
   fun m ρ _ => Cert.Kernel18.Gen.frame m ρ,
   fun m ρ _ => Cert.Kernel18Ideal.Gen.frame m ρ,
   Rest.frame_reference18,
   fun m ρ _ => Cert.Kernel19.Gen.frame m ρ,
   fun m ρ _ => Cert.Kernel19Ideal.Gen.frame m ρ,
   Rest.frame_reference19,
   fun m ρ _ => Cert.Kernel20.Gen.frame m ρ trivial,
   fun m ρ _ => Cert.Kernel20Ideal.Gen.frame m ρ trivial,
   Opt.frame_reference20,
   fun m ρ _ => Cert.Kernel21.Gen.frame m ρ trivial,
   fun m ρ _ => Cert.Kernel21Ideal.Gen.frame m ρ trivial,
   Opt.frame_reference21,
   fun m ρ _ => Cert.Kernel22.Gen.frame m ρ trivial,
   fun m ρ _ => Cert.Kernel22Ideal.Gen.frame m ρ trivial,
   Opt.frame_reference22,
   fun m ρ _ => Cert.Kernel23.Gen.frame m ρ trivial,
   fun m ρ _ => Cert.Kernel23Ideal.Gen.frame m ρ trivial,
   Opt.frame_reference23,
   trivial,
   Up.algebraic,
   trivial,
   InProj.algebraic2,
   trivial,
   InProj.algebraic3,
   trivial,
   InProj.algebraic4,
   trivial,
   Out.algebraic5,
   trivial,
   Norm.algebraic6,
   trivial,
   Norm.algebraic7,
   trivial,
   Out.algebraic8,
   trivial,
   Out.algebraic9,
   trivial,
   Norm.algebraic10,
   trivial,
   Norm.algebraic11,
   trivial,
   Branch.algebraic12,
   trivial,
   Branch.algebraic13,
   trivial,
   GmB.algebraic14,
   trivial,
   Branch.algebraic15,
   trivial,
   Window.algebraic17,
   trivial,
   Rest.algebraic18,
   trivial,
   Rest.algebraic19,
   trivial,
   Opt.algebraic20,
   trivial,
   Opt.algebraic21,
   trivial,
   Opt.algebraic22,
   trivial,
   Opt.algebraic23⟩

end Cert.Proof

end
